-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2RefIdeal (m : (ℓ : Loc Cert.DwFf2RefIdeal.nD Cert.DwFf2RefIdeal.τ Cert.DwFf2RefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2Bwd (m : (ℓ : Loc Cert.Ff2Bwd.nD Cert.Ff2Bwd.τ Cert.Ff2Bwd.sig) → Buf (Elt Bits) ℓ) : Prop :=
  True

def Pre_Ff2BwdIdeal (m : (ℓ : Loc Cert.Ff2BwdIdeal.nD Cert.Ff2BwdIdeal.τ Cert.Ff2BwdIdeal.sig) → Buf (Elt Ideal) ℓ) : Prop :=
  True

def Pre_Ff2BwdRefIdeal (m : (ℓ : Loc Cert.Ff2BwdRefIdeal.nD Cert.Ff2BwdRefIdeal.τ Cert.Ff2BwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdRefIdeal (m : (ℓ : Loc Cert.OutProjBwdRefIdeal.nD Cert.OutProjBwdRefIdeal.τ Cert.OutProjBwdRefIdeal.sig) → Buf (Elt Ideal) ℓ) : Prop :=
  True

def Pre_DSgu (m : (ℓ : Loc Cert.DSgu.nD Cert.DSgu.τ Cert.DSgu.sig) → Buf (Elt Bits) ℓ) : Prop :=
  True

def Pre_DSguIdeal (m : (ℓ : Loc Cert.DSguIdeal.nD Cert.DSguIdeal.τ Cert.DSguIdeal.sig) → Buf (Elt Ideal) ℓ) : Prop :=
  True

def Pre_DSguRefIdeal (m : (ℓ : Loc Cert.DSguRefIdeal.nD Cert.DSguRefIdeal.τ Cert.DSguRefIdeal.sig) → Buf (Elt Ideal) ℓ) : Prop :=
  True

def Pre_DwB (m : (ℓ : Loc Cert.DwB.nD Cert.DwB.τ Cert.DwB.sig) → Buf (Elt Bits) ℓ) : Prop :=
  True

def Pre_DwBIdeal (m : (ℓ : Loc Cert.DwBIdeal.nD Cert.DwBIdeal.τ Cert.DwBIdeal.sig) → Buf (Elt Ideal) ℓ) : Prop :=
  True

def Pre_DwBRefIdeal (m : (ℓ : Loc Cert.DwBRefIdeal.nD Cert.DwBRefIdeal.τ Cert.DwBRefIdeal.sig) → Buf (Elt Ideal) ℓ) : Prop :=
  True

def Pre_DyaPre (m : (ℓ : Loc Cert.DyaPre.nD Cert.DyaPre.τ Cert.DyaPre.sig) → Buf (Elt Bits) ℓ) : Prop :=
  True

def Pre_DyaPreIdeal (m : (ℓ : Loc Cert.DyaPreIdeal.nD Cert.DyaPreIdeal.τ Cert.DyaPreIdeal.sig) → Buf (Elt Ideal) ℓ) : Prop :=
  True

def Pre_DyaPreRefIdeal (m : (ℓ : Loc Cert.DyaPreRefIdeal.nD Cert.DyaPreRefIdeal.τ Cert.DyaPreRefIdeal.sig) → Buf (Elt Ideal) ℓ) : Prop :=
  True

def Pre_DwA (m : (ℓ : Loc Cert.DwA.nD Cert.DwA.τ Cert.DwA.sig) → Buf (Elt Bits) ℓ) : Prop :=
  True

def Pre_DwAIdeal (m : (ℓ : Loc Cert.DwAIdeal.nD Cert.DwAIdeal.τ Cert.DwAIdeal.sig) → Buf (Elt Ideal) ℓ) : Prop :=
  True

def Pre_DwARefIdeal (m : (ℓ : Loc Cert.DwARefIdeal.nD Cert.DwARefIdeal.τ Cert.DwARefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_DaFf1 (m : (ℓ : Loc Cert.DaFf1.nD Cert.DaFf1.τ Cert.DaFf1.sig) → Buf (Elt Bits) ℓ) : Prop :=
  True

def Pre_DaFf1Ideal (m : (ℓ : Loc Cert.DaFf1Ideal.nD Cert.DaFf1Ideal.τ Cert.DaFf1Ideal.sig) → Buf (Elt Ideal) ℓ) : Prop :=
  True

def Pre_DaFf1RefIdeal (m : (ℓ : Loc Cert.DaFf1RefIdeal.nD Cert.DaFf1RefIdeal.τ Cert.DaFf1RefIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1RefIdeal (m : (ℓ : Loc Cert.DwFf1RefIdeal.nD Cert.DwFf1RefIdeal.τ Cert.DwFf1RefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DaIn (m : (ℓ : Loc Cert.DaIn.nD Cert.DaIn.τ Cert.DaIn.sig) → Buf (Elt Bits) ℓ) : Prop :=
  True

def Pre_DaInIdeal (m : (ℓ : Loc Cert.DaInIdeal.nD Cert.DaInIdeal.τ Cert.DaInIdeal.sig) → Buf (Elt Ideal) ℓ) : Prop :=
  True

def Pre_DaInRefIdeal (m : (ℓ : Loc Cert.DaInRefIdeal.nD Cert.DaInRefIdeal.τ Cert.DaInRefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_ModMatmul (m : (ℓ : Loc Cert.ModMatmul.nD Cert.ModMatmul.τ Cert.ModMatmul.sig) → Buf (Elt Bits) ℓ) : Prop :=
  True

def Pre_ModMatmulIdeal (m : (ℓ : Loc Cert.ModMatmulIdeal.nD Cert.ModMatmulIdeal.τ Cert.ModMatmulIdeal.sig) → Buf (Elt Ideal) ℓ) : Prop :=
  True

def Pre_ModMatmulRefIdeal (m : (ℓ : Loc Cert.ModMatmulRefIdeal.nD Cert.ModMatmulRefIdeal.τ Cert.ModMatmulRefIdeal.sig) → Buf (Elt Ideal) ℓ) : Prop :=
  True

def Pre_WadaUpdate (m : (ℓ : Loc Cert.WadaUpdate.nD Cert.WadaUpdate.τ Cert.WadaUpdate.sig) → Buf (Elt Bits) ℓ) : Prop :=
  True

def Pre_WadaUpdateIdeal (m : (ℓ : Loc Cert.WadaUpdateIdeal.nD Cert.WadaUpdateIdeal.τ Cert.WadaUpdateIdeal.sig) → Buf (Elt Ideal) ℓ) : Prop :=
  True

def Pre_WadaUpdateRefIdeal (m : (ℓ : Loc Cert.WadaUpdateRefIdeal.nD Cert.WadaUpdateRefIdeal.τ Cert.WadaUpdateRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_MixNormBwd (m : (ℓ : Loc Cert.MixNormBwd.nD Cert.MixNormBwd.τ Cert.MixNormBwd.sig) → Buf (Elt Bits) ℓ) : Prop :=
  True

def Pre_MixNormBwdIdeal (m : (ℓ : Loc Cert.MixNormBwdIdeal.nD Cert.MixNormBwdIdeal.τ Cert.MixNormBwdIdeal.sig) → Buf (Elt Ideal) ℓ) : Prop :=
  True

def Pre_MixNormBwdRefIdeal (m : (ℓ : Loc Cert.MixNormBwdRefIdeal.nD Cert.MixNormBwdRefIdeal.τ Cert.MixNormBwdRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdRefIdeal (m : (ℓ : Loc Cert.LossBwdRefIdeal.nD Cert.LossBwdRefIdeal.τ Cert.LossBwdRefIdeal.sig) → Buf (Elt Ideal) ℓ) : Prop :=
  True

def Pre_FfnNormBwd (m : (ℓ : Loc Cert.FfnNormBwd.nD Cert.FfnNormBwd.τ Cert.FfnNormBwd.sig) → Buf (Elt Bits) ℓ) : Prop :=
  True

def Pre_FfnNormBwdIdeal (m : (ℓ : Loc Cert.FfnNormBwdIdeal.nD Cert.FfnNormBwdIdeal.τ Cert.FfnNormBwdIdeal.sig) → Buf (Elt Ideal) ℓ) : Prop :=
  True

def Pre_FfnNormBwdRefIdeal (m : (ℓ : Loc Cert.FfnNormBwdRefIdeal.nD Cert.FfnNormBwdRefIdeal.τ Cert.FfnNormBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ r.2.sem = fun _ => 0)

def quiescent_DwFf2RefIdeal [hDwFf2RefIdeal : Cert.DwFf2RefIdeal.Facts] : Prop :=
  ∀ (m : (ℓ : Loc Cert.DwFf2RefIdeal.nD Cert.DwFf2RefIdeal.τ Cert.DwFf2RefIdeal.sig) → Buf (Elt Ideal) ℓ) (g : Dev Cert.DwFf2RefIdeal.nD → PrngReg), Pre_DwFf2RefIdeal m →
    θ_run (Cert.DwFf2RefIdeal.defs (F := Ideal)) (onTc (τ := Cert.DwFf2RefIdeal.τ) (Cert.DwFf2RefIdeal.main (F := Ideal))) ⟨m, fun _ => 0, g⟩ (fun r => (∀ c : Dev Cert.DwFf2RefIdeal.nD,
      r.2.mem ((c.tc : Thread Cert.DwFf2RefIdeal.nD Cert.DwFf2RefIdeal.τ).loc Cert.DwFf2RefIdeal.main_arg0) = m ((c.tc : Thread Cert.DwFf2RefIdeal.nD Cert.DwFf2RefIdeal.τ).loc Cert.DwFf2RefIdeal.main_arg0)
      ∧ r.2.mem ((c.tc : Thread Cert.DwFf2RefIdeal.nD Cert.DwFf2RefIdeal.τ).loc Cert.DwFf2RefIdeal.main_arg1) = m ((c.tc : Thread Cert.DwFf2RefIdeal.nD Cert.DwFf2RefIdeal.τ).loc Cert.DwFf2RefIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2Bwd [hFf2Bwd : Cert.Ff2Bwd.Facts] : Prop :=
  ∀ (m : (ℓ : Loc Cert.Ff2Bwd.nD Cert.Ff2Bwd.τ Cert.Ff2Bwd.sig) → Buf (Elt Bits) ℓ) (g : Dev Cert.Ff2Bwd.nD → PrngReg), Pre_Ff2Bwd m →
    θ_run (Cert.Ff2Bwd.defs (F := Bits)) (onTc (τ := Cert.Ff2Bwd.τ) (Cert.Ff2Bwd.main (F := Bits))) ⟨m, fun _ => 0, g⟩ (fun r => (∀ c : Dev Cert.Ff2Bwd.nD,
      r.2.mem ((c.tc : Thread Cert.Ff2Bwd.nD Cert.Ff2Bwd.τ).loc Cert.Ff2Bwd.main_arg0) = m ((c.tc : Thread Cert.Ff2Bwd.nD Cert.Ff2Bwd.τ).loc Cert.Ff2Bwd.main_arg0)
      ∧ r.2.mem ((c.tc : Thread Cert.Ff2Bwd.nD Cert.Ff2Bwd.τ).loc Cert.Ff2Bwd.main_arg1) = m ((c.tc : Thread Cert.Ff2Bwd.nD Cert.Ff2Bwd.τ).loc Cert.Ff2Bwd.main_arg1)
      ∧ r.2.mem ((c.tc : Thread Cert.Ff2Bwd.nD Cert.Ff2Bwd.τ).loc Cert.Ff2Bwd.main_arg2) = m ((c.tc : Thread Cert.Ff2Bwd.nD Cert.Ff2Bwd.τ).loc Cert.Ff2Bwd.main_arg2))
      ∧ r.2.sem = fun _ => 0)

def quiescent_Ff2BwdIdeal [hFf2BwdIdeal : Cert.Ff2BwdIdeal.Facts] : Prop :=
  ∀ (m : (ℓ : Loc Cert.Ff2BwdIdeal.nD Cert.Ff2BwdIdeal.τ Cert.Ff2BwdIdeal.sig) → Buf (Elt Ideal) ℓ) (g : Dev Cert.Ff2BwdIdeal.nD → PrngReg), Pre_Ff2BwdIdeal m →
    θ_run (Cert.Ff2BwdIdeal.defs (F := Ideal)) (onTc (τ := Cert.Ff2BwdIdeal.τ) (Cert.Ff2BwdIdeal.main (F := Ideal))) ⟨m, fun _ => 0, g⟩ (fun r => (∀ c : Dev Cert.Ff2BwdIdeal.nD,
      r.2.mem ((c.tc : Thread Cert.Ff2BwdIdeal.nD Cert.Ff2BwdIdeal.τ).loc Cert.Ff2BwdIdeal.main_arg0) = m ((c.tc : Thread Cert.Ff2BwdIdeal.nD Cert.Ff2BwdIdeal.τ).loc Cert.Ff2BwdIdeal.main_arg0)
      ∧ r.2.mem ((c.tc : Thread Cert.Ff2BwdIdeal.nD Cert.Ff2BwdIdeal.τ).loc Cert.Ff2BwdIdeal.main_arg1) = m ((c.tc : Thread Cert.Ff2BwdIdeal.nD Cert.Ff2BwdIdeal.τ).loc Cert.Ff2BwdIdeal.main_arg1)
      ∧ r.2.mem ((c.tc : Thread Cert.Ff2BwdIdeal.nD Cert.Ff2BwdIdeal.τ).loc Cert.Ff2BwdIdeal.main_arg2) = m ((c.tc : Thread Cert.Ff2BwdIdeal.nD Cert.Ff2BwdIdeal.τ).loc Cert.Ff2BwdIdeal.main_arg2))
      ∧ r.2.sem = fun _ => 0)

def quiescent_Ff2BwdRefIdeal [hFf2BwdRefIdeal : Cert.Ff2BwdRefIdeal.Facts] : Prop :=
  ∀ (m : (ℓ : Loc Cert.Ff2BwdRefIdeal.nD Cert.Ff2BwdRefIdeal.τ Cert.Ff2BwdRefIdeal.sig) → Buf (Elt Ideal) ℓ) (g : Dev Cert.Ff2BwdRefIdeal.nD → PrngReg), Pre_Ff2BwdRefIdeal m →
    θ_run (Cert.Ff2BwdRefIdeal.defs (F := Ideal)) (onTc (τ := Cert.Ff2BwdRefIdeal.τ) (Cert.Ff2BwdRefIdeal.main (F := Ideal))) ⟨m, fun _ => 0, g⟩ (fun r => (∀ c : Dev Cert.Ff2BwdRefIdeal.nD,
      r.2.mem ((c.tc : Thread Cert.Ff2BwdRefIdeal.nD Cert.Ff2BwdRefIdeal.τ).loc Cert.Ff2BwdRefIdeal.main_arg0) = m ((c.tc : Thread Cert.Ff2BwdRefIdeal.nD Cert.Ff2BwdRefIdeal.τ).loc Cert.Ff2BwdRefIdeal.main_arg0)
      ∧ r.2.mem ((c.tc : Thread Cert.Ff2BwdRefIdeal.nD Cert.Ff2BwdRefIdeal.τ).loc Cert.Ff2BwdRefIdeal.main_arg1) = m ((c.tc : Thread Cert.Ff2BwdRefIdeal.nD Cert.Ff2BwdRefIdeal.τ).loc Cert.Ff2BwdRefIdeal.main_arg1)
      ∧ r.2.mem ((c.tc : Thread Cert.Ff2BwdRefIdeal.nD Cert.Ff2BwdRefIdeal.τ).loc Cert.Ff2BwdRefIdeal.main_arg2) = m ((c.tc : Thread Cert.Ff2BwdRefIdeal.nD Cert.Ff2BwdRefIdeal.τ).loc Cert.Ff2BwdRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1)
      ∧ r.2.mem ((c.tc : Thread Cert.OutProjBwd.nD Cert.OutProjBwd.τ).loc Cert.OutProjBwd.main_arg2) = m ((c.tc : Thread Cert.OutProjBwd.nD Cert.OutProjBwd.τ).loc Cert.OutProjBwd.main_arg2)
      ∧ r.2.mem ((c.tc : Thread Cert.OutProjBwd.nD Cert.OutProjBwd.τ).loc Cert.OutProjBwd.main_arg3) = m ((c.tc : Thread Cert.OutProjBwd.nD Cert.OutProjBwd.τ).loc Cert.OutProjBwd.main_arg3)
      ∧ r.2.mem ((c.tc : Thread Cert.OutProjBwd.nD Cert.OutProjBwd.τ).loc Cert.OutProjBwd.main_arg4) = m ((c.tc : Thread Cert.OutProjBwd.nD Cert.OutProjBwd.τ).loc Cert.OutProjBwd.main_arg4))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
      ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
      ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
      ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4))
      ∧ r.2.sem = fun _ => 0)

def quiescent_OutProjBwdRefIdeal [hOutProjBwdRefIdeal : Cert.OutProjBwdRefIdeal.Facts] : Prop :=
  ∀ (m : (ℓ : Loc Cert.OutProjBwdRefIdeal.nD Cert.OutProjBwdRefIdeal.τ Cert.OutProjBwdRefIdeal.sig) → Buf (Elt Ideal) ℓ) (g : Dev Cert.OutProjBwdRefIdeal.nD → PrngReg), Pre_OutProjBwdRefIdeal m →
    θ_run (Cert.OutProjBwdRefIdeal.defs (F := Ideal)) (onTc (τ := Cert.OutProjBwdRefIdeal.τ) (Cert.OutProjBwdRefIdeal.main (F := Ideal))) ⟨m, fun _ => 0, g⟩ (fun r => (∀ c : Dev Cert.OutProjBwdRefIdeal.nD,
      r.2.mem ((c.tc : Thread Cert.OutProjBwdRefIdeal.nD Cert.OutProjBwdRefIdeal.τ).loc Cert.OutProjBwdRefIdeal.main_arg0) = m ((c.tc : Thread Cert.OutProjBwdRefIdeal.nD Cert.OutProjBwdRefIdeal.τ).loc Cert.OutProjBwdRefIdeal.main_arg0)
      ∧ r.2.mem ((c.tc : Thread Cert.OutProjBwdRefIdeal.nD Cert.OutProjBwdRefIdeal.τ).loc Cert.OutProjBwdRefIdeal.main_arg1) = m ((c.tc : Thread Cert.OutProjBwdRefIdeal.nD Cert.OutProjBwdRefIdeal.τ).loc Cert.OutProjBwdRefIdeal.main_arg1)
      ∧ r.2.mem ((c.tc : Thread Cert.OutProjBwdRefIdeal.nD Cert.OutProjBwdRefIdeal.τ).loc Cert.OutProjBwdRefIdeal.main_arg2) = m ((c.tc : Thread Cert.OutProjBwdRefIdeal.nD Cert.OutProjBwdRefIdeal.τ).loc Cert.OutProjBwdRefIdeal.main_arg2)
      ∧ r.2.mem ((c.tc : Thread Cert.OutProjBwdRefIdeal.nD Cert.OutProjBwdRefIdeal.τ).loc Cert.OutProjBwdRefIdeal.main_arg3) = m ((c.tc : Thread Cert.OutProjBwdRefIdeal.nD Cert.OutProjBwdRefIdeal.τ).loc Cert.OutProjBwdRefIdeal.main_arg3)
      ∧ r.2.mem ((c.tc : Thread Cert.OutProjBwdRefIdeal.nD Cert.OutProjBwdRefIdeal.τ).loc Cert.OutProjBwdRefIdeal.main_arg4) = m ((c.tc : Thread Cert.OutProjBwdRefIdeal.nD Cert.OutProjBwdRefIdeal.τ).loc Cert.OutProjBwdRefIdeal.main_arg4))
      ∧ r.2.sem = fun _ => 0)

def quiescent_DSgu [hDSgu : Cert.DSgu.Facts] : Prop :=
  ∀ (m : (ℓ : Loc Cert.DSgu.nD Cert.DSgu.τ Cert.DSgu.sig) → Buf (Elt Bits) ℓ) (g : Dev Cert.DSgu.nD → PrngReg), Pre_DSgu m →
    θ_run (Cert.DSgu.defs (F := Bits)) (onTc (τ := Cert.DSgu.τ) (Cert.DSgu.main (F := Bits))) ⟨m, fun _ => 0, g⟩ (fun r => (∀ c : Dev Cert.DSgu.nD,
      r.2.mem ((c.tc : Thread Cert.DSgu.nD Cert.DSgu.τ).loc Cert.DSgu.main_arg0) = m ((c.tc : Thread Cert.DSgu.nD Cert.DSgu.τ).loc Cert.DSgu.main_arg0)
      ∧ r.2.mem ((c.tc : Thread Cert.DSgu.nD Cert.DSgu.τ).loc Cert.DSgu.main_arg1) = m ((c.tc : Thread Cert.DSgu.nD Cert.DSgu.τ).loc Cert.DSgu.main_arg1))
      ∧ r.2.sem = fun _ => 0)

def quiescent_DSguIdeal [hDSguIdeal : Cert.DSguIdeal.Facts] : Prop :=
  ∀ (m : (ℓ : Loc Cert.DSguIdeal.nD Cert.DSguIdeal.τ Cert.DSguIdeal.sig) → Buf (Elt Ideal) ℓ) (g : Dev Cert.DSguIdeal.nD → PrngReg), Pre_DSguIdeal m →
    θ_run (Cert.DSguIdeal.defs (F := Ideal)) (onTc (τ := Cert.DSguIdeal.τ) (Cert.DSguIdeal.main (F := Ideal))) ⟨m, fun _ => 0, g⟩ (fun r => (∀ c : Dev Cert.DSguIdeal.nD,
      r.2.mem ((c.tc : Thread Cert.DSguIdeal.nD Cert.DSguIdeal.τ).loc Cert.DSguIdeal.main_arg0) = m ((c.tc : Thread Cert.DSguIdeal.nD Cert.DSguIdeal.τ).loc Cert.DSguIdeal.main_arg0)
      ∧ r.2.mem ((c.tc : Thread Cert.DSguIdeal.nD Cert.DSguIdeal.τ).loc Cert.DSguIdeal.main_arg1) = m ((c.tc : Thread Cert.DSguIdeal.nD Cert.DSguIdeal.τ).loc Cert.DSguIdeal.main_arg1))
      ∧ r.2.sem = fun _ => 0)

def quiescent_DSguRefIdeal [hDSguRefIdeal : Cert.DSguRefIdeal.Facts] : Prop :=
  ∀ (m : (ℓ : Loc Cert.DSguRefIdeal.nD Cert.DSguRefIdeal.τ Cert.DSguRefIdeal.sig) → Buf (Elt Ideal) ℓ) (g : Dev Cert.DSguRefIdeal.nD → PrngReg), Pre_DSguRefIdeal m →
    θ_run (Cert.DSguRefIdeal.defs (F := Ideal)) (onTc (τ := Cert.DSguRefIdeal.τ) (Cert.DSguRefIdeal.main (F := Ideal))) ⟨m, fun _ => 0, g⟩ (fun r => (∀ c : Dev Cert.DSguRefIdeal.nD,
      r.2.mem ((c.tc : Thread Cert.DSguRefIdeal.nD Cert.DSguRefIdeal.τ).loc Cert.DSguRefIdeal.main_arg0) = m ((c.tc : Thread Cert.DSguRefIdeal.nD Cert.DSguRefIdeal.τ).loc Cert.DSguRefIdeal.main_arg0)
      ∧ r.2.mem ((c.tc : Thread Cert.DSguRefIdeal.nD Cert.DSguRefIdeal.τ).loc Cert.DSguRefIdeal.main_arg1) = m ((c.tc : Thread Cert.DSguRefIdeal.nD Cert.DSguRefIdeal.τ).loc Cert.DSguRefIdeal.main_arg1))
      ∧ r.2.sem = fun _ => 0)

def quiescent_DwB [hDwB : Cert.DwB.Facts] : Prop :=
  ∀ (m : (ℓ : Loc Cert.DwB.nD Cert.DwB.τ Cert.DwB.sig) → Buf (Elt Bits) ℓ) (g : Dev Cert.DwB.nD → PrngReg), Pre_DwB m →
    θ_run (Cert.DwB.defs (F := Bits)) (onTc (τ := Cert.DwB.τ) (Cert.DwB.main (F := Bits))) ⟨m, fun _ => 0, g⟩ (fun r => (∀ c : Dev Cert.DwB.nD,
      r.2.mem ((c.tc : Thread Cert.DwB.nD Cert.DwB.τ).loc Cert.DwB.main_arg0) = m ((c.tc : Thread Cert.DwB.nD Cert.DwB.τ).loc Cert.DwB.main_arg0)
      ∧ r.2.mem ((c.tc : Thread Cert.DwB.nD Cert.DwB.τ).loc Cert.DwB.main_arg1) = m ((c.tc : Thread Cert.DwB.nD Cert.DwB.τ).loc Cert.DwB.main_arg1))
      ∧ r.2.sem = fun _ => 0)

def quiescent_DwBIdeal [hDwBIdeal : Cert.DwBIdeal.Facts] : Prop :=
  ∀ (m : (ℓ : Loc Cert.DwBIdeal.nD Cert.DwBIdeal.τ Cert.DwBIdeal.sig) → Buf (Elt Ideal) ℓ) (g : Dev Cert.DwBIdeal.nD → PrngReg), Pre_DwBIdeal m →
    θ_run (Cert.DwBIdeal.defs (F := Ideal)) (onTc (τ := Cert.DwBIdeal.τ) (Cert.DwBIdeal.main (F := Ideal))) ⟨m, fun _ => 0, g⟩ (fun r => (∀ c : Dev Cert.DwBIdeal.nD,
      r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
      ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ r.2.sem = fun _ => 0)

def quiescent_DwBRefIdeal [hDwBRefIdeal : Cert.DwBRefIdeal.Facts] : Prop :=
  ∀ (m : (ℓ : Loc Cert.DwBRefIdeal.nD Cert.DwBRefIdeal.τ Cert.DwBRefIdeal.sig) → Buf (Elt Ideal) ℓ) (g : Dev Cert.DwBRefIdeal.nD → PrngReg), Pre_DwBRefIdeal m →
    θ_run (Cert.DwBRefIdeal.defs (F := Ideal)) (onTc (τ := Cert.DwBRefIdeal.τ) (Cert.DwBRefIdeal.main (F := Ideal))) ⟨m, fun _ => 0, g⟩ (fun r => (∀ c : Dev Cert.DwBRefIdeal.nD,
      r.2.mem ((c.tc : Thread Cert.DwBRefIdeal.nD Cert.DwBRefIdeal.τ).loc Cert.DwBRefIdeal.main_arg0) = m ((c.tc : Thread Cert.DwBRefIdeal.nD Cert.DwBRefIdeal.τ).loc Cert.DwBRefIdeal.main_arg0)
      ∧ r.2.mem ((c.tc : Thread Cert.DwBRefIdeal.nD Cert.DwBRefIdeal.τ).loc Cert.DwBRefIdeal.main_arg1) = m ((c.tc : Thread Cert.DwBRefIdeal.nD Cert.DwBRefIdeal.τ).loc Cert.DwBRefIdeal.main_arg1))
      ∧ r.2.sem = fun _ => 0)

def quiescent_DyaPre [hDyaPre : Cert.DyaPre.Facts] : Prop :=
  ∀ (m : (ℓ : Loc Cert.DyaPre.nD Cert.DyaPre.τ Cert.DyaPre.sig) → Buf (Elt Bits) ℓ) (g : Dev Cert.DyaPre.nD → PrngReg), Pre_DyaPre m →
    θ_run (Cert.DyaPre.defs (F := Bits)) (onTc (τ := Cert.DyaPre.τ) (Cert.DyaPre.main (F := Bits))) ⟨m, fun _ => 0, g⟩ (fun r => (∀ c : Dev Cert.DyaPre.nD,
      r.2.mem ((c.tc : Thread Cert.DyaPre.nD Cert.DyaPre.τ).loc Cert.DyaPre.main_arg0) = m ((c.tc : Thread Cert.DyaPre.nD Cert.DyaPre.τ).loc Cert.DyaPre.main_arg0)
      ∧ r.2.mem ((c.tc : Thread Cert.DyaPre.nD Cert.DyaPre.τ).loc Cert.DyaPre.main_arg1) = m ((c.tc : Thread Cert.DyaPre.nD Cert.DyaPre.τ).loc Cert.DyaPre.main_arg1))
      ∧ r.2.sem = fun _ => 0)

def quiescent_DyaPreIdeal [hDyaPreIdeal : Cert.DyaPreIdeal.Facts] : Prop :=
  ∀ (m : (ℓ : Loc Cert.DyaPreIdeal.nD Cert.DyaPreIdeal.τ Cert.DyaPreIdeal.sig) → Buf (Elt Ideal) ℓ) (g : Dev Cert.DyaPreIdeal.nD → PrngReg), Pre_DyaPreIdeal m →
    θ_run (Cert.DyaPreIdeal.defs (F := Ideal)) (onTc (τ := Cert.DyaPreIdeal.τ) (Cert.DyaPreIdeal.main (F := Ideal))) ⟨m, fun _ => 0, g⟩ (fun r => (∀ c : Dev Cert.DyaPreIdeal.nD,
      r.2.mem ((c.tc : Thread Cert.DyaPreIdeal.nD Cert.DyaPreIdeal.τ).loc Cert.DyaPreIdeal.main_arg0) = m ((c.tc : Thread Cert.DyaPreIdeal.nD Cert.DyaPreIdeal.τ).loc Cert.DyaPreIdeal.main_arg0)
      ∧ r.2.mem ((c.tc : Thread Cert.DyaPreIdeal.nD Cert.DyaPreIdeal.τ).loc Cert.DyaPreIdeal.main_arg1) = m ((c.tc : Thread Cert.DyaPreIdeal.nD Cert.DyaPreIdeal.τ).loc Cert.DyaPreIdeal.main_arg1))
      ∧ r.2.sem = fun _ => 0)

def quiescent_DyaPreRefIdeal [hDyaPreRefIdeal : Cert.DyaPreRefIdeal.Facts] : Prop :=
  ∀ (m : (ℓ : Loc Cert.DyaPreRefIdeal.nD Cert.DyaPreRefIdeal.τ Cert.DyaPreRefIdeal.sig) → Buf (Elt Ideal) ℓ) (g : Dev Cert.DyaPreRefIdeal.nD → PrngReg), Pre_DyaPreRefIdeal m →
    θ_run (Cert.DyaPreRefIdeal.defs (F := Ideal)) (onTc (τ := Cert.DyaPreRefIdeal.τ) (Cert.DyaPreRefIdeal.main (F := Ideal))) ⟨m, fun _ => 0, g⟩ (fun r => (∀ c : Dev Cert.DyaPreRefIdeal.nD,
      r.2.mem ((c.tc : Thread Cert.DyaPreRefIdeal.nD Cert.DyaPreRefIdeal.τ).loc Cert.DyaPreRefIdeal.main_arg0) = m ((c.tc : Thread Cert.DyaPreRefIdeal.nD Cert.DyaPreRefIdeal.τ).loc Cert.DyaPreRefIdeal.main_arg0)
      ∧ r.2.mem ((c.tc : Thread Cert.DyaPreRefIdeal.nD Cert.DyaPreRefIdeal.τ).loc Cert.DyaPreRefIdeal.main_arg1) = m ((c.tc : Thread Cert.DyaPreRefIdeal.nD Cert.DyaPreRefIdeal.τ).loc Cert.DyaPreRefIdeal.main_arg1))
      ∧ r.2.sem = fun _ => 0)

def quiescent_DwA [hDwA : Cert.DwA.Facts] : Prop :=
  ∀ (m : (ℓ : Loc Cert.DwA.nD Cert.DwA.τ Cert.DwA.sig) → Buf (Elt Bits) ℓ) (g : Dev Cert.DwA.nD → PrngReg), Pre_DwA m →
    θ_run (Cert.DwA.defs (F := Bits)) (onTc (τ := Cert.DwA.τ) (Cert.DwA.main (F := Bits))) ⟨m, fun _ => 0, g⟩ (fun r => (∀ c : Dev Cert.DwA.nD,
      r.2.mem ((c.tc : Thread Cert.DwA.nD Cert.DwA.τ).loc Cert.DwA.main_arg0) = m ((c.tc : Thread Cert.DwA.nD Cert.DwA.τ).loc Cert.DwA.main_arg0)
      ∧ r.2.mem ((c.tc : Thread Cert.DwA.nD Cert.DwA.τ).loc Cert.DwA.main_arg1) = m ((c.tc : Thread Cert.DwA.nD Cert.DwA.τ).loc Cert.DwA.main_arg1))
      ∧ r.2.sem = fun _ => 0)

def quiescent_DwAIdeal [hDwAIdeal : Cert.DwAIdeal.Facts] : Prop :=
  ∀ (m : (ℓ : Loc Cert.DwAIdeal.nD Cert.DwAIdeal.τ Cert.DwAIdeal.sig) → Buf (Elt Ideal) ℓ) (g : Dev Cert.DwAIdeal.nD → PrngReg), Pre_DwAIdeal m →
    θ_run (Cert.DwAIdeal.defs (F := Ideal)) (onTc (τ := Cert.DwAIdeal.τ) (Cert.DwAIdeal.main (F := Ideal))) ⟨m, fun _ => 0, g⟩ (fun r => (∀ c : Dev Cert.DwAIdeal.nD,
      r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
      ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ r.2.sem = fun _ => 0)

def quiescent_DwARefIdeal [hDwARefIdeal : Cert.DwARefIdeal.Facts] : Prop :=
  ∀ (m : (ℓ : Loc Cert.DwARefIdeal.nD Cert.DwARefIdeal.τ Cert.DwARefIdeal.sig) → Buf (Elt Ideal) ℓ) (g : Dev Cert.DwARefIdeal.nD → PrngReg), Pre_DwARefIdeal m →
    θ_run (Cert.DwARefIdeal.defs (F := Ideal)) (onTc (τ := Cert.DwARefIdeal.τ) (Cert.DwARefIdeal.main (F := Ideal))) ⟨m, fun _ => 0, g⟩ (fun r => (∀ c : Dev Cert.DwARefIdeal.nD,
      r.2.mem ((c.tc : Thread Cert.DwARefIdeal.nD Cert.DwARefIdeal.τ).loc Cert.DwARefIdeal.main_arg0) = m ((c.tc : Thread Cert.DwARefIdeal.nD Cert.DwARefIdeal.τ).loc Cert.DwARefIdeal.main_arg0)
      ∧ r.2.mem ((c.tc : Thread Cert.DwARefIdeal.nD Cert.DwARefIdeal.τ).loc Cert.DwARefIdeal.main_arg1) = m ((c.tc : Thread Cert.DwARefIdeal.nD Cert.DwARefIdeal.τ).loc Cert.DwARefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_DaFf1 [hDaFf1 : Cert.DaFf1.Facts] : Prop :=
  ∀ (m : (ℓ : Loc Cert.DaFf1.nD Cert.DaFf1.τ Cert.DaFf1.sig) → Buf (Elt Bits) ℓ) (g : Dev Cert.DaFf1.nD → PrngReg), Pre_DaFf1 m →
    θ_run (Cert.DaFf1.defs (F := Bits)) (onTc (τ := Cert.DaFf1.τ) (Cert.DaFf1.main (F := Bits))) ⟨m, fun _ => 0, g⟩ (fun r => (∀ c : Dev Cert.DaFf1.nD,
      r.2.mem ((c.tc : Thread Cert.DaFf1.nD Cert.DaFf1.τ).loc Cert.DaFf1.main_arg0) = m ((c.tc : Thread Cert.DaFf1.nD Cert.DaFf1.τ).loc Cert.DaFf1.main_arg0)
      ∧ r.2.mem ((c.tc : Thread Cert.DaFf1.nD Cert.DaFf1.τ).loc Cert.DaFf1.main_arg1) = m ((c.tc : Thread Cert.DaFf1.nD Cert.DaFf1.τ).loc Cert.DaFf1.main_arg1))
      ∧ r.2.sem = fun _ => 0)

def quiescent_DaFf1Ideal [hDaFf1Ideal : Cert.DaFf1Ideal.Facts] : Prop :=
  ∀ (m : (ℓ : Loc Cert.DaFf1Ideal.nD Cert.DaFf1Ideal.τ Cert.DaFf1Ideal.sig) → Buf (Elt Ideal) ℓ) (g : Dev Cert.DaFf1Ideal.nD → PrngReg), Pre_DaFf1Ideal m →
    θ_run (Cert.DaFf1Ideal.defs (F := Ideal)) (onTc (τ := Cert.DaFf1Ideal.τ) (Cert.DaFf1Ideal.main (F := Ideal))) ⟨m, fun _ => 0, g⟩ (fun r => (∀ c : Dev Cert.DaFf1Ideal.nD,
      r.2.mem ((c.tc : Thread Cert.DaFf1Ideal.nD Cert.DaFf1Ideal.τ).loc Cert.DaFf1Ideal.main_arg0) = m ((c.tc : Thread Cert.DaFf1Ideal.nD Cert.DaFf1Ideal.τ).loc Cert.DaFf1Ideal.main_arg0)
      ∧ r.2.mem ((c.tc : Thread Cert.DaFf1Ideal.nD Cert.DaFf1Ideal.τ).loc Cert.DaFf1Ideal.main_arg1) = m ((c.tc : Thread Cert.DaFf1Ideal.nD Cert.DaFf1Ideal.τ).loc Cert.DaFf1Ideal.main_arg1))
      ∧ r.2.sem = fun _ => 0)

def quiescent_DaFf1RefIdeal [hDaFf1RefIdeal : Cert.DaFf1RefIdeal.Facts] : Prop :=
  ∀ (m : (ℓ : Loc Cert.DaFf1RefIdeal.nD Cert.DaFf1RefIdeal.τ Cert.DaFf1RefIdeal.sig) → Buf (Elt Ideal) ℓ) (g : Dev Cert.DaFf1RefIdeal.nD → PrngReg), Pre_DaFf1RefIdeal m →
    θ_run (Cert.DaFf1RefIdeal.defs (F := Ideal)) (onTc (τ := Cert.DaFf1RefIdeal.τ) (Cert.DaFf1RefIdeal.main (F := Ideal))) ⟨m, fun _ => 0, g⟩ (fun r => (∀ c : Dev Cert.DaFf1RefIdeal.nD,
      r.2.mem ((c.tc : Thread Cert.DaFf1RefIdeal.nD Cert.DaFf1RefIdeal.τ).loc Cert.DaFf1RefIdeal.main_arg0) = m ((c.tc : Thread Cert.DaFf1RefIdeal.nD Cert.DaFf1RefIdeal.τ).loc Cert.DaFf1RefIdeal.main_arg0)
      ∧ r.2.mem ((c.tc : Thread Cert.DaFf1RefIdeal.nD Cert.DaFf1RefIdeal.τ).loc Cert.DaFf1RefIdeal.main_arg1) = m ((c.tc : Thread Cert.DaFf1RefIdeal.nD Cert.DaFf1RefIdeal.τ).loc Cert.DaFf1RefIdeal.main_arg1))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ r.2.sem = fun _ => 0)

def quiescent_DwFf1RefIdeal [hDwFf1RefIdeal : Cert.DwFf1RefIdeal.Facts] : Prop :=
  ∀ (m : (ℓ : Loc Cert.DwFf1RefIdeal.nD Cert.DwFf1RefIdeal.τ Cert.DwFf1RefIdeal.sig) → Buf (Elt Ideal) ℓ) (g : Dev Cert.DwFf1RefIdeal.nD → PrngReg), Pre_DwFf1RefIdeal m →
    θ_run (Cert.DwFf1RefIdeal.defs (F := Ideal)) (onTc (τ := Cert.DwFf1RefIdeal.τ) (Cert.DwFf1RefIdeal.main (F := Ideal))) ⟨m, fun _ => 0, g⟩ (fun r => (∀ c : Dev Cert.DwFf1RefIdeal.nD,
      r.2.mem ((c.tc : Thread Cert.DwFf1RefIdeal.nD Cert.DwFf1RefIdeal.τ).loc Cert.DwFf1RefIdeal.main_arg0) = m ((c.tc : Thread Cert.DwFf1RefIdeal.nD Cert.DwFf1RefIdeal.τ).loc Cert.DwFf1RefIdeal.main_arg0)
      ∧ r.2.mem ((c.tc : Thread Cert.DwFf1RefIdeal.nD Cert.DwFf1RefIdeal.τ).loc Cert.DwFf1RefIdeal.main_arg1) = m ((c.tc : Thread Cert.DwFf1RefIdeal.nD Cert.DwFf1RefIdeal.τ).loc Cert.DwFf1RefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DaIn [hDaIn : Cert.DaIn.Facts] : Prop :=
  ∀ (m : (ℓ : Loc Cert.DaIn.nD Cert.DaIn.τ Cert.DaIn.sig) → Buf (Elt Bits) ℓ) (g : Dev Cert.DaIn.nD → PrngReg), Pre_DaIn m →
    θ_run (Cert.DaIn.defs (F := Bits)) (onTc (τ := Cert.DaIn.τ) (Cert.DaIn.main (F := Bits))) ⟨m, fun _ => 0, g⟩ (fun r => (∀ c : Dev Cert.DaIn.nD,
      r.2.mem ((c.tc : Thread Cert.DaIn.nD Cert.DaIn.τ).loc Cert.DaIn.main_arg0) = m ((c.tc : Thread Cert.DaIn.nD Cert.DaIn.τ).loc Cert.DaIn.main_arg0)
      ∧ r.2.mem ((c.tc : Thread Cert.DaIn.nD Cert.DaIn.τ).loc Cert.DaIn.main_arg1) = m ((c.tc : Thread Cert.DaIn.nD Cert.DaIn.τ).loc Cert.DaIn.main_arg1))
      ∧ r.2.sem = fun _ => 0)

def quiescent_DaInIdeal [hDaInIdeal : Cert.DaInIdeal.Facts] : Prop :=
  ∀ (m : (ℓ : Loc Cert.DaInIdeal.nD Cert.DaInIdeal.τ Cert.DaInIdeal.sig) → Buf (Elt Ideal) ℓ) (g : Dev Cert.DaInIdeal.nD → PrngReg), Pre_DaInIdeal m →
    θ_run (Cert.DaInIdeal.defs (F := Ideal)) (onTc (τ := Cert.DaInIdeal.τ) (Cert.DaInIdeal.main (F := Ideal))) ⟨m, fun _ => 0, g⟩ (fun r => (∀ c : Dev Cert.DaInIdeal.nD,
      r.2.mem ((c.tc : Thread Cert.DaInIdeal.nD Cert.DaInIdeal.τ).loc Cert.DaInIdeal.main_arg0) = m ((c.tc : Thread Cert.DaInIdeal.nD Cert.DaInIdeal.τ).loc Cert.DaInIdeal.main_arg0)
      ∧ r.2.mem ((c.tc : Thread Cert.DaInIdeal.nD Cert.DaInIdeal.τ).loc Cert.DaInIdeal.main_arg1) = m ((c.tc : Thread Cert.DaInIdeal.nD Cert.DaInIdeal.τ).loc Cert.DaInIdeal.main_arg1))
      ∧ r.2.sem = fun _ => 0)

def quiescent_DaInRefIdeal [hDaInRefIdeal : Cert.DaInRefIdeal.Facts] : Prop :=
  ∀ (m : (ℓ : Loc Cert.DaInRefIdeal.nD Cert.DaInRefIdeal.τ Cert.DaInRefIdeal.sig) → Buf (Elt Ideal) ℓ) (g : Dev Cert.DaInRefIdeal.nD → PrngReg), Pre_DaInRefIdeal m →
    θ_run (Cert.DaInRefIdeal.defs (F := Ideal)) (onTc (τ := Cert.DaInRefIdeal.τ) (Cert.DaInRefIdeal.main (F := Ideal))) ⟨m, fun _ => 0, g⟩ (fun r => (∀ c : Dev Cert.DaInRefIdeal.nD,
      r.2.mem ((c.tc : Thread Cert.DaInRefIdeal.nD Cert.DaInRefIdeal.τ).loc Cert.DaInRefIdeal.main_arg0) = m ((c.tc : Thread Cert.DaInRefIdeal.nD Cert.DaInRefIdeal.τ).loc Cert.DaInRefIdeal.main_arg0)
      ∧ r.2.mem ((c.tc : Thread Cert.DaInRefIdeal.nD Cert.DaInRefIdeal.τ).loc Cert.DaInRefIdeal.main_arg1) = m ((c.tc : Thread Cert.DaInRefIdeal.nD Cert.DaInRefIdeal.τ).loc Cert.DaInRefIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3))
      ∧ r.2.sem = fun _ => 0)

def quiescent_ModMatmul [hModMatmul : Cert.ModMatmul.Facts] : Prop :=
  ∀ (m : (ℓ : Loc Cert.ModMatmul.nD Cert.ModMatmul.τ Cert.ModMatmul.sig) → Buf (Elt Bits) ℓ) (g : Dev Cert.ModMatmul.nD → PrngReg), Pre_ModMatmul m →
    θ_run (Cert.ModMatmul.defs (F := Bits)) (onTc (τ := Cert.ModMatmul.τ) (Cert.ModMatmul.main (F := Bits))) ⟨m, fun _ => 0, g⟩ (fun r => (∀ c : Dev Cert.ModMatmul.nD,
      r.2.mem ((c.tc : Thread Cert.ModMatmul.nD Cert.ModMatmul.τ).loc Cert.ModMatmul.main_arg0) = m ((c.tc : Thread Cert.ModMatmul.nD Cert.ModMatmul.τ).loc Cert.ModMatmul.main_arg0)
      ∧ r.2.mem ((c.tc : Thread Cert.ModMatmul.nD Cert.ModMatmul.τ).loc Cert.ModMatmul.main_arg1) = m ((c.tc : Thread Cert.ModMatmul.nD Cert.ModMatmul.τ).loc Cert.ModMatmul.main_arg1)
      ∧ r.2.mem ((c.tc : Thread Cert.ModMatmul.nD Cert.ModMatmul.τ).loc Cert.ModMatmul.main_arg2) = m ((c.tc : Thread Cert.ModMatmul.nD Cert.ModMatmul.τ).loc Cert.ModMatmul.main_arg2))
      ∧ r.2.sem = fun _ => 0)

def quiescent_ModMatmulIdeal [hModMatmulIdeal : Cert.ModMatmulIdeal.Facts] : Prop :=
  ∀ (m : (ℓ : Loc Cert.ModMatmulIdeal.nD Cert.ModMatmulIdeal.τ Cert.ModMatmulIdeal.sig) → Buf (Elt Ideal) ℓ) (g : Dev Cert.ModMatmulIdeal.nD → PrngReg), Pre_ModMatmulIdeal m →
    θ_run (Cert.ModMatmulIdeal.defs (F := Ideal)) (onTc (τ := Cert.ModMatmulIdeal.τ) (Cert.ModMatmulIdeal.main (F := Ideal))) ⟨m, fun _ => 0, g⟩ (fun r => (∀ c : Dev Cert.ModMatmulIdeal.nD,
      r.2.mem ((c.tc : Thread Cert.ModMatmulIdeal.nD Cert.ModMatmulIdeal.τ).loc Cert.ModMatmulIdeal.main_arg0) = m ((c.tc : Thread Cert.ModMatmulIdeal.nD Cert.ModMatmulIdeal.τ).loc Cert.ModMatmulIdeal.main_arg0)
      ∧ r.2.mem ((c.tc : Thread Cert.ModMatmulIdeal.nD Cert.ModMatmulIdeal.τ).loc Cert.ModMatmulIdeal.main_arg1) = m ((c.tc : Thread Cert.ModMatmulIdeal.nD Cert.ModMatmulIdeal.τ).loc Cert.ModMatmulIdeal.main_arg1)
      ∧ r.2.mem ((c.tc : Thread Cert.ModMatmulIdeal.nD Cert.ModMatmulIdeal.τ).loc Cert.ModMatmulIdeal.main_arg2) = m ((c.tc : Thread Cert.ModMatmulIdeal.nD Cert.ModMatmulIdeal.τ).loc Cert.ModMatmulIdeal.main_arg2))
      ∧ r.2.sem = fun _ => 0)

def quiescent_ModMatmulRefIdeal [hModMatmulRefIdeal : Cert.ModMatmulRefIdeal.Facts] : Prop :=
  ∀ (m : (ℓ : Loc Cert.ModMatmulRefIdeal.nD Cert.ModMatmulRefIdeal.τ Cert.ModMatmulRefIdeal.sig) → Buf (Elt Ideal) ℓ) (g : Dev Cert.ModMatmulRefIdeal.nD → PrngReg), Pre_ModMatmulRefIdeal m →
    θ_run (Cert.ModMatmulRefIdeal.defs (F := Ideal)) (onTc (τ := Cert.ModMatmulRefIdeal.τ) (Cert.ModMatmulRefIdeal.main (F := Ideal))) ⟨m, fun _ => 0, g⟩ (fun r => (∀ c : Dev Cert.ModMatmulRefIdeal.nD,
      r.2.mem ((c.tc : Thread Cert.ModMatmulRefIdeal.nD Cert.ModMatmulRefIdeal.τ).loc Cert.ModMatmulRefIdeal.main_arg0) = m ((c.tc : Thread Cert.ModMatmulRefIdeal.nD Cert.ModMatmulRefIdeal.τ).loc Cert.ModMatmulRefIdeal.main_arg0)
      ∧ r.2.mem ((c.tc : Thread Cert.ModMatmulRefIdeal.nD Cert.ModMatmulRefIdeal.τ).loc Cert.ModMatmulRefIdeal.main_arg1) = m ((c.tc : Thread Cert.ModMatmulRefIdeal.nD Cert.ModMatmulRefIdeal.τ).loc Cert.ModMatmulRefIdeal.main_arg1)
      ∧ r.2.mem ((c.tc : Thread Cert.ModMatmulRefIdeal.nD Cert.ModMatmulRefIdeal.τ).loc Cert.ModMatmulRefIdeal.main_arg2) = m ((c.tc : Thread Cert.ModMatmulRefIdeal.nD Cert.ModMatmulRefIdeal.τ).loc Cert.ModMatmulRefIdeal.main_arg2))
      ∧ r.2.sem = fun _ => 0)

def quiescent_WadaUpdate [hWadaUpdate : Cert.WadaUpdate.Facts] : Prop :=
  ∀ (m : (ℓ : Loc Cert.WadaUpdate.nD Cert.WadaUpdate.τ Cert.WadaUpdate.sig) → Buf (Elt Bits) ℓ) (g : Dev Cert.WadaUpdate.nD → PrngReg), Pre_WadaUpdate m →
    θ_run (Cert.WadaUpdate.defs (F := Bits)) (onTc (τ := Cert.WadaUpdate.τ) (Cert.WadaUpdate.main (F := Bits))) ⟨m, fun _ => 0, g⟩ (fun r => (∀ c : Dev Cert.WadaUpdate.nD,
      r.2.mem ((c.tc : Thread Cert.WadaUpdate.nD Cert.WadaUpdate.τ).loc Cert.WadaUpdate.main_arg0) = m ((c.tc : Thread Cert.WadaUpdate.nD Cert.WadaUpdate.τ).loc Cert.WadaUpdate.main_arg0)
      ∧ r.2.mem ((c.tc : Thread Cert.WadaUpdate.nD Cert.WadaUpdate.τ).loc Cert.WadaUpdate.main_arg1) = m ((c.tc : Thread Cert.WadaUpdate.nD Cert.WadaUpdate.τ).loc Cert.WadaUpdate.main_arg1)
      ∧ r.2.mem ((c.tc : Thread Cert.WadaUpdate.nD Cert.WadaUpdate.τ).loc Cert.WadaUpdate.main_arg2) = m ((c.tc : Thread Cert.WadaUpdate.nD Cert.WadaUpdate.τ).loc Cert.WadaUpdate.main_arg2)
      ∧ r.2.mem ((c.tc : Thread Cert.WadaUpdate.nD Cert.WadaUpdate.τ).loc Cert.WadaUpdate.main_arg3) = m ((c.tc : Thread Cert.WadaUpdate.nD Cert.WadaUpdate.τ).loc Cert.WadaUpdate.main_arg3)
      ∧ r.2.mem ((c.tc : Thread Cert.WadaUpdate.nD Cert.WadaUpdate.τ).loc Cert.WadaUpdate.main_arg4) = m ((c.tc : Thread Cert.WadaUpdate.nD Cert.WadaUpdate.τ).loc Cert.WadaUpdate.main_arg4))
      ∧ r.2.sem = fun _ => 0)

def quiescent_WadaUpdateIdeal [hWadaUpdateIdeal : Cert.WadaUpdateIdeal.Facts] : Prop :=
  ∀ (m : (ℓ : Loc Cert.WadaUpdateIdeal.nD Cert.WadaUpdateIdeal.τ Cert.WadaUpdateIdeal.sig) → Buf (Elt Ideal) ℓ) (g : Dev Cert.WadaUpdateIdeal.nD → PrngReg), Pre_WadaUpdateIdeal m →
    θ_run (Cert.WadaUpdateIdeal.defs (F := Ideal)) (onTc (τ := Cert.WadaUpdateIdeal.τ) (Cert.WadaUpdateIdeal.main (F := Ideal))) ⟨m, fun _ => 0, g⟩ (fun r => (∀ c : Dev Cert.WadaUpdateIdeal.nD,
      r.2.mem ((c.tc : Thread Cert.WadaUpdateIdeal.nD Cert.WadaUpdateIdeal.τ).loc Cert.WadaUpdateIdeal.main_arg0) = m ((c.tc : Thread Cert.WadaUpdateIdeal.nD Cert.WadaUpdateIdeal.τ).loc Cert.WadaUpdateIdeal.main_arg0)
      ∧ r.2.mem ((c.tc : Thread Cert.WadaUpdateIdeal.nD Cert.WadaUpdateIdeal.τ).loc Cert.WadaUpdateIdeal.main_arg1) = m ((c.tc : Thread Cert.WadaUpdateIdeal.nD Cert.WadaUpdateIdeal.τ).loc Cert.WadaUpdateIdeal.main_arg1)
      ∧ r.2.mem ((c.tc : Thread Cert.WadaUpdateIdeal.nD Cert.WadaUpdateIdeal.τ).loc Cert.WadaUpdateIdeal.main_arg2) = m ((c.tc : Thread Cert.WadaUpdateIdeal.nD Cert.WadaUpdateIdeal.τ).loc Cert.WadaUpdateIdeal.main_arg2)
      ∧ r.2.mem ((c.tc : Thread Cert.WadaUpdateIdeal.nD Cert.WadaUpdateIdeal.τ).loc Cert.WadaUpdateIdeal.main_arg3) = m ((c.tc : Thread Cert.WadaUpdateIdeal.nD Cert.WadaUpdateIdeal.τ).loc Cert.WadaUpdateIdeal.main_arg3)
      ∧ r.2.mem ((c.tc : Thread Cert.WadaUpdateIdeal.nD Cert.WadaUpdateIdeal.τ).loc Cert.WadaUpdateIdeal.main_arg4) = m ((c.tc : Thread Cert.WadaUpdateIdeal.nD Cert.WadaUpdateIdeal.τ).loc Cert.WadaUpdateIdeal.main_arg4))
      ∧ r.2.sem = fun _ => 0)

def quiescent_WadaUpdateRefIdeal [hWadaUpdateRefIdeal : Cert.WadaUpdateRefIdeal.Facts] : Prop :=
  ∀ (m : (ℓ : Loc Cert.WadaUpdateRefIdeal.nD Cert.WadaUpdateRefIdeal.τ Cert.WadaUpdateRefIdeal.sig) → Buf (Elt Ideal) ℓ) (g : Dev Cert.WadaUpdateRefIdeal.nD → PrngReg), Pre_WadaUpdateRefIdeal m →
    θ_run (Cert.WadaUpdateRefIdeal.defs (F := Ideal)) (onTc (τ := Cert.WadaUpdateRefIdeal.τ) (Cert.WadaUpdateRefIdeal.main (F := Ideal))) ⟨m, fun _ => 0, g⟩ (fun r => (∀ c : Dev Cert.WadaUpdateRefIdeal.nD,
      r.2.mem ((c.tc : Thread Cert.WadaUpdateRefIdeal.nD Cert.WadaUpdateRefIdeal.τ).loc Cert.WadaUpdateRefIdeal.main_arg0) = m ((c.tc : Thread Cert.WadaUpdateRefIdeal.nD Cert.WadaUpdateRefIdeal.τ).loc Cert.WadaUpdateRefIdeal.main_arg0)
      ∧ r.2.mem ((c.tc : Thread Cert.WadaUpdateRefIdeal.nD Cert.WadaUpdateRefIdeal.τ).loc Cert.WadaUpdateRefIdeal.main_arg1) = m ((c.tc : Thread Cert.WadaUpdateRefIdeal.nD Cert.WadaUpdateRefIdeal.τ).loc Cert.WadaUpdateRefIdeal.main_arg1)
      ∧ r.2.mem ((c.tc : Thread Cert.WadaUpdateRefIdeal.nD Cert.WadaUpdateRefIdeal.τ).loc Cert.WadaUpdateRefIdeal.main_arg2) = m ((c.tc : Thread Cert.WadaUpdateRefIdeal.nD Cert.WadaUpdateRefIdeal.τ).loc Cert.WadaUpdateRefIdeal.main_arg2)
      ∧ r.2.mem ((c.tc : Thread Cert.WadaUpdateRefIdeal.nD Cert.WadaUpdateRefIdeal.τ).loc Cert.WadaUpdateRefIdeal.main_arg3) = m ((c.tc : Thread Cert.WadaUpdateRefIdeal.nD Cert.WadaUpdateRefIdeal.τ).loc Cert.WadaUpdateRefIdeal.main_arg3)
      ∧ r.2.mem ((c.tc : Thread Cert.WadaUpdateRefIdeal.nD Cert.WadaUpdateRefIdeal.τ).loc Cert.WadaUpdateRefIdeal.main_arg4) = m ((c.tc : Thread Cert.WadaUpdateRefIdeal.nD Cert.WadaUpdateRefIdeal.τ).loc Cert.WadaUpdateRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_MixNormBwd [hMixNormBwd : Cert.MixNormBwd.Facts] : Prop :=
  ∀ (m : (ℓ : Loc Cert.MixNormBwd.nD Cert.MixNormBwd.τ Cert.MixNormBwd.sig) → Buf (Elt Bits) ℓ) (g : Dev Cert.MixNormBwd.nD → PrngReg), Pre_MixNormBwd m →
    θ_run (Cert.MixNormBwd.defs (F := Bits)) (onTc (τ := Cert.MixNormBwd.τ) (Cert.MixNormBwd.main (F := Bits))) ⟨m, fun _ => 0, g⟩ (fun r => (∀ c : Dev Cert.MixNormBwd.nD,
      r.2.mem ((c.tc : Thread Cert.MixNormBwd.nD Cert.MixNormBwd.τ).loc Cert.MixNormBwd.main_arg0) = m ((c.tc : Thread Cert.MixNormBwd.nD Cert.MixNormBwd.τ).loc Cert.MixNormBwd.main_arg0)
      ∧ r.2.mem ((c.tc : Thread Cert.MixNormBwd.nD Cert.MixNormBwd.τ).loc Cert.MixNormBwd.main_arg1) = m ((c.tc : Thread Cert.MixNormBwd.nD Cert.MixNormBwd.τ).loc Cert.MixNormBwd.main_arg1)
      ∧ r.2.mem ((c.tc : Thread Cert.MixNormBwd.nD Cert.MixNormBwd.τ).loc Cert.MixNormBwd.main_arg2) = m ((c.tc : Thread Cert.MixNormBwd.nD Cert.MixNormBwd.τ).loc Cert.MixNormBwd.main_arg2)
      ∧ r.2.mem ((c.tc : Thread Cert.MixNormBwd.nD Cert.MixNormBwd.τ).loc Cert.MixNormBwd.main_arg3) = m ((c.tc : Thread Cert.MixNormBwd.nD Cert.MixNormBwd.τ).loc Cert.MixNormBwd.main_arg3)
      ∧ r.2.mem ((c.tc : Thread Cert.MixNormBwd.nD Cert.MixNormBwd.τ).loc Cert.MixNormBwd.main_arg4) = m ((c.tc : Thread Cert.MixNormBwd.nD Cert.MixNormBwd.τ).loc Cert.MixNormBwd.main_arg4))
      ∧ r.2.sem = fun _ => 0)

def quiescent_MixNormBwdIdeal [hMixNormBwdIdeal : Cert.MixNormBwdIdeal.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg), Pre_MixNormBwdIdeal m →
    θ_run (Cert.MixNormBwdIdeal.defs (F := Ideal)) (onTc (τ := Cert.MixNormBwdIdeal.τ) (Cert.MixNormBwdIdeal.main (F := Ideal))) ⟨m, fun _ => 0, g⟩ (fun r => (∀ c : Dev Cert.MixNormBwdIdeal.nD,
      r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
      ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
      ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
      ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
      ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4))
      ∧ r.2.sem = fun _ => 0)

def quiescent_MixNormBwdRefIdeal [hMixNormBwdRefIdeal : Cert.MixNormBwdRefIdeal.Facts] : Prop :=
  ∀ (m : (ℓ : Loc Cert.MixNormBwdRefIdeal.nD Cert.MixNormBwdRefIdeal.τ Cert.MixNormBwdRefIdeal.sig) → Buf (Elt Ideal) ℓ) (g : Dev Cert.MixNormBwdRefIdeal.nD → PrngReg), Pre_MixNormBwdRefIdeal m →
    θ_run (Cert.MixNormBwdRefIdeal.defs (F := Ideal)) (onTc (τ := Cert.MixNormBwdRefIdeal.τ) (Cert.MixNormBwdRefIdeal.main (F := Ideal))) ⟨m, fun _ => 0, g⟩ (fun r => (∀ c : Dev Cert.MixNormBwdRefIdeal.nD,
      r.2.mem ((c.tc : Thread Cert.MixNormBwdRefIdeal.nD Cert.MixNormBwdRefIdeal.τ).loc Cert.MixNormBwdRefIdeal.main_arg0) = m ((c.tc : Thread Cert.MixNormBwdRefIdeal.nD Cert.MixNormBwdRefIdeal.τ).loc Cert.MixNormBwdRefIdeal.main_arg0)
      ∧ r.2.mem ((c.tc : Thread Cert.MixNormBwdRefIdeal.nD Cert.MixNormBwdRefIdeal.τ).loc Cert.MixNormBwdRefIdeal.main_arg1) = m ((c.tc : Thread Cert.MixNormBwdRefIdeal.nD Cert.MixNormBwdRefIdeal.τ).loc Cert.MixNormBwdRefIdeal.main_arg1)
      ∧ r.2.mem ((c.tc : Thread Cert.MixNormBwdRefIdeal.nD Cert.MixNormBwdRefIdeal.τ).loc Cert.MixNormBwdRefIdeal.main_arg2) = m ((c.tc : Thread Cert.MixNormBwdRefIdeal.nD Cert.MixNormBwdRefIdeal.τ).loc Cert.MixNormBwdRefIdeal.main_arg2)
      ∧ r.2.mem ((c.tc : Thread Cert.MixNormBwdRefIdeal.nD Cert.MixNormBwdRefIdeal.τ).loc Cert.MixNormBwdRefIdeal.main_arg3) = m ((c.tc : Thread Cert.MixNormBwdRefIdeal.nD Cert.MixNormBwdRefIdeal.τ).loc Cert.MixNormBwdRefIdeal.main_arg3)
      ∧ r.2.mem ((c.tc : Thread Cert.MixNormBwdRefIdeal.nD Cert.MixNormBwdRefIdeal.τ).loc Cert.MixNormBwdRefIdeal.main_arg4) = m ((c.tc : Thread Cert.MixNormBwdRefIdeal.nD Cert.MixNormBwdRefIdeal.τ).loc Cert.MixNormBwdRefIdeal.main_arg4))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4))
      ∧ r.2.sem = fun _ => 0)

def quiescent_FfnNormBwd [hFfnNormBwd : Cert.FfnNormBwd.Facts] : Prop :=
  ∀ (m : (ℓ : Loc Cert.FfnNormBwd.nD Cert.FfnNormBwd.τ Cert.FfnNormBwd.sig) → Buf (Elt Bits) ℓ) (g : Dev Cert.FfnNormBwd.nD → PrngReg), Pre_FfnNormBwd m →
    θ_run (Cert.FfnNormBwd.defs (F := Bits)) (onTc (τ := Cert.FfnNormBwd.τ) (Cert.FfnNormBwd.main (F := Bits))) ⟨m, fun _ => 0, g⟩ (fun r => (∀ c : Dev Cert.FfnNormBwd.nD,
      r.2.mem ((c.tc : Thread Cert.FfnNormBwd.nD Cert.FfnNormBwd.τ).loc Cert.FfnNormBwd.main_arg0) = m ((c.tc : Thread Cert.FfnNormBwd.nD Cert.FfnNormBwd.τ).loc Cert.FfnNormBwd.main_arg0)
      ∧ r.2.mem ((c.tc : Thread Cert.FfnNormBwd.nD Cert.FfnNormBwd.τ).loc Cert.FfnNormBwd.main_arg1) = m ((c.tc : Thread Cert.FfnNormBwd.nD Cert.FfnNormBwd.τ).loc Cert.FfnNormBwd.main_arg1)
      ∧ r.2.mem ((c.tc : Thread Cert.FfnNormBwd.nD Cert.FfnNormBwd.τ).loc Cert.FfnNormBwd.main_arg2) = m ((c.tc : Thread Cert.FfnNormBwd.nD Cert.FfnNormBwd.τ).loc Cert.FfnNormBwd.main_arg2)
      ∧ r.2.mem ((c.tc : Thread Cert.FfnNormBwd.nD Cert.FfnNormBwd.τ).loc Cert.FfnNormBwd.main_arg3) = m ((c.tc : Thread Cert.FfnNormBwd.nD Cert.FfnNormBwd.τ).loc Cert.FfnNormBwd.main_arg3)
      ∧ r.2.mem ((c.tc : Thread Cert.FfnNormBwd.nD Cert.FfnNormBwd.τ).loc Cert.FfnNormBwd.main_arg4) = m ((c.tc : Thread Cert.FfnNormBwd.nD Cert.FfnNormBwd.τ).loc Cert.FfnNormBwd.main_arg4)
      ∧ r.2.mem ((c.tc : Thread Cert.FfnNormBwd.nD Cert.FfnNormBwd.τ).loc Cert.FfnNormBwd.main_arg5) = m ((c.tc : Thread Cert.FfnNormBwd.nD Cert.FfnNormBwd.τ).loc Cert.FfnNormBwd.main_arg5)
      ∧ r.2.mem ((c.tc : Thread Cert.FfnNormBwd.nD Cert.FfnNormBwd.τ).loc Cert.FfnNormBwd.main_arg6) = m ((c.tc : Thread Cert.FfnNormBwd.nD Cert.FfnNormBwd.τ).loc Cert.FfnNormBwd.main_arg6)
      ∧ r.2.mem ((c.tc : Thread Cert.FfnNormBwd.nD Cert.FfnNormBwd.τ).loc Cert.FfnNormBwd.main_arg7) = m ((c.tc : Thread Cert.FfnNormBwd.nD Cert.FfnNormBwd.τ).loc Cert.FfnNormBwd.main_arg7))
      ∧ r.2.sem = fun _ => 0)

def quiescent_FfnNormBwdIdeal [hFfnNormBwdIdeal : Cert.FfnNormBwdIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg), Pre_FfnNormBwdIdeal m →
    θ_run (Cert.FfnNormBwdIdeal.defs (F := Ideal)) (onTc (τ := Cert.FfnNormBwdIdeal.τ) (Cert.FfnNormBwdIdeal.main (F := Ideal))) ⟨m, fun _ => 0, g⟩ (fun r => (∀ c : Dev Cert.FfnNormBwdIdeal.nD,
      r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
      ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
      ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
      ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
      ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
      ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5)
      ∧ r.2.mem ((c.tc : Thread Cert.FfnNormBwdIdeal.nD Cert.FfnNormBwdIdeal.τ).loc Cert.FfnNormBwdIdeal.main_arg6) = m ((c.tc : Thread Cert.FfnNormBwdIdeal.nD Cert.FfnNormBwdIdeal.τ).loc Cert.FfnNormBwdIdeal.main_arg6)
      ∧ r.2.mem ((c.tc : Thread Cert.FfnNormBwdIdeal.nD Cert.FfnNormBwdIdeal.τ).loc Cert.FfnNormBwdIdeal.main_arg7) = m ((c.tc : Thread Cert.FfnNormBwdIdeal.nD Cert.FfnNormBwdIdeal.τ).loc Cert.FfnNormBwdIdeal.main_arg7))
      ∧ r.2.sem = fun _ => 0)

def quiescent_FfnNormBwdRefIdeal [hFfnNormBwdRefIdeal : Cert.FfnNormBwdRefIdeal.Facts] : Prop :=
  ∀ (m : (ℓ : Loc Cert.FfnNormBwdRefIdeal.nD Cert.FfnNormBwdRefIdeal.τ Cert.FfnNormBwdRefIdeal.sig) → Buf (Elt Ideal) ℓ) (g : Dev Cert.FfnNormBwdRefIdeal.nD → PrngReg), Pre_FfnNormBwdRefIdeal m →
    θ_run (Cert.FfnNormBwdRefIdeal.defs (F := Ideal)) (onTc (τ := Cert.FfnNormBwdRefIdeal.τ) (Cert.FfnNormBwdRefIdeal.main (F := Ideal))) ⟨m, fun _ => 0, g⟩ (fun r => (∀ c : Dev Cert.FfnNormBwdRefIdeal.nD,
      r.2.mem ((c.tc : Thread Cert.FfnNormBwdRefIdeal.nD Cert.FfnNormBwdRefIdeal.τ).loc Cert.FfnNormBwdRefIdeal.main_arg0) = m ((c.tc : Thread Cert.FfnNormBwdRefIdeal.nD Cert.FfnNormBwdRefIdeal.τ).loc Cert.FfnNormBwdRefIdeal.main_arg0)
      ∧ r.2.mem ((c.tc : Thread Cert.FfnNormBwdRefIdeal.nD Cert.FfnNormBwdRefIdeal.τ).loc Cert.FfnNormBwdRefIdeal.main_arg1) = m ((c.tc : Thread Cert.FfnNormBwdRefIdeal.nD Cert.FfnNormBwdRefIdeal.τ).loc Cert.FfnNormBwdRefIdeal.main_arg1)
      ∧ r.2.mem ((c.tc : Thread Cert.FfnNormBwdRefIdeal.nD Cert.FfnNormBwdRefIdeal.τ).loc Cert.FfnNormBwdRefIdeal.main_arg2) = m ((c.tc : Thread Cert.FfnNormBwdRefIdeal.nD Cert.FfnNormBwdRefIdeal.τ).loc Cert.FfnNormBwdRefIdeal.main_arg2)
      ∧ r.2.mem ((c.tc : Thread Cert.FfnNormBwdRefIdeal.nD Cert.FfnNormBwdRefIdeal.τ).loc Cert.FfnNormBwdRefIdeal.main_arg3) = m ((c.tc : Thread Cert.FfnNormBwdRefIdeal.nD Cert.FfnNormBwdRefIdeal.τ).loc Cert.FfnNormBwdRefIdeal.main_arg3)
      ∧ r.2.mem ((c.tc : Thread Cert.FfnNormBwdRefIdeal.nD Cert.FfnNormBwdRefIdeal.τ).loc Cert.FfnNormBwdRefIdeal.main_arg4) = m ((c.tc : Thread Cert.FfnNormBwdRefIdeal.nD Cert.FfnNormBwdRefIdeal.τ).loc Cert.FfnNormBwdRefIdeal.main_arg4)
      ∧ r.2.mem ((c.tc : Thread Cert.FfnNormBwdRefIdeal.nD Cert.FfnNormBwdRefIdeal.τ).loc Cert.FfnNormBwdRefIdeal.main_arg5) = m ((c.tc : Thread Cert.FfnNormBwdRefIdeal.nD Cert.FfnNormBwdRefIdeal.τ).loc Cert.FfnNormBwdRefIdeal.main_arg5)
      ∧ r.2.mem ((c.tc : Thread Cert.FfnNormBwdRefIdeal.nD Cert.FfnNormBwdRefIdeal.τ).loc Cert.FfnNormBwdRefIdeal.main_arg6) = m ((c.tc : Thread Cert.FfnNormBwdRefIdeal.nD Cert.FfnNormBwdRefIdeal.τ).loc Cert.FfnNormBwdRefIdeal.main_arg6)
      ∧ r.2.mem ((c.tc : Thread Cert.FfnNormBwdRefIdeal.nD Cert.FfnNormBwdRefIdeal.τ).loc Cert.FfnNormBwdRefIdeal.main_arg7) = m ((c.tc : Thread Cert.FfnNormBwdRefIdeal.nD Cert.FfnNormBwdRefIdeal.τ).loc Cert.FfnNormBwdRefIdeal.main_arg7))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)
  ∧ IdealRules.named_const.Statement Cert.KernelIdeal.κ "half_erf_slope_over_sqrt_two" .f32 0x3ECC422A#32 (((9465531 * 16777216⁻¹) * (Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwFf2_DwFf2Ideal : Prop :=
  True

def algebraic_DwFf2Ideal_DwFf2RefIdeal [hDwFf2Ideal : Cert.DwFf2Ideal.Facts] [hDwFf2RefIdeal : Cert.DwFf2RefIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2RefIdeal.nD Cert.DwFf2RefIdeal.τ Cert.DwFf2RefIdeal.sig) → Buf (Elt Ideal) ℓ) (g' : Dev Cert.DwFf2RefIdeal.nD → PrngReg), Pre_DwFf2Ideal m →
    (∀ c : Dev Cert.DwFf2Ideal.nD,
      m' ((c.tc : Thread Cert.DwFf2RefIdeal.nD Cert.DwFf2RefIdeal.τ).loc Cert.DwFf2RefIdeal.main_arg0) = m ((c.tc : Thread Cert.DwFf2Ideal.nD Cert.DwFf2Ideal.τ).loc Cert.DwFf2Ideal.main_arg0)
      ∧ m' ((c.tc : Thread Cert.DwFf2RefIdeal.nD Cert.DwFf2RefIdeal.τ).loc Cert.DwFf2RefIdeal.main_arg1) = m ((c.tc : Thread Cert.DwFf2Ideal.nD Cert.DwFf2Ideal.τ).loc Cert.DwFf2Ideal.main_arg1)) →
    ∃ (v0 : (c : Dev Cert.DwFf2Ideal.nD) → Buf (Elt Ideal) ((c.tc : Thread Cert.DwFf2Ideal.nD Cert.DwFf2Ideal.τ).loc Cert.DwFf2Ideal.main_v0)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v0) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ θ_run (Cert.DwFf2RefIdeal.defs (F := Ideal)) (onTc (τ := Cert.DwFf2RefIdeal.τ) (Cert.DwFf2RefIdeal.main (F := Ideal))) ⟨m', fun _ => 0, g'⟩ (fun r => ∀ c : Dev Cert.DwFf2RefIdeal.nD,
          r.2.mem ((c.tc : Thread Cert.DwFf2RefIdeal.nD Cert.DwFf2RefIdeal.τ).loc Cert.DwFf2RefIdeal.main_v7) = v0 c
          ∧ r.2.mem ((c.tc : Thread Cert.DwFf2RefIdeal.nD Cert.DwFf2RefIdeal.τ).loc Cert.DwFf2RefIdeal.main_arg0) = m' ((c.tc : Thread Cert.DwFf2RefIdeal.nD Cert.DwFf2RefIdeal.τ).loc Cert.DwFf2RefIdeal.main_arg0)
          ∧ r.2.mem ((c.tc : Thread Cert.DwFf2RefIdeal.nD Cert.DwFf2RefIdeal.τ).loc Cert.DwFf2RefIdeal.main_arg1) = m' ((c.tc : Thread Cert.DwFf2RefIdeal.nD Cert.DwFf2RefIdeal.τ).loc Cert.DwFf2RefIdeal.main_arg1))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v3) = v0 c
          ∧ r.2.mem ((c.tc : Thread Cert.Ff1RefIdeal.nD Cert.Ff1RefIdeal.τ).loc Cert.Ff1RefIdeal.main_v6) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2Bwd_Ff2BwdIdeal : Prop :=
  True

def algebraic_Ff2BwdIdeal_Ff2BwdRefIdeal [hFf2BwdIdeal : Cert.Ff2BwdIdeal.Facts] [hFf2BwdRefIdeal : Cert.Ff2BwdRefIdeal.Facts] : Prop :=
  ∀ (m : (ℓ : Loc Cert.Ff2BwdIdeal.nD Cert.Ff2BwdIdeal.τ Cert.Ff2BwdIdeal.sig) → Buf (Elt Ideal) ℓ) (g : Dev Cert.Ff2BwdIdeal.nD → PrngReg)
    (m' : (ℓ : Loc Cert.Ff2BwdRefIdeal.nD Cert.Ff2BwdRefIdeal.τ Cert.Ff2BwdRefIdeal.sig) → Buf (Elt Ideal) ℓ) (g' : Dev Cert.Ff2BwdRefIdeal.nD → PrngReg), Pre_Ff2BwdIdeal m →
    (∀ c : Dev Cert.Ff2BwdIdeal.nD,
      m' ((c.tc : Thread Cert.Ff2BwdRefIdeal.nD Cert.Ff2BwdRefIdeal.τ).loc Cert.Ff2BwdRefIdeal.main_arg0) = m ((c.tc : Thread Cert.Ff2BwdIdeal.nD Cert.Ff2BwdIdeal.τ).loc Cert.Ff2BwdIdeal.main_arg0)
      ∧ m' ((c.tc : Thread Cert.Ff2BwdRefIdeal.nD Cert.Ff2BwdRefIdeal.τ).loc Cert.Ff2BwdRefIdeal.main_arg1) = m ((c.tc : Thread Cert.Ff2BwdIdeal.nD Cert.Ff2BwdIdeal.τ).loc Cert.Ff2BwdIdeal.main_arg1)
      ∧ m' ((c.tc : Thread Cert.Ff2BwdRefIdeal.nD Cert.Ff2BwdRefIdeal.τ).loc Cert.Ff2BwdRefIdeal.main_arg2) = m ((c.tc : Thread Cert.Ff2BwdIdeal.nD Cert.Ff2BwdIdeal.τ).loc Cert.Ff2BwdIdeal.main_arg2)) →
    ∃ (v0 : (c : Dev Cert.Ff2BwdIdeal.nD) → Buf (Elt Ideal) ((c.tc : Thread Cert.Ff2BwdIdeal.nD Cert.Ff2BwdIdeal.τ).loc Cert.Ff2BwdIdeal.main_v0)),
      θ_run (Cert.Ff2BwdIdeal.defs (F := Ideal)) (onTc (τ := Cert.Ff2BwdIdeal.τ) (Cert.Ff2BwdIdeal.main (F := Ideal))) ⟨m, fun _ => 0, g⟩ (fun r => ∀ c : Dev Cert.Ff2BwdIdeal.nD,
          r.2.mem ((c.tc : Thread Cert.Ff2BwdIdeal.nD Cert.Ff2BwdIdeal.τ).loc Cert.Ff2BwdIdeal.main_v0) = v0 c
          ∧ r.2.mem ((c.tc : Thread Cert.Ff2BwdIdeal.nD Cert.Ff2BwdIdeal.τ).loc Cert.Ff2BwdIdeal.main_arg0) = m ((c.tc : Thread Cert.Ff2BwdIdeal.nD Cert.Ff2BwdIdeal.τ).loc Cert.Ff2BwdIdeal.main_arg0)
          ∧ r.2.mem ((c.tc : Thread Cert.Ff2BwdIdeal.nD Cert.Ff2BwdIdeal.τ).loc Cert.Ff2BwdIdeal.main_arg1) = m ((c.tc : Thread Cert.Ff2BwdIdeal.nD Cert.Ff2BwdIdeal.τ).loc Cert.Ff2BwdIdeal.main_arg1)
          ∧ r.2.mem ((c.tc : Thread Cert.Ff2BwdIdeal.nD Cert.Ff2BwdIdeal.τ).loc Cert.Ff2BwdIdeal.main_arg2) = m ((c.tc : Thread Cert.Ff2BwdIdeal.nD Cert.Ff2BwdIdeal.τ).loc Cert.Ff2BwdIdeal.main_arg2))
      ∧ θ_run (Cert.Ff2BwdRefIdeal.defs (F := Ideal)) (onTc (τ := Cert.Ff2BwdRefIdeal.τ) (Cert.Ff2BwdRefIdeal.main (F := Ideal))) ⟨m', fun _ => 0, g'⟩ (fun r => ∀ c : Dev Cert.Ff2BwdRefIdeal.nD,
          r.2.mem ((c.tc : Thread Cert.Ff2BwdRefIdeal.nD Cert.Ff2BwdRefIdeal.τ).loc Cert.Ff2BwdRefIdeal.main_v15) = v0 c
          ∧ r.2.mem ((c.tc : Thread Cert.Ff2BwdRefIdeal.nD Cert.Ff2BwdRefIdeal.τ).loc Cert.Ff2BwdRefIdeal.main_arg0) = m' ((c.tc : Thread Cert.Ff2BwdRefIdeal.nD Cert.Ff2BwdRefIdeal.τ).loc Cert.Ff2BwdRefIdeal.main_arg0)
          ∧ r.2.mem ((c.tc : Thread Cert.Ff2BwdRefIdeal.nD Cert.Ff2BwdRefIdeal.τ).loc Cert.Ff2BwdRefIdeal.main_arg1) = m' ((c.tc : Thread Cert.Ff2BwdRefIdeal.nD Cert.Ff2BwdRefIdeal.τ).loc Cert.Ff2BwdRefIdeal.main_arg1)
          ∧ r.2.mem ((c.tc : Thread Cert.Ff2BwdRefIdeal.nD Cert.Ff2BwdRefIdeal.τ).loc Cert.Ff2BwdRefIdeal.main_arg2) = m' ((c.tc : Thread Cert.Ff2BwdRefIdeal.nD Cert.Ff2BwdRefIdeal.τ).loc Cert.Ff2BwdRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_v24) = v1 c
          ∧ r.2.mem ((c.tc : Thread Cert.MergeRefIdeal.nD Cert.MergeRefIdeal.τ).loc Cert.MergeRefIdeal.main_v25) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_v36) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_OutProjBwd_OutProjBwdIdeal : Prop :=
  True

def algebraic_OutProjBwdIdeal_OutProjBwdRefIdeal [hOutProjBwdIdeal : Cert.OutProjBwdIdeal.Facts] [hOutProjBwdRefIdeal : Cert.OutProjBwdRefIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjBwdRefIdeal.nD Cert.OutProjBwdRefIdeal.τ Cert.OutProjBwdRefIdeal.sig) → Buf (Elt Ideal) ℓ) (g' : Dev Cert.OutProjBwdRefIdeal.nD → PrngReg), Pre_OutProjBwdIdeal m →
    (∀ c : Dev Cert.OutProjBwdIdeal.nD,
      m' ((c.tc : Thread Cert.OutProjBwdRefIdeal.nD Cert.OutProjBwdRefIdeal.τ).loc Cert.OutProjBwdRefIdeal.main_arg0) = m ((c.tc : Thread Cert.OutProjBwdIdeal.nD Cert.OutProjBwdIdeal.τ).loc Cert.OutProjBwdIdeal.main_arg0)
      ∧ m' ((c.tc : Thread Cert.OutProjBwdRefIdeal.nD Cert.OutProjBwdRefIdeal.τ).loc Cert.OutProjBwdRefIdeal.main_arg1) = m ((c.tc : Thread Cert.OutProjBwdIdeal.nD Cert.OutProjBwdIdeal.τ).loc Cert.OutProjBwdIdeal.main_arg1)
      ∧ m' ((c.tc : Thread Cert.OutProjBwdRefIdeal.nD Cert.OutProjBwdRefIdeal.τ).loc Cert.OutProjBwdRefIdeal.main_arg2) = m ((c.tc : Thread Cert.OutProjBwdIdeal.nD Cert.OutProjBwdIdeal.τ).loc Cert.OutProjBwdIdeal.main_arg2)
      ∧ m' ((c.tc : Thread Cert.OutProjBwdRefIdeal.nD Cert.OutProjBwdRefIdeal.τ).loc Cert.OutProjBwdRefIdeal.main_arg3) = m ((c.tc : Thread Cert.OutProjBwdIdeal.nD Cert.OutProjBwdIdeal.τ).loc Cert.OutProjBwdIdeal.main_arg3)
      ∧ m' ((c.tc : Thread Cert.OutProjBwdRefIdeal.nD Cert.OutProjBwdRefIdeal.τ).loc Cert.OutProjBwdRefIdeal.main_arg4) = m ((c.tc : Thread Cert.OutProjBwdIdeal.nD Cert.OutProjBwdIdeal.τ).loc Cert.OutProjBwdIdeal.main_arg4)) →
    ∃ (v0 : (c : Dev Cert.OutProjBwdIdeal.nD) → Buf (Elt Ideal) ((c.tc : Thread Cert.OutProjBwdIdeal.nD Cert.OutProjBwdIdeal.τ).loc Cert.OutProjBwdIdeal.main_v0_0)) (v1 : (c : Dev Cert.OutProjBwdIdeal.nD) → Buf (Elt Ideal) ((c.tc : Thread Cert.OutProjBwdIdeal.nD Cert.OutProjBwdIdeal.τ).loc Cert.OutProjBwdIdeal.main_v0_1)) (v2 : (c : Dev Cert.OutProjBwdIdeal.nD) → Buf (Elt Ideal) ((c.tc : Thread Cert.OutProjBwdIdeal.nD Cert.OutProjBwdIdeal.τ).loc Cert.OutProjBwdIdeal.main_v0_2)) (v3 : (c : Dev Cert.OutProjBwdIdeal.nD) → Buf (Elt Ideal) ((c.tc : Thread Cert.OutProjBwdIdeal.nD Cert.OutProjBwdIdeal.τ).loc Cert.OutProjBwdIdeal.main_v0_3)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v0_0) = v0 c
          ∧ r.2.mem ((c.tc : Thread Cert.OutProjBwdIdeal.nD Cert.OutProjBwdIdeal.τ).loc Cert.OutProjBwdIdeal.main_v0_1) = v1 c
          ∧ r.2.mem ((c.tc : Thread Cert.OutProjBwdIdeal.nD Cert.OutProjBwdIdeal.τ).loc Cert.OutProjBwdIdeal.main_v0_2) = v2 c
          ∧ r.2.mem ((c.tc : Thread Cert.OutProjBwdIdeal.nD Cert.OutProjBwdIdeal.τ).loc Cert.OutProjBwdIdeal.main_v0_3) = v3 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
          ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
          ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
          ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4))
      ∧ θ_run (Cert.OutProjBwdRefIdeal.defs (F := Ideal)) (onTc (τ := Cert.OutProjBwdRefIdeal.τ) (Cert.OutProjBwdRefIdeal.main (F := Ideal))) ⟨m', fun _ => 0, g'⟩ (fun r => ∀ c : Dev Cert.OutProjBwdRefIdeal.nD,
          r.2.mem ((c.tc : Thread Cert.OutProjBwdRefIdeal.nD Cert.OutProjBwdRefIdeal.τ).loc Cert.OutProjBwdRefIdeal.main_v35) = v0 c
          ∧ r.2.mem ((c.tc : Thread Cert.OutProjBwdRefIdeal.nD Cert.OutProjBwdRefIdeal.τ).loc Cert.OutProjBwdRefIdeal.main_v36) = v1 c
          ∧ r.2.mem ((c.tc : Thread Cert.OutProjBwdRefIdeal.nD Cert.OutProjBwdRefIdeal.τ).loc Cert.OutProjBwdRefIdeal.main_v37) = v2 c
          ∧ r.2.mem ((c.tc : Thread Cert.OutProjBwdRefIdeal.nD Cert.OutProjBwdRefIdeal.τ).loc Cert.OutProjBwdRefIdeal.main_v38) = v3 c
          ∧ r.2.mem ((c.tc : Thread Cert.OutProjBwdRefIdeal.nD Cert.OutProjBwdRefIdeal.τ).loc Cert.OutProjBwdRefIdeal.main_arg0) = m' ((c.tc : Thread Cert.OutProjBwdRefIdeal.nD Cert.OutProjBwdRefIdeal.τ).loc Cert.OutProjBwdRefIdeal.main_arg0)
          ∧ r.2.mem ((c.tc : Thread Cert.OutProjBwdRefIdeal.nD Cert.OutProjBwdRefIdeal.τ).loc Cert.OutProjBwdRefIdeal.main_arg1) = m' ((c.tc : Thread Cert.OutProjBwdRefIdeal.nD Cert.OutProjBwdRefIdeal.τ).loc Cert.OutProjBwdRefIdeal.main_arg1)
          ∧ r.2.mem ((c.tc : Thread Cert.OutProjBwdRefIdeal.nD Cert.OutProjBwdRefIdeal.τ).loc Cert.OutProjBwdRefIdeal.main_arg2) = m' ((c.tc : Thread Cert.OutProjBwdRefIdeal.nD Cert.OutProjBwdRefIdeal.τ).loc Cert.OutProjBwdRefIdeal.main_arg2)
          ∧ r.2.mem ((c.tc : Thread Cert.OutProjBwdRefIdeal.nD Cert.OutProjBwdRefIdeal.τ).loc Cert.OutProjBwdRefIdeal.main_arg3) = m' ((c.tc : Thread Cert.OutProjBwdRefIdeal.nD Cert.OutProjBwdRefIdeal.τ).loc Cert.OutProjBwdRefIdeal.main_arg3)
          ∧ r.2.mem ((c.tc : Thread Cert.OutProjBwdRefIdeal.nD Cert.OutProjBwdRefIdeal.τ).loc Cert.OutProjBwdRefIdeal.main_arg4) = m' ((c.tc : Thread Cert.OutProjBwdRefIdeal.nD Cert.OutProjBwdRefIdeal.τ).loc Cert.OutProjBwdRefIdeal.main_arg4))

def preserves_DSgu_DSguIdeal : Prop :=
  True

def algebraic_DSguIdeal_DSguRefIdeal [hDSguIdeal : Cert.DSguIdeal.Facts] [hDSguRefIdeal : Cert.DSguRefIdeal.Facts] : Prop :=
  ∀ (m : (ℓ : Loc Cert.DSguIdeal.nD Cert.DSguIdeal.τ Cert.DSguIdeal.sig) → Buf (Elt Ideal) ℓ) (g : Dev Cert.DSguIdeal.nD → PrngReg)
    (m' : (ℓ : Loc Cert.DSguRefIdeal.nD Cert.DSguRefIdeal.τ Cert.DSguRefIdeal.sig) → Buf (Elt Ideal) ℓ) (g' : Dev Cert.DSguRefIdeal.nD → PrngReg), Pre_DSguIdeal m →
    (∀ c : Dev Cert.DSguIdeal.nD,
      m' ((c.tc : Thread Cert.DSguRefIdeal.nD Cert.DSguRefIdeal.τ).loc Cert.DSguRefIdeal.main_arg0) = m ((c.tc : Thread Cert.DSguIdeal.nD Cert.DSguIdeal.τ).loc Cert.DSguIdeal.main_arg0)
      ∧ m' ((c.tc : Thread Cert.DSguRefIdeal.nD Cert.DSguRefIdeal.τ).loc Cert.DSguRefIdeal.main_arg1) = m ((c.tc : Thread Cert.DSguIdeal.nD Cert.DSguIdeal.τ).loc Cert.DSguIdeal.main_arg1)) →
    ∃ (v0 : (c : Dev Cert.DSguIdeal.nD) → Buf (Elt Ideal) ((c.tc : Thread Cert.DSguIdeal.nD Cert.DSguIdeal.τ).loc Cert.DSguIdeal.main_v0)),
      θ_run (Cert.DSguIdeal.defs (F := Ideal)) (onTc (τ := Cert.DSguIdeal.τ) (Cert.DSguIdeal.main (F := Ideal))) ⟨m, fun _ => 0, g⟩ (fun r => ∀ c : Dev Cert.DSguIdeal.nD,
          r.2.mem ((c.tc : Thread Cert.DSguIdeal.nD Cert.DSguIdeal.τ).loc Cert.DSguIdeal.main_v0) = v0 c
          ∧ r.2.mem ((c.tc : Thread Cert.DSguIdeal.nD Cert.DSguIdeal.τ).loc Cert.DSguIdeal.main_arg0) = m ((c.tc : Thread Cert.DSguIdeal.nD Cert.DSguIdeal.τ).loc Cert.DSguIdeal.main_arg0)
          ∧ r.2.mem ((c.tc : Thread Cert.DSguIdeal.nD Cert.DSguIdeal.τ).loc Cert.DSguIdeal.main_arg1) = m ((c.tc : Thread Cert.DSguIdeal.nD Cert.DSguIdeal.τ).loc Cert.DSguIdeal.main_arg1))
      ∧ θ_run (Cert.DSguRefIdeal.defs (F := Ideal)) (onTc (τ := Cert.DSguRefIdeal.τ) (Cert.DSguRefIdeal.main (F := Ideal))) ⟨m', fun _ => 0, g'⟩ (fun r => ∀ c : Dev Cert.DSguRefIdeal.nD,
          r.2.mem ((c.tc : Thread Cert.DSguRefIdeal.nD Cert.DSguRefIdeal.τ).loc Cert.DSguRefIdeal.main_v6) = v0 c
          ∧ r.2.mem ((c.tc : Thread Cert.DSguRefIdeal.nD Cert.DSguRefIdeal.τ).loc Cert.DSguRefIdeal.main_arg0) = m' ((c.tc : Thread Cert.DSguRefIdeal.nD Cert.DSguRefIdeal.τ).loc Cert.DSguRefIdeal.main_arg0)
          ∧ r.2.mem ((c.tc : Thread Cert.DSguRefIdeal.nD Cert.DSguRefIdeal.τ).loc Cert.DSguRefIdeal.main_arg1) = m' ((c.tc : Thread Cert.DSguRefIdeal.nD Cert.DSguRefIdeal.τ).loc Cert.DSguRefIdeal.main_arg1))

def preserves_DwB_DwBIdeal : Prop :=
  True

def algebraic_DwBIdeal_DwBRefIdeal [hDwBIdeal : Cert.DwBIdeal.Facts] [hDwBRefIdeal : Cert.DwBRefIdeal.Facts] : Prop :=
  ∀ (m : (ℓ : Loc Cert.DwBIdeal.nD Cert.DwBIdeal.τ Cert.DwBIdeal.sig) → Buf (Elt Ideal) ℓ) (g : Dev Cert.DwBIdeal.nD → PrngReg)
    (m' : (ℓ : Loc Cert.DwBRefIdeal.nD Cert.DwBRefIdeal.τ Cert.DwBRefIdeal.sig) → Buf (Elt Ideal) ℓ) (g' : Dev Cert.DwBRefIdeal.nD → PrngReg), Pre_DwBIdeal m →
    (∀ c : Dev Cert.DwBIdeal.nD,
      m' ((c.tc : Thread Cert.DwBRefIdeal.nD Cert.DwBRefIdeal.τ).loc Cert.DwBRefIdeal.main_arg0) = m ((c.tc : Thread Cert.DwBIdeal.nD Cert.DwBIdeal.τ).loc Cert.DwBIdeal.main_arg0)
      ∧ m' ((c.tc : Thread Cert.DwBRefIdeal.nD Cert.DwBRefIdeal.τ).loc Cert.DwBRefIdeal.main_arg1) = m ((c.tc : Thread Cert.DwBIdeal.nD Cert.DwBIdeal.τ).loc Cert.DwBIdeal.main_arg1)) →
    ∃ (v0 : (c : Dev Cert.DwBIdeal.nD) → Buf (Elt Ideal) ((c.tc : Thread Cert.DwBIdeal.nD Cert.DwBIdeal.τ).loc Cert.DwBIdeal.main_v0)),
      θ_run (Cert.DwBIdeal.defs (F := Ideal)) (onTc (τ := Cert.DwBIdeal.τ) (Cert.DwBIdeal.main (F := Ideal))) ⟨m, fun _ => 0, g⟩ (fun r => ∀ c : Dev Cert.DwBIdeal.nD,
          r.2.mem ((c.tc : Thread Cert.DwBIdeal.nD Cert.DwBIdeal.τ).loc Cert.DwBIdeal.main_v0) = v0 c
          ∧ r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
          ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ θ_run (Cert.DwBRefIdeal.defs (F := Ideal)) (onTc (τ := Cert.DwBRefIdeal.τ) (Cert.DwBRefIdeal.main (F := Ideal))) ⟨m', fun _ => 0, g'⟩ (fun r => ∀ c : Dev Cert.DwBRefIdeal.nD,
          r.2.mem ((c.tc : Thread Cert.DwBRefIdeal.nD Cert.DwBRefIdeal.τ).loc Cert.DwBRefIdeal.main_v9) = v0 c
          ∧ r.2.mem ((c.tc : Thread Cert.DwBRefIdeal.nD Cert.DwBRefIdeal.τ).loc Cert.DwBRefIdeal.main_arg0) = m' ((c.tc : Thread Cert.DwBRefIdeal.nD Cert.DwBRefIdeal.τ).loc Cert.DwBRefIdeal.main_arg0)
          ∧ r.2.mem ((c.tc : Thread Cert.DwBRefIdeal.nD Cert.DwBRefIdeal.τ).loc Cert.DwBRefIdeal.main_arg1) = m' ((c.tc : Thread Cert.DwBRefIdeal.nD Cert.DwBRefIdeal.τ).loc Cert.DwBRefIdeal.main_arg1))

def preserves_DyaPre_DyaPreIdeal : Prop :=
  True

def algebraic_DyaPreIdeal_DyaPreRefIdeal [hDyaPreIdeal : Cert.DyaPreIdeal.Facts] [hDyaPreRefIdeal : Cert.DyaPreRefIdeal.Facts] : Prop :=
  ∀ (m : (ℓ : Loc Cert.DyaPreIdeal.nD Cert.DyaPreIdeal.τ Cert.DyaPreIdeal.sig) → Buf (Elt Ideal) ℓ) (g : Dev Cert.DyaPreIdeal.nD → PrngReg)
    (m' : (ℓ : Loc Cert.DyaPreRefIdeal.nD Cert.DyaPreRefIdeal.τ Cert.DyaPreRefIdeal.sig) → Buf (Elt Ideal) ℓ) (g' : Dev Cert.DyaPreRefIdeal.nD → PrngReg), Pre_DyaPreIdeal m →
    (∀ c : Dev Cert.DyaPreIdeal.nD,
      m' ((c.tc : Thread Cert.DyaPreRefIdeal.nD Cert.DyaPreRefIdeal.τ).loc Cert.DyaPreRefIdeal.main_arg0) = m ((c.tc : Thread Cert.DyaPreIdeal.nD Cert.DyaPreIdeal.τ).loc Cert.DyaPreIdeal.main_arg0)
      ∧ m' ((c.tc : Thread Cert.DyaPreRefIdeal.nD Cert.DyaPreRefIdeal.τ).loc Cert.DyaPreRefIdeal.main_arg1) = m ((c.tc : Thread Cert.DyaPreIdeal.nD Cert.DyaPreIdeal.τ).loc Cert.DyaPreIdeal.main_arg1)) →
    ∃ (v0 : (c : Dev Cert.DyaPreIdeal.nD) → Buf (Elt Ideal) ((c.tc : Thread Cert.DyaPreIdeal.nD Cert.DyaPreIdeal.τ).loc Cert.DyaPreIdeal.main_v0)),
      θ_run (Cert.DyaPreIdeal.defs (F := Ideal)) (onTc (τ := Cert.DyaPreIdeal.τ) (Cert.DyaPreIdeal.main (F := Ideal))) ⟨m, fun _ => 0, g⟩ (fun r => ∀ c : Dev Cert.DyaPreIdeal.nD,
          r.2.mem ((c.tc : Thread Cert.DyaPreIdeal.nD Cert.DyaPreIdeal.τ).loc Cert.DyaPreIdeal.main_v0) = v0 c
          ∧ r.2.mem ((c.tc : Thread Cert.DyaPreIdeal.nD Cert.DyaPreIdeal.τ).loc Cert.DyaPreIdeal.main_arg0) = m ((c.tc : Thread Cert.DyaPreIdeal.nD Cert.DyaPreIdeal.τ).loc Cert.DyaPreIdeal.main_arg0)
          ∧ r.2.mem ((c.tc : Thread Cert.DyaPreIdeal.nD Cert.DyaPreIdeal.τ).loc Cert.DyaPreIdeal.main_arg1) = m ((c.tc : Thread Cert.DyaPreIdeal.nD Cert.DyaPreIdeal.τ).loc Cert.DyaPreIdeal.main_arg1))
      ∧ θ_run (Cert.DyaPreRefIdeal.defs (F := Ideal)) (onTc (τ := Cert.DyaPreRefIdeal.τ) (Cert.DyaPreRefIdeal.main (F := Ideal))) ⟨m', fun _ => 0, g'⟩ (fun r => ∀ c : Dev Cert.DyaPreRefIdeal.nD,
          r.2.mem ((c.tc : Thread Cert.DyaPreRefIdeal.nD Cert.DyaPreRefIdeal.τ).loc Cert.DyaPreRefIdeal.main_v6) = v0 c
          ∧ r.2.mem ((c.tc : Thread Cert.DyaPreRefIdeal.nD Cert.DyaPreRefIdeal.τ).loc Cert.DyaPreRefIdeal.main_arg0) = m' ((c.tc : Thread Cert.DyaPreRefIdeal.nD Cert.DyaPreRefIdeal.τ).loc Cert.DyaPreRefIdeal.main_arg0)
          ∧ r.2.mem ((c.tc : Thread Cert.DyaPreRefIdeal.nD Cert.DyaPreRefIdeal.τ).loc Cert.DyaPreRefIdeal.main_arg1) = m' ((c.tc : Thread Cert.DyaPreRefIdeal.nD Cert.DyaPreRefIdeal.τ).loc Cert.DyaPreRefIdeal.main_arg1))

def preserves_DwA_DwAIdeal : Prop :=
  True

def algebraic_DwAIdeal_DwARefIdeal [hDwAIdeal : Cert.DwAIdeal.Facts] [hDwARefIdeal : Cert.DwARefIdeal.Facts] : Prop :=
  ∀ (m : (ℓ : Loc Cert.DwAIdeal.nD Cert.DwAIdeal.τ Cert.DwAIdeal.sig) → Buf (Elt Ideal) ℓ) (g : Dev Cert.DwAIdeal.nD → PrngReg)
    (m' : (ℓ : Loc Cert.DwARefIdeal.nD Cert.DwARefIdeal.τ Cert.DwARefIdeal.sig) → Buf (Elt Ideal) ℓ) (g' : Dev Cert.DwARefIdeal.nD → PrngReg), Pre_DwAIdeal m →
    (∀ c : Dev Cert.DwAIdeal.nD,
      m' ((c.tc : Thread Cert.DwARefIdeal.nD Cert.DwARefIdeal.τ).loc Cert.DwARefIdeal.main_arg0) = m ((c.tc : Thread Cert.DwAIdeal.nD Cert.DwAIdeal.τ).loc Cert.DwAIdeal.main_arg0)
      ∧ m' ((c.tc : Thread Cert.DwARefIdeal.nD Cert.DwARefIdeal.τ).loc Cert.DwARefIdeal.main_arg1) = m ((c.tc : Thread Cert.DwAIdeal.nD Cert.DwAIdeal.τ).loc Cert.DwAIdeal.main_arg1)) →
    ∃ (v0 : (c : Dev Cert.DwAIdeal.nD) → Buf (Elt Ideal) ((c.tc : Thread Cert.DwAIdeal.nD Cert.DwAIdeal.τ).loc Cert.DwAIdeal.main_v0)),
      θ_run (Cert.DwAIdeal.defs (F := Ideal)) (onTc (τ := Cert.DwAIdeal.τ) (Cert.DwAIdeal.main (F := Ideal))) ⟨m, fun _ => 0, g⟩ (fun r => ∀ c : Dev Cert.DwAIdeal.nD,
          r.2.mem ((c.tc : Thread Cert.DwAIdeal.nD Cert.DwAIdeal.τ).loc Cert.DwAIdeal.main_v0) = v0 c
          ∧ r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
          ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ θ_run (Cert.DwARefIdeal.defs (F := Ideal)) (onTc (τ := Cert.DwARefIdeal.τ) (Cert.DwARefIdeal.main (F := Ideal))) ⟨m', fun _ => 0, g'⟩ (fun r => ∀ c : Dev Cert.DwARefIdeal.nD,
          r.2.mem ((c.tc : Thread Cert.DwARefIdeal.nD Cert.DwARefIdeal.τ).loc Cert.DwARefIdeal.main_v9) = v0 c
          ∧ r.2.mem ((c.tc : Thread Cert.DwARefIdeal.nD Cert.DwARefIdeal.τ).loc Cert.DwARefIdeal.main_arg0) = m' ((c.tc : Thread Cert.DwARefIdeal.nD Cert.DwARefIdeal.τ).loc Cert.DwARefIdeal.main_arg0)
          ∧ r.2.mem ((c.tc : Thread Cert.DwARefIdeal.nD Cert.DwARefIdeal.τ).loc Cert.DwARefIdeal.main_arg1) = m' ((c.tc : Thread Cert.DwARefIdeal.nD Cert.DwARefIdeal.τ).loc Cert.DwARefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v2) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_DaFf1_DaFf1Ideal : Prop :=
  True

def algebraic_DaFf1Ideal_DaFf1RefIdeal [hDaFf1Ideal : Cert.DaFf1Ideal.Facts] [hDaFf1RefIdeal : Cert.DaFf1RefIdeal.Facts] : Prop :=
  ∀ (m : (ℓ : Loc Cert.DaFf1Ideal.nD Cert.DaFf1Ideal.τ Cert.DaFf1Ideal.sig) → Buf (Elt Ideal) ℓ) (g : Dev Cert.DaFf1Ideal.nD → PrngReg)
    (m' : (ℓ : Loc Cert.DaFf1RefIdeal.nD Cert.DaFf1RefIdeal.τ Cert.DaFf1RefIdeal.sig) → Buf (Elt Ideal) ℓ) (g' : Dev Cert.DaFf1RefIdeal.nD → PrngReg), Pre_DaFf1Ideal m →
    (∀ c : Dev Cert.DaFf1Ideal.nD,
      m' ((c.tc : Thread Cert.DaFf1RefIdeal.nD Cert.DaFf1RefIdeal.τ).loc Cert.DaFf1RefIdeal.main_arg0) = m ((c.tc : Thread Cert.DaFf1Ideal.nD Cert.DaFf1Ideal.τ).loc Cert.DaFf1Ideal.main_arg0)
      ∧ m' ((c.tc : Thread Cert.DaFf1RefIdeal.nD Cert.DaFf1RefIdeal.τ).loc Cert.DaFf1RefIdeal.main_arg1) = m ((c.tc : Thread Cert.DaFf1Ideal.nD Cert.DaFf1Ideal.τ).loc Cert.DaFf1Ideal.main_arg1)) →
    ∃ (v0 : (c : Dev Cert.DaFf1Ideal.nD) → Buf (Elt Ideal) ((c.tc : Thread Cert.DaFf1Ideal.nD Cert.DaFf1Ideal.τ).loc Cert.DaFf1Ideal.main_v0)),
      θ_run (Cert.DaFf1Ideal.defs (F := Ideal)) (onTc (τ := Cert.DaFf1Ideal.τ) (Cert.DaFf1Ideal.main (F := Ideal))) ⟨m, fun _ => 0, g⟩ (fun r => ∀ c : Dev Cert.DaFf1Ideal.nD,
          r.2.mem ((c.tc : Thread Cert.DaFf1Ideal.nD Cert.DaFf1Ideal.τ).loc Cert.DaFf1Ideal.main_v0) = v0 c
          ∧ r.2.mem ((c.tc : Thread Cert.DaFf1Ideal.nD Cert.DaFf1Ideal.τ).loc Cert.DaFf1Ideal.main_arg0) = m ((c.tc : Thread Cert.DaFf1Ideal.nD Cert.DaFf1Ideal.τ).loc Cert.DaFf1Ideal.main_arg0)
          ∧ r.2.mem ((c.tc : Thread Cert.DaFf1Ideal.nD Cert.DaFf1Ideal.τ).loc Cert.DaFf1Ideal.main_arg1) = m ((c.tc : Thread Cert.DaFf1Ideal.nD Cert.DaFf1Ideal.τ).loc Cert.DaFf1Ideal.main_arg1))
      ∧ θ_run (Cert.DaFf1RefIdeal.defs (F := Ideal)) (onTc (τ := Cert.DaFf1RefIdeal.τ) (Cert.DaFf1RefIdeal.main (F := Ideal))) ⟨m', fun _ => 0, g'⟩ (fun r => ∀ c : Dev Cert.DaFf1RefIdeal.nD,
          r.2.mem ((c.tc : Thread Cert.DaFf1RefIdeal.nD Cert.DaFf1RefIdeal.τ).loc Cert.DaFf1RefIdeal.main_v6) = v0 c
          ∧ r.2.mem ((c.tc : Thread Cert.DaFf1RefIdeal.nD Cert.DaFf1RefIdeal.τ).loc Cert.DaFf1RefIdeal.main_arg0) = m' ((c.tc : Thread Cert.DaFf1RefIdeal.nD Cert.DaFf1RefIdeal.τ).loc Cert.DaFf1RefIdeal.main_arg0)
          ∧ r.2.mem ((c.tc : Thread Cert.DaFf1RefIdeal.nD Cert.DaFf1RefIdeal.τ).loc Cert.DaFf1RefIdeal.main_arg1) = m' ((c.tc : Thread Cert.DaFf1RefIdeal.nD Cert.DaFf1RefIdeal.τ).loc Cert.DaFf1RefIdeal.main_arg1))

def preserves_DwFf1_DwFf1Ideal : Prop :=
  True

def algebraic_DwFf1Ideal_DwFf1RefIdeal [hDwFf1Ideal : Cert.DwFf1Ideal.Facts] [hDwFf1RefIdeal : Cert.DwFf1RefIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1RefIdeal.nD Cert.DwFf1RefIdeal.τ Cert.DwFf1RefIdeal.sig) → Buf (Elt Ideal) ℓ) (g' : Dev Cert.DwFf1RefIdeal.nD → PrngReg), Pre_DwFf1Ideal m →
    (∀ c : Dev Cert.DwFf1Ideal.nD,
      m' ((c.tc : Thread Cert.DwFf1RefIdeal.nD Cert.DwFf1RefIdeal.τ).loc Cert.DwFf1RefIdeal.main_arg0) = m ((c.tc : Thread Cert.DwFf1Ideal.nD Cert.DwFf1Ideal.τ).loc Cert.DwFf1Ideal.main_arg0)
      ∧ m' ((c.tc : Thread Cert.DwFf1RefIdeal.nD Cert.DwFf1RefIdeal.τ).loc Cert.DwFf1RefIdeal.main_arg1) = m ((c.tc : Thread Cert.DwFf1Ideal.nD Cert.DwFf1Ideal.τ).loc Cert.DwFf1Ideal.main_arg1)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ θ_run (Cert.DwFf1RefIdeal.defs (F := Ideal)) (onTc (τ := Cert.DwFf1RefIdeal.τ) (Cert.DwFf1RefIdeal.main (F := Ideal))) ⟨m', fun _ => 0, g'⟩ (fun r => ∀ c : Dev Cert.DwFf1RefIdeal.nD,
          r.2.mem ((c.tc : Thread Cert.DwFf1RefIdeal.nD Cert.DwFf1RefIdeal.τ).loc Cert.DwFf1RefIdeal.main_v9) = v0 c
          ∧ r.2.mem ((c.tc : Thread Cert.DwFf1RefIdeal.nD Cert.DwFf1RefIdeal.τ).loc Cert.DwFf1RefIdeal.main_arg0) = m' ((c.tc : Thread Cert.DwFf1RefIdeal.nD Cert.DwFf1RefIdeal.τ).loc Cert.DwFf1RefIdeal.main_arg0)
          ∧ r.2.mem ((c.tc : Thread Cert.DwFf1RefIdeal.nD Cert.DwFf1RefIdeal.τ).loc Cert.DwFf1RefIdeal.main_arg1) = m' ((c.tc : Thread Cert.DwFf1RefIdeal.nD Cert.DwFf1RefIdeal.τ).loc Cert.DwFf1RefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v9) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DaIn_DaInIdeal : Prop :=
  True

def algebraic_DaInIdeal_DaInRefIdeal [hDaInIdeal : Cert.DaInIdeal.Facts] [hDaInRefIdeal : Cert.DaInRefIdeal.Facts] : Prop :=
  ∀ (m : (ℓ : Loc Cert.DaInIdeal.nD Cert.DaInIdeal.τ Cert.DaInIdeal.sig) → Buf (Elt Ideal) ℓ) (g : Dev Cert.DaInIdeal.nD → PrngReg)
    (m' : (ℓ : Loc Cert.DaInRefIdeal.nD Cert.DaInRefIdeal.τ Cert.DaInRefIdeal.sig) → Buf (Elt Ideal) ℓ) (g' : Dev Cert.DaInRefIdeal.nD → PrngReg), Pre_DaInIdeal m →
    (∀ c : Dev Cert.DaInIdeal.nD,
      m' ((c.tc : Thread Cert.DaInRefIdeal.nD Cert.DaInRefIdeal.τ).loc Cert.DaInRefIdeal.main_arg0) = m ((c.tc : Thread Cert.DaInIdeal.nD Cert.DaInIdeal.τ).loc Cert.DaInIdeal.main_arg0)
      ∧ m' ((c.tc : Thread Cert.DaInRefIdeal.nD Cert.DaInRefIdeal.τ).loc Cert.DaInRefIdeal.main_arg1) = m ((c.tc : Thread Cert.DaInIdeal.nD Cert.DaInIdeal.τ).loc Cert.DaInIdeal.main_arg1)) →
    ∃ (v0 : (c : Dev Cert.DaInIdeal.nD) → Buf (Elt Ideal) ((c.tc : Thread Cert.DaInIdeal.nD Cert.DaInIdeal.τ).loc Cert.DaInIdeal.main_v0)),
      θ_run (Cert.DaInIdeal.defs (F := Ideal)) (onTc (τ := Cert.DaInIdeal.τ) (Cert.DaInIdeal.main (F := Ideal))) ⟨m, fun _ => 0, g⟩ (fun r => ∀ c : Dev Cert.DaInIdeal.nD,
          r.2.mem ((c.tc : Thread Cert.DaInIdeal.nD Cert.DaInIdeal.τ).loc Cert.DaInIdeal.main_v0) = v0 c
          ∧ r.2.mem ((c.tc : Thread Cert.DaInIdeal.nD Cert.DaInIdeal.τ).loc Cert.DaInIdeal.main_arg0) = m ((c.tc : Thread Cert.DaInIdeal.nD Cert.DaInIdeal.τ).loc Cert.DaInIdeal.main_arg0)
          ∧ r.2.mem ((c.tc : Thread Cert.DaInIdeal.nD Cert.DaInIdeal.τ).loc Cert.DaInIdeal.main_arg1) = m ((c.tc : Thread Cert.DaInIdeal.nD Cert.DaInIdeal.τ).loc Cert.DaInIdeal.main_arg1))
      ∧ θ_run (Cert.DaInRefIdeal.defs (F := Ideal)) (onTc (τ := Cert.DaInRefIdeal.τ) (Cert.DaInRefIdeal.main (F := Ideal))) ⟨m', fun _ => 0, g'⟩ (fun r => ∀ c : Dev Cert.DaInRefIdeal.nD,
          r.2.mem ((c.tc : Thread Cert.DaInRefIdeal.nD Cert.DaInRefIdeal.τ).loc Cert.DaInRefIdeal.main_v6) = v0 c
          ∧ r.2.mem ((c.tc : Thread Cert.DaInRefIdeal.nD Cert.DaInRefIdeal.τ).loc Cert.DaInRefIdeal.main_arg0) = m' ((c.tc : Thread Cert.DaInRefIdeal.nD Cert.DaInRefIdeal.τ).loc Cert.DaInRefIdeal.main_arg0)
          ∧ r.2.mem ((c.tc : Thread Cert.DaInRefIdeal.nD Cert.DaInRefIdeal.τ).loc Cert.DaInRefIdeal.main_arg1) = m' ((c.tc : Thread Cert.DaInRefIdeal.nD Cert.DaInRefIdeal.τ).loc Cert.DaInRefIdeal.main_arg1))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v7) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v18) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3))

def preserves_ModMatmul_ModMatmulIdeal : Prop :=
  True

def algebraic_ModMatmulIdeal_ModMatmulRefIdeal [hModMatmulIdeal : Cert.ModMatmulIdeal.Facts] [hModMatmulRefIdeal : Cert.ModMatmulRefIdeal.Facts] : Prop :=
  ∀ (m : (ℓ : Loc Cert.ModMatmulIdeal.nD Cert.ModMatmulIdeal.τ Cert.ModMatmulIdeal.sig) → Buf (Elt Ideal) ℓ) (g : Dev Cert.ModMatmulIdeal.nD → PrngReg)
    (m' : (ℓ : Loc Cert.ModMatmulRefIdeal.nD Cert.ModMatmulRefIdeal.τ Cert.ModMatmulRefIdeal.sig) → Buf (Elt Ideal) ℓ) (g' : Dev Cert.ModMatmulRefIdeal.nD → PrngReg), Pre_ModMatmulIdeal m →
    (∀ c : Dev Cert.ModMatmulIdeal.nD,
      m' ((c.tc : Thread Cert.ModMatmulRefIdeal.nD Cert.ModMatmulRefIdeal.τ).loc Cert.ModMatmulRefIdeal.main_arg0) = m ((c.tc : Thread Cert.ModMatmulIdeal.nD Cert.ModMatmulIdeal.τ).loc Cert.ModMatmulIdeal.main_arg0)
      ∧ m' ((c.tc : Thread Cert.ModMatmulRefIdeal.nD Cert.ModMatmulRefIdeal.τ).loc Cert.ModMatmulRefIdeal.main_arg1) = m ((c.tc : Thread Cert.ModMatmulIdeal.nD Cert.ModMatmulIdeal.τ).loc Cert.ModMatmulIdeal.main_arg1)
      ∧ m' ((c.tc : Thread Cert.ModMatmulRefIdeal.nD Cert.ModMatmulRefIdeal.τ).loc Cert.ModMatmulRefIdeal.main_arg2) = m ((c.tc : Thread Cert.ModMatmulIdeal.nD Cert.ModMatmulIdeal.τ).loc Cert.ModMatmulIdeal.main_arg2)) →
    ∃ (v0 : (c : Dev Cert.ModMatmulIdeal.nD) → Buf (Elt Ideal) ((c.tc : Thread Cert.ModMatmulIdeal.nD Cert.ModMatmulIdeal.τ).loc Cert.ModMatmulIdeal.main_v0)),
      θ_run (Cert.ModMatmulIdeal.defs (F := Ideal)) (onTc (τ := Cert.ModMatmulIdeal.τ) (Cert.ModMatmulIdeal.main (F := Ideal))) ⟨m, fun _ => 0, g⟩ (fun r => ∀ c : Dev Cert.ModMatmulIdeal.nD,
          r.2.mem ((c.tc : Thread Cert.ModMatmulIdeal.nD Cert.ModMatmulIdeal.τ).loc Cert.ModMatmulIdeal.main_v0) = v0 c
          ∧ r.2.mem ((c.tc : Thread Cert.ModMatmulIdeal.nD Cert.ModMatmulIdeal.τ).loc Cert.ModMatmulIdeal.main_arg0) = m ((c.tc : Thread Cert.ModMatmulIdeal.nD Cert.ModMatmulIdeal.τ).loc Cert.ModMatmulIdeal.main_arg0)
          ∧ r.2.mem ((c.tc : Thread Cert.ModMatmulIdeal.nD Cert.ModMatmulIdeal.τ).loc Cert.ModMatmulIdeal.main_arg1) = m ((c.tc : Thread Cert.ModMatmulIdeal.nD Cert.ModMatmulIdeal.τ).loc Cert.ModMatmulIdeal.main_arg1)
          ∧ r.2.mem ((c.tc : Thread Cert.ModMatmulIdeal.nD Cert.ModMatmulIdeal.τ).loc Cert.ModMatmulIdeal.main_arg2) = m ((c.tc : Thread Cert.ModMatmulIdeal.nD Cert.ModMatmulIdeal.τ).loc Cert.ModMatmulIdeal.main_arg2))
      ∧ θ_run (Cert.ModMatmulRefIdeal.defs (F := Ideal)) (onTc (τ := Cert.ModMatmulRefIdeal.τ) (Cert.ModMatmulRefIdeal.main (F := Ideal))) ⟨m', fun _ => 0, g'⟩ (fun r => ∀ c : Dev Cert.ModMatmulRefIdeal.nD,
          r.2.mem ((c.tc : Thread Cert.ModMatmulRefIdeal.nD Cert.ModMatmulRefIdeal.τ).loc Cert.ModMatmulRefIdeal.main_v3) = v0 c
          ∧ r.2.mem ((c.tc : Thread Cert.ModMatmulRefIdeal.nD Cert.ModMatmulRefIdeal.τ).loc Cert.ModMatmulRefIdeal.main_arg0) = m' ((c.tc : Thread Cert.ModMatmulRefIdeal.nD Cert.ModMatmulRefIdeal.τ).loc Cert.ModMatmulRefIdeal.main_arg0)
          ∧ r.2.mem ((c.tc : Thread Cert.ModMatmulRefIdeal.nD Cert.ModMatmulRefIdeal.τ).loc Cert.ModMatmulRefIdeal.main_arg1) = m' ((c.tc : Thread Cert.ModMatmulRefIdeal.nD Cert.ModMatmulRefIdeal.τ).loc Cert.ModMatmulRefIdeal.main_arg1)
          ∧ r.2.mem ((c.tc : Thread Cert.ModMatmulRefIdeal.nD Cert.ModMatmulRefIdeal.τ).loc Cert.ModMatmulRefIdeal.main_arg2) = m' ((c.tc : Thread Cert.ModMatmulRefIdeal.nD Cert.ModMatmulRefIdeal.τ).loc Cert.ModMatmulRefIdeal.main_arg2))

def preserves_WadaUpdate_WadaUpdateIdeal : Prop :=
  True

def algebraic_WadaUpdateIdeal_WadaUpdateRefIdeal [hWadaUpdateIdeal : Cert.WadaUpdateIdeal.Facts] [hWadaUpdateRefIdeal : Cert.WadaUpdateRefIdeal.Facts] : Prop :=
  ∀ (m : (ℓ : Loc Cert.WadaUpdateIdeal.nD Cert.WadaUpdateIdeal.τ Cert.WadaUpdateIdeal.sig) → Buf (Elt Ideal) ℓ) (g : Dev Cert.WadaUpdateIdeal.nD → PrngReg)
    (m' : (ℓ : Loc Cert.WadaUpdateRefIdeal.nD Cert.WadaUpdateRefIdeal.τ Cert.WadaUpdateRefIdeal.sig) → Buf (Elt Ideal) ℓ) (g' : Dev Cert.WadaUpdateRefIdeal.nD → PrngReg), Pre_WadaUpdateIdeal m →
    (∀ c : Dev Cert.WadaUpdateIdeal.nD,
      m' ((c.tc : Thread Cert.WadaUpdateRefIdeal.nD Cert.WadaUpdateRefIdeal.τ).loc Cert.WadaUpdateRefIdeal.main_arg0) = m ((c.tc : Thread Cert.WadaUpdateIdeal.nD Cert.WadaUpdateIdeal.τ).loc Cert.WadaUpdateIdeal.main_arg0)
      ∧ m' ((c.tc : Thread Cert.WadaUpdateRefIdeal.nD Cert.WadaUpdateRefIdeal.τ).loc Cert.WadaUpdateRefIdeal.main_arg1) = m ((c.tc : Thread Cert.WadaUpdateIdeal.nD Cert.WadaUpdateIdeal.τ).loc Cert.WadaUpdateIdeal.main_arg1)
      ∧ m' ((c.tc : Thread Cert.WadaUpdateRefIdeal.nD Cert.WadaUpdateRefIdeal.τ).loc Cert.WadaUpdateRefIdeal.main_arg2) = m ((c.tc : Thread Cert.WadaUpdateIdeal.nD Cert.WadaUpdateIdeal.τ).loc Cert.WadaUpdateIdeal.main_arg2)
      ∧ m' ((c.tc : Thread Cert.WadaUpdateRefIdeal.nD Cert.WadaUpdateRefIdeal.τ).loc Cert.WadaUpdateRefIdeal.main_arg3) = m ((c.tc : Thread Cert.WadaUpdateIdeal.nD Cert.WadaUpdateIdeal.τ).loc Cert.WadaUpdateIdeal.main_arg3)
      ∧ m' ((c.tc : Thread Cert.WadaUpdateRefIdeal.nD Cert.WadaUpdateRefIdeal.τ).loc Cert.WadaUpdateRefIdeal.main_arg4) = m ((c.tc : Thread Cert.WadaUpdateIdeal.nD Cert.WadaUpdateIdeal.τ).loc Cert.WadaUpdateIdeal.main_arg4)) →
    ∃ (v0 : (c : Dev Cert.WadaUpdateIdeal.nD) → Buf (Elt Ideal) ((c.tc : Thread Cert.WadaUpdateIdeal.nD Cert.WadaUpdateIdeal.τ).loc Cert.WadaUpdateIdeal.main_v0_0)) (v1 : (c : Dev Cert.WadaUpdateIdeal.nD) → Buf (Elt Ideal) ((c.tc : Thread Cert.WadaUpdateIdeal.nD Cert.WadaUpdateIdeal.τ).loc Cert.WadaUpdateIdeal.main_v0_1)) (v2 : (c : Dev Cert.WadaUpdateIdeal.nD) → Buf (Elt Ideal) ((c.tc : Thread Cert.WadaUpdateIdeal.nD Cert.WadaUpdateIdeal.τ).loc Cert.WadaUpdateIdeal.main_v0_2)) (v3 : (c : Dev Cert.WadaUpdateIdeal.nD) → Buf (Elt Ideal) ((c.tc : Thread Cert.WadaUpdateIdeal.nD Cert.WadaUpdateIdeal.τ).loc Cert.WadaUpdateIdeal.main_v0_3)),
      θ_run (Cert.WadaUpdateIdeal.defs (F := Ideal)) (onTc (τ := Cert.WadaUpdateIdeal.τ) (Cert.WadaUpdateIdeal.main (F := Ideal))) ⟨m, fun _ => 0, g⟩ (fun r => ∀ c : Dev Cert.WadaUpdateIdeal.nD,
          r.2.mem ((c.tc : Thread Cert.WadaUpdateIdeal.nD Cert.WadaUpdateIdeal.τ).loc Cert.WadaUpdateIdeal.main_v0_0) = v0 c
          ∧ r.2.mem ((c.tc : Thread Cert.WadaUpdateIdeal.nD Cert.WadaUpdateIdeal.τ).loc Cert.WadaUpdateIdeal.main_v0_1) = v1 c
          ∧ r.2.mem ((c.tc : Thread Cert.WadaUpdateIdeal.nD Cert.WadaUpdateIdeal.τ).loc Cert.WadaUpdateIdeal.main_v0_2) = v2 c
          ∧ r.2.mem ((c.tc : Thread Cert.WadaUpdateIdeal.nD Cert.WadaUpdateIdeal.τ).loc Cert.WadaUpdateIdeal.main_v0_3) = v3 c
          ∧ r.2.mem ((c.tc : Thread Cert.WadaUpdateIdeal.nD Cert.WadaUpdateIdeal.τ).loc Cert.WadaUpdateIdeal.main_arg0) = m ((c.tc : Thread Cert.WadaUpdateIdeal.nD Cert.WadaUpdateIdeal.τ).loc Cert.WadaUpdateIdeal.main_arg0)
          ∧ r.2.mem ((c.tc : Thread Cert.WadaUpdateIdeal.nD Cert.WadaUpdateIdeal.τ).loc Cert.WadaUpdateIdeal.main_arg1) = m ((c.tc : Thread Cert.WadaUpdateIdeal.nD Cert.WadaUpdateIdeal.τ).loc Cert.WadaUpdateIdeal.main_arg1)
          ∧ r.2.mem ((c.tc : Thread Cert.WadaUpdateIdeal.nD Cert.WadaUpdateIdeal.τ).loc Cert.WadaUpdateIdeal.main_arg2) = m ((c.tc : Thread Cert.WadaUpdateIdeal.nD Cert.WadaUpdateIdeal.τ).loc Cert.WadaUpdateIdeal.main_arg2)
          ∧ r.2.mem ((c.tc : Thread Cert.WadaUpdateIdeal.nD Cert.WadaUpdateIdeal.τ).loc Cert.WadaUpdateIdeal.main_arg3) = m ((c.tc : Thread Cert.WadaUpdateIdeal.nD Cert.WadaUpdateIdeal.τ).loc Cert.WadaUpdateIdeal.main_arg3)
          ∧ r.2.mem ((c.tc : Thread Cert.WadaUpdateIdeal.nD Cert.WadaUpdateIdeal.τ).loc Cert.WadaUpdateIdeal.main_arg4) = m ((c.tc : Thread Cert.WadaUpdateIdeal.nD Cert.WadaUpdateIdeal.τ).loc Cert.WadaUpdateIdeal.main_arg4))
      ∧ θ_run (Cert.WadaUpdateRefIdeal.defs (F := Ideal)) (onTc (τ := Cert.WadaUpdateRefIdeal.τ) (Cert.WadaUpdateRefIdeal.main (F := Ideal))) ⟨m', fun _ => 0, g'⟩ (fun r => ∀ c : Dev Cert.WadaUpdateRefIdeal.nD,
          r.2.mem ((c.tc : Thread Cert.WadaUpdateRefIdeal.nD Cert.WadaUpdateRefIdeal.τ).loc Cert.WadaUpdateRefIdeal.main_v3) = v0 c
          ∧ r.2.mem ((c.tc : Thread Cert.WadaUpdateRefIdeal.nD Cert.WadaUpdateRefIdeal.τ).loc Cert.WadaUpdateRefIdeal.main_v27) = v1 c
          ∧ r.2.mem ((c.tc : Thread Cert.WadaUpdateRefIdeal.nD Cert.WadaUpdateRefIdeal.τ).loc Cert.WadaUpdateRefIdeal.main_v8) = v2 c
          ∧ r.2.mem ((c.tc : Thread Cert.WadaUpdateRefIdeal.nD Cert.WadaUpdateRefIdeal.τ).loc Cert.WadaUpdateRefIdeal.main_v14) = v3 c
          ∧ r.2.mem ((c.tc : Thread Cert.WadaUpdateRefIdeal.nD Cert.WadaUpdateRefIdeal.τ).loc Cert.WadaUpdateRefIdeal.main_arg0) = m' ((c.tc : Thread Cert.WadaUpdateRefIdeal.nD Cert.WadaUpdateRefIdeal.τ).loc Cert.WadaUpdateRefIdeal.main_arg0)
          ∧ r.2.mem ((c.tc : Thread Cert.WadaUpdateRefIdeal.nD Cert.WadaUpdateRefIdeal.τ).loc Cert.WadaUpdateRefIdeal.main_arg1) = m' ((c.tc : Thread Cert.WadaUpdateRefIdeal.nD Cert.WadaUpdateRefIdeal.τ).loc Cert.WadaUpdateRefIdeal.main_arg1)
          ∧ r.2.mem ((c.tc : Thread Cert.WadaUpdateRefIdeal.nD Cert.WadaUpdateRefIdeal.τ).loc Cert.WadaUpdateRefIdeal.main_arg2) = m' ((c.tc : Thread Cert.WadaUpdateRefIdeal.nD Cert.WadaUpdateRefIdeal.τ).loc Cert.WadaUpdateRefIdeal.main_arg2)
          ∧ r.2.mem ((c.tc : Thread Cert.WadaUpdateRefIdeal.nD Cert.WadaUpdateRefIdeal.τ).loc Cert.WadaUpdateRefIdeal.main_arg3) = m' ((c.tc : Thread Cert.WadaUpdateRefIdeal.nD Cert.WadaUpdateRefIdeal.τ).loc Cert.WadaUpdateRefIdeal.main_arg3)
          ∧ r.2.mem ((c.tc : Thread Cert.WadaUpdateRefIdeal.nD Cert.WadaUpdateRefIdeal.τ).loc Cert.WadaUpdateRefIdeal.main_arg4) = m' ((c.tc : Thread Cert.WadaUpdateRefIdeal.nD Cert.WadaUpdateRefIdeal.τ).loc Cert.WadaUpdateRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_MixNormBwd_MixNormBwdIdeal : Prop :=
  True

def algebraic_MixNormBwdIdeal_MixNormBwdRefIdeal [hMixNormBwdIdeal : Cert.MixNormBwdIdeal.Facts] [hMixNormBwdRefIdeal : Cert.MixNormBwdRefIdeal.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg)
    (m' : (ℓ : Loc Cert.MixNormBwdRefIdeal.nD Cert.MixNormBwdRefIdeal.τ Cert.MixNormBwdRefIdeal.sig) → Buf (Elt Ideal) ℓ) (g' : Dev Cert.MixNormBwdRefIdeal.nD → PrngReg), Pre_MixNormBwdIdeal m →
    (∀ c : Dev Cert.MixNormBwdIdeal.nD,
      m' ((c.tc : Thread Cert.MixNormBwdRefIdeal.nD Cert.MixNormBwdRefIdeal.τ).loc Cert.MixNormBwdRefIdeal.main_arg0) = m ((c.tc : Thread Cert.MixNormBwdIdeal.nD Cert.MixNormBwdIdeal.τ).loc Cert.MixNormBwdIdeal.main_arg0)
      ∧ m' ((c.tc : Thread Cert.MixNormBwdRefIdeal.nD Cert.MixNormBwdRefIdeal.τ).loc Cert.MixNormBwdRefIdeal.main_arg1) = m ((c.tc : Thread Cert.MixNormBwdIdeal.nD Cert.MixNormBwdIdeal.τ).loc Cert.MixNormBwdIdeal.main_arg1)
      ∧ m' ((c.tc : Thread Cert.MixNormBwdRefIdeal.nD Cert.MixNormBwdRefIdeal.τ).loc Cert.MixNormBwdRefIdeal.main_arg2) = m ((c.tc : Thread Cert.MixNormBwdIdeal.nD Cert.MixNormBwdIdeal.τ).loc Cert.MixNormBwdIdeal.main_arg2)
      ∧ m' ((c.tc : Thread Cert.MixNormBwdRefIdeal.nD Cert.MixNormBwdRefIdeal.τ).loc Cert.MixNormBwdRefIdeal.main_arg3) = m ((c.tc : Thread Cert.MixNormBwdIdeal.nD Cert.MixNormBwdIdeal.τ).loc Cert.MixNormBwdIdeal.main_arg3)
      ∧ m' ((c.tc : Thread Cert.MixNormBwdRefIdeal.nD Cert.MixNormBwdRefIdeal.τ).loc Cert.MixNormBwdRefIdeal.main_arg4) = m ((c.tc : Thread Cert.MixNormBwdIdeal.nD Cert.MixNormBwdIdeal.τ).loc Cert.MixNormBwdIdeal.main_arg4)) →
    ∃ (v0 : (c : Dev Cert.MixNormBwdIdeal.nD) → Buf (Elt Ideal) ((c.tc : Thread Cert.MixNormBwdIdeal.nD Cert.MixNormBwdIdeal.τ).loc Cert.MixNormBwdIdeal.main_v0_0)) (v1 : (c : Dev Cert.MixNormBwdIdeal.nD) → Buf (Elt Ideal) ((c.tc : Thread Cert.MixNormBwdIdeal.nD Cert.MixNormBwdIdeal.τ).loc Cert.MixNormBwdIdeal.main_v0_1)) (v2 : (c : Dev Cert.MixNormBwdIdeal.nD) → Buf (Elt Ideal) ((c.tc : Thread Cert.MixNormBwdIdeal.nD Cert.MixNormBwdIdeal.τ).loc Cert.MixNormBwdIdeal.main_v0_2)) (v3 : (c : Dev Cert.MixNormBwdIdeal.nD) → Buf (Elt Ideal) ((c.tc : Thread Cert.MixNormBwdIdeal.nD Cert.MixNormBwdIdeal.τ).loc Cert.MixNormBwdIdeal.main_v0_3)),
      θ_run (Cert.MixNormBwdIdeal.defs (F := Ideal)) (onTc (τ := Cert.MixNormBwdIdeal.τ) (Cert.MixNormBwdIdeal.main (F := Ideal))) ⟨m, fun _ => 0, g⟩ (fun r => ∀ c : Dev Cert.MixNormBwdIdeal.nD,
          r.2.mem ((c.tc : Thread Cert.MixNormBwdIdeal.nD Cert.MixNormBwdIdeal.τ).loc Cert.MixNormBwdIdeal.main_v0_0) = v0 c
          ∧ r.2.mem ((c.tc : Thread Cert.MixNormBwdIdeal.nD Cert.MixNormBwdIdeal.τ).loc Cert.MixNormBwdIdeal.main_v0_1) = v1 c
          ∧ r.2.mem ((c.tc : Thread Cert.MixNormBwdIdeal.nD Cert.MixNormBwdIdeal.τ).loc Cert.MixNormBwdIdeal.main_v0_2) = v2 c
          ∧ r.2.mem ((c.tc : Thread Cert.MixNormBwdIdeal.nD Cert.MixNormBwdIdeal.τ).loc Cert.MixNormBwdIdeal.main_v0_3) = v3 c
          ∧ r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
          ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
          ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
          ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
          ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4))
      ∧ θ_run (Cert.MixNormBwdRefIdeal.defs (F := Ideal)) (onTc (τ := Cert.MixNormBwdRefIdeal.τ) (Cert.MixNormBwdRefIdeal.main (F := Ideal))) ⟨m', fun _ => 0, g'⟩ (fun r => ∀ c : Dev Cert.MixNormBwdRefIdeal.nD,
          r.2.mem ((c.tc : Thread Cert.MixNormBwdRefIdeal.nD Cert.MixNormBwdRefIdeal.τ).loc Cert.MixNormBwdRefIdeal.main_v49) = v0 c
          ∧ r.2.mem ((c.tc : Thread Cert.MixNormBwdRefIdeal.nD Cert.MixNormBwdRefIdeal.τ).loc Cert.MixNormBwdRefIdeal.main_v24) = v1 c
          ∧ r.2.mem ((c.tc : Thread Cert.MixNormBwdRefIdeal.nD Cert.MixNormBwdRefIdeal.τ).loc Cert.MixNormBwdRefIdeal.main_v27) = v2 c
          ∧ r.2.mem ((c.tc : Thread Cert.MixNormBwdRefIdeal.nD Cert.MixNormBwdRefIdeal.τ).loc Cert.MixNormBwdRefIdeal.main_v32) = v3 c
          ∧ r.2.mem ((c.tc : Thread Cert.MixNormBwdRefIdeal.nD Cert.MixNormBwdRefIdeal.τ).loc Cert.MixNormBwdRefIdeal.main_arg0) = m' ((c.tc : Thread Cert.MixNormBwdRefIdeal.nD Cert.MixNormBwdRefIdeal.τ).loc Cert.MixNormBwdRefIdeal.main_arg0)
          ∧ r.2.mem ((c.tc : Thread Cert.MixNormBwdRefIdeal.nD Cert.MixNormBwdRefIdeal.τ).loc Cert.MixNormBwdRefIdeal.main_arg1) = m' ((c.tc : Thread Cert.MixNormBwdRefIdeal.nD Cert.MixNormBwdRefIdeal.τ).loc Cert.MixNormBwdRefIdeal.main_arg1)
          ∧ r.2.mem ((c.tc : Thread Cert.MixNormBwdRefIdeal.nD Cert.MixNormBwdRefIdeal.τ).loc Cert.MixNormBwdRefIdeal.main_arg2) = m' ((c.tc : Thread Cert.MixNormBwdRefIdeal.nD Cert.MixNormBwdRefIdeal.τ).loc Cert.MixNormBwdRefIdeal.main_arg2)
          ∧ r.2.mem ((c.tc : Thread Cert.MixNormBwdRefIdeal.nD Cert.MixNormBwdRefIdeal.τ).loc Cert.MixNormBwdRefIdeal.main_arg3) = m' ((c.tc : Thread Cert.MixNormBwdRefIdeal.nD Cert.MixNormBwdRefIdeal.τ).loc Cert.MixNormBwdRefIdeal.main_arg3)
          ∧ r.2.mem ((c.tc : Thread Cert.MixNormBwdRefIdeal.nD Cert.MixNormBwdRefIdeal.τ).loc Cert.MixNormBwdRefIdeal.main_arg4) = m' ((c.tc : Thread Cert.MixNormBwdRefIdeal.nD Cert.MixNormBwdRefIdeal.τ).loc Cert.MixNormBwdRefIdeal.main_arg4))

def preserves_LossBwd_LossBwdIdeal : Prop :=
  True

def algebraic_LossBwdIdeal_LossBwdRefIdeal [hLossBwdIdeal : Cert.LossBwdIdeal.Facts] [hLossBwdRefIdeal : Cert.LossBwdRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)
      ∧ m' ((c.tc : Thread Cert.LossBwdRefIdeal.nD Cert.LossBwdRefIdeal.τ).loc Cert.LossBwdRefIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v0_0)) (v1 : (c : Dev Cert.LossBwdIdeal.nD) → Buf (Elt Ideal) ((c.tc : Thread Cert.LossBwdIdeal.nD Cert.LossBwdIdeal.τ).loc Cert.LossBwdIdeal.main_v0_1)) (v2 : (c : Dev Cert.LossBwdIdeal.nD) → Buf (Elt Ideal) ((c.tc : Thread Cert.LossBwdIdeal.nD Cert.LossBwdIdeal.τ).loc Cert.LossBwdIdeal.main_v0_2)) (v3 : (c : Dev Cert.LossBwdIdeal.nD) → Buf (Elt Ideal) ((c.tc : Thread Cert.LossBwdIdeal.nD Cert.LossBwdIdeal.τ).loc Cert.LossBwdIdeal.main_v0_3)) (v4 : (c : Dev Cert.LossBwdIdeal.nD) → Buf (Elt Ideal) ((c.tc : Thread Cert.LossBwdIdeal.nD Cert.LossBwdIdeal.τ).loc Cert.LossBwdIdeal.main_v0_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_v0_1) = v1 c
          ∧ r.2.mem ((c.tc : Thread Cert.LossBwdIdeal.nD Cert.LossBwdIdeal.τ).loc Cert.LossBwdIdeal.main_v0_2) = v2 c
          ∧ r.2.mem ((c.tc : Thread Cert.LossBwdIdeal.nD Cert.LossBwdIdeal.τ).loc Cert.LossBwdIdeal.main_v0_3) = v3 c
          ∧ r.2.mem ((c.tc : Thread Cert.LossBwdIdeal.nD Cert.LossBwdIdeal.τ).loc Cert.LossBwdIdeal.main_v0_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v32) = v0 c
          ∧ r.2.mem ((c.tc : Thread Cert.LossBwdRefIdeal.nD Cert.LossBwdRefIdeal.τ).loc Cert.LossBwdRefIdeal.main_v75) = v1 c
          ∧ r.2.mem ((c.tc : Thread Cert.LossBwdRefIdeal.nD Cert.LossBwdRefIdeal.τ).loc Cert.LossBwdRefIdeal.main_v76) = v2 c
          ∧ r.2.mem ((c.tc : Thread Cert.LossBwdRefIdeal.nD Cert.LossBwdRefIdeal.τ).loc Cert.LossBwdRefIdeal.main_v37) = v3 c
          ∧ r.2.mem ((c.tc : Thread Cert.LossBwdRefIdeal.nD Cert.LossBwdRefIdeal.τ).loc Cert.LossBwdRefIdeal.main_v40) = v4 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3)
          ∧ r.2.mem ((c.tc : Thread Cert.LossBwdRefIdeal.nD Cert.LossBwdRefIdeal.τ).loc Cert.LossBwdRefIdeal.main_arg4) = m' ((c.tc : Thread Cert.LossBwdRefIdeal.nD Cert.LossBwdRefIdeal.τ).loc Cert.LossBwdRefIdeal.main_arg4))

def preserves_FfnNormBwd_FfnNormBwdIdeal : Prop :=
  True

def algebraic_FfnNormBwdIdeal_FfnNormBwdRefIdeal [hFfnNormBwdIdeal : Cert.FfnNormBwdIdeal.Facts] [hFfnNormBwdRefIdeal : Cert.FfnNormBwdRefIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg)
    (m' : (ℓ : Loc Cert.FfnNormBwdRefIdeal.nD Cert.FfnNormBwdRefIdeal.τ Cert.FfnNormBwdRefIdeal.sig) → Buf (Elt Ideal) ℓ) (g' : Dev Cert.FfnNormBwdRefIdeal.nD → PrngReg), Pre_FfnNormBwdIdeal m →
    (∀ c : Dev Cert.FfnNormBwdIdeal.nD,
      m' ((c.tc : Thread Cert.FfnNormBwdRefIdeal.nD Cert.FfnNormBwdRefIdeal.τ).loc Cert.FfnNormBwdRefIdeal.main_arg0) = m ((c.tc : Thread Cert.FfnNormBwdIdeal.nD Cert.FfnNormBwdIdeal.τ).loc Cert.FfnNormBwdIdeal.main_arg0)
      ∧ m' ((c.tc : Thread Cert.FfnNormBwdRefIdeal.nD Cert.FfnNormBwdRefIdeal.τ).loc Cert.FfnNormBwdRefIdeal.main_arg1) = m ((c.tc : Thread Cert.FfnNormBwdIdeal.nD Cert.FfnNormBwdIdeal.τ).loc Cert.FfnNormBwdIdeal.main_arg1)
      ∧ m' ((c.tc : Thread Cert.FfnNormBwdRefIdeal.nD Cert.FfnNormBwdRefIdeal.τ).loc Cert.FfnNormBwdRefIdeal.main_arg2) = m ((c.tc : Thread Cert.FfnNormBwdIdeal.nD Cert.FfnNormBwdIdeal.τ).loc Cert.FfnNormBwdIdeal.main_arg2)
      ∧ m' ((c.tc : Thread Cert.FfnNormBwdRefIdeal.nD Cert.FfnNormBwdRefIdeal.τ).loc Cert.FfnNormBwdRefIdeal.main_arg3) = m ((c.tc : Thread Cert.FfnNormBwdIdeal.nD Cert.FfnNormBwdIdeal.τ).loc Cert.FfnNormBwdIdeal.main_arg3)
      ∧ m' ((c.tc : Thread Cert.FfnNormBwdRefIdeal.nD Cert.FfnNormBwdRefIdeal.τ).loc Cert.FfnNormBwdRefIdeal.main_arg4) = m ((c.tc : Thread Cert.FfnNormBwdIdeal.nD Cert.FfnNormBwdIdeal.τ).loc Cert.FfnNormBwdIdeal.main_arg4)
      ∧ m' ((c.tc : Thread Cert.FfnNormBwdRefIdeal.nD Cert.FfnNormBwdRefIdeal.τ).loc Cert.FfnNormBwdRefIdeal.main_arg5) = m ((c.tc : Thread Cert.FfnNormBwdIdeal.nD Cert.FfnNormBwdIdeal.τ).loc Cert.FfnNormBwdIdeal.main_arg5)
      ∧ m' ((c.tc : Thread Cert.FfnNormBwdRefIdeal.nD Cert.FfnNormBwdRefIdeal.τ).loc Cert.FfnNormBwdRefIdeal.main_arg6) = m ((c.tc : Thread Cert.FfnNormBwdIdeal.nD Cert.FfnNormBwdIdeal.τ).loc Cert.FfnNormBwdIdeal.main_arg6)
      ∧ m' ((c.tc : Thread Cert.FfnNormBwdRefIdeal.nD Cert.FfnNormBwdRefIdeal.τ).loc Cert.FfnNormBwdRefIdeal.main_arg7) = m ((c.tc : Thread Cert.FfnNormBwdIdeal.nD Cert.FfnNormBwdIdeal.τ).loc Cert.FfnNormBwdIdeal.main_arg7)) →
    ∃ (v0 : (c : Dev Cert.FfnNormBwdIdeal.nD) → Buf (Elt Ideal) ((c.tc : Thread Cert.FfnNormBwdIdeal.nD Cert.FfnNormBwdIdeal.τ).loc Cert.FfnNormBwdIdeal.main_v0_0)) (v1 : (c : Dev Cert.FfnNormBwdIdeal.nD) → Buf (Elt Ideal) ((c.tc : Thread Cert.FfnNormBwdIdeal.nD Cert.FfnNormBwdIdeal.τ).loc Cert.FfnNormBwdIdeal.main_v0_1)) (v2 : (c : Dev Cert.FfnNormBwdIdeal.nD) → Buf (Elt Ideal) ((c.tc : Thread Cert.FfnNormBwdIdeal.nD Cert.FfnNormBwdIdeal.τ).loc Cert.FfnNormBwdIdeal.main_v0_2)) (v3 : (c : Dev Cert.FfnNormBwdIdeal.nD) → Buf (Elt Ideal) ((c.tc : Thread Cert.FfnNormBwdIdeal.nD Cert.FfnNormBwdIdeal.τ).loc Cert.FfnNormBwdIdeal.main_v0_3)) (v4 : (c : Dev Cert.FfnNormBwdIdeal.nD) → Buf (Elt Ideal) ((c.tc : Thread Cert.FfnNormBwdIdeal.nD Cert.FfnNormBwdIdeal.τ).loc Cert.FfnNormBwdIdeal.main_v0_4)) (v5 : (c : Dev Cert.FfnNormBwdIdeal.nD) → Buf (Elt Ideal) ((c.tc : Thread Cert.FfnNormBwdIdeal.nD Cert.FfnNormBwdIdeal.τ).loc Cert.FfnNormBwdIdeal.main_v0_5)) (v6 : (c : Dev Cert.FfnNormBwdIdeal.nD) → Buf (Elt Ideal) ((c.tc : Thread Cert.FfnNormBwdIdeal.nD Cert.FfnNormBwdIdeal.τ).loc Cert.FfnNormBwdIdeal.main_v0_6)),
      θ_run (Cert.FfnNormBwdIdeal.defs (F := Ideal)) (onTc (τ := Cert.FfnNormBwdIdeal.τ) (Cert.FfnNormBwdIdeal.main (F := Ideal))) ⟨m, fun _ => 0, g⟩ (fun r => ∀ c : Dev Cert.FfnNormBwdIdeal.nD,
          r.2.mem ((c.tc : Thread Cert.FfnNormBwdIdeal.nD Cert.FfnNormBwdIdeal.τ).loc Cert.FfnNormBwdIdeal.main_v0_0) = v0 c
          ∧ r.2.mem ((c.tc : Thread Cert.FfnNormBwdIdeal.nD Cert.FfnNormBwdIdeal.τ).loc Cert.FfnNormBwdIdeal.main_v0_1) = v1 c
          ∧ r.2.mem ((c.tc : Thread Cert.FfnNormBwdIdeal.nD Cert.FfnNormBwdIdeal.τ).loc Cert.FfnNormBwdIdeal.main_v0_2) = v2 c
          ∧ r.2.mem ((c.tc : Thread Cert.FfnNormBwdIdeal.nD Cert.FfnNormBwdIdeal.τ).loc Cert.FfnNormBwdIdeal.main_v0_3) = v3 c
          ∧ r.2.mem ((c.tc : Thread Cert.FfnNormBwdIdeal.nD Cert.FfnNormBwdIdeal.τ).loc Cert.FfnNormBwdIdeal.main_v0_4) = v4 c
          ∧ r.2.mem ((c.tc : Thread Cert.FfnNormBwdIdeal.nD Cert.FfnNormBwdIdeal.τ).loc Cert.FfnNormBwdIdeal.main_v0_5) = v5 c
          ∧ r.2.mem ((c.tc : Thread Cert.FfnNormBwdIdeal.nD Cert.FfnNormBwdIdeal.τ).loc Cert.FfnNormBwdIdeal.main_v0_6) = v6 c
          ∧ r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
          ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
          ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
          ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
          ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
          ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5)
          ∧ r.2.mem ((c.tc : Thread Cert.FfnNormBwdIdeal.nD Cert.FfnNormBwdIdeal.τ).loc Cert.FfnNormBwdIdeal.main_arg6) = m ((c.tc : Thread Cert.FfnNormBwdIdeal.nD Cert.FfnNormBwdIdeal.τ).loc Cert.FfnNormBwdIdeal.main_arg6)
          ∧ r.2.mem ((c.tc : Thread Cert.FfnNormBwdIdeal.nD Cert.FfnNormBwdIdeal.τ).loc Cert.FfnNormBwdIdeal.main_arg7) = m ((c.tc : Thread Cert.FfnNormBwdIdeal.nD Cert.FfnNormBwdIdeal.τ).loc Cert.FfnNormBwdIdeal.main_arg7))
      ∧ θ_run (Cert.FfnNormBwdRefIdeal.defs (F := Ideal)) (onTc (τ := Cert.FfnNormBwdRefIdeal.τ) (Cert.FfnNormBwdRefIdeal.main (F := Ideal))) ⟨m', fun _ => 0, g'⟩ (fun r => ∀ c : Dev Cert.FfnNormBwdRefIdeal.nD,
          r.2.mem ((c.tc : Thread Cert.FfnNormBwdRefIdeal.nD Cert.FfnNormBwdRefIdeal.τ).loc Cert.FfnNormBwdRefIdeal.main_v49) = v0 c
          ∧ r.2.mem ((c.tc : Thread Cert.FfnNormBwdRefIdeal.nD Cert.FfnNormBwdRefIdeal.τ).loc Cert.FfnNormBwdRefIdeal.main_v91) = v1 c
          ∧ r.2.mem ((c.tc : Thread Cert.FfnNormBwdRefIdeal.nD Cert.FfnNormBwdRefIdeal.τ).loc Cert.FfnNormBwdRefIdeal.main_v24) = v2 c
          ∧ r.2.mem ((c.tc : Thread Cert.FfnNormBwdRefIdeal.nD Cert.FfnNormBwdRefIdeal.τ).loc Cert.FfnNormBwdRefIdeal.main_v27) = v3 c
          ∧ r.2.mem ((c.tc : Thread Cert.FfnNormBwdRefIdeal.nD Cert.FfnNormBwdRefIdeal.τ).loc Cert.FfnNormBwdRefIdeal.main_v32) = v4 c
          ∧ r.2.mem ((c.tc : Thread Cert.FfnNormBwdRefIdeal.nD Cert.FfnNormBwdRefIdeal.τ).loc Cert.FfnNormBwdRefIdeal.main_v71) = v5 c
          ∧ r.2.mem ((c.tc : Thread Cert.FfnNormBwdRefIdeal.nD Cert.FfnNormBwdRefIdeal.τ).loc Cert.FfnNormBwdRefIdeal.main_v74) = v6 c
          ∧ r.2.mem ((c.tc : Thread Cert.FfnNormBwdRefIdeal.nD Cert.FfnNormBwdRefIdeal.τ).loc Cert.FfnNormBwdRefIdeal.main_arg0) = m' ((c.tc : Thread Cert.FfnNormBwdRefIdeal.nD Cert.FfnNormBwdRefIdeal.τ).loc Cert.FfnNormBwdRefIdeal.main_arg0)
          ∧ r.2.mem ((c.tc : Thread Cert.FfnNormBwdRefIdeal.nD Cert.FfnNormBwdRefIdeal.τ).loc Cert.FfnNormBwdRefIdeal.main_arg1) = m' ((c.tc : Thread Cert.FfnNormBwdRefIdeal.nD Cert.FfnNormBwdRefIdeal.τ).loc Cert.FfnNormBwdRefIdeal.main_arg1)
          ∧ r.2.mem ((c.tc : Thread Cert.FfnNormBwdRefIdeal.nD Cert.FfnNormBwdRefIdeal.τ).loc Cert.FfnNormBwdRefIdeal.main_arg2) = m' ((c.tc : Thread Cert.FfnNormBwdRefIdeal.nD Cert.FfnNormBwdRefIdeal.τ).loc Cert.FfnNormBwdRefIdeal.main_arg2)
          ∧ r.2.mem ((c.tc : Thread Cert.FfnNormBwdRefIdeal.nD Cert.FfnNormBwdRefIdeal.τ).loc Cert.FfnNormBwdRefIdeal.main_arg3) = m' ((c.tc : Thread Cert.FfnNormBwdRefIdeal.nD Cert.FfnNormBwdRefIdeal.τ).loc Cert.FfnNormBwdRefIdeal.main_arg3)
          ∧ r.2.mem ((c.tc : Thread Cert.FfnNormBwdRefIdeal.nD Cert.FfnNormBwdRefIdeal.τ).loc Cert.FfnNormBwdRefIdeal.main_arg4) = m' ((c.tc : Thread Cert.FfnNormBwdRefIdeal.nD Cert.FfnNormBwdRefIdeal.τ).loc Cert.FfnNormBwdRefIdeal.main_arg4)
          ∧ r.2.mem ((c.tc : Thread Cert.FfnNormBwdRefIdeal.nD Cert.FfnNormBwdRefIdeal.τ).loc Cert.FfnNormBwdRefIdeal.main_arg5) = m' ((c.tc : Thread Cert.FfnNormBwdRefIdeal.nD Cert.FfnNormBwdRefIdeal.τ).loc Cert.FfnNormBwdRefIdeal.main_arg5)
          ∧ r.2.mem ((c.tc : Thread Cert.FfnNormBwdRefIdeal.nD Cert.FfnNormBwdRefIdeal.τ).loc Cert.FfnNormBwdRefIdeal.main_arg6) = m' ((c.tc : Thread Cert.FfnNormBwdRefIdeal.nD Cert.FfnNormBwdRefIdeal.τ).loc Cert.FfnNormBwdRefIdeal.main_arg6)
          ∧ r.2.mem ((c.tc : Thread Cert.FfnNormBwdRefIdeal.nD Cert.FfnNormBwdRefIdeal.τ).loc Cert.FfnNormBwdRefIdeal.main_arg7) = m' ((c.tc : Thread Cert.FfnNormBwdRefIdeal.nD Cert.FfnNormBwdRefIdeal.τ).loc Cert.FfnNormBwdRefIdeal.main_arg7))

def Claim : Prop :=
  ∃ (hKernel : Cert.Kernel.Facts) (hKernelIdeal : Cert.KernelIdeal.Facts) (hReferenceIdeal : Cert.ReferenceIdeal.Facts) (hDwFf2 : Cert.DwFf2.Facts) (hDwFf2Ideal : Cert.DwFf2Ideal.Facts) (hDwFf2RefIdeal : Cert.DwFf2RefIdeal.Facts) (hFf1 : Cert.Ff1.Facts) (hFf1Ideal : Cert.Ff1Ideal.Facts) (hFf1RefIdeal : Cert.Ff1RefIdeal.Facts) (hFf2Bwd : Cert.Ff2Bwd.Facts) (hFf2BwdIdeal : Cert.Ff2BwdIdeal.Facts) (hFf2BwdRefIdeal : Cert.Ff2BwdRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hOutProjBwd : Cert.OutProjBwd.Facts) (hOutProjBwdIdeal : Cert.OutProjBwdIdeal.Facts) (hOutProjBwdRefIdeal : Cert.OutProjBwdRefIdeal.Facts) (hDSgu : Cert.DSgu.Facts) (hDSguIdeal : Cert.DSguIdeal.Facts) (hDSguRefIdeal : Cert.DSguRefIdeal.Facts) (hDwB : Cert.DwB.Facts) (hDwBIdeal : Cert.DwBIdeal.Facts) (hDwBRefIdeal : Cert.DwBRefIdeal.Facts) (hDyaPre : Cert.DyaPre.Facts) (hDyaPreIdeal : Cert.DyaPreIdeal.Facts) (hDyaPreRefIdeal : Cert.DyaPreRefIdeal.Facts) (hDwA : Cert.DwA.Facts) (hDwAIdeal : Cert.DwAIdeal.Facts) (hDwARefIdeal : Cert.DwARefIdeal.Facts) (hFf2 : Cert.Ff2.Facts) (hFf2Ideal : Cert.Ff2Ideal.Facts) (hFf2RefIdeal : Cert.Ff2RefIdeal.Facts) (hDaFf1 : Cert.DaFf1.Facts) (hDaFf1Ideal : Cert.DaFf1Ideal.Facts) (hDaFf1RefIdeal : Cert.DaFf1RefIdeal.Facts) (hDwFf1 : Cert.DwFf1.Facts) (hDwFf1Ideal : Cert.DwFf1Ideal.Facts) (hDwFf1RefIdeal : Cert.DwFf1RefIdeal.Facts) (hDwIn : Cert.DwIn.Facts) (hDwInIdeal : Cert.DwInIdeal.Facts) (hDwInRefIdeal : Cert.DwInRefIdeal.Facts) (hDaIn : Cert.DaIn.Facts) (hDaInIdeal : Cert.DaInIdeal.Facts) (hDaInRefIdeal : Cert.DaInRefIdeal.Facts) (hDwO : Cert.DwO.Facts) (hDwOIdeal : Cert.DwOIdeal.Facts) (hDwORefIdeal : Cert.DwORefIdeal.Facts) (hPrenorm : Cert.Prenorm.Facts) (hPrenormIdeal : Cert.PrenormIdeal.Facts) (hPrenormRefIdeal : Cert.PrenormRefIdeal.Facts) (hModMatmul : Cert.ModMatmul.Facts) (hModMatmulIdeal : Cert.ModMatmulIdeal.Facts) (hModMatmulRefIdeal : Cert.ModMatmulRefIdeal.Facts) (hWadaUpdate : Cert.WadaUpdate.Facts) (hWadaUpdateIdeal : Cert.WadaUpdateIdeal.Facts) (hWadaUpdateRefIdeal : Cert.WadaUpdateRefIdeal.Facts) (hAdamSmall : Cert.AdamSmall.Facts) (hAdamSmallIdeal : Cert.AdamSmallIdeal.Facts) (hAdamSmallRefIdeal : Cert.AdamSmallRefIdeal.Facts) (hMixNormBwd : Cert.MixNormBwd.Facts) (hMixNormBwdIdeal : Cert.MixNormBwdIdeal.Facts) (hMixNormBwdRefIdeal : Cert.MixNormBwdRefIdeal.Facts) (hLossBwd : Cert.LossBwd.Facts) (hLossBwdIdeal : Cert.LossBwdIdeal.Facts) (hLossBwdRefIdeal : Cert.LossBwdRefIdeal.Facts) (hFfnNormBwd : Cert.FfnNormBwd.Facts) (hFfnNormBwdIdeal : Cert.FfnNormBwdIdeal.Facts) (hFfnNormBwdRefIdeal : Cert.FfnNormBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwFf2 (hDwFf2 := hDwFf2)
    ∧ quiescent_DwFf2Ideal (hDwFf2Ideal := hDwFf2Ideal)
    ∧ quiescent_DwFf2RefIdeal (hDwFf2RefIdeal := hDwFf2RefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2Bwd (hFf2Bwd := hFf2Bwd)
    ∧ quiescent_Ff2BwdIdeal (hFf2BwdIdeal := hFf2BwdIdeal)
    ∧ quiescent_Ff2BwdRefIdeal (hFf2BwdRefIdeal := hFf2BwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjBwd (hOutProjBwd := hOutProjBwd)
    ∧ quiescent_OutProjBwdIdeal (hOutProjBwdIdeal := hOutProjBwdIdeal)
    ∧ quiescent_OutProjBwdRefIdeal (hOutProjBwdRefIdeal := hOutProjBwdRefIdeal)
    ∧ quiescent_DSgu (hDSgu := hDSgu)
    ∧ quiescent_DSguIdeal (hDSguIdeal := hDSguIdeal)
    ∧ quiescent_DSguRefIdeal (hDSguRefIdeal := hDSguRefIdeal)
    ∧ quiescent_DwB (hDwB := hDwB)
    ∧ quiescent_DwBIdeal (hDwBIdeal := hDwBIdeal)
    ∧ quiescent_DwBRefIdeal (hDwBRefIdeal := hDwBRefIdeal)
    ∧ quiescent_DyaPre (hDyaPre := hDyaPre)
    ∧ quiescent_DyaPreIdeal (hDyaPreIdeal := hDyaPreIdeal)
    ∧ quiescent_DyaPreRefIdeal (hDyaPreRefIdeal := hDyaPreRefIdeal)
    ∧ quiescent_DwA (hDwA := hDwA)
    ∧ quiescent_DwAIdeal (hDwAIdeal := hDwAIdeal)
    ∧ quiescent_DwARefIdeal (hDwARefIdeal := hDwARefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_DaFf1 (hDaFf1 := hDaFf1)
    ∧ quiescent_DaFf1Ideal (hDaFf1Ideal := hDaFf1Ideal)
    ∧ quiescent_DaFf1RefIdeal (hDaFf1RefIdeal := hDaFf1RefIdeal)
    ∧ quiescent_DwFf1 (hDwFf1 := hDwFf1)
    ∧ quiescent_DwFf1Ideal (hDwFf1Ideal := hDwFf1Ideal)
    ∧ quiescent_DwFf1RefIdeal (hDwFf1RefIdeal := hDwFf1RefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DaIn (hDaIn := hDaIn)
    ∧ quiescent_DaInIdeal (hDaInIdeal := hDaInIdeal)
    ∧ quiescent_DaInRefIdeal (hDaInRefIdeal := hDaInRefIdeal)
    ∧ quiescent_DwO (hDwO := hDwO)
    ∧ quiescent_DwOIdeal (hDwOIdeal := hDwOIdeal)
    ∧ quiescent_DwORefIdeal (hDwORefIdeal := hDwORefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_ModMatmul (hModMatmul := hModMatmul)
    ∧ quiescent_ModMatmulIdeal (hModMatmulIdeal := hModMatmulIdeal)
    ∧ quiescent_ModMatmulRefIdeal (hModMatmulRefIdeal := hModMatmulRefIdeal)
    ∧ quiescent_WadaUpdate (hWadaUpdate := hWadaUpdate)
    ∧ quiescent_WadaUpdateIdeal (hWadaUpdateIdeal := hWadaUpdateIdeal)
    ∧ quiescent_WadaUpdateRefIdeal (hWadaUpdateRefIdeal := hWadaUpdateRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_MixNormBwd (hMixNormBwd := hMixNormBwd)
    ∧ quiescent_MixNormBwdIdeal (hMixNormBwdIdeal := hMixNormBwdIdeal)
    ∧ quiescent_MixNormBwdRefIdeal (hMixNormBwdRefIdeal := hMixNormBwdRefIdeal)
    ∧ quiescent_LossBwd (hLossBwd := hLossBwd)
    ∧ quiescent_LossBwdIdeal (hLossBwdIdeal := hLossBwdIdeal)
    ∧ quiescent_LossBwdRefIdeal (hLossBwdRefIdeal := hLossBwdRefIdeal)
    ∧ quiescent_FfnNormBwd (hFfnNormBwd := hFfnNormBwd)
    ∧ quiescent_FfnNormBwdIdeal (hFfnNormBwdIdeal := hFfnNormBwdIdeal)
    ∧ quiescent_FfnNormBwdRefIdeal (hFfnNormBwdRefIdeal := hFfnNormBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwFf2_DwFf2Ideal
    ∧ algebraic_DwFf2Ideal_DwFf2RefIdeal (hDwFf2Ideal := hDwFf2Ideal) (hDwFf2RefIdeal := hDwFf2RefIdeal)
    ∧ preserves_Ff1_Ff1Ideal
    ∧ algebraic_Ff1Ideal_Ff1RefIdeal (hFf1Ideal := hFf1Ideal) (hFf1RefIdeal := hFf1RefIdeal)
    ∧ preserves_Ff2Bwd_Ff2BwdIdeal
    ∧ algebraic_Ff2BwdIdeal_Ff2BwdRefIdeal (hFf2BwdIdeal := hFf2BwdIdeal) (hFf2BwdRefIdeal := hFf2BwdRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_OutProjBwd_OutProjBwdIdeal
    ∧ algebraic_OutProjBwdIdeal_OutProjBwdRefIdeal (hOutProjBwdIdeal := hOutProjBwdIdeal) (hOutProjBwdRefIdeal := hOutProjBwdRefIdeal)
    ∧ preserves_DSgu_DSguIdeal
    ∧ algebraic_DSguIdeal_DSguRefIdeal (hDSguIdeal := hDSguIdeal) (hDSguRefIdeal := hDSguRefIdeal)
    ∧ preserves_DwB_DwBIdeal
    ∧ algebraic_DwBIdeal_DwBRefIdeal (hDwBIdeal := hDwBIdeal) (hDwBRefIdeal := hDwBRefIdeal)
    ∧ preserves_DyaPre_DyaPreIdeal
    ∧ algebraic_DyaPreIdeal_DyaPreRefIdeal (hDyaPreIdeal := hDyaPreIdeal) (hDyaPreRefIdeal := hDyaPreRefIdeal)
    ∧ preserves_DwA_DwAIdeal
    ∧ algebraic_DwAIdeal_DwARefIdeal (hDwAIdeal := hDwAIdeal) (hDwARefIdeal := hDwARefIdeal)
    ∧ preserves_Ff2_Ff2Ideal
    ∧ algebraic_Ff2Ideal_Ff2RefIdeal (hFf2Ideal := hFf2Ideal) (hFf2RefIdeal := hFf2RefIdeal)
    ∧ preserves_DaFf1_DaFf1Ideal
    ∧ algebraic_DaFf1Ideal_DaFf1RefIdeal (hDaFf1Ideal := hDaFf1Ideal) (hDaFf1RefIdeal := hDaFf1RefIdeal)
    ∧ preserves_DwFf1_DwFf1Ideal
    ∧ algebraic_DwFf1Ideal_DwFf1RefIdeal (hDwFf1Ideal := hDwFf1Ideal) (hDwFf1RefIdeal := hDwFf1RefIdeal)
    ∧ preserves_DwIn_DwInIdeal
    ∧ algebraic_DwInIdeal_DwInRefIdeal (hDwInIdeal := hDwInIdeal) (hDwInRefIdeal := hDwInRefIdeal)
    ∧ preserves_DaIn_DaInIdeal
    ∧ algebraic_DaInIdeal_DaInRefIdeal (hDaInIdeal := hDaInIdeal) (hDaInRefIdeal := hDaInRefIdeal)
    ∧ preserves_DwO_DwOIdeal
    ∧ algebraic_DwOIdeal_DwORefIdeal (hDwOIdeal := hDwOIdeal) (hDwORefIdeal := hDwORefIdeal)
    ∧ preserves_Prenorm_PrenormIdeal
    ∧ algebraic_PrenormIdeal_PrenormRefIdeal (hPrenormIdeal := hPrenormIdeal) (hPrenormRefIdeal := hPrenormRefIdeal)
    ∧ preserves_ModMatmul_ModMatmulIdeal
    ∧ algebraic_ModMatmulIdeal_ModMatmulRefIdeal (hModMatmulIdeal := hModMatmulIdeal) (hModMatmulRefIdeal := hModMatmulRefIdeal)
    ∧ preserves_WadaUpdate_WadaUpdateIdeal
    ∧ algebraic_WadaUpdateIdeal_WadaUpdateRefIdeal (hWadaUpdateIdeal := hWadaUpdateIdeal) (hWadaUpdateRefIdeal := hWadaUpdateRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_MixNormBwd_MixNormBwdIdeal
    ∧ algebraic_MixNormBwdIdeal_MixNormBwdRefIdeal (hMixNormBwdIdeal := hMixNormBwdIdeal) (hMixNormBwdRefIdeal := hMixNormBwdRefIdeal)
    ∧ preserves_LossBwd_LossBwdIdeal
    ∧ algebraic_LossBwdIdeal_LossBwdRefIdeal (hLossBwdIdeal := hLossBwdIdeal) (hLossBwdRefIdeal := hLossBwdRefIdeal)
    ∧ preserves_FfnNormBwd_FfnNormBwdIdeal
    ∧ algebraic_FfnNormBwdIdeal_FfnNormBwdRefIdeal (hFfnNormBwdIdeal := hFfnNormBwdIdeal) (hFfnNormBwdRefIdeal := hFfnNormBwdRefIdeal)
-- ==== Pre_finite.lean ====
abbrev S4096x11264 : Shape := ⟨2, ![4096, 11264]⟩
abbrev S4096x1024 : Shape := ⟨2, ![4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S4096x11264 : S_.BroadcastsInDim S4096x11264 (![] : Fin 0 → Fin S4096x11264.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S4096x11264 .f32) (main_arg1 : FVec F S4096x1024 .f32) (main_arg2 : FVec F S1x1024 .f32) (main_arg3 : FVec F S1x8x128x128 .f32) (main_arg4 : FVec F S1x8x128 .f32) : IVec S4096x11264 1 × IVec S4096x1024 1 × IVec S1x1024 1 × IVec S1x8x128x128 1 × IVec S1x8x128 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x8x128x128 .f32 := Host.absf main_arg3
  let main_cst_2 : FVec F S_ .f32 := constant S_ .f32 0x7F800000#32
  let main_v10 : FVec F S1x8x128x128 .f32 := broadcastInDim S1x8x128x128 ![] bcast_S_S1x8x128x128 main_cst_2
  let main_v11 : IVec S1x8x128x128 1 := cmpf .olt main_v9 main_v10
  let main_v12 : FVec F S1x8x128 .f32 := Host.absf main_arg4
  let main_cst_3 : FVec F S_ .f32 := constant S_ .f32 0x7F800000#32
  let main_v13 : FVec F S1x8x128 .f32 := broadcastInDim S1x8x128 ![] bcast_S_S1x8x128 main_cst_3
  let main_v14 : IVec S1x8x128 1 := cmpf .olt main_v12 main_v13
  (main_v2, main_v5, main_v8, main_v11, main_v14)
-- ==== Kernel.lean ====
abbrev S4096x11264 : Shape := ⟨2, ![4096, 11264]⟩
abbrev S4096x1024 : Shape := ⟨2, ![4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S4096x2048 : Shape := ⟨2, ![4096, 2048]⟩
abbrev S8x8x128 : Shape := ⟨3, ![8, 8, 128]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x11264, .f32⟩
  | .hbm, ⟨1, _⟩ => ⟨S4096x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S8x128x128, .f32⟩
  | .hbm, ⟨6, _⟩ => ⟨S8x128, .f32⟩
  | .hbm, ⟨7, _⟩ => ⟨S128x8, .f32⟩
  | .hbm, ⟨8, _⟩ => ⟨S4096x2048, .bf16⟩
  | .hbm, ⟨9, _⟩ => ⟨S8x128x128, .f32⟩
  | .hbm, ⟨10, _⟩ => ⟨S8x8x128, .f32⟩
  | .hbm, ⟨11, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S8x128x128, .f32⟩
  | .local _ .vmem, ⟨8, _⟩ => ⟨S128x8, .f32⟩
  | .local _ .vmem, ⟨9, _⟩ => ⟨S128x2048, .bf16⟩
  | .local _ .vmem, ⟨10, _⟩ => ⟨S128x2048, .bf16⟩
  | .local _ .vmem, ⟨11, _⟩ => ⟨S8x128x128, .f32⟩
  | .local _ .vmem, ⟨12, _⟩ => ⟨S8x8x128, .f32⟩
  | .local _ .vmem, ⟨13, _⟩ => ⟨S1x1024, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "half_erf_slope_over_sqrt_two" => some (((9465531 * 16777216⁻¹) * (Real.sqrt 2)⁻¹ : ℝ) : EReal)
  | "inv_sqrt_two" => some (((Real.sqrt 2)⁻¹ : ℝ) : EReal)
  | _ => none
-- ==== ReferenceIdeal.lean ====
abbrev S4096x11264 : Shape := ⟨2, ![4096, 11264]⟩
abbrev S4096x1024 : Shape := ⟨2, ![4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S4096x2048 : Shape := ⟨2, ![4096, 2048]⟩
abbrev S1x4096x2048 : Shape := ⟨3, ![1, 4096, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩
abbrev S8x1x128 : Shape := ⟨3, ![8, 1, 128]⟩
abbrev S8x8x128 : Shape := ⟨3, ![8, 8, 128]⟩

abbrev nBuf : Space → Nat
  | .hbm => 134
  | .vmem => 0
  | .smem => 0
  | _ => 0

abbrev hbmTy0_0 (i : Nat) : BufTy := match i % 128 with
  | 0 => ⟨S4096x11264, .f32⟩
  | 1 => ⟨S4096x1024, .f32⟩
  | 2 => ⟨S1x1024, .f32⟩
  | 3 => ⟨S1x8x128x128, .f32⟩
  | 4 => ⟨S1x8x128, .f32⟩
  | 5 => ⟨S4096x2048, .f32⟩
  | 6 => ⟨S1x4096x2048, .f32⟩
  | 7 => ⟨S1024, .f32⟩
  | 8 => ⟨S8x128x128, .f32⟩
  | 9 => ⟨S8x128, .f32⟩
  | 10 => ⟨S_, .f32⟩
  | 11 => ⟨S1x4096x2048, .f32⟩
  | 12 => ⟨S1x4096x2048, .f32⟩
  | 13 => ⟨S1x4096x2048, .f32⟩
  | 14 => ⟨S_, .f32⟩
  | 15 => ⟨S_, .f32⟩
  | 16 => ⟨S1x4096x2048, .f32⟩
  | 17 => ⟨S1x4096x2048, .f32⟩
  | 18 => ⟨S1x4096x2048, .f32⟩
  | 19 => ⟨S1x4096x2048, .f32⟩
  | 20 => ⟨S1x4096x2048, .f32⟩
  | 21 => ⟨S1x4096x2048, .f32⟩
  | 22 => ⟨S1x4096x2048, .f32⟩
  | 23 => ⟨S1x4096x1024, .f32⟩
  | 24 => ⟨S1x4096x1024, .f32⟩
  | 25 => ⟨S_, .f32⟩
  | 26 => ⟨S1x4096, .f32⟩
  | 27 => ⟨S1x4096x1, .f32⟩
  | 28 => ⟨S_, .f32⟩
  | 29 => ⟨S1x4096x1, .f32⟩
  | 30 => ⟨S1x4096x1, .f32⟩
  | 31 => ⟨S1x4096x1024, .f32⟩
  | 32 => ⟨S1x4096x1024, .f32⟩
  | 33 => ⟨S1x4096x1024, .f32⟩
  | 34 => ⟨S_, .f32⟩
  | 35 => ⟨S1x4096, .f32⟩
  | 36 => ⟨S1x4096x1, .f32⟩
  | 37 => ⟨S_, .f32⟩
  | 38 => ⟨S1x4096x1, .f32⟩
  | 39 => ⟨S1x4096x1, .f32⟩
  | 40 => ⟨S_, .f32⟩
  | 41 => ⟨S1x4096x1, .f32⟩
  | 42 => ⟨S1x4096x1, .f32⟩
  | 43 => ⟨S1x4096x1, .f32⟩
  | 44 => ⟨S1x4096x1, .f32⟩
  | 45 => ⟨S_, .f32⟩
  | 46 => ⟨S1x4096x1, .f32⟩
  | 47 => ⟨S1x4096x1, .f32⟩
  | 48 => ⟨S1x4096x1024, .f32⟩
  | 49 => ⟨S1x4096x1024, .f32⟩
  | 50 => ⟨S1x1x1024, .f32⟩
  | 51 => ⟨S1x4096x1024, .f32⟩
  | 52 => ⟨S1x4096x1024, .f32⟩
  | 53 => ⟨S1x32x128x8x128, .f32⟩
  | 54 => ⟨S8x1x32x128x128, .f32⟩
  | 55 => ⟨S1x32x128x8x128, .f32⟩
  | 56 => ⟨S128x8, .f32⟩
  | 57 => ⟨S1x1x128x8x1, .f32⟩
  | 58 => ⟨S1x32x128x8x128, .f32⟩
  | 59 => ⟨S1x32x128x8x128, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S1x32x128x8x128, .f32⟩
  | 66 => ⟨S_, .f32⟩
  | 67 => ⟨S1x128x8, .f32⟩
  | 68 => ⟨S1x1x128x8x1, .f32⟩
  | 69 => ⟨S_, .f32⟩
  | 70 => ⟨S128x8, .f32⟩
  | 71 => ⟨S8x128, .f32⟩
  | 72 => ⟨S8x1x32x128x128, .f32⟩
  | 73 => ⟨S8x128x128, .f32⟩
  | 74 => ⟨S8x1x32x128x128, .f32⟩
  | 75 => ⟨S1x32x128x8x128, .f32⟩
  | 76 => ⟨S1x4096x1024, .f32⟩
  | 77 => ⟨S1x4096x1024, .f32⟩
  | 78 => ⟨S_, .f32⟩
  | 79 => ⟨S1x1024, .f32⟩
  | 80 => ⟨S1x1x1024, .f32⟩
  | 81 => ⟨S1x4096x1024, .f32⟩
  | 82 => ⟨S1x4096x1024, .f32⟩
  | 83 => ⟨S_, .f32⟩
  | 84 => ⟨S1024, .f32⟩
  | 85 => ⟨S1x4096x1024, .f32⟩
  | 86 => ⟨S_, .f32⟩
  | 87 => ⟨S1x4096, .f32⟩
  | 88 => ⟨S1x4096x1, .f32⟩
  | 89 => ⟨S1x4096x1024, .f32⟩
  | 90 => ⟨S1x4096x1024, .f32⟩
  | 91 => ⟨S1x4096x1, .f32⟩
  | 92 => ⟨S_, .f32⟩
  | 93 => ⟨S1x4096x1, .f32⟩
  | 94 => ⟨S1x4096x1, .f32⟩
  | 95 => ⟨S_, .f32⟩
  | 96 => ⟨S4096, .f32⟩
  | 97 => ⟨S1x4096, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x4096x1024, .f32⟩
  | 103 => ⟨S1x4096x1024, .f32⟩
  | 104 => ⟨S_, .f32⟩
  | 105 => ⟨S1x4096, .f32⟩
  | 106 => ⟨S1x4096x1, .f32⟩
  | 107 => ⟨S_, .f32⟩
  | 108 => ⟨S1x4096x1, .f32⟩
  | 109 => ⟨S1x4096x1, .f32⟩
  | 110 => ⟨S_, .f32⟩
  | 111 => ⟨S4096, .f32⟩
  | 112 => ⟨S1x4096, .f32⟩
  | 113 => ⟨S1x4096x1024, .f32⟩
  | 114 => ⟨S1x4096x1024, .f32⟩
  | 115 => ⟨S1x4096x2048, .f32⟩
  | 116 => ⟨S1x4096x2048, .f32⟩
  | 117 => ⟨S1x4096x2048, .f32⟩
  | 118 => ⟨S_, .f32⟩
  | 119 => ⟨S1x4096x2048, .f32⟩
  | 120 => ⟨S1x4096x2048, .f32⟩
  | 121 => ⟨S1x4096x2048, .f32⟩
  | 122 => ⟨S1x4096x2048, .f32⟩
  | 123 => ⟨S1x4096x2048, .f32⟩
  | 124 => ⟨S1x4096x2048, .f32⟩
  | 125 => ⟨S_, .f32⟩
  | 126 => ⟨S1x4096x2048, .f32⟩
  | 127 => ⟨S1x4096x2048, .f32⟩
  | _ => ⟨S4096x11264, .f32⟩

abbrev hbmTy0_1 (i : Nat) : BufTy := match i % 128 with
  | 0 => ⟨S1x4096x2048, .f32⟩
  | 1 => ⟨S4096x2048, .f32⟩
  | 2 => ⟨S4096x2048, .bf16⟩
  | 3 => ⟨S8x1x128, .f32⟩
  | 4 => ⟨S8x8x128, .f32⟩
  | 5 => ⟨S1x1024, .f32⟩
  | _ => ⟨S4096x11264, .f32⟩

abbrev hbmTy (i : Nat) : BufTy := match i / 128 with
  | 0 => hbmTy0_0 i
  | 1 => hbmTy0_1 i
  | _ => ⟨S4096x11264, .f32⟩

abbrev bufTy : (tb : Table) → Fin (tcTables nBuf tb) → BufTy
  | .hbm, ⟨i, _⟩ => hbmTy i
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_12 : Ref sig .tc := ⟨.hbm, 92, rfl⟩
abbrev main_v74 : Ref sig .tc := ⟨.hbm, 93, rfl⟩
abbrev main_v75 : Ref sig .tc := ⟨.hbm, 94, rfl⟩
abbrev main_cst_13 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_cst_15 : Ref sig .tc := ⟨.hbm, 107, rfl⟩
abbrev main_v86 : Ref sig .tc := ⟨.hbm, 108, rfl⟩
abbrev main_v87 : Ref sig .tc := ⟨.hbm, 109, rfl⟩
abbrev main_cst_16 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_17 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_18 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩

abbrev nD : Nat := 1
abbrev τ : Topo := Topo.v7x

variable {F : FTy → Type} [FloatOps F]
-- ==== DwFf2.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf2RefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S4096x8192, .f32⟩
  | .hbm, ⟨10, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ff1.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1RefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ff2Bwd.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ff2BwdRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Merge.lean ====
abbrev S4096x1024 : Shape := ⟨2, ![4096, 1024]⟩
abbrev S1024x2048 : Shape := ⟨2, ![1024, 2048]⟩
abbrev S4096x11264 : Shape := ⟨2, ![4096, 11264]⟩
abbrev S4096x2048 : Shape := ⟨2, ![4096, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2048, .bf16⟩
  | .hbm, ⟨3, _⟩ => ⟨S1024x2048, .bf16⟩
  | .hbm, ⟨4, _⟩ => ⟨S4096x11264, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S4096x1024 : Shape := ⟨2, ![4096, 1024]⟩
abbrev S1024x2048 : Shape := ⟨2, ![1024, 2048]⟩
abbrev S4096x11264 : Shape := ⟨2, ![4096, 11264]⟩
abbrev S4096x2048 : Shape := ⟨2, ![4096, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2048, .bf16⟩
  | .hbm, ⟨3, _⟩ => ⟨S1024x2048, .bf16⟩
  | .hbm, ⟨4, _⟩ => ⟨S4096x11264, .f32⟩
  | .hbm, ⟨5, _⟩ => ⟨S4096x1024, .f32⟩
  | .hbm, ⟨6, _⟩ => ⟨S1024x2048, .f32⟩
  | .hbm, ⟨7, _⟩ => ⟨S4096x2048, .f32⟩
  | .hbm, ⟨8, _⟩ => ⟨S4096x1024, .f32⟩
  | .hbm, ⟨9, _⟩ => ⟨S1024x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | .hbm, ⟨33, _⟩ => ⟨S4096x2048, .bf16⟩
  | .hbm, ⟨34, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== OutProjBwd.lean ====
abbrev S4096x2048 : Shape := ⟨2, ![4096, 2048]⟩
abbrev S2048x2048 : Shape := ⟨2, ![2048, 2048]⟩
abbrev S4096x11264 : Shape := ⟨2, ![4096, 11264]⟩
abbrev S512x2048 : Shape := ⟨2, ![512, 2048]⟩
abbrev S512x512 : Shape := ⟨2, ![512, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .hbm, ⟨4, _⟩ => ⟨S4096x11264, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutProjBwdRefIdeal.lean ====
abbrev S4096x2048 : Shape := ⟨2, ![4096, 2048]⟩
abbrev S2048x2048 : Shape := ⟨2, ![2048, 2048]⟩
abbrev S4096x11264 : Shape := ⟨2, ![4096, 11264]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .hbm, ⟨4, _⟩ => ⟨S4096x11264, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S2048x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .bf16⟩
  | .hbm, ⟨47, _⟩ => ⟨S4096x2048, .bf16⟩
  | .hbm, ⟨48, _⟩ => ⟨S4096x2048, .bf16⟩
  | .hbm, ⟨49, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== DSgu.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSguRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwB.lean ====
abbrev S4096x1024 : Shape := ⟨2, ![4096, 1024]⟩
abbrev S4096x2048 : Shape := ⟨2, ![4096, 2048]⟩
abbrev S4x2x512x512 : Shape := ⟨4, ![4, 2, 512, 512]⟩
abbrev S4096x512 : Shape := ⟨2, ![4096, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x2x512x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x1x512x512, .bf16⟩
  | .local _ .vmem, ⟨5, _⟩ => ⟨S1x1x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S4x2x512x512 : Shape := ⟨4, ![4, 2, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | .hbm, ⟨10, _⟩ => ⟨S2x512x4x512, .f32⟩
  | .hbm, ⟨11, _⟩ => ⟨S4x2x512x512, .f32⟩
  | .hbm, ⟨12, _⟩ => ⟨S4x2x512x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DyaPre.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaPreRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwA.lean ====
abbrev S4096x1024 : Shape := ⟨2, ![4096, 1024]⟩
abbrev S4096x2048 : Shape := ⟨2, ![4096, 2048]⟩
abbrev S4x2x512x512 : Shape := ⟨4, ![4, 2, 512, 512]⟩
abbrev S4096x512 : Shape := ⟨2, ![4096, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x2x512x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x1x512x512, .bf16⟩
  | .local _ .vmem, ⟨5, _⟩ => ⟨S1x1x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwARefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S4x2x512x512 : Shape := ⟨4, ![4, 2, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | .hbm, ⟨10, _⟩ => ⟨S2x512x4x512, .f32⟩
  | .hbm, ⟨11, _⟩ => ⟨S4x2x512x512, .f32⟩
  | .hbm, ⟨12, _⟩ => ⟨S4x2x512x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Ff2.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2RefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DaFf1.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaFf1RefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwFf1.lean ====
abbrev S4096x2048 : Shape := ⟨2, ![4096, 2048]⟩
abbrev S4096x8192 : Shape := ⟨2, ![4096, 8192]⟩
abbrev S4x2x1024x2048 : Shape := ⟨4, ![4, 2, 1024, 2048]⟩
abbrev S2048x1024 : Shape := ⟨2, ![2048, 1024]⟩
abbrev S2048x2048 : Shape := ⟨2, ![2048, 2048]⟩
abbrev S1x1x1024x2048 : Shape := ⟨4, ![1, 1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf1RefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2x1024x4x2048 : Shape := ⟨4, ![2, 1024, 4, 2048]⟩
abbrev S4x2x1024x2048 : Shape := ⟨4, ![4, 2, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | .hbm, ⟨10, _⟩ => ⟨S2x1024x4x2048, .f32⟩
  | .hbm, ⟨11, _⟩ => ⟨S4x2x1024x2048, .f32⟩
  | .hbm, ⟨12, _⟩ => ⟨S4x2x1024x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwIn.lean ====
abbrev S4096x2048 : Shape := ⟨2, ![4096, 2048]⟩
abbrev S4096x11264 : Shape := ⟨2, ![4096, 11264]⟩
abbrev S4x2x1024x2816 : Shape := ⟨4, ![4, 2, 1024, 2816]⟩
abbrev S1024x1024 : Shape := ⟨2, ![1024, 1024]⟩
abbrev S1024x2816 : Shape := ⟨2, ![1024, 2816]⟩
abbrev S1x1x1024x2816 : Shape := ⟨4, ![1, 1, 1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2x1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1024x2816, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2x1024x4x2816 : Shape := ⟨4, ![2, 1024, 4, 2816]⟩
abbrev S4x2x1024x2816 : Shape := ⟨4, ![4, 2, 1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S4096x2048, .f32⟩
  | .hbm, ⟨10, _⟩ => ⟨S2x1024x4x2816, .f32⟩
  | .hbm, ⟨11, _⟩ => ⟨S4x2x1024x2816, .f32⟩
  | .hbm, ⟨12, _⟩ => ⟨S4x2x1024x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DaIn.lean ====
abbrev S4096x11264 : Shape := ⟨2, ![4096, 11264]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaInRefIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwO.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwORefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Prenorm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ModMatmul.lean ====
abbrev S8x2048 : Shape := ⟨2, ![8, 2048]⟩
abbrev S2048x3072 : Shape := ⟨2, ![2048, 3072]⟩
abbrev S1x3072 : Shape := ⟨2, ![1, 3072]⟩
abbrev S8x3072 : Shape := ⟨2, ![8, 3072]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x3072, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModMatmulRefIdeal.lean ====
abbrev S8x2048 : Shape := ⟨2, ![8, 2048]⟩
abbrev S2048x3072 : Shape := ⟨2, ![2048, 3072]⟩
abbrev S1x3072 : Shape := ⟨2, ![1, 3072]⟩
abbrev S_ : Shape := ⟨0, ![]⟩
abbrev S8x3072 : Shape := ⟨2, ![8, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x3072, .f32⟩
  | .hbm, ⟨13, _⟩ => ⟨S8x3072, .f32⟩
  | .hbm, ⟨14, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== WadaUpdate.lean ====
abbrev S8x2048 : Shape := ⟨2, ![8, 2048]⟩
abbrev S8x3072 : Shape := ⟨2, ![8, 3072]⟩
abbrev S2048x3072 : Shape := ⟨2, ![2048, 3072]⟩
abbrev S8x512 : Shape := ⟨2, ![8, 512]⟩
abbrev S8x1024 : Shape := ⟨2, ![8, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .local _ .vmem, ⟨0, _⟩ => ⟨S8x512, .f32⟩
  | .local _ .vmem, ⟨1, _⟩ => ⟨S8x512, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== WadaUpdateRefIdeal.lean ====
abbrev S8x2048 : Shape := ⟨2, ![8, 2048]⟩
abbrev S8x3072 : Shape := ⟨2, ![8, 3072]⟩
abbrev S2048x3072 : Shape := ⟨2, ![2048, 3072]⟩
abbrev S_ : Shape := ⟨0, ![]⟩
abbrev S3072x2048 : Shape := ⟨2, ![3072, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x3072, .f32⟩
  | .hbm, ⟨15, _⟩ => ⟨S3072x2048, .f32⟩
  | .hbm, ⟨16, _⟩ => ⟨S2048x3072, .f32⟩
  | .hbm, ⟨17, _⟩ => ⟨S_, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S_, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== AdamSmall.lean ====
abbrev S1216x128 : Shape := ⟨2, ![1216, 128]⟩

abbrev nBuf : Space → Nat
  | .hbm => 7
  | .vmem => 7
  | .smem => 0
  | _ => 0

abbrev bufTy : (tb : Table) → Fin (tcTables nBuf tb) → BufTy
  | .hbm, ⟨0, _⟩ => ⟨S1216x128, .f32⟩
  | .hbm, ⟨1, _⟩ => ⟨S1216x128, .f32⟩
  | .hbm, ⟨2, _⟩ => ⟨S1216x128, .f32⟩
  | .hbm, ⟨3, _⟩ => ⟨S1216x128, .f32⟩
  | .hbm, ⟨4, _⟩ => ⟨S1216x128, .f32⟩
  | .hbm, ⟨5, _⟩ => ⟨S1216x128, .f32⟩
  | .hbm, ⟨6, _⟩ => ⟨S1216x128, .f32⟩
  | .local _ .vmem, ⟨0, _⟩ => ⟨S1216x128, .f32⟩
  | .local _ .vmem, ⟨1, _⟩ => ⟨S1216x128, .f32⟩
  | .local _ .vmem, ⟨2, _⟩ => ⟨S1216x128, .f32⟩
  | .local _ .vmem, ⟨3, _⟩ => ⟨S1216x128, .f32⟩
  | .local _ .vmem, ⟨4, _⟩ => ⟨S1216x128, .f32⟩
  | .local _ .vmem, ⟨5, _⟩ => ⟨S1216x128, .f32⟩
  | .local _ .vmem, ⟨6, _⟩ => ⟨S1216x128, .f32⟩
  | _, _ => ⟨S1216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1216x128 : Shape := ⟨2, ![1216, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1216x128, .f32⟩
  | .hbm, ⟨1, _⟩ => ⟨S1216x128, .f32⟩
  | .hbm, ⟨2, _⟩ => ⟨S1216x128, .f32⟩
  | .hbm, ⟨3, _⟩ => ⟨S1216x128, .f32⟩
  | .hbm, ⟨4, _⟩ => ⟨S_, .f32⟩
  | .hbm, ⟨5, _⟩ => ⟨S1216x128, .f32⟩
  | .hbm, ⟨6, _⟩ => ⟨S1216x128, .f32⟩
  | .hbm, ⟨7, _⟩ => ⟨S_, .f32⟩
  | .hbm, ⟨8, _⟩ => ⟨S1216x128, .f32⟩
  | .hbm, ⟨9, _⟩ => ⟨S1216x128, .f32⟩
  | .hbm, ⟨10, _⟩ => ⟨S1216x128, .f32⟩
  | .hbm, ⟨11, _⟩ => ⟨S_, .f32⟩
  | .hbm, ⟨12, _⟩ => ⟨S1216x128, .f32⟩
  | .hbm, ⟨13, _⟩ => ⟨S1216x128, .f32⟩
  | .hbm, ⟨14, _⟩ => ⟨S1216x128, .f32⟩
  | .hbm, ⟨15, _⟩ => ⟨S_, .f32⟩
  | .hbm, ⟨16, _⟩ => ⟨S1216x128, .f32⟩
  | .hbm, ⟨17, _⟩ => ⟨S1216x128, .f32⟩
  | .hbm, ⟨18, _⟩ => ⟨S1216x128, .f32⟩
  | .hbm, ⟨19, _⟩ => ⟨S_, .f32⟩
  | .hbm, ⟨20, _⟩ => ⟨S1216x128, .f32⟩
  | .hbm, ⟨21, _⟩ => ⟨S1216x128, .f32⟩
  | .hbm, ⟨22, _⟩ => ⟨S_, .f32⟩
  | .hbm, ⟨23, _⟩ => ⟨S1216x128, .f32⟩
  | .hbm, ⟨24, _⟩ => ⟨S1216x128, .f32⟩
  | .hbm, ⟨25, _⟩ => ⟨S1216x128, .f32⟩
  | .hbm, ⟨26, _⟩ => ⟨S_, .f32⟩
  | .hbm, ⟨27, _⟩ => ⟨S1216x128, .f32⟩
  | .hbm, ⟨28, _⟩ => ⟨S1216x128, .f32⟩
  | .hbm, ⟨29, _⟩ => ⟨S1216x128, .f32⟩
  | .hbm, ⟨30, _⟩ => ⟨S_, .f32⟩
  | .hbm, ⟨31, _⟩ => ⟨S1216x128, .f32⟩
  | .hbm, ⟨32, _⟩ => ⟨S1216x128, .f32⟩
  | .hbm, ⟨33, _⟩ => ⟨S1216x128, .f32⟩
  | .hbm, ⟨34, _⟩ => ⟨S_, .f32⟩
  | .hbm, ⟨35, _⟩ => ⟨S1216x128, .f32⟩
  | .hbm, ⟨36, _⟩ => ⟨S1216x128, .f32⟩
  | _, _ => ⟨S1216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MixNormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixNormBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== LossBwd.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S8x128, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x2048, .f32⟩
  | .hbm, ⟨67, _⟩ => ⟨S4096x2048, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x1, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S_, .f32⟩
  | .hbm, ⟨100, _⟩ => ⟨S_, .f32⟩
  | .hbm, ⟨101, _⟩ => ⟨S4096x2048, .bf16⟩
  | .hbm, ⟨102, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== FfnNormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 15
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnNormBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 121
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S_, .f32⟩
  | .hbm, ⟨95, _⟩ => ⟨S2048, .f32⟩
  | .hbm, ⟨96, _⟩ => ⟨S1x2048, .f32⟩
  | .hbm, ⟨97, _⟩ => ⟨S4096x2048, .f32⟩
  | .hbm, ⟨98, _⟩ => ⟨S_, .f32⟩
  | .hbm, ⟨99, _⟩ => ⟨S2048, .f32⟩
  | .hbm, ⟨100, _⟩ => ⟨S1x2048, .f32⟩
  | .hbm, ⟨101, _⟩ => ⟨S4096x2048, .f32⟩
  | .hbm, ⟨102, _⟩ => ⟨S4096x2048, .f32⟩
  | .hbm, ⟨103, _⟩ => ⟨S4096x2048, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x2048, .f32⟩
  | .hbm, ⟨108, _⟩ => ⟨S4096x2048, .f32⟩
  | .hbm, ⟨109, _⟩ => ⟨S4096x1, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S_, .f32⟩
  | .hbm, ⟨114, _⟩ => ⟨S4096, .f32⟩
  | .hbm, ⟨115, _⟩ => ⟨S4096x2048, .f32⟩
  | .hbm, ⟨116, _⟩ => ⟨S4096x2048, .f32⟩
  | .hbm, ⟨117, _⟩ => ⟨S4096x2048, .f32⟩
  | .hbm, ⟨118, _⟩ => ⟨S4096x2048, .f32⟩
  | .hbm, ⟨119, _⟩ => ⟨S4096x2048, .f32⟩
  | .hbm, ⟨120, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Proof.Spec.lean ====
/-
  What the gradient of the spatial gating unit is, over the REAL numbers: one chunk of 128 positions at a time, with its
  1024 channels in eight groups of 128. Both programs' results are read as these functions of the arguments' real values.
  The last section is the one piece of calculus-free algebra between the two texts: the derivative of the layer norm as
  the kernel writes it (two means subtracted) and as jax's reverse mode leaves it (through the variance and the mean).
-/
module

public import Idealize.ShloMosaic.PureOps.Ideal

@[expose] public section

noncomputable section

namespace Cert.Spec

/-- The error function. -/
def erf (x : ℝ) : ℝ := 2 / Real.sqrt Real.pi * ∫ t in (0 : ℝ)..x, Real.exp (-(t ^ 2))

/-- The 1e-6 of the layer norm, as the single-precision number both programs add. -/
def eps : ℝ := 8796093 / 8796093022208

/-- Half of the slope of the error function at zero, as the single-precision number jax differentiates it by, over √2. -/
def slope0 : ℝ := 9465531 * (16777216 : ℝ)⁻¹ * (Real.sqrt 2)⁻¹

/-- The exact GELU. -/
def gelu (x : ℝ) : ℝ := 1 / 2 * x * (1 + erf (x * (Real.sqrt 2)⁻¹))

/-- Its derivative. -/
def gelu' (x : ℝ) : ℝ := 1 / 2 * (1 + erf (x * (Real.sqrt 2)⁻¹)) + x * Real.exp (-(1 / 2) * x * x) * slope0

/-! ## The layer norm of one row -/

/-- The mean of a row of 1024. -/
def mean (z : Fin 1024 → ℝ) : ℝ := (∑ k, z k) / 1024

/-- An element's deviation from its row's mean. -/
def dev (z : Fin 1024 → ℝ) (j : Fin 1024) : ℝ := z j - mean z

/-- The row's variance, plus `eps`. -/
def var (z : Fin 1024 → ℝ) : ℝ := mean (fun j => dev z j * dev z j) + eps

/-- The reciprocal of its root. -/
def rstd (z : Fin 1024 → ℝ) : ℝ := (Real.sqrt (var z))⁻¹

/-- The normalised row. -/
def dhat (z : Fin 1024 → ℝ) (j : Fin 1024) : ℝ := dev z j * rstd z

/-- The derivative of the normalised row applied to a cotangent `e`. -/
def normBwd (z e : Fin 1024 → ℝ) (j : Fin 1024) : ℝ :=
  rstd z * (e j - mean e - dhat z j * mean (fun k => e k * dhat z k))

theorem eps_pos : 0 < eps := by unfold eps; norm_num

theorem var_pos (z : Fin 1024 → ℝ) : 0 < var z := by
  unfold var mean
  have : 0 ≤ ∑ k, dev z k * dev z k := Finset.sum_nonneg fun k _ => mul_self_nonneg _
  have := eps_pos
  positivity

/-! ## One chunk -/

/-- Channel `c` of group `q`. -/
def col (q : Fin 8) (c : Fin 128) : Fin 1024 := ⟨128 * q.val + c.val, by omega⟩

/-- The group of a channel. -/
def grp (j : Fin 1024) : Fin 8 := ⟨j.val / 128, by omega⟩

/-- A channel's place in its group. -/
def sub (j : Fin 1024) : Fin 128 := ⟨j.val % 128, by omega⟩

/-- A channel is recognised by its number. -/
theorem eq_col {j : Fin 1024} (q : Fin 8) (c : Fin 128) (h : j.val = 128 * q.val + c.val) : j = col q c := Fin.ext h

theorem col_grp (j : Fin 1024) : col (grp j) (sub j) = j := by
  apply Fin.ext; simp only [col, grp, sub]; omega

theorem grp_col (q : Fin 8) (c : Fin 128) : grp (col q c) = q := by
  apply Fin.ext; simp only [col, grp]; omega

/-- One chunk's arguments: the two halves of the gating unit's input and the cotangent, each 128 positions by 1024
    channels; the gain, the mixing matrices of the eight groups and their biases. -/
structure Chunk where
  /-- the half that is multiplied in -/
  u : Fin 128 → Fin 1024 → ℝ
  /-- the gating half -/
  v : Fin 128 → Fin 1024 → ℝ
  /-- the cotangent -/
  ds : Fin 128 → Fin 1024 → ℝ
  /-- the layer norm's gain -/
  g : Fin 1024 → ℝ
  /-- the mixing matrices -/
  w : Fin 8 → Fin 128 → Fin 128 → ℝ
  /-- the biases -/
  b : Fin 8 → Fin 128 → ℝ

namespace Chunk

variable (C : Chunk)

/-- The gating half after GELU, one row. -/
def zv (r : Fin 128) (j : Fin 1024) : ℝ := gelu (C.v r j)

/-- … normalised and scaled. -/
def vn (r : Fin 128) (j : Fin 1024) : ℝ := dhat (C.zv r) j * C.g j

/-- … mixed over the chunk's positions, plus the bias: the gate. -/
def vm (r : Fin 128) (j : Fin 1024) : ℝ := (∑ s, C.w (grp j) r s * C.vn s j) + C.b (grp j) r

/-- The gate at channel `c` of group `q`. -/
theorem vm_col (q : Fin 8) (r c : Fin 128) : C.vm r (col q c) = (∑ s, C.w q r s * C.vn s (col q c)) + C.b q r := by
  simp only [vm, grp_col]

/-- The cotangent of the half that is multiplied in. -/
def du (r : Fin 128) (j : Fin 1024) : ℝ := C.ds r j * C.vm r j

/-- The cotangent of the gate. -/
def dvm (r : Fin 128) (j : Fin 1024) : ℝ := C.ds r j * gelu (C.u r j)

/-- … taken back through the mixing. -/
def dvn (s : Fin 128) (j : Fin 1024) : ℝ := ∑ t, C.w (grp j) t s * C.dvm t j

/-- … at channel `c` of group `q`. -/
theorem dvn_col (q : Fin 8) (s c : Fin 128) : C.dvn s (col q c) = ∑ t, C.w q t s * C.dvm t (col q c) := by
  simp only [dvn, grp_col]

/-- … and through the gain. -/
def ddh (s : Fin 128) (j : Fin 1024) : ℝ := C.dvn s j * C.g j

/-- The gradient of the multiplied half. -/
def dzu (r : Fin 128) (j : Fin 1024) : ℝ := C.du r j * gelu' (C.u r j)

/-- The gradient of the gating half. -/
def dzv (r : Fin 128) (j : Fin 1024) : ℝ := normBwd (C.zv r) (C.ddh r) j * gelu' (C.v r j)

/-- Both gradients side by side. -/
def dz (r : Fin 128) (k : Fin 2048) : ℝ :=
  if h : k.val < 1024 then C.dzu r ⟨k.val, h⟩ else C.dzv r ⟨k.val - 1024, by omega⟩

theorem dz_lo (r : Fin 128) (j : Fin 1024) (h : 0 + j.val < 2048) : C.dz r ⟨0 + j.val, h⟩ = C.dzu r j := by
  have e : (0 + j.val) < 1024 := by omega
  simp only [dz, dif_pos e]
  exact congrArg _ (Fin.ext (by simp))

theorem dz_hi (r : Fin 128) (j : Fin 1024) (h : 1024 + j.val < 2048) : C.dz r ⟨1024 + j.val, h⟩ = C.dzv r j := by
  have e : ¬(1024 + j.val) < 1024 := by omega
  simp only [dz, dif_neg e]
  exact congrArg _ (Fin.ext (by simp))

/-- The chunk's part of the mixing matrices' gradient. -/
def dw (q : Fin 8) (t s : Fin 128) : ℝ := ∑ c, C.dvm t (col q c) * C.vn s (col q c)

/-- The chunk's part of the biases' gradient. -/
def db (q : Fin 8) (t : Fin 128) : ℝ := ∑ c, C.dvm t (col q c)

/-- The chunk's part of the gain's gradient. -/
def dg (j : Fin 1024) : ℝ := ∑ r, C.dvn r j * dhat (C.zv r) j

end Chunk

/-! ## The derivative of the layer norm, in jax's order -/

theorem sum_dev (z : Fin 1024 → ℝ) : ∑ k, dev z k = 0 := by
  simp only [dev, mean, Finset.sum_sub_distrib, Finset.sum_const, Finset.card_univ, Fintype.card_fin, nsmul_eq_mul]
  push_cast; ring

theorem rstd_sq (z : Fin 1024 → ℝ) : rstd z * rstd z * var z = 1 := by
  have h := var_pos z
  have hs : Real.sqrt (var z) * Real.sqrt (var z) = var z := Real.mul_self_sqrt h.le
  have hn : Real.sqrt (var z) ≠ 0 := (Real.sqrt_pos.mpr h).ne'
  unfold rstd
  field_simp
  rw [pow_two]
  exact hs.symm

/-- What reverse mode adds to a row through the variance: minus half its derivative, over the row's length. -/
def viaVar (z e : Fin 1024 → ℝ) : ℝ :=
  (∑ k, dev z k * e k) * (-(1 / 2) * (rstd z / var z)) / 1024

/-- The cotangent of the deviations. -/
def devBwd (z e : Fin 1024 → ℝ) (j : Fin 1024) : ℝ :=
  e j * rstd z + dev z j * viaVar z e + viaVar z e * dev z j

theorem normBwd_eq (z e : Fin 1024 → ℝ) (j : Fin 1024) :
    devBwd z e j + (∑ k, -devBwd z e k) / 1024 = normBwd z e j := by
  have h1 : (∑ k, -devBwd z e k) = -(rstd z * ∑ k, e k) := by
    have : ∀ k, -devBwd z e k = -(rstd z * e k) - 2 * viaVar z e * dev z k := fun k => by unfold devBwd; ring
    simp only [this, Finset.sum_sub_distrib, Finset.sum_neg_distrib, ← Finset.mul_sum, sum_dev]
    ring
  have h2 : rstd z / var z = rstd z * rstd z * rstd z := by
    have hv := (var_pos z).ne'
    rw [div_eq_iff hv]
    linear_combination (-rstd z) * rstd_sq z
  have h3 : (∑ k, e k * dhat z k) = rstd z * ∑ k, dev z k * e k := by
    rw [Finset.mul_sum]
    exact Finset.sum_congr rfl fun k _ => by unfold dhat; ring
  rw [h1]
  unfold normBwd devBwd viaVar mean
  rw [h2, h3]
  unfold dhat
  ring

end Cert.Spec

end
-- ==== Proof.Lift.lean ====
/-
  Reading the ideal operations at FINITE arguments: each is the real operation of the real values. With these as rewrite
  rules (right to left where an operation is pushed under the embedding) an expression over finite elements becomes the
  embedding of one real expression.
-/
module

public import Idealize.ShloMosaic.Lib.Pointwise
public import proofs.«01_k».proof.Proof.Spec

@[expose] public section

noncomputable section

namespace Cert.Lift

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_erf (x : ℝ) : Ideal.erf (x : EReal) = ((Spec.erf x : ℝ) : EReal) := rfl

theorem coe_exp (x : ℝ) : Ideal.exp (x : EReal) = ((Real.exp x : ℝ) : EReal) := rfl

/-! … and as the generated texts print them. -/

theorem erf_coe (x : ℝ) : @FloatOps.erf Ideal _ .f32 (x : EReal) = ((Spec.erf x : ℝ) : EReal) := rfl

theorem exp_coe (x : ℝ) : @FloatOps.exp Ideal _ .f32 (x : EReal) = ((Real.exp x : ℝ) : EReal) := rfl

theorem coe_erfc_neg (x : ℝ) : Ideal.erfc ((-x : ℝ) : EReal) = ((1 + Spec.erf x : ℝ) : EReal) := by
  rw [EReal.coe_neg, Ideal.erfc_neg, coe_erf, EReal.coe_add, EReal.coe_one]

theorem coe_rsqrt {x : ℝ} (h : 0 < x) : Ideal.rsqrt (x : EReal) = (((Real.sqrt x)⁻¹ : ℝ) : EReal) := by
  show (if x < 0 then _ else if x = 0 then _ else _) = _
  rw [if_neg (not_lt.mpr h.le), if_neg h.ne']

theorem coe_div {x y : ℝ} (h : y ≠ 0) : Ideal.div (x : EReal) (y : EReal) = ((x / y : ℝ) : EReal) :=
  (Ideal.div_coe h x).trans (by rw [← EReal.coe_mul, mul_one_div])

/-! The constants both texts print. -/

theorem half : Ideal.ofBits .f32 0x3F000000#32 = ((1 / 2 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem eps : Ideal.ofBits .f32 0x358637BD#32 = ((Spec.eps : ℝ) : EReal) := by
  unfold Spec.eps
  simp [Ideal.ofBits, Ideal.ieee, -EReal.coe_mul]; norm_num

theorem neg_slope : Ideal.ofBits .f32 0xBF906EBB#32 = ((-(9465531 / 8388608) : ℝ) : EReal) := by
  simp [Ideal.ofBits, Ideal.ieee, -EReal.coe_mul]; norm_num

theorem inf : Ideal.ofBits .f32 0x7F800000#32 = ⊤ := by
  simp [Ideal.ofBits, Ideal.ieee]

theorem sqrt_two : Ideal.sqrt ((2 : ℝ) : EReal) = ((Real.sqrt 2 : ℝ) : EReal) := by
  show (if (2 : ℝ) < 0 then _ else _) = _
  rw [if_neg (by norm_num)]

theorem sqrt_two_ne : Real.sqrt 2 ≠ 0 := (Real.sqrt_pos.mpr (by norm_num)).ne'

end Cert.Lift

end
-- ==== Proof.Block.lean ====
/-
  Each value the kernel's body computes, at one element, when the blocks it reads are finite: the corresponding real
  number of the chunk. One lemma per definition of the generated skeleton; the eight channel groups repeat one another at
  other offsets.
-/
module

public import Idealize.ShloMosaic.Lib.Pointwise
public import proofs.«01_k».proof.Proof.Lift
public import proofs.«01_k».proof.Proof.Gen.KernelIdeal.Skeleton

@[expose] public section

set_option maxRecDepth 16384

noncomputable section

namespace Cert.KernelIdeal.Block

open Idealize.ShloMosaic Cert.KernelIdeal.Gen Cert.Spec

theorem named_two : Named.named (F := Ideal) (φ := .f32) κ "inv_sqrt_two" 0x3F3504F3#32 = (((Real.sqrt 2)⁻¹ : ℝ) : EReal) :=
  IdealRules.named_const.ideal_named_scalar _ _ _ _ rfl

theorem named_slope : Named.named (F := Ideal) (φ := .f32) κ "half_erf_slope_over_sqrt_two" 0x3ECC422A#32 = ((slope0 : ℝ) : EReal) :=
  IdealRules.named_const.ideal_named_scalar _ _ _ _ rfl

theorem ne1024 : (1024 : ℝ) ≠ 0 := by norm_num

/-- Eight pieces of 128 channels side by side, each a piece of `f`, are `f`. -/
theorem side_by_side {α : Type} (p0 p1 p2 p3 p4 p5 p6 p7 : Fin 128 → α) (f : Fin 1024 → α) (h0 : ∀ c, p0 c = f (col 0 c)) (h1 : ∀ c, p1 c = f (col 1 c)) (h2 : ∀ c, p2 c = f (col 2 c)) (h3 : ∀ c, p3 c = f (col 3 c)) (h4 : ∀ c, p4 c = f (col 4 c)) (h5 : ∀ c, p5 c = f (col 5 c)) (h6 : ∀ c, p6 c = f (col 6 c)) (h7 : ∀ c, p7 c = f (col 7 c)) (j : Fin 1024) :
    (if h : j.val < 128 then p0 ⟨j.val, h⟩ else (if h : j.val - 128 < 128 then p1 ⟨j.val - 128, h⟩ else (if h : j.val - 128 - 128 < 128 then p2 ⟨j.val - 128 - 128, h⟩ else (if h : j.val - 128 - 128 - 128 < 128 then p3 ⟨j.val - 128 - 128 - 128, h⟩ else (if h : j.val - 128 - 128 - 128 - 128 < 128 then p4 ⟨j.val - 128 - 128 - 128 - 128, h⟩ else (if h : j.val - 128 - 128 - 128 - 128 - 128 < 128 then p5 ⟨j.val - 128 - 128 - 128 - 128 - 128, h⟩ else (if h : j.val - 128 - 128 - 128 - 128 - 128 - 128 < 128 then p6 ⟨j.val - 128 - 128 - 128 - 128 - 128 - 128, h⟩ else p7 ⟨j.val - 128 - 128 - 128 - 128 - 128 - 128 - 128, by omega⟩))))))) = f j := by
  by_cases c0 : j.val < 128
  · rw [dif_pos c0, h0]; exact congrArg f (eq_col 0 _ (by simp)).symm
  rw [dif_neg c0]
  by_cases c1 : j.val - 128 < 128
  · rw [dif_pos c1, h1]; exact congrArg f (eq_col 1 _ (by simp; omega)).symm
  rw [dif_neg c1]
  by_cases c2 : j.val - 128 - 128 < 128
  · rw [dif_pos c2, h2]; exact congrArg f (eq_col 2 _ (by simp; omega)).symm
  rw [dif_neg c2]
  by_cases c3 : j.val - 128 - 128 - 128 < 128
  · rw [dif_pos c3, h3]; exact congrArg f (eq_col 3 _ (by simp; omega)).symm
  rw [dif_neg c3]
  by_cases c4 : j.val - 128 - 128 - 128 - 128 < 128
  · rw [dif_pos c4, h4]; exact congrArg f (eq_col 4 _ (by simp; omega)).symm
  rw [dif_neg c4]
  by_cases c5 : j.val - 128 - 128 - 128 - 128 - 128 < 128
  · rw [dif_pos c5, h5]; exact congrArg f (eq_col 5 _ (by simp; omega)).symm
  rw [dif_neg c5]
  by_cases c6 : j.val - 128 - 128 - 128 - 128 - 128 - 128 < 128
  · rw [dif_pos c6, h6]; exact congrArg f (eq_col 6 _ (by simp; omega)).symm
  rw [dif_neg c6]
  rw [h7]; exact congrArg f (eq_col 7 _ (by simp; omega)).symm

/-- A block whose elements are the reals `f`. -/
abbrev Real2 {a b : Nat} (x : (⟨2, ![a, b]⟩ : Shape).Idx → EReal) (f : Fin a → Fin b → ℝ) : Prop := ∀ r j, x (ix2 r j) = (f r j : EReal)

/-- A slab whose elements are the reals `f`. -/
abbrev Real3 {a b : Nat} (x : (⟨3, ![1, a, b]⟩ : Shape).Idx → EReal) (f : Fin a → Fin b → ℝ) : Prop := ∀ r j, x (ix3 0 r j) = (f r j : EReal)

variable {C : Chunk}

/-! ## GELU and the layer norm -/

theorem real_zu {x : S128x1024.Idx → EReal} {u : Fin 128 → Fin 1024 → ℝ} (h : Real2 x u) :
    Real2 (k0_pay5 (F := Ideal) x) fun r j => gelu (u r j) := by
  intro r j
  pointwise [k0_pay5]
  simp only [h, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dev {x : S128x1024.Idx → EReal} (h : Real2 x C.v) :
    Real2 (k0_pay6 (F := Ideal) x) fun r j => dev (C.zv r) j := by
  intro r j
  pointwise [k0_pay6]
  simp only [h, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_rstd {x : S128x1024.Idx → EReal} (h : Real2 x C.v) :
    Real2 (k0_pay7 (F := Ideal) x) fun r _ => rstd (C.zv r) := by
  intro r j
  pointwise [k0_pay7]
  simp only [real_dev h, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact Lift.coe_rsqrt (var_pos (C.zv r))

theorem real_dhat {x : S128x1024.Idx → EReal} (h : Real2 x C.v) :
    Real2 (k0_pay8 (F := Ideal) x) fun r j => dhat (C.zv r) j := by
  intro r j
  pointwise [k0_pay8]
  simp only [real_dev h, real_rstd h, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_gain {x : S1x1024.Idx → EReal} (h : Real2 x fun _ => C.g) :
    Real2 (k0_pay9 (F := Ideal) x) fun _ => C.g := by
  intro r j
  pointwise [k0_pay9]
  exact h 0 j

theorem real_vn {d g : S128x1024.Idx → EReal} (hd : Real2 d fun r => dhat (C.zv r)) (hg : Real2 g fun _ => C.g) :
    Real2 (k0_pay10 (F := Ideal) d g) C.vn := by
  intro r j
  pointwise [k0_pay10]
  simp only [hd, hg, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

/-! ## The gate, group by group -/

theorem real_vm0 {d g : S128x1024.Idx → EReal} (hd : Real2 d fun r => dhat (C.zv r)) (hg : Real2 g fun _ => C.g) {w : S1x128x128.Idx → EReal} (hw : Real3 w (C.w 0)) {b : S128x1.Idx → EReal} (hb : Real2 b fun t _ => C.b 0 t) :
    Real2 (k0_pay11 (F := Ideal) d g w b) fun r c => C.vm r (col 0 c) := by
  intro r j
  pointwise [k0_pay11]
  have e : (⟨↑j, by omega⟩ : Fin 1024) = col 0 j := eq_col _ _ (by simp)
  simp only [e]
  simp only [real_vn hd hg, hw, hb, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.vm_col C 0 r j).symm

theorem real_vm1 {d g : S128x1024.Idx → EReal} (hd : Real2 d fun r => dhat (C.zv r)) (hg : Real2 g fun _ => C.g) {w : S1x128x128.Idx → EReal} (hw : Real3 w (C.w 1)) {b : S128x1.Idx → EReal} (hb : Real2 b fun t _ => C.b 1 t) :
    Real2 (k0_pay12 (F := Ideal) d g w b) fun r c => C.vm r (col 1 c) := by
  intro r j
  pointwise [k0_pay12]
  have e : (⟨128 + ↑j, by omega⟩ : Fin 1024) = col 1 j := eq_col _ _ (by simp)
  simp only [e]
  simp only [real_vn hd hg, hw, hb, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.vm_col C 1 r j).symm

theorem real_vm2 {d g : S128x1024.Idx → EReal} (hd : Real2 d fun r => dhat (C.zv r)) (hg : Real2 g fun _ => C.g) {w : S1x128x128.Idx → EReal} (hw : Real3 w (C.w 2)) {b : S128x1.Idx → EReal} (hb : Real2 b fun t _ => C.b 2 t) :
    Real2 (k0_pay13 (F := Ideal) d g w b) fun r c => C.vm r (col 2 c) := by
  intro r j
  pointwise [k0_pay13]
  have e : (⟨256 + ↑j, by omega⟩ : Fin 1024) = col 2 j := eq_col _ _ (by simp)
  simp only [e]
  simp only [real_vn hd hg, hw, hb, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.vm_col C 2 r j).symm

theorem real_vm3 {d g : S128x1024.Idx → EReal} (hd : Real2 d fun r => dhat (C.zv r)) (hg : Real2 g fun _ => C.g) {w : S1x128x128.Idx → EReal} (hw : Real3 w (C.w 3)) {b : S128x1.Idx → EReal} (hb : Real2 b fun t _ => C.b 3 t) :
    Real2 (k0_pay16 (F := Ideal) (k0_pay14 (F := Ideal) d g w) (k0_pay15 (F := Ideal) b)) fun r c => C.vm r (col 3 c) := by
  intro r j
  pointwise [k0_pay16, k0_pay14, k0_pay15]
  have e : (⟨384 + ↑j, by omega⟩ : Fin 1024) = col 3 j := eq_col _ _ (by simp)
  simp only [e]
  simp only [real_vn hd hg, hw, hb, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.vm_col C 3 r j).symm

theorem real_vm4 {vn : S128x1024.Idx → EReal} (hn : Real2 vn C.vn) {w : S1x128x128.Idx → EReal} (hw : Real3 w (C.w 4)) {b : S128x1.Idx → EReal} (hb : Real2 b fun t _ => C.b 4 t) :
    Real2 (k0_pay17 (F := Ideal) vn w b) fun r c => C.vm r (col 4 c) := by
  intro r j
  pointwise [k0_pay17]
  have e : (⟨512 + ↑j, by omega⟩ : Fin 1024) = col 4 j := eq_col _ _ (by simp)
  simp only [e]
  simp only [hn, hw, hb, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.vm_col C 4 r j).symm

theorem real_vm5 {vn : S128x1024.Idx → EReal} (hn : Real2 vn C.vn) {w : S1x128x128.Idx → EReal} (hw : Real3 w (C.w 5)) {b : S128x1.Idx → EReal} (hb : Real2 b fun t _ => C.b 5 t) :
    Real2 (k0_pay18 (F := Ideal) vn w b) fun r c => C.vm r (col 5 c) := by
  intro r j
  pointwise [k0_pay18]
  have e : (⟨640 + ↑j, by omega⟩ : Fin 1024) = col 5 j := eq_col _ _ (by simp)
  simp only [e]
  simp only [hn, hw, hb, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.vm_col C 5 r j).symm

theorem real_vm6 {vn : S128x1024.Idx → EReal} (hn : Real2 vn C.vn) {w : S1x128x128.Idx → EReal} (hw : Real3 w (C.w 6)) {b : S128x1.Idx → EReal} (hb : Real2 b fun t _ => C.b 6 t) :
    Real2 (k0_pay19 (F := Ideal) vn w b) fun r c => C.vm r (col 6 c) := by
  intro r j
  pointwise [k0_pay19]
  have e : (⟨768 + ↑j, by omega⟩ : Fin 1024) = col 6 j := eq_col _ _ (by simp)
  simp only [e]
  simp only [hn, hw, hb, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.vm_col C 6 r j).symm

/-! ## The two cotangents -/

theorem real_du {p0 p1 p2 p3 p4 p5 p6 : S128x128.Idx → EReal} (h0 : Real2 p0 fun r c => C.vm r (col 0 c)) (h1 : Real2 p1 fun r c => C.vm r (col 1 c)) (h2 : Real2 p2 fun r c => C.vm r (col 2 c)) (h3 : Real2 p3 fun r c => C.vm r (col 3 c)) (h4 : Real2 p4 fun r c => C.vm r (col 4 c)) (h5 : Real2 p5 fun r c => C.vm r (col 5 c)) (h6 : Real2 p6 fun r c => C.vm r (col 6 c))
    {vn : S128x1024.Idx → EReal} (hn : Real2 vn C.vn) {w : S1x128x128.Idx → EReal} (hw : Real3 w (C.w 7)) {b : S128x1.Idx → EReal} (hb : Real2 b fun t _ => C.b 7 t) {ds : S128x1024.Idx → EReal} (hds : Real2 ds C.ds) :
    Real2 (k0_pay22 (F := Ideal) p0 p1 p2 p3 p4 p5 p6 (k0_pay20 (F := Ideal) vn w) (k0_pay21 (F := Ideal) b) ds) C.du := by
  intro r j
  pointwise [k0_pay22, k0_pay20, k0_pay21]
  have last : ∀ c : Fin 128, (∑ x, w (ix3 0 r x) * vn (ix2 x ⟨896 + ↑c, by omega⟩)) + b (ix2 r 0) = ((C.vm r (col 7 c) : ℝ) : EReal) := fun c => by
    have e : (⟨896 + ↑c, by omega⟩ : Fin 1024) = col 7 c := eq_col _ _ (by simp)
    simp only [e, hn, hw, hb, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
    exact congrArg _ (Chunk.vm_col C 7 r c).symm
  rw [hds]
  exact (congrArg _ (side_by_side (fun c => p0 (ix2 r c)) (fun c => p1 (ix2 r c)) (fun c => p2 (ix2 r c)) (fun c => p3 (ix2 r c)) (fun c => p4 (ix2 r c)) (fun c => p5 (ix2 r c)) (fun c => p6 (ix2 r c)) _ (fun k => ((C.vm r k : ℝ) : EReal)) (h0 r) (h1 r) (h2 r) (h3 r) (h4 r) (h5 r) (h6 r) last j)).trans (EReal.coe_mul _ _).symm

theorem real_dvm {zu ds : S128x1024.Idx → EReal} (hz : Real2 zu fun r j => gelu (C.u r j)) (hds : Real2 ds C.ds) :
    Real2 (k0_pay23 (F := Ideal) zu ds) C.dvm := by
  intro r j
  pointwise [k0_pay23]
  simp only [hz, hds, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dvm_b {zu ds : S128x1024.Idx → EReal} (hz : Real2 zu fun r j => gelu (C.u r j)) (hds : Real2 ds C.ds) :
    Real2 (k0_pay24 (F := Ideal) zu ds) C.dvm := by
  intro r j
  pointwise [k0_pay24]
  exact real_dvm hz hds r j

/-! ## What a point adds to the gradients of the mixing matrices and of the biases, and the cotangent taken back through the mixing -/

theorem real_dw0 {zu ds : S128x1024.Idx → EReal} (hz : Real2 zu fun r j => gelu (C.u r j)) (hds : Real2 ds C.ds) {vn : S128x1024.Idx → EReal} (hn : Real2 vn C.vn) {a : S1x128x128.Idx → EReal} {f : Fin 128 → Fin 128 → ℝ} (ha : Real3 a f) :
    Real3 (k0_pay26 (F := Ideal) zu vn ds a) fun t s => f t s + C.dw 0 t s := by
  intro r j
  pointwise [k0_pay26]
  have e : ∀ k : Fin 128, (⟨↑k, by omega⟩ : Fin 1024) = col 0 k := fun k => eq_col _ _ (by simp)
  simp only [e, real_dvm_b hz hds, hn, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dw1 {zu ds : S128x1024.Idx → EReal} (hz : Real2 zu fun r j => gelu (C.u r j)) (hds : Real2 ds C.ds) {vn : S128x1024.Idx → EReal} (hn : Real2 vn C.vn) {a : S1x128x128.Idx → EReal} {f : Fin 128 → Fin 128 → ℝ} (ha : Real3 a f) :
    Real3 (k0_pay32 (F := Ideal) (k0_pay29 (F := Ideal) a) (k0_pay30 (F := Ideal) zu ds) (k0_pay31 (F := Ideal) vn)) fun t s => f t s + C.dw 1 t s := by
  intro r j
  pointwise [k0_pay32, k0_pay29, k0_pay30, k0_pay31]
  have e : ∀ k : Fin 128, (⟨128 + ↑k, by omega⟩ : Fin 1024) = col 1 k := fun k => eq_col _ _ (by simp)
  simp only [e, real_dvm_b hz hds, hn, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dw2 {vn : S128x1024.Idx → EReal} (hn : Real2 vn C.vn) {dv : S128x1024.Idx → EReal} (hv : Real2 dv C.dvm) {a : S1x128x128.Idx → EReal} {f : Fin 128 → Fin 128 → ℝ} (ha : Real3 a f) :
    Real3 (k0_pay35 (F := Ideal) vn dv a) fun t s => f t s + C.dw 2 t s := by
  intro r j
  pointwise [k0_pay35]
  have e : ∀ k : Fin 128, (⟨256 + ↑k, by omega⟩ : Fin 1024) = col 2 k := fun k => eq_col _ _ (by simp)
  simp only [e, hv, hn, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dw3 {vn : S128x1024.Idx → EReal} (hn : Real2 vn C.vn) {dv : S128x1024.Idx → EReal} (hv : Real2 dv C.dvm) {a : S1x128x128.Idx → EReal} {f : Fin 128 → Fin 128 → ℝ} (ha : Real3 a f) :
    Real3 (k0_pay40 (F := Ideal) vn dv a) fun t s => f t s + C.dw 3 t s := by
  intro r j
  pointwise [k0_pay40]
  have e : ∀ k : Fin 128, (⟨384 + ↑k, by omega⟩ : Fin 1024) = col 3 k := fun k => eq_col _ _ (by simp)
  simp only [e, hv, hn, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dw4 {vn : S128x1024.Idx → EReal} (hn : Real2 vn C.vn) {dv : S128x1024.Idx → EReal} (hv : Real2 dv C.dvm) {a : S1x128x128.Idx → EReal} {f : Fin 128 → Fin 128 → ℝ} (ha : Real3 a f) :
    Real3 (k0_pay43 (F := Ideal) vn dv a) fun t s => f t s + C.dw 4 t s := by
  intro r j
  pointwise [k0_pay43]
  have e : ∀ k : Fin 128, (⟨512 + ↑k, by omega⟩ : Fin 1024) = col 4 k := fun k => eq_col _ _ (by simp)
  simp only [e, hv, hn, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dw5 {vn : S128x1024.Idx → EReal} (hn : Real2 vn C.vn) {dv : S128x1024.Idx → EReal} (hv : Real2 dv C.dvm) {a : S1x128x128.Idx → EReal} {f : Fin 128 → Fin 128 → ℝ} (ha : Real3 a f) :
    Real3 (k0_pay46 (F := Ideal) vn dv a) fun t s => f t s + C.dw 5 t s := by
  intro r j
  pointwise [k0_pay46]
  have e : ∀ k : Fin 128, (⟨640 + ↑k, by omega⟩ : Fin 1024) = col 5 k := fun k => eq_col _ _ (by simp)
  simp only [e, hv, hn, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dw6 {vn : S128x1024.Idx → EReal} (hn : Real2 vn C.vn) {dv : S128x1024.Idx → EReal} (hv : Real2 dv C.dvm) {a : S1x128x128.Idx → EReal} {f : Fin 128 → Fin 128 → ℝ} (ha : Real3 a f) :
    Real3 (k0_pay49 (F := Ideal) vn dv a) fun t s => f t s + C.dw 6 t s := by
  intro r j
  pointwise [k0_pay49]
  have e : ∀ k : Fin 128, (⟨768 + ↑k, by omega⟩ : Fin 1024) = col 6 k := fun k => eq_col _ _ (by simp)
  simp only [e, hv, hn, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dw7 {vn : S128x1024.Idx → EReal} (hn : Real2 vn C.vn) {dv : S128x1024.Idx → EReal} (hv : Real2 dv C.dvm) {a : S1x128x128.Idx → EReal} {f : Fin 128 → Fin 128 → ℝ} (ha : Real3 a f) :
    Real3 (k0_pay51 (F := Ideal) vn dv a) fun t s => f t s + C.dw 7 t s := by
  intro r j
  pointwise [k0_pay51]
  have e : ∀ k : Fin 128, (⟨896 + ↑k, by omega⟩ : Fin 1024) = col 7 k := fun k => eq_col _ _ (by simp)
  simp only [e, hv, hn, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_db0 {zu ds : S128x1024.Idx → EReal} (hz : Real2 zu fun r j => gelu (C.u r j)) (hds : Real2 ds C.ds) {a : S1x8x128.Idx → EReal} {f : Fin 8 → Fin 128 → ℝ} (ha : Real3 a f) :
    Real3 (k0_pay27 (F := Ideal) zu ds a) fun k t => f k t + C.db 0 t := by
  intro r j
  pointwise [k0_pay27, k0_pay25]
  have e : ∀ k : Fin 128, (⟨↑k, by omega⟩ : Fin 1024) = col 0 k := fun k => eq_col _ _ (by simp)
  simp only [e, real_dvm hz hds, ha, one_mul, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_db1 {dv : S128x1024.Idx → EReal} (hv : Real2 dv C.dvm) {a : S1x8x128.Idx → EReal} {f : Fin 8 → Fin 128 → ℝ} (ha : Real3 a f) :
    Real3 (k0_pay33 (F := Ideal) dv (k0_pay25 (F := Ideal)) a) fun k t => f k t + C.db 1 t := by
  intro r j
  pointwise [k0_pay33, k0_pay25]
  have e : ∀ k : Fin 128, (⟨128 + ↑k, by omega⟩ : Fin 1024) = col 1 k := fun k => eq_col _ _ (by simp)
  simp only [e, hv, ha, one_mul, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_db2 {dv : S128x1024.Idx → EReal} (hv : Real2 dv C.dvm) {a : S1x8x128.Idx → EReal} {f : Fin 8 → Fin 128 → ℝ} (ha : Real3 a f) :
    Real3 (k0_pay38 (F := Ideal) (k0_pay36 (F := Ideal) a) (k0_pay37 (F := Ideal) dv (k0_pay25 (F := Ideal)))) fun k t => f k t + C.db 2 t := by
  intro r j
  pointwise [k0_pay36, k0_pay37, k0_pay38, k0_pay25]
  have e : ∀ k : Fin 128, (⟨256 + ↑k, by omega⟩ : Fin 1024) = col 2 k := fun k => eq_col _ _ (by simp)
  simp only [e, hv, ha, one_mul, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_db3 {dv : S128x1024.Idx → EReal} (hv : Real2 dv C.dvm) {a : S1x8x128.Idx → EReal} {f : Fin 8 → Fin 128 → ℝ} (ha : Real3 a f) :
    Real3 (k0_pay41 (F := Ideal) dv (k0_pay25 (F := Ideal)) a) fun k t => f k t + C.db 3 t := by
  intro r j
  pointwise [k0_pay41, k0_pay25]
  have e : ∀ k : Fin 128, (⟨384 + ↑k, by omega⟩ : Fin 1024) = col 3 k := fun k => eq_col _ _ (by simp)
  simp only [e, hv, ha, one_mul, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_db4 {dv : S128x1024.Idx → EReal} (hv : Real2 dv C.dvm) {a : S1x8x128.Idx → EReal} {f : Fin 8 → Fin 128 → ℝ} (ha : Real3 a f) :
    Real3 (k0_pay44 (F := Ideal) dv (k0_pay25 (F := Ideal)) a) fun k t => f k t + C.db 4 t := by
  intro r j
  pointwise [k0_pay44, k0_pay25]
  have e : ∀ k : Fin 128, (⟨512 + ↑k, by omega⟩ : Fin 1024) = col 4 k := fun k => eq_col _ _ (by simp)
  simp only [e, hv, ha, one_mul, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_db5 {dv : S128x1024.Idx → EReal} (hv : Real2 dv C.dvm) {a : S1x8x128.Idx → EReal} {f : Fin 8 → Fin 128 → ℝ} (ha : Real3 a f) :
    Real3 (k0_pay47 (F := Ideal) dv (k0_pay25 (F := Ideal)) a) fun k t => f k t + C.db 5 t := by
  intro r j
  pointwise [k0_pay47, k0_pay25]
  have e : ∀ k : Fin 128, (⟨640 + ↑k, by omega⟩ : Fin 1024) = col 5 k := fun k => eq_col _ _ (by simp)
  simp only [e, hv, ha, one_mul, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_db6 {dv : S128x1024.Idx → EReal} (hv : Real2 dv C.dvm) {a : S1x8x128.Idx → EReal} {f : Fin 8 → Fin 128 → ℝ} (ha : Real3 a f) :
    Real3 (k0_pay50 (F := Ideal) dv (k0_pay25 (F := Ideal)) a) fun k t => f k t + C.db 6 t := by
  intro r j
  pointwise [k0_pay50, k0_pay25]
  have e : ∀ k : Fin 128, (⟨768 + ↑k, by omega⟩ : Fin 1024) = col 6 k := fun k => eq_col _ _ (by simp)
  simp only [e, hv, ha, one_mul, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_db7 {dv : S128x1024.Idx → EReal} (hv : Real2 dv C.dvm) {a : S1x8x128.Idx → EReal} {f : Fin 8 → Fin 128 → ℝ} (ha : Real3 a f) :
    Real3 (k0_pay52 (F := Ideal) dv (k0_pay25 (F := Ideal)) a) fun k t => f k t + C.db 7 t := by
  intro r j
  pointwise [k0_pay52, k0_pay25]
  have e : ∀ k : Fin 128, (⟨896 + ↑k, by omega⟩ : Fin 1024) = col 7 k := fun k => eq_col _ _ (by simp)
  simp only [e, hv, ha, one_mul, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dvn0 {zu ds : S128x1024.Idx → EReal} (hz : Real2 zu fun r j => gelu (C.u r j)) (hds : Real2 ds C.ds) {w : S1x128x128.Idx → EReal} (hw : Real3 w (C.w 0)) :
    Real2 (k0_pay28 (F := Ideal) zu ds w) fun s c => C.dvn s (col 0 c) := by
  intro r j
  pointwise [k0_pay28]
  have e : (⟨↑j, by omega⟩ : Fin 1024) = col 0 j := eq_col _ _ (by simp)
  simp only [e]
  simp only [real_dvm_b hz hds, hw, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.dvn_col C 0 r j).symm

theorem real_dvn1 {dv : S128x1024.Idx → EReal} (hv : Real2 dv C.dvm) {w : S1x128x128.Idx → EReal} (hw : Real3 w (C.w 1)) :
    Real2 (k0_pay34 (F := Ideal) dv w) fun s c => C.dvn s (col 1 c) := by
  intro r j
  pointwise [k0_pay34]
  have e : (⟨128 + ↑j, by omega⟩ : Fin 1024) = col 1 j := eq_col _ _ (by simp)
  simp only [e]
  simp only [hv, hw, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.dvn_col C 1 r j).symm

theorem real_dvn2 {dv : S128x1024.Idx → EReal} (hv : Real2 dv C.dvm) {w : S1x128x128.Idx → EReal} (hw : Real3 w (C.w 2)) :
    Real2 (k0_pay39 (F := Ideal) dv w) fun s c => C.dvn s (col 2 c) := by
  intro r j
  pointwise [k0_pay39]
  have e : (⟨256 + ↑j, by omega⟩ : Fin 1024) = col 2 j := eq_col _ _ (by simp)
  simp only [e]
  simp only [hv, hw, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.dvn_col C 2 r j).symm

theorem real_dvn3 {dv : S128x1024.Idx → EReal} (hv : Real2 dv C.dvm) {w : S1x128x128.Idx → EReal} (hw : Real3 w (C.w 3)) :
    Real2 (k0_pay42 (F := Ideal) dv w) fun s c => C.dvn s (col 3 c) := by
  intro r j
  pointwise [k0_pay42]
  have e : (⟨384 + ↑j, by omega⟩ : Fin 1024) = col 3 j := eq_col _ _ (by simp)
  simp only [e]
  simp only [hv, hw, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.dvn_col C 3 r j).symm

theorem real_dvn4 {dv : S128x1024.Idx → EReal} (hv : Real2 dv C.dvm) {w : S1x128x128.Idx → EReal} (hw : Real3 w (C.w 4)) :
    Real2 (k0_pay45 (F := Ideal) dv w) fun s c => C.dvn s (col 4 c) := by
  intro r j
  pointwise [k0_pay45]
  have e : (⟨512 + ↑j, by omega⟩ : Fin 1024) = col 4 j := eq_col _ _ (by simp)
  simp only [e]
  simp only [hv, hw, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.dvn_col C 4 r j).symm

theorem real_dvn5 {dv : S128x1024.Idx → EReal} (hv : Real2 dv C.dvm) {w : S1x128x128.Idx → EReal} (hw : Real3 w (C.w 5)) :
    Real2 (k0_pay48 (F := Ideal) dv w) fun s c => C.dvn s (col 5 c) := by
  intro r j
  pointwise [k0_pay48]
  have e : (⟨640 + ↑j, by omega⟩ : Fin 1024) = col 5 j := eq_col _ _ (by simp)
  simp only [e]
  simp only [hv, hw, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  exact congrArg _ (Chunk.dvn_col C 5 r j).symm

theorem real_dvn {dv : S128x1024.Idx → EReal} (hv : Real2 dv C.dvm) {p0 p1 p2 p3 p4 p5 : S128x128.Idx → EReal} (h0 : Real2 p0 fun s c => C.dvn s (col 0 c)) (h1 : Real2 p1 fun s c => C.dvn s (col 1 c)) (h2 : Real2 p2 fun s c => C.dvn s (col 2 c)) (h3 : Real2 p3 fun s c => C.dvn s (col 3 c)) (h4 : Real2 p4 fun s c => C.dvn s (col 4 c)) (h5 : Real2 p5 fun s c => C.dvn s (col 5 c))
    {w6 w7 : S1x128x128.Idx → EReal} (hw6 : Real3 w6 (C.w 6)) (hw7 : Real3 w7 (C.w 7)) :
    Real2 (k0_pay53 (F := Ideal) dv p0 p1 p2 p3 p4 p5 w6 w7) C.dvn := by
  intro r j
  pointwise [k0_pay53]
  have s6 : ∀ c : Fin 128, (∑ x, w6 (ix3 0 x r) * dv (ix2 x ⟨768 + ↑c, by omega⟩)) = ((C.dvn r (col 6 c) : ℝ) : EReal) := fun c => by
    have e : (⟨768 + ↑c, by omega⟩ : Fin 1024) = col 6 c := eq_col _ _ (by simp)
    simp only [e, hv, hw6, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
    exact congrArg _ (Chunk.dvn_col C 6 r c).symm
  have s7 : ∀ c : Fin 128, (∑ x, w7 (ix3 0 x r) * dv (ix2 x ⟨896 + ↑c, by omega⟩)) = ((C.dvn r (col 7 c) : ℝ) : EReal) := fun c => by
    have e : (⟨896 + ↑c, by omega⟩ : Fin 1024) = col 7 c := eq_col _ _ (by simp)
    simp only [e, hv, hw7, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
    exact congrArg _ (Chunk.dvn_col C 7 r c).symm
  exact side_by_side (fun c => p0 (ix2 r c)) (fun c => p1 (ix2 r c)) (fun c => p2 (ix2 r c)) (fun c => p3 (ix2 r c)) (fun c => p4 (ix2 r c)) (fun c => p5 (ix2 r c)) _ _ (fun k => ((C.dvn r k : ℝ) : EReal)) (h0 r) (h1 r) (h2 r) (h3 r) (h4 r) (h5 r) s6 s7 j

theorem real_dg {d : S128x1024.Idx → EReal} (hd : Real2 d fun r => dhat (C.zv r)) {dv : S128x1024.Idx → EReal} (hv : Real2 dv C.dvm) {p0 p1 p2 p3 p4 p5 : S128x128.Idx → EReal} (h0 : Real2 p0 fun s c => C.dvn s (col 0 c)) (h1 : Real2 p1 fun s c => C.dvn s (col 1 c)) (h2 : Real2 p2 fun s c => C.dvn s (col 2 c)) (h3 : Real2 p3 fun s c => C.dvn s (col 3 c)) (h4 : Real2 p4 fun s c => C.dvn s (col 4 c)) (h5 : Real2 p5 fun s c => C.dvn s (col 5 c))
    {w6 w7 : S1x128x128.Idx → EReal} (hw6 : Real3 w6 (C.w 6)) (hw7 : Real3 w7 (C.w 7))
    {a : S1x1024.Idx → EReal} {f : Fin 1024 → ℝ} (ha : Real2 a fun _ => f) :
    Real2 (k0_pay54 (F := Ideal) d dv p0 p1 p2 p3 p4 p5 w6 w7 a) fun _ j => f j + C.dg j := by
  intro r j
  pointwise [k0_pay54]
  simp only [real_dvn hv h0 h1 h2 h3 h4 h5 hw6 hw7, hd, ha, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

/-! ## The gradient of the input -/

theorem real_norm {s : S128x1.Idx → EReal} (hs : Real2 s fun r _ => rstd (C.zv r)) {d dvn : S128x1024.Idx → EReal} (hd : Real2 d fun r => dhat (C.zv r)) (hdvn : Real2 dvn C.dvn)
    {g : S1x1024.Idx → EReal} (hg : Real2 g fun _ => C.g) :
    Real2 (k0_pay55 (F := Ideal) s d dvn g) fun r j => normBwd (C.zv r) (C.ddh r) j := by
  intro r j
  pointwise [k0_pay55]
  simp only [hs, hd, hdvn, hg, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dzu {du x : S128x1024.Idx → EReal} (hdu : Real2 du C.du) (h : Real2 x C.u) :
    Real2 (k0_pay56 (F := Ideal) du x) C.dzu := by
  intro r j
  pointwise [k0_pay56]
  simp only [hdu, h, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

theorem real_dzv {e x : S128x1024.Idx → EReal} (he : Real2 e fun r j => normBwd (C.zv r) (C.ddh r) j) (h : Real2 x C.v) :
    Real2 (k0_pay1 (F := Ideal) e x (k0_pay57 (F := Ideal))) C.dzv := by
  intro r j
  pointwise [k0_pay1, k0_pay57]
  simp only [he, h, named_two, named_slope, Lift.half, Lift.neg_half, Lift.width, Lift.eps, Lift.erf_coe, Lift.exp_coe, Lift.coe_erf, Lift.coe_exp, Lift.coe_div ne1024, ← EReal.coe_mul, ← EReal.coe_one, ← EReal.coe_add, ← EReal.coe_sub, ← Lift.coe_sum]
  rfl

end Cert.KernelIdeal.Block

end
-- ==== Proof.Outs.lean ====
/-
  What one grid point leaves in each output's staging buffer, when the blocks it reads are the chunk's: the gradient of
  the chunk's input, and each accumulator with the chunk's part added (case A, the first point, starts from zero; case B
  from what the point before left).
-/
module

public import proofs.«01_k».proof.Proof.Block
public import proofs.«01_k».proof.Proof.Gen.KernelIdeal.Value
public import Idealize.ShloMosaic.Lib.Pipeline.ReadBack

@[expose] public section

set_option maxRecDepth 16384

noncomputable section

namespace Cert.KernelIdeal.Block

open Idealize.ShloMosaic Cert.KernelIdeal.Gen Cert.Spec Idealize.ShloMosaic.Tactic

/-! ## Rectangles at coordinates -/

theorem slab_emb {a b : Nat} (n : Nat) (q : Fin 8) (hn : n = q.val)
    (inb : ∀ k, (![n, 0, 0] : Fin 3 → Nat) k + (![1, a, b] : Fin 3 → Nat) k ≤ (⟨3, ![8, a, b]⟩ : Shape).size k) (t : Fin a) (s : Fin b) :
    (Rect.unit (s := ⟨3, ![8, a, b]⟩) ![n, 0, 0] ![1, a, b] inb).emb (ix3 0 t s) = ix3 q t s := by
  subst hn
  funext k
  apply Fin.ext
  match k with
  | ⟨0, _⟩ => show q.val + 1 * 0 = q.val; omega
  | ⟨1, _⟩ => show 0 + 1 * t.val = t.val; omega
  | ⟨2, _⟩ => show 0 + 1 * s.val = s.val; omega

/-- A slab read out of eight. -/
theorem slab_ld {a b : Nat} {x : (⟨3, ![8, a, b]⟩ : Shape).Idx → EReal} {f : Fin 8 → Fin a → Fin b → ℝ}
    (h : ∀ q t s, x (ix3 q t s) = (f q t s : EReal)) (n : Nat) (q : Fin 8) (hn : n = q.val)
    (inb : ∀ k, (![n, 0, 0] : Fin 3 → Nat) k + (![1, a, b] : Fin 3 → Nat) k ≤ (⟨3, ![8, a, b]⟩ : Shape).size k) :
    Real3 (View.ld (Val := Elt Ideal) (e' := .f32) x (Rect.unit (s := ⟨3, ![8, a, b]⟩) ![n, 0, 0] ![1, a, b] inb)) (f q) := fun t s =>
  (congrArg x (slab_emb n q hn inb t s)).trans (h q t s)

/-- A slab stored into eight is a block of `G` when its elements are. -/
theorem slab_piece {a b : Nat} (n : Nat) (q : Fin 8) (hn : n = q.val)
    (inb : ∀ k, (![n, 0, 0] : Fin 3 → Nat) k + (![1, a, b] : Fin 3 → Nat) k ≤ (⟨3, ![8, a, b]⟩ : Shape).size k)
    {w : (⟨3, ![1, a, b]⟩ : Shape).Idx → EReal} {f : Fin 8 → Fin a → Fin b → ℝ} (hw : Real3 w (f q))
    (x : (⟨3, ![1, a, b]⟩ : Shape).Idx) :
    w x = (fun y : (⟨3, ![8, a, b]⟩ : Shape).Idx => ((f (y 0) (y 1) (y 2) : ℝ) : EReal)) ((Rect.unit (s := ⟨3, ![8, a, b]⟩) ![n, 0, 0] ![1, a, b] inb).emb x) := by
  obtain ⟨t, s, rfl⟩ : ∃ (t : Fin a) (s : Fin b), x = ix3 0 t s := by
    refine ⟨x 1, x 2, ?_⟩
    funext k
    match k with
    | ⟨0, _⟩ => exact Subsingleton.elim (α := Fin 1) _ _
    | ⟨1, _⟩ => rfl
    | ⟨2, _⟩ => rfl
  rw [slab_emb n q hn inb]
  exact hw _ _

/-- A column read out of eight. -/
theorem column_ld {x : S128x8.Idx → EReal} {f : Fin 8 → Fin 128 → ℝ} (h : ∀ t q, x (ix2 t q) = (f q t : EReal)) (n : Nat) (q : Fin 8) (hn : n = q.val)
    (inb : ∀ k, (![0, n] : Fin 2 → Nat) k + (![128, 1] : Fin 2 → Nat) k ≤ S128x8.size k) :
    Real2 (View.ld (Val := Elt Ideal) (e' := .f32) x (Rect.unit (s := S128x8) ![0, n] ![128, 1] inb)) fun t _ => f q t := fun t k => by
  refine (congrArg x ?_).trans (h t q)
  subst hn
  funext a
  apply Fin.ext
  match a with
  | ⟨0, _⟩ => show 0 + 1 * t.val = t.val; omega
  | ⟨1, _⟩ => show q.val + 1 * k.val = q.val; omega

/-- Half of the 2048 channels of a block. -/
theorem half_emb (n : Nat) (inb : ∀ k, (![0, n] : Fin 2 → Nat) k + (![128, 1024] : Fin 2 → Nat) k ≤ S128x2048.size k) (hn : n + 1024 ≤ 2048) (r : Fin 128) (j : Fin 1024) :
    (Rect.unit (s := S128x2048) ![0, n] ![128, 1024] inb).emb (ix2 r j) = ix2 r ⟨n + j.val, by omega⟩ := by
  funext a
  apply Fin.ext
  match a with
  | ⟨0, _⟩ => show 0 + 1 * r.val = r.val; omega
  | ⟨1, _⟩ => show n + 1 * j.val = n + j.val; omega

/-- A half stored into the 2048 channels is a block of `G` when its elements are. -/
theorem half_piece (n : Nat) (inb : ∀ k, (![0, n] : Fin 2 → Nat) k + (![128, 1024] : Fin 2 → Nat) k ≤ S128x2048.size k) (hn : n + 1024 ≤ 2048)
    {w : S128x1024.Idx → EReal} {f : Fin 128 → Fin 1024 → ℝ} (hw : Real2 w f) {g : Fin 128 → Fin 2048 → ℝ} (hg : ∀ r j, g r ⟨n + j.val, by omega⟩ = f r j)
    (x : S128x1024.Idx) : w x = (fun y : S128x2048.Idx => ((g (y 0) (y 1) : ℝ) : EReal)) ((Rect.unit (s := S128x2048) ![0, n] ![128, 1024] inb).emb x) := by
  obtain ⟨r, j, rfl⟩ : ∃ (r : Fin 128) (j : Fin 1024), x = ix2 r j := ⟨x 0, x 1, eq_ix2 x⟩
  rw [half_emb n inb hn, hw]
  exact congrArg _ (hg _ _).symm

/-! ## The blocks a point reads -/

/-- The six blocks hold the chunk's arguments. -/
structure Reads (C : Chunk) (x0 x1 x2 : S128x1024.Idx → EReal) (x3 : S1x1024.Idx → EReal) (x4 : S8x128x128.Idx → EReal) (x5 : S128x8.Idx → EReal) : Prop where
  u : Real2 x0 C.u
  v : Real2 x1 C.v
  ds : Real2 x2 C.ds
  g : Real2 x3 fun _ => C.g
  w : ∀ q t s, x4 (ix3 q t s) = (C.w q t s : EReal)
  b : ∀ t q, x5 (ix2 t q) = (C.b q t : EReal)

variable {C : Chunk} {x0 x1 x2 : S128x1024.Idx → EReal} {x3 : S1x1024.Idx → EReal} {x4 : S8x128x128.Idx → EReal} {x5 : S128x8.Idx → EReal}

namespace Reads

variable (h : Reads C x0 x1 x2 x3 x4 x5)
include h

theorem zu : Real2 (k0_pay5 (F := Ideal) x0) fun r j => gelu (C.u r j) := real_zu h.u
theorem dhat : Real2 (k0_pay8 (F := Ideal) x1) fun r => Spec.dhat (C.zv r) := real_dhat h.v
theorem gain : Real2 (k0_pay9 (F := Ideal) x3) fun _ => C.g := real_gain h.g
theorem vn : Real2 (k0_pay10 (F := Ideal) (k0_pay8 x1) (k0_pay9 x3)) C.vn := real_vn h.dhat h.gain
theorem dvm : Real2 (k0_pay23 (F := Ideal) (k0_pay5 x0) x2) C.dvm := real_dvm h.zu h.ds
theorem dvm_b : Real2 (k0_pay24 (F := Ideal) (k0_pay5 x0) x2) C.dvm := real_dvm_b h.zu h.ds

end Reads

/-! ## The stores, as one function of the blocks -/

local notation "V" => Elt Ideal

/-- Point stores of the mixing matrices' gradient over `acc`. -/
def dwStores (x0 x1 x2 : S128x1024.Idx → EReal) (x3 : S1x1024.Idx → EReal) (acc : S8x128x128.Idx → EReal) : List (View.Piece V S8x128x128 .f32) :=
  [
    ⟨Rect.unit (s := S8x128x128) ![7, 0, 0] ![1, 128, 128] inb_S8x128x128_S1x128x128_7_0_0, k0_pay51 (k0_pay10 (k0_pay8 x1) (k0_pay9 x3)) (k0_pay24 (k0_pay5 x0) x2) (View.ld (Val := V) (e' := .f32) acc (Rect.unit (s := S8x128x128) ![7, 0, 0] ![1, 128, 128] inb_S8x128x128_S1x128x128_7_0_0))⟩,
    ⟨Rect.unit (s := S8x128x128) ![6, 0, 0] ![1, 128, 128] inb_S8x128x128_S1x128x128_6_0_0, k0_pay49 (k0_pay10 (k0_pay8 x1) (k0_pay9 x3)) (k0_pay24 (k0_pay5 x0) x2) (View.ld (Val := V) (e' := .f32) acc (Rect.unit (s := S8x128x128) ![6, 0, 0] ![1, 128, 128] inb_S8x128x128_S1x128x128_6_0_0))⟩,
    ⟨Rect.unit (s := S8x128x128) ![5, 0, 0] ![1, 128, 128] inb_S8x128x128_S1x128x128_5_0_0, k0_pay46 (k0_pay10 (k0_pay8 x1) (k0_pay9 x3)) (k0_pay24 (k0_pay5 x0) x2) (View.ld (Val := V) (e' := .f32) acc (Rect.unit (s := S8x128x128) ![5, 0, 0] ![1, 128, 128] inb_S8x128x128_S1x128x128_5_0_0))⟩,
    ⟨Rect.unit (s := S8x128x128) ![4, 0, 0] ![1, 128, 128] inb_S8x128x128_S1x128x128_4_0_0, k0_pay43 (k0_pay10 (k0_pay8 x1) (k0_pay9 x3)) (k0_pay24 (k0_pay5 x0) x2) (View.ld (Val := V) (e' := .f32) acc (Rect.unit (s := S8x128x128) ![4, 0, 0] ![1, 128, 128] inb_S8x128x128_S1x128x128_4_0_0))⟩,
    ⟨Rect.unit (s := S8x128x128) ![3, 0, 0] ![1, 128, 128] inb_S8x128x128_S1x128x128_3_0_0, k0_pay40 (k0_pay10 (k0_pay8 x1) (k0_pay9 x3)) (k0_pay24 (k0_pay5 x0) x2) (View.ld (Val := V) (e' := .f32) acc (Rect.unit (s := S8x128x128) ![3, 0, 0] ![1, 128, 128] inb_S8x128x128_S1x128x128_3_0_0))⟩,
    ⟨Rect.unit (s := S8x128x128) ![2, 0, 0] ![1, 128, 128] inb_S8x128x128_S1x128x128_2_0_0, k0_pay35 (k0_pay10 (k0_pay8 x1) (k0_pay9 x3)) (k0_pay24 (k0_pay5 x0) x2) (View.ld (Val := V) (e' := .f32) acc (Rect.unit (s := S8x128x128) ![2, 0, 0] ![1, 128, 128] inb_S8x128x128_S1x128x128_2_0_0))⟩,
    ⟨Rect.unit (s := S8x128x128) ![1, 0, 0] ![1, 128, 128] inb_S8x128x128_S1x128x128_1_0_0, k0_pay32 (k0_pay29 (View.ld (Val := V) (e' := .f32) acc (Rect.unit (s := S8x128x128) ![1, 0, 0] ![1, 128, 128] inb_S8x128x128_S1x128x128_1_0_0))) (k0_pay30 (k0_pay5 x0) x2) (k0_pay31 (k0_pay10 (k0_pay8 x1) (k0_pay9 x3)))⟩,
    ⟨Rect.unit (s := S8x128x128) ![0, 0, 0] ![1, 128, 128] inb_S8x128x128_S1x128x128_0_0_0, k0_pay26 (k0_pay5 x0) (k0_pay10 (k0_pay8 x1) (k0_pay9 x3)) x2 (View.ld (Val := V) (e' := .f32) acc (Rect.unit (s := S8x128x128) ![0, 0, 0] ![1, 128, 128] inb_S8x128x128_S1x128x128_0_0_0))⟩]

/-- Point stores of the biases' gradient over `acc`. -/
def dbStores (x0 x2 : S128x1024.Idx → EReal) (acc : S8x8x128.Idx → EReal) : List (View.Piece V S8x8x128 .f32) :=
  [
    ⟨Rect.unit (s := S8x8x128) ![7, 0, 0] ![1, 8, 128] inb_S8x8x128_S1x8x128_7_0_0, k0_pay52 (k0_pay23 (k0_pay5 x0) x2) k0_pay25 (View.ld (Val := V) (e' := .f32) acc (Rect.unit (s := S8x8x128) ![7, 0, 0] ![1, 8, 128] inb_S8x8x128_S1x8x128_7_0_0))⟩,
    ⟨Rect.unit (s := S8x8x128) ![6, 0, 0] ![1, 8, 128] inb_S8x8x128_S1x8x128_6_0_0, k0_pay50 (k0_pay23 (k0_pay5 x0) x2) k0_pay25 (View.ld (Val := V) (e' := .f32) acc (Rect.unit (s := S8x8x128) ![6, 0, 0] ![1, 8, 128] inb_S8x8x128_S1x8x128_6_0_0))⟩,
    ⟨Rect.unit (s := S8x8x128) ![5, 0, 0] ![1, 8, 128] inb_S8x8x128_S1x8x128_5_0_0, k0_pay47 (k0_pay23 (k0_pay5 x0) x2) k0_pay25 (View.ld (Val := V) (e' := .f32) acc (Rect.unit (s := S8x8x128) ![5, 0, 0] ![1, 8, 128] inb_S8x8x128_S1x8x128_5_0_0))⟩,
    ⟨Rect.unit (s := S8x8x128) ![4, 0, 0] ![1, 8, 128] inb_S8x8x128_S1x8x128_4_0_0, k0_pay44 (k0_pay23 (k0_pay5 x0) x2) k0_pay25 (View.ld (Val := V) (e' := .f32) acc (Rect.unit (s := S8x8x128) ![4, 0, 0] ![1, 8, 128] inb_S8x8x128_S1x8x128_4_0_0))⟩,
    ⟨Rect.unit (s := S8x8x128) ![3, 0, 0] ![1, 8, 128] inb_S8x8x128_S1x8x128_3_0_0, k0_pay41 (k0_pay23 (k0_pay5 x0) x2) k0_pay25 (View.ld (Val := V) (e' := .f32) acc (Rect.unit (s := S8x8x128) ![3, 0, 0] ![1, 8, 128] inb_S8x8x128_S1x8x128_3_0_0))⟩,
    ⟨Rect.unit (s := S8x8x128) ![2, 0, 0] ![1, 8, 128] inb_S8x8x128_S1x8x128_2_0_0, k0_pay38 (k0_pay36 (View.ld (Val := V) (e' := .f32) acc (Rect.unit (s := S8x8x128) ![2, 0, 0] ![1, 8, 128] inb_S8x8x128_S1x8x128_2_0_0))) (k0_pay37 (k0_pay23 (k0_pay5 x0) x2) k0_pay25)⟩,
    ⟨Rect.unit (s := S8x8x128) ![1, 0, 0] ![1, 8, 128] inb_S8x8x128_S1x8x128_1_0_0, k0_pay33 (k0_pay23 (k0_pay5 x0) x2) k0_pay25 (View.ld (Val := V) (e' := .f32) acc (Rect.unit (s := S8x8x128) ![1, 0, 0] ![1, 8, 128] inb_S8x8x128_S1x8x128_1_0_0))⟩,
    ⟨Rect.unit (s := S8x8x128) ![0, 0, 0] ![1, 8, 128] inb_S8x8x128_S1x8x128_0_0_0, k0_pay27 (k0_pay5 x0) x2 (View.ld (Val := V) (e' := .f32) acc (Rect.unit (s := S8x8x128) ![0, 0, 0] ![1, 8, 128] inb_S8x8x128_S1x8x128_0_0_0))⟩]

/-- The gain's gradient over `acc`. -/
def dgStore (x0 x1 x2 : S128x1024.Idx → EReal) (x4 : S8x128x128.Idx → EReal) (acc : S1x1024.Idx → EReal) : S1x1024.Idx → EReal :=
  k0_pay54 (F := Ideal) (k0_pay8 x1) (k0_pay24 (k0_pay5 x0) x2) (k0_pay28 (k0_pay5 x0) x2 (View.ld (Val := V) (e' := .f32) x4 (Rect.unit (s := S8x128x128) ![0, 0, 0] ![1, 128, 128] inb_S8x128x128_S1x128x128_0_0_0))) (k0_pay34 (k0_pay24 (k0_pay5 x0) x2) (View.ld (Val := V) (e' := .f32) x4 (Rect.unit (s := S8x128x128) ![1, 0, 0] ![1, 128, 128] inb_S8x128x128_S1x128x128_1_0_0))) (k0_pay39 (k0_pay24 (k0_pay5 x0) x2) (View.ld (Val := V) (e' := .f32) x4 (Rect.unit (s := S8x128x128) ![2, 0, 0] ![1, 128, 128] inb_S8x128x128_S1x128x128_2_0_0))) (k0_pay42 (k0_pay24 (k0_pay5 x0) x2) (View.ld (Val := V) (e' := .f32) x4 (Rect.unit (s := S8x128x128) ![3, 0, 0] ![1, 128, 128] inb_S8x128x128_S1x128x128_3_0_0))) (k0_pay45 (k0_pay24 (k0_pay5 x0) x2) (View.ld (Val := V) (e' := .f32) x4 (Rect.unit (s := S8x128x128) ![4, 0, 0] ![1, 128, 128] inb_S8x128x128_S1x128x128_4_0_0))) (k0_pay48 (k0_pay24 (k0_pay5 x0) x2) (View.ld (Val := V) (e' := .f32) x4 (Rect.unit (s := S8x128x128) ![5, 0, 0] ![1, 128, 128] inb_S8x128x128_S1x128x128_5_0_0))) (View.ld (Val := V) (e' := .f32) x4 (Rect.unit (s := S8x128x128) ![6, 0, 0] ![1, 128, 128] inb_S8x128x128_S1x128x128_6_0_0)) (View.ld (Val := V) (e' := .f32) x4 (Rect.unit (s := S8x128x128) ![7, 0, 0] ![1, 128, 128] inb_S8x128x128_S1x128x128_7_0_0)) acc

/-- The two halves of the input's gradient. -/
def dzStores (x0 x1 x2 : S128x1024.Idx → EReal) (x3 : S1x1024.Idx → EReal) (x4 : S8x128x128.Idx → EReal) (x5 : S128x8.Idx → EReal) : List (View.Piece V S128x2048 .bf16) := [
    ⟨Rect.unit (s := S128x2048) ![0, 1024] ![128, 1024] inb_S128x2048_S128x1024_0_1024,
      k0_pay1 (k0_pay55 (k0_pay7 x1) (k0_pay8 x1) (k0_pay53 (k0_pay24 (k0_pay5 x0) x2) (k0_pay28 (k0_pay5 x0) x2 (View.ld (Val := V) (e' := .f32) x4 (Rect.unit (s := S8x128x128) ![0, 0, 0] ![1, 128, 128] inb_S8x128x128_S1x128x128_0_0_0))) (k0_pay34 (k0_pay24 (k0_pay5 x0) x2) (View.ld (Val := V) (e' := .f32) x4 (Rect.unit (s := S8x128x128) ![1, 0, 0] ![1, 128, 128] inb_S8x128x128_S1x128x128_1_0_0))) (k0_pay39 (k0_pay24 (k0_pay5 x0) x2) (View.ld (Val := V) (e' := .f32) x4 (Rect.unit (s := S8x128x128) ![2, 0, 0] ![1, 128, 128] inb_S8x128x128_S1x128x128_2_0_0))) (k0_pay42 (k0_pay24 (k0_pay5 x0) x2) (View.ld (Val := V) (e' := .f32) x4 (Rect.unit (s := S8x128x128) ![3, 0, 0] ![1, 128, 128] inb_S8x128x128_S1x128x128_3_0_0))) (k0_pay45 (k0_pay24 (k0_pay5 x0) x2) (View.ld (Val := V) (e' := .f32) x4 (Rect.unit (s := S8x128x128) ![4, 0, 0] ![1, 128, 128] inb_S8x128x128_S1x128x128_4_0_0))) (k0_pay48 (k0_pay24 (k0_pay5 x0) x2) (View.ld (Val := V) (e' := .f32) x4 (Rect.unit (s := S8x128x128) ![5, 0, 0] ![1, 128, 128] inb_S8x128x128_S1x128x128_5_0_0))) (View.ld (Val := V) (e' := .f32) x4 (Rect.unit (s := S8x128x128) ![6, 0, 0] ![1, 128, 128] inb_S8x128x128_S1x128x128_6_0_0)) (View.ld (Val := V) (e' := .f32) x4 (Rect.unit (s := S8x128x128) ![7, 0, 0] ![1, 128, 128] inb_S8x128x128_S1x128x128_7_0_0))) x3) x1 k0_pay57⟩,
    ⟨Rect.unit (s := S128x2048) ![0, 0] ![128, 1024] inb_S128x2048_S128x1024_0_0,
      k0_pay56 (k0_pay22 (k0_pay11 (k0_pay8 x1) (k0_pay9 x3) (View.ld (Val := V) (e' := .f32) x4 (Rect.unit (s := S8x128x128) ![0, 0, 0] ![1, 128, 128] inb_S8x128x128_S1x128x128_0_0_0)) (View.ld (Val := V) (e' := .f32) x5 (Rect.unit (s := S128x8) ![0, 0] ![128, 1] inb_S128x8_S128x1_0_0))) (k0_pay12 (k0_pay8 x1) (k0_pay9 x3) (View.ld (Val := V) (e' := .f32) x4 (Rect.unit (s := S8x128x128) ![1, 0, 0] ![1, 128, 128] inb_S8x128x128_S1x128x128_1_0_0)) (View.ld (Val := V) (e' := .f32) x5 (Rect.unit (s := S128x8) ![0, 1] ![128, 1] inb_S128x8_S128x1_0_1))) (k0_pay13 (k0_pay8 x1) (k0_pay9 x3) (View.ld (Val := V) (e' := .f32) x4 (Rect.unit (s := S8x128x128) ![2, 0, 0] ![1, 128, 128] inb_S8x128x128_S1x128x128_2_0_0)) (View.ld (Val := V) (e' := .f32) x5 (Rect.unit (s := S128x8) ![0, 2] ![128, 1] inb_S128x8_S128x1_0_2))) (k0_pay16 (k0_pay14 (k0_pay8 x1) (k0_pay9 x3) (View.ld (Val := V) (e' := .f32) x4 (Rect.unit (s := S8x128x128) ![3, 0, 0] ![1, 128, 128] inb_S8x128x128_S1x128x128_3_0_0))) (k0_pay15 (View.ld (Val := V) (e' := .f32) x5 (Rect.unit (s := S128x8) ![0, 3] ![128, 1] inb_S128x8_S128x1_0_3)))) (k0_pay17 (k0_pay10 (k0_pay8 x1) (k0_pay9 x3)) (View.ld (Val := V) (e' := .f32) x4 (Rect.unit (s := S8x128x128) ![4, 0, 0] ![1, 128, 128] inb_S8x128x128_S1x128x128_4_0_0)) (View.ld (Val := V) (e' := .f32) x5 (Rect.unit (s := S128x8) ![0, 4] ![128, 1] inb_S128x8_S128x1_0_4))) (k0_pay18 (k0_pay10 (k0_pay8 x1) (k0_pay9 x3)) (View.ld (Val := V) (e' := .f32) x4 (Rect.unit (s := S8x128x128) ![5, 0, 0] ![1, 128, 128] inb_S8x128x128_S1x128x128_5_0_0)) (View.ld (Val := V) (e' := .f32) x5 (Rect.unit (s := S128x8) ![0, 5] ![128, 1] inb_S128x8_S128x1_0_5))) (k0_pay19 (k0_pay10 (k0_pay8 x1) (k0_pay9 x3)) (View.ld (Val := V) (e' := .f32) x4 (Rect.unit (s := S8x128x128) ![6, 0, 0] ![1, 128, 128] inb_S8x128x128_S1x128x128_6_0_0)) (View.ld (Val := V) (e' := .f32) x5 (Rect.unit (s := S128x8) ![0, 6] ![128, 1] inb_S128x8_S128x1_0_6))) (k0_pay20 (k0_pay10 (k0_pay8 x1) (k0_pay9 x3)) (View.ld (Val := V) (e' := .f32) x4 (Rect.unit (s := S8x128x128) ![7, 0, 0] ![1, 128, 128] inb_S8x128x128_S1x128x128_7_0_0))) (k0_pay21 (View.ld (Val := V) (e' := .f32) x5 (Rect.unit (s := S128x8) ![0, 7] ![128, 1] inb_S128x8_S128x1_0_7))) x2) x0⟩]

/-! ## Their elements -/

variable (h : Reads C x0 x1 x2 x3 x4 x5)
include h

theorem dw_of {acc : S8x128x128.Idx → EReal} {f : Fin 8 → Fin 128 → Fin 128 → ℝ} (ha : ∀ q t s, acc (ix3 q t s) = (f q t s : EReal)) :
    View.PiecesOf (fun y : S8x128x128.Idx => ((f (y 0) (y 1) (y 2) + C.dw (y 0) (y 1) (y 2) : ℝ) : EReal)) (dwStores x0 x1 x2 x3 acc) :=
  And.intro (slab_piece 7 7 rfl inb_S8x128x128_S1x128x128_7_0_0 (f := fun q t s => f q t s + C.dw q t s) (real_dw7 h.vn h.dvm_b (slab_ld ha 7 7 rfl inb_S8x128x128_S1x128x128_7_0_0))) <|
    And.intro (slab_piece 6 6 rfl inb_S8x128x128_S1x128x128_6_0_0 (f := fun q t s => f q t s + C.dw q t s) (real_dw6 h.vn h.dvm_b (slab_ld ha 6 6 rfl inb_S8x128x128_S1x128x128_6_0_0))) <|
    And.intro (slab_piece 5 5 rfl inb_S8x128x128_S1x128x128_5_0_0 (f := fun q t s => f q t s + C.dw q t s) (real_dw5 h.vn h.dvm_b (slab_ld ha 5 5 rfl inb_S8x128x128_S1x128x128_5_0_0))) <|
    And.intro (slab_piece 4 4 rfl inb_S8x128x128_S1x128x128_4_0_0 (f := fun q t s => f q t s + C.dw q t s) (real_dw4 h.vn h.dvm_b (slab_ld ha 4 4 rfl inb_S8x128x128_S1x128x128_4_0_0))) <|
    And.intro (slab_piece 3 3 rfl inb_S8x128x128_S1x128x128_3_0_0 (f := fun q t s => f q t s + C.dw q t s) (real_dw3 h.vn h.dvm_b (slab_ld ha 3 3 rfl inb_S8x128x128_S1x128x128_3_0_0))) <|
    And.intro (slab_piece 2 2 rfl inb_S8x128x128_S1x128x128_2_0_0 (f := fun q t s => f q t s + C.dw q t s) (real_dw2 h.vn h.dvm_b (slab_ld ha 2 2 rfl inb_S8x128x128_S1x128x128_2_0_0))) <|
    And.intro (slab_piece 1 1 rfl inb_S8x128x128_S1x128x128_1_0_0 (f := fun q t s => f q t s + C.dw q t s) (real_dw1 h.zu h.ds h.vn (slab_ld ha 1 1 rfl inb_S8x128x128_S1x128x128_1_0_0))) <|
    And.intro (slab_piece 0 0 rfl inb_S8x128x128_S1x128x128_0_0_0 (f := fun q t s => f q t s + C.dw q t s) (real_dw0 h.zu h.ds h.vn (slab_ld ha 0 0 rfl inb_S8x128x128_S1x128x128_0_0_0))) <|
    trivial

theorem db_of {acc : S8x8x128.Idx → EReal} {f : Fin 8 → Fin 8 → Fin 128 → ℝ} (ha : ∀ q k t, acc (ix3 q k t) = (f q k t : EReal)) :
    View.PiecesOf (fun y : S8x8x128.Idx => ((f (y 0) (y 1) (y 2) + C.db (y 0) (y 2) : ℝ) : EReal)) (dbStores x0 x2 acc) :=
  And.intro (slab_piece 7 7 rfl inb_S8x8x128_S1x8x128_7_0_0 (f := fun q k t => f q k t + C.db q t) (real_db7 h.dvm (slab_ld ha 7 7 rfl inb_S8x8x128_S1x8x128_7_0_0))) <|
    And.intro (slab_piece 6 6 rfl inb_S8x8x128_S1x8x128_6_0_0 (f := fun q k t => f q k t + C.db q t) (real_db6 h.dvm (slab_ld ha 6 6 rfl inb_S8x8x128_S1x8x128_6_0_0))) <|
    And.intro (slab_piece 5 5 rfl inb_S8x8x128_S1x8x128_5_0_0 (f := fun q k t => f q k t + C.db q t) (real_db5 h.dvm (slab_ld ha 5 5 rfl inb_S8x8x128_S1x8x128_5_0_0))) <|
    And.intro (slab_piece 4 4 rfl inb_S8x8x128_S1x8x128_4_0_0 (f := fun q k t => f q k t + C.db q t) (real_db4 h.dvm (slab_ld ha 4 4 rfl inb_S8x8x128_S1x8x128_4_0_0))) <|
    And.intro (slab_piece 3 3 rfl inb_S8x8x128_S1x8x128_3_0_0 (f := fun q k t => f q k t + C.db q t) (real_db3 h.dvm (slab_ld ha 3 3 rfl inb_S8x8x128_S1x8x128_3_0_0))) <|
    And.intro (slab_piece 2 2 rfl inb_S8x8x128_S1x8x128_2_0_0 (f := fun q k t => f q k t + C.db q t) (real_db2 h.dvm (slab_ld ha 2 2 rfl inb_S8x8x128_S1x8x128_2_0_0))) <|
    And.intro (slab_piece 1 1 rfl inb_S8x8x128_S1x8x128_1_0_0 (f := fun q k t => f q k t + C.db q t) (real_db1 h.dvm (slab_ld ha 1 1 rfl inb_S8x8x128_S1x8x128_1_0_0))) <|
    And.intro (slab_piece 0 0 rfl inb_S8x8x128_S1x8x128_0_0_0 (f := fun q k t => f q k t + C.db q t) (real_db0 h.zu h.ds (slab_ld ha 0 0 rfl inb_S8x8x128_S1x8x128_0_0_0))) <|
    trivial

theorem dg_of {acc : S1x1024.Idx → EReal} {f : Fin 1024 → ℝ} (ha : Real2 acc fun _ => f) :
    Real2 (dgStore x0 x1 x2 x4 acc) fun _ j => f j + C.dg j :=
  real_dg h.dhat h.dvm_b (real_dvn0 h.zu h.ds (slab_ld h.w 0 0 rfl inb_S8x128x128_S1x128x128_0_0_0)) (real_dvn1 h.dvm_b (slab_ld h.w 1 1 rfl inb_S8x128x128_S1x128x128_1_0_0)) (real_dvn2 h.dvm_b (slab_ld h.w 2 2 rfl inb_S8x128x128_S1x128x128_2_0_0)) (real_dvn3 h.dvm_b (slab_ld h.w 3 3 rfl inb_S8x128x128_S1x128x128_3_0_0)) (real_dvn4 h.dvm_b (slab_ld h.w 4 4 rfl inb_S8x128x128_S1x128x128_4_0_0)) (real_dvn5 h.dvm_b (slab_ld h.w 5 5 rfl inb_S8x128x128_S1x128x128_5_0_0)) (slab_ld h.w 6 6 rfl inb_S8x128x128_S1x128x128_6_0_0) (slab_ld h.w 7 7 rfl inb_S8x128x128_S1x128x128_7_0_0) ha

theorem dz_of : View.PiecesOf (fun y : S128x2048.Idx => ((C.dz (y 0) (y 1) : ℝ) : EReal)) (dzStores x0 x1 x2 x3 x4 x5) := by
  have hv := real_dzv (real_norm (real_rstd h.v) h.dhat (real_dvn h.dvm_b (real_dvn0 h.zu h.ds (slab_ld h.w 0 0 rfl inb_S8x128x128_S1x128x128_0_0_0)) (real_dvn1 h.dvm_b (slab_ld h.w 1 1 rfl inb_S8x128x128_S1x128x128_1_0_0)) (real_dvn2 h.dvm_b (slab_ld h.w 2 2 rfl inb_S8x128x128_S1x128x128_2_0_0)) (real_dvn3 h.dvm_b (slab_ld h.w 3 3 rfl inb_S8x128x128_S1x128x128_3_0_0)) (real_dvn4 h.dvm_b (slab_ld h.w 4 4 rfl inb_S8x128x128_S1x128x128_4_0_0)) (real_dvn5 h.dvm_b (slab_ld h.w 5 5 rfl inb_S8x128x128_S1x128x128_5_0_0)) (slab_ld h.w 6 6 rfl inb_S8x128x128_S1x128x128_6_0_0) (slab_ld h.w 7 7 rfl inb_S8x128x128_S1x128x128_7_0_0)) h.g) h.v
  have hu := real_dzu (real_du (real_vm0 h.dhat h.gain (slab_ld h.w 0 0 rfl inb_S8x128x128_S1x128x128_0_0_0) (column_ld h.b 0 0 rfl inb_S128x8_S128x1_0_0)) (real_vm1 h.dhat h.gain (slab_ld h.w 1 1 rfl inb_S8x128x128_S1x128x128_1_0_0) (column_ld h.b 1 1 rfl inb_S128x8_S128x1_0_1)) (real_vm2 h.dhat h.gain (slab_ld h.w 2 2 rfl inb_S8x128x128_S1x128x128_2_0_0) (column_ld h.b 2 2 rfl inb_S128x8_S128x1_0_2)) (real_vm3 h.dhat h.gain (slab_ld h.w 3 3 rfl inb_S8x128x128_S1x128x128_3_0_0) (column_ld h.b 3 3 rfl inb_S128x8_S128x1_0_3)) (real_vm4 h.vn (slab_ld h.w 4 4 rfl inb_S8x128x128_S1x128x128_4_0_0) (column_ld h.b 4 4 rfl inb_S128x8_S128x1_0_4)) (real_vm5 h.vn (slab_ld h.w 5 5 rfl inb_S8x128x128_S1x128x128_5_0_0) (column_ld h.b 5 5 rfl inb_S128x8_S128x1_0_5)) (real_vm6 h.vn (slab_ld h.w 6 6 rfl inb_S8x128x128_S1x128x128_6_0_0) (column_ld h.b 6 6 rfl inb_S128x8_S128x1_0_6)) h.vn (slab_ld h.w 7 7 rfl inb_S8x128x128_S1x128x128_7_0_0) (column_ld h.b 7 7 rfl inb_S128x8_S128x1_0_7) h.ds) h.u
  exact And.intro (half_piece 1024 inb_S128x2048_S128x1024_0_1024 (by norm_num) hv fun r j => C.dz_hi r j _)
    (And.intro (half_piece 0 inb_S128x2048_S128x1024_0_0 (by norm_num) hu fun r j => C.dz_lo r j _) trivial)

omit h

theorem dw_cover (acc : S8x128x128.Idx → EReal) (y : S8x128x128.Idx) : ∃ p ∈ dwStores x0 x1 x2 x3 acc, y ∈ p.1.set :=
  View.cover_of_tiledL (dwStores x0 x1 x2 x3 acc) S1x128x128.size (by sl_kernel_rfl) y

theorem db_cover (acc : S8x8x128.Idx → EReal) (y : S8x8x128.Idx) : ∃ p ∈ dbStores x0 x2 acc, y ∈ p.1.set :=
  View.cover_of_tiledL (dbStores x0 x2 acc) S1x8x128.size (by sl_kernel_rfl) y

theorem dz_cover (y : S128x2048.Idx) : ∃ p ∈ dzStores x0 x1 x2 x3 x4 x5, y ∈ p.1.set :=
  View.cover_of_tiledL (dzStores x0 x1 x2 x3 x4 x5) S128x1024.size (by sl_kernel_rfl) y

end Cert.KernelIdeal.Block

end
-- ==== Proof.Cases.lean ====
/-
  The generated runs' stores are the ones of Outs.lean: each of the two cases, each of the four outputs.
-/
module

public import proofs.«01_k».proof.Proof.Outs
public import proofs.«01_k».proof.Proof.Gen.KernelIdeal.Value
public import Idealize.ShloMosaic.Lib.Pipeline.ReadBack

@[expose] public section

set_option maxRecDepth 16384

noncomputable section

namespace Cert.KernelIdeal.Block

open Idealize.ShloMosaic Cert.KernelIdeal.Gen Cert.Spec Idealize.ShloMosaic.Tactic

/-! ## What the generated runs leave -/

theorem out_A_6 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x8x128 .f32) (harg9 : arg9.IsWhole) (arg10 : Memref sig .tc .vmem S1x1024 .f32) (harg10 : arg10.IsWhole) (hc0 : cond0_0 i)
    (x0 x1 x2 : Vec Ideal S128x1024 .f32) (x3 : Vec Ideal S1x1024 .f32) (x4 : Vec Ideal S8x128x128 .f32) (x5 : Vec Ideal S128x8 .f32) :
    out0_A_6 c i arg1 harg1 arg2 harg2 arg3 harg3 arg4 harg4 arg5 harg5 arg6 harg6 arg7 harg7 arg8 harg8 arg9 harg9 arg10 harg10 hc0 x0 x1 x2 x3 x4 x5
      = View.canon (dzStores x0 x1 x2 x3 x4 x5) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg8.read_unread, harg9.read_unread, harg10.read_unread, View.ld_unit_lit, View.readCov_unit_lit, View.canon_cons_unit_lit]
  rfl

theorem out_A_7 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x8x128 .f32) (harg9 : arg9.IsWhole) (arg10 : Memref sig .tc .vmem S1x1024 .f32) (harg10 : arg10.IsWhole) (hc0 : cond0_0 i)
    (x0 x1 x2 : Vec Ideal S128x1024 .f32) (x3 : Vec Ideal S1x1024 .f32) (x4 : Vec Ideal S8x128x128 .f32) (x5 : Vec Ideal S128x8 .f32) :
    out0_A_7 c i arg1 harg1 arg2 harg2 arg3 harg3 arg4 harg4 arg5 harg5 arg6 harg6 arg7 harg7 arg8 harg8 arg9 harg9 arg10 harg10 hc0 x0 x1 x2 x3 x4 x5
      = View.canon (dwStores x0 x1 x2 x3 (k0_pay2 (F := Ideal)) ++ [⟨Rect.unit ![0, 0, 0] ![8, 128, 128] inb_S8x128x128_S8x128x128_0_0_0, k0_pay2 (F := Ideal)⟩]) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg8.read_unread, harg9.read_unread, harg10.read_unread, View.ld_unit_lit, View.readCov_unit_lit, View.canon_cons_unit_lit]
  rfl

theorem out_A_8 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x8x128 .f32) (harg9 : arg9.IsWhole) (arg10 : Memref sig .tc .vmem S1x1024 .f32) (harg10 : arg10.IsWhole) (hc0 : cond0_0 i)
    (x0 x1 x2 : Vec Ideal S128x1024 .f32) (x3 : Vec Ideal S1x1024 .f32) (x4 : Vec Ideal S8x128x128 .f32) (x5 : Vec Ideal S128x8 .f32) :
    out0_A_8 c i arg1 harg1 arg2 harg2 arg3 harg3 arg4 harg4 arg5 harg5 arg6 harg6 arg7 harg7 arg8 harg8 arg9 harg9 arg10 harg10 hc0 x0 x1 x2 x3 x4 x5
      = View.canon (dbStores x0 x2 (k0_pay3 (F := Ideal)) ++ [⟨Rect.unit ![0, 0, 0] ![8, 8, 128] inb_S8x8x128_S8x8x128_0_0_0, k0_pay3 (F := Ideal)⟩]) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg8.read_unread, harg9.read_unread, harg10.read_unread, View.ld_unit_lit, View.readCov_unit_lit, View.canon_cons_unit_lit]
  rfl

theorem out_A_9 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x8x128 .f32) (harg9 : arg9.IsWhole) (arg10 : Memref sig .tc .vmem S1x1024 .f32) (harg10 : arg10.IsWhole) (hc0 : cond0_0 i)
    (x0 x1 x2 : Vec Ideal S128x1024 .f32) (x3 : Vec Ideal S1x1024 .f32) (x4 : Vec Ideal S8x128x128 .f32) (x5 : Vec Ideal S128x8 .f32) :
    out0_A_9 c i arg1 harg1 arg2 harg2 arg3 harg3 arg4 harg4 arg5 harg5 arg6 harg6 arg7 harg7 arg8 harg8 arg9 harg9 arg10 harg10 hc0 x0 x1 x2 x3 x4 x5
      = dgStore x0 x1 x2 x4 (k0_pay4 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg8.read_unread, harg9.read_unread, harg10.read_unread, View.ld_unit_lit, View.readCov_unit_lit, View.canon_cons_unit_lit]
  rfl

theorem out_B_6 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x8x128 .f32) (harg9 : arg9.IsWhole) (arg10 : Memref sig .tc .vmem S1x1024 .f32) (harg10 : arg10.IsWhole) (hc0 : ¬cond0_0 i)
    (x0 x1 x2 : Vec Ideal S128x1024 .f32) (x3 : Vec Ideal S1x1024 .f32) (x4 : Vec Ideal S8x128x128 .f32) (x5 : Vec Ideal S128x8 .f32) (xo7 : Vec Ideal S8x128x128 .f32) (xo8 : Vec Ideal S8x8x128 .f32) (xo9 : Vec Ideal S1x1024 .f32) :
    out0_B_6 c i arg1 harg1 arg2 harg2 arg3 harg3 arg4 harg4 arg5 harg5 arg6 harg6 arg7 harg7 arg8 harg8 arg9 harg9 arg10 harg10 hc0 x0 x1 x2 x3 x4 x5 xo7 xo8 xo9
      = View.canon (dzStores x0 x1 x2 x3 x4 x5) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xo7 xo8 xo9)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg8.read_unread, harg9.read_unread, harg10.read_unread, View.ld_unit_lit, View.readCov_unit_lit, View.canon_cons_unit_lit]
  rfl

theorem out_B_7 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x8x128 .f32) (harg9 : arg9.IsWhole) (arg10 : Memref sig .tc .vmem S1x1024 .f32) (harg10 : arg10.IsWhole) (hc0 : ¬cond0_0 i)
    (x0 x1 x2 : Vec Ideal S128x1024 .f32) (x3 : Vec Ideal S1x1024 .f32) (x4 : Vec Ideal S8x128x128 .f32) (x5 : Vec Ideal S128x8 .f32) (xo7 : Vec Ideal S8x128x128 .f32) (xo8 : Vec Ideal S8x8x128 .f32) (xo9 : Vec Ideal S1x1024 .f32) :
    out0_B_7 c i arg1 harg1 arg2 harg2 arg3 harg3 arg4 harg4 arg5 harg5 arg6 harg6 arg7 harg7 arg8 harg8 arg9 harg9 arg10 harg10 hc0 x0 x1 x2 x3 x4 x5 xo7 xo8 xo9
      = View.canon (dwStores x0 x1 x2 x3 xo7) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 xo7 xo8 xo9)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg8.read_unread, harg9.read_unread, harg10.read_unread, View.ld_unit_lit, View.readCov_unit_lit, View.canon_cons_unit_lit]
  rfl

theorem out_B_8 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x8x128 .f32) (harg9 : arg9.IsWhole) (arg10 : Memref sig .tc .vmem S1x1024 .f32) (harg10 : arg10.IsWhole) (hc0 : ¬cond0_0 i)
    (x0 x1 x2 : Vec Ideal S128x1024 .f32) (x3 : Vec Ideal S1x1024 .f32) (x4 : Vec Ideal S8x128x128 .f32) (x5 : Vec Ideal S128x8 .f32) (xo7 : Vec Ideal S8x128x128 .f32) (xo8 : Vec Ideal S8x8x128 .f32) (xo9 : Vec Ideal S1x1024 .f32) :
    out0_B_8 c i arg1 harg1 arg2 harg2 arg3 harg3 arg4 harg4 arg5 harg5 arg6 harg6 arg7 harg7 arg8 harg8 arg9 harg9 arg10 harg10 hc0 x0 x1 x2 x3 x4 x5 xo7 xo8 xo9
      = View.canon (dbStores x0 x2 xo8) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 xo7 xo8 xo9)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg8.read_unread, harg9.read_unread, harg10.read_unread, View.ld_unit_lit, View.readCov_unit_lit, View.canon_cons_unit_lit]
  rfl

theorem out_B_9 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x8x128 .f32) (harg9 : arg9.IsWhole) (arg10 : Memref sig .tc .vmem S1x1024 .f32) (harg10 : arg10.IsWhole) (hc0 : ¬cond0_0 i)
    (x0 x1 x2 : Vec Ideal S128x1024 .f32) (x3 : Vec Ideal S1x1024 .f32) (x4 : Vec Ideal S8x128x128 .f32) (x5 : Vec Ideal S128x8 .f32) (xo7 : Vec Ideal S8x128x128 .f32) (xo8 : Vec Ideal S8x8x128 .f32) (xo9 : Vec Ideal S1x1024 .f32) :
    out0_B_9 c i arg1 harg1 arg2 harg2 arg3 harg3 arg4 harg4 arg5 harg5 arg6 harg6 arg7 harg7 arg8 harg8 arg9 harg9 arg10 harg10 hc0 x0 x1 x2 x3 x4 x5 xo7 xo8 xo9
      = dgStore x0 x1 x2 x4 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 xo7 xo8 xo9)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg8.read_unread, harg9.read_unread, harg10.read_unread, View.ld_unit_lit, View.readCov_unit_lit, View.canon_cons_unit_lit]
  rfl

end Cert.KernelIdeal.Block

end
-- ==== Proof.Total.lean ====
/-
  The whole gradient: 32 chunks of 128 positions, the input's gradient chunk by chunk and the parameters' gradients
  summed over the chunks. `Args.Of A a0 … a4`: the five arrays hold the reals `A`.
-/
module

public import proofs.«01_k».proof.Proof.Spec
public import Idealize.ShloMosaic.PureOps.Ideal
public import Idealize.ShloMosaic.Lib.Pointwise

@[expose] public section

noncomputable section

namespace Cert.Spec

open Idealize.ShloMosaic Idealize.ShloMosaic.Tactic

/-- The arguments: the projected input (the gating unit's 2048 channels start at 5120), the cotangent of its output, the
    gain, the mixing matrices and the biases. -/
structure Args where
  /-- the projected input -/
  p : Fin 4096 → Fin 11264 → ℝ
  /-- the cotangent -/
  ds : Fin 4096 → Fin 1024 → ℝ
  /-- the gain -/
  g : Fin 1024 → ℝ
  /-- the mixing matrices -/
  w : Fin 8 → Fin 128 → Fin 128 → ℝ
  /-- the biases -/
  b : Fin 8 → Fin 128 → ℝ

/-- Position `r` of chunk `n` (of 32). -/
def row (n : ℕ) (r : Fin 128) : Fin 4096 := ⟨(128 * n + r.val) % 4096, Nat.mod_lt _ (by norm_num)⟩

/-- A position's chunk and its place in it. -/
def place (i : Fin 4096) : Fin 128 := ⟨i.val % 128, Nat.mod_lt _ (by norm_num)⟩

theorem row_place (i : Fin 4096) : row (i.val / 128) (place i) = i := by
  apply Fin.ext
  have := i.isLt
  simp only [row, place]
  omega

theorem row_val {n : ℕ} (h : n < 32) (r : Fin 128) : (row n r).val = 128 * n + r.val := by
  have := r.isLt
  simp only [row]
  omega

theorem row_eq {n : ℕ} (h : n < 32) (r : Fin 128) (i : Fin 4096) (e : i.val = 128 * n + r.val) : i = row n r :=
  Fin.ext (e.trans (row_val h r).symm)

namespace Args

variable (A : Args)

/-- Chunk `n`. -/
def chunk (n : ℕ) : Chunk where
  u r j := A.p (row n r) ⟨5120 + j.val, by omega⟩
  v r j := A.p (row n r) ⟨6144 + j.val, by omega⟩
  ds r j := A.ds (row n r) j
  g := A.g
  w := A.w
  b := A.b

/-- The gradient of the gating unit's input. -/
def dz (i : Fin 4096) (k : Fin 2048) : ℝ := (A.chunk (i.val / 128)).dz (place i) k

/-- … at chunk `n`. -/
theorem dz_row {n : ℕ} (h : n < 32) (r : Fin 128) (k : Fin 2048) : A.dz (row n r) k = (A.chunk n).dz r k := by
  have hr := r.isLt
  have h1 : (row n r).val / 128 = n := by rw [row_val h]; omega
  have h2 : place (row n r) = r := Fin.ext (by simp only [place]; rw [row_val h]; omega)
  rw [dz, h1, h2]

/-- The gradient of the mixing matrices. -/
def dw (q : Fin 8) (t s : Fin 128) : ℝ := ∑ n ∈ Finset.range 32, (A.chunk n).dw q t s

/-- The gradient of the biases. -/
def db (q : Fin 8) (t : Fin 128) : ℝ := ∑ n ∈ Finset.range 32, (A.chunk n).db q t

/-- The gradient of the gain. -/
def dg (j : Fin 1024) : ℝ := ∑ n ∈ Finset.range 32, (A.chunk n).dg j

/-- The arrays hold `A`. -/
structure Of (a0 : (⟨2, ![4096, 11264]⟩ : Shape).Idx → EReal) (a1 : (⟨2, ![4096, 1024]⟩ : Shape).Idx → EReal) (a2 : (⟨2, ![1, 1024]⟩ : Shape).Idx → EReal)
    (a3 : (⟨4, ![1, 8, 128, 128]⟩ : Shape).Idx → EReal) (a4 : (⟨3, ![1, 8, 128]⟩ : Shape).Idx → EReal) : Prop where
  p : ∀ i j, a0 (ix2 i j) = (A.p i j : EReal)
  ds : ∀ i j, a1 (ix2 i j) = (A.ds i j : EReal)
  g : ∀ (o : Fin 1) j, a2 (ix2 o j) = (A.g j : EReal)
  w : ∀ (o : Fin 1) q t s, a3 (ix4 o q t s) = (A.w q t s : EReal)
  b : ∀ (o : Fin 1) q t, a4 (ix3 o q t) = (A.b q t : EReal)

/-- Finite arrays hold reals. -/
theorem exists_of {a0 : (⟨2, ![4096, 11264]⟩ : Shape).Idx → EReal} {a1 : (⟨2, ![4096, 1024]⟩ : Shape).Idx → EReal} {a2 : (⟨2, ![1, 1024]⟩ : Shape).Idx → EReal}
    {a3 : (⟨4, ![1, 8, 128, 128]⟩ : Shape).Idx → EReal} {a4 : (⟨3, ![1, 8, 128]⟩ : Shape).Idx → EReal}
    (h0 : ∀ i, a0 i ≠ ⊤ ∧ a0 i ≠ ⊥) (h1 : ∀ i, a1 i ≠ ⊤ ∧ a1 i ≠ ⊥) (h2 : ∀ i, a2 i ≠ ⊤ ∧ a2 i ≠ ⊥) (h3 : ∀ i, a3 i ≠ ⊤ ∧ a3 i ≠ ⊥)
    (h4 : ∀ i, a4 i ≠ ⊤ ∧ a4 i ≠ ⊥) : ∃ A : Args, A.Of a0 a1 a2 a3 a4 := by
  refine ⟨⟨fun i j => (a0 (ix2 i j)).toReal, fun i j => (a1 (ix2 i j)).toReal, fun j => (a2 (ix2 0 j)).toReal,
    fun q t s => (a3 (ix4 0 q t s)).toReal, fun q t => (a4 (ix3 0 q t)).toReal⟩, ?_, ?_, ?_, ?_, ?_⟩
  · exact fun i j => (EReal.coe_toReal (h0 _).1 (h0 _).2).symm
  · exact fun i j => (EReal.coe_toReal (h1 _).1 (h1 _).2).symm
  · intro o j; obtain rfl : o = 0 := Subsingleton.elim _ _
    exact (EReal.coe_toReal (h2 _).1 (h2 _).2).symm
  · intro o q t s; obtain rfl : o = 0 := Subsingleton.elim _ _
    exact (EReal.coe_toReal (h3 _).1 (h3 _).2).symm
  · intro o q t; obtain rfl : o = 0 := Subsingleton.elim _ _
    exact (EReal.coe_toReal (h4 _).1 (h4 _).2).symm

end Args

end Cert.Spec

end
-- ==== Proof.Accum.lean ====
/-
  The kernel's four result arrays: what the grid leaves point by point (the chunk's input gradient; the parameters' gradients
  summed up to it), and so what the arrays hold at the end.
-/
module

public import proofs.«01_k».proof.Proof.Cases
public import proofs.«01_k».proof.Proof.Total
public import Idealize.ShloMosaic.Lib.StableHlo.ReadAt

@[expose] public section

set_option maxRecDepth 16384

noncomputable section

namespace Cert.KernelIdeal.Block

open Idealize.ShloMosaic Cert.KernelIdeal Cert.KernelIdeal.Gen Cert.Spec Idealize.ShloMosaic.TcCoe Idealize.ShloMosaic.Tactic

variable (m : (ℓ : Loc nD τ sig) → Buf (Elt Ideal) ℓ)

/-- The launch contents hold the reals `A`. -/
abbrev Holds (A : Args) (c : Dev nD) : Prop :=
  A.Of (m ((c : Thread nD τ).loc main_arg0)) (m ((c : Thread nD τ).loc main_arg1)) (m ((c : Thread nD τ).loc main_arg2))
    (m ((c : Thread nD τ).loc main_arg3)) (m ((c : Thread nD τ).loc main_arg4))

/-! ## The blocks -/

theorem ix_0 : ∀ t : Fin cfg0.N, win0_0.index t 0 = t.val ∧ win0_0.index t 1 = 5 :=
  (by decide +kernel : ∀ t : Fin grid0.N, win0_0.index t 0 = t.val ∧ win0_0.index t 1 = 5)
theorem ix_1 : ∀ t : Fin cfg0.N, win0_1.index t 0 = t.val ∧ win0_1.index t 1 = 6 :=
  (by decide +kernel : ∀ t : Fin grid0.N, win0_1.index t 0 = t.val ∧ win0_1.index t 1 = 6)
theorem ix_2 : ∀ t : Fin cfg0.N, win0_2.index t 0 = t.val ∧ win0_2.index t 1 = 0 :=
  (by decide +kernel : ∀ t : Fin grid0.N, win0_2.index t 0 = t.val ∧ win0_2.index t 1 = 0)
theorem ix_3 : ∀ t : Fin cfg0.N, win0_3.index t 0 = 0 ∧ win0_3.index t 1 = 0 :=
  (by decide +kernel : ∀ t : Fin grid0.N, win0_3.index t 0 = 0 ∧ win0_3.index t 1 = 0)
theorem ix_4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem ix_5 : ∀ t : Fin cfg0.N, win0_5.index t 0 = 0 ∧ win0_5.index t 1 = 0 :=
  (by decide +kernel : ∀ t : Fin grid0.N, win0_5.index t 0 = 0 ∧ win0_5.index t 1 = 0)
theorem ix_6 : ∀ t : Fin cfg0.N, win0_6.index t 0 = t.val ∧ win0_6.index t 1 = 0 :=
  (by decide +kernel : ∀ t : Fin grid0.N, win0_6.index t 0 = t.val ∧ win0_6.index t 1 = 0)

theorem point_lt (t : Fin cfg0.N) : t.val < 32 := by have := t.isLt; have hN : cfg0.N = 32 := N_0; omega

/-- The mixing matrices, their leading axis dropped by the host. -/
theorem V_w {A : Args} {c : Dev nD} (h : Holds m A c) (q : Fin 8) (t s : Fin 128) : V m c main_v0 (ix3 q t s) = (A.w q t s : EReal) := by
  rw [← h.w 0 q t s]
  unfold V
  after_reads_at

/-- The biases, their leading axis dropped and transposed by the host. -/
theorem V_b {A : Args} {c : Dev nD} (h : Holds m A c) (t : Fin 128) (q : Fin 8) : V m c main_v2 (ix2 t q) = (A.b q t : EReal) := by
  rw [← h.b 0 q t]
  unfold V
  after_reads_at

/-- Point `t` reads chunk `t`. -/
theorem reads {A : Args} {c : Dev nD} (h : Holds m A c) (t : Fin cfg0.N) :
    Reads (A.chunk t.val) (iblk m c 0 t) (iblk m c 1 t) (iblk m c 2 t) (iblk m c 3 t) (iblk m c 4 t) (iblk m c 5 t) where
  u r j := by
    unfold iblk
    rw [View.read_apply]
    show V m c main_arg0 _ = _
    rw [V_main_arg0]
    refine (congrArg _ ?_).trans (h.p (row t.val r) ⟨5120 + j.val, by omega⟩)
    funext a
    apply Fin.ext
    match a with
    | ⟨0, _⟩ => show win0_0.index t 0 * 128 + 1 * r.val = (row t.val r).val; rw [(ix_0 t).1, row_val (point_lt t)]; omega
    | ⟨1, _⟩ => show win0_0.index t 1 * 1024 + 1 * j.val = 5120 + j.val; rw [(ix_0 t).2]; omega
  v r j := by
    unfold iblk
    rw [View.read_apply]
    show V m c main_arg0 _ = _
    rw [V_main_arg0]
    refine (congrArg _ ?_).trans (h.p (row t.val r) ⟨6144 + j.val, by omega⟩)
    funext a
    apply Fin.ext
    match a with
    | ⟨0, _⟩ => show win0_1.index t 0 * 128 + 1 * r.val = (row t.val r).val; rw [(ix_1 t).1, row_val (point_lt t)]; omega
    | ⟨1, _⟩ => show win0_1.index t 1 * 1024 + 1 * j.val = 6144 + j.val; rw [(ix_1 t).2]; omega
  ds r j := by
    unfold iblk
    rw [View.read_apply]
    show V m c main_arg1 _ = _
    rw [V_main_arg1]
    refine (congrArg _ ?_).trans (h.ds (row t.val r) j)
    funext a
    apply Fin.ext
    match a with
    | ⟨0, _⟩ => show win0_2.index t 0 * 128 + 1 * r.val = (row t.val r).val; rw [(ix_2 t).1, row_val (point_lt t)]; omega
    | ⟨1, _⟩ => show win0_2.index t 1 * 1024 + 1 * j.val = j.val; rw [(ix_2 t).2]; omega
  g o j := by
    unfold iblk
    rw [View.read_apply]
    show V m c main_arg2 _ = _
    rw [V_main_arg2]
    refine (congrArg _ ?_).trans (h.g o j)
    funext a
    apply Fin.ext
    match a with
    | ⟨0, _⟩ => show win0_3.index t 0 * 1 + 1 * o.val = o.val; rw [(ix_3 t).1]; omega
    | ⟨1, _⟩ => show win0_3.index t 1 * 1024 + 1 * j.val = j.val; rw [(ix_3 t).2]; omega
  w q r s := by
    unfold iblk
    rw [View.read_apply]
    show V m c main_v0 _ = _
    refine (congrArg _ ?_).trans (V_w m h q r s)
    funext a
    apply Fin.ext
    match a with
    | ⟨0, _⟩ => show win0_4.index t 0 * 8 + 1 * q.val = q.val; rw [(ix_4 t).1]; omega
    | ⟨1, _⟩ => show win0_4.index t 1 * 128 + 1 * r.val = r.val; rw [(ix_4 t).2.1]; omega
    | ⟨2, _⟩ => show win0_4.index t 2 * 128 + 1 * s.val = s.val; rw [(ix_4 t).2.2]; omega
  b r q := by
    unfold iblk
    rw [View.read_apply]
    show V m c main_v2 _ = _
    refine (congrArg _ ?_).trans (V_b m h r q)
    funext a
    apply Fin.ext
    match a with
    | ⟨0, _⟩ => show win0_5.index t 0 * 128 + 1 * r.val = r.val; rw [(ix_5 t).1]; omega
    | ⟨1, _⟩ => show win0_5.index t 1 * 8 + 1 * q.val = q.val; rw [(ix_5 t).2]; omega

/-! ## Point by point -/

theorem zero_dw (q : Fin 8) (t s : Fin 128) : k0_pay2 (F := Ideal) (ix3 q t s) = ((0 : ℝ) : EReal) := by
  pointwise [k0_pay2]
  simp [Ideal.ofBits, Ideal.ieee]
theorem zero_db (q k : Fin 8) (t : Fin 128) : k0_pay3 (F := Ideal) (ix3 q k t) = ((0 : ℝ) : EReal) := by
  pointwise [k0_pay3]
  simp [Ideal.ofBits, Ideal.ieee]
theorem zero_dg (o : Fin 1) (j : Fin 1024) : k0_pay4 (F := Ideal) (ix2 o j) = ((0 : ℝ) : EReal) := by
  pointwise [k0_pay4]
  simp [Ideal.ofBits, Ideal.ieee]

/-- The stores read back: a chunk's input gradient. -/
theorem dz_at {C : Chunk} {x0 x1 x2 : S128x1024.Idx → EReal} {x3 : S1x1024.Idx → EReal} {x4 : S8x128x128.Idx → EReal} {x5 : S128x8.Idx → EReal}
    (h : Reads C x0 x1 x2 x3 x4 x5) (r : Fin 128) (k : Fin 2048) : View.canon (dzStores x0 x1 x2 x3 x4 x5) (ix2 r k) = (C.dz r k : EReal) :=
  View.canon_apply_of_pieces (fun y : S128x2048.Idx => ((C.dz (y 0) (y 1) : ℝ) : EReal)) _ (dz_of h).mem _ (dz_cover _)

/-- … the mixing matrices' gradient, over whatever was stored before. -/
theorem dw_at {C : Chunk} {x0 x1 x2 : S128x1024.Idx → EReal} {x3 : S1x1024.Idx → EReal} {x4 : S8x128x128.Idx → EReal} {x5 : S128x8.Idx → EReal}
    (h : Reads C x0 x1 x2 x3 x4 x5) {acc : S8x128x128.Idx → EReal} {f : Fin 8 → Fin 128 → Fin 128 → ℝ} (ha : ∀ q t s, acc (ix3 q t s) = (f q t s : EReal))
    (L : List (View.Piece (Elt Ideal) S8x128x128 .f32)) (q : Fin 8) (t s : Fin 128) :
    View.canon (dwStores x0 x1 x2 x3 acc ++ L) (ix3 q t s) = ((f q t s + C.dw q t s : ℝ) : EReal) :=
  View.canon_append_of_piecesOf (fun y : S8x128x128.Idx => ((f (y 0) (y 1) (y 2) + C.dw (y 0) (y 1) (y 2) : ℝ) : EReal)) L _ (dw_of h ha) _ (dw_cover _ _)

/-- … and the biases'. -/
theorem db_at {C : Chunk} {x0 x1 x2 : S128x1024.Idx → EReal} {x3 : S1x1024.Idx → EReal} {x4 : S8x128x128.Idx → EReal} {x5 : S128x8.Idx → EReal}
    (h : Reads C x0 x1 x2 x3 x4 x5) {acc : S8x8x128.Idx → EReal} {f : Fin 8 → Fin 8 → Fin 128 → ℝ} (ha : ∀ q k t, acc (ix3 q k t) = (f q k t : EReal))
    (L : List (View.Piece (Elt Ideal) S8x8x128 .f32)) (q k : Fin 8) (t : Fin 128) :
    View.canon (dbStores x0 x2 acc ++ L) (ix3 q k t) = ((f q k t + C.db q t : ℝ) : EReal) :=
  View.canon_append_of_piecesOf (fun y : S8x8x128.Idx => ((f (y 0) (y 1) (y 2) + C.db (y 0) (y 2) : ℝ) : EReal)) L _ (db_of h ha) _ (db_cover _ _)

/-- What the four output blocks hold: a chunk's input gradient, and sums. -/
structure Hold (z : Fin 128 → Fin 2048 → ℝ) (w : Fin 8 → Fin 128 → Fin 128 → ℝ) (b : Fin 8 → Fin 128 → ℝ) (g : Fin 1024 → ℝ)
    (o : Vec Ideal S128x2048 .bf16 × Vec Ideal S8x128x128 .f32 × Vec Ideal S8x8x128 .f32 × Vec Ideal S1x1024 .f32) : Prop where
  dz : ∀ r k, o.1 (ix2 r k) = (z r k : EReal)
  dw : ∀ q t s, o.2.1 (ix3 q t s) = (w q t s : EReal)
  db : ∀ q k t, o.2.2.1 (ix3 q k t) = (b q t : EReal)
  dg : ∀ k j, o.2.2.2 (ix2 k j) = (g j : EReal)

/-- The first point. -/
theorem hold_A {C : Chunk} {x0 x1 x2 : S128x1024.Idx → EReal} {x3 : S1x1024.Idx → EReal} {x4 : S8x128x128.Idx → EReal} {x5 : S128x8.Idx → EReal}
    (h : Reads C x0 x1 x2 x3 x4 x5) :
    Hold C.dz (fun q t s => 0 + C.dw q t s) (fun q t => 0 + C.db q t) (fun j => 0 + C.dg j)
      (View.canon (dzStores x0 x1 x2 x3 x4 x5),
        View.canon (dwStores x0 x1 x2 x3 (k0_pay2 (F := Ideal)) ++ [⟨Rect.unit ![0, 0, 0] ![8, 128, 128] inb_S8x128x128_S8x128x128_0_0_0, k0_pay2 (F := Ideal)⟩]),
        View.canon (dbStores x0 x2 (k0_pay3 (F := Ideal)) ++ [⟨Rect.unit ![0, 0, 0] ![8, 8, 128] inb_S8x8x128_S8x8x128_0_0_0, k0_pay3 (F := Ideal)⟩]),
        dgStore x0 x1 x2 x4 (k0_pay4 (F := Ideal))) := by
  constructor
  · intro r k
    dsimp only
    rw [dz_at h]
  · intro q t s
    dsimp only
    rw [dw_at h (f := fun _ _ _ => 0) zero_dw]
  · intro q k t
    dsimp only
    rw [db_at h (f := fun _ _ _ => 0) zero_db]
  · intro k j
    exact dg_of h (f := fun _ => 0) zero_dg k j

/-- Every other point. -/
theorem hold_B {C : Chunk} {x0 x1 x2 : S128x1024.Idx → EReal} {x3 : S1x1024.Idx → EReal} {x4 : S8x128x128.Idx → EReal} {x5 : S128x8.Idx → EReal}
    (h : Reads C x0 x1 x2 x3 x4 x5) {z : Fin 128 → Fin 2048 → ℝ} {w : Fin 8 → Fin 128 → Fin 128 → ℝ} {b : Fin 8 → Fin 128 → ℝ} {g : Fin 1024 → ℝ}
    {o : Vec Ideal S128x2048 .bf16 × Vec Ideal S8x128x128 .f32 × Vec Ideal S8x8x128 .f32 × Vec Ideal S1x1024 .f32} (ho : Hold z w b g o) :
    Hold C.dz (fun q t s => w q t s + C.dw q t s) (fun q t => b q t + C.db q t) (fun j => g j + C.dg j)
      (View.canon (dzStores x0 x1 x2 x3 x4 x5), View.canon (dwStores x0 x1 x2 x3 o.2.1), View.canon (dbStores x0 x2 o.2.2.1), dgStore x0 x1 x2 x4 o.2.2.2) := by
  constructor
  · intro r k
    dsimp only
    rw [dz_at h]
  · intro q t s
    have e := dw_at h (f := w) ho.dw [] q t s
    rw [List.append_nil] at e
    dsimp only at e ⊢
    rw [e]
  · intro q k t
    have e := db_at h (f := fun q _ t => b q t) ho.db [] q k t
    rw [List.append_nil] at e
    dsimp only at e ⊢
    rw [e]
  · intro k j
    have e := dg_of h (f := g) ho.dg k j
    dsimp only at e ⊢
    rw [e]

theorem outs_A (c : Dev nD) (t : Fin cfg0.N) (h0 : t.val % 32 = 0) : outsAt0 m c t.val t.isLt
    = (View.canon (dzStores (iblk m c 0 t) (iblk m c 1 t) (iblk m c 2 t) (iblk m c 3 t) (iblk m c 4 t) (iblk m c 5 t)),
        View.canon (dwStores (iblk m c 0 t) (iblk m c 1 t) (iblk m c 2 t) (iblk m c 3 t) (k0_pay2 (F := Ideal)) ++ [⟨Rect.unit ![0, 0, 0] ![8, 128, 128] inb_S8x128x128_S8x128x128_0_0_0, k0_pay2 (F := Ideal)⟩]),
        View.canon (dbStores (iblk m c 0 t) (iblk m c 2 t) (k0_pay3 (F := Ideal)) ++ [⟨Rect.unit ![0, 0, 0] ![8, 8, 128] inb_S8x8x128_S8x8x128_0_0_0, k0_pay3 (F := Ideal)⟩]),
        dgStore (iblk m c 0 t) (iblk m c 1 t) (iblk m c 2 t) (iblk m c 4 t) (k0_pay4 (F := Ideal))) := by
  rw [outsAt0_A m c t h0, out_A_6, out_A_7, out_A_8, out_A_9]

theorem outs_B (c : Dev nD) (t : Fin cfg0.N) (h0 : ¬t.val % 32 = 0) : outsAt0 m c t.val t.isLt
    = (View.canon (dzStores (iblk m c 0 t) (iblk m c 1 t) (iblk m c 2 t) (iblk m c 3 t) (iblk m c 4 t) (iblk m c 5 t)),
        View.canon (dwStores (iblk m c 0 t) (iblk m c 1 t) (iblk m c 2 t) (iblk m c 3 t) (outsAt0 m c (t.val - 1) (Nat.lt_of_le_of_lt (Nat.sub_le _ _) t.isLt)).2.1),
        View.canon (dbStores (iblk m c 0 t) (iblk m c 2 t) (outsAt0 m c (t.val - 1) (Nat.lt_of_le_of_lt (Nat.sub_le _ _) t.isLt)).2.2.1),
        dgStore (iblk m c 0 t) (iblk m c 1 t) (iblk m c 2 t) (iblk m c 4 t) (outsAt0 m c (t.val - 1) (Nat.lt_of_le_of_lt (Nat.sub_le _ _) t.isLt)).2.2.2) := by
  rw [outsAt0_B m c t h0, out_B_6, out_B_7, out_B_8, out_B_9]

/-- What the blocks hold after point `n`: chunk `n`'s input gradient and the sums over the chunks up to it. -/
theorem after {A : Args} {c : Dev nD} (h : Holds m A c) : ∀ (n : ℕ) (hn : n < cfg0.N),
    Hold (A.chunk n).dz (fun q t s => ∑ i ∈ Finset.range (n + 1), (A.chunk i).dw q t s) (fun q t => ∑ i ∈ Finset.range (n + 1), (A.chunk i).db q t)
      (fun j => ∑ i ∈ Finset.range (n + 1), (A.chunk i).dg j) (outsAt0 m c n hn)
  | 0, hn => by
    have e : outsAt0 m c 0 hn = _ := outs_A m c ⟨0, hn⟩ rfl
    rw [e]
    simp only [Finset.sum_range_succ _ 0, Finset.range_zero, Finset.sum_empty]
    exact hold_A (reads m h ⟨0, hn⟩)
  | n + 1, hn => by
    have hN : cfg0.N = 32 := N_0
    have e : outsAt0 m c (n + 1) hn = _ := outs_B m c ⟨n + 1, hn⟩ (by dsimp only; omega)
    rw [e]
    simp only [Finset.sum_range_succ _ (n + 1)]
    exact hold_B (reads m h ⟨n + 1, hn⟩) (after h n (Nat.lt_of_succ_lt hn))

/-! ## The arrays at the end -/

theorem flushed_dz {A : Args} {c : Dev nD} (h : Holds m A c) (t : Fin cfg0.N) (_ : (cfg0.win 6).flush t = true) :
    (dats m 0 c).flushed 6 t = ((cfg0.win 6).blk t).view.read (Elt Ideal) (fun i : S4096x2048.Idx => (A.dz (i 0) (i 1) : EReal)) := by
  rw [Value.flushed6]
  funext (y : S128x2048.Idx)
  rw [View.read_apply]
  obtain ⟨r, k, rfl⟩ : ∃ (r : Fin 128) (k : Fin 2048), y = ix2 r k := ⟨y 0, y 1, eq_ix2 y⟩
  refine ((after m h t.val t.isLt).dz r k).trans ?_
  rw [← A.dz_row (point_lt t)]
  show ((A.dz _ _ : ℝ) : EReal) = ((A.dz _ _ : ℝ) : EReal)
  congr 2
  · apply Fin.ext
    show (row t.val r).val = win0_6.index t 0 * 128 + 1 * r.val
    rw [(ix_6 t).1, row_val (point_lt t)]; omega
  · apply Fin.ext
    show k.val = win0_6.index t 1 * 2048 + 1 * k.val
    rw [(ix_6 t).2]; omega

theorem final_dz {A : Args} {c : Dev nD} (h : Holds m A c) : (dats m 0 c).arrAt 6 cfg0.N = fun i : S4096x2048.Idx => (A.dz (i 0) (i 1) : EReal) :=
  (dats m 0 c).arrAt_eq_of_cover 6 _ (flushed_dz m h) fun i =>
    have h0 : (i 0 : Nat) < 4096 := (i 0).isLt
    have h1 : (i 1 : Nat) < 2048 := (i 1).isLt
    have hN : cfg0.N = 32 := N_0
    have ht : (i 0 : Nat) / 128 < cfg0.N := by omega
    ⟨⟨(i 0 : Nat) / 128, ht⟩, flush0_6 _, by
      show i ∈ ((View.whole main_v3_0).slice (win0_6.rect ⟨(i 0 : Nat) / 128, ht⟩)).set
      rw [View.set_slice_whole, Rect.mem_set_unit]
      intro a
      match a with
      | ⟨0, _⟩ => show win0_6.index ⟨(i 0 : Nat) / 128, ht⟩ 0 * 128 ≤ (i 0 : Nat) ∧ (i 0 : Nat) < win0_6.index ⟨(i 0 : Nat) / 128, ht⟩ 0 * 128 + 128
                  rw [(ix_6 _).1]; dsimp only; omega
      | ⟨1, _⟩ => show win0_6.index ⟨(i 0 : Nat) / 128, ht⟩ 1 * 2048 ≤ (i 1 : Nat) ∧ (i 1 : Nat) < win0_6.index ⟨(i 0 : Nat) / 128, ht⟩ 1 * 2048 + 2048
                  rw [(ix_6 _).2]; omega⟩

/-- The last point. -/
def last : Fin cfg0.N := ⟨31, by rw [show cfg0.N = 32 from N_0]; decide⟩

theorem hold_dw {A : Args} {c : Dev nD} (h : Holds m A c) : (outsAt0 m c 31 last.isLt).2.1 = fun i : S8x128x128.Idx => (A.dw (i 0) (i 1) (i 2) : EReal) := by
  funext i
  rw [eq_ix3 i]
  exact (after m h 31 last.isLt).dw _ _ _

theorem flushed_dw {A : Args} {c : Dev nD} (h : Holds m A c) (t : Fin cfg0.N) (hf : (cfg0.win 7).flush t = true) :
    (dats m 0 c).flushed 7 t = ((cfg0.win 7).blk t).view.read (Elt Ideal) (fun i : S8x128x128.Idx => (A.dw (i 0) (i 1) (i 2) : EReal)) := by
  have h31 : t.val = 31 := by have := (flush0_7 t).mp hf; have := point_lt t; omega
  obtain rfl : t = last := Fin.ext h31
  show (cfg0.win 7).cut (grid0.coords last) ((dats m 0 c).after 7 last) = _
  rw [after0_7]
  refine (congrArg ((cfg0.win 7).cut (grid0.coords last)) (hold_dw m h)).trans ?_
  have hz' : (fun a => win0_7.index last a * main_v3_1.ty.shape.size a) = fun _ => 0 := funext fun a => by fin_cases a <;> decide
  exact (Memref.read_access_unit_zero (Elt Ideal) main_v3_1 hz' (fun a => by rw [congrFun hz' a]; simp) _).symm

theorem final_dw {A : Args} {c : Dev nD} (h : Holds m A c) : (dats m 0 c).arrAt 7 cfg0.N = fun i : S8x128x128.Idx => (A.dw (i 0) (i 1) (i 2) : EReal) :=
  (dats m 0 c).arrAt_eq_of_cover 7 _ (flushed_dw m h) fun i =>
    ⟨last, (flush0_7 last).mpr rfl, by
      show i ∈ ((View.whole main_v3_1).slice (win0_7.rect last)).set
      rw [View.set_slice_whole, Rect.mem_set_unit]
      intro a
      have h0 : (i 0 : Nat) < 8 := (i 0).isLt
      have h1 : (i 1 : Nat) < 128 := (i 1).isLt
      have h2 : (i 2 : Nat) < 128 := (i 2).isLt
      match a with
      | ⟨0, _⟩ => show win0_7.index last 0 * win0_7.size 0 ≤ (i 0 : Nat) ∧ (i 0 : Nat) < win0_7.index last 0 * win0_7.size 0 + win0_7.xsize (grid0.coords last) 0
                  rw [show win0_7.index last 0 * win0_7.size 0 = 0 from by decide +kernel, show win0_7.xsize (grid0.coords last) 0 = 8 from by decide +kernel]; omega
      | ⟨1, _⟩ => show win0_7.index last 1 * win0_7.size 1 ≤ (i 1 : Nat) ∧ (i 1 : Nat) < win0_7.index last 1 * win0_7.size 1 + win0_7.xsize (grid0.coords last) 1
                  rw [show win0_7.index last 1 * win0_7.size 1 = 0 from by decide +kernel, show win0_7.xsize (grid0.coords last) 1 = 128 from by decide +kernel]; omega
      | ⟨2, _⟩ => show win0_7.index last 2 * win0_7.size 2 ≤ (i 2 : Nat) ∧ (i 2 : Nat) < win0_7.index last 2 * win0_7.size 2 + win0_7.xsize (grid0.coords last) 2
                  rw [show win0_7.index last 2 * win0_7.size 2 = 0 from by decide +kernel, show win0_7.xsize (grid0.coords last) 2 = 128 from by decide +kernel]; omega⟩

theorem hold_db {A : Args} {c : Dev nD} (h : Holds m A c) : (outsAt0 m c 31 last.isLt).2.2.1 = fun i : S8x8x128.Idx => (A.db (i 0) (i 2) : EReal) := by
  funext i
  rw [eq_ix3 i]
  exact (after m h 31 last.isLt).db _ _ _

theorem flushed_db {A : Args} {c : Dev nD} (h : Holds m A c) (t : Fin cfg0.N) (hf : (cfg0.win 8).flush t = true) :
    (dats m 0 c).flushed 8 t = ((cfg0.win 8).blk t).view.read (Elt Ideal) (fun i : S8x8x128.Idx => (A.db (i 0) (i 2) : EReal)) := by
  have h31 : t.val = 31 := by have := (flush0_8 t).mp hf; have := point_lt t; omega
  obtain rfl : t = last := Fin.ext h31
  show (cfg0.win 8).cut (grid0.coords last) ((dats m 0 c).after 8 last) = _
  rw [after0_8]
  refine (congrArg ((cfg0.win 8).cut (grid0.coords last)) (hold_db m h)).trans ?_
  have hz' : (fun a => win0_8.index last a * main_v3_2.ty.shape.size a) = fun _ => 0 := funext fun a => by fin_cases a <;> decide
  exact (Memref.read_access_unit_zero (Elt Ideal) main_v3_2 hz' (fun a => by rw [congrFun hz' a]; simp) _).symm

theorem final_db {A : Args} {c : Dev nD} (h : Holds m A c) : (dats m 0 c).arrAt 8 cfg0.N = fun i : S8x8x128.Idx => (A.db (i 0) (i 2) : EReal) :=
  (dats m 0 c).arrAt_eq_of_cover 8 _ (flushed_db m h) fun i =>
    ⟨last, (flush0_8 last).mpr rfl, by
      show i ∈ ((View.whole main_v3_2).slice (win0_8.rect last)).set
      rw [View.set_slice_whole, Rect.mem_set_unit]
      intro a
      have h0 : (i 0 : Nat) < 8 := (i 0).isLt
      have h1 : (i 1 : Nat) < 8 := (i 1).isLt
      have h2 : (i 2 : Nat) < 128 := (i 2).isLt
      match a with
      | ⟨0, _⟩ => show win0_8.index last 0 * win0_8.size 0 ≤ (i 0 : Nat) ∧ (i 0 : Nat) < win0_8.index last 0 * win0_8.size 0 + win0_8.xsize (grid0.coords last) 0
                  rw [show win0_8.index last 0 * win0_8.size 0 = 0 from by decide +kernel, show win0_8.xsize (grid0.coords last) 0 = 8 from by decide +kernel]; omega
      | ⟨1, _⟩ => show win0_8.index last 1 * win0_8.size 1 ≤ (i 1 : Nat) ∧ (i 1 : Nat) < win0_8.index last 1 * win0_8.size 1 + win0_8.xsize (grid0.coords last) 1
                  rw [show win0_8.index last 1 * win0_8.size 1 = 0 from by decide +kernel, show win0_8.xsize (grid0.coords last) 1 = 8 from by decide +kernel]; omega
      | ⟨2, _⟩ => show win0_8.index last 2 * win0_8.size 2 ≤ (i 2 : Nat) ∧ (i 2 : Nat) < win0_8.index last 2 * win0_8.size 2 + win0_8.xsize (grid0.coords last) 2
                  rw [show win0_8.index last 2 * win0_8.size 2 = 0 from by decide +kernel, show win0_8.xsize (grid0.coords last) 2 = 128 from by decide +kernel]; omega⟩

theorem hold_dg {A : Args} {c : Dev nD} (h : Holds m A c) : (outsAt0 m c 31 last.isLt).2.2.2 = fun i : S1x1024.Idx => (A.dg (i 1) : EReal) := by
  funext i
  rw [eq_ix2 i]
  exact (after m h 31 last.isLt).dg _ _

theorem flushed_dg {A : Args} {c : Dev nD} (h : Holds m A c) (t : Fin cfg0.N) (hf : (cfg0.win 9).flush t = true) :
    (dats m 0 c).flushed 9 t = ((cfg0.win 9).blk t).view.read (Elt Ideal) (fun i : S1x1024.Idx => (A.dg (i 1) : EReal)) := by
  have h31 : t.val = 31 := by have := (flush0_9 t).mp hf; have := point_lt t; omega
  obtain rfl : t = last := Fin.ext h31
  show (cfg0.win 9).cut (grid0.coords last) ((dats m 0 c).after 9 last) = _
  rw [after0_9]
  refine (congrArg ((cfg0.win 9).cut (grid0.coords last)) (hold_dg m h)).trans ?_
  have hz' : (fun a => win0_9.index last a * main_v3_3.ty.shape.size a) = fun _ => 0 := funext fun a => by fin_cases a <;> decide
  exact (Memref.read_access_unit_zero (Elt Ideal) main_v3_3 hz' (fun a => by rw [congrFun hz' a]; simp) _).symm

theorem final_dg {A : Args} {c : Dev nD} (h : Holds m A c) : (dats m 0 c).arrAt 9 cfg0.N = fun i : S1x1024.Idx => (A.dg (i 1) : EReal) :=
  (dats m 0 c).arrAt_eq_of_cover 9 _ (flushed_dg m h) fun i =>
    ⟨last, (flush0_9 last).mpr rfl, by
      show i ∈ ((View.whole main_v3_3).slice (win0_9.rect last)).set
      rw [View.set_slice_whole, Rect.mem_set_unit]
      intro a
      have h0 : (i 0 : Nat) < 1 := (i 0).isLt
      have h1 : (i 1 : Nat) < 1024 := (i 1).isLt
      match a with
      | ⟨0, _⟩ => show win0_9.index last 0 * win0_9.size 0 ≤ (i 0 : Nat) ∧ (i 0 : Nat) < win0_9.index last 0 * win0_9.size 0 + win0_9.xsize (grid0.coords last) 0
                  rw [show win0_9.index last 0 * win0_9.size 0 = 0 from by decide +kernel, show win0_9.xsize (grid0.coords last) 0 = 1 from by decide +kernel]; omega
      | ⟨1, _⟩ => show win0_9.index last 1 * win0_9.size 1 ≤ (i 1 : Nat) ∧ (i 1 : Nat) < win0_9.index last 1 * win0_9.size 1 + win0_9.xsize (grid0.coords last) 1
                  rw [show win0_9.index last 1 * win0_9.size 1 = 0 from by decide +kernel, show win0_9.xsize (grid0.coords last) 1 = 1024 from by decide +kernel]; omega⟩

end Cert.KernelIdeal.Block

end
-- ==== Proof.RefValue.lean ====
/-
  The reference's four results, element by element: the same reals of the same chunks.
-/
module

public import Idealize.ShloMosaic.Lib.Pointwise
public import Idealize.ShloMosaic.Lib.StableHlo.ReadAt
public import proofs.«01_k».proof.Proof.Lift
public import proofs.«01_k».proof.Proof.Total
public import proofs.«01_k».proof.Proof.Gen.ReferenceIdeal.Run

@[expose] public section

set_option maxRecDepth 16384

noncomputable section

namespace Cert.ReferenceIdeal.Read

open Idealize.ShloMosaic Cert.ReferenceIdeal Cert.ReferenceIdeal.Gen Cert.ReferenceIdeal.Value Cert.Spec Idealize.ShloMosaic.TcCoe Idealize.ShloMosaic.Tactic Idealize.ShloMosaic.StableHlo

variable {V0 : Valuation τ sig (Elt Ideal)} {A : Args}

/-- The arguments hold the reals `A`. -/
abbrev Holds (V0 : Valuation τ sig (Elt Ideal)) (A : Args) : Prop :=
  A.Of (V0 (Proc.devRef .tc main_arg0)) (V0 (Proc.devRef .tc main_arg1)) (V0 (Proc.devRef .tc main_arg2))
    (V0 (Proc.devRef .tc main_arg3)) (V0 (Proc.devRef .tc main_arg4))

/-! ## Sums over several axes -/

/-- A host sum, over any numbering of the indices it adds. -/
theorem host_sum {s t : Shape} {axes : List (Fin s.rank)} (h : s.ReducesTo axes t) (v : s.Idx → EReal) (init : EReal) (j : t.Idx)
    {κ : Type} [Fintype κ] (g : κ → s.Idx) (hg : Function.Injective g) (hp : ∀ i, h.drop i = j ↔ ∃ k, g k = i) :
    Ideal.hostReduceAdd h v init j = init + ∑ k, v (g k) :=
  congrArg (init + ·) (Finset.sum_filter_eq_sum_of_fiber _ g hg hp v)

theorem sum_rows (h : S1x4096x1.ReducesTo [0, 2] S4096) (v : S1x4096x1.Idx → EReal) (init : EReal) (i : Fin 4096) :
    Ideal.hostReduceAdd h v init (ix1 i) = init + v (ix3 0 i 0) := by
  rw [host_sum h v init (ix1 i) (fun _ : Unit => ix3 0 i 0) (fun _ _ _ => rfl) fun y => ⟨fun e => ⟨(), ?_⟩, ?_⟩]
  · simp
  · funext a
    match a with
    | ⟨0, _⟩ => exact Subsingleton.elim (α := Fin 1) _ _
    | ⟨1, _⟩ => exact Fin.ext (congrArg Fin.val (congrFun e 0)).symm
    | ⟨2, _⟩ => exact Subsingleton.elim (α := Fin 1) _ _
  · rintro ⟨k, rfl⟩
    funext b
    match b with
    | ⟨0, _⟩ => rfl

theorem sum_channels (h : S1x1x1024.ReducesTo [0, 1] S1024) (v : S1x1x1024.Idx → EReal) (init : EReal) (i : Fin 1024) :
    Ideal.hostReduceAdd h v init (ix1 i) = init + v (ix3 0 0 i) := by
  rw [host_sum h v init (ix1 i) (fun _ : Unit => ix3 0 0 i) (fun _ _ _ => rfl) fun y => ⟨fun e => ⟨(), ?_⟩, ?_⟩]
  · simp
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0)).symm
  · rintro ⟨k, rfl⟩
    funext b
    match b with
    | ⟨0, _⟩ => rfl

theorem sum_units (h : S1x1x128x8x1.ReducesTo [0, 1, 4] S128x8) (v : S1x1x128x8x1.Idx → EReal) (init : EReal) (t : Fin 128) (q : Fin 8) :
    Ideal.hostReduceAdd h v init (ix2 t q) = init + v (ix5 0 0 t q 0) := by
  rw [host_sum h v init (ix2 t q) (fun _ : Unit => ix5 0 0 t q 0) (fun _ _ _ => rfl) fun y => ⟨fun e => ⟨(), ?_⟩, ?_⟩]
  · simp
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0)).symm
    | ⟨3, _⟩ => exact Fin.ext (congrArg Fin.val (congrFun e 1)).symm
    | ⟨4, _⟩ => exact Subsingleton.elim (α := Fin 1) _ _
  · rintro ⟨k, rfl⟩
    funext b
    match b with
    | ⟨0, _⟩ => rfl
    | ⟨1, _⟩ => rfl

theorem sum_chunks (h : S1x32x128x8x128.ReducesTo [1, 4] S1x128x8) (v : S1x32x128x8x128.Idx → EReal) (init : EReal) (o : Fin 1) (t : Fin 128) (q : Fin 8) :
    Ideal.hostReduceAdd h v init (ix3 o t q) = init + ∑ n : Fin 32, ∑ c : Fin 128, v (ix5 o n t q c) := by
  rw [host_sum h v init (ix3 o t q) (fun k : Fin 32 × Fin 128 => ix5 o k.1 t q k.2) (fun _ _ e => Prod.ext (congrFun e 1) (congrFun e 4))
    fun y => ⟨fun e => ⟨(y 1, y 4), ?_⟩, ?_⟩, Fintype.sum_prod_type]
  · funext a
    match a with
    | ⟨0, _⟩ => exact Subsingleton.elim (α := Fin 1) _ _
    | ⟨1, _⟩ => rfl
    | ⟨2, _⟩ => exact Fin.ext (congrArg Fin.val (congrFun e 1)).symm
    | ⟨3, _⟩ => exact Fin.ext (congrArg Fin.val (congrFun e 2)).symm
    | ⟨4, _⟩ => rfl
  · rintro ⟨k, rfl⟩
    funext b
    match b with
    | ⟨0, _⟩ => rfl
    | ⟨1, _⟩ => rfl
    | ⟨2, _⟩ => rfl

/-! ## A position's chunk -/

/-- The chunk position `i` lies in. -/
abbrev ck (A : Args) (i : Fin 4096) : Chunk := A.chunk (i.val / 128)

/-- The gating unit's input. -/
def zin (A : Args) (i : Fin 4096) (k : Fin 2048) : ℝ := A.p i ⟨5120 + k.val, by omega⟩

theorem ck_u (i : Fin 4096) (j : Fin 1024) (h : j.val < 2048) : zin A i ⟨j.val, h⟩ = (ck A i).u (place i) j := by
  simp only [zin, Args.chunk, row_place]

theorem ck_v (i : Fin 4096) (j : Fin 1024) (h : 1024 + j.val < 2048) : zin A i ⟨1024 + j.val, h⟩ = (ck A i).v (place i) j := by
  simp only [zin, Args.chunk, row_place]
  exact congrArg _ (Fin.ext (by show 5120 + (1024 + j.val) = 6144 + j.val; omega))

theorem ck_ds (i : Fin 4096) (j : Fin 1024) : A.ds i j = (ck A i).ds (place i) j := by
  simp only [Args.chunk, row_place]

theorem ck_row (n : Fin 32) (s : Fin 128) : ck A (row n.val s) = A.chunk n.val := by
  have := s.isLt
  rw [ck, row_val n.isLt, show (128 * n.val + s.val) / 128 = n.val from by omega]

theorem place_row (n : Fin 32) (s : Fin 128) : place (row n.val s) = s :=
  Fin.ext (by have := s.isLt; simp only [place]; rw [row_val n.isLt]; omega)

theorem at_row (n : Fin 32) (s : Fin 128) (h : n.val * 128 + s.val < 4096) : (⟨n.val * 128 + s.val, h⟩ : Fin 4096) = row n.val s :=
  row_eq n.isLt s _ (by dsimp only; omega)

theorem at_col (q : Fin 8) (c : Fin 128) (h : q.val * 128 + c.val < 1024) : (⟨q.val * 128 + c.val, h⟩ : Fin 1024) = col q c :=
  eq_col q c (by dsimp only; omega)

theorem ne1024 : (1024 : ℝ) ≠ 0 := by norm_num

/-! ## The activation and the norm -/

theorem v1 (h : Holds V0 A) (o : Fin 1) (i : Fin 4096) (k : Fin 2048) : res_main_v1 V0 (ix3 o i k) = ((zin A i k : ℝ) : EReal) := by
  unfold res_main_v1
  clean_types
  pointwise
  exact h.p _ _

theorem v3 (h : Holds V0 A) (q : Fin 8) (t s : Fin 128) : res_main_v3 V0 (ix3 q t s) = ((A.w q t s : ℝ) : EReal) := by
  unfold res_main_v3
  clean_types
  pointwise
  exact h.w _ _ _ _

theorem v6 (h : Holds V0 A) (o : Fin 1) (i : Fin 4096) (k : Fin 2048) : res_main_v6 V0 (ix3 o i k) = ((1 / 2 * zin A i k : ℝ) : EReal) := by
  unfold res_main_v6
  clean_types
  pointwise
  simp only [v1 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]

theorem v8 : res_main_v8 V0 ix0 = ((Real.sqrt 2 : ℝ) : EReal) := by
  unfold res_main_v8
  clean_types
  pointwise
  rw [Lift.two, Lift.sqrt_two]

theorem v10 (h : Holds V0 A) (o : Fin 1) (i : Fin 4096) (k : Fin 2048) : res_main_v10 V0 (ix3 o i k) = ((-zin A i k / Real.sqrt 2 : ℝ) : EReal) := by
  unfold res_main_v10
  clean_types
  pointwise
  simp only [v1 h, v8, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]

theorem v11 (h : Holds V0 A) (o : Fin 1) (i : Fin 4096) (k : Fin 2048) : res_main_v11 V0 (ix3 o i k) = ((1 + erf (zin A i k * (Real.sqrt 2)⁻¹) : ℝ) : EReal) := by
  unfold res_main_v11
  clean_types
  pointwise
  simp only [v10 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rw [show -zin A i k / Real.sqrt 2 = -(zin A i k * (Real.sqrt 2)⁻¹) from by ring]
  exact Lift.coe_erfc_neg _

theorem v15 (h : Holds V0 A) (o : Fin 1) (i : Fin 4096) (k : Fin 2048) : res_main_v15 V0 (ix3 o i k) = ((gelu (zin A i k) : ℝ) : EReal) := by
  unfold res_main_v15
  clean_types
  pointwise
  simp only [v6 h, v11 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

theorem v16 (h : Holds V0 A) (o : Fin 1) (i : Fin 4096) (k : Fin 1024) : res_main_v16 V0 (ix3 o i k) = ((gelu ((ck A i).u (place i) k) : ℝ) : EReal) := by
  unfold res_main_v16
  clean_types
  pointwise
  simp only [v15 h, ck_u, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]

theorem v17 (h : Holds V0 A) (o : Fin 1) (i : Fin 4096) (k : Fin 1024) : res_main_v17 V0 (ix3 o i k) = (((ck A i).zv (place i) k : ℝ) : EReal) := by
  unfold res_main_v17
  clean_types
  pointwise
  simp only [v15 h, ck_v, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

theorem v23 (h : Holds V0 A) (o : Fin 1) (i : Fin 4096) (k : Fin 1024) : res_main_v23 V0 (ix3 o i k) = ((dev ((ck A i).zv (place i)) k : ℝ) : EReal) := by
  unfold res_main_v23
  clean_types
  pointwise
  simp only [v17 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

theorem v30 (h : Holds V0 A) (o : Fin 1) (i : Fin 4096) (k : Fin 1) : res_main_v30 V0 (ix3 o i k) = ((var ((ck A i).zv (place i)) : ℝ) : EReal) := by
  unfold res_main_v30
  clean_types
  pointwise
  simp only [v23 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

theorem v31 (h : Holds V0 A) (o : Fin 1) (i : Fin 4096) (k : Fin 1) : res_main_v31 V0 (ix3 o i k) = ((rstd ((ck A i).zv (place i)) : ℝ) : EReal) := by
  unfold res_main_v31
  clean_types
  pointwise
  simp only [v30 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  exact Lift.coe_rsqrt (var_pos _)

theorem v36 (h : Holds V0 A) (o : Fin 1) (i : Fin 4096) (k : Fin 1024) : res_main_v36 V0 (ix3 o i k) = ((dhat ((ck A i).zv (place i)) k : ℝ) : EReal) := by
  unfold res_main_v36
  clean_types
  pointwise
  simp only [v23 h, v31 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

theorem v37 (h : Holds V0 A) (o p : Fin 1) (k : Fin 1024) : res_main_v37 V0 (ix3 o p k) = ((A.g k : ℝ) : EReal) := by
  unfold res_main_v37
  clean_types
  pointwise
  exact h.g _ _

/-! ## The mixing -/

theorem v40 (h : Holds V0 A) (o : Fin 1) (n : Fin 32) (s : Fin 128) (q : Fin 8) (c : Fin 128) : res_main_v40 V0 (ix5 o n s q c) = (((A.chunk n.val).vn s (col q c) : ℝ) : EReal) := by
  unfold res_main_v40
  clean_types
  pointwise
  simp only [v36 h, v37 h, at_row, at_col, ck_row, place_row, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

theorem v47 (h : Holds V0 A) (o : Fin 1) (i : Fin 4096) (k : Fin 1024) : res_main_v47 V0 (ix3 o i k) = (((ck A i).vm (place i) k : ℝ) : EReal) := by
  unfold res_main_v47
  clean_types
  pointwise
  simp only [v40 h, v3 h, h.b, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  show (((∑ x, (ck A i).vn x (col (grp k) (sub k)) * A.w (grp k) (place i) x) + A.b (grp k) (place i) : ℝ) : EReal) = _
  rw [col_grp]
  simp only [Chunk.vm, mul_comm ((ck A i).vn _ _)]
  rfl

theorem v49 (h : Holds V0 A) (o : Fin 1) (i : Fin 4096) (k : Fin 1024) : res_main_v49 V0 (ix3 o i k) = (((ck A i).ds (place i) k : ℝ) : EReal) := by
  unfold res_main_v49
  clean_types
  pointwise
  simp only [h.ds, ck_ds, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]

theorem v52 (h : Holds V0 A) (o : Fin 1) (n : Fin 32) (s : Fin 128) (q : Fin 8) (c : Fin 128) : res_main_v52 V0 (ix5 o n s q c) = (((A.chunk n.val).dvm s (col q c) : ℝ) : EReal) := by
  unfold res_main_v52
  clean_types
  pointwise
  simp only [v16 h, v49 h, at_row, at_col, ck_row, place_row, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rw [mul_comm]
  rfl

theorem v57 (h : Holds V0 A) (q : Fin 8) (o : Fin 1) (n : Fin 32) (c s : Fin 128) : res_main_v57 V0 (ix5 q o n c s) = (((A.chunk n.val).dvm s (col q c) : ℝ) : EReal) := by
  unfold res_main_v57
  clean_types
  pointwise
  simp only [v52 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]

theorem v61 (h : Holds V0 A) (o : Fin 1) (i : Fin 4096) (k : Fin 1024) : res_main_v61 V0 (ix3 o i k) = (((ck A i).dvn (place i) k : ℝ) : EReal) := by
  unfold res_main_v61
  clean_types
  pointwise
  simp only [v57 h, v3 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  show ((∑ x, (ck A i).dvm x (col (grp k) (sub k)) * A.w (grp k) x (place i) : ℝ) : EReal) = _
  rw [col_grp]
  simp only [Chunk.dvn, mul_comm ((ck A i).dvm _ _)]
  rfl

theorem v66 (h : Holds V0 A) (o : Fin 1) (i : Fin 4096) (k : Fin 1024) : res_main_v66 V0 (ix3 o i k) = (((ck A i).ddh (place i) k : ℝ) : EReal) := by
  unfold res_main_v66
  clean_types
  pointwise
  simp only [v61 h, v37 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

/-! ## Back through the norm -/

theorem v78 (h : Holds V0 A) (o : Fin 1) (i : Fin 4096) (k : Fin 1024) : res_main_v78 V0 (ix3 o i k) = ((viaVar ((ck A i).zv (place i)) ((ck A i).ddh (place i)) : ℝ) : EReal) := by
  unfold res_main_v78
  clean_types
  pointwise
  rw [sum_rows]
  pointwise
  simp only [v23 h, v66 h, v31 h, v30 h, Lift.coe_div (var_pos _).ne', Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

theorem v82 (h : Holds V0 A) (o : Fin 1) (i : Fin 4096) (k : Fin 1024) : res_main_v82 V0 (ix3 o i k) = ((devBwd ((ck A i).zv (place i)) ((ck A i).ddh (place i)) k : ℝ) : EReal) := by
  unfold res_main_v82
  clean_types
  pointwise
  simp only [v66 h, v31 h, v23 h, v78 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  rfl

/-- The cotangent of the activation. -/
def dact (A : Args) (i : Fin 4096) (k : Fin 2048) : ℝ :=
  if h : k.val < 1024 then (ck A i).du (place i) ⟨k.val, h⟩ else normBwd ((ck A i).zv (place i)) ((ck A i).ddh (place i)) ⟨k.val - 1024, by omega⟩

theorem v92 (h : Holds V0 A) (o : Fin 1) (i : Fin 4096) (k : Fin 2048) : res_main_v92 V0 (ix3 o i k) = ((dact A i k : ℝ) : EReal) := by
  unfold res_main_v92
  clean_types
  pointwise
  unfold dact
  by_cases hk : k.val < 1024
  · rw [dif_pos hk, dif_pos hk]
    simp only [v49 h, v47 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
    rfl
  · rw [dif_neg hk, dif_neg hk, sum_rows]
    pointwise
    simp only [v82 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum, normBwd_eq]

end Cert.ReferenceIdeal.Read

end
-- ==== Proof.RefResults.lean ====
/-
  The reference's four results, element by element: the same reals of the same chunks.
-/
module

public import Idealize.ShloMosaic.Lib.Pointwise
public import Idealize.ShloMosaic.Lib.StableHlo.ReadAt
public import proofs.«01_k».proof.Proof.Lift
public import proofs.«01_k».proof.Proof.Total
public import proofs.«01_k».proof.Proof.RefValue
public import proofs.«01_k».proof.Proof.Gen.ReferenceIdeal.Run

@[expose] public section

set_option maxRecDepth 16384

noncomputable section

namespace Cert.ReferenceIdeal.Read

open Idealize.ShloMosaic Cert.ReferenceIdeal Cert.ReferenceIdeal.Gen Cert.ReferenceIdeal.Value Cert.Spec Idealize.ShloMosaic.TcCoe Idealize.ShloMosaic.Tactic Idealize.ShloMosaic.StableHlo

variable {V0 : Valuation τ sig (Elt Ideal)} {A : Args}

/-! ## The weights' gradient: one product over every chunk and channel -/

/-- The product's contraction index, from a chunk and a channel. -/
def contrEquiv : Fin 32 × Fin 128 ≃ dot_S8x1x32x128x128_S1x32x128x8x128_S8x128x128_123_014_4_2_0_3.contr.Idx where
  toFun k := fun p => match p with
    | ⟨0, _⟩ => (0 : Fin 1)
    | ⟨1, _⟩ => k.1
    | ⟨2, _⟩ => k.2
  invFun f := (f ⟨1, by decide⟩, f ⟨2, by decide⟩)
  left_inv _ := rfl
  right_inv f := by
    funext p
    match p with
    | ⟨0, _⟩ => exact Subsingleton.elim (α := Fin 1) _ _
    | ⟨1, _⟩ => rfl
    | ⟨2, _⟩ => rfl

theorem dot_apply (L : FVec Ideal S8x1x32x128x128 .f32) (R : FVec Ideal S1x32x128x8x128 .f32) (q : Fin 8) (t s : Fin 128) :
    Host.dotGeneral dot_S8x1x32x128x128_S1x32x128x8x128_S8x128x128_123_014_4_2_0_3 none L R (ix3 q t s)
      = (∑ n : Fin 32, ∑ c : Fin 128, L (ix5 q 0 n c t) * R (ix5 0 n s q c) : EReal) := by
  show FloatOps.dotGeneral _ none _ L R _ = _
  rw [Ideal.dotGeneral_apply, ← Equiv.sum_comp contrEquiv, Fintype.sum_prod_type]
  refine Finset.sum_congr rfl fun n _ => Finset.sum_congr rfl fun c _ => ?_
  congr 1
  · refine congrArg L ?_
    funext a; apply Fin.ext
    match a with
    | ⟨0, _⟩ => rfl
    | ⟨1, _⟩ => rfl
    | ⟨2, _⟩ => rfl
    | ⟨3, _⟩ => rfl
    | ⟨4, _⟩ => rfl
  · refine congrArg R ?_
    funext a; apply Fin.ext
    match a with
    | ⟨0, _⟩ => rfl
    | ⟨1, _⟩ => rfl
    | ⟨2, _⟩ => rfl
    | ⟨3, _⟩ => rfl
    | ⟨4, _⟩ => rfl

theorem res_dw (h : Holds V0 A) :
    Host.dotGeneral (F := Ideal) (φ₁ := .f32) (φ₂ := .f32) dot_S8x1x32x128x128_S1x32x128x8x128_S8x128x128_123_014_4_2_0_3 none (res_main_v57 V0) (res_main_v40 V0)
      = fun i : S8x128x128.Idx => ((A.dw (i 0) (i 1) (i 2) : ℝ) : EReal) := by
  funext i
  obtain ⟨q, t, s, rfl⟩ : ∃ q t s, i = ix3 q t s := ⟨i 0, i 1, i 2, eq_ix3 i⟩
  rw [dot_apply]
  simp only [v57 h, v40 h, ← EReal.coe_mul, ← Lift.coe_sum]
  show _ = ((∑ n ∈ Finset.range 32, (A.chunk n).dw q t s : ℝ) : EReal)
  rw [Finset.sum_range]
  rfl

/-! ## The input's gradient -/

/-- The rounded slope of the error function and its halved, rescaled form give one derivative. -/
theorem slope (z d : ℝ) :
    -(-(9465531 / 8388608) * (1 / 2 * z * d) * Real.exp (-((-z / Real.sqrt 2) * (-z / Real.sqrt 2))) / Real.sqrt 2)
      + 1 / 2 * (d * (1 + erf (z * (Real.sqrt 2)⁻¹))) = d * gelu' z := by
  have e : -((-z / Real.sqrt 2) * (-z / Real.sqrt 2)) = -(1 / 2) * z * z := by
    rw [div_mul_div_comm, Real.mul_self_sqrt (by norm_num)]; ring
  rw [e, div_eq_mul_inv]
  simp only [gelu', slope0]
  ring_nf

theorem dz_eq (A : Args) (i : Fin 4096) (k : Fin 2048) : dact A i k * gelu' (zin A i k) = A.dz i k := by
  unfold dact Args.dz Chunk.dz
  by_cases hk : k.val < 1024
  · rw [dif_pos hk, dif_pos hk]
    have e : zin A i k = (ck A i).u (place i) ⟨k.val, hk⟩ := ck_u i ⟨k.val, hk⟩ k.isLt
    rw [e]; rfl
  · rw [dif_neg hk, dif_neg hk]
    have hb : k.val - 1024 < 1024 := by omega
    have e : zin A i k = (ck A i).v (place i) ⟨k.val - 1024, hb⟩ := by
      rw [← ck_v i ⟨k.val - 1024, hb⟩ (by dsimp only; omega)]
      exact congrArg _ (Fin.ext (by dsimp only; omega))
    rw [e]; rfl

theorem res_dz (h : Holds V0 A) :
    truncf (F := Ideal) .bf16 (shapeCast _ (addf (F := Ideal) (Host.negf (F := Ideal) (Host.divf (F := Ideal) (mulf (F := Ideal) (mulf (F := Ideal) (broadcastInDim S1x4096x2048 ![] bcast_S_S1x4096x2048 (constant (F := Ideal) S_ .f32 0xBF906EBB#32)) (mulf (F := Ideal) (res_main_v6 V0) (res_main_v92 V0))) (Host.exp (F := Ideal) (Host.negf (F := Ideal) (mulf (F := Ideal) (res_main_v10 V0) (res_main_v10 V0))))) (broadcastInDim S1x4096x2048 ![] bcast_S_S1x4096x2048 (res_main_v8 V0)))) (mulf (F := Ideal) (broadcastInDim S1x4096x2048 ![] bcast_S_S1x4096x2048 (constant (F := Ideal) S_ .f32 0x3F000000#32)) (mulf (F := Ideal) (res_main_v92 V0) (res_main_v11 V0)))) shapeCasts_S1x4096x2048_S4096x2048) bitsLt_bf16_f32
      = fun i : S4096x2048.Idx => ((A.dz (i 0) (i 1) : ℝ) : EReal) := by
  funext i
  obtain ⟨p, k, rfl⟩ : ∃ p k, i = ix2 p k := ⟨i 0, i 1, eq_ix2 i⟩
  clean_types
  pointwise
  simp only [v6 h, v92 h, v10 h, v8, v11 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  show _ = ((A.dz p k : ℝ) : EReal)
  rw [← dz_eq, ← slope]

/-! ## The biases' gradient -/

theorem res_db (h : Holds V0 A) :
    broadcastInDim S8x8x128 ![0, 1, 2] bcast_S8x1x128_S8x8x128_0_1_2 (broadcastInDim S8x1x128 ![0, 2] bcast_S8x128_S8x1x128_0_2 (transpose S8x128 [1, 0] (Host.reduceAdd (F := Ideal) (shapeCast _ (Host.reduceAdd (F := Ideal) (res_main_v52 V0) (constant (F := Ideal) S_ .f32 0x00000000#32) reducesTo_S1x32x128x8x128_S1x128x8_d1_4 h_S_) shapeCasts_S1x128x8_S1x1x128x8x1) (constant (F := Ideal) S_ .f32 0x00000000#32) reducesTo_S1x1x128x8x1_S128x8_d0_1_4 h_S_) transposes_S128x8_S8x128_1_0))
      = fun i : S8x8x128.Idx => ((A.db (i 0) (i 2) : ℝ) : EReal) := by
  funext i
  obtain ⟨q, o, t, rfl⟩ : ∃ q o t, i = ix3 q o t := ⟨i 0, i 1, i 2, eq_ix3 i⟩
  clean_types
  pointwise
  rw [sum_units]
  pointwise
  rw [sum_chunks]
  simp only [v52 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  show _ = ((∑ n ∈ Finset.range 32, (A.chunk n).db q t : ℝ) : EReal)
  rw [Finset.sum_range]
  rfl

/-! ## The gain's gradient -/

/-- A sum over the positions is a sum over the chunks and the positions of each. -/
theorem sum_positions (f : Fin 4096 → ℝ) : ∑ i, f i = ∑ n : Fin 32, ∑ r : Fin 128, f (row n.val r) := by
  rw [← Fintype.sum_prod_type' (f := fun (n : Fin 32) (r : Fin 128) => f (row n.val r))]
  refine Fintype.sum_equiv (finProdFinEquiv (m := 32) (n := 128)).symm _ _ fun i => congrArg f ?_
  exact (row_place i).symm

theorem res_dg (h : Holds V0 A) :
    broadcastInDim S1x1024 ![1] bcast_S1024_S1x1024_1 (Host.reduceAdd (F := Ideal) (shapeCast _ (Host.reduceAdd (F := Ideal) (mulf (F := Ideal) (res_main_v36 V0) (res_main_v61 V0)) (constant (F := Ideal) S_ .f32 0x00000000#32) reducesTo_S1x4096x1024_S1x1024_d1 h_S_) shapeCasts_S1x1024_S1x1x1024) (constant (F := Ideal) S_ .f32 0x00000000#32) reducesTo_S1x1x1024_S1024_d0_1 h_S_)
      = fun i : S1x1024.Idx => ((A.dg (i 1) : ℝ) : EReal) := by
  funext i
  obtain ⟨o, k, rfl⟩ : ∃ o k, i = ix2 o k := ⟨i 0, i 1, eq_ix2 i⟩
  clean_types
  pointwise
  rw [sum_channels]
  pointwise
  simp only [v36 h, v61 h, Lift.half, Lift.neg_half, Lift.width, Lift.eps, Lift.two, Lift.neg_slope, Lift.erf_coe, Lift.exp_coe, Lift.coe_erf, Lift.coe_exp, Lift.sqrt_two, Lift.coe_div ne1024, Lift.coe_div Lift.sqrt_two_ne, zero_add, ← EReal.coe_mul, ← EReal.coe_one, ← EReal.coe_add, ← EReal.coe_sub, ← EReal.coe_neg, ← Lift.coe_sum]
  show _ = ((∑ n ∈ Finset.range 32, (A.chunk n).dg k : ℝ) : EReal)
  rw [Finset.sum_range, sum_positions]
  simp only [ck_row, place_row, Chunk.dg, mul_comm (dhat _ _)]

end Cert.ReferenceIdeal.Read

end
-- ==== Proof.SguClaims.lean ====
/-
  The claims: each program runs and leaves its arguments and counters as they were; the named constants are the table's; the
  kernel's results and the reference's are the same arrays of reals wherever the arguments are finite.
-/
module

public import proofs.«01_k».proof.Defs
public import proofs.«01_k».proof.Proof.Accum
public import proofs.«01_k».proof.Proof.RefResults
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.SguClaims

/-! ## The precondition -/

theorem preFacts : Cert.Pre_finite.Facts where
  bcast_S_S4096x11264 := by decide
  bcast_S_S4096x1024 := by decide
  bcast_S_S1x1024 := by decide
  bcast_S_S1x8x128x128 := by decide
  bcast_S_S1x8x128 := by decide

/-- An array all of whose absolute values compare less than infinity holds no infinity. -/
theorem finite_of {s : Shape} (h : Cert.Pre_finite.S_.BroadcastsInDim s (![] : Fin 0 → Fin s.rank)) (a : FVec Ideal s .f32)
    (e : cmpf .olt (Host.absf (F := Ideal) a) (broadcastInDim s ![] h (constant (F := Ideal) Cert.Pre_finite.S_ .f32 0x7F800000#32)) = fun _ => 1#1) (i : s.Idx) :
    (a i : EReal) ≠ ⊤ ∧ (a i : EReal) ≠ ⊥ := by
  have hi : Ideal.cmp .olt (max (a i) (-(a i : EReal))) (Ideal.ofBits .f32 0x7F800000#32) = 1#1 := congrFun e i
  rw [Cert.Lift.inf] at hi
  have hlt : max (a i : EReal) (-(a i : EReal)) < ⊤ := by
    by_contra hc
    simp [Ideal.cmp, hc] at hi
  constructor
  · intro ht; rw [ht] at hlt; simp at hlt
  · intro hb; rw [hb] at hlt; simp at hlt

theorem exists_args {m : (ℓ : Loc Cert.KernelIdeal.nD Cert.KernelIdeal.τ Cert.KernelIdeal.sig) → Buf (Elt Ideal) ℓ}
    (hpre : Cert.Pre_KernelIdeal_finite (hPre_finite := preFacts) m) (c : Dev Cert.KernelIdeal.nD) : ∃ A : Cert.Spec.Args, Cert.KernelIdeal.Block.Holds m A c := by
  obtain ⟨h0, h1, h2, h3, h4⟩ := hpre c
  exact Cert.Spec.Args.exists_of (finite_of _ _ h0) (finite_of _ _ h1) (finite_of _ _ h2) (finite_of _ _ h3) (finite_of _ _ h4)

/-! ## The claims -/

theorem frame_p : Cert.quiescent_Kernel (hKernel := Cert.Kernel.Gen.facts) := fun m ρ _ => Cert.Kernel.Gen.frame m ρ
theorem frame_pi : Cert.quiescent_KernelIdeal (hKernelIdeal := Cert.KernelIdeal.Gen.facts) := fun m ρ _ => Cert.KernelIdeal.Gen.frame m ρ
theorem frame_pi_finite : Cert.quiescent_KernelIdeal_pre_finite (hKernelIdeal := Cert.KernelIdeal.Gen.facts) (hPre_finite := preFacts) :=
  fun m ρ _ => Cert.KernelIdeal.Gen.frame m ρ
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
theorem frame_ri_finite : Cert.quiescent_ReferenceIdeal_pre_finite (hReferenceIdeal := Cert.ReferenceIdeal.Gen.facts) (hPre_finite := preFacts) :=
  fun m ρ _ => frame_ri m ρ trivial

/-- The table gives each name the value its constant denotes. -/
theorem preserves : Cert.preserves_Kernel_KernelIdeal :=
  ⟨IdealRules.named_const.statement Cert.KernelIdeal.κ "inv_sqrt_two" .f32 0x3F3504F3#32 (((Real.sqrt 2)⁻¹ : ℝ) : EReal) rfl,
    IdealRules.named_const.statement Cert.KernelIdeal.κ "half_erf_slope_over_sqrt_two" .f32 0x3ECC422A#32
      (((9465531 * 16777216⁻¹) * (Real.sqrt 2)⁻¹ : ℝ) : EReal) rfl⟩

/-- Of finite arguments that agree, the kernel's four results and the reference's are the same arrays. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  refine ⟨_, _, _, _, Cert.KernelIdeal.Value.run_blocks m ρ, ?_⟩
  refine (θ_run Cert.ReferenceIdeal.defs _ _).mono (fun _ h c => ?_) (Cert.ReferenceIdeal.Value.run (F := Ideal) m' ρ')
  obtain ⟨A, hA⟩ := exists_args hpre c
  have hB : Cert.ReferenceIdeal.Read.Holds (StableHlo.launchContents m' c) A := by
    obtain ⟨e0, e1, e2, e3, e4⟩ := hagree c
    have hA' := hA
    unfold Cert.KernelIdeal.Block.Holds at hA'
    rw [← e0, ← e1, ← e2, ← e3, ← e4] at hA'
    exact hA'
  obtain ⟨r0, r1, r2, r3, rest⟩ := h c
  refine ⟨r0.trans ?_, r1.trans ?_, r2.trans ?_, r3.trans ?_, rest⟩
  · rw [Cert.KernelIdeal.Block.final_dz m hA]; exact Cert.ReferenceIdeal.Read.res_dz hB
  · rw [Cert.KernelIdeal.Block.final_dw m hA]; exact Cert.ReferenceIdeal.Read.res_dw hB
  · rw [Cert.KernelIdeal.Block.final_db m hA]; exact Cert.ReferenceIdeal.Read.res_db hB
  · rw [Cert.KernelIdeal.Block.final_dg m hA]; exact Cert.ReferenceIdeal.Read.res_dg hB

end Cert.Proof.SguClaims

end
-- ==== Proof.Products.lean ====
/-
  Sums over one axis taken a block at a time: what an accumulator holds after the first blocks, and the whole sum after the last.
-/
module

public import Idealize.ShloMosaic.Lib.Pointwise

@[expose] public section

noncomputable section

namespace Cert.Products

/-- The sum of the first `n` terms. -/
def upto {K : Nat} (f : Fin K → EReal) (n : Nat) : EReal := ∑ k ∈ Finset.range n, if h : k < K then f ⟨k, h⟩ else 0

theorem upto_zero {K : Nat} (f : Fin K → EReal) : upto f 0 = 0 := by simp [upto]

/-- One block more. -/
theorem upto_add {K : Nat} (f : Fin K → EReal) (n b : Nat) (g : Fin b → EReal) (hg : ∀ (x : Fin b) (h : n + x.val < K), g x = f ⟨n + x.val, h⟩)
    (hb : n + b ≤ K) : upto f n + ∑ x, g x = upto f (n + b) := by
  unfold upto
  rw [Finset.sum_range_add, Finset.sum_range (n := b)]
  refine congrArg _ (Finset.sum_congr rfl fun x _ => ?_)
  have h : n + x.val < K := by have := x.isLt; omega
  rw [dif_pos h, hg x h]

/-- All of them. -/
theorem upto_all {K : Nat} (f : Fin K → EReal) : upto f K = ∑ k, f k := by
  unfold upto
  rw [Finset.sum_range]
  exact Finset.sum_congr rfl fun x _ => by rw [dif_pos x.isLt]

end Cert.Products

end
-- ==== Proof.DwFf2Product.lean ====
/-
  The gradient of the second feed-forward weight: hidᵀ · dff. The kernel's result is the product of its two arguments' numbers, summed over blocks of 2048; so is the reference's.
-/
module

public import proofs.«01_k».proof.Proof.Products
public import proofs.«01_k».proof.Defs
public import proofs.«01_k».proof.Proof.Gen.DwFf2.Frame
public import proofs.«01_k».proof.Proof.Gen.DwFf2Ideal.Frame
public import proofs.«01_k».proof.Proof.Gen.DwFf2Ideal.Value
public import proofs.«01_k».proof.Proof.Gen.DwFf2RefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DwFf2Ideal.Product

open Idealize.ShloMosaic Idealize.ShloMosaic.TcCoe Idealize.ShloMosaic.Tactic Cert.DwFf2Ideal Cert.DwFf2Ideal.Gen Cert.Products

/-- The product's term. -/
def term (x : S4096x8192.Idx → EReal) (w : S4096x2048.Idx → EReal) (i : Fin 8192) (j : Fin 2048) (k : Fin 4096) : EReal := x (ix2 k i) * w (ix2 k j)

/-! ## What the body computes of its blocks -/

theorem pay_zero (r : Fin 1024) (j : Fin 1024) : k0_pay1 (F := Ideal) (ix2 r j) = (0 : EReal) := by
  pointwise [k0_pay1]

theorem pay_add (acc : S1024x1024.Idx → EReal) (x : S2048x1024.Idx → EReal) (w : S2048x1024.Idx → EReal) (r : Fin 1024) (j : Fin 1024) :
    k0_pay2 (F := Ideal) acc x w (ix2 r j) = acc (ix2 r j) + ∑ k : Fin 2048, x (ix2 k r) * w (ix2 k j) := by
  pointwise [k0_pay2]

theorem pay_out (acc : S1024x1024.Idx → EReal) (r : Fin 1024) (j : Fin 1024) : k0_pay3 (F := Ideal) acc (ix2 r j) = acc (ix2 r j) := by
  pointwise [k0_pay3]

theorem scratch_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec Ideal S2048x1024 .bf16) (x1 : Vec Ideal S2048x1024 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec Ideal S2048x1024 .bf16) (x1 : Vec Ideal S2048x1024 .bf16) (xs0 : Vec Ideal S1024x1024 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem out_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec Ideal S2048x1024 .bf16) (x1 : Vec Ideal S2048x1024 .bf16) (xs0 : Vec Ideal S1024x1024 .f32) :
    out0_B_2 c i arg3 harg3 arg4 harg4 arg5 harg5 arg6 harg6 hc0 hc1 x0 x1 xs0 = k0_pay3 (F := Ideal) (k0_pay2 (F := Ideal) xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

variable (m : (ℓ : Loc nD τ sig) → Buf (Elt Ideal) ℓ)

/-- The two arguments. -/
abbrev lhs (c : Dev nD) : S4096x8192.Idx → EReal := m ((c : Thread nD τ).loc main_arg0)
abbrev rhs (c : Dev nD) : S4096x2048.Idx → EReal := m ((c : Thread nD τ).loc main_arg1)

/-! ## The blocks -/

theorem point_lt (t : Fin cfg0.N) : t.val < 32 := by have := t.isLt; have hN : cfg0.N = 32 := N_0; omega

theorem ix_0 : ∀ t : Fin cfg0.N, win0_0.index t 0 = t.val % 2 ∧ win0_0.index t 1 = t.val / 4 :=
  (by decide +kernel : ∀ t : Fin grid0.N, win0_0.index t 0 = t.val % 2 ∧ win0_0.index t 1 = t.val / 4)
theorem ix_1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)

theorem blk_0 (c : Dev nD) (t : Fin cfg0.N) (r : Fin 1024) (k : Fin 2048) (a : Fin 8192) (b : Fin 4096) (ha : a.val = 1024 * (t.val / 4) + r.val)
    (hb : b.val = 2048 * (t.val % 2) + k.val) : (iblk m c 0 t : S2048x1024.Idx → EReal) (ix2 k r) = lhs m c (ix2 b a) := by
  unfold iblk
  rw [View.read_apply]
  show V m c main_arg0 _ = _
  rw [V_main_arg0]
  refine congrArg (lhs m c) ?_
  funext d
  apply Fin.ext
  match d with
  | ⟨0, _⟩ => show win0_0.index t 0 * 2048 + 1 * k.val = b.val; rw [(ix_0 t).1]; omega
  | ⟨1, _⟩ => show win0_0.index t 1 * 1024 + 1 * r.val = a.val; rw [(ix_0 t).2]; omega

theorem blk_1 (c : Dev nD) (t : Fin cfg0.N) (j : Fin 1024) (k : Fin 2048) (a : Fin 2048) (b : Fin 4096) (ha : a.val = 1024 * (t.val / 2 % 2) + j.val)
    (hb : b.val = 2048 * (t.val % 2) + k.val) : (iblk m c 1 t : S2048x1024.Idx → EReal) (ix2 k j) = rhs m c (ix2 b a) := by
  unfold iblk
  rw [View.read_apply]
  show V m c main_arg1 _ = _
  rw [V_main_arg1]
  refine congrArg (rhs m c) ?_
  funext d
  apply Fin.ext
  match d with
  | ⟨0, _⟩ => show win0_1.index t 0 * 2048 + 1 * k.val = b.val; rw [(ix_1 t).1]; omega
  | ⟨1, _⟩ => show win0_1.index t 1 * 1024 + 1 * j.val = a.val; rw [(ix_1 t).2]; omega

/-! ## Point by point -/

/-- One block added. -/
theorem step (c : Dev nD) (t : Fin cfg0.N) (r : Fin 1024) (j : Fin 1024) (a : Fin 8192) (b : Fin 2048) (ha : a.val = 1024 * (t.val / 4) + r.val)
    (hb : b.val = 1024 * (t.val / 2 % 2) + j.val) (acc : S1024x1024.Idx → EReal)
    (h : acc (ix2 r j) = upto (term (lhs m c) (rhs m c) a b) (2048 * (t.val % 2))) :
    k0_pay2 (F := Ideal) acc (iblk m c 0 t) (iblk m c 1 t) (ix2 r j) = upto (term (lhs m c) (rhs m c) a b) (2048 * (t.val % 2) + 2048) := by
  refine (pay_add acc (iblk m c 0 t) (iblk m c 1 t) r j).trans ?_
  rw [h]
  refine upto_add _ _ _ _ (fun k hk => ?_) (by omega)
  rw [blk_0 m c t r k a ⟨_, hk⟩ ha rfl, blk_1 m c t j k b ⟨_, hk⟩ hb rfl]
  rfl

theorem outs_A (c : Dev nD) (t : Fin cfg0.N) (h0 : t.val % 2 = 0) :
    (outsAt0 m c t.val t.isLt).2 = k0_pay2 (F := Ideal) (k0_pay1 (F := Ideal)) (iblk m c 0 t) (iblk m c 1 t) := by
  rw [outsAt0_A m c t h0 (by omega)]
  dsimp only
  rw [scratch_A]

theorem outs_B (c : Dev nD) (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]
  dsimp only
  rw [scratch_B]

theorem outs_last (c : Dev nD) (t : Fin cfg0.N) (h1 : t.val % 2 = 1) : (outsAt0 m c t.val t.isLt).1 = k0_pay3 (F := Ideal) (outsAt0 m c t.val t.isLt).2 := by
  rw [outs_B m c t (by omega), outsAt0_B m c t (by omega) h1]
  dsimp only
  rw [out_B]

/-- The accumulator holds the blocks added so far. -/
theorem after (c : Dev nD) : ∀ (n : ℕ) (hn : n < cfg0.N) (r : Fin 1024) (j : Fin 1024) (a : Fin 8192) (b : Fin 2048), a.val = 1024 * (n / 4) + r.val →
    b.val = 1024 * (n / 2 % 2) + j.val →
    ((outsAt0 m c n hn).2 : S1024x1024.Idx → EReal) (ix2 r j) = upto (term (lhs m c) (rhs m c) a b) (2048 * (n % 2) + 2048)
  | 0, hn, r, j, a, b, ha, hb => by
    have e : (outsAt0 m c 0 hn).2 = _ := outs_A m c ⟨0, hn⟩ rfl
    rw [e]
    exact step m c ⟨0, hn⟩ r j a b ha hb _ ((pay_zero r j).trans (upto_zero _).symm)
  | n + 1, hn, r, j, a, b, ha, hb => by
    by_cases h0 : (n + 1) % 2 = 0
    · have e : (outsAt0 m c (n + 1) hn).2 = _ := outs_A m c ⟨n + 1, hn⟩ h0
      rw [e]
      refine step m c ⟨n + 1, hn⟩ r j a b ha hb _ ((pay_zero r j).trans ?_)
      dsimp only
      rw [h0, Nat.mul_zero, upto_zero]
    · have e : (outsAt0 m c (n + 1) hn).2 = _ := outs_B m c ⟨n + 1, hn⟩ h0
      rw [e]
      refine step m c ⟨n + 1, hn⟩ r j a b ha hb _ ?_
      refine (after c n (Nat.lt_of_succ_lt hn) r j a b (by omega) (by omega)).trans ?_
      dsimp only
      congr 1
      omega

/-! ## The result's array -/

theorem ix_2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

/-- The kernel's result. -/
def result (c : Dev nD) : S8192x2048.Idx → EReal := fun i : S8192x2048.Idx => ∑ k, term (lhs m c) (rhs m c) (i 0) (i 1) k

/-- Where point `t`'s block stands in the result. -/
theorem place (c : Dev nD) (t : Fin cfg0.N) (r : Fin 1024) (j : Fin 1024) : ∃ (a : Fin 8192) (b : Fin 2048), a.val = 1024 * (t.val / 4) + r.val ∧
    b.val = 1024 * (t.val / 2 % 2) + j.val ∧ result m c (((cfg0.win 2).blk t).view.emb (ix2 r j)) = ∑ k, term (lhs m c) (rhs m c) a b k := by
  have hp := point_lt t
  have hr := r.isLt
  have hj := j.isLt
  refine ⟨_, _, ?_, ?_, rfl⟩
  · show win0_2.index t 0 * 1024 + 1 * r.val = _
    rw [(ix_2 t).1]; omega
  · show win0_2.index t 1 * 1024 + 1 * j.val = _
    rw [(ix_2 t).2]; omega

theorem flushed (c : Dev nD) (t : Fin cfg0.N) (hf : (cfg0.win 2).flush t = true) :
    (dats m 0 c).flushed 2 t = ((cfg0.win 2).blk t).view.read (Elt Ideal) (result m c) := by
  have ht : t.val % 2 = 1 := (flush0_2 t).1 hf
  rw [Value.flushed2, outs_last m c t ht]
  funext (y : S1024x1024.Idx)
  rw [View.read_apply]
  obtain ⟨r, j, rfl⟩ : ∃ (r : Fin 1024) (j : Fin 1024), y = ix2 r j := ⟨y 0, y 1, eq_ix2 y⟩
  obtain ⟨a, b, ha, hb, e⟩ := place m c t r j
  rw [e]
  refine ((pay_out _ r j).trans (after m c t.val t.isLt r j a b ha hb)).trans ?_
  rw [ht]
  exact upto_all _

theorem final (c : Dev nD) : (dats m 0 c).arrAt 2 cfg0.N = result m c :=
  (dats m 0 c).arrAt_eq_of_cover 2 _ (flushed m c) fun i =>
    have h0 : (i 0 : Nat) < 8192 := (i 0).isLt
    have h1 : (i 1 : Nat) < 2048 := (i 1).isLt
    have hN : cfg0.N = 32 := N_0
    have ht : 4 * ((i 0 : Nat) / 1024) + 2 * ((i 1 : Nat) / 1024) + 1 < cfg0.N := by omega
    ⟨⟨4 * ((i 0 : Nat) / 1024) + 2 * ((i 1 : Nat) / 1024) + 1, ht⟩, (flush0_2 _).2 (by dsimp only; omega), by
      show i ∈ ((View.whole main_v0).slice (win0_2.rect ⟨4 * ((i 0 : Nat) / 1024) + 2 * ((i 1 : Nat) / 1024) + 1, ht⟩)).set
      rw [View.set_slice_whole, Rect.mem_set_unit]
      have e := ix_2 ⟨4 * ((i 0 : Nat) / 1024) + 2 * ((i 1 : Nat) / 1024) + 1, ht⟩
      dsimp only at e
      intro a
      match a with
      | ⟨0, _⟩ => show win0_2.index ⟨4 * ((i 0 : Nat) / 1024) + 2 * ((i 1 : Nat) / 1024) + 1, ht⟩ 0 * 1024 ≤ (i 0 : Nat) ∧ (i 0 : Nat) < win0_2.index ⟨4 * ((i 0 : Nat) / 1024) + 2 * ((i 1 : Nat) / 1024) + 1, ht⟩ 0 * 1024 + 1024; rw [e.1]; omega
      | ⟨1, _⟩ => show win0_2.index ⟨4 * ((i 0 : Nat) / 1024) + 2 * ((i 1 : Nat) / 1024) + 1, ht⟩ 1 * 1024 ≤ (i 1 : Nat) ∧ (i 1 : Nat) < win0_2.index ⟨4 * ((i 0 : Nat) / 1024) + 2 * ((i 1 : Nat) / 1024) + 1, ht⟩ 1 * 1024 + 1024; rw [e.2]; omega
      ⟩

end Cert.DwFf2Ideal.Product

namespace Cert.DwFf2RefIdeal.Product

open Idealize.ShloMosaic Idealize.ShloMosaic.Tactic Cert.DwFf2RefIdeal Cert.DwFf2RefIdeal.Gen

/-- The reference's result, element by element. -/
theorem value (x : S4096x8192.Idx → EReal) (w : S4096x2048.Idx → EReal) (i : Fin 8192) (j : Fin 2048) :
    (truncf (F := Ideal) .bf16 (transpose S8192x2048 [1, 0] (Host.dotGeneral (F := Ideal) (φ₁ := .f32) (φ₂ := .f32) dot_S4096x2048_S4096x8192_S2048x8192_0_0_1_1_n_n none (extf (F := Ideal) .f32 w bitsLt_bf16_f32) (extf (F := Ideal) .f32 x bitsLt_bf16_f32)) transposes_S2048x8192_S8192x2048_1_0) bitsLt_bf16_f32) (ix2 i j) = ∑ k, Cert.DwFf2Ideal.Product.term x w i j k := by
  pointwise []
  unfold Cert.DwFf2Ideal.Product.term
  exact Finset.sum_congr rfl fun k _ => mul_comm _ _

end Cert.DwFf2RefIdeal.Product

namespace Cert.Proof.DwFf2Claims

open Idealize.ShloMosaic Idealize.ShloMosaic.TcCoe Idealize.ShloMosaic.Tactic Idealize.SL.Sem

theorem frame_p : Cert.quiescent_DwFf2 (hDwFf2 := Cert.DwFf2.Gen.facts) := fun m ρ _ => Cert.DwFf2.Gen.frame m ρ
theorem frame_pi : Cert.quiescent_DwFf2Ideal (hDwFf2Ideal := Cert.DwFf2Ideal.Gen.facts) := fun m ρ _ => Cert.DwFf2Ideal.Gen.frame m ρ
theorem frame_ri : Cert.quiescent_DwFf2RefIdeal (hDwFf2RefIdeal := Cert.DwFf2RefIdeal.Gen.facts) := fun m ρ _ =>
  (θ_run Cert.DwFf2RefIdeal.defs _ _).mono (fun r h => ⟨fun c => (h c).2, Idealize.ShloMosaic.sem_eq_zero_of_no_sems (by decide) r.2⟩)
    (Cert.DwFf2RefIdeal.Value.run (F := Ideal) m ρ)
theorem preserves : Cert.preserves_DwFf2_DwFf2Ideal := trivial

theorem algebraic : Cert.algebraic_DwFf2Ideal_DwFf2RefIdeal (hDwFf2Ideal := Cert.DwFf2Ideal.Gen.facts) (hDwFf2RefIdeal := Cert.DwFf2RefIdeal.Gen.facts) := by
  intro m ρ m' ρ' _ hagree
  refine ⟨_, Cert.DwFf2Ideal.Value.run_blocks m ρ, ?_⟩
  refine (θ_run Cert.DwFf2RefIdeal.defs _ _).mono (fun _ h c => ?_) (Cert.DwFf2RefIdeal.Value.run (F := Ideal) m' ρ')
  obtain ⟨e0, e1⟩ := hagree c
  obtain ⟨r0, rest⟩ := h c
  refine ⟨r0.trans ?_, rest⟩
  rw [e0, e1, Cert.DwFf2Ideal.Product.final m c]
  funext y
  obtain ⟨i, j, rfl⟩ : ∃ (i : Fin 8192) (j : Fin 2048), y = ix2 i j := ⟨y 0, y 1, eq_ix2 y⟩
  exact Cert.DwFf2RefIdeal.Product.value _ _ i j

end Cert.Proof.DwFf2Claims

end
-- ==== Proof.Ff1Product.lean ====
/-
  The feed-forward block's first product a2 · w_ff1 and the square of its positive part. The kernel's results are the reference's, element by element.
-/
module

public import proofs.«01_k».proof.Defs
public import proofs.«01_k».proof.Proof.Gen.Ff1.Frame
public import proofs.«01_k».proof.Proof.Gen.Ff1Ideal.Frame
public import proofs.«01_k».proof.Proof.Gen.Ff1Ideal.Value
public import proofs.«01_k».proof.Proof.Gen.Ff1RefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.Ff1Ideal.Product

open Idealize.ShloMosaic Idealize.ShloMosaic.TcCoe Idealize.ShloMosaic.Tactic Cert.Ff1Ideal Cert.Ff1Ideal.Gen

/-- The product's element, and the square of its positive part. -/
def f1 (u v : Fin 2048 → EReal) : EReal := ∑ k, u k * v k
def hid (u v : Fin 2048 → EReal) : EReal := max (f1 u v) 0 * max (f1 u v) 0

/-! ## What the body computes of its blocks -/

theorem pay_2 (x0 : S1024x2048.Idx → EReal) (x1 : S2048x2048.Idx → EReal) (r : Fin 1024) (j : Fin 2048) :
    out0_2 (F := Ideal) x0 x1 (ix2 r j) = f1 (fun k => x0 (ix2 r k)) (fun k => x1 (ix2 k j)) := by
  unfold out0_2
  simp (disch := decide) only [View.canon_cons_unit_lit, View.ld_unit_lit]
  pointwise [k0_pay2, k0_pay1]
  rfl

theorem pay_3 (x0 : S1024x2048.Idx → EReal) (x1 : S2048x2048.Idx → EReal) (r : Fin 1024) (j : Fin 2048) :
    out0_3 (F := Ideal) x0 x1 (ix2 r j) = hid (fun k => x0 (ix2 r k)) (fun k => x1 (ix2 k j)) := by
  unfold out0_3
  simp (disch := decide) only [View.canon_cons_unit_lit, View.ld_unit_lit]
  pointwise [k0_pay3, k0_pay1]
  rfl

variable (m : (ℓ : Loc nD τ sig) → Buf (Elt Ideal) ℓ)

/-- The arguments. -/
abbrev arg0 (c : Dev nD) : S4096x2048.Idx → EReal := m ((c : Thread nD τ).loc main_arg0)
abbrev arg1 (c : Dev nD) : S2048x8192.Idx → EReal := m ((c : Thread nD τ).loc main_arg1)

/-! ## The blocks -/

theorem point_lt (t : Fin cfg0.N) : t.val < 16 := by have := t.isLt; have hN : cfg0.N = 16 := N_0; omega

theorem ix_0 : ∀ t : Fin cfg0.N, win0_0.index t 0 = t.val / 4 ∧ win0_0.index t 1 = 0 :=
  (by decide +kernel : ∀ t : Fin grid0.N, win0_0.index t 0 = t.val / 4 ∧ win0_0.index t 1 = 0)

theorem blk_0 (c : Dev nD) (t : Fin cfg0.N) (x : Fin 1024) (y : Fin 2048) (a : Fin 4096) (b : Fin 2048)
    (ha : a.val = 1024 * (t.val / 4) + x.val) (hb : b.val = 2048 * (0) + y.val) :
    (iblk m c 0 t : S1024x2048.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 1024 + 1 * x.val = a.val; rw [(ix_0 t).1]; omega
  | ⟨1, _⟩ => show win0_0.index t 1 * 2048 + 1 * y.val = b.val; rw [(ix_0 t).2]; omega

theorem ix_1 : ∀ t : Fin cfg0.N, win0_1.index t 0 = 0 ∧ win0_1.index t 1 = t.val % 4 :=
  (by decide +kernel : ∀ t : Fin grid0.N, win0_1.index t 0 = 0 ∧ win0_1.index t 1 = t.val % 4)

theorem blk_1 (c : Dev nD) (t : Fin cfg0.N) (x : Fin 2048) (y : Fin 2048) (a : Fin 2048) (b : Fin 8192)
    (ha : a.val = 2048 * (0) + x.val) (hb : b.val = 2048 * (t.val % 4) + y.val) :
    (iblk m c 1 t : S2048x2048.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 2048 + 1 * x.val = a.val; rw [(ix_1 t).1]; omega
  | ⟨1, _⟩ => show win0_1.index t 1 * 2048 + 1 * y.val = b.val; rw [(ix_1 t).2]; omega

/-! ## The results' arrays -/

theorem ix_2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

def result_2 (c : Dev nD) : S4096x8192.Idx → EReal := fun i => f1 (fun k => arg0 m c (ix2 (i 0) k)) (fun k => arg1 m c (ix2 k (i 1)))

theorem place_2 (c : Dev nD) (t : Fin cfg0.N) (r : Fin 1024) (j : Fin 2048) : ∃ (a : Fin 4096) (b : Fin 8192), a.val = 1024 * (t.val / 4) + r.val ∧
    b.val = 2048 * (t.val % 4) + j.val ∧ result_2 m c (((cfg0.win 2).blk t).view.emb (ix2 r j)) = f1 (fun k => arg0 m c (ix2 a k)) (fun k => arg1 m c (ix2 k b)) := by
  have hp := point_lt t
  refine ⟨_, _, ?_, ?_, rfl⟩
  · show win0_2.index t 0 * 1024 + 1 * r.val = _
    rw [(ix_2 t).1]; omega
  · show win0_2.index t 1 * 2048 + 1 * j.val = _
    rw [(ix_2 t).2]; omega

theorem flushed_2 (c : Dev nD) (t : Fin cfg0.N) (hf : (cfg0.win 2).flush t = true) :
    (dats m 0 c).flushed 2 t = ((cfg0.win 2).blk t).view.read (Elt Ideal) (result_2 m c) := by
  rw [Value.flushed2]
  funext (y : S1024x2048.Idx)
  rw [View.read_apply]
  obtain ⟨r, j, rfl⟩ : ∃ (r : Fin 1024) (j : Fin 2048), y = ix2 r j := ⟨y 0, y 1, eq_ix2 y⟩
  obtain ⟨a, b, ha, hb, e⟩ := place_2 m c t r j
  rw [e]
  refine (pay_2 (iblk m c 0 t) (iblk m c 1 t) r j).trans ?_
  rw [(show (fun k => (iblk m c 0 t : S1024x2048.Idx → EReal) (ix2 r k)) = (fun k => arg0 m c (ix2 a k)) from funext fun k => blk_0 m c t r k a k ha (by omega)),
    (show (fun k => (iblk m c 1 t : S2048x2048.Idx → EReal) (ix2 k j)) = (fun k => arg1 m c (ix2 k b)) from funext fun k => blk_1 m c t k j k b (by omega) hb)]
  rfl

theorem final_2 (c : Dev nD) : (dats m 0 c).arrAt 2 cfg0.N = result_2 m c :=
  (dats m 0 c).arrAt_eq_of_cover 2 _ (flushed_2 m c) fun i =>
    have h0 : (i 0 : Nat) < 4096 := (i 0).isLt
    have h1 : (i 1 : Nat) < 8192 := (i 1).isLt
    have hN : cfg0.N = 16 := N_0
    have ht : 4 * ((i 0 : Nat) / 1024) + ((i 1 : Nat) / 2048) < cfg0.N := by omega
    ⟨⟨4 * ((i 0 : Nat) / 1024) + ((i 1 : Nat) / 2048), ht⟩, flush0_2 _, by
      show i ∈ ((View.whole main_v0_0).slice (win0_2.rect ⟨4 * ((i 0 : Nat) / 1024) + ((i 1 : Nat) / 2048), ht⟩)).set
      rw [View.set_slice_whole, Rect.mem_set_unit]
      have e := ix_2 ⟨4 * ((i 0 : Nat) / 1024) + ((i 1 : Nat) / 2048), ht⟩
      dsimp only at e
      intro a
      match a with
      | ⟨0, _⟩ => show win0_2.index ⟨4 * ((i 0 : Nat) / 1024) + ((i 1 : Nat) / 2048), ht⟩ 0 * 1024 ≤ (i 0 : Nat) ∧ (i 0 : Nat) < win0_2.index ⟨4 * ((i 0 : Nat) / 1024) + ((i 1 : Nat) / 2048), ht⟩ 0 * 1024 + 1024; rw [e.1]; omega
      | ⟨1, _⟩ => show win0_2.index ⟨4 * ((i 0 : Nat) / 1024) + ((i 1 : Nat) / 2048), ht⟩ 1 * 2048 ≤ (i 1 : Nat) ∧ (i 1 : Nat) < win0_2.index ⟨4 * ((i 0 : Nat) / 1024) + ((i 1 : Nat) / 2048), ht⟩ 1 * 2048 + 2048; rw [e.2]; omega
      ⟩

theorem ix_3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

def result_3 (c : Dev nD) : S4096x8192.Idx → EReal := fun i => hid (fun k => arg0 m c (ix2 (i 0) k)) (fun k => arg1 m c (ix2 k (i 1)))

theorem place_3 (c : Dev nD) (t : Fin cfg0.N) (r : Fin 1024) (j : Fin 2048) : ∃ (a : Fin 4096) (b : Fin 8192), a.val = 1024 * (t.val / 4) + r.val ∧
    b.val = 2048 * (t.val % 4) + j.val ∧ result_3 m c (((cfg0.win 3).blk t).view.emb (ix2 r j)) = hid (fun k => arg0 m c (ix2 a k)) (fun k => arg1 m c (ix2 k b)) := by
  have hp := point_lt t
  refine ⟨_, _, ?_, ?_, rfl⟩
  · show win0_3.index t 0 * 1024 + 1 * r.val = _
    rw [(ix_3 t).1]; omega
  · show win0_3.index t 1 * 2048 + 1 * j.val = _
    rw [(ix_3 t).2]; omega

theorem flushed_3 (c : Dev nD) (t : Fin cfg0.N) (hf : (cfg0.win 3).flush t = true) :
    (dats m 0 c).flushed 3 t = ((cfg0.win 3).blk t).view.read (Elt Ideal) (result_3 m c) := by
  rw [Value.flushed3]
  funext (y : S1024x2048.Idx)
  rw [View.read_apply]
  obtain ⟨r, j, rfl⟩ : ∃ (r : Fin 1024) (j : Fin 2048), y = ix2 r j := ⟨y 0, y 1, eq_ix2 y⟩
  obtain ⟨a, b, ha, hb, e⟩ := place_3 m c t r j
  rw [e]
  refine (pay_3 (iblk m c 0 t) (iblk m c 1 t) r j).trans ?_
  rw [(show (fun k => (iblk m c 0 t : S1024x2048.Idx → EReal) (ix2 r k)) = (fun k => arg0 m c (ix2 a k)) from funext fun k => blk_0 m c t r k a k ha (by omega)),
    (show (fun k => (iblk m c 1 t : S2048x2048.Idx → EReal) (ix2 k j)) = (fun k => arg1 m c (ix2 k b)) from funext fun k => blk_1 m c t k j k b (by omega) hb)]
  rfl

theorem final_3 (c : Dev nD) : (dats m 0 c).arrAt 3 cfg0.N = result_3 m c :=
  (dats m 0 c).arrAt_eq_of_cover 3 _ (flushed_3 m c) fun i =>
    have h0 : (i 0 : Nat) < 4096 := (i 0).isLt
    have h1 : (i 1 : Nat) < 8192 := (i 1).isLt
    have hN : cfg0.N = 16 := N_0
    have ht : 4 * ((i 0 : Nat) / 1024) + ((i 1 : Nat) / 2048) < cfg0.N := by omega
    ⟨⟨4 * ((i 0 : Nat) / 1024) + ((i 1 : Nat) / 2048), ht⟩, flush0_3 _, by
      show i ∈ ((View.whole main_v0_1).slice (win0_3.rect ⟨4 * ((i 0 : Nat) / 1024) + ((i 1 : Nat) / 2048), ht⟩)).set
      rw [View.set_slice_whole, Rect.mem_set_unit]
      have e := ix_3 ⟨4 * ((i 0 : Nat) / 1024) + ((i 1 : Nat) / 2048), ht⟩
      dsimp only at e
      intro a
      match a with
      | ⟨0, _⟩ => show win0_3.index ⟨4 * ((i 0 : Nat) / 1024) + ((i 1 : Nat) / 2048), ht⟩ 0 * 1024 ≤ (i 0 : Nat) ∧ (i 0 : Nat) < win0_3.index ⟨4 * ((i 0 : Nat) / 1024) + ((i 1 : Nat) / 2048), ht⟩ 0 * 1024 + 1024; rw [e.1]; omega
      | ⟨1, _⟩ => show win0_3.index ⟨4 * ((i 0 : Nat) / 1024) + ((i 1 : Nat) / 2048), ht⟩ 1 * 2048 ≤ (i 1 : Nat) ∧ (i 1 : Nat) < win0_3.index ⟨4 * ((i 0 : Nat) / 1024) + ((i 1 : Nat) / 2048), ht⟩ 1 * 2048 + 2048; rw [e.2]; omega
      ⟩

end Cert.Ff1Ideal.Product

namespace Cert.Ff1RefIdeal.Product

open Idealize.ShloMosaic Idealize.ShloMosaic.Tactic Cert.Ff1RefIdeal Cert.Ff1RefIdeal.Gen Cert.Ff1Ideal.Product

/-- The reference's result, element by element. -/
theorem value_2 (x0 : S4096x2048.Idx → EReal) (x1 : S2048x8192.Idx → EReal) (i : Fin 4096) (j : Fin 8192) :
    (truncf (F := Ideal) .bf16 (Host.dotGeneral (F := Ideal) (φ₁ := .f32) (φ₂ := .f32) dot_S4096x2048_S2048x8192_S4096x8192_1_0_0_1_n_n none (extf (F := Ideal) .f32 x0 bitsLt_bf16_f32) (extf (F := Ideal) .f32 x1 bitsLt_bf16_f32)) bitsLt_bf16_f32 : S4096x8192.Idx → EReal) (ix2 i j) = f1 (fun k => x0 (ix2 i k)) (fun k => x1 (ix2 k j)) := by
  pointwise []
  rfl

/-- The reference's result, element by element. -/
theorem value_3 (x0 : S4096x2048.Idx → EReal) (x1 : S2048x8192.Idx → EReal) (i : Fin 4096) (j : Fin 8192) :
    (truncf (F := Ideal) .bf16 (mulf (maximumf (Host.dotGeneral (F := Ideal) (φ₁ := .f32) (φ₂ := .f32) dot_S4096x2048_S2048x8192_S4096x8192_1_0_0_1_n_n none (extf (F := Ideal) .f32 x0 bitsLt_bf16_f32) (extf (F := Ideal) .f32 x1 bitsLt_bf16_f32)) (broadcastInDim S4096x8192 ![] bcast_S_S4096x8192 (constant (F := Ideal) S_ .f32 0x00000000#32))) (maximumf (Host.dotGeneral (F := Ideal) (φ₁ := .f32) (φ₂ := .f32) dot_S4096x2048_S2048x8192_S4096x8192_1_0_0_1_n_n none (extf (F := Ideal) .f32 x0 bitsLt_bf16_f32) (extf (F := Ideal) .f32 x1 bitsLt_bf16_f32)) (broadcastInDim S4096x8192 ![] bcast_S_S4096x8192 (constant (F := Ideal) S_ .f32 0x00000000#32)))) bitsLt_bf16_f32 : S4096x8192.Idx → EReal) (ix2 i j) = hid (fun k => x0 (ix2 i k)) (fun k => x1 (ix2 k j)) := by
  pointwise []
  rfl

end Cert.Ff1RefIdeal.Product

namespace Cert.Proof.Ff1Claims

open Idealize.ShloMosaic Idealize.ShloMosaic.TcCoe Idealize.ShloMosaic.Tactic Idealize.SL.Sem

theorem frame_p : Cert.quiescent_Ff1 (hFf1 := Cert.Ff1.Gen.facts) := fun m ρ _ => Cert.Ff1.Gen.frame m ρ
theorem frame_pi : Cert.quiescent_Ff1Ideal (hFf1Ideal := Cert.Ff1Ideal.Gen.facts) := fun m ρ _ => Cert.Ff1Ideal.Gen.frame m ρ
theorem frame_ri : Cert.quiescent_Ff1RefIdeal (hFf1RefIdeal := Cert.Ff1RefIdeal.Gen.facts) := fun m ρ _ =>
  (θ_run Cert.Ff1RefIdeal.defs _ _).mono (fun r h => ⟨fun c => (h c).2.2, Idealize.ShloMosaic.sem_eq_zero_of_no_sems (by decide) r.2⟩)
    (Cert.Ff1RefIdeal.Value.run (F := Ideal) m ρ)
theorem preserves : Cert.preserves_Ff1_Ff1Ideal := trivial

theorem algebraic : Cert.algebraic_Ff1Ideal_Ff1RefIdeal (hFf1Ideal := Cert.Ff1Ideal.Gen.facts) (hFf1RefIdeal := Cert.Ff1RefIdeal.Gen.facts) := by
  intro m ρ m' ρ' _ hagree
  refine ⟨_, _, Cert.Ff1Ideal.Value.run_blocks m ρ, ?_⟩
  refine (θ_run Cert.Ff1RefIdeal.defs _ _).mono (fun _ h c => ?_) (Cert.Ff1RefIdeal.Value.run (F := Ideal) m' ρ')
  obtain ⟨e0, e1⟩ := hagree c
  obtain ⟨r0, r1, rest⟩ := h c
  refine ⟨r0.trans ?_, r1.trans ?_, rest⟩
  · rw [e0, e1, Cert.Ff1Ideal.Product.final_2 m c]
    funext y
    obtain ⟨i, j, rfl⟩ : ∃ (i : Fin 4096) (j : Fin 8192), y = ix2 i j := ⟨y 0, y 1, eq_ix2 y⟩
    exact Cert.Ff1RefIdeal.Product.value_2 (Cert.Ff1Ideal.Product.arg0 m c) (Cert.Ff1Ideal.Product.arg1 m c) i j
  · rw [e0, e1, Cert.Ff1Ideal.Product.final_3 m c]
    funext y
    obtain ⟨i, j, rfl⟩ : ∃ (i : Fin 4096) (j : Fin 8192), y = ix2 i j := ⟨y 0, y 1, eq_ix2 y⟩
    exact Cert.Ff1RefIdeal.Product.value_3 (Cert.Ff1Ideal.Product.arg0 m c) (Cert.Ff1Ideal.Product.arg1 m c) i j

end Cert.Proof.Ff1Claims

end
-- ==== Proof.Ff2BwdProduct.lean ====
/-
  The gradient of the feed-forward block's first product: (dff · w_ff2ᵀ) times the derivative of the squared positive part. The kernel's results are the reference's, element by element.
-/
module

public import proofs.«01_k».proof.Defs
public import proofs.«01_k».proof.Proof.Gen.Ff2Bwd.Frame
public import proofs.«01_k».proof.Proof.Gen.Ff2BwdIdeal.Frame
public import proofs.«01_k».proof.Proof.Gen.Ff2BwdIdeal.Value
public import proofs.«01_k».proof.Proof.Gen.Ff2BwdRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.Ff2BwdIdeal.Product

open Idealize.ShloMosaic Idealize.ShloMosaic.TcCoe Idealize.ShloMosaic.Tactic Cert.Ff2BwdIdeal Cert.Ff2BwdIdeal.Gen

/-- The gradient's element: the product's element times 2 · max f 0. -/
def df1 (u v : Fin 2048 → EReal) (f : EReal) : EReal := (∑ k, u k * v k) * (Ideal.ofBits .f32 0x40000000#32 * max f 0)

/-! ## What the body computes of its blocks -/

theorem pay_3 (x0 : S1024x2048.Idx → EReal) (x1 : S2048x2048.Idx → EReal) (x2 : S1024x2048.Idx → EReal) (r : Fin 1024) (j : Fin 2048) :
    out0_3 (F := Ideal) x0 x1 x2 (ix2 r j) = df1 (fun k => x0 (ix2 r k)) (fun k => x1 (ix2 j k)) (x2 (ix2 r j)) := by
  unfold out0_3
  simp (disch := decide) only [View.canon_cons_unit_lit, View.ld_unit_lit]
  pointwise [k0_pay1]
  rfl

variable (m : (ℓ : Loc nD τ sig) → Buf (Elt Ideal) ℓ)

/-- The arguments. -/
abbrev arg0 (c : Dev nD) : S4096x2048.Idx → EReal := m ((c : Thread nD τ).loc main_arg0)
abbrev arg1 (c : Dev nD) : S8192x2048.Idx → EReal := m ((c : Thread nD τ).loc main_arg1)
abbrev arg2 (c : Dev nD) : S4096x8192.Idx → EReal := m ((c : Thread nD τ).loc main_arg2)

/-! ## The blocks -/

theorem point_lt (t : Fin cfg0.N) : t.val < 16 := by have := t.isLt; have hN : cfg0.N = 16 := N_0; omega

theorem ix_0 : ∀ t : Fin cfg0.N, win0_0.index t 0 = t.val % 4 ∧ win0_0.index t 1 = 0 :=
  (by decide +kernel : ∀ t : Fin grid0.N, win0_0.index t 0 = t.val % 4 ∧ win0_0.index t 1 = 0)

theorem blk_0 (c : Dev nD) (t : Fin cfg0.N) (x : Fin 1024) (y : Fin 2048) (a : Fin 4096) (b : Fin 2048)
    (ha : a.val = 1024 * (t.val % 4) + x.val) (hb : b.val = 2048 * (0) + y.val) :
    (iblk m c 0 t : S1024x2048.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 1024 + 1 * x.val = a.val; rw [(ix_0 t).1]; omega
  | ⟨1, _⟩ => show win0_0.index t 1 * 2048 + 1 * y.val = b.val; rw [(ix_0 t).2]; omega

theorem ix_1 : ∀ t : Fin cfg0.N, win0_1.index t 0 = t.val / 4 ∧ win0_1.index t 1 = 0 :=
  (by decide +kernel : ∀ t : Fin grid0.N, win0_1.index t 0 = t.val / 4 ∧ win0_1.index t 1 = 0)

theorem blk_1 (c : Dev nD) (t : Fin cfg0.N) (x : Fin 2048) (y : Fin 2048) (a : Fin 8192) (b : Fin 2048)
    (ha : a.val = 2048 * (t.val / 4) + x.val) (hb : b.val = 2048 * (0) + y.val) :
    (iblk m c 1 t : S2048x2048.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 2048 + 1 * x.val = a.val; rw [(ix_1 t).1]; omega
  | ⟨1, _⟩ => show win0_1.index t 1 * 2048 + 1 * y.val = b.val; rw [(ix_1 t).2]; omega

theorem ix_2 : ∀ t : Fin cfg0.N, win0_2.index t 0 = t.val % 4 ∧ win0_2.index t 1 = t.val / 4 :=
  (by decide +kernel : ∀ t : Fin grid0.N, win0_2.index t 0 = t.val % 4 ∧ win0_2.index t 1 = t.val / 4)

theorem blk_2 (c : Dev nD) (t : Fin cfg0.N) (x : Fin 1024) (y : Fin 2048) (a : Fin 4096) (b : Fin 8192)
    (ha : a.val = 1024 * (t.val % 4) + x.val) (hb : b.val = 2048 * (t.val / 4) + y.val) :
    (iblk m c 2 t : S1024x2048.Idx → EReal) (ix2 x y) = arg2 m c (ix2 a b) := by
  unfold iblk
  rw [View.read_apply]
  show V m c main_arg2 _ = _
  rw [V_main_arg2]
  refine congrArg (arg2 m c) ?_
  funext d
  apply Fin.ext
  match d with
  | ⟨0, _⟩ => show win0_2.index t 0 * 1024 + 1 * x.val = a.val; rw [(ix_2 t).1]; omega
  | ⟨1, _⟩ => show win0_2.index t 1 * 2048 + 1 * y.val = b.val; rw [(ix_2 t).2]; omega

/-! ## The results' arrays -/

theorem ix_3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)

def result_3 (c : Dev nD) : S4096x8192.Idx → EReal := fun i => df1 (fun k => arg0 m c (ix2 (i 0) k)) (fun k => arg1 m c (ix2 (i 1) k)) (arg2 m c (ix2 (i 0) (i 1)))

theorem place_3 (c : Dev nD) (t : Fin cfg0.N) (r : Fin 1024) (j : Fin 2048) : ∃ (a : Fin 4096) (b : Fin 8192), a.val = 1024 * (t.val % 4) + r.val ∧
    b.val = 2048 * (t.val / 4) + j.val ∧ result_3 m c (((cfg0.win 3).blk t).view.emb (ix2 r j)) = df1 (fun k => arg0 m c (ix2 a k)) (fun k => arg1 m c (ix2 b k)) (arg2 m c (ix2 a b)) := by
  have hp := point_lt t
  refine ⟨_, _, ?_, ?_, rfl⟩
  · show win0_3.index t 0 * 1024 + 1 * r.val = _
    rw [(ix_3 t).1]; omega
  · show win0_3.index t 1 * 2048 + 1 * j.val = _
    rw [(ix_3 t).2]; omega

theorem flushed_3 (c : Dev nD) (t : Fin cfg0.N) (hf : (cfg0.win 3).flush t = true) :
    (dats m 0 c).flushed 3 t = ((cfg0.win 3).blk t).view.read (Elt Ideal) (result_3 m c) := by
  rw [Value.flushed3]
  funext (y : S1024x2048.Idx)
  rw [View.read_apply]
  obtain ⟨r, j, rfl⟩ : ∃ (r : Fin 1024) (j : Fin 2048), y = ix2 r j := ⟨y 0, y 1, eq_ix2 y⟩
  obtain ⟨a, b, ha, hb, e⟩ := place_3 m c t r j
  rw [e]
  refine (pay_3 (iblk m c 0 t) (iblk m c 1 t) (iblk m c 2 t) r j).trans ?_
  rw [(show (fun k => (iblk m c 0 t : S1024x2048.Idx → EReal) (ix2 r k)) = (fun k => arg0 m c (ix2 a k)) from funext fun k => blk_0 m c t r k a k ha (by omega)),
    (show (fun k => (iblk m c 1 t : S2048x2048.Idx → EReal) (ix2 j k)) = (fun k => arg1 m c (ix2 b k)) from funext fun k => blk_1 m c t j k b k hb (by omega)),
    blk_2 m c t r j a b ha hb]
  rfl

theorem final_3 (c : Dev nD) : (dats m 0 c).arrAt 3 cfg0.N = result_3 m c :=
  (dats m 0 c).arrAt_eq_of_cover 3 _ (flushed_3 m c) fun i =>
    have h0 : (i 0 : Nat) < 4096 := (i 0).isLt
    have h1 : (i 1 : Nat) < 8192 := (i 1).isLt
    have hN : cfg0.N = 16 := N_0
    have ht : 4 * ((i 1 : Nat) / 2048) + ((i 0 : Nat) / 1024) < cfg0.N := by omega
    ⟨⟨4 * ((i 1 : Nat) / 2048) + ((i 0 : Nat) / 1024), ht⟩, flush0_3 _, by
      show i ∈ ((View.whole main_v0).slice (win0_3.rect ⟨4 * ((i 1 : Nat) / 2048) + ((i 0 : Nat) / 1024), ht⟩)).set
      rw [View.set_slice_whole, Rect.mem_set_unit]
      have e := ix_3 ⟨4 * ((i 1 : Nat) / 2048) + ((i 0 : Nat) / 1024), ht⟩
      dsimp only at e
      intro a
      match a with
      | ⟨0, _⟩ => show win0_3.index ⟨4 * ((i 1 : Nat) / 2048) + ((i 0 : Nat) / 1024), ht⟩ 0 * 1024 ≤ (i 0 : Nat) ∧ (i 0 : Nat) < win0_3.index ⟨4 * ((i 1 : Nat) / 2048) + ((i 0 : Nat) / 1024), ht⟩ 0 * 1024 + 1024; rw [e.1]; omega
      | ⟨1, _⟩ => show win0_3.index ⟨4 * ((i 1 : Nat) / 2048) + ((i 0 : Nat) / 1024), ht⟩ 1 * 2048 ≤ (i 1 : Nat) ∧ (i 1 : Nat) < win0_3.index ⟨4 * ((i 1 : Nat) / 2048) + ((i 0 : Nat) / 1024), ht⟩ 1 * 2048 + 2048; rw [e.2]; omega
      ⟩

end Cert.Ff2BwdIdeal.Product

namespace Cert.Ff2BwdRefIdeal.Product

open Idealize.ShloMosaic Idealize.ShloMosaic.Tactic Cert.Ff2BwdRefIdeal Cert.Ff2BwdRefIdeal.Gen Cert.Ff2BwdIdeal.Product

/-- The reference's result, element by element. -/
theorem value_3 (x0 : S4096x2048.Idx → EReal) (x1 : S8192x2048.Idx → EReal) (x2 : S4096x8192.Idx → EReal) (i : Fin 4096) (j : Fin 8192) :
    (truncf (F := Ideal) .bf16 (select (cmpf .ogt (extf (F := Ideal) .f32 x2 bitsLt_bf16_f32) (broadcastInDim S4096x8192 ![] bcast_S_S4096x8192 (constant (F := Ideal) S_ .f32 0x00000000#32))) (mulf (Host.dotGeneral (F := Ideal) (φ₁ := .f32) (φ₂ := .f32) dot_S4096x2048_S8192x2048_S4096x8192_1_1_0_0_n_n none (extf (F := Ideal) .f32 x0 bitsLt_bf16_f32) (extf (F := Ideal) .f32 x1 bitsLt_bf16_f32)) (mulf (broadcastInDim S4096x8192 ![] bcast_S_S4096x8192 (constant (F := Ideal) S_ .f32 0x40000000#32)) (maximumf (extf (F := Ideal) .f32 x2 bitsLt_bf16_f32) (broadcastInDim S4096x8192 ![] bcast_S_S4096x8192 (constant (F := Ideal) S_ .f32 0x00000000#32))))) (broadcastInDim S4096x8192 ![] bcast_S_S4096x8192 (constant (F := Ideal) S_ .f32 0x00000000#32))) bitsLt_bf16_f32 : S4096x8192.Idx → EReal) (ix2 i j) = df1 (fun k => x0 (ix2 i k)) (fun k => x1 (ix2 j k)) (x2 (ix2 i j)) := by
  pointwise []
  unfold df1
  split
  · rfl
  · next h => rw [max_eq_right (not_lt.mp h), mul_zero, mul_zero]

end Cert.Ff2BwdRefIdeal.Product

namespace Cert.Proof.Ff2BwdClaims

open Idealize.ShloMosaic Idealize.ShloMosaic.TcCoe Idealize.ShloMosaic.Tactic Idealize.SL.Sem

theorem frame_p : Cert.quiescent_Ff2Bwd (hFf2Bwd := Cert.Ff2Bwd.Gen.facts) := fun m ρ _ => Cert.Ff2Bwd.Gen.frame m ρ
theorem frame_pi : Cert.quiescent_Ff2BwdIdeal (hFf2BwdIdeal := Cert.Ff2BwdIdeal.Gen.facts) := fun m ρ _ => Cert.Ff2BwdIdeal.Gen.frame m ρ
theorem frame_ri : Cert.quiescent_Ff2BwdRefIdeal (hFf2BwdRefIdeal := Cert.Ff2BwdRefIdeal.Gen.facts) := fun m ρ _ =>
  (θ_run Cert.Ff2BwdRefIdeal.defs _ _).mono (fun r h => ⟨fun c => (h c).2, Idealize.ShloMosaic.sem_eq_zero_of_no_sems (by decide) r.2⟩)
    (Cert.Ff2BwdRefIdeal.Value.run (F := Ideal) m ρ)
theorem preserves : Cert.preserves_Ff2Bwd_Ff2BwdIdeal := trivial

theorem algebraic : Cert.algebraic_Ff2BwdIdeal_Ff2BwdRefIdeal (hFf2BwdIdeal := Cert.Ff2BwdIdeal.Gen.facts) (hFf2BwdRefIdeal := Cert.Ff2BwdRefIdeal.Gen.facts) := by
  intro m ρ m' ρ' _ hagree
  refine ⟨_, Cert.Ff2BwdIdeal.Value.run_blocks m ρ, ?_⟩
  refine (θ_run Cert.Ff2BwdRefIdeal.defs _ _).mono (fun _ h c => ?_) (Cert.Ff2BwdRefIdeal.Value.run (F := Ideal) m' ρ')
  obtain ⟨e0, e1, e2⟩ := hagree c
  obtain ⟨r0, rest⟩ := h c
  refine ⟨r0.trans ?_, rest⟩
  · rw [e0, e1, e2, Cert.Ff2BwdIdeal.Product.final_3 m c]
    funext y
    obtain ⟨i, j, rfl⟩ : ∃ (i : Fin 4096) (j : Fin 8192), y = ix2 i j := ⟨y 0, y 1, eq_ix2 y⟩
    exact Cert.Ff2BwdRefIdeal.Product.value_3 (Cert.Ff2BwdIdeal.Product.arg0 m c) (Cert.Ff2BwdIdeal.Product.arg1 m c) (Cert.Ff2BwdIdeal.Product.arg2 m c) i j

end Cert.Proof.Ff2BwdClaims

end
-- ==== Proof.MergeProduct.lean ====
/-
  The two branches' output products and their sum, weighted by the sigmoid of the gates. The kernel's results are the reference's, element by element.
-/
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.MergeIdeal.Product

open Idealize.ShloMosaic Idealize.ShloMosaic.TcCoe Idealize.ShloMosaic.Tactic Cert.MergeIdeal Cert.MergeIdeal.Gen

/-- A branch's element, and the gated sum of two. -/
def branch (u v : Fin 1024 → EReal) : EReal := ∑ k, u k * v k
def merged (ua ub va vb : Fin 1024 → EReal) (ga gb : EReal) : EReal := Ideal.logistic ga * branch ua va + Ideal.logistic gb * branch ub vb

/-- A gate's column in the projection. -/
def at7168 (j : Fin 2048) : Fin 11264 := ⟨7168 + j.val, by omega⟩

/-- A gate's column in the projection. -/
def at9216 (j : Fin 2048) : Fin 11264 := ⟨9216 + j.val, by omega⟩

/-! ## What the body computes of its blocks -/

theorem pay_6 (x0 : S512x1024.Idx → EReal) (x1 : S512x1024.Idx → EReal) (x2 : S1024x512.Idx → EReal) (x3 : S1024x512.Idx → EReal) (x4 : S512x512.Idx → EReal) (x5 : S512x512.Idx → EReal) (r : Fin 512) (j : Fin 512) :
    out0_6 (F := Ideal) x0 x1 x2 x3 x4 x5 (ix2 r j) = branch (fun k => x0 (ix2 r k)) (fun k => x2 (ix2 k j)) := by
  unfold out0_6
  simp (disch := decide) only [View.canon_cons_unit_lit, View.ld_unit_lit]
  pointwise [k0_pay3, k0_pay1]
  rfl

theorem pay_7 (x0 : S512x1024.Idx → EReal) (x1 : S512x1024.Idx → EReal) (x2 : S1024x512.Idx → EReal) (x3 : S1024x512.Idx → EReal) (x4 : S512x512.Idx → EReal) (x5 : S512x512.Idx → EReal) (r : Fin 512) (j : Fin 512) :
    out0_7 (F := Ideal) x0 x1 x2 x3 x4 x5 (ix2 r j) = branch (fun k => x1 (ix2 r k)) (fun k => x3 (ix2 k j)) := by
  unfold out0_7
  simp (disch := decide) only [View.canon_cons_unit_lit, View.ld_unit_lit]
  pointwise [k0_pay4, k0_pay2]
  rfl

theorem pay_8 (x0 : S512x1024.Idx → EReal) (x1 : S512x1024.Idx → EReal) (x2 : S1024x512.Idx → EReal) (x3 : S1024x512.Idx → EReal) (x4 : S512x512.Idx → EReal) (x5 : S512x512.Idx → EReal) (r : Fin 512) (j : Fin 512) :
    out0_8 (F := Ideal) x0 x1 x2 x3 x4 x5 (ix2 r j) = merged (fun k => x0 (ix2 r k)) (fun k => x1 (ix2 r k)) (fun k => x2 (ix2 k j)) (fun k => x3 (ix2 k j)) (x4 (ix2 r j)) (x5 (ix2 r j)) := by
  unfold out0_8
  simp (disch := decide) only [View.canon_cons_unit_lit, View.ld_unit_lit]
  pointwise [k0_pay5, k0_pay1, k0_pay2]
  rfl

variable (m : (ℓ : Loc nD τ sig) → Buf (Elt Ideal) ℓ)

/-- The arguments. -/
abbrev arg0 (c : Dev nD) : S4096x1024.Idx → EReal := m ((c : Thread nD τ).loc main_arg0)
abbrev arg1 (c : Dev nD) : S4096x1024.Idx → EReal := m ((c : Thread nD τ).loc main_arg1)
abbrev arg2 (c : Dev nD) : S1024x2048.Idx → EReal := m ((c : Thread nD τ).loc main_arg2)
abbrev arg3 (c : Dev nD) : S1024x2048.Idx → EReal := m ((c : Thread nD τ).loc main_arg3)
abbrev arg4 (c : Dev nD) : S4096x11264.Idx → EReal := m ((c : Thread nD τ).loc main_arg4)

/-! ## The blocks -/

theorem point_lt (t : Fin cfg0.N) : t.val < 32 := by have := t.isLt; have hN : cfg0.N = 32 := N_0; omega

theorem ix_0 : ∀ t : Fin cfg0.N, win0_0.index t 0 = t.val / 4 ∧ win0_0.index t 1 = 0 :=
  (by decide +kernel : ∀ t : Fin grid0.N, win0_0.index t 0 = t.val / 4 ∧ win0_0.index t 1 = 0)

theorem blk_0 (c : Dev nD) (t : Fin cfg0.N) (x : Fin 512) (y : Fin 1024) (a : Fin 4096) (b : Fin 1024)
    (ha : a.val = 512 * (t.val / 4) + x.val) (hb : b.val = 1024 * (0) + y.val) :
    (iblk m c 0 t : S512x1024.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 512 + 1 * x.val = a.val; rw [(ix_0 t).1]; omega
  | ⟨1, _⟩ => show win0_0.index t 1 * 1024 + 1 * y.val = b.val; rw [(ix_0 t).2]; omega

theorem ix_1 : ∀ t : Fin cfg0.N, win0_1.index t 0 = t.val / 4 ∧ win0_1.index t 1 = 0 :=
  (by decide +kernel : ∀ t : Fin grid0.N, win0_1.index t 0 = t.val / 4 ∧ win0_1.index t 1 = 0)

theorem blk_1 (c : Dev nD) (t : Fin cfg0.N) (x : Fin 512) (y : Fin 1024) (a : Fin 4096) (b : Fin 1024)
    (ha : a.val = 512 * (t.val / 4) + x.val) (hb : b.val = 1024 * (0) + y.val) :
    (iblk m c 1 t : S512x1024.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 512 + 1 * x.val = a.val; rw [(ix_1 t).1]; omega
  | ⟨1, _⟩ => show win0_1.index t 1 * 1024 + 1 * y.val = b.val; rw [(ix_1 t).2]; omega

theorem ix_2 : ∀ t : Fin cfg0.N, win0_2.index t 0 = 0 ∧ win0_2.index t 1 = t.val % 4 :=
  (by decide +kernel : ∀ t : Fin grid0.N, win0_2.index t 0 = 0 ∧ win0_2.index t 1 = t.val % 4)

theorem blk_2 (c : Dev nD) (t : Fin cfg0.N) (x : Fin 1024) (y : Fin 512) (a : Fin 1024) (b : Fin 2048)
    (ha : a.val = 1024 * (0) + x.val) (hb : b.val = 512 * (t.val % 4) + y.val) :
    (iblk m c 2 t : S1024x512.Idx → EReal) (ix2 x y) = arg2 m c (ix2 a b) := by
  unfold iblk
  rw [View.read_apply]
  show V m c main_arg2 _ = _
  rw [V_main_arg2]
  refine congrArg (arg2 m c) ?_
  funext d
  apply Fin.ext
  match d with
  | ⟨0, _⟩ => show win0_2.index t 0 * 1024 + 1 * x.val = a.val; rw [(ix_2 t).1]; omega
  | ⟨1, _⟩ => show win0_2.index t 1 * 512 + 1 * y.val = b.val; rw [(ix_2 t).2]; omega

theorem ix_3 : ∀ t : Fin cfg0.N, win0_3.index t 0 = 0 ∧ win0_3.index t 1 = t.val % 4 :=
  (by decide +kernel : ∀ t : Fin grid0.N, win0_3.index t 0 = 0 ∧ win0_3.index t 1 = t.val % 4)

theorem blk_3 (c : Dev nD) (t : Fin cfg0.N) (x : Fin 1024) (y : Fin 512) (a : Fin 1024) (b : Fin 2048)
    (ha : a.val = 1024 * (0) + x.val) (hb : b.val = 512 * (t.val % 4) + y.val) :
    (iblk m c 3 t : S1024x512.Idx → EReal) (ix2 x y) = arg3 m c (ix2 a b) := by
  unfold iblk
  rw [View.read_apply]
  show V m c main_arg3 _ = _
  rw [V_main_arg3]
  refine congrArg (arg3 m c) ?_
  funext d
  apply Fin.ext
  match d with
  | ⟨0, _⟩ => show win0_3.index t 0 * 1024 + 1 * x.val = a.val; rw [(ix_3 t).1]; omega
  | ⟨1, _⟩ => show win0_3.index t 1 * 512 + 1 * y.val = b.val; rw [(ix_3 t).2]; omega

theorem ix_4 : ∀ t : Fin cfg0.N, win0_4.index t 0 = t.val / 4 ∧ win0_4.index t 1 = 14 + (t.val % 4) :=
  (by decide +kernel : ∀ t : Fin grid0.N, win0_4.index t 0 = t.val / 4 ∧ win0_4.index t 1 = 14 + (t.val % 4))

theorem blk_4 (c : Dev nD) (t : Fin cfg0.N) (x : Fin 512) (y : Fin 512) (a : Fin 4096) (b : Fin 11264)
    (ha : a.val = 512 * (t.val / 4) + x.val) (hb : b.val = 512 * (14 + (t.val % 4)) + y.val) :
    (iblk m c 4 t : S512x512.Idx → EReal) (ix2 x y) = arg4 m c (ix2 a b) := by
  unfold iblk
  rw [View.read_apply]
  show V m c main_arg4 _ = _
  rw [V_main_arg4]
  refine congrArg (arg4 m c) ?_
  funext d
  apply Fin.ext
  match d with
  | ⟨0, _⟩ => show win0_4.index t 0 * 512 + 1 * x.val = a.val; rw [(ix_4 t).1]; omega
  | ⟨1, _⟩ => show win0_4.index t 1 * 512 + 1 * y.val = b.val; rw [(ix_4 t).2]; omega

theorem ix_5 : ∀ t : Fin cfg0.N, win0_5.index t 0 = t.val / 4 ∧ win0_5.index t 1 = 18 + (t.val % 4) :=
  (by decide +kernel : ∀ t : Fin grid0.N, win0_5.index t 0 = t.val / 4 ∧ win0_5.index t 1 = 18 + (t.val % 4))

theorem blk_5 (c : Dev nD) (t : Fin cfg0.N) (x : Fin 512) (y : Fin 512) (a : Fin 4096) (b : Fin 11264)
    (ha : a.val = 512 * (t.val / 4) + x.val) (hb : b.val = 512 * (18 + (t.val % 4)) + y.val) :
    (iblk m c 5 t : S512x512.Idx → EReal) (ix2 x y) = arg4 m c (ix2 a b) := by
  unfold iblk
  rw [View.read_apply]
  show V m c main_arg4 _ = _
  rw [V_main_arg4]
  refine congrArg (arg4 m c) ?_
  funext d
  apply Fin.ext
  match d with
  | ⟨0, _⟩ => show win0_5.index t 0 * 512 + 1 * x.val = a.val; rw [(ix_5 t).1]; omega
  | ⟨1, _⟩ => show win0_5.index t 1 * 512 + 1 * y.val = b.val; rw [(ix_5 t).2]; omega

/-! ## The results' arrays -/

theorem ix_6 : ∀ t : Fin cfg0.N, win0_6.index t 0 = t.val / 4 ∧ win0_6.index t 1 = t.val % 4 :=
  (by decide +kernel : ∀ t : Fin grid0.N, win0_6.index t 0 = t.val / 4 ∧ win0_6.index t 1 = t.val % 4)

def result_6 (c : Dev nD) : S4096x2048.Idx → EReal := fun i => branch (fun k => arg0 m c (ix2 (i 0) k)) (fun k => arg2 m c (ix2 k (i 1)))

theorem place_6 (c : Dev nD) (t : Fin cfg0.N) (r : Fin 512) (j : Fin 512) : ∃ (a : Fin 4096) (b : Fin 2048), a.val = 512 * (t.val / 4) + r.val ∧
    b.val = 512 * (t.val % 4) + j.val ∧ result_6 m c (((cfg0.win 6).blk t).view.emb (ix2 r j)) = branch (fun k => arg0 m c (ix2 a k)) (fun k => arg2 m c (ix2 k b)) := by
  have hp := point_lt t
  refine ⟨_, _, ?_, ?_, rfl⟩
  · show win0_6.index t 0 * 512 + 1 * r.val = _
    rw [(ix_6 t).1]; omega
  · show win0_6.index t 1 * 512 + 1 * j.val = _
    rw [(ix_6 t).2]; omega

theorem flushed_6 (c : Dev nD) (t : Fin cfg0.N) (hf : (cfg0.win 6).flush t = true) :
    (dats m 0 c).flushed 6 t = ((cfg0.win 6).blk t).view.read (Elt Ideal) (result_6 m c) := by
  rw [Value.flushed6]
  funext (y : S512x512.Idx)
  rw [View.read_apply]
  obtain ⟨r, j, rfl⟩ : ∃ (r : Fin 512) (j : Fin 512), y = ix2 r j := ⟨y 0, y 1, eq_ix2 y⟩
  obtain ⟨a, b, ha, hb, e⟩ := place_6 m c t r j
  rw [e]
  refine (pay_6 (iblk m c 0 t) (iblk m c 1 t) (iblk m c 2 t) (iblk m c 3 t) (iblk m c 4 t) (iblk m c 5 t) r j).trans ?_
  rw [(show (fun k => (iblk m c 0 t : S512x1024.Idx → EReal) (ix2 r k)) = (fun k => arg0 m c (ix2 a k)) from funext fun k => blk_0 m c t r k a k ha (by omega)),
    (show (fun k => (iblk m c 2 t : S1024x512.Idx → EReal) (ix2 k j)) = (fun k => arg2 m c (ix2 k b)) from funext fun k => blk_2 m c t k j k b (by omega) hb)]
  rfl

theorem final_6 (c : Dev nD) : (dats m 0 c).arrAt 6 cfg0.N = result_6 m c :=
  (dats m 0 c).arrAt_eq_of_cover 6 _ (flushed_6 m c) fun i =>
    have h0 : (i 0 : Nat) < 4096 := (i 0).isLt
    have h1 : (i 1 : Nat) < 2048 := (i 1).isLt
    have hN : cfg0.N = 32 := N_0
    have ht : 4 * ((i 0 : Nat) / 512) + ((i 1 : Nat) / 512) < cfg0.N := by omega
    ⟨⟨4 * ((i 0 : Nat) / 512) + ((i 1 : Nat) / 512), ht⟩, flush0_6 _, by
      show i ∈ ((View.whole main_v0_0).slice (win0_6.rect ⟨4 * ((i 0 : Nat) / 512) + ((i 1 : Nat) / 512), ht⟩)).set
      rw [View.set_slice_whole, Rect.mem_set_unit]
      have e := ix_6 ⟨4 * ((i 0 : Nat) / 512) + ((i 1 : Nat) / 512), ht⟩
      dsimp only at e
      intro a
      match a with
      | ⟨0, _⟩ => show win0_6.index ⟨4 * ((i 0 : Nat) / 512) + ((i 1 : Nat) / 512), ht⟩ 0 * 512 ≤ (i 0 : Nat) ∧ (i 0 : Nat) < win0_6.index ⟨4 * ((i 0 : Nat) / 512) + ((i 1 : Nat) / 512), ht⟩ 0 * 512 + 512; rw [e.1]; omega
      | ⟨1, _⟩ => show win0_6.index ⟨4 * ((i 0 : Nat) / 512) + ((i 1 : Nat) / 512), ht⟩ 1 * 512 ≤ (i 1 : Nat) ∧ (i 1 : Nat) < win0_6.index ⟨4 * ((i 0 : Nat) / 512) + ((i 1 : Nat) / 512), ht⟩ 1 * 512 + 512; rw [e.2]; omega
      ⟩

theorem ix_7 : ∀ t : Fin cfg0.N, win0_7.index t 0 = t.val / 4 ∧ win0_7.index t 1 = t.val % 4 :=
  (by decide +kernel : ∀ t : Fin grid0.N, win0_7.index t 0 = t.val / 4 ∧ win0_7.index t 1 = t.val % 4)

def result_7 (c : Dev nD) : S4096x2048.Idx → EReal := fun i => branch (fun k => arg1 m c (ix2 (i 0) k)) (fun k => arg3 m c (ix2 k (i 1)))

theorem place_7 (c : Dev nD) (t : Fin cfg0.N) (r : Fin 512) (j : Fin 512) : ∃ (a : Fin 4096) (b : Fin 2048), a.val = 512 * (t.val / 4) + r.val ∧
    b.val = 512 * (t.val % 4) + j.val ∧ result_7 m c (((cfg0.win 7).blk t).view.emb (ix2 r j)) = branch (fun k => arg1 m c (ix2 a k)) (fun k => arg3 m c (ix2 k b)) := by
  have hp := point_lt t
  refine ⟨_, _, ?_, ?_, rfl⟩
  · show win0_7.index t 0 * 512 + 1 * r.val = _
    rw [(ix_7 t).1]; omega
  · show win0_7.index t 1 * 512 + 1 * j.val = _
    rw [(ix_7 t).2]; omega

theorem flushed_7 (c : Dev nD) (t : Fin cfg0.N) (hf : (cfg0.win 7).flush t = true) :
    (dats m 0 c).flushed 7 t = ((cfg0.win 7).blk t).view.read (Elt Ideal) (result_7 m c) := by
  rw [Value.flushed7]
  funext (y : S512x512.Idx)
  rw [View.read_apply]
  obtain ⟨r, j, rfl⟩ : ∃ (r : Fin 512) (j : Fin 512), y = ix2 r j := ⟨y 0, y 1, eq_ix2 y⟩
  obtain ⟨a, b, ha, hb, e⟩ := place_7 m c t r j
  rw [e]
  refine (pay_7 (iblk m c 0 t) (iblk m c 1 t) (iblk m c 2 t) (iblk m c 3 t) (iblk m c 4 t) (iblk m c 5 t) r j).trans ?_
  rw [(show (fun k => (iblk m c 1 t : S512x1024.Idx → EReal) (ix2 r k)) = (fun k => arg1 m c (ix2 a k)) from funext fun k => blk_1 m c t r k a k ha (by omega)),
    (show (fun k => (iblk m c 3 t : S1024x512.Idx → EReal) (ix2 k j)) = (fun k => arg3 m c (ix2 k b)) from funext fun k => blk_3 m c t k j k b (by omega) hb)]
  rfl

theorem final_7 (c : Dev nD) : (dats m 0 c).arrAt 7 cfg0.N = result_7 m c :=
  (dats m 0 c).arrAt_eq_of_cover 7 _ (flushed_7 m c) fun i =>
    have h0 : (i 0 : Nat) < 4096 := (i 0).isLt
    have h1 : (i 1 : Nat) < 2048 := (i 1).isLt
    have hN : cfg0.N = 32 := N_0
    have ht : 4 * ((i 0 : Nat) / 512) + ((i 1 : Nat) / 512) < cfg0.N := by omega
    ⟨⟨4 * ((i 0 : Nat) / 512) + ((i 1 : Nat) / 512), ht⟩, flush0_7 _, by
      show i ∈ ((View.whole main_v0_1).slice (win0_7.rect ⟨4 * ((i 0 : Nat) / 512) + ((i 1 : Nat) / 512), ht⟩)).set
      rw [View.set_slice_whole, Rect.mem_set_unit]
      have e := ix_7 ⟨4 * ((i 0 : Nat) / 512) + ((i 1 : Nat) / 512), ht⟩
      dsimp only at e
      intro a
      match a with
      | ⟨0, _⟩ => show win0_7.index ⟨4 * ((i 0 : Nat) / 512) + ((i 1 : Nat) / 512), ht⟩ 0 * 512 ≤ (i 0 : Nat) ∧ (i 0 : Nat) < win0_7.index ⟨4 * ((i 0 : Nat) / 512) + ((i 1 : Nat) / 512), ht⟩ 0 * 512 + 512; rw [e.1]; omega
      | ⟨1, _⟩ => show win0_7.index ⟨4 * ((i 0 : Nat) / 512) + ((i 1 : Nat) / 512), ht⟩ 1 * 512 ≤ (i 1 : Nat) ∧ (i 1 : Nat) < win0_7.index ⟨4 * ((i 0 : Nat) / 512) + ((i 1 : Nat) / 512), ht⟩ 1 * 512 + 512; rw [e.2]; omega
      ⟩

theorem ix_8 : ∀ t : Fin cfg0.N, win0_8.index t 0 = t.val / 4 ∧ win0_8.index t 1 = t.val % 4 :=
  (by decide +kernel : ∀ t : Fin grid0.N, win0_8.index t 0 = t.val / 4 ∧ win0_8.index t 1 = t.val % 4)

def result_8 (c : Dev nD) : S4096x2048.Idx → EReal := fun i => merged (fun k => arg0 m c (ix2 (i 0) k)) (fun k => arg1 m c (ix2 (i 0) k)) (fun k => arg2 m c (ix2 k (i 1))) (fun k => arg3 m c (ix2 k (i 1))) (arg4 m c (ix2 (i 0) (at7168 (i 1)))) (arg4 m c (ix2 (i 0) (at9216 (i 1))))

theorem place_8 (c : Dev nD) (t : Fin cfg0.N) (r : Fin 512) (j : Fin 512) : ∃ (a : Fin 4096) (b : Fin 2048), a.val = 512 * (t.val / 4) + r.val ∧
    b.val = 512 * (t.val % 4) + j.val ∧ result_8 m c (((cfg0.win 8).blk t).view.emb (ix2 r j)) = merged (fun k => arg0 m c (ix2 a k)) (fun k => arg1 m c (ix2 a k)) (fun k => arg2 m c (ix2 k b)) (fun k => arg3 m c (ix2 k b)) (arg4 m c (ix2 a (at7168 b))) (arg4 m c (ix2 a (at9216 b))) := by
  have hp := point_lt t
  refine ⟨_, _, ?_, ?_, rfl⟩
  · show win0_8.index t 0 * 512 + 1 * r.val = _
    rw [(ix_8 t).1]; omega
  · show win0_8.index t 1 * 512 + 1 * j.val = _
    rw [(ix_8 t).2]; omega

theorem flushed_8 (c : Dev nD) (t : Fin cfg0.N) (hf : (cfg0.win 8).flush t = true) :
    (dats m 0 c).flushed 8 t = ((cfg0.win 8).blk t).view.read (Elt Ideal) (result_8 m c) := by
  rw [Value.flushed8]
  funext (y : S512x512.Idx)
  rw [View.read_apply]
  obtain ⟨r, j, rfl⟩ : ∃ (r : Fin 512) (j : Fin 512), y = ix2 r j := ⟨y 0, y 1, eq_ix2 y⟩
  obtain ⟨a, b, ha, hb, e⟩ := place_8 m c t r j
  rw [e]
  refine (pay_8 (iblk m c 0 t) (iblk m c 1 t) (iblk m c 2 t) (iblk m c 3 t) (iblk m c 4 t) (iblk m c 5 t) r j).trans ?_
  rw [(show (fun k => (iblk m c 0 t : S512x1024.Idx → EReal) (ix2 r k)) = (fun k => arg0 m c (ix2 a k)) from funext fun k => blk_0 m c t r k a k ha (by omega)),
    (show (fun k => (iblk m c 1 t : S512x1024.Idx → EReal) (ix2 r k)) = (fun k => arg1 m c (ix2 a k)) from funext fun k => blk_1 m c t r k a k ha (by omega)),
    (show (fun k => (iblk m c 2 t : S1024x512.Idx → EReal) (ix2 k j)) = (fun k => arg2 m c (ix2 k b)) from funext fun k => blk_2 m c t k j k b (by omega) hb),
    (show (fun k => (iblk m c 3 t : S1024x512.Idx → EReal) (ix2 k j)) = (fun k => arg3 m c (ix2 k b)) from funext fun k => blk_3 m c t k j k b (by omega) hb),
    blk_4 m c t r j a (at7168 b) ha (by show 7168 + b.val = _; omega),
    blk_5 m c t r j a (at9216 b) ha (by show 9216 + b.val = _; omega)]
  rfl

theorem final_8 (c : Dev nD) : (dats m 0 c).arrAt 8 cfg0.N = result_8 m c :=
  (dats m 0 c).arrAt_eq_of_cover 8 _ (flushed_8 m c) fun i =>
    have h0 : (i 0 : Nat) < 4096 := (i 0).isLt
    have h1 : (i 1 : Nat) < 2048 := (i 1).isLt
    have hN : cfg0.N = 32 := N_0
    have ht : 4 * ((i 0 : Nat) / 512) + ((i 1 : Nat) / 512) < cfg0.N := by omega
    ⟨⟨4 * ((i 0 : Nat) / 512) + ((i 1 : Nat) / 512), ht⟩, flush0_8 _, by
      show i ∈ ((View.whole main_v0_2).slice (win0_8.rect ⟨4 * ((i 0 : Nat) / 512) + ((i 1 : Nat) / 512), ht⟩)).set
      rw [View.set_slice_whole, Rect.mem_set_unit]
      have e := ix_8 ⟨4 * ((i 0 : Nat) / 512) + ((i 1 : Nat) / 512), ht⟩
      dsimp only at e
      intro a
      match a with
      | ⟨0, _⟩ => show win0_8.index ⟨4 * ((i 0 : Nat) / 512) + ((i 1 : Nat) / 512), ht⟩ 0 * 512 ≤ (i 0 : Nat) ∧ (i 0 : Nat) < win0_8.index ⟨4 * ((i 0 : Nat) / 512) + ((i 1 : Nat) / 512), ht⟩ 0 * 512 + 512; rw [e.1]; omega
      | ⟨1, _⟩ => show win0_8.index ⟨4 * ((i 0 : Nat) / 512) + ((i 1 : Nat) / 512), ht⟩ 1 * 512 ≤ (i 1 : Nat) ∧ (i 1 : Nat) < win0_8.index ⟨4 * ((i 0 : Nat) / 512) + ((i 1 : Nat) / 512), ht⟩ 1 * 512 + 512; rw [e.2]; omega
      ⟩

end Cert.MergeIdeal.Product

namespace Cert.MergeRefIdeal.Product

open Idealize.ShloMosaic Idealize.ShloMosaic.Tactic Cert.MergeRefIdeal Cert.MergeRefIdeal.Gen Cert.MergeIdeal.Product

/-- The reference's result, element by element. -/
theorem value_6 (x0 : S4096x1024.Idx → EReal) (x1 : S4096x1024.Idx → EReal) (x2 : S1024x2048.Idx → EReal) (x3 : S1024x2048.Idx → EReal) (x4 : S4096x11264.Idx → EReal) (i : Fin 4096) (j : Fin 2048) :
    (truncf (F := Ideal) .bf16 (Host.dotGeneral (F := Ideal) (φ₁ := .f32) (φ₂ := .f32) dot_S4096x1024_S1024x2048_S4096x2048_1_0_0_1_n_n none (extf (F := Ideal) .f32 x0 bitsLt_bf16_f32) (extf (F := Ideal) .f32 x2 bitsLt_bf16_f32)) bitsLt_bf16_f32 : S4096x2048.Idx → EReal) (ix2 i j) = branch (fun k => x0 (ix2 i k)) (fun k => x2 (ix2 k j)) := by
  pointwise []
  rfl

/-- The reference's result, element by element. -/
theorem value_7 (x0 : S4096x1024.Idx → EReal) (x1 : S4096x1024.Idx → EReal) (x2 : S1024x2048.Idx → EReal) (x3 : S1024x2048.Idx → EReal) (x4 : S4096x11264.Idx → EReal) (i : Fin 4096) (j : Fin 2048) :
    (truncf (F := Ideal) .bf16 (Host.dotGeneral (F := Ideal) (φ₁ := .f32) (φ₂ := .f32) dot_S4096x1024_S1024x2048_S4096x2048_1_0_0_1_n_n none (extf (F := Ideal) .f32 x1 bitsLt_bf16_f32) (extf (F := Ideal) .f32 x3 bitsLt_bf16_f32)) bitsLt_bf16_f32 : S4096x2048.Idx → EReal) (ix2 i j) = branch (fun k => x1 (ix2 i k)) (fun k => x3 (ix2 k j)) := by
  pointwise []
  rfl

/-- The reference's result, element by element. -/
theorem value_8 (x0 : S4096x1024.Idx → EReal) (x1 : S4096x1024.Idx → EReal) (x2 : S1024x2048.Idx → EReal) (x3 : S1024x2048.Idx → EReal) (x4 : S4096x11264.Idx → EReal) (i : Fin 4096) (j : Fin 2048) :
    (truncf (F := Ideal) .bf16 (addf (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 7168] x4 slices_S4096x11264_S4096x2048_0_7168))))) (Host.dotGeneral (F := Ideal) (φ₁ := .f32) (φ₂ := .f32) dot_S4096x1024_S1024x2048_S4096x2048_1_0_0_1_n_n none (extf (F := Ideal) .f32 x0 bitsLt_bf16_f32) (extf (F := Ideal) .f32 x2 bitsLt_bf16_f32))) (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 9216] x4 slices_S4096x11264_S4096x2048_0_9216))))) (Host.dotGeneral (F := Ideal) (φ₁ := .f32) (φ₂ := .f32) dot_S4096x1024_S1024x2048_S4096x2048_1_0_0_1_n_n none (extf (F := Ideal) .f32 x1 bitsLt_bf16_f32) (extf (F := Ideal) .f32 x3 bitsLt_bf16_f32)))) bitsLt_bf16_f32 : S4096x2048.Idx → EReal) (ix2 i j) = merged (fun k => x0 (ix2 i k)) (fun k => x1 (ix2 i k)) (fun k => x2 (ix2 k j)) (fun k => x3 (ix2 k j)) (x4 (ix2 i (at7168 j))) (x4 (ix2 i (at9216 j))) := by
  pointwise []
  rfl

end Cert.MergeRefIdeal.Product

namespace Cert.Proof.MergeClaims

open Idealize.ShloMosaic Idealize.ShloMosaic.TcCoe Idealize.ShloMosaic.Tactic Idealize.SL.Sem

theorem frame_p : Cert.quiescent_Merge (hMerge := Cert.Merge.Gen.facts) := fun m ρ _ => Cert.Merge.Gen.frame m ρ
theorem frame_pi : Cert.quiescent_MergeIdeal (hMergeIdeal := Cert.MergeIdeal.Gen.facts) := fun m ρ _ => Cert.MergeIdeal.Gen.frame m ρ
theorem frame_ri : Cert.quiescent_MergeRefIdeal (hMergeRefIdeal := Cert.MergeRefIdeal.Gen.facts) := fun m ρ _ =>
  (θ_run Cert.MergeRefIdeal.defs _ _).mono (fun r h => ⟨fun c => (h c).2.2.2, Idealize.ShloMosaic.sem_eq_zero_of_no_sems (by decide) r.2⟩)
    (Cert.MergeRefIdeal.Value.run (F := Ideal) m ρ)
theorem preserves : Cert.preserves_Merge_MergeIdeal := trivial

theorem algebraic : Cert.algebraic_MergeIdeal_MergeRefIdeal (hMergeIdeal := Cert.MergeIdeal.Gen.facts) (hMergeRefIdeal := Cert.MergeRefIdeal.Gen.facts) := by
  intro m ρ m' ρ' _ hagree
  refine ⟨_, _, _, Cert.MergeIdeal.Value.run_blocks m ρ, ?_⟩
  refine (θ_run Cert.MergeRefIdeal.defs _ _).mono (fun _ h c => ?_) (Cert.MergeRefIdeal.Value.run (F := Ideal) m' ρ')
  obtain ⟨e0, e1, e2, e3, e4⟩ := hagree c
  obtain ⟨r0, r1, r2, rest⟩ := h c
  refine ⟨r0.trans ?_, r1.trans ?_, r2.trans ?_, rest⟩
  · rw [e0, e2, Cert.MergeIdeal.Product.final_6 m c]
    funext y
    obtain ⟨i, j, rfl⟩ : ∃ (i : Fin 4096) (j : Fin 2048), y = ix2 i j := ⟨y 0, y 1, eq_ix2 y⟩
    exact Cert.MergeRefIdeal.Product.value_6 (Cert.MergeIdeal.Product.arg0 m c) (Cert.MergeIdeal.Product.arg1 m c) (Cert.MergeIdeal.Product.arg2 m c) (Cert.MergeIdeal.Product.arg3 m c) (Cert.MergeIdeal.Product.arg4 m c) i j
  · rw [e1, e3, Cert.MergeIdeal.Product.final_7 m c]
    funext y
    obtain ⟨i, j, rfl⟩ : ∃ (i : Fin 4096) (j : Fin 2048), y = ix2 i j := ⟨y 0, y 1, eq_ix2 y⟩
    exact Cert.MergeRefIdeal.Product.value_7 (Cert.MergeIdeal.Product.arg0 m c) (Cert.MergeIdeal.Product.arg1 m c) (Cert.MergeIdeal.Product.arg2 m c) (Cert.MergeIdeal.Product.arg3 m c) (Cert.MergeIdeal.Product.arg4 m c) i j
  · rw [e0, e1, e2, e3, e4, Cert.MergeIdeal.Product.final_8 m c]
    funext y
    obtain ⟨i, j, rfl⟩ : ∃ (i : Fin 4096) (j : Fin 2048), y = ix2 i j := ⟨y 0, y 1, eq_ix2 y⟩
    exact Cert.MergeRefIdeal.Product.value_8 (Cert.MergeIdeal.Product.arg0 m c) (Cert.MergeIdeal.Product.arg1 m c) (Cert.MergeIdeal.Product.arg2 m c) (Cert.MergeIdeal.Product.arg3 m c) (Cert.MergeIdeal.Product.arg4 m c) i j

end Cert.Proof.MergeClaims

end
-- ==== Proof.OutProjProduct.lean ====
/-
  The mixer's output product mo = merged · w_o, the residual h1 = h0 + gt1 · norm mo · g, and the modulated norm of h1. The kernel's results are the reference's, element by element.
-/
module

public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.OutProjIdeal.Product

open Idealize.ShloMosaic Idealize.ShloMosaic.TcCoe Idealize.ShloMosaic.Tactic Cert.OutProjIdeal Cert.OutProjIdeal.Gen

/-- A row divided by the root of the mean of its squares. -/
def norm (u : Fin 2048 → EReal) (j : Fin 2048) : EReal :=
  u j * Ideal.rsqrt (Ideal.div (∑ k, u k * u k) (Ideal.ofBits .f32 0x45000000#32) + Ideal.ofBits .f32 0x358637BD#32)

/-- The product's row, the residual's row, and the modulated norm of it. -/
def mo (u : Fin 2048 → EReal) (w : Fin 2048 → Fin 2048 → EReal) (j : Fin 2048) : EReal := ∑ k, u k * w k j
def h1 (u : Fin 2048 → EReal) (w : Fin 2048 → Fin 2048 → EReal) (h gt gp : Fin 2048 → EReal) (j : Fin 2048) : EReal :=
  h j + gt j * (norm (mo u w) j * gp j)
def a2 (u : Fin 2048 → EReal) (w : Fin 2048 → Fin 2048 → EReal) (h gt gp g2 sc sh : Fin 2048 → EReal) (j : Fin 2048) : EReal :=
  norm (h1 u w h gt gp) j * g2 j * (1 + sc j) + sh j

/-! ## What the body computes of its blocks -/

theorem pay_8 (x0 : S256x2048.Idx → EReal) (x1 : S2048x2048.Idx → EReal) (x2 : S256x2048.Idx → EReal) (x3 : S1x2048.Idx → EReal) (x4 : S1x2048.Idx → EReal) (x5 : S1x2048.Idx → EReal) (x6 : S1x2048.Idx → EReal) (x7 : S1x2048.Idx → EReal) (r : Fin 256) (j : Fin 2048) :
    out0_8 (F := Ideal) x0 x1 x2 x3 x4 x5 x6 x7 (ix2 r j) = mo (fun k => x0 (ix2 r k)) (fun k l => x1 (ix2 k l)) j := by
  unfold out0_8
  simp (disch := decide) only [View.canon_cons_unit_lit, View.ld_unit_lit]
  pointwise [k0_pay2]
  rfl

theorem pay_9 (x0 : S256x2048.Idx → EReal) (x1 : S2048x2048.Idx → EReal) (x2 : S256x2048.Idx → EReal) (x3 : S1x2048.Idx → EReal) (x4 : S1x2048.Idx → EReal) (x5 : S1x2048.Idx → EReal) (x6 : S1x2048.Idx → EReal) (x7 : S1x2048.Idx → EReal) (r : Fin 256) (j : Fin 2048) :
    out0_9 (F := Ideal) x0 x1 x2 x3 x4 x5 x6 x7 (ix2 r j) = h1 (fun k => x0 (ix2 r k)) (fun k l => x1 (ix2 k l)) (fun k => x2 (ix2 r k)) (fun l => x3 (ix2 0 l)) (fun l => x4 (ix2 0 l)) j := by
  unfold out0_9
  simp (disch := decide) only [View.canon_cons_unit_lit, View.ld_unit_lit]
  pointwise [k0_pay3, k0_pay2]
  rfl

theorem pay_10 (x0 : S256x2048.Idx → EReal) (x1 : S2048x2048.Idx → EReal) (x2 : S256x2048.Idx → EReal) (x3 : S1x2048.Idx → EReal) (x4 : S1x2048.Idx → EReal) (x5 : S1x2048.Idx → EReal) (x6 : S1x2048.Idx → EReal) (x7 : S1x2048.Idx → EReal) (r : Fin 256) (j : Fin 2048) :
    out0_10 (F := Ideal) x0 x1 x2 x3 x4 x5 x6 x7 (ix2 r j) = a2 (fun k => x0 (ix2 r k)) (fun k l => x1 (ix2 k l)) (fun k => x2 (ix2 r k)) (fun l => x3 (ix2 0 l)) (fun l => x4 (ix2 0 l)) (fun l => x5 (ix2 0 l)) (fun l => x6 (ix2 0 l)) (fun l => x7 (ix2 0 l)) j := by
  unfold out0_10
  simp (disch := decide) only [View.canon_cons_unit_lit, View.ld_unit_lit]
  pointwise [k0_pay1, k0_pay4, k0_pay3, k0_pay2]
  rfl

variable (m : (ℓ : Loc nD τ sig) → Buf (Elt Ideal) ℓ)

/-- The arguments. -/
abbrev arg0 (c : Dev nD) : S4096x2048.Idx → EReal := m ((c : Thread nD τ).loc main_arg0)
abbrev arg1 (c : Dev nD) : S2048x2048.Idx → EReal := m ((c : Thread nD τ).loc main_arg1)
abbrev arg2 (c : Dev nD) : S4096x2048.Idx → EReal := m ((c : Thread nD τ).loc main_arg2)
abbrev arg3 (c : Dev nD) : S1x2048.Idx → EReal := m ((c : Thread nD τ).loc main_arg3)
abbrev arg4 (c : Dev nD) : S1x2048.Idx → EReal := m ((c : Thread nD τ).loc main_arg4)
abbrev arg5 (c : Dev nD) : S1x2048.Idx → EReal := m ((c : Thread nD τ).loc main_arg5)
abbrev arg6 (c : Dev nD) : S1x2048.Idx → EReal := m ((c : Thread nD τ).loc main_arg6)
abbrev arg7 (c : Dev nD) : S1x2048.Idx → EReal := m ((c : Thread nD τ).loc main_arg7)

/-! ## The blocks -/

theorem point_lt (t : Fin cfg0.N) : t.val < 16 := by have := t.isLt; have hN : cfg0.N = 16 := N_0; omega

theorem ix_0 : ∀ t : Fin cfg0.N, win0_0.index t 0 = t.val ∧ win0_0.index t 1 = 0 :=
  (by decide +kernel : ∀ t : Fin grid0.N, win0_0.index t 0 = t.val ∧ win0_0.index t 1 = 0)

theorem blk_0 (c : Dev nD) (t : Fin cfg0.N) (x : Fin 256) (y : Fin 2048) (a : Fin 4096) (b : Fin 2048)
    (ha : a.val = 256 * (t.val) + x.val) (hb : b.val = 2048 * (0) + y.val) :
    (iblk m c 0 t : S256x2048.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 256 + 1 * x.val = a.val; rw [(ix_0 t).1]; omega
  | ⟨1, _⟩ => show win0_0.index t 1 * 2048 + 1 * y.val = b.val; rw [(ix_0 t).2]; omega

theorem ix_1 : ∀ t : Fin cfg0.N, win0_1.index t 0 = 0 ∧ win0_1.index t 1 = 0 :=
  (by decide +kernel : ∀ t : Fin grid0.N, win0_1.index t 0 = 0 ∧ win0_1.index t 1 = 0)

theorem blk_1 (c : Dev nD) (t : Fin cfg0.N) (x : Fin 2048) (y : Fin 2048) (a : Fin 2048) (b : Fin 2048)
    (ha : a.val = 2048 * (0) + x.val) (hb : b.val = 2048 * (0) + y.val) :
    (iblk m c 1 t : S2048x2048.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 2048 + 1 * x.val = a.val; rw [(ix_1 t).1]; omega
  | ⟨1, _⟩ => show win0_1.index t 1 * 2048 + 1 * y.val = b.val; rw [(ix_1 t).2]; omega

theorem ix_2 : ∀ t : Fin cfg0.N, win0_2.index t 0 = t.val ∧ win0_2.index t 1 = 0 :=
  (by decide +kernel : ∀ t : Fin grid0.N, win0_2.index t 0 = t.val ∧ win0_2.index t 1 = 0)

theorem blk_2 (c : Dev nD) (t : Fin cfg0.N) (x : Fin 256) (y : Fin 2048) (a : Fin 4096) (b : Fin 2048)
    (ha : a.val = 256 * (t.val) + x.val) (hb : b.val = 2048 * (0) + y.val) :
    (iblk m c 2 t : S256x2048.Idx → EReal) (ix2 x y) = arg2 m c (ix2 a b) := by
  unfold iblk
  rw [View.read_apply]
  show V m c main_arg2 _ = _
  rw [V_main_arg2]
  refine congrArg (arg2 m c) ?_
  funext d
  apply Fin.ext
  match d with
  | ⟨0, _⟩ => show win0_2.index t 0 * 256 + 1 * x.val = a.val; rw [(ix_2 t).1]; omega
  | ⟨1, _⟩ => show win0_2.index t 1 * 2048 + 1 * y.val = b.val; rw [(ix_2 t).2]; omega

theorem ix_3 : ∀ t : Fin cfg0.N, win0_3.index t 0 = 0 ∧ win0_3.index t 1 = 0 :=
  (by decide +kernel : ∀ t : Fin grid0.N, win0_3.index t 0 = 0 ∧ win0_3.index t 1 = 0)

theorem blk_3 (c : Dev nD) (t : Fin cfg0.N) (x : Fin 1) (y : Fin 2048) (a : Fin 1) (b : Fin 2048)
    (ha : a.val = 1 * (0) + x.val) (hb : b.val = 2048 * (0) + y.val) :
    (iblk m c 3 t : S1x2048.Idx → EReal) (ix2 x y) = arg3 m c (ix2 a b) := by
  unfold iblk
  rw [View.read_apply]
  show V m c main_arg3 _ = _
  rw [V_main_arg3]
  refine congrArg (arg3 m c) ?_
  funext d
  apply Fin.ext
  match d with
  | ⟨0, _⟩ => show win0_3.index t 0 * 1 + 1 * x.val = a.val; rw [(ix_3 t).1]; omega
  | ⟨1, _⟩ => show win0_3.index t 1 * 2048 + 1 * y.val = b.val; rw [(ix_3 t).2]; omega

theorem ix_4 : ∀ t : Fin cfg0.N, win0_4.index t 0 = 0 ∧ win0_4.index t 1 = 0 :=
  (by decide +kernel : ∀ t : Fin grid0.N, win0_4.index t 0 = 0 ∧ win0_4.index t 1 = 0)

theorem blk_4 (c : Dev nD) (t : Fin cfg0.N) (x : Fin 1) (y : Fin 2048) (a : Fin 1) (b : Fin 2048)
    (ha : a.val = 1 * (0) + x.val) (hb : b.val = 2048 * (0) + y.val) :
    (iblk m c 4 t : S1x2048.Idx → EReal) (ix2 x y) = arg4 m c (ix2 a b) := by
  unfold iblk
  rw [View.read_apply]
  show V m c main_arg4 _ = _
  rw [V_main_arg4]
  refine congrArg (arg4 m c) ?_
  funext d
  apply Fin.ext
  match d with
  | ⟨0, _⟩ => show win0_4.index t 0 * 1 + 1 * x.val = a.val; rw [(ix_4 t).1]; omega
  | ⟨1, _⟩ => show win0_4.index t 1 * 2048 + 1 * y.val = b.val; rw [(ix_4 t).2]; omega

theorem ix_5 : ∀ t : Fin cfg0.N, win0_5.index t 0 = 0 ∧ win0_5.index t 1 = 0 :=
  (by decide +kernel : ∀ t : Fin grid0.N, win0_5.index t 0 = 0 ∧ win0_5.index t 1 = 0)

theorem blk_5 (c : Dev nD) (t : Fin cfg0.N) (x : Fin 1) (y : Fin 2048) (a : Fin 1) (b : Fin 2048)
    (ha : a.val = 1 * (0) + x.val) (hb : b.val = 2048 * (0) + y.val) :
    (iblk m c 5 t : S1x2048.Idx → EReal) (ix2 x y) = arg5 m c (ix2 a b) := by
  unfold iblk
  rw [View.read_apply]
  show V m c main_arg5 _ = _
  rw [V_main_arg5]
  refine congrArg (arg5 m c) ?_
  funext d
  apply Fin.ext
  match d with
  | ⟨0, _⟩ => show win0_5.index t 0 * 1 + 1 * x.val = a.val; rw [(ix_5 t).1]; omega
  | ⟨1, _⟩ => show win0_5.index t 1 * 2048 + 1 * y.val = b.val; rw [(ix_5 t).2]; omega

theorem ix_6 : ∀ t : Fin cfg0.N, win0_6.index t 0 = 0 ∧ win0_6.index t 1 = 0 :=
  (by decide +kernel : ∀ t : Fin grid0.N, win0_6.index t 0 = 0 ∧ win0_6.index t 1 = 0)

theorem blk_6 (c : Dev nD) (t : Fin cfg0.N) (x : Fin 1) (y : Fin 2048) (a : Fin 1) (b : Fin 2048)
    (ha : a.val = 1 * (0) + x.val) (hb : b.val = 2048 * (0) + y.val) :
    (iblk m c 6 t : S1x2048.Idx → EReal) (ix2 x y) = arg6 m c (ix2 a b) := by
  unfold iblk
  rw [View.read_apply]
  show V m c main_arg6 _ = _
  rw [V_main_arg6]
  refine congrArg (arg6 m c) ?_
  funext d
  apply Fin.ext
  match d with
  | ⟨0, _⟩ => show win0_6.index t 0 * 1 + 1 * x.val = a.val; rw [(ix_6 t).1]; omega
  | ⟨1, _⟩ => show win0_6.index t 1 * 2048 + 1 * y.val = b.val; rw [(ix_6 t).2]; omega

theorem ix_7 : ∀ t : Fin cfg0.N, win0_7.index t 0 = 0 ∧ win0_7.index t 1 = 0 :=
  (by decide +kernel : ∀ t : Fin grid0.N, win0_7.index t 0 = 0 ∧ win0_7.index t 1 = 0)

theorem blk_7 (c : Dev nD) (t : Fin cfg0.N) (x : Fin 1) (y : Fin 2048) (a : Fin 1) (b : Fin 2048)
    (ha : a.val = 1 * (0) + x.val) (hb : b.val = 2048 * (0) + y.val) :
    (iblk m c 7 t : S1x2048.Idx → EReal) (ix2 x y) = arg7 m c (ix2 a b) := by
  unfold iblk
  rw [View.read_apply]
  show V m c main_arg7 _ = _
  rw [V_main_arg7]
  refine congrArg (arg7 m c) ?_
  funext d
  apply Fin.ext
  match d with
  | ⟨0, _⟩ => show win0_7.index t 0 * 1 + 1 * x.val = a.val; rw [(ix_7 t).1]; omega
  | ⟨1, _⟩ => show win0_7.index t 1 * 2048 + 1 * y.val = b.val; rw [(ix_7 t).2]; omega

/-! ## The results' arrays -/

theorem ix_8 : ∀ t : Fin cfg0.N, win0_8.index t 0 = t.val ∧ win0_8.index t 1 = 0 :=
  (by decide +kernel : ∀ t : Fin grid0.N, win0_8.index t 0 = t.val ∧ win0_8.index t 1 = 0)

def result_8 (c : Dev nD) : S4096x2048.Idx → EReal := fun i => mo (fun k => arg0 m c (ix2 (i 0) k)) (fun k l => arg1 m c (ix2 k l)) (i 1)

theorem place_8 (c : Dev nD) (t : Fin cfg0.N) (r : Fin 256) (j : Fin 2048) : ∃ (a : Fin 4096) (b : Fin 2048), a.val = 256 * (t.val) + r.val ∧
    b.val = 2048 * (0) + j.val ∧ result_8 m c (((cfg0.win 8).blk t).view.emb (ix2 r j)) = mo (fun k => arg0 m c (ix2 a k)) (fun k l => arg1 m c (ix2 k l)) b := by
  have hp := point_lt t
  refine ⟨_, _, ?_, ?_, rfl⟩
  · show win0_8.index t 0 * 256 + 1 * r.val = _
    rw [(ix_8 t).1]; omega
  · show win0_8.index t 1 * 2048 + 1 * j.val = _
    rw [(ix_8 t).2]; omega

theorem flushed_8 (c : Dev nD) (t : Fin cfg0.N) (hf : (cfg0.win 8).flush t = true) :
    (dats m 0 c).flushed 8 t = ((cfg0.win 8).blk t).view.read (Elt Ideal) (result_8 m c) := by
  rw [Value.flushed8]
  funext (y : S256x2048.Idx)
  rw [View.read_apply]
  obtain ⟨r, j, rfl⟩ : ∃ (r : Fin 256) (j : Fin 2048), y = ix2 r j := ⟨y 0, y 1, eq_ix2 y⟩
  obtain ⟨a, b, ha, hb, e⟩ := place_8 m c t r j
  rw [e]
  obtain rfl : b = j := Fin.ext (by omega)
  refine (pay_8 (iblk m c 0 t) (iblk m c 1 t) (iblk m c 2 t) (iblk m c 3 t) (iblk m c 4 t) (iblk m c 5 t) (iblk m c 6 t) (iblk m c 7 t) r _).trans ?_
  rw [(show (fun k => (iblk m c 0 t : S256x2048.Idx → EReal) (ix2 r k)) = (fun k => arg0 m c (ix2 a k)) from funext fun k => blk_0 m c t r k a k ha (by omega)),
    (show (fun k l => (iblk m c 1 t : S2048x2048.Idx → EReal) (ix2 k l)) = (fun k l => arg1 m c (ix2 k l)) from funext fun k => funext fun l => blk_1 m c t k l k l (by omega) (by omega))]
  rfl

theorem final_8 (c : Dev nD) : (dats m 0 c).arrAt 8 cfg0.N = result_8 m c :=
  (dats m 0 c).arrAt_eq_of_cover 8 _ (flushed_8 m c) fun i =>
    have h0 : (i 0 : Nat) < 4096 := (i 0).isLt
    have h1 : (i 1 : Nat) < 2048 := (i 1).isLt
    have hN : cfg0.N = 16 := N_0
    have ht : (i 0 : Nat) / 256 < cfg0.N := by omega
    ⟨⟨(i 0 : Nat) / 256, ht⟩, flush0_8 _, by
      show i ∈ ((View.whole main_v0_0).slice (win0_8.rect ⟨(i 0 : Nat) / 256, ht⟩)).set
      rw [View.set_slice_whole, Rect.mem_set_unit]
      have e := ix_8 ⟨(i 0 : Nat) / 256, ht⟩
      dsimp only at e
      intro a
      match a with
      | ⟨0, _⟩ => show win0_8.index ⟨(i 0 : Nat) / 256, ht⟩ 0 * 256 ≤ (i 0 : Nat) ∧ (i 0 : Nat) < win0_8.index ⟨(i 0 : Nat) / 256, ht⟩ 0 * 256 + 256; rw [e.1]; omega
      | ⟨1, _⟩ => show win0_8.index ⟨(i 0 : Nat) / 256, ht⟩ 1 * 2048 ≤ (i 1 : Nat) ∧ (i 1 : Nat) < win0_8.index ⟨(i 0 : Nat) / 256, ht⟩ 1 * 2048 + 2048; rw [e.2]; omega
      ⟩

theorem ix_9 : ∀ t : Fin cfg0.N, win0_9.index t 0 = t.val ∧ win0_9.index t 1 = 0 :=
  (by decide +kernel : ∀ t : Fin grid0.N, win0_9.index t 0 = t.val ∧ win0_9.index t 1 = 0)

def result_9 (c : Dev nD) : S4096x2048.Idx → EReal := fun i => h1 (fun k => arg0 m c (ix2 (i 0) k)) (fun k l => arg1 m c (ix2 k l)) (fun k => arg2 m c (ix2 (i 0) k)) (fun l => arg3 m c (ix2 0 l)) (fun l => arg4 m c (ix2 0 l)) (i 1)

theorem place_9 (c : Dev nD) (t : Fin cfg0.N) (r : Fin 256) (j : Fin 2048) : ∃ (a : Fin 4096) (b : Fin 2048), a.val = 256 * (t.val) + r.val ∧
    b.val = 2048 * (0) + j.val ∧ result_9 m c (((cfg0.win 9).blk t).view.emb (ix2 r j)) = h1 (fun k => arg0 m c (ix2 a k)) (fun k l => arg1 m c (ix2 k l)) (fun k => arg2 m c (ix2 a k)) (fun l => arg3 m c (ix2 0 l)) (fun l => arg4 m c (ix2 0 l)) b := by
  have hp := point_lt t
  refine ⟨_, _, ?_, ?_, rfl⟩
  · show win0_9.index t 0 * 256 + 1 * r.val = _
    rw [(ix_9 t).1]; omega
  · show win0_9.index t 1 * 2048 + 1 * j.val = _
    rw [(ix_9 t).2]; omega

theorem flushed_9 (c : Dev nD) (t : Fin cfg0.N) (hf : (cfg0.win 9).flush t = true) :
    (dats m 0 c).flushed 9 t = ((cfg0.win 9).blk t).view.read (Elt Ideal) (result_9 m c) := by
  rw [Value.flushed9]
  funext (y : S256x2048.Idx)
  rw [View.read_apply]
  obtain ⟨r, j, rfl⟩ : ∃ (r : Fin 256) (j : Fin 2048), y = ix2 r j := ⟨y 0, y 1, eq_ix2 y⟩
  obtain ⟨a, b, ha, hb, e⟩ := place_9 m c t r j
  rw [e]
  obtain rfl : b = j := Fin.ext (by omega)
  refine (pay_9 (iblk m c 0 t) (iblk m c 1 t) (iblk m c 2 t) (iblk m c 3 t) (iblk m c 4 t) (iblk m c 5 t) (iblk m c 6 t) (iblk m c 7 t) r _).trans ?_
  rw [(show (fun k => (iblk m c 0 t : S256x2048.Idx → EReal) (ix2 r k)) = (fun k => arg0 m c (ix2 a k)) from funext fun k => blk_0 m c t r k a k ha (by omega)),
    (show (fun k l => (iblk m c 1 t : S2048x2048.Idx → EReal) (ix2 k l)) = (fun k l => arg1 m c (ix2 k l)) from funext fun k => funext fun l => blk_1 m c t k l k l (by omega) (by omega)),
    (show (fun k => (iblk m c 2 t : S256x2048.Idx → EReal) (ix2 r k)) = (fun k => arg2 m c (ix2 a k)) from funext fun k => blk_2 m c t r k a k ha (by omega)),
    (show (fun l => (iblk m c 3 t : S1x2048.Idx → EReal) (ix2 0 l)) = (fun l => arg3 m c (ix2 0 l)) from funext fun l => blk_3 m c t 0 l 0 l rfl (by omega)),
    (show (fun l => (iblk m c 4 t : S1x2048.Idx → EReal) (ix2 0 l)) = (fun l => arg4 m c (ix2 0 l)) from funext fun l => blk_4 m c t 0 l 0 l rfl (by omega))]
  rfl

theorem final_9 (c : Dev nD) : (dats m 0 c).arrAt 9 cfg0.N = result_9 m c :=
  (dats m 0 c).arrAt_eq_of_cover 9 _ (flushed_9 m c) fun i =>
    have h0 : (i 0 : Nat) < 4096 := (i 0).isLt
    have h1 : (i 1 : Nat) < 2048 := (i 1).isLt
    have hN : cfg0.N = 16 := N_0
    have ht : (i 0 : Nat) / 256 < cfg0.N := by omega
    ⟨⟨(i 0 : Nat) / 256, ht⟩, flush0_9 _, by
      show i ∈ ((View.whole main_v0_1).slice (win0_9.rect ⟨(i 0 : Nat) / 256, ht⟩)).set
      rw [View.set_slice_whole, Rect.mem_set_unit]
      have e := ix_9 ⟨(i 0 : Nat) / 256, ht⟩
      dsimp only at e
      intro a
      match a with
      | ⟨0, _⟩ => show win0_9.index ⟨(i 0 : Nat) / 256, ht⟩ 0 * 256 ≤ (i 0 : Nat) ∧ (i 0 : Nat) < win0_9.index ⟨(i 0 : Nat) / 256, ht⟩ 0 * 256 + 256; rw [e.1]; omega
      | ⟨1, _⟩ => show win0_9.index ⟨(i 0 : Nat) / 256, ht⟩ 1 * 2048 ≤ (i 1 : Nat) ∧ (i 1 : Nat) < win0_9.index ⟨(i 0 : Nat) / 256, ht⟩ 1 * 2048 + 2048; rw [e.2]; omega
      ⟩

theorem ix_10 : ∀ t : Fin cfg0.N, win0_10.index t 0 = t.val ∧ win0_10.index t 1 = 0 :=
  (by decide +kernel : ∀ t : Fin grid0.N, win0_10.index t 0 = t.val ∧ win0_10.index t 1 = 0)

def result_10 (c : Dev nD) : S4096x2048.Idx → EReal := fun i => a2 (fun k => arg0 m c (ix2 (i 0) k)) (fun k l => arg1 m c (ix2 k l)) (fun k => arg2 m c (ix2 (i 0) k)) (fun l => arg3 m c (ix2 0 l)) (fun l => arg4 m c (ix2 0 l)) (fun l => arg5 m c (ix2 0 l)) (fun l => arg6 m c (ix2 0 l)) (fun l => arg7 m c (ix2 0 l)) (i 1)

theorem place_10 (c : Dev nD) (t : Fin cfg0.N) (r : Fin 256) (j : Fin 2048) : ∃ (a : Fin 4096) (b : Fin 2048), a.val = 256 * (t.val) + r.val ∧
    b.val = 2048 * (0) + j.val ∧ result_10 m c (((cfg0.win 10).blk t).view.emb (ix2 r j)) = a2 (fun k => arg0 m c (ix2 a k)) (fun k l => arg1 m c (ix2 k l)) (fun k => arg2 m c (ix2 a k)) (fun l => arg3 m c (ix2 0 l)) (fun l => arg4 m c (ix2 0 l)) (fun l => arg5 m c (ix2 0 l)) (fun l => arg6 m c (ix2 0 l)) (fun l => arg7 m c (ix2 0 l)) b := by
  have hp := point_lt t
  refine ⟨_, _, ?_, ?_, rfl⟩
  · show win0_10.index t 0 * 256 + 1 * r.val = _
    rw [(ix_10 t).1]; omega
  · show win0_10.index t 1 * 2048 + 1 * j.val = _
    rw [(ix_10 t).2]; omega

theorem flushed_10 (c : Dev nD) (t : Fin cfg0.N) (hf : (cfg0.win 10).flush t = true) :
    (dats m 0 c).flushed 10 t = ((cfg0.win 10).blk t).view.read (Elt Ideal) (result_10 m c) := by
  rw [Value.flushed10]
  funext (y : S256x2048.Idx)
  rw [View.read_apply]
  obtain ⟨r, j, rfl⟩ : ∃ (r : Fin 256) (j : Fin 2048), y = ix2 r j := ⟨y 0, y 1, eq_ix2 y⟩
  obtain ⟨a, b, ha, hb, e⟩ := place_10 m c t r j
  rw [e]
  obtain rfl : b = j := Fin.ext (by omega)
  refine (pay_10 (iblk m c 0 t) (iblk m c 1 t) (iblk m c 2 t) (iblk m c 3 t) (iblk m c 4 t) (iblk m c 5 t) (iblk m c 6 t) (iblk m c 7 t) r _).trans ?_
  rw [(show (fun k => (iblk m c 0 t : S256x2048.Idx → EReal) (ix2 r k)) = (fun k => arg0 m c (ix2 a k)) from funext fun k => blk_0 m c t r k a k ha (by omega)),
    (show (fun k l => (iblk m c 1 t : S2048x2048.Idx → EReal) (ix2 k l)) = (fun k l => arg1 m c (ix2 k l)) from funext fun k => funext fun l => blk_1 m c t k l k l (by omega) (by omega)),
    (show (fun k => (iblk m c 2 t : S256x2048.Idx → EReal) (ix2 r k)) = (fun k => arg2 m c (ix2 a k)) from funext fun k => blk_2 m c t r k a k ha (by omega)),
    (show (fun l => (iblk m c 3 t : S1x2048.Idx → EReal) (ix2 0 l)) = (fun l => arg3 m c (ix2 0 l)) from funext fun l => blk_3 m c t 0 l 0 l rfl (by omega)),
    (show (fun l => (iblk m c 4 t : S1x2048.Idx → EReal) (ix2 0 l)) = (fun l => arg4 m c (ix2 0 l)) from funext fun l => blk_4 m c t 0 l 0 l rfl (by omega)),
    (show (fun l => (iblk m c 5 t : S1x2048.Idx → EReal) (ix2 0 l)) = (fun l => arg5 m c (ix2 0 l)) from funext fun l => blk_5 m c t 0 l 0 l rfl (by omega)),
    (show (fun l => (iblk m c 6 t : S1x2048.Idx → EReal) (ix2 0 l)) = (fun l => arg6 m c (ix2 0 l)) from funext fun l => blk_6 m c t 0 l 0 l rfl (by omega)),
    (show (fun l => (iblk m c 7 t : S1x2048.Idx → EReal) (ix2 0 l)) = (fun l => arg7 m c (ix2 0 l)) from funext fun l => blk_7 m c t 0 l 0 l rfl (by omega))]
  rfl

theorem final_10 (c : Dev nD) : (dats m 0 c).arrAt 10 cfg0.N = result_10 m c :=
  (dats m 0 c).arrAt_eq_of_cover 10 _ (flushed_10 m c) fun i =>
    have h0 : (i 0 : Nat) < 4096 := (i 0).isLt
    have h1 : (i 1 : Nat) < 2048 := (i 1).isLt
    have hN : cfg0.N = 16 := N_0
    have ht : (i 0 : Nat) / 256 < cfg0.N := by omega
    ⟨⟨(i 0 : Nat) / 256, ht⟩, flush0_10 _, by
      show i ∈ ((View.whole main_v0_2).slice (win0_10.rect ⟨(i 0 : Nat) / 256, ht⟩)).set
      rw [View.set_slice_whole, Rect.mem_set_unit]
      have e := ix_10 ⟨(i 0 : Nat) / 256, ht⟩
      dsimp only at e
      intro a
      match a with
      | ⟨0, _⟩ => show win0_10.index ⟨(i 0 : Nat) / 256, ht⟩ 0 * 256 ≤ (i 0 : Nat) ∧ (i 0 : Nat) < win0_10.index ⟨(i 0 : Nat) / 256, ht⟩ 0 * 256 + 256; rw [e.1]; omega
      | ⟨1, _⟩ => show win0_10.index ⟨(i 0 : Nat) / 256, ht⟩ 1 * 2048 ≤ (i 1 : Nat) ∧ (i 1 : Nat) < win0_10.index ⟨(i 0 : Nat) / 256, ht⟩ 1 * 2048 + 2048; rw [e.2]; omega
      ⟩

end Cert.OutProjIdeal.Product

namespace Cert.OutProjRefIdeal.Product

open Idealize.ShloMosaic Idealize.ShloMosaic.Tactic Cert.OutProjRefIdeal Cert.OutProjRefIdeal.Gen Cert.OutProjIdeal.Product

/-- The reference's result, element by element. -/
theorem value_8 (x0 : S4096x2048.Idx → EReal) (x1 : S2048x2048.Idx → EReal) (x2 : S4096x2048.Idx → EReal) (x3 : S1x2048.Idx → EReal) (x4 : S1x2048.Idx → EReal) (x5 : S1x2048.Idx → EReal) (x6 : S1x2048.Idx → EReal) (x7 : S1x2048.Idx → EReal) (i : Fin 4096) (j : Fin 2048) :
    (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32) : S4096x2048.Idx → EReal) (ix2 i j) = mo (fun k => x0 (ix2 i k)) (fun k l => x1 (ix2 k l)) j := by
  pointwise []
  rfl

/-- The reference's result, element by element. -/
theorem value_9 (x0 : S4096x2048.Idx → EReal) (x1 : S2048x2048.Idx → EReal) (x2 : S4096x2048.Idx → EReal) (x3 : S1x2048.Idx → EReal) (x4 : S1x2048.Idx → EReal) (x5 : S1x2048.Idx → EReal) (x6 : S1x2048.Idx → EReal) (x7 : S1x2048.Idx → EReal) (i : Fin 4096) (j : Fin 2048) :
    (addf x2 (mulf (broadcastInDim S4096x2048 ![0, 1] bcast_S1x2048_S4096x2048_0_1 x3) (mulf (mulf (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32)) (broadcastInDim S4096x2048 ![0, 1] bcast_S4096x1_S4096x2048_0_1 (Host.rsqrt (addf (Host.divf (broadcastInDim S4096x1 ![0] bcast_S4096_S4096x1_0 (Host.reduceAdd (mulf (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32)) (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 x4))) : S4096x2048.Idx → EReal) (ix2 i j) = h1 (fun k => x0 (ix2 i k)) (fun k l => x1 (ix2 k l)) (fun k => x2 (ix2 i k)) (fun l => x3 (ix2 0 l)) (fun l => x4 (ix2 0 l)) j := by
  pointwise []
  rfl

/-- The reference's result, element by element. -/
theorem value_10 (x0 : S4096x2048.Idx → EReal) (x1 : S2048x2048.Idx → EReal) (x2 : S4096x2048.Idx → EReal) (x3 : S1x2048.Idx → EReal) (x4 : S1x2048.Idx → EReal) (x5 : S1x2048.Idx → EReal) (x6 : S1x2048.Idx → EReal) (x7 : S1x2048.Idx → EReal) (i : Fin 4096) (j : Fin 2048) :
    (truncf (F := Ideal) .bf16 (addf (mulf (mulf (mulf (addf x2 (mulf (broadcastInDim S4096x2048 ![0, 1] bcast_S1x2048_S4096x2048_0_1 x3) (mulf (mulf (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32)) (broadcastInDim S4096x2048 ![0, 1] bcast_S4096x1_S4096x2048_0_1 (Host.rsqrt (addf (Host.divf (broadcastInDim S4096x1 ![0] bcast_S4096_S4096x1_0 (Host.reduceAdd (mulf (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32)) (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 x4)))) (broadcastInDim S4096x2048 ![0, 1] bcast_S4096x1_S4096x2048_0_1 (Host.rsqrt (addf (Host.divf (broadcastInDim S4096x1 ![0] bcast_S4096_S4096x1_0 (Host.reduceAdd (mulf (addf x2 (mulf (broadcastInDim S4096x2048 ![0, 1] bcast_S1x2048_S4096x2048_0_1 x3) (mulf (mulf (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32)) (broadcastInDim S4096x2048 ![0, 1] bcast_S4096x1_S4096x2048_0_1 (Host.rsqrt (addf (Host.divf (broadcastInDim S4096x1 ![0] bcast_S4096_S4096x1_0 (Host.reduceAdd (mulf (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32)) (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 x4)))) (addf x2 (mulf (broadcastInDim S4096x2048 ![0, 1] bcast_S1x2048_S4096x2048_0_1 x3) (mulf (mulf (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32)) (broadcastInDim S4096x2048 ![0, 1] bcast_S4096x1_S4096x2048_0_1 (Host.rsqrt (addf (Host.divf (broadcastInDim S4096x1 ![0] bcast_S4096_S4096x1_0 (Host.reduceAdd (mulf (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32)) (Host.dotGeneral (F := Ideal) (φ₁ := .f32) (φ₂ := .f32) dot_S4096x2048_S2048x2048_S4096x2048_1_0_0_1_n_n none (extf (F := Ideal) .f32 x0 bitsLt_bf16_f32) (extf (F := Ideal) .f32 x1 bitsLt_bf16_f32))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 x4))))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 x5)) (broadcastInDim S4096x2048 ![0, 1] bcast_S1x2048_S4096x2048_0_1 (addf (broadcastInDim S1x2048 ![] bcast_S_S1x2048 (constant (F := Ideal) S_ .f32 0x3F800000#32)) x6))) (broadcastInDim S4096x2048 ![0, 1] bcast_S1x2048_S4096x2048_0_1 x7)) bitsLt_bf16_f32 : S4096x2048.Idx → EReal) (ix2 i j) = a2 (fun k => x0 (ix2 i k)) (fun k l => x1 (ix2 k l)) (fun k => x2 (ix2 i k)) (fun l => x3 (ix2 0 l)) (fun l => x4 (ix2 0 l)) (fun l => x5 (ix2 0 l)) (fun l => x6 (ix2 0 l)) (fun l => x7 (ix2 0 l)) j := by
  pointwise []
  rfl

end Cert.OutProjRefIdeal.Product

namespace Cert.Proof.OutProjClaims

open Idealize.ShloMosaic Idealize.ShloMosaic.TcCoe Idealize.ShloMosaic.Tactic Idealize.SL.Sem

theorem frame_p : Cert.quiescent_OutProj (hOutProj := Cert.OutProj.Gen.facts) := fun m ρ _ => Cert.OutProj.Gen.frame m ρ
theorem frame_pi : Cert.quiescent_OutProjIdeal (hOutProjIdeal := Cert.OutProjIdeal.Gen.facts) := fun m ρ _ => Cert.OutProjIdeal.Gen.frame m ρ
theorem frame_ri : Cert.quiescent_OutProjRefIdeal (hOutProjRefIdeal := Cert.OutProjRefIdeal.Gen.facts) := fun m ρ _ =>
  (θ_run Cert.OutProjRefIdeal.defs _ _).mono (fun r h => ⟨fun c => (h c).2.2.2, Idealize.ShloMosaic.sem_eq_zero_of_no_sems (by decide) r.2⟩)
    (Cert.OutProjRefIdeal.Value.run (F := Ideal) m ρ)
theorem preserves : Cert.preserves_OutProj_OutProjIdeal := trivial

theorem algebraic : Cert.algebraic_OutProjIdeal_OutProjRefIdeal (hOutProjIdeal := Cert.OutProjIdeal.Gen.facts) (hOutProjRefIdeal := Cert.OutProjRefIdeal.Gen.facts) := by
  intro m ρ m' ρ' _ hagree
  refine ⟨_, _, _, Cert.OutProjIdeal.Value.run_blocks m ρ, ?_⟩
  refine (θ_run Cert.OutProjRefIdeal.defs _ _).mono (fun _ h c => ?_) (Cert.OutProjRefIdeal.Value.run (F := Ideal) m' ρ')
  obtain ⟨e0, e1, e2, e3, e4, e5, e6, e7⟩ := hagree c
  obtain ⟨r0, r1, r2, rest⟩ := h c
  refine ⟨r0.trans ?_, r1.trans ?_, r2.trans ?_, rest⟩
  · rw [e0, e1, Cert.OutProjIdeal.Product.final_8 m c]
    funext y
    obtain ⟨i, j, rfl⟩ : ∃ (i : Fin 4096) (j : Fin 2048), y = ix2 i j := ⟨y 0, y 1, eq_ix2 y⟩
    exact Cert.OutProjRefIdeal.Product.value_8 (Cert.OutProjIdeal.Product.arg0 m c) (Cert.OutProjIdeal.Product.arg1 m c) (Cert.OutProjIdeal.Product.arg2 m c) (Cert.OutProjIdeal.Product.arg3 m c) (Cert.OutProjIdeal.Product.arg4 m c) (Cert.OutProjIdeal.Product.arg5 m c) (Cert.OutProjIdeal.Product.arg6 m c) (Cert.OutProjIdeal.Product.arg7 m c) i j
  · rw [e0, e1, e2, e3, e4, Cert.OutProjIdeal.Product.final_9 m c]
    funext y
    obtain ⟨i, j, rfl⟩ : ∃ (i : Fin 4096) (j : Fin 2048), y = ix2 i j := ⟨y 0, y 1, eq_ix2 y⟩
    exact Cert.OutProjRefIdeal.Product.value_9 (Cert.OutProjIdeal.Product.arg0 m c) (Cert.OutProjIdeal.Product.arg1 m c) (Cert.OutProjIdeal.Product.arg2 m c) (Cert.OutProjIdeal.Product.arg3 m c) (Cert.OutProjIdeal.Product.arg4 m c) (Cert.OutProjIdeal.Product.arg5 m c) (Cert.OutProjIdeal.Product.arg6 m c) (Cert.OutProjIdeal.Product.arg7 m c) i j
  · unfold Cert.OutProjRefIdeal.Value.res_main_v36
    rw [e0, e1, e2, e3, e4, e5, e6, e7, Cert.OutProjIdeal.Product.final_10 m c]
    funext y
    obtain ⟨i, j, rfl⟩ : ∃ (i : Fin 4096) (j : Fin 2048), y = ix2 i j := ⟨y 0, y 1, eq_ix2 y⟩
    exact Cert.OutProjRefIdeal.Product.value_10 (Cert.OutProjIdeal.Product.arg0 m c) (Cert.OutProjIdeal.Product.arg1 m c) (Cert.OutProjIdeal.Product.arg2 m c) (Cert.OutProjIdeal.Product.arg3 m c) (Cert.OutProjIdeal.Product.arg4 m c) (Cert.OutProjIdeal.Product.arg5 m c) (Cert.OutProjIdeal.Product.arg6 m c) (Cert.OutProjIdeal.Product.arg7 m c) i j

end Cert.Proof.OutProjClaims

end
-- ==== Proof.OutProjBwdProduct.lean ====
/-
  The gradients of the two branches and of their gates: dm = dmo · w_oᵀ, then dm · s and dm · y · s · (1 − s) with s the sigmoid of the gate. The kernel's results are the reference's, element by element.
-/
module

public import proofs.«01_k».proof.Defs
public import proofs.«01_k».proof.Proof.Gen.OutProjBwd.Frame
public import proofs.«01_k».proof.Proof.Gen.OutProjBwdIdeal.Frame
public import proofs.«01_k».proof.Proof.Gen.OutProjBwdIdeal.Value
public import proofs.«01_k».proof.Proof.Gen.OutProjBwdRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.OutProjBwdIdeal.Product

open Idealize.ShloMosaic Idealize.ShloMosaic.TcCoe Idealize.ShloMosaic.Tactic Cert.OutProjBwdIdeal Cert.OutProjBwdIdeal.Gen

/-- The gradient of a branch's element and of its gate. -/
def dbranch (u v : Fin 2048 → EReal) (g : EReal) : EReal := (∑ k, u k * v k) * Ideal.logistic g
def dgate (u v : Fin 2048 → EReal) (y g : EReal) : EReal := (∑ k, u k * v k) * y * Ideal.logistic g * (1 - Ideal.logistic g)

/-- A gate's column in the projection. -/
def at7168 (j : Fin 2048) : Fin 11264 := ⟨7168 + j.val, by omega⟩

/-- A gate's column in the projection. -/
def at9216 (j : Fin 2048) : Fin 11264 := ⟨9216 + j.val, by omega⟩

/-! ## What the body computes of its blocks -/

theorem pay_6 (x0 : S512x2048.Idx → EReal) (x1 : S512x2048.Idx → EReal) (x2 : S512x512.Idx → EReal) (x3 : S512x512.Idx → EReal) (x4 : S512x512.Idx → EReal) (x5 : S512x512.Idx → EReal) (r : Fin 512) (j : Fin 512) :
    out0_6 (F := Ideal) x0 x1 x2 x3 x4 x5 (ix2 r j) = dbranch (fun k => x0 (ix2 r k)) (fun k => x1 (ix2 j k)) (x4 (ix2 r j)) := by
  unfold out0_6
  simp (disch := decide) only [View.canon_cons_unit_lit, View.ld_unit_lit]
  pointwise [k0_pay4, k0_pay1, k0_pay2]
  rfl

theorem pay_7 (x0 : S512x2048.Idx → EReal) (x1 : S512x2048.Idx → EReal) (x2 : S512x512.Idx → EReal) (x3 : S512x512.Idx → EReal) (x4 : S512x512.Idx → EReal) (x5 : S512x512.Idx → EReal) (r : Fin 512) (j : Fin 512) :
    out0_7 (F := Ideal) x0 x1 x2 x3 x4 x5 (ix2 r j) = dbranch (fun k => x0 (ix2 r k)) (fun k => x1 (ix2 j k)) (x5 (ix2 r j)) := by
  unfold out0_7
  simp (disch := decide) only [View.canon_cons_unit_lit, View.ld_unit_lit]
  pointwise [k0_pay5, k0_pay1, k0_pay3]
  rfl

theorem pay_8 (x0 : S512x2048.Idx → EReal) (x1 : S512x2048.Idx → EReal) (x2 : S512x512.Idx → EReal) (x3 : S512x512.Idx → EReal) (x4 : S512x512.Idx → EReal) (x5 : S512x512.Idx → EReal) (r : Fin 512) (j : Fin 512) :
    out0_8 (F := Ideal) x0 x1 x2 x3 x4 x5 (ix2 r j) = dgate (fun k => x0 (ix2 r k)) (fun k => x1 (ix2 j k)) (x2 (ix2 r j)) (x4 (ix2 r j)) := by
  unfold out0_8
  simp (disch := decide) only [View.canon_cons_unit_lit, View.ld_unit_lit]
  pointwise [k0_pay6, k0_pay1, k0_pay2]
  rfl

theorem pay_9 (x0 : S512x2048.Idx → EReal) (x1 : S512x2048.Idx → EReal) (x2 : S512x512.Idx → EReal) (x3 : S512x512.Idx → EReal) (x4 : S512x512.Idx → EReal) (x5 : S512x512.Idx → EReal) (r : Fin 512) (j : Fin 512) :
    out0_9 (F := Ideal) x0 x1 x2 x3 x4 x5 (ix2 r j) = dgate (fun k => x0 (ix2 r k)) (fun k => x1 (ix2 j k)) (x3 (ix2 r j)) (x5 (ix2 r j)) := by
  unfold out0_9
  simp (disch := decide) only [View.canon_cons_unit_lit, View.ld_unit_lit]
  pointwise [k0_pay7, k0_pay1, k0_pay3]
  rfl

variable (m : (ℓ : Loc nD τ sig) → Buf (Elt Ideal) ℓ)

/-- The arguments. -/
abbrev arg0 (c : Dev nD) : S4096x2048.Idx → EReal := m ((c : Thread nD τ).loc main_arg0)
abbrev arg1 (c : Dev nD) : S2048x2048.Idx → EReal := m ((c : Thread nD τ).loc main_arg1)
abbrev arg2 (c : Dev nD) : S4096x2048.Idx → EReal := m ((c : Thread nD τ).loc main_arg2)
abbrev arg3 (c : Dev nD) : S4096x2048.Idx → EReal := m ((c : Thread nD τ).loc main_arg3)
abbrev arg4 (c : Dev nD) : S4096x11264.Idx → EReal := m ((c : Thread nD τ).loc main_arg4)

/-! ## The blocks -/

theorem point_lt (t : Fin cfg0.N) : t.val < 32 := by have := t.isLt; have hN : cfg0.N = 32 := N_0; omega

theorem ix_0 : ∀ t : Fin cfg0.N, win0_0.index t 0 = t.val / 4 ∧ win0_0.index t 1 = 0 :=
  (by decide +kernel : ∀ t : Fin grid0.N, win0_0.index t 0 = t.val / 4 ∧ win0_0.index t 1 = 0)

theorem blk_0 (c : Dev nD) (t : Fin cfg0.N) (x : Fin 512) (y : Fin 2048) (a : Fin 4096) (b : Fin 2048)
    (ha : a.val = 512 * (t.val / 4) + x.val) (hb : b.val = 2048 * (0) + y.val) :
    (iblk m c 0 t : S512x2048.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 512 + 1 * x.val = a.val; rw [(ix_0 t).1]; omega
  | ⟨1, _⟩ => show win0_0.index t 1 * 2048 + 1 * y.val = b.val; rw [(ix_0 t).2]; omega

theorem ix_1 : ∀ t : Fin cfg0.N, win0_1.index t 0 = t.val % 4 ∧ win0_1.index t 1 = 0 :=
  (by decide +kernel : ∀ t : Fin grid0.N, win0_1.index t 0 = t.val % 4 ∧ win0_1.index t 1 = 0)

theorem blk_1 (c : Dev nD) (t : Fin cfg0.N) (x : Fin 512) (y : Fin 2048) (a : Fin 2048) (b : Fin 2048)
    (ha : a.val = 512 * (t.val % 4) + x.val) (hb : b.val = 2048 * (0) + y.val) :
    (iblk m c 1 t : S512x2048.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 512 + 1 * x.val = a.val; rw [(ix_1 t).1]; omega
  | ⟨1, _⟩ => show win0_1.index t 1 * 2048 + 1 * y.val = b.val; rw [(ix_1 t).2]; omega

theorem ix_2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem blk_2 (c : Dev nD) (t : Fin cfg0.N) (x : Fin 512) (y : Fin 512) (a : Fin 4096) (b : Fin 2048)
    (ha : a.val = 512 * (t.val / 4) + x.val) (hb : b.val = 512 * (t.val % 4) + y.val) :
    (iblk m c 2 t : S512x512.Idx → EReal) (ix2 x y) = arg2 m c (ix2 a b) := by
  unfold iblk
  rw [View.read_apply]
  show V m c main_arg2 _ = _
  rw [V_main_arg2]
  refine congrArg (arg2 m c) ?_
  funext d
  apply Fin.ext
  match d with
  | ⟨0, _⟩ => show win0_2.index t 0 * 512 + 1 * x.val = a.val; rw [(ix_2 t).1]; omega
  | ⟨1, _⟩ => show win0_2.index t 1 * 512 + 1 * y.val = b.val; rw [(ix_2 t).2]; omega

theorem ix_3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem blk_3 (c : Dev nD) (t : Fin cfg0.N) (x : Fin 512) (y : Fin 512) (a : Fin 4096) (b : Fin 2048)
    (ha : a.val = 512 * (t.val / 4) + x.val) (hb : b.val = 512 * (t.val % 4) + y.val) :
    (iblk m c 3 t : S512x512.Idx → EReal) (ix2 x y) = arg3 m c (ix2 a b) := by
  unfold iblk
  rw [View.read_apply]
  show V m c main_arg3 _ = _
  rw [V_main_arg3]
  refine congrArg (arg3 m c) ?_
  funext d
  apply Fin.ext
  match d with
  | ⟨0, _⟩ => show win0_3.index t 0 * 512 + 1 * x.val = a.val; rw [(ix_3 t).1]; omega
  | ⟨1, _⟩ => show win0_3.index t 1 * 512 + 1 * y.val = b.val; rw [(ix_3 t).2]; omega

theorem ix_4 : ∀ t : Fin cfg0.N, win0_4.index t 0 = t.val / 4 ∧ win0_4.index t 1 = 14 + (t.val % 4) :=
  (by decide +kernel : ∀ t : Fin grid0.N, win0_4.index t 0 = t.val / 4 ∧ win0_4.index t 1 = 14 + (t.val % 4))

theorem blk_4 (c : Dev nD) (t : Fin cfg0.N) (x : Fin 512) (y : Fin 512) (a : Fin 4096) (b : Fin 11264)
    (ha : a.val = 512 * (t.val / 4) + x.val) (hb : b.val = 512 * (14 + (t.val % 4)) + y.val) :
    (iblk m c 4 t : S512x512.Idx → EReal) (ix2 x y) = arg4 m c (ix2 a b) := by
  unfold iblk
  rw [View.read_apply]
  show V m c main_arg4 _ = _
  rw [V_main_arg4]
  refine congrArg (arg4 m c) ?_
  funext d
  apply Fin.ext
  match d with
  | ⟨0, _⟩ => show win0_4.index t 0 * 512 + 1 * x.val = a.val; rw [(ix_4 t).1]; omega
  | ⟨1, _⟩ => show win0_4.index t 1 * 512 + 1 * y.val = b.val; rw [(ix_4 t).2]; omega

theorem ix_5 : ∀ t : Fin cfg0.N, win0_5.index t 0 = t.val / 4 ∧ win0_5.index t 1 = 18 + (t.val % 4) :=
  (by decide +kernel : ∀ t : Fin grid0.N, win0_5.index t 0 = t.val / 4 ∧ win0_5.index t 1 = 18 + (t.val % 4))

theorem blk_5 (c : Dev nD) (t : Fin cfg0.N) (x : Fin 512) (y : Fin 512) (a : Fin 4096) (b : Fin 11264)
    (ha : a.val = 512 * (t.val / 4) + x.val) (hb : b.val = 512 * (18 + (t.val % 4)) + y.val) :
    (iblk m c 5 t : S512x512.Idx → EReal) (ix2 x y) = arg4 m c (ix2 a b) := by
  unfold iblk
  rw [View.read_apply]
  show V m c main_arg4 _ = _
  rw [V_main_arg4]
  refine congrArg (arg4 m c) ?_
  funext d
  apply Fin.ext
  match d with
  | ⟨0, _⟩ => show win0_5.index t 0 * 512 + 1 * x.val = a.val; rw [(ix_5 t).1]; omega
  | ⟨1, _⟩ => show win0_5.index t 1 * 512 + 1 * y.val = b.val; rw [(ix_5 t).2]; omega

/-! ## The results' arrays -/

theorem ix_6 : ∀ t : Fin cfg0.N, win0_6.index t 0 = t.val / 4 ∧ win0_6.index t 1 = t.val % 4 :=
  (by decide +kernel : ∀ t : Fin grid0.N, win0_6.index t 0 = t.val / 4 ∧ win0_6.index t 1 = t.val % 4)

def result_6 (c : Dev nD) : S4096x2048.Idx → EReal := fun i => dbranch (fun k => arg0 m c (ix2 (i 0) k)) (fun k => arg1 m c (ix2 (i 1) k)) (arg4 m c (ix2 (i 0) (at7168 (i 1))))

theorem place_6 (c : Dev nD) (t : Fin cfg0.N) (r : Fin 512) (j : Fin 512) : ∃ (a : Fin 4096) (b : Fin 2048), a.val = 512 * (t.val / 4) + r.val ∧
    b.val = 512 * (t.val % 4) + j.val ∧ result_6 m c (((cfg0.win 6).blk t).view.emb (ix2 r j)) = dbranch (fun k => arg0 m c (ix2 a k)) (fun k => arg1 m c (ix2 b k)) (arg4 m c (ix2 a (at7168 b))) := by
  have hp := point_lt t
  refine ⟨_, _, ?_, ?_, rfl⟩
  · show win0_6.index t 0 * 512 + 1 * r.val = _
    rw [(ix_6 t).1]; omega
  · show win0_6.index t 1 * 512 + 1 * j.val = _
    rw [(ix_6 t).2]; omega

theorem flushed_6 (c : Dev nD) (t : Fin cfg0.N) (hf : (cfg0.win 6).flush t = true) :
    (dats m 0 c).flushed 6 t = ((cfg0.win 6).blk t).view.read (Elt Ideal) (result_6 m c) := by
  rw [Value.flushed6]
  funext (y : S512x512.Idx)
  rw [View.read_apply]
  obtain ⟨r, j, rfl⟩ : ∃ (r : Fin 512) (j : Fin 512), y = ix2 r j := ⟨y 0, y 1, eq_ix2 y⟩
  obtain ⟨a, b, ha, hb, e⟩ := place_6 m c t r j
  rw [e]
  refine (pay_6 (iblk m c 0 t) (iblk m c 1 t) (iblk m c 2 t) (iblk m c 3 t) (iblk m c 4 t) (iblk m c 5 t) r j).trans ?_
  rw [(show (fun k => (iblk m c 0 t : S512x2048.Idx → EReal) (ix2 r k)) = (fun k => arg0 m c (ix2 a k)) from funext fun k => blk_0 m c t r k a k ha (by omega)),
    (show (fun k => (iblk m c 1 t : S512x2048.Idx → EReal) (ix2 j k)) = (fun k => arg1 m c (ix2 b k)) from funext fun k => blk_1 m c t j k b k hb (by omega)),
    blk_4 m c t r j a (at7168 b) ha (by show 7168 + b.val = _; omega)]
  rfl

theorem final_6 (c : Dev nD) : (dats m 0 c).arrAt 6 cfg0.N = result_6 m c :=
  (dats m 0 c).arrAt_eq_of_cover 6 _ (flushed_6 m c) fun i =>
    have h0 : (i 0 : Nat) < 4096 := (i 0).isLt
    have h1 : (i 1 : Nat) < 2048 := (i 1).isLt
    have hN : cfg0.N = 32 := N_0
    have ht : 4 * ((i 0 : Nat) / 512) + ((i 1 : Nat) / 512) < cfg0.N := by omega
    ⟨⟨4 * ((i 0 : Nat) / 512) + ((i 1 : Nat) / 512), ht⟩, flush0_6 _, by
      show i ∈ ((View.whole main_v0_0).slice (win0_6.rect ⟨4 * ((i 0 : Nat) / 512) + ((i 1 : Nat) / 512), ht⟩)).set
      rw [View.set_slice_whole, Rect.mem_set_unit]
      have e := ix_6 ⟨4 * ((i 0 : Nat) / 512) + ((i 1 : Nat) / 512), ht⟩
      dsimp only at e
      intro a
      match a with
      | ⟨0, _⟩ => show win0_6.index ⟨4 * ((i 0 : Nat) / 512) + ((i 1 : Nat) / 512), ht⟩ 0 * 512 ≤ (i 0 : Nat) ∧ (i 0 : Nat) < win0_6.index ⟨4 * ((i 0 : Nat) / 512) + ((i 1 : Nat) / 512), ht⟩ 0 * 512 + 512; rw [e.1]; omega
      | ⟨1, _⟩ => show win0_6.index ⟨4 * ((i 0 : Nat) / 512) + ((i 1 : Nat) / 512), ht⟩ 1 * 512 ≤ (i 1 : Nat) ∧ (i 1 : Nat) < win0_6.index ⟨4 * ((i 0 : Nat) / 512) + ((i 1 : Nat) / 512), ht⟩ 1 * 512 + 512; rw [e.2]; omega
      ⟩

theorem ix_7 : ∀ t : Fin cfg0.N, win0_7.index t 0 = t.val / 4 ∧ win0_7.index t 1 = t.val % 4 :=
  (by decide +kernel : ∀ t : Fin grid0.N, win0_7.index t 0 = t.val / 4 ∧ win0_7.index t 1 = t.val % 4)

def result_7 (c : Dev nD) : S4096x2048.Idx → EReal := fun i => dbranch (fun k => arg0 m c (ix2 (i 0) k)) (fun k => arg1 m c (ix2 (i 1) k)) (arg4 m c (ix2 (i 0) (at9216 (i 1))))

theorem place_7 (c : Dev nD) (t : Fin cfg0.N) (r : Fin 512) (j : Fin 512) : ∃ (a : Fin 4096) (b : Fin 2048), a.val = 512 * (t.val / 4) + r.val ∧
    b.val = 512 * (t.val % 4) + j.val ∧ result_7 m c (((cfg0.win 7).blk t).view.emb (ix2 r j)) = dbranch (fun k => arg0 m c (ix2 a k)) (fun k => arg1 m c (ix2 b k)) (arg4 m c (ix2 a (at9216 b))) := by
  have hp := point_lt t
  refine ⟨_, _, ?_, ?_, rfl⟩
  · show win0_7.index t 0 * 512 + 1 * r.val = _
    rw [(ix_7 t).1]; omega
  · show win0_7.index t 1 * 512 + 1 * j.val = _
    rw [(ix_7 t).2]; omega

theorem flushed_7 (c : Dev nD) (t : Fin cfg0.N) (hf : (cfg0.win 7).flush t = true) :
    (dats m 0 c).flushed 7 t = ((cfg0.win 7).blk t).view.read (Elt Ideal) (result_7 m c) := by
  rw [Value.flushed7]
  funext (y : S512x512.Idx)
  rw [View.read_apply]
  obtain ⟨r, j, rfl⟩ : ∃ (r : Fin 512) (j : Fin 512), y = ix2 r j := ⟨y 0, y 1, eq_ix2 y⟩
  obtain ⟨a, b, ha, hb, e⟩ := place_7 m c t r j
  rw [e]
  refine (pay_7 (iblk m c 0 t) (iblk m c 1 t) (iblk m c 2 t) (iblk m c 3 t) (iblk m c 4 t) (iblk m c 5 t) r j).trans ?_
  rw [(show (fun k => (iblk m c 0 t : S512x2048.Idx → EReal) (ix2 r k)) = (fun k => arg0 m c (ix2 a k)) from funext fun k => blk_0 m c t r k a k ha (by omega)),
    (show (fun k => (iblk m c 1 t : S512x2048.Idx → EReal) (ix2 j k)) = (fun k => arg1 m c (ix2 b k)) from funext fun k => blk_1 m c t j k b k hb (by omega)),
    blk_5 m c t r j a (at9216 b) ha (by show 9216 + b.val = _; omega)]
  rfl

theorem final_7 (c : Dev nD) : (dats m 0 c).arrAt 7 cfg0.N = result_7 m c :=
  (dats m 0 c).arrAt_eq_of_cover 7 _ (flushed_7 m c) fun i =>
    have h0 : (i 0 : Nat) < 4096 := (i 0).isLt
    have h1 : (i 1 : Nat) < 2048 := (i 1).isLt
    have hN : cfg0.N = 32 := N_0
    have ht : 4 * ((i 0 : Nat) / 512) + ((i 1 : Nat) / 512) < cfg0.N := by omega
    ⟨⟨4 * ((i 0 : Nat) / 512) + ((i 1 : Nat) / 512), ht⟩, flush0_7 _, by
      show i ∈ ((View.whole main_v0_1).slice (win0_7.rect ⟨4 * ((i 0 : Nat) / 512) + ((i 1 : Nat) / 512), ht⟩)).set
      rw [View.set_slice_whole, Rect.mem_set_unit]
      have e := ix_7 ⟨4 * ((i 0 : Nat) / 512) + ((i 1 : Nat) / 512), ht⟩
      dsimp only at e
      intro a
      match a with
      | ⟨0, _⟩ => show win0_7.index ⟨4 * ((i 0 : Nat) / 512) + ((i 1 : Nat) / 512), ht⟩ 0 * 512 ≤ (i 0 : Nat) ∧ (i 0 : Nat) < win0_7.index ⟨4 * ((i 0 : Nat) / 512) + ((i 1 : Nat) / 512), ht⟩ 0 * 512 + 512; rw [e.1]; omega
      | ⟨1, _⟩ => show win0_7.index ⟨4 * ((i 0 : Nat) / 512) + ((i 1 : Nat) / 512), ht⟩ 1 * 512 ≤ (i 1 : Nat) ∧ (i 1 : Nat) < win0_7.index ⟨4 * ((i 0 : Nat) / 512) + ((i 1 : Nat) / 512), ht⟩ 1 * 512 + 512; rw [e.2]; omega
      ⟩

theorem ix_8 : ∀ t : Fin cfg0.N, win0_8.index t 0 = t.val / 4 ∧ win0_8.index t 1 = t.val % 4 :=
  (by decide +kernel : ∀ t : Fin grid0.N, win0_8.index t 0 = t.val / 4 ∧ win0_8.index t 1 = t.val % 4)

def result_8 (c : Dev nD) : S4096x2048.Idx → EReal := fun i => dgate (fun k => arg0 m c (ix2 (i 0) k)) (fun k => arg1 m c (ix2 (i 1) k)) (arg2 m c (ix2 (i 0) (i 1))) (arg4 m c (ix2 (i 0) (at7168 (i 1))))

theorem place_8 (c : Dev nD) (t : Fin cfg0.N) (r : Fin 512) (j : Fin 512) : ∃ (a : Fin 4096) (b : Fin 2048), a.val = 512 * (t.val / 4) + r.val ∧
    b.val = 512 * (t.val % 4) + j.val ∧ result_8 m c (((cfg0.win 8).blk t).view.emb (ix2 r j)) = dgate (fun k => arg0 m c (ix2 a k)) (fun k => arg1 m c (ix2 b k)) (arg2 m c (ix2 a b)) (arg4 m c (ix2 a (at7168 b))) := by
  have hp := point_lt t
  refine ⟨_, _, ?_, ?_, rfl⟩
  · show win0_8.index t 0 * 512 + 1 * r.val = _
    rw [(ix_8 t).1]; omega
  · show win0_8.index t 1 * 512 + 1 * j.val = _
    rw [(ix_8 t).2]; omega

theorem flushed_8 (c : Dev nD) (t : Fin cfg0.N) (hf : (cfg0.win 8).flush t = true) :
    (dats m 0 c).flushed 8 t = ((cfg0.win 8).blk t).view.read (Elt Ideal) (result_8 m c) := by
  rw [Value.flushed8]
  funext (y : S512x512.Idx)
  rw [View.read_apply]
  obtain ⟨r, j, rfl⟩ : ∃ (r : Fin 512) (j : Fin 512), y = ix2 r j := ⟨y 0, y 1, eq_ix2 y⟩
  obtain ⟨a, b, ha, hb, e⟩ := place_8 m c t r j
  rw [e]
  refine (pay_8 (iblk m c 0 t) (iblk m c 1 t) (iblk m c 2 t) (iblk m c 3 t) (iblk m c 4 t) (iblk m c 5 t) r j).trans ?_
  rw [(show (fun k => (iblk m c 0 t : S512x2048.Idx → EReal) (ix2 r k)) = (fun k => arg0 m c (ix2 a k)) from funext fun k => blk_0 m c t r k a k ha (by omega)),
    (show (fun k => (iblk m c 1 t : S512x2048.Idx → EReal) (ix2 j k)) = (fun k => arg1 m c (ix2 b k)) from funext fun k => blk_1 m c t j k b k hb (by omega)),
    blk_2 m c t r j a b ha hb,
    blk_4 m c t r j a (at7168 b) ha (by show 7168 + b.val = _; omega)]
  rfl

theorem final_8 (c : Dev nD) : (dats m 0 c).arrAt 8 cfg0.N = result_8 m c :=
  (dats m 0 c).arrAt_eq_of_cover 8 _ (flushed_8 m c) fun i =>
    have h0 : (i 0 : Nat) < 4096 := (i 0).isLt
    have h1 : (i 1 : Nat) < 2048 := (i 1).isLt
    have hN : cfg0.N = 32 := N_0
    have ht : 4 * ((i 0 : Nat) / 512) + ((i 1 : Nat) / 512) < cfg0.N := by omega
    ⟨⟨4 * ((i 0 : Nat) / 512) + ((i 1 : Nat) / 512), ht⟩, flush0_8 _, by
      show i ∈ ((View.whole main_v0_2).slice (win0_8.rect ⟨4 * ((i 0 : Nat) / 512) + ((i 1 : Nat) / 512), ht⟩)).set
      rw [View.set_slice_whole, Rect.mem_set_unit]
      have e := ix_8 ⟨4 * ((i 0 : Nat) / 512) + ((i 1 : Nat) / 512), ht⟩
      dsimp only at e
      intro a
      match a with
      | ⟨0, _⟩ => show win0_8.index ⟨4 * ((i 0 : Nat) / 512) + ((i 1 : Nat) / 512), ht⟩ 0 * 512 ≤ (i 0 : Nat) ∧ (i 0 : Nat) < win0_8.index ⟨4 * ((i 0 : Nat) / 512) + ((i 1 : Nat) / 512), ht⟩ 0 * 512 + 512; rw [e.1]; omega
      | ⟨1, _⟩ => show win0_8.index ⟨4 * ((i 0 : Nat) / 512) + ((i 1 : Nat) / 512), ht⟩ 1 * 512 ≤ (i 1 : Nat) ∧ (i 1 : Nat) < win0_8.index ⟨4 * ((i 0 : Nat) / 512) + ((i 1 : Nat) / 512), ht⟩ 1 * 512 + 512; rw [e.2]; omega
      ⟩

theorem ix_9 : ∀ t : Fin cfg0.N, win0_9.index t 0 = t.val / 4 ∧ win0_9.index t 1 = t.val % 4 :=
  (by decide +kernel : ∀ t : Fin grid0.N, win0_9.index t 0 = t.val / 4 ∧ win0_9.index t 1 = t.val % 4)

def result_9 (c : Dev nD) : S4096x2048.Idx → EReal := fun i => dgate (fun k => arg0 m c (ix2 (i 0) k)) (fun k => arg1 m c (ix2 (i 1) k)) (arg3 m c (ix2 (i 0) (i 1))) (arg4 m c (ix2 (i 0) (at9216 (i 1))))

theorem place_9 (c : Dev nD) (t : Fin cfg0.N) (r : Fin 512) (j : Fin 512) : ∃ (a : Fin 4096) (b : Fin 2048), a.val = 512 * (t.val / 4) + r.val ∧
    b.val = 512 * (t.val % 4) + j.val ∧ result_9 m c (((cfg0.win 9).blk t).view.emb (ix2 r j)) = dgate (fun k => arg0 m c (ix2 a k)) (fun k => arg1 m c (ix2 b k)) (arg3 m c (ix2 a b)) (arg4 m c (ix2 a (at9216 b))) := by
  have hp := point_lt t
  refine ⟨_, _, ?_, ?_, rfl⟩
  · show win0_9.index t 0 * 512 + 1 * r.val = _
    rw [(ix_9 t).1]; omega
  · show win0_9.index t 1 * 512 + 1 * j.val = _
    rw [(ix_9 t).2]; omega

theorem flushed_9 (c : Dev nD) (t : Fin cfg0.N) (hf : (cfg0.win 9).flush t = true) :
    (dats m 0 c).flushed 9 t = ((cfg0.win 9).blk t).view.read (Elt Ideal) (result_9 m c) := by
  rw [Value.flushed9]
  funext (y : S512x512.Idx)
  rw [View.read_apply]
  obtain ⟨r, j, rfl⟩ : ∃ (r : Fin 512) (j : Fin 512), y = ix2 r j := ⟨y 0, y 1, eq_ix2 y⟩
  obtain ⟨a, b, ha, hb, e⟩ := place_9 m c t r j
  rw [e]
  refine (pay_9 (iblk m c 0 t) (iblk m c 1 t) (iblk m c 2 t) (iblk m c 3 t) (iblk m c 4 t) (iblk m c 5 t) r j).trans ?_
  rw [(show (fun k => (iblk m c 0 t : S512x2048.Idx → EReal) (ix2 r k)) = (fun k => arg0 m c (ix2 a k)) from funext fun k => blk_0 m c t r k a k ha (by omega)),
    (show (fun k => (iblk m c 1 t : S512x2048.Idx → EReal) (ix2 j k)) = (fun k => arg1 m c (ix2 b k)) from funext fun k => blk_1 m c t j k b k hb (by omega)),
    blk_3 m c t r j a b ha hb,
    blk_5 m c t r j a (at9216 b) ha (by show 9216 + b.val = _; omega)]
  rfl

theorem final_9 (c : Dev nD) : (dats m 0 c).arrAt 9 cfg0.N = result_9 m c :=
  (dats m 0 c).arrAt_eq_of_cover 9 _ (flushed_9 m c) fun i =>
    have h0 : (i 0 : Nat) < 4096 := (i 0).isLt
    have h1 : (i 1 : Nat) < 2048 := (i 1).isLt
    have hN : cfg0.N = 32 := N_0
    have ht : 4 * ((i 0 : Nat) / 512) + ((i 1 : Nat) / 512) < cfg0.N := by omega
    ⟨⟨4 * ((i 0 : Nat) / 512) + ((i 1 : Nat) / 512), ht⟩, flush0_9 _, by
      show i ∈ ((View.whole main_v0_3).slice (win0_9.rect ⟨4 * ((i 0 : Nat) / 512) + ((i 1 : Nat) / 512), ht⟩)).set
      rw [View.set_slice_whole, Rect.mem_set_unit]
      have e := ix_9 ⟨4 * ((i 0 : Nat) / 512) + ((i 1 : Nat) / 512), ht⟩
      dsimp only at e
      intro a
      match a with
      | ⟨0, _⟩ => show win0_9.index ⟨4 * ((i 0 : Nat) / 512) + ((i 1 : Nat) / 512), ht⟩ 0 * 512 ≤ (i 0 : Nat) ∧ (i 0 : Nat) < win0_9.index ⟨4 * ((i 0 : Nat) / 512) + ((i 1 : Nat) / 512), ht⟩ 0 * 512 + 512; rw [e.1]; omega
      | ⟨1, _⟩ => show win0_9.index ⟨4 * ((i 0 : Nat) / 512) + ((i 1 : Nat) / 512), ht⟩ 1 * 512 ≤ (i 1 : Nat) ∧ (i 1 : Nat) < win0_9.index ⟨4 * ((i 0 : Nat) / 512) + ((i 1 : Nat) / 512), ht⟩ 1 * 512 + 512; rw [e.2]; omega
      ⟩

end Cert.OutProjBwdIdeal.Product

namespace Cert.OutProjBwdRefIdeal.Product

open Idealize.ShloMosaic Idealize.ShloMosaic.Tactic Cert.OutProjBwdRefIdeal Cert.OutProjBwdRefIdeal.Gen Cert.OutProjBwdIdeal.Product

/-- The reference's result, element by element. -/
theorem value_6 (x0 : S4096x2048.Idx → EReal) (x1 : S2048x2048.Idx → EReal) (x2 : S4096x2048.Idx → EReal) (x3 : S4096x2048.Idx → EReal) (x4 : S4096x11264.Idx → EReal) (i : Fin 4096) (j : Fin 2048) :
    (truncf (F := Ideal) .bf16 (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 7168] x4 slices_S4096x11264_S4096x2048_0_7168))))) (Host.dotGeneral (F := Ideal) (φ₁ := .f32) (φ₂ := .f32) dot_S4096x2048_S2048x2048_S4096x2048_1_1_0_0_n_n none (extf (F := Ideal) .f32 x0 bitsLt_bf16_f32) (extf (F := Ideal) .f32 x1 bitsLt_bf16_f32))) bitsLt_bf16_f32 : S4096x2048.Idx → EReal) (ix2 i j) = dbranch (fun k => x0 (ix2 i k)) (fun k => x1 (ix2 j k)) (x4 (ix2 i (at7168 j))) := by
  pointwise []
  exact mul_comm _ _

/-- The reference's result, element by element. -/
theorem value_7 (x0 : S4096x2048.Idx → EReal) (x1 : S2048x2048.Idx → EReal) (x2 : S4096x2048.Idx → EReal) (x3 : S4096x2048.Idx → EReal) (x4 : S4096x11264.Idx → EReal) (i : Fin 4096) (j : Fin 2048) :
    (truncf (F := Ideal) .bf16 (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 9216] x4 slices_S4096x11264_S4096x2048_0_9216))))) (Host.dotGeneral (F := Ideal) (φ₁ := .f32) (φ₂ := .f32) dot_S4096x2048_S2048x2048_S4096x2048_1_1_0_0_n_n none (extf (F := Ideal) .f32 x0 bitsLt_bf16_f32) (extf (F := Ideal) .f32 x1 bitsLt_bf16_f32))) bitsLt_bf16_f32 : S4096x2048.Idx → EReal) (ix2 i j) = dbranch (fun k => x0 (ix2 i k)) (fun k => x1 (ix2 j k)) (x4 (ix2 i (at9216 j))) := by
  pointwise []
  exact mul_comm _ _

/-- The reference's result, element by element. -/
theorem value_8 (x0 : S4096x2048.Idx → EReal) (x1 : S2048x2048.Idx → EReal) (x2 : S4096x2048.Idx → EReal) (x3 : S4096x2048.Idx → EReal) (x4 : S4096x11264.Idx → EReal) (i : Fin 4096) (j : Fin 2048) :
    (truncf (F := Ideal) .bf16 (mulf (mulf (Host.dotGeneral (F := Ideal) (φ₁ := .f32) (φ₂ := .f32) dot_S4096x2048_S2048x2048_S4096x2048_1_1_0_0_n_n none (extf (F := Ideal) .f32 x0 bitsLt_bf16_f32) (extf (F := Ideal) .f32 x1 bitsLt_bf16_f32)) (extf (F := Ideal) .f32 x2 bitsLt_bf16_f32)) (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 7168] x4 slices_S4096x11264_S4096x2048_0_7168))))) (subf (broadcastInDim S4096x2048 ![] bcast_S_S4096x2048 (constant (F := Ideal) S_ .f32 0x3F800000#32)) (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 7168] x4 slices_S4096x11264_S4096x2048_0_7168)))))))) bitsLt_bf16_f32 : S4096x2048.Idx → EReal) (ix2 i j) = dgate (fun k => x0 (ix2 i k)) (fun k => x1 (ix2 j k)) (x2 (ix2 i j)) (x4 (ix2 i (at7168 j))) := by
  pointwise []
  exact (mul_assoc _ _ _).symm

/-- The reference's result, element by element. -/
theorem value_9 (x0 : S4096x2048.Idx → EReal) (x1 : S2048x2048.Idx → EReal) (x2 : S4096x2048.Idx → EReal) (x3 : S4096x2048.Idx → EReal) (x4 : S4096x11264.Idx → EReal) (i : Fin 4096) (j : Fin 2048) :
    (truncf (F := Ideal) .bf16 (mulf (mulf (Host.dotGeneral (F := Ideal) (φ₁ := .f32) (φ₂ := .f32) dot_S4096x2048_S2048x2048_S4096x2048_1_1_0_0_n_n none (extf (F := Ideal) .f32 x0 bitsLt_bf16_f32) (extf (F := Ideal) .f32 x1 bitsLt_bf16_f32)) (extf (F := Ideal) .f32 x3 bitsLt_bf16_f32)) (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 9216] x4 slices_S4096x11264_S4096x2048_0_9216))))) (subf (broadcastInDim S4096x2048 ![] bcast_S_S4096x2048 (constant (F := Ideal) S_ .f32 0x3F800000#32)) (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 9216] x4 slices_S4096x11264_S4096x2048_0_9216)))))))) bitsLt_bf16_f32 : S4096x2048.Idx → EReal) (ix2 i j) = dgate (fun k => x0 (ix2 i k)) (fun k => x1 (ix2 j k)) (x3 (ix2 i j)) (x4 (ix2 i (at9216 j))) := by
  pointwise []
  exact (mul_assoc _ _ _).symm

end Cert.OutProjBwdRefIdeal.Product

namespace Cert.Proof.OutProjBwdClaims

open Idealize.ShloMosaic Idealize.ShloMosaic.TcCoe Idealize.ShloMosaic.Tactic Idealize.SL.Sem

theorem frame_p : Cert.quiescent_OutProjBwd (hOutProjBwd := Cert.OutProjBwd.Gen.facts) := fun m ρ _ => Cert.OutProjBwd.Gen.frame m ρ
theorem frame_pi : Cert.quiescent_OutProjBwdIdeal (hOutProjBwdIdeal := Cert.OutProjBwdIdeal.Gen.facts) := fun m ρ _ => Cert.OutProjBwdIdeal.Gen.frame m ρ
theorem frame_ri : Cert.quiescent_OutProjBwdRefIdeal (hOutProjBwdRefIdeal := Cert.OutProjBwdRefIdeal.Gen.facts) := fun m ρ _ =>
  (θ_run Cert.OutProjBwdRefIdeal.defs _ _).mono (fun r h => ⟨fun c => (h c).2.2.2.2, Idealize.ShloMosaic.sem_eq_zero_of_no_sems (by decide) r.2⟩)
    (Cert.OutProjBwdRefIdeal.Value.run (F := Ideal) m ρ)
theorem preserves : Cert.preserves_OutProjBwd_OutProjBwdIdeal := trivial

theorem algebraic : Cert.algebraic_OutProjBwdIdeal_OutProjBwdRefIdeal (hOutProjBwdIdeal := Cert.OutProjBwdIdeal.Gen.facts) (hOutProjBwdRefIdeal := Cert.OutProjBwdRefIdeal.Gen.facts) := by
  intro m ρ m' ρ' _ hagree
  refine ⟨_, _, _, _, Cert.OutProjBwdIdeal.Value.run_blocks m ρ, ?_⟩
  refine (θ_run Cert.OutProjBwdRefIdeal.defs _ _).mono (fun _ h c => ?_) (Cert.OutProjBwdRefIdeal.Value.run (F := Ideal) m' ρ')
  obtain ⟨e0, e1, e2, e3, e4⟩ := hagree c
  obtain ⟨r0, r1, r2, r3, rest⟩ := h c
  refine ⟨r0.trans ?_, r1.trans ?_, r2.trans ?_, r3.trans ?_, rest⟩
  · rw [e0, e1, e4, Cert.OutProjBwdIdeal.Product.final_6 m c]
    funext y
    obtain ⟨i, j, rfl⟩ : ∃ (i : Fin 4096) (j : Fin 2048), y = ix2 i j := ⟨y 0, y 1, eq_ix2 y⟩
    exact Cert.OutProjBwdRefIdeal.Product.value_6 (Cert.OutProjBwdIdeal.Product.arg0 m c) (Cert.OutProjBwdIdeal.Product.arg1 m c) (Cert.OutProjBwdIdeal.Product.arg2 m c) (Cert.OutProjBwdIdeal.Product.arg3 m c) (Cert.OutProjBwdIdeal.Product.arg4 m c) i j
  · rw [e0, e1, e4, Cert.OutProjBwdIdeal.Product.final_7 m c]
    funext y
    obtain ⟨i, j, rfl⟩ : ∃ (i : Fin 4096) (j : Fin 2048), y = ix2 i j := ⟨y 0, y 1, eq_ix2 y⟩
    exact Cert.OutProjBwdRefIdeal.Product.value_7 (Cert.OutProjBwdIdeal.Product.arg0 m c) (Cert.OutProjBwdIdeal.Product.arg1 m c) (Cert.OutProjBwdIdeal.Product.arg2 m c) (Cert.OutProjBwdIdeal.Product.arg3 m c) (Cert.OutProjBwdIdeal.Product.arg4 m c) i j
  · rw [e0, e1, e2, e4, Cert.OutProjBwdIdeal.Product.final_8 m c]
    funext y
    obtain ⟨i, j, rfl⟩ : ∃ (i : Fin 4096) (j : Fin 2048), y = ix2 i j := ⟨y 0, y 1, eq_ix2 y⟩
    exact Cert.OutProjBwdRefIdeal.Product.value_8 (Cert.OutProjBwdIdeal.Product.arg0 m c) (Cert.OutProjBwdIdeal.Product.arg1 m c) (Cert.OutProjBwdIdeal.Product.arg2 m c) (Cert.OutProjBwdIdeal.Product.arg3 m c) (Cert.OutProjBwdIdeal.Product.arg4 m c) i j
  · rw [e0, e1, e3, e4, Cert.OutProjBwdIdeal.Product.final_9 m c]
    funext y
    obtain ⟨i, j, rfl⟩ : ∃ (i : Fin 4096) (j : Fin 2048), y = ix2 i j := ⟨y 0, y 1, eq_ix2 y⟩
    exact Cert.OutProjBwdRefIdeal.Product.value_9 (Cert.OutProjBwdIdeal.Product.arg0 m c) (Cert.OutProjBwdIdeal.Product.arg1 m c) (Cert.OutProjBwdIdeal.Product.arg2 m c) (Cert.OutProjBwdIdeal.Product.arg3 m c) (Cert.OutProjBwdIdeal.Product.arg4 m c) i j

end Cert.Proof.OutProjBwdClaims

end
-- ==== Proof.DSguProduct.lean ====
/-
  The gradient of the gating unit's output: dyb · w_bᵀ. The kernel's result is the product of its two arguments' numbers; so is the reference's.
-/
module

public import proofs.«01_k».proof.Proof.Products
public import proofs.«01_k».proof.Defs
public import proofs.«01_k».proof.Proof.Gen.DSgu.Frame
public import proofs.«01_k».proof.Proof.Gen.DSguIdeal.Frame
public import proofs.«01_k».proof.Proof.Gen.DSguIdeal.Value
public import proofs.«01_k».proof.Proof.Gen.DSguRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DSguIdeal.Product

open Idealize.ShloMosaic Idealize.ShloMosaic.TcCoe Idealize.ShloMosaic.Tactic Cert.DSguIdeal Cert.DSguIdeal.Gen Cert.Products

/-- The product's term. -/
def term (x : S4096x2048.Idx → EReal) (w : S1024x2048.Idx → EReal) (i : Fin 4096) (j : Fin 1024) (k : Fin 2048) : EReal := x (ix2 i k) * w (ix2 j k)

/-! ## What the body computes of its blocks -/

theorem pay_out (x : S512x2048.Idx → EReal) (w : S1024x2048.Idx → EReal) (r : Fin 512) (j : Fin 1024) :
    out0_2 (F := Ideal) x w (ix2 r j) = ∑ k : Fin 2048, x (ix2 r k) * w (ix2 j k) := by
  unfold out0_2
  simp (disch := decide) only [View.canon_cons_unit_lit, View.ld_unit_lit]
  pointwise [k0_pay1]

variable (m : (ℓ : Loc nD τ sig) → Buf (Elt Ideal) ℓ)

/-- The two arguments. -/
abbrev lhs (c : Dev nD) : S4096x2048.Idx → EReal := m ((c : Thread nD τ).loc main_arg0)
abbrev rhs (c : Dev nD) : S1024x2048.Idx → EReal := m ((c : Thread nD τ).loc main_arg1)

/-! ## The blocks -/

theorem point_lt (t : Fin cfg0.N) : t.val < 8 := by have := t.isLt; have hN : cfg0.N = 8 := N_0; omega

theorem ix_0 : ∀ t : Fin cfg0.N, win0_0.index t 0 = t.val / 1 ∧ win0_0.index t 1 = 0 :=
  (by decide +kernel : ∀ t : Fin grid0.N, win0_0.index t 0 = t.val / 1 ∧ win0_0.index t 1 = 0)
theorem ix_1 : ∀ t : Fin cfg0.N, win0_1.index t 0 = 0 ∧ win0_1.index t 1 = 0 :=
  (by decide +kernel : ∀ t : Fin grid0.N, win0_1.index t 0 = 0 ∧ win0_1.index t 1 = 0)

theorem blk_0 (c : Dev nD) (t : Fin cfg0.N) (r : Fin 512) (k : Fin 2048) (a : Fin 4096) (b : Fin 2048) (ha : a.val = 512 * (t.val / 1) + r.val)
    (hb : b.val = 2048 * (0) + k.val) : (iblk m c 0 t : S512x2048.Idx → EReal) (ix2 r k) = lhs m c (ix2 a b) := by
  unfold iblk
  rw [View.read_apply]
  show V m c main_arg0 _ = _
  rw [V_main_arg0]
  refine congrArg (lhs m c) ?_
  funext d
  apply Fin.ext
  match d with
  | ⟨0, _⟩ => show win0_0.index t 0 * 512 + 1 * r.val = a.val; rw [(ix_0 t).1]; omega
  | ⟨1, _⟩ => show win0_0.index t 1 * 2048 + 1 * k.val = b.val; rw [(ix_0 t).2]; omega

theorem blk_1 (c : Dev nD) (t : Fin cfg0.N) (j : Fin 1024) (k : Fin 2048) (a : Fin 1024) (b : Fin 2048) (ha : a.val = 1024 * (0) + j.val)
    (hb : b.val = 2048 * (0) + k.val) : (iblk m c 1 t : S1024x2048.Idx → EReal) (ix2 j k) = rhs m c (ix2 a b) := by
  unfold iblk
  rw [View.read_apply]
  show V m c main_arg1 _ = _
  rw [V_main_arg1]
  refine congrArg (rhs m c) ?_
  funext d
  apply Fin.ext
  match d with
  | ⟨0, _⟩ => show win0_1.index t 0 * 1024 + 1 * j.val = a.val; rw [(ix_1 t).1]; omega
  | ⟨1, _⟩ => show win0_1.index t 1 * 2048 + 1 * k.val = b.val; rw [(ix_1 t).2]; omega

/-! ## The result's array -/

theorem ix_2 : ∀ t : Fin cfg0.N, win0_2.index t 0 = t.val / 1 ∧ win0_2.index t 1 = 0 :=
  (by decide +kernel : ∀ t : Fin grid0.N, win0_2.index t 0 = t.val / 1 ∧ win0_2.index t 1 = 0)

/-- The kernel's result. -/
def result (c : Dev nD) : S4096x1024.Idx → EReal := fun i : S4096x1024.Idx => ∑ k, term (lhs m c) (rhs m c) (i 0) (i 1) k

/-- Where point `t`'s block stands in the result. -/
theorem place (c : Dev nD) (t : Fin cfg0.N) (r : Fin 512) (j : Fin 1024) : ∃ (a : Fin 4096) (b : Fin 1024), a.val = 512 * (t.val / 1) + r.val ∧
    b.val = 1024 * (0) + j.val ∧ result m c (((cfg0.win 2).blk t).view.emb (ix2 r j)) = ∑ k, term (lhs m c) (rhs m c) a b k := by
  have hp := point_lt t
  have hr := r.isLt
  have hj := j.isLt
  refine ⟨_, _, ?_, ?_, rfl⟩
  · show win0_2.index t 0 * 512 + 1 * r.val = _
    rw [(ix_2 t).1]; omega
  · show win0_2.index t 1 * 1024 + 1 * j.val = _
    rw [(ix_2 t).2]; omega

theorem flushed (c : Dev nD) (t : Fin cfg0.N) (hf : (cfg0.win 2).flush t = true) :
    (dats m 0 c).flushed 2 t = ((cfg0.win 2).blk t).view.read (Elt Ideal) (result m c) := by
  rw [Value.flushed2]
  funext (y : S512x1024.Idx)
  rw [View.read_apply]
  obtain ⟨r, j, rfl⟩ : ∃ (r : Fin 512) (j : Fin 1024), y = ix2 r j := ⟨y 0, y 1, eq_ix2 y⟩
  obtain ⟨a, b, ha, hb, e⟩ := place m c t r j
  rw [e]
  refine (pay_out (iblk m c 0 t) (iblk m c 1 t) r j).trans (Finset.sum_congr rfl fun k _ => ?_)
  rw [blk_0 m c t r k a k ha (by omega), blk_1 m c t j k b k hb (by omega)]
  rfl

theorem final (c : Dev nD) : (dats m 0 c).arrAt 2 cfg0.N = result m c :=
  (dats m 0 c).arrAt_eq_of_cover 2 _ (flushed m c) fun i =>
    have h0 : (i 0 : Nat) < 4096 := (i 0).isLt
    have h1 : (i 1 : Nat) < 1024 := (i 1).isLt
    have hN : cfg0.N = 8 := N_0
    have ht : 1 * ((i 0 : Nat) / 512) < cfg0.N := by omega
    ⟨⟨1 * ((i 0 : Nat) / 512), ht⟩, flush0_2 _, by
      show i ∈ ((View.whole main_v0).slice (win0_2.rect ⟨1 * ((i 0 : Nat) / 512), ht⟩)).set
      rw [View.set_slice_whole, Rect.mem_set_unit]
      have e := ix_2 ⟨1 * ((i 0 : Nat) / 512), ht⟩
      dsimp only at e
      intro a
      match a with
      | ⟨0, _⟩ => show win0_2.index ⟨1 * ((i 0 : Nat) / 512), ht⟩ 0 * 512 ≤ (i 0 : Nat) ∧ (i 0 : Nat) < win0_2.index ⟨1 * ((i 0 : Nat) / 512), ht⟩ 0 * 512 + 512; rw [e.1]; omega
      | ⟨1, _⟩ => show win0_2.index ⟨1 * ((i 0 : Nat) / 512), ht⟩ 1 * 1024 ≤ (i 1 : Nat) ∧ (i 1 : Nat) < win0_2.index ⟨1 * ((i 0 : Nat) / 512), ht⟩ 1 * 1024 + 1024; rw [e.2]; omega
      ⟩

end Cert.DSguIdeal.Product

namespace Cert.DSguRefIdeal.Product

open Idealize.ShloMosaic Idealize.ShloMosaic.Tactic Cert.DSguRefIdeal Cert.DSguRefIdeal.Gen

/-- The reference's result, element by element. -/
theorem value (x : S4096x2048.Idx → EReal) (w : S1024x2048.Idx → EReal) (i : Fin 4096) (j : Fin 1024) :
    (Host.dotGeneral (F := Ideal) (φ₁ := .f32) (φ₂ := .f32) dot_S4096x2048_S1024x2048_S4096x1024_1_1_0_0_n_n none (extf (F := Ideal) .f32 x bitsLt_bf16_f32) (extf (F := Ideal) .f32 w bitsLt_bf16_f32)) (ix2 i j) = ∑ k, Cert.DSguIdeal.Product.term x w i j k := by
  pointwise []
  unfold Cert.DSguIdeal.Product.term
  rfl

end Cert.DSguRefIdeal.Product

namespace Cert.Proof.DSguClaims

open Idealize.ShloMosaic Idealize.ShloMosaic.TcCoe Idealize.ShloMosaic.Tactic Idealize.SL.Sem

theorem frame_p : Cert.quiescent_DSgu (hDSgu := Cert.DSgu.Gen.facts) := fun m ρ _ => Cert.DSgu.Gen.frame m ρ
theorem frame_pi : Cert.quiescent_DSguIdeal (hDSguIdeal := Cert.DSguIdeal.Gen.facts) := fun m ρ _ => Cert.DSguIdeal.Gen.frame m ρ
theorem frame_ri : Cert.quiescent_DSguRefIdeal (hDSguRefIdeal := Cert.DSguRefIdeal.Gen.facts) := fun m ρ _ =>
  (θ_run Cert.DSguRefIdeal.defs _ _).mono (fun r h => ⟨fun c => (h c).2, Idealize.ShloMosaic.sem_eq_zero_of_no_sems (by decide) r.2⟩)
    (Cert.DSguRefIdeal.Value.run (F := Ideal) m ρ)
theorem preserves : Cert.preserves_DSgu_DSguIdeal := trivial

theorem algebraic : Cert.algebraic_DSguIdeal_DSguRefIdeal (hDSguIdeal := Cert.DSguIdeal.Gen.facts) (hDSguRefIdeal := Cert.DSguRefIdeal.Gen.facts) := by
  intro m ρ m' ρ' _ hagree
  refine ⟨_, Cert.DSguIdeal.Value.run_blocks m ρ, ?_⟩
  refine (θ_run Cert.DSguRefIdeal.defs _ _).mono (fun _ h c => ?_) (Cert.DSguRefIdeal.Value.run (F := Ideal) m' ρ')
  obtain ⟨e0, e1⟩ := hagree c
  obtain ⟨r0, rest⟩ := h c
  refine ⟨r0.trans ?_, rest⟩
  rw [e0, e1, Cert.DSguIdeal.Product.final m c]
  funext y
  obtain ⟨i, j, rfl⟩ : ∃ (i : Fin 4096) (j : Fin 1024), y = ix2 i j := ⟨y 0, y 1, eq_ix2 y⟩
  exact Cert.DSguRefIdeal.Product.value _ _ i j

end Cert.Proof.DSguClaims

end
-- ==== Proof.DwBProduct.lean ====
/-
  The gradient of the gating unit's output weight, cut over the devices: sguᵀ · dyb. The kernel's result is the product of its two arguments' numbers; so is the reference's.
-/
module

public import proofs.«01_k».proof.Proof.Products
public import proofs.«01_k».proof.Defs
public import proofs.«01_k».proof.Proof.Gen.DwB.Frame
public import proofs.«01_k».proof.Proof.Gen.DwBIdeal.Frame
public import proofs.«01_k».proof.Proof.Gen.DwBIdeal.Value
public import proofs.«01_k».proof.Proof.Gen.DwBRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DwBIdeal.Product

open Idealize.ShloMosaic Idealize.ShloMosaic.TcCoe Idealize.ShloMosaic.Tactic Cert.DwBIdeal Cert.DwBIdeal.Gen Cert.Products

/-- The product's term. -/
def term (x : S4096x1024.Idx → EReal) (w : S4096x2048.Idx → EReal) (i : Fin 1024) (j : Fin 2048) (k : Fin 4096) : EReal := x (ix2 k i) * w (ix2 k j)

/-! ## What the body computes of its blocks -/

theorem pay_out (x : S4096x512.Idx → EReal) (w : S4096x512.Idx → EReal) (r : Fin 512) (j : Fin 512) :
    out0_2 (F := Ideal) x w (ix4 0 0 r j) = ∑ k : Fin 4096, x (ix2 k r) * w (ix2 k j) := by
  unfold out0_2
  simp (disch := decide) only [View.canon_cons_unit_lit, View.ld_unit_lit]
  pointwise [k0_pay1]

variable (m : (ℓ : Loc nD τ sig) → Buf (Elt Ideal) ℓ)

/-- The two arguments. -/
abbrev lhs (c : Dev nD) : S4096x1024.Idx → EReal := m ((c : Thread nD τ).loc main_arg0)
abbrev rhs (c : Dev nD) : S4096x2048.Idx → EReal := m ((c : Thread nD τ).loc main_arg1)

/-! ## The blocks -/

theorem point_lt (t : Fin cfg0.N) : t.val < 8 := by have := t.isLt; have hN : cfg0.N = 8 := N_0; omega

theorem ix_0 : ∀ t : Fin cfg0.N, win0_0.index t 0 = 0 ∧ win0_0.index t 1 = t.val / 4 :=
  (by decide +kernel : ∀ t : Fin grid0.N, win0_0.index t 0 = 0 ∧ win0_0.index t 1 = t.val / 4)
theorem ix_1 : ∀ t : Fin cfg0.N, win0_1.index t 0 = 0 ∧ win0_1.index t 1 = t.val % 4 :=
  (by decide +kernel : ∀ t : Fin grid0.N, win0_1.index t 0 = 0 ∧ win0_1.index t 1 = t.val % 4)

theorem blk_0 (c : Dev nD) (t : Fin cfg0.N) (r : Fin 512) (k : Fin 4096) (a : Fin 1024) (b : Fin 4096) (ha : a.val = 512 * (t.val / 4) + r.val)
    (hb : b.val = 4096 * (0) + k.val) : (iblk m c 0 t : S4096x512.Idx → EReal) (ix2 k r) = lhs m c (ix2 b a) := by
  unfold iblk
  rw [View.read_apply]
  show V m c main_arg0 _ = _
  rw [V_main_arg0]
  refine congrArg (lhs m c) ?_
  funext d
  apply Fin.ext
  match d with
  | ⟨0, _⟩ => show win0_0.index t 0 * 4096 + 1 * k.val = b.val; rw [(ix_0 t).1]; omega
  | ⟨1, _⟩ => show win0_0.index t 1 * 512 + 1 * r.val = a.val; rw [(ix_0 t).2]; omega

theorem blk_1 (c : Dev nD) (t : Fin cfg0.N) (j : Fin 512) (k : Fin 4096) (a : Fin 2048) (b : Fin 4096) (ha : a.val = 512 * (t.val % 4) + j.val)
    (hb : b.val = 4096 * (0) + k.val) : (iblk m c 1 t : S4096x512.Idx → EReal) (ix2 k j) = rhs m c (ix2 b a) := by
  unfold iblk
  rw [View.read_apply]
  show V m c main_arg1 _ = _
  rw [V_main_arg1]
  refine congrArg (rhs m c) ?_
  funext d
  apply Fin.ext
  match d with
  | ⟨0, _⟩ => show win0_1.index t 0 * 4096 + 1 * k.val = b.val; rw [(ix_1 t).1]; omega
  | ⟨1, _⟩ => show win0_1.index t 1 * 512 + 1 * j.val = a.val; rw [(ix_1 t).2]; omega

/-- The result cuts the product's columns into four and its rows into two: where an element stands in the product. -/
def row (i : S4x2x512x512.Idx) : Fin 1024 :=
  ⟨(i 1).val * 512 + (i 2).val, by have h1 : (i 1).val < 2 := (i 1).isLt; have h2 : (i 2).val < 512 := (i 2).isLt; omega⟩
def col (i : S4x2x512x512.Idx) : Fin 2048 :=
  ⟨(i 0).val * 512 + (i 3).val, by have h0 : (i 0).val < 4 := (i 0).isLt; have h3 : (i 3).val < 512 := (i 3).isLt; omega⟩

/-! ## The result's array -/

theorem ix_2 : ∀ t : Fin cfg0.N, win0_2.index t 0 = t.val % 4 ∧ win0_2.index t 1 = t.val / 4 ∧ win0_2.index t 2 = 0 ∧ win0_2.index t 3 = 0 :=
  (by decide +kernel : ∀ t : Fin grid0.N, win0_2.index t 0 = t.val % 4 ∧ win0_2.index t 1 = t.val / 4 ∧ win0_2.index t 2 = 0 ∧ win0_2.index t 3 = 0)

/-- The kernel's result. -/
def result (c : Dev nD) : S4x2x512x512.Idx → EReal := fun i : S4x2x512x512.Idx => ∑ k, term (lhs m c) (rhs m c) (row i) (col i) k

/-- Where point `t`'s block stands in the result. -/
theorem place (c : Dev nD) (t : Fin cfg0.N) (r : Fin 512) (j : Fin 512) : ∃ (a : Fin 1024) (b : Fin 2048), a.val = 512 * (t.val / 4) + r.val ∧
    b.val = 512 * (t.val % 4) + j.val ∧ result m c (((cfg0.win 2).blk t).view.emb (ix4 0 0 r j)) = ∑ k, term (lhs m c) (rhs m c) a b k := by
  have hp := point_lt t
  have hr := r.isLt
  have hj := j.isLt
  refine ⟨_, _, ?_, ?_, rfl⟩
  · show (win0_2.index t 1 * 1 + 1 * 0) * 512 + (win0_2.index t 2 * 512 + 1 * r.val) = _
    rw [(ix_2 t).2.1, (ix_2 t).2.2.1]; omega
  · show (win0_2.index t 0 * 1 + 1 * 0) * 512 + (win0_2.index t 3 * 512 + 1 * j.val) = _
    rw [(ix_2 t).1, (ix_2 t).2.2.2]; omega

theorem flushed (c : Dev nD) (t : Fin cfg0.N) (hf : (cfg0.win 2).flush t = true) :
    (dats m 0 c).flushed 2 t = ((cfg0.win 2).blk t).view.read (Elt Ideal) (result m c) := by
  rw [Value.flushed2]
  funext (y : S1x1x512x512.Idx)
  rw [View.read_apply]
  obtain ⟨r, j, rfl⟩ : ∃ (r : Fin 512) (j : Fin 512), y = ix4 0 0 r j := by
    refine ⟨y 2, y 3, ?_⟩
    funext d
    match d with
    | ⟨0, _⟩ => exact Subsingleton.elim (α := Fin 1) _ _
    | ⟨1, _⟩ => exact Subsingleton.elim (α := Fin 1) _ _
    | ⟨2, _⟩ => rfl
    | ⟨3, _⟩ => rfl
  obtain ⟨a, b, ha, hb, e⟩ := place m c t r j
  rw [e]
  refine (pay_out (iblk m c 0 t) (iblk m c 1 t) r j).trans (Finset.sum_congr rfl fun k _ => ?_)
  rw [blk_0 m c t r k a k ha (by omega), blk_1 m c t j k b k hb (by omega)]
  rfl

theorem final (c : Dev nD) : (dats m 0 c).arrAt 2 cfg0.N = result m c :=
  (dats m 0 c).arrAt_eq_of_cover 2 _ (flushed m c) fun i =>
    have h0 : (i 0 : Nat) < 4 := (i 0).isLt
    have h1 : (i 1 : Nat) < 2 := (i 1).isLt
    have h2 : (i 2 : Nat) < 512 := (i 2).isLt
    have h3 : (i 3 : Nat) < 512 := (i 3).isLt
    have hN : cfg0.N = 8 := N_0
    have ht : 4 * ((i 1 : Nat)) + 1 * ((i 0 : Nat)) < cfg0.N := by omega
    ⟨⟨4 * ((i 1 : Nat)) + 1 * ((i 0 : Nat)), ht⟩, flush0_2 _, by
      show i ∈ ((View.whole main_v0).slice (win0_2.rect ⟨4 * ((i 1 : Nat)) + 1 * ((i 0 : Nat)), ht⟩)).set
      rw [View.set_slice_whole, Rect.mem_set_unit]
      have e := ix_2 ⟨4 * ((i 1 : Nat)) + 1 * ((i 0 : Nat)), ht⟩
      dsimp only at e
      intro a
      match a with
      | ⟨0, _⟩ => show win0_2.index ⟨4 * ((i 1 : Nat)) + 1 * ((i 0 : Nat)), ht⟩ 0 * 1 ≤ (i 0 : Nat) ∧ (i 0 : Nat) < win0_2.index ⟨4 * ((i 1 : Nat)) + 1 * ((i 0 : Nat)), ht⟩ 0 * 1 + 1; rw [e.1]; omega
      | ⟨1, _⟩ => show win0_2.index ⟨4 * ((i 1 : Nat)) + 1 * ((i 0 : Nat)), ht⟩ 1 * 1 ≤ (i 1 : Nat) ∧ (i 1 : Nat) < win0_2.index ⟨4 * ((i 1 : Nat)) + 1 * ((i 0 : Nat)), ht⟩ 1 * 1 + 1; rw [e.2.1]; omega
      | ⟨2, _⟩ => show win0_2.index ⟨4 * ((i 1 : Nat)) + 1 * ((i 0 : Nat)), ht⟩ 2 * 512 ≤ (i 2 : Nat) ∧ (i 2 : Nat) < win0_2.index ⟨4 * ((i 1 : Nat)) + 1 * ((i 0 : Nat)), ht⟩ 2 * 512 + 512; rw [e.2.2.1]; omega
      | ⟨3, _⟩ => show win0_2.index ⟨4 * ((i 1 : Nat)) + 1 * ((i 0 : Nat)), ht⟩ 3 * 512 ≤ (i 3 : Nat) ∧ (i 3 : Nat) < win0_2.index ⟨4 * ((i 1 : Nat)) + 1 * ((i 0 : Nat)), ht⟩ 3 * 512 + 512; rw [e.2.2.2]; omega
      ⟩

end Cert.DwBIdeal.Product

namespace Cert.DwBRefIdeal.Product

open Idealize.ShloMosaic Idealize.ShloMosaic.Tactic Cert.DwBRefIdeal Cert.DwBRefIdeal.Gen

/-- The reference's result, element by element. -/
theorem value (x : S4096x1024.Idx → EReal) (w : S4096x2048.Idx → EReal) (p : Fin 4) (q : Fin 2) (r : Fin 512) (j : Fin 512) :
    (truncf (F := Ideal) .bf16 (transpose S4x2x512x512 [2, 0, 1, 3] (shapeCast _ (transpose S1024x2048 [1, 0] (Host.dotGeneral (F := Ideal) (φ₁ := .f32) (φ₂ := .f32) dot_S4096x2048_S4096x1024_S2048x1024_0_0_1_1_n_n none (extf (F := Ideal) .f32 w bitsLt_bf16_f32) (extf (F := Ideal) .f32 x bitsLt_bf16_f32)) transposes_S2048x1024_S1024x2048_1_0) shapeCasts_S1024x2048_S2x512x4x512) transposes_S2x512x4x512_S4x2x512x512_2_0_1_3) bitsLt_bf16_f32) (ix4 p q r j) = ∑ k, Cert.DwBIdeal.Product.term x w (Cert.DwBIdeal.Product.row (ix4 p q r j)) (Cert.DwBIdeal.Product.col (ix4 p q r j)) k := by
  pointwise []
  unfold Cert.DwBIdeal.Product.term
  exact Finset.sum_congr rfl fun k _ => mul_comm _ _

end Cert.DwBRefIdeal.Product

namespace Cert.Proof.DwBClaims

open Idealize.ShloMosaic Idealize.ShloMosaic.TcCoe Idealize.ShloMosaic.Tactic Idealize.SL.Sem

theorem frame_p : Cert.quiescent_DwB (hDwB := Cert.DwB.Gen.facts) := fun m ρ _ => Cert.DwB.Gen.frame m ρ
theorem frame_pi : Cert.quiescent_DwBIdeal (hDwBIdeal := Cert.DwBIdeal.Gen.facts) := fun m ρ _ => Cert.DwBIdeal.Gen.frame m ρ
theorem frame_ri : Cert.quiescent_DwBRefIdeal (hDwBRefIdeal := Cert.DwBRefIdeal.Gen.facts) := fun m ρ _ =>
  (θ_run Cert.DwBRefIdeal.defs _ _).mono (fun r h => ⟨fun c => (h c).2, Idealize.ShloMosaic.sem_eq_zero_of_no_sems (by decide) r.2⟩)
    (Cert.DwBRefIdeal.Value.run (F := Ideal) m ρ)
theorem preserves : Cert.preserves_DwB_DwBIdeal := trivial

theorem algebraic : Cert.algebraic_DwBIdeal_DwBRefIdeal (hDwBIdeal := Cert.DwBIdeal.Gen.facts) (hDwBRefIdeal := Cert.DwBRefIdeal.Gen.facts) := by
  intro m ρ m' ρ' _ hagree
  refine ⟨_, Cert.DwBIdeal.Value.run_blocks m ρ, ?_⟩
  refine (θ_run Cert.DwBRefIdeal.defs _ _).mono (fun _ h c => ?_) (Cert.DwBRefIdeal.Value.run (F := Ideal) m' ρ')
  obtain ⟨e0, e1⟩ := hagree c
  obtain ⟨r0, rest⟩ := h c
  refine ⟨r0.trans ?_, rest⟩
  rw [e0, e1, Cert.DwBIdeal.Product.final m c]
  funext y
  obtain ⟨p, q, r, j, rfl⟩ : ∃ (p : Fin 4) (q : Fin 2) (r : Fin 512) (j : Fin 512), y = ix4 p q r j := ⟨y 0, y 1, y 2, y 3, eq_ix4 y⟩
  exact Cert.DwBRefIdeal.Product.value _ _ p q r j

end Cert.Proof.DwBClaims

end
-- ==== Proof.DyaPreProduct.lean ====
/-
  The gradient of the normed recurrence: dya · w_aᵀ. The kernel's result is the product of its two arguments' numbers; so is the reference's.
-/
module

public import proofs.«01_k».proof.Proof.Products
public import proofs.«01_k».proof.Defs
public import proofs.«01_k».proof.Proof.Gen.DyaPre.Frame
public import proofs.«01_k».proof.Proof.Gen.DyaPreIdeal.Frame
public import proofs.«01_k».proof.Proof.Gen.DyaPreIdeal.Value
public import proofs.«01_k».proof.Proof.Gen.DyaPreRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DyaPreIdeal.Product

open Idealize.ShloMosaic Idealize.ShloMosaic.TcCoe Idealize.ShloMosaic.Tactic Cert.DyaPreIdeal Cert.DyaPreIdeal.Gen Cert.Products

/-- The product's term. -/
def term (x : S4096x2048.Idx → EReal) (w : S1024x2048.Idx → EReal) (i : Fin 4096) (j : Fin 1024) (k : Fin 2048) : EReal := x (ix2 i k) * w (ix2 j k)

/-! ## What the body computes of its blocks -/

theorem pay_out (x : S512x2048.Idx → EReal) (w : S1024x2048.Idx → EReal) (r : Fin 512) (j : Fin 1024) :
    out0_2 (F := Ideal) x w (ix2 r j) = ∑ k : Fin 2048, x (ix2 r k) * w (ix2 j k) := by
  unfold out0_2
  simp (disch := decide) only [View.canon_cons_unit_lit, View.ld_unit_lit]
  pointwise [k0_pay1]

variable (m : (ℓ : Loc nD τ sig) → Buf (Elt Ideal) ℓ)

/-- The two arguments. -/
abbrev lhs (c : Dev nD) : S4096x2048.Idx → EReal := m ((c : Thread nD τ).loc main_arg0)
abbrev rhs (c : Dev nD) : S1024x2048.Idx → EReal := m ((c : Thread nD τ).loc main_arg1)

/-! ## The blocks -/

theorem point_lt (t : Fin cfg0.N) : t.val < 8 := by have := t.isLt; have hN : cfg0.N = 8 := N_0; omega

theorem ix_0 : ∀ t : Fin cfg0.N, win0_0.index t 0 = t.val / 1 ∧ win0_0.index t 1 = 0 :=
  (by decide +kernel : ∀ t : Fin grid0.N, win0_0.index t 0 = t.val / 1 ∧ win0_0.index t 1 = 0)
theorem ix_1 : ∀ t : Fin cfg0.N, win0_1.index t 0 = 0 ∧ win0_1.index t 1 = 0 :=
  (by decide +kernel : ∀ t : Fin grid0.N, win0_1.index t 0 = 0 ∧ win0_1.index t 1 = 0)

theorem blk_0 (c : Dev nD) (t : Fin cfg0.N) (r : Fin 512) (k : Fin 2048) (a : Fin 4096) (b : Fin 2048) (ha : a.val = 512 * (t.val / 1) + r.val)
    (hb : b.val = 2048 * (0) + k.val) : (iblk m c 0 t : S512x2048.Idx → EReal) (ix2 r k) = lhs m c (ix2 a b) := by
  unfold iblk
  rw [View.read_apply]
  show V m c main_arg0 _ = _
  rw [V_main_arg0]
  refine congrArg (lhs m c) ?_
  funext d
  apply Fin.ext
  match d with
  | ⟨0, _⟩ => show win0_0.index t 0 * 512 + 1 * r.val = a.val; rw [(ix_0 t).1]; omega
  | ⟨1, _⟩ => show win0_0.index t 1 * 2048 + 1 * k.val = b.val; rw [(ix_0 t).2]; omega

theorem blk_1 (c : Dev nD) (t : Fin cfg0.N) (j : Fin 1024) (k : Fin 2048) (a : Fin 1024) (b : Fin 2048) (ha : a.val = 1024 * (0) + j.val)
    (hb : b.val = 2048 * (0) + k.val) : (iblk m c 1 t : S1024x2048.Idx → EReal) (ix2 j k) = rhs m c (ix2 a b) := by
  unfold iblk
  rw [View.read_apply]
  show V m c main_arg1 _ = _
  rw [V_main_arg1]
  refine congrArg (rhs m c) ?_
  funext d
  apply Fin.ext
  match d with
  | ⟨0, _⟩ => show win0_1.index t 0 * 1024 + 1 * j.val = a.val; rw [(ix_1 t).1]; omega
  | ⟨1, _⟩ => show win0_1.index t 1 * 2048 + 1 * k.val = b.val; rw [(ix_1 t).2]; omega

/-! ## The result's array -/

theorem ix_2 : ∀ t : Fin cfg0.N, win0_2.index t 0 = t.val / 1 ∧ win0_2.index t 1 = 0 :=
  (by decide +kernel : ∀ t : Fin grid0.N, win0_2.index t 0 = t.val / 1 ∧ win0_2.index t 1 = 0)

/-- The kernel's result. -/
def result (c : Dev nD) : S4096x1024.Idx → EReal := fun i : S4096x1024.Idx => ∑ k, term (lhs m c) (rhs m c) (i 0) (i 1) k

/-- Where point `t`'s block stands in the result. -/
theorem place (c : Dev nD) (t : Fin cfg0.N) (r : Fin 512) (j : Fin 1024) : ∃ (a : Fin 4096) (b : Fin 1024), a.val = 512 * (t.val / 1) + r.val ∧
    b.val = 1024 * (0) + j.val ∧ result m c (((cfg0.win 2).blk t).view.emb (ix2 r j)) = ∑ k, term (lhs m c) (rhs m c) a b k := by
  have hp := point_lt t
  have hr := r.isLt
  have hj := j.isLt
  refine ⟨_, _, ?_, ?_, rfl⟩
  · show win0_2.index t 0 * 512 + 1 * r.val = _
    rw [(ix_2 t).1]; omega
  · show win0_2.index t 1 * 1024 + 1 * j.val = _
    rw [(ix_2 t).2]; omega

theorem flushed (c : Dev nD) (t : Fin cfg0.N) (hf : (cfg0.win 2).flush t = true) :
    (dats m 0 c).flushed 2 t = ((cfg0.win 2).blk t).view.read (Elt Ideal) (result m c) := by
  rw [Value.flushed2]
  funext (y : S512x1024.Idx)
  rw [View.read_apply]
  obtain ⟨r, j, rfl⟩ : ∃ (r : Fin 512) (j : Fin 1024), y = ix2 r j := ⟨y 0, y 1, eq_ix2 y⟩
  obtain ⟨a, b, ha, hb, e⟩ := place m c t r j
  rw [e]
  refine (pay_out (iblk m c 0 t) (iblk m c 1 t) r j).trans (Finset.sum_congr rfl fun k _ => ?_)
  rw [blk_0 m c t r k a k ha (by omega), blk_1 m c t j k b k hb (by omega)]
  rfl

theorem final (c : Dev nD) : (dats m 0 c).arrAt 2 cfg0.N = result m c :=
  (dats m 0 c).arrAt_eq_of_cover 2 _ (flushed m c) fun i =>
    have h0 : (i 0 : Nat) < 4096 := (i 0).isLt
    have h1 : (i 1 : Nat) < 1024 := (i 1).isLt
    have hN : cfg0.N = 8 := N_0
    have ht : 1 * ((i 0 : Nat) / 512) < cfg0.N := by omega
    ⟨⟨1 * ((i 0 : Nat) / 512), ht⟩, flush0_2 _, by
      show i ∈ ((View.whole main_v0).slice (win0_2.rect ⟨1 * ((i 0 : Nat) / 512), ht⟩)).set
      rw [View.set_slice_whole, Rect.mem_set_unit]
      have e := ix_2 ⟨1 * ((i 0 : Nat) / 512), ht⟩
      dsimp only at e
      intro a
      match a with
      | ⟨0, _⟩ => show win0_2.index ⟨1 * ((i 0 : Nat) / 512), ht⟩ 0 * 512 ≤ (i 0 : Nat) ∧ (i 0 : Nat) < win0_2.index ⟨1 * ((i 0 : Nat) / 512), ht⟩ 0 * 512 + 512; rw [e.1]; omega
      | ⟨1, _⟩ => show win0_2.index ⟨1 * ((i 0 : Nat) / 512), ht⟩ 1 * 1024 ≤ (i 1 : Nat) ∧ (i 1 : Nat) < win0_2.index ⟨1 * ((i 0 : Nat) / 512), ht⟩ 1 * 1024 + 1024; rw [e.2]; omega
      ⟩

end Cert.DyaPreIdeal.Product

namespace Cert.DyaPreRefIdeal.Product

open Idealize.ShloMosaic Idealize.ShloMosaic.Tactic Cert.DyaPreRefIdeal Cert.DyaPreRefIdeal.Gen

/-- The reference's result, element by element. -/
theorem value (x : S4096x2048.Idx → EReal) (w : S1024x2048.Idx → EReal) (i : Fin 4096) (j : Fin 1024) :
    (Host.dotGeneral (F := Ideal) (φ₁ := .f32) (φ₂ := .f32) dot_S4096x2048_S1024x2048_S4096x1024_1_1_0_0_n_n none (extf (F := Ideal) .f32 x bitsLt_bf16_f32) (extf (F := Ideal) .f32 w bitsLt_bf16_f32)) (ix2 i j) = ∑ k, Cert.DyaPreIdeal.Product.term x w i j k := by
  pointwise []
  unfold Cert.DyaPreIdeal.Product.term
  rfl

end Cert.DyaPreRefIdeal.Product

namespace Cert.Proof.DyaPreClaims

open Idealize.ShloMosaic Idealize.ShloMosaic.TcCoe Idealize.ShloMosaic.Tactic Idealize.SL.Sem

theorem frame_p : Cert.quiescent_DyaPre (hDyaPre := Cert.DyaPre.Gen.facts) := fun m ρ _ => Cert.DyaPre.Gen.frame m ρ
theorem frame_pi : Cert.quiescent_DyaPreIdeal (hDyaPreIdeal := Cert.DyaPreIdeal.Gen.facts) := fun m ρ _ => Cert.DyaPreIdeal.Gen.frame m ρ
theorem frame_ri : Cert.quiescent_DyaPreRefIdeal (hDyaPreRefIdeal := Cert.DyaPreRefIdeal.Gen.facts) := fun m ρ _ =>
  (θ_run Cert.DyaPreRefIdeal.defs _ _).mono (fun r h => ⟨fun c => (h c).2, Idealize.ShloMosaic.sem_eq_zero_of_no_sems (by decide) r.2⟩)
    (Cert.DyaPreRefIdeal.Value.run (F := Ideal) m ρ)
theorem preserves : Cert.preserves_DyaPre_DyaPreIdeal := trivial

theorem algebraic : Cert.algebraic_DyaPreIdeal_DyaPreRefIdeal (hDyaPreIdeal := Cert.DyaPreIdeal.Gen.facts) (hDyaPreRefIdeal := Cert.DyaPreRefIdeal.Gen.facts) := by
  intro m ρ m' ρ' _ hagree
  refine ⟨_, Cert.DyaPreIdeal.Value.run_blocks m ρ, ?_⟩
  refine (θ_run Cert.DyaPreRefIdeal.defs _ _).mono (fun _ h c => ?_) (Cert.DyaPreRefIdeal.Value.run (F := Ideal) m' ρ')
  obtain ⟨e0, e1⟩ := hagree c
  obtain ⟨r0, rest⟩ := h c
  refine ⟨r0.trans ?_, rest⟩
  rw [e0, e1, Cert.DyaPreIdeal.Product.final m c]
  funext y
  obtain ⟨i, j, rfl⟩ : ∃ (i : Fin 4096) (j : Fin 1024), y = ix2 i j := ⟨y 0, y 1, eq_ix2 y⟩
  exact Cert.DyaPreRefIdeal.Product.value _ _ i j

end Cert.Proof.DyaPreClaims

end
-- ==== Proof.DwAProduct.lean ====
/-
  The gradient of the recurrence's output weight, cut over the devices: ya_preᵀ · dya. The kernel's result is the product of its two arguments' numbers; so is the reference's.
-/
module

public import proofs.«01_k».proof.Proof.Products
public import proofs.«01_k».proof.Defs
public import proofs.«01_k».proof.Proof.Gen.DwA.Frame
public import proofs.«01_k».proof.Proof.Gen.DwAIdeal.Frame
public import proofs.«01_k».proof.Proof.Gen.DwAIdeal.Value
public import proofs.«01_k».proof.Proof.Gen.DwARefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DwAIdeal.Product

open Idealize.ShloMosaic Idealize.ShloMosaic.TcCoe Idealize.ShloMosaic.Tactic Cert.DwAIdeal Cert.DwAIdeal.Gen Cert.Products

/-- The product's term. -/
def term (x : S4096x1024.Idx → EReal) (w : S4096x2048.Idx → EReal) (i : Fin 1024) (j : Fin 2048) (k : Fin 4096) : EReal := x (ix2 k i) * w (ix2 k j)

/-! ## What the body computes of its blocks -/

theorem pay_out (x : S4096x512.Idx → EReal) (w : S4096x512.Idx → EReal) (r : Fin 512) (j : Fin 512) :
    out0_2 (F := Ideal) x w (ix4 0 0 r j) = ∑ k : Fin 4096, x (ix2 k r) * w (ix2 k j) := by
  unfold out0_2
  simp (disch := decide) only [View.canon_cons_unit_lit, View.ld_unit_lit]
  pointwise [k0_pay1]

variable (m : (ℓ : Loc nD τ sig) → Buf (Elt Ideal) ℓ)

/-- The two arguments. -/
abbrev lhs (c : Dev nD) : S4096x1024.Idx → EReal := m ((c : Thread nD τ).loc main_arg0)
abbrev rhs (c : Dev nD) : S4096x2048.Idx → EReal := m ((c : Thread nD τ).loc main_arg1)

/-! ## The blocks -/

theorem point_lt (t : Fin cfg0.N) : t.val < 8 := by have := t.isLt; have hN : cfg0.N = 8 := N_0; omega

theorem ix_0 : ∀ t : Fin cfg0.N, win0_0.index t 0 = 0 ∧ win0_0.index t 1 = t.val / 4 :=
  (by decide +kernel : ∀ t : Fin grid0.N, win0_0.index t 0 = 0 ∧ win0_0.index t 1 = t.val / 4)
theorem ix_1 : ∀ t : Fin cfg0.N, win0_1.index t 0 = 0 ∧ win0_1.index t 1 = t.val % 4 :=
  (by decide +kernel : ∀ t : Fin grid0.N, win0_1.index t 0 = 0 ∧ win0_1.index t 1 = t.val % 4)

theorem blk_0 (c : Dev nD) (t : Fin cfg0.N) (r : Fin 512) (k : Fin 4096) (a : Fin 1024) (b : Fin 4096) (ha : a.val = 512 * (t.val / 4) + r.val)
    (hb : b.val = 4096 * (0) + k.val) : (iblk m c 0 t : S4096x512.Idx → EReal) (ix2 k r) = lhs m c (ix2 b a) := by
  unfold iblk
  rw [View.read_apply]
  show V m c main_arg0 _ = _
  rw [V_main_arg0]
  refine congrArg (lhs m c) ?_
  funext d
  apply Fin.ext
  match d with
  | ⟨0, _⟩ => show win0_0.index t 0 * 4096 + 1 * k.val = b.val; rw [(ix_0 t).1]; omega
  | ⟨1, _⟩ => show win0_0.index t 1 * 512 + 1 * r.val = a.val; rw [(ix_0 t).2]; omega

theorem blk_1 (c : Dev nD) (t : Fin cfg0.N) (j : Fin 512) (k : Fin 4096) (a : Fin 2048) (b : Fin 4096) (ha : a.val = 512 * (t.val % 4) + j.val)
    (hb : b.val = 4096 * (0) + k.val) : (iblk m c 1 t : S4096x512.Idx → EReal) (ix2 k j) = rhs m c (ix2 b a) := by
  unfold iblk
  rw [View.read_apply]
  show V m c main_arg1 _ = _
  rw [V_main_arg1]
  refine congrArg (rhs m c) ?_
  funext d
  apply Fin.ext
  match d with
  | ⟨0, _⟩ => show win0_1.index t 0 * 4096 + 1 * k.val = b.val; rw [(ix_1 t).1]; omega
  | ⟨1, _⟩ => show win0_1.index t 1 * 512 + 1 * j.val = a.val; rw [(ix_1 t).2]; omega

/-- The result cuts the product's columns into four and its rows into two: where an element stands in the product. -/
def row (i : S4x2x512x512.Idx) : Fin 1024 :=
  ⟨(i 1).val * 512 + (i 2).val, by have h1 : (i 1).val < 2 := (i 1).isLt; have h2 : (i 2).val < 512 := (i 2).isLt; omega⟩
def col (i : S4x2x512x512.Idx) : Fin 2048 :=
  ⟨(i 0).val * 512 + (i 3).val, by have h0 : (i 0).val < 4 := (i 0).isLt; have h3 : (i 3).val < 512 := (i 3).isLt; omega⟩

/-! ## The result's array -/

theorem ix_2 : ∀ t : Fin cfg0.N, win0_2.index t 0 = t.val % 4 ∧ win0_2.index t 1 = t.val / 4 ∧ win0_2.index t 2 = 0 ∧ win0_2.index t 3 = 0 :=
  (by decide +kernel : ∀ t : Fin grid0.N, win0_2.index t 0 = t.val % 4 ∧ win0_2.index t 1 = t.val / 4 ∧ win0_2.index t 2 = 0 ∧ win0_2.index t 3 = 0)

/-- The kernel's result. -/
def result (c : Dev nD) : S4x2x512x512.Idx → EReal := fun i : S4x2x512x512.Idx => ∑ k, term (lhs m c) (rhs m c) (row i) (col i) k

/-- Where point `t`'s block stands in the result. -/
theorem place (c : Dev nD) (t : Fin cfg0.N) (r : Fin 512) (j : Fin 512) : ∃ (a : Fin 1024) (b : Fin 2048), a.val = 512 * (t.val / 4) + r.val ∧
    b.val = 512 * (t.val % 4) + j.val ∧ result m c (((cfg0.win 2).blk t).view.emb (ix4 0 0 r j)) = ∑ k, term (lhs m c) (rhs m c) a b k := by
  have hp := point_lt t
  have hr := r.isLt
  have hj := j.isLt
  refine ⟨_, _, ?_, ?_, rfl⟩
  · show (win0_2.index t 1 * 1 + 1 * 0) * 512 + (win0_2.index t 2 * 512 + 1 * r.val) = _
    rw [(ix_2 t).2.1, (ix_2 t).2.2.1]; omega
  · show (win0_2.index t 0 * 1 + 1 * 0) * 512 + (win0_2.index t 3 * 512 + 1 * j.val) = _
    rw [(ix_2 t).1, (ix_2 t).2.2.2]; omega

theorem flushed (c : Dev nD) (t : Fin cfg0.N) (hf : (cfg0.win 2).flush t = true) :
    (dats m 0 c).flushed 2 t = ((cfg0.win 2).blk t).view.read (Elt Ideal) (result m c) := by
  rw [Value.flushed2]
  funext (y : S1x1x512x512.Idx)
  rw [View.read_apply]
  obtain ⟨r, j, rfl⟩ : ∃ (r : Fin 512) (j : Fin 512), y = ix4 0 0 r j := by
    refine ⟨y 2, y 3, ?_⟩
    funext d
    match d with
    | ⟨0, _⟩ => exact Subsingleton.elim (α := Fin 1) _ _
    | ⟨1, _⟩ => exact Subsingleton.elim (α := Fin 1) _ _
    | ⟨2, _⟩ => rfl
    | ⟨3, _⟩ => rfl
  obtain ⟨a, b, ha, hb, e⟩ := place m c t r j
  rw [e]
  refine (pay_out (iblk m c 0 t) (iblk m c 1 t) r j).trans (Finset.sum_congr rfl fun k _ => ?_)
  rw [blk_0 m c t r k a k ha (by omega), blk_1 m c t j k b k hb (by omega)]
  rfl

theorem final (c : Dev nD) : (dats m 0 c).arrAt 2 cfg0.N = result m c :=
  (dats m 0 c).arrAt_eq_of_cover 2 _ (flushed m c) fun i =>
    have h0 : (i 0 : Nat) < 4 := (i 0).isLt
    have h1 : (i 1 : Nat) < 2 := (i 1).isLt
    have h2 : (i 2 : Nat) < 512 := (i 2).isLt
    have h3 : (i 3 : Nat) < 512 := (i 3).isLt
    have hN : cfg0.N = 8 := N_0
    have ht : 4 * ((i 1 : Nat)) + 1 * ((i 0 : Nat)) < cfg0.N := by omega
    ⟨⟨4 * ((i 1 : Nat)) + 1 * ((i 0 : Nat)), ht⟩, flush0_2 _, by
      show i ∈ ((View.whole main_v0).slice (win0_2.rect ⟨4 * ((i 1 : Nat)) + 1 * ((i 0 : Nat)), ht⟩)).set
      rw [View.set_slice_whole, Rect.mem_set_unit]
      have e := ix_2 ⟨4 * ((i 1 : Nat)) + 1 * ((i 0 : Nat)), ht⟩
      dsimp only at e
      intro a
      match a with
      | ⟨0, _⟩ => show win0_2.index ⟨4 * ((i 1 : Nat)) + 1 * ((i 0 : Nat)), ht⟩ 0 * 1 ≤ (i 0 : Nat) ∧ (i 0 : Nat) < win0_2.index ⟨4 * ((i 1 : Nat)) + 1 * ((i 0 : Nat)), ht⟩ 0 * 1 + 1; rw [e.1]; omega
      | ⟨1, _⟩ => show win0_2.index ⟨4 * ((i 1 : Nat)) + 1 * ((i 0 : Nat)), ht⟩ 1 * 1 ≤ (i 1 : Nat) ∧ (i 1 : Nat) < win0_2.index ⟨4 * ((i 1 : Nat)) + 1 * ((i 0 : Nat)), ht⟩ 1 * 1 + 1; rw [e.2.1]; omega
      | ⟨2, _⟩ => show win0_2.index ⟨4 * ((i 1 : Nat)) + 1 * ((i 0 : Nat)), ht⟩ 2 * 512 ≤ (i 2 : Nat) ∧ (i 2 : Nat) < win0_2.index ⟨4 * ((i 1 : Nat)) + 1 * ((i 0 : Nat)), ht⟩ 2 * 512 + 512; rw [e.2.2.1]; omega
      | ⟨3, _⟩ => show win0_2.index ⟨4 * ((i 1 : Nat)) + 1 * ((i 0 : Nat)), ht⟩ 3 * 512 ≤ (i 3 : Nat) ∧ (i 3 : Nat) < win0_2.index ⟨4 * ((i 1 : Nat)) + 1 * ((i 0 : Nat)), ht⟩ 3 * 512 + 512; rw [e.2.2.2]; omega
      ⟩

end Cert.DwAIdeal.Product

namespace Cert.DwARefIdeal.Product

open Idealize.ShloMosaic Idealize.ShloMosaic.Tactic Cert.DwARefIdeal Cert.DwARefIdeal.Gen

/-- The reference's result, element by element. -/
theorem value (x : S4096x1024.Idx → EReal) (w : S4096x2048.Idx → EReal) (p : Fin 4) (q : Fin 2) (r : Fin 512) (j : Fin 512) :
    (truncf (F := Ideal) .bf16 (transpose S4x2x512x512 [2, 0, 1, 3] (shapeCast _ (transpose S1024x2048 [1, 0] (Host.dotGeneral (F := Ideal) (φ₁ := .f32) (φ₂ := .f32) dot_S4096x2048_S4096x1024_S2048x1024_0_0_1_1_n_n none (extf (F := Ideal) .f32 w bitsLt_bf16_f32) (extf (F := Ideal) .f32 x bitsLt_bf16_f32)) transposes_S2048x1024_S1024x2048_1_0) shapeCasts_S1024x2048_S2x512x4x512) transposes_S2x512x4x512_S4x2x512x512_2_0_1_3) bitsLt_bf16_f32) (ix4 p q r j) = ∑ k, Cert.DwAIdeal.Product.term x w (Cert.DwAIdeal.Product.row (ix4 p q r j)) (Cert.DwAIdeal.Product.col (ix4 p q r j)) k := by
  pointwise []
  unfold Cert.DwAIdeal.Product.term
  exact Finset.sum_congr rfl fun k _ => mul_comm _ _

end Cert.DwARefIdeal.Product

namespace Cert.Proof.DwAClaims

open Idealize.ShloMosaic Idealize.ShloMosaic.TcCoe Idealize.ShloMosaic.Tactic Idealize.SL.Sem

theorem frame_p : Cert.quiescent_DwA (hDwA := Cert.DwA.Gen.facts) := fun m ρ _ => Cert.DwA.Gen.frame m ρ
theorem frame_pi : Cert.quiescent_DwAIdeal (hDwAIdeal := Cert.DwAIdeal.Gen.facts) := fun m ρ _ => Cert.DwAIdeal.Gen.frame m ρ
theorem frame_ri : Cert.quiescent_DwARefIdeal (hDwARefIdeal := Cert.DwARefIdeal.Gen.facts) := fun m ρ _ =>
  (θ_run Cert.DwARefIdeal.defs _ _).mono (fun r h => ⟨fun c => (h c).2, Idealize.ShloMosaic.sem_eq_zero_of_no_sems (by decide) r.2⟩)
    (Cert.DwARefIdeal.Value.run (F := Ideal) m ρ)
theorem preserves : Cert.preserves_DwA_DwAIdeal := trivial

theorem algebraic : Cert.algebraic_DwAIdeal_DwARefIdeal (hDwAIdeal := Cert.DwAIdeal.Gen.facts) (hDwARefIdeal := Cert.DwARefIdeal.Gen.facts) := by
  intro m ρ m' ρ' _ hagree
  refine ⟨_, Cert.DwAIdeal.Value.run_blocks m ρ, ?_⟩
  refine (θ_run Cert.DwARefIdeal.defs _ _).mono (fun _ h c => ?_) (Cert.DwARefIdeal.Value.run (F := Ideal) m' ρ')
  obtain ⟨e0, e1⟩ := hagree c
  obtain ⟨r0, rest⟩ := h c
  refine ⟨r0.trans ?_, rest⟩
  rw [e0, e1, Cert.DwAIdeal.Product.final m c]
  funext y
  obtain ⟨p, q, r, j, rfl⟩ : ∃ (p : Fin 4) (q : Fin 2) (r : Fin 512) (j : Fin 512), y = ix4 p q r j := ⟨y 0, y 1, y 2, y 3, eq_ix4 y⟩
  exact Cert.DwARefIdeal.Product.value _ _ p q r j

end Cert.Proof.DwAClaims

end
-- ==== Proof.Ff2Product.lean ====
/-
  The second feed-forward product: hid · w_ff2. The kernel's result is the product of its two arguments' numbers, summed over blocks of 2048; so is the reference's.
-/
module

public import proofs.«01_k».proof.Proof.Products
public import proofs.«01_k».proof.Defs
public import proofs.«01_k».proof.Proof.Gen.Ff2.Frame
public import proofs.«01_k».proof.Proof.Gen.Ff2Ideal.Frame
public import proofs.«01_k».proof.Proof.Gen.Ff2Ideal.Value
public import proofs.«01_k».proof.Proof.Gen.Ff2RefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.Ff2Ideal.Product

open Idealize.ShloMosaic Idealize.ShloMosaic.TcCoe Idealize.ShloMosaic.Tactic Cert.Ff2Ideal Cert.Ff2Ideal.Gen Cert.Products

/-- The product's term. -/
def term (x : S4096x8192.Idx → EReal) (w : S8192x2048.Idx → EReal) (i : Fin 4096) (j : Fin 2048) (k : Fin 8192) : EReal := x (ix2 i k) * w (ix2 k j)

/-! ## What the body computes of its blocks -/

theorem pay_zero (r : Fin 1024) (j : Fin 1024) : k0_pay1 (F := Ideal) (ix2 r j) = (0 : EReal) := by
  pointwise [k0_pay1]

theorem pay_add (acc : S1024x1024.Idx → EReal) (x : S1024x2048.Idx → EReal) (w : S2048x1024.Idx → EReal) (r : Fin 1024) (j : Fin 1024) :
    k0_pay2 (F := Ideal) acc x w (ix2 r j) = acc (ix2 r j) + ∑ k : Fin 2048, x (ix2 r k) * w (ix2 k j) := by
  pointwise [k0_pay2]

theorem scratch_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec Ideal S1024x2048 .bf16) (x1 : Vec Ideal S2048x1024 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec Ideal S1024x2048 .bf16) (x1 : Vec Ideal S2048x1024 .bf16) (xs0 : Vec Ideal S1024x1024 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x2048 .bf16) (x1 : Vec Ideal S2048x1024 .bf16) (xs0 : Vec Ideal S1024x1024 .f32) :
    sout0_C_0 c i arg3 harg3 arg4 harg4 arg5 harg5 arg6 harg6 hc0 hc1 x0 x1 xs0 = k0_pay2 (F := Ideal) xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem out_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x2048 .bf16) (x1 : Vec Ideal S2048x1024 .bf16) (xs0 : Vec Ideal S1024x1024 .f32) :
    out0_C_2 c i arg3 harg3 arg4 harg4 arg5 harg5 arg6 harg6 hc0 hc1 x0 x1 xs0 = k0_pay2 (F := Ideal) xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

variable (m : (ℓ : Loc nD τ sig) → Buf (Elt Ideal) ℓ)

/-- The two arguments. -/
abbrev lhs (c : Dev nD) : S4096x8192.Idx → EReal := m ((c : Thread nD τ).loc main_arg0)
abbrev rhs (c : Dev nD) : S8192x2048.Idx → EReal := m ((c : Thread nD τ).loc main_arg1)

/-! ## The blocks -/

theorem point_lt (t : Fin cfg0.N) : t.val < 32 := by have := t.isLt; have hN : cfg0.N = 32 := N_0; omega

theorem ix_0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem ix_1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)

theorem blk_0 (c : Dev nD) (t : Fin cfg0.N) (r : Fin 1024) (k : Fin 2048) (a : Fin 4096) (b : Fin 8192) (ha : a.val = 1024 * (t.val / 8) + r.val)
    (hb : b.val = 2048 * (t.val % 4) + k.val) : (iblk m c 0 t : S1024x2048.Idx → EReal) (ix2 r k) = lhs m c (ix2 a b) := by
  unfold iblk
  rw [View.read_apply]
  show V m c main_arg0 _ = _
  rw [V_main_arg0]
  refine congrArg (lhs m c) ?_
  funext d
  apply Fin.ext
  match d with
  | ⟨0, _⟩ => show win0_0.index t 0 * 1024 + 1 * r.val = a.val; rw [(ix_0 t).1]; omega
  | ⟨1, _⟩ => show win0_0.index t 1 * 2048 + 1 * k.val = b.val; rw [(ix_0 t).2]; omega

theorem blk_1 (c : Dev nD) (t : Fin cfg0.N) (j : Fin 1024) (k : Fin 2048) (a : Fin 2048) (b : Fin 8192) (ha : a.val = 1024 * (t.val / 4 % 2) + j.val)
    (hb : b.val = 2048 * (t.val % 4) + k.val) : (iblk m c 1 t : S2048x1024.Idx → EReal) (ix2 k j) = rhs m c (ix2 b a) := by
  unfold iblk
  rw [View.read_apply]
  show V m c main_arg1 _ = _
  rw [V_main_arg1]
  refine congrArg (rhs m c) ?_
  funext d
  apply Fin.ext
  match d with
  | ⟨0, _⟩ => show win0_1.index t 0 * 2048 + 1 * k.val = b.val; rw [(ix_1 t).1]; omega
  | ⟨1, _⟩ => show win0_1.index t 1 * 1024 + 1 * j.val = a.val; rw [(ix_1 t).2]; omega

/-! ## Point by point -/

/-- One block added. -/
theorem step (c : Dev nD) (t : Fin cfg0.N) (r : Fin 1024) (j : Fin 1024) (a : Fin 4096) (b : Fin 2048) (ha : a.val = 1024 * (t.val / 8) + r.val)
    (hb : b.val = 1024 * (t.val / 4 % 2) + j.val) (acc : S1024x1024.Idx → EReal)
    (h : acc (ix2 r j) = upto (term (lhs m c) (rhs m c) a b) (2048 * (t.val % 4))) :
    k0_pay2 (F := Ideal) acc (iblk m c 0 t) (iblk m c 1 t) (ix2 r j) = upto (term (lhs m c) (rhs m c) a b) (2048 * (t.val % 4) + 2048) := by
  refine (pay_add acc (iblk m c 0 t) (iblk m c 1 t) r j).trans ?_
  rw [h]
  refine upto_add _ _ _ _ (fun k hk => ?_) (by omega)
  rw [blk_0 m c t r k a ⟨_, hk⟩ ha rfl, blk_1 m c t j k b ⟨_, hk⟩ hb rfl]
  rfl

theorem outs_A (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  rw [scratch_A]

theorem outs_B (c : Dev nD) (t : Fin cfg0.N) (h0 : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [scratch_C]
  · rw [outsAt0_B m c t h0 h1]
    dsimp only
    rw [scratch_B]

theorem outs_last (c : Dev nD) (t : Fin cfg0.N) (h1 : t.val % 4 = 3) : (outsAt0 m c t.val t.isLt).1 = (outsAt0 m c t.val t.isLt).2 := by
  rw [outs_B m c t (by omega), outsAt0_C m c t (by omega) h1]
  dsimp only
  rw [out_C]

/-- The accumulator holds the blocks added so far. -/
theorem after (c : Dev nD) : ∀ (n : ℕ) (hn : n < cfg0.N) (r : Fin 1024) (j : Fin 1024) (a : Fin 4096) (b : Fin 2048), a.val = 1024 * (n / 8) + r.val →
    b.val = 1024 * (n / 4 % 2) + j.val →
    ((outsAt0 m c n hn).2 : S1024x1024.Idx → EReal) (ix2 r j) = upto (term (lhs m c) (rhs m c) a b) (2048 * (n % 4) + 2048)
  | 0, hn, r, j, a, b, ha, hb => by
    have e : (outsAt0 m c 0 hn).2 = _ := outs_A m c ⟨0, hn⟩ rfl
    rw [e]
    exact step m c ⟨0, hn⟩ r j a b ha hb _ ((pay_zero r j).trans (upto_zero _).symm)
  | n + 1, hn, r, j, a, b, ha, hb => by
    by_cases h0 : (n + 1) % 4 = 0
    · have e : (outsAt0 m c (n + 1) hn).2 = _ := outs_A m c ⟨n + 1, hn⟩ h0
      rw [e]
      refine step m c ⟨n + 1, hn⟩ r j a b ha hb _ ((pay_zero r j).trans ?_)
      dsimp only
      rw [h0, Nat.mul_zero, upto_zero]
    · have e : (outsAt0 m c (n + 1) hn).2 = _ := outs_B m c ⟨n + 1, hn⟩ h0
      rw [e]
      refine step m c ⟨n + 1, hn⟩ r j a b ha hb _ ?_
      refine (after c n (Nat.lt_of_succ_lt hn) r j a b (by omega) (by omega)).trans ?_
      dsimp only
      congr 1
      omega

/-! ## The result's array -/

theorem ix_2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- The kernel's result. -/
def result (c : Dev nD) : S4096x2048.Idx → EReal := fun i : S4096x2048.Idx => ∑ k, term (lhs m c) (rhs m c) (i 0) (i 1) k

/-- Where point `t`'s block stands in the result. -/
theorem place (c : Dev nD) (t : Fin cfg0.N) (r : Fin 1024) (j : Fin 1024) : ∃ (a : Fin 4096) (b : Fin 2048), a.val = 1024 * (t.val / 8) + r.val ∧
    b.val = 1024 * (t.val / 4 % 2) + j.val ∧ result m c (((cfg0.win 2).blk t).view.emb (ix2 r j)) = ∑ k, term (lhs m c) (rhs m c) a b k := by
  have hp := point_lt t
  have hr := r.isLt
  have hj := j.isLt
  refine ⟨_, _, ?_, ?_, rfl⟩
  · show win0_2.index t 0 * 1024 + 1 * r.val = _
    rw [(ix_2 t).1]; omega
  · show win0_2.index t 1 * 1024 + 1 * j.val = _
    rw [(ix_2 t).2]; omega

theorem flushed (c : Dev nD) (t : Fin cfg0.N) (hf : (cfg0.win 2).flush t = true) :
    (dats m 0 c).flushed 2 t = ((cfg0.win 2).blk t).view.read (Elt Ideal) (result m c) := by
  have ht : t.val % 4 = 3 := (flush0_2 t).1 hf
  rw [Value.flushed2, outs_last m c t ht]
  funext (y : S1024x1024.Idx)
  rw [View.read_apply]
  obtain ⟨r, j, rfl⟩ : ∃ (r : Fin 1024) (j : Fin 1024), y = ix2 r j := ⟨y 0, y 1, eq_ix2 y⟩
  obtain ⟨a, b, ha, hb, e⟩ := place m c t r j
  rw [e]
  refine (after m c t.val t.isLt r j a b ha hb).trans ?_
  rw [ht]
  exact upto_all _

theorem final (c : Dev nD) : (dats m 0 c).arrAt 2 cfg0.N = result m c :=
  (dats m 0 c).arrAt_eq_of_cover 2 _ (flushed m c) fun i =>
    have h0 : (i 0 : Nat) < 4096 := (i 0).isLt
    have h1 : (i 1 : Nat) < 2048 := (i 1).isLt
    have hN : cfg0.N = 32 := N_0
    have ht : 8 * ((i 0 : Nat) / 1024) + 4 * ((i 1 : Nat) / 1024) + 3 < cfg0.N := by omega
    ⟨⟨8 * ((i 0 : Nat) / 1024) + 4 * ((i 1 : Nat) / 1024) + 3, ht⟩, (flush0_2 _).2 (by dsimp only; omega), by
      show i ∈ ((View.whole main_v0).slice (win0_2.rect ⟨8 * ((i 0 : Nat) / 1024) + 4 * ((i 1 : Nat) / 1024) + 3, ht⟩)).set
      rw [View.set_slice_whole, Rect.mem_set_unit]
      have e := ix_2 ⟨8 * ((i 0 : Nat) / 1024) + 4 * ((i 1 : Nat) / 1024) + 3, ht⟩
      dsimp only at e
      intro a
      match a with
      | ⟨0, _⟩ => show win0_2.index ⟨8 * ((i 0 : Nat) / 1024) + 4 * ((i 1 : Nat) / 1024) + 3, ht⟩ 0 * 1024 ≤ (i 0 : Nat) ∧ (i 0 : Nat) < win0_2.index ⟨8 * ((i 0 : Nat) / 1024) + 4 * ((i 1 : Nat) / 1024) + 3, ht⟩ 0 * 1024 + 1024; rw [e.1]; omega
      | ⟨1, _⟩ => show win0_2.index ⟨8 * ((i 0 : Nat) / 1024) + 4 * ((i 1 : Nat) / 1024) + 3, ht⟩ 1 * 1024 ≤ (i 1 : Nat) ∧ (i 1 : Nat) < win0_2.index ⟨8 * ((i 0 : Nat) / 1024) + 4 * ((i 1 : Nat) / 1024) + 3, ht⟩ 1 * 1024 + 1024; rw [e.2]; omega
      ⟩

end Cert.Ff2Ideal.Product

namespace Cert.Ff2RefIdeal.Product

open Idealize.ShloMosaic Idealize.ShloMosaic.Tactic Cert.Ff2RefIdeal Cert.Ff2RefIdeal.Gen

/-- The reference's result, element by element. -/
theorem value (x : S4096x8192.Idx → EReal) (w : S8192x2048.Idx → EReal) (i : Fin 4096) (j : Fin 2048) :
    (Host.dotGeneral (F := Ideal) (φ₁ := .f32) (φ₂ := .f32) dot_S4096x8192_S8192x2048_S4096x2048_1_0_0_1_n_n none (extf (F := Ideal) .f32 x bitsLt_bf16_f32) (extf (F := Ideal) .f32 w bitsLt_bf16_f32)) (ix2 i j) = ∑ k, Cert.Ff2Ideal.Product.term x w i j k := by
  pointwise []
  unfold Cert.Ff2Ideal.Product.term
  rfl

end Cert.Ff2RefIdeal.Product

namespace Cert.Proof.Ff2Claims

open Idealize.ShloMosaic Idealize.ShloMosaic.TcCoe Idealize.ShloMosaic.Tactic Idealize.SL.Sem

theorem frame_p : Cert.quiescent_Ff2 (hFf2 := Cert.Ff2.Gen.facts) := fun m ρ _ => Cert.Ff2.Gen.frame m ρ
theorem frame_pi : Cert.quiescent_Ff2Ideal (hFf2Ideal := Cert.Ff2Ideal.Gen.facts) := fun m ρ _ => Cert.Ff2Ideal.Gen.frame m ρ
theorem frame_ri : Cert.quiescent_Ff2RefIdeal (hFf2RefIdeal := Cert.Ff2RefIdeal.Gen.facts) := fun m ρ _ =>
  (θ_run Cert.Ff2RefIdeal.defs _ _).mono (fun r h => ⟨fun c => (h c).2, Idealize.ShloMosaic.sem_eq_zero_of_no_sems (by decide) r.2⟩)
    (Cert.Ff2RefIdeal.Value.run (F := Ideal) m ρ)
theorem preserves : Cert.preserves_Ff2_Ff2Ideal := trivial

theorem algebraic : Cert.algebraic_Ff2Ideal_Ff2RefIdeal (hFf2Ideal := Cert.Ff2Ideal.Gen.facts) (hFf2RefIdeal := Cert.Ff2RefIdeal.Gen.facts) := by
  intro m ρ m' ρ' _ hagree
  refine ⟨_, Cert.Ff2Ideal.Value.run_blocks m ρ, ?_⟩
  refine (θ_run Cert.Ff2RefIdeal.defs _ _).mono (fun _ h c => ?_) (Cert.Ff2RefIdeal.Value.run (F := Ideal) m' ρ')
  obtain ⟨e0, e1⟩ := hagree c
  obtain ⟨r0, rest⟩ := h c
  refine ⟨r0.trans ?_, rest⟩
  rw [e0, e1, Cert.Ff2Ideal.Product.final m c]
  funext y
  obtain ⟨i, j, rfl⟩ : ∃ (i : Fin 4096) (j : Fin 2048), y = ix2 i j := ⟨y 0, y 1, eq_ix2 y⟩
  exact Cert.Ff2RefIdeal.Product.value _ _ i j

end Cert.Proof.Ff2Claims

end
-- ==== Proof.DaFf1Product.lean ====
/-
  The gradient of the feed-forward's input: df1 · w_ff1ᵀ. The kernel's result is the product of its two arguments' numbers, summed over blocks of 2048; so is the reference's.
-/
module

public import proofs.«01_k».proof.Proof.Products
public import proofs.«01_k».proof.Defs
public import proofs.«01_k».proof.Proof.Gen.DaFf1.Frame
public import proofs.«01_k».proof.Proof.Gen.DaFf1Ideal.Frame
public import proofs.«01_k».proof.Proof.Gen.DaFf1Ideal.Value
public import proofs.«01_k».proof.Proof.Gen.DaFf1RefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DaFf1Ideal.Product

open Idealize.ShloMosaic Idealize.ShloMosaic.TcCoe Idealize.ShloMosaic.Tactic Cert.DaFf1Ideal Cert.DaFf1Ideal.Gen Cert.Products

/-- The product's term. -/
def term (x : S4096x8192.Idx → EReal) (w : S2048x8192.Idx → EReal) (i : Fin 4096) (j : Fin 2048) (k : Fin 8192) : EReal := x (ix2 i k) * w (ix2 j k)

/-! ## What the body computes of its blocks -/

theorem pay_zero (r : Fin 1024) (j : Fin 1024) : k0_pay1 (F := Ideal) (ix2 r j) = (0 : EReal) := by
  pointwise [k0_pay1]

theorem pay_add (acc : S1024x1024.Idx → EReal) (x : S1024x2048.Idx → EReal) (w : S1024x2048.Idx → EReal) (r : Fin 1024) (j : Fin 1024) :
    k0_pay2 (F := Ideal) acc x w (ix2 r j) = acc (ix2 r j) + ∑ k : Fin 2048, x (ix2 r k) * w (ix2 j k) := by
  pointwise [k0_pay2]

theorem scratch_A (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec Ideal S1024x2048 .bf16) (x1 : Vec Ideal S1024x2048 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_B (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec Ideal S1024x2048 .bf16) (x1 : Vec Ideal S1024x2048 .bf16) (xs0 : Vec Ideal S1024x1024 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_C (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x2048 .bf16) (x1 : Vec Ideal S1024x2048 .bf16) (xs0 : Vec Ideal S1024x1024 .f32) :
    sout0_C_0 c i arg3 harg3 arg4 harg4 arg5 harg5 arg6 harg6 hc0 hc1 x0 x1 xs0 = k0_pay2 (F := Ideal) xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem out_C (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x2048 .bf16) (x1 : Vec Ideal S1024x2048 .bf16) (xs0 : Vec Ideal S1024x1024 .f32) :
    out0_C_2 c i arg3 harg3 arg4 harg4 arg5 harg5 arg6 harg6 hc0 hc1 x0 x1 xs0 = k0_pay2 (F := Ideal) xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

variable (m : (ℓ : Loc nD τ sig) → Buf (Elt Ideal) ℓ)

/-- The two arguments. -/
abbrev lhs (c : Dev nD) : S4096x8192.Idx → EReal := m ((c : Thread nD τ).loc main_arg0)
abbrev rhs (c : Dev nD) : S2048x8192.Idx → EReal := m ((c : Thread nD τ).loc main_arg1)

/-! ## The blocks -/

theorem point_lt (t : Fin cfg0.N) : t.val < 32 := by have := t.isLt; have hN : cfg0.N = 32 := N_0; omega

theorem ix_0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem ix_1 : ∀ t : Fin cfg0.N, win0_1.index t 0 = t.val / 4 % 2 ∧ win0_1.index t 1 = t.val % 4 :=
  (by decide +kernel : ∀ t : Fin grid0.N, win0_1.index t 0 = t.val / 4 % 2 ∧ win0_1.index t 1 = t.val % 4)

theorem blk_0 (c : Dev nD) (t : Fin cfg0.N) (r : Fin 1024) (k : Fin 2048) (a : Fin 4096) (b : Fin 8192) (ha : a.val = 1024 * (t.val / 8) + r.val)
    (hb : b.val = 2048 * (t.val % 4) + k.val) : (iblk m c 0 t : S1024x2048.Idx → EReal) (ix2 r k) = lhs m c (ix2 a b) := by
  unfold iblk
  rw [View.read_apply]
  show V m c main_arg0 _ = _
  rw [V_main_arg0]
  refine congrArg (lhs m c) ?_
  funext d
  apply Fin.ext
  match d with
  | ⟨0, _⟩ => show win0_0.index t 0 * 1024 + 1 * r.val = a.val; rw [(ix_0 t).1]; omega
  | ⟨1, _⟩ => show win0_0.index t 1 * 2048 + 1 * k.val = b.val; rw [(ix_0 t).2]; omega

theorem blk_1 (c : Dev nD) (t : Fin cfg0.N) (j : Fin 1024) (k : Fin 2048) (a : Fin 2048) (b : Fin 8192) (ha : a.val = 1024 * (t.val / 4 % 2) + j.val)
    (hb : b.val = 2048 * (t.val % 4) + k.val) : (iblk m c 1 t : S1024x2048.Idx → EReal) (ix2 j k) = rhs m c (ix2 a b) := by
  unfold iblk
  rw [View.read_apply]
  show V m c main_arg1 _ = _
  rw [V_main_arg1]
  refine congrArg (rhs m c) ?_
  funext d
  apply Fin.ext
  match d with
  | ⟨0, _⟩ => show win0_1.index t 0 * 1024 + 1 * j.val = a.val; rw [(ix_1 t).1]; omega
  | ⟨1, _⟩ => show win0_1.index t 1 * 2048 + 1 * k.val = b.val; rw [(ix_1 t).2]; omega

/-! ## Point by point -/

/-- One block added. -/
theorem step (c : Dev nD) (t : Fin cfg0.N) (r : Fin 1024) (j : Fin 1024) (a : Fin 4096) (b : Fin 2048) (ha : a.val = 1024 * (t.val / 8) + r.val)
    (hb : b.val = 1024 * (t.val / 4 % 2) + j.val) (acc : S1024x1024.Idx → EReal)
    (h : acc (ix2 r j) = upto (term (lhs m c) (rhs m c) a b) (2048 * (t.val % 4))) :
    k0_pay2 (F := Ideal) acc (iblk m c 0 t) (iblk m c 1 t) (ix2 r j) = upto (term (lhs m c) (rhs m c) a b) (2048 * (t.val % 4) + 2048) := by
  refine (pay_add acc (iblk m c 0 t) (iblk m c 1 t) r j).trans ?_
  rw [h]
  refine upto_add _ _ _ _ (fun k hk => ?_) (by omega)
  rw [blk_0 m c t r k a ⟨_, hk⟩ ha rfl, blk_1 m c t j k b ⟨_, hk⟩ hb rfl]
  rfl

theorem outs_A (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  rw [scratch_A]

theorem outs_B (c : Dev nD) (t : Fin cfg0.N) (h0 : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [scratch_C]
  · rw [outsAt0_B m c t h0 h1]
    dsimp only
    rw [scratch_B]

theorem outs_last (c : Dev nD) (t : Fin cfg0.N) (h1 : t.val % 4 = 3) : (outsAt0 m c t.val t.isLt).1 = (outsAt0 m c t.val t.isLt).2 := by
  rw [outs_B m c t (by omega), outsAt0_C m c t (by omega) h1]
  dsimp only
  rw [out_C]

/-- The accumulator holds the blocks added so far. -/
theorem after (c : Dev nD) : ∀ (n : ℕ) (hn : n < cfg0.N) (r : Fin 1024) (j : Fin 1024) (a : Fin 4096) (b : Fin 2048), a.val = 1024 * (n / 8) + r.val →
    b.val = 1024 * (n / 4 % 2) + j.val →
    ((outsAt0 m c n hn).2 : S1024x1024.Idx → EReal) (ix2 r j) = upto (term (lhs m c) (rhs m c) a b) (2048 * (n % 4) + 2048)
  | 0, hn, r, j, a, b, ha, hb => by
    have e : (outsAt0 m c 0 hn).2 = _ := outs_A m c ⟨0, hn⟩ rfl
    rw [e]
    exact step m c ⟨0, hn⟩ r j a b ha hb _ ((pay_zero r j).trans (upto_zero _).symm)
  | n + 1, hn, r, j, a, b, ha, hb => by
    by_cases h0 : (n + 1) % 4 = 0
    · have e : (outsAt0 m c (n + 1) hn).2 = _ := outs_A m c ⟨n + 1, hn⟩ h0
      rw [e]
      refine step m c ⟨n + 1, hn⟩ r j a b ha hb _ ((pay_zero r j).trans ?_)
      dsimp only
      rw [h0, Nat.mul_zero, upto_zero]
    · have e : (outsAt0 m c (n + 1) hn).2 = _ := outs_B m c ⟨n + 1, hn⟩ h0
      rw [e]
      refine step m c ⟨n + 1, hn⟩ r j a b ha hb _ ?_
      refine (after c n (Nat.lt_of_succ_lt hn) r j a b (by omega) (by omega)).trans ?_
      dsimp only
      congr 1
      omega

/-! ## The result's array -/

theorem ix_2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- The kernel's result. -/
def result (c : Dev nD) : S4096x2048.Idx → EReal := fun i : S4096x2048.Idx => ∑ k, term (lhs m c) (rhs m c) (i 0) (i 1) k

/-- Where point `t`'s block stands in the result. -/
theorem place (c : Dev nD) (t : Fin cfg0.N) (r : Fin 1024) (j : Fin 1024) : ∃ (a : Fin 4096) (b : Fin 2048), a.val = 1024 * (t.val / 8) + r.val ∧
    b.val = 1024 * (t.val / 4 % 2) + j.val ∧ result m c (((cfg0.win 2).blk t).view.emb (ix2 r j)) = ∑ k, term (lhs m c) (rhs m c) a b k := by
  have hp := point_lt t
  have hr := r.isLt
  have hj := j.isLt
  refine ⟨_, _, ?_, ?_, rfl⟩
  · show win0_2.index t 0 * 1024 + 1 * r.val = _
    rw [(ix_2 t).1]; omega
  · show win0_2.index t 1 * 1024 + 1 * j.val = _
    rw [(ix_2 t).2]; omega

theorem flushed (c : Dev nD) (t : Fin cfg0.N) (hf : (cfg0.win 2).flush t = true) :
    (dats m 0 c).flushed 2 t = ((cfg0.win 2).blk t).view.read (Elt Ideal) (result m c) := by
  have ht : t.val % 4 = 3 := (flush0_2 t).1 hf
  rw [Value.flushed2, outs_last m c t ht]
  funext (y : S1024x1024.Idx)
  rw [View.read_apply]
  obtain ⟨r, j, rfl⟩ : ∃ (r : Fin 1024) (j : Fin 1024), y = ix2 r j := ⟨y 0, y 1, eq_ix2 y⟩
  obtain ⟨a, b, ha, hb, e⟩ := place m c t r j
  rw [e]
  refine (after m c t.val t.isLt r j a b ha hb).trans ?_
  rw [ht]
  exact upto_all _

theorem final (c : Dev nD) : (dats m 0 c).arrAt 2 cfg0.N = result m c :=
  (dats m 0 c).arrAt_eq_of_cover 2 _ (flushed m c) fun i =>
    have h0 : (i 0 : Nat) < 4096 := (i 0).isLt
    have h1 : (i 1 : Nat) < 2048 := (i 1).isLt
    have hN : cfg0.N = 32 := N_0
    have ht : 8 * ((i 0 : Nat) / 1024) + 4 * ((i 1 : Nat) / 1024) + 3 < cfg0.N := by omega
    ⟨⟨8 * ((i 0 : Nat) / 1024) + 4 * ((i 1 : Nat) / 1024) + 3, ht⟩, (flush0_2 _).2 (by dsimp only; omega), by
      show i ∈ ((View.whole main_v0).slice (win0_2.rect ⟨8 * ((i 0 : Nat) / 1024) + 4 * ((i 1 : Nat) / 1024) + 3, ht⟩)).set
      rw [View.set_slice_whole, Rect.mem_set_unit]
      have e := ix_2 ⟨8 * ((i 0 : Nat) / 1024) + 4 * ((i 1 : Nat) / 1024) + 3, ht⟩
      dsimp only at e
      intro a
      match a with
      | ⟨0, _⟩ => show win0_2.index ⟨8 * ((i 0 : Nat) / 1024) + 4 * ((i 1 : Nat) / 1024) + 3, ht⟩ 0 * 1024 ≤ (i 0 : Nat) ∧ (i 0 : Nat) < win0_2.index ⟨8 * ((i 0 : Nat) / 1024) + 4 * ((i 1 : Nat) / 1024) + 3, ht⟩ 0 * 1024 + 1024; rw [e.1]; omega
      | ⟨1, _⟩ => show win0_2.index ⟨8 * ((i 0 : Nat) / 1024) + 4 * ((i 1 : Nat) / 1024) + 3, ht⟩ 1 * 1024 ≤ (i 1 : Nat) ∧ (i 1 : Nat) < win0_2.index ⟨8 * ((i 0 : Nat) / 1024) + 4 * ((i 1 : Nat) / 1024) + 3, ht⟩ 1 * 1024 + 1024; rw [e.2]; omega
      ⟩

end Cert.DaFf1Ideal.Product

namespace Cert.DaFf1RefIdeal.Product

open Idealize.ShloMosaic Idealize.ShloMosaic.Tactic Cert.DaFf1RefIdeal Cert.DaFf1RefIdeal.Gen

/-- The reference's result, element by element. -/
theorem value (x : S4096x8192.Idx → EReal) (w : S2048x8192.Idx → EReal) (i : Fin 4096) (j : Fin 2048) :
    (Host.dotGeneral (F := Ideal) (φ₁ := .f32) (φ₂ := .f32) dot_S4096x8192_S2048x8192_S4096x2048_1_1_0_0_n_n none (extf (F := Ideal) .f32 x bitsLt_bf16_f32) (extf (F := Ideal) .f32 w bitsLt_bf16_f32)) (ix2 i j) = ∑ k, Cert.DaFf1Ideal.Product.term x w i j k := by
  pointwise []
  unfold Cert.DaFf1Ideal.Product.term
  rfl

end Cert.DaFf1RefIdeal.Product

namespace Cert.Proof.DaFf1Claims

open Idealize.ShloMosaic Idealize.ShloMosaic.TcCoe Idealize.ShloMosaic.Tactic Idealize.SL.Sem

theorem frame_p : Cert.quiescent_DaFf1 (hDaFf1 := Cert.DaFf1.Gen.facts) := fun m ρ _ => Cert.DaFf1.Gen.frame m ρ
theorem frame_pi : Cert.quiescent_DaFf1Ideal (hDaFf1Ideal := Cert.DaFf1Ideal.Gen.facts) := fun m ρ _ => Cert.DaFf1Ideal.Gen.frame m ρ
theorem frame_ri : Cert.quiescent_DaFf1RefIdeal (hDaFf1RefIdeal := Cert.DaFf1RefIdeal.Gen.facts) := fun m ρ _ =>
  (θ_run Cert.DaFf1RefIdeal.defs _ _).mono (fun r h => ⟨fun c => (h c).2, Idealize.ShloMosaic.sem_eq_zero_of_no_sems (by decide) r.2⟩)
    (Cert.DaFf1RefIdeal.Value.run (F := Ideal) m ρ)
theorem preserves : Cert.preserves_DaFf1_DaFf1Ideal := trivial

theorem algebraic : Cert.algebraic_DaFf1Ideal_DaFf1RefIdeal (hDaFf1Ideal := Cert.DaFf1Ideal.Gen.facts) (hDaFf1RefIdeal := Cert.DaFf1RefIdeal.Gen.facts) := by
  intro m ρ m' ρ' _ hagree
  refine ⟨_, Cert.DaFf1Ideal.Value.run_blocks m ρ, ?_⟩
  refine (θ_run Cert.DaFf1RefIdeal.defs _ _).mono (fun _ h c => ?_) (Cert.DaFf1RefIdeal.Value.run (F := Ideal) m' ρ')
  obtain ⟨e0, e1⟩ := hagree c
  obtain ⟨r0, rest⟩ := h c
  refine ⟨r0.trans ?_, rest⟩
  rw [e0, e1, Cert.DaFf1Ideal.Product.final m c]
  funext y
  obtain ⟨i, j, rfl⟩ : ∃ (i : Fin 4096) (j : Fin 2048), y = ix2 i j := ⟨y 0, y 1, eq_ix2 y⟩
  exact Cert.DaFf1RefIdeal.Product.value _ _ i j

end Cert.Proof.DaFf1Claims

end
-- ==== Proof.DwFf1Product.lean ====
/-
  The gradient of the first feed-forward weight, cut over the devices: a2ᵀ · df1. The kernel's result is the product of its two arguments' numbers, summed over blocks of 2048; so is the reference's.
-/
module

public import proofs.«01_k».proof.Proof.Products
public import proofs.«01_k».proof.Defs
public import proofs.«01_k».proof.Proof.Gen.DwFf1.Frame
public import proofs.«01_k».proof.Proof.Gen.DwFf1Ideal.Frame
public import proofs.«01_k».proof.Proof.Gen.DwFf1Ideal.Value
public import proofs.«01_k».proof.Proof.Gen.DwFf1RefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DwFf1Ideal.Product

open Idealize.ShloMosaic Idealize.ShloMosaic.TcCoe Idealize.ShloMosaic.Tactic Cert.DwFf1Ideal Cert.DwFf1Ideal.Gen Cert.Products

/-- The product's term. -/
def term (x : S4096x2048.Idx → EReal) (w : S4096x8192.Idx → EReal) (i : Fin 2048) (j : Fin 8192) (k : Fin 4096) : EReal := x (ix2 k i) * w (ix2 k j)

/-! ## What the body computes of its blocks -/

theorem pay_zero (r : Fin 1024) (j : Fin 2048) : k0_pay1 (F := Ideal) (ix2 r j) = (0 : EReal) := by
  pointwise [k0_pay1]

theorem pay_add (acc : S1024x2048.Idx → EReal) (x : S2048x1024.Idx → EReal) (w : S2048x2048.Idx → EReal) (r : Fin 1024) (j : Fin 2048) :
    k0_pay2 (F := Ideal) acc x w (ix2 r j) = acc (ix2 r j) + ∑ k : Fin 2048, x (ix2 k r) * w (ix2 k j) := by
  pointwise [k0_pay2]

theorem pay_out (acc : S1024x2048.Idx → EReal) (r : Fin 1024) (j : Fin 2048) : k0_pay3 (F := Ideal) acc (ix4 0 0 r j) = acc (ix2 r j) := by
  pointwise [k0_pay3]

theorem scratch_A (c : Dev nD) (i : grid0.Coords) (arg3 : Memref sig .tc .vmem S2048x1024 .bf16) (harg3 : arg3.IsWhole) (arg4 : Memref sig .tc .vmem S2048x2048 .bf16) (harg4 : arg4.IsWhole) (arg5 : Memref sig .tc .vmem S1x1x1024x2048 .bf16) (harg5 : arg5.IsWhole) (arg6 : Memref sig .tc .vmem S1024x2048 .f32) (harg6 : arg6.IsWhole) (hc0 : cond0_0 i) (hc1 : ¬cond0_1 i)
    (x0 : Vec Ideal S2048x1024 .bf16) (x1 : Vec Ideal S2048x2048 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_B (c : Dev nD) (i : grid0.Coords) (arg3 : Memref sig .tc .vmem S2048x1024 .bf16) (harg3 : arg3.IsWhole) (arg4 : Memref sig .tc .vmem S2048x2048 .bf16) (harg4 : arg4.IsWhole) (arg5 : Memref sig .tc .vmem S1x1x1024x2048 .bf16) (harg5 : arg5.IsWhole) (arg6 : Memref sig .tc .vmem S1024x2048 .f32) (harg6 : arg6.IsWhole) (hc0 : ¬cond0_0 i) (hc1 : cond0_1 i)
    (x0 : Vec Ideal S2048x1024 .bf16) (x1 : Vec Ideal S2048x2048 .bf16) (xs0 : Vec Ideal S1024x2048 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem out_B (c : Dev nD) (i : grid0.Coords) (arg3 : Memref sig .tc .vmem S2048x1024 .bf16) (harg3 : arg3.IsWhole) (arg4 : Memref sig .tc .vmem S2048x2048 .bf16) (harg4 : arg4.IsWhole) (arg5 : Memref sig .tc .vmem S1x1x1024x2048 .bf16) (harg5 : arg5.IsWhole) (arg6 : Memref sig .tc .vmem S1024x2048 .f32) (harg6 : arg6.IsWhole) (hc0 : ¬cond0_0 i) (hc1 : cond0_1 i)
    (x0 : Vec Ideal S2048x1024 .bf16) (x1 : Vec Ideal S2048x2048 .bf16) (xs0 : Vec Ideal S1024x2048 .f32) :
    out0_B_2 c i arg3 harg3 arg4 harg4 arg5 harg5 arg6 harg6 hc0 hc1 x0 x1 xs0 = k0_pay3 (F := Ideal) (k0_pay2 (F := Ideal) xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

variable (m : (ℓ : Loc nD τ sig) → Buf (Elt Ideal) ℓ)

/-- The two arguments. -/
abbrev lhs (c : Dev nD) : S4096x2048.Idx → EReal := m ((c : Thread nD τ).loc main_arg0)
abbrev rhs (c : Dev nD) : S4096x8192.Idx → EReal := m ((c : Thread nD τ).loc main_arg1)

/-! ## The blocks -/

theorem point_lt (t : Fin cfg0.N) : t.val < 16 := by have := t.isLt; have hN : cfg0.N = 16 := N_0; omega

theorem ix_0 : ∀ t : Fin cfg0.N, win0_0.index t 0 = t.val % 2 ∧ win0_0.index t 1 = t.val / 8 :=
  (by decide +kernel : ∀ t : Fin grid0.N, win0_0.index t 0 = t.val % 2 ∧ win0_0.index t 1 = t.val / 8)
theorem ix_1 : ∀ t : Fin cfg0.N, win0_1.index t 0 = t.val % 2 ∧ win0_1.index t 1 = t.val / 2 % 4 :=
  (by decide +kernel : ∀ t : Fin grid0.N, win0_1.index t 0 = t.val % 2 ∧ win0_1.index t 1 = t.val / 2 % 4)

theorem blk_0 (c : Dev nD) (t : Fin cfg0.N) (r : Fin 1024) (k : Fin 2048) (a : Fin 2048) (b : Fin 4096) (ha : a.val = 1024 * (t.val / 8) + r.val)
    (hb : b.val = 2048 * (t.val % 2) + k.val) : (iblk m c 0 t : S2048x1024.Idx → EReal) (ix2 k r) = lhs m c (ix2 b a) := by
  unfold iblk
  rw [View.read_apply]
  show V m c main_arg0 _ = _
  rw [V_main_arg0]
  refine congrArg (lhs m c) ?_
  funext d
  apply Fin.ext
  match d with
  | ⟨0, _⟩ => show win0_0.index t 0 * 2048 + 1 * k.val = b.val; rw [(ix_0 t).1]; omega
  | ⟨1, _⟩ => show win0_0.index t 1 * 1024 + 1 * r.val = a.val; rw [(ix_0 t).2]; omega

theorem blk_1 (c : Dev nD) (t : Fin cfg0.N) (j : Fin 2048) (k : Fin 2048) (a : Fin 8192) (b : Fin 4096) (ha : a.val = 2048 * (t.val / 2 % 4) + j.val)
    (hb : b.val = 2048 * (t.val % 2) + k.val) : (iblk m c 1 t : S2048x2048.Idx → EReal) (ix2 k j) = rhs m c (ix2 b a) := by
  unfold iblk
  rw [View.read_apply]
  show V m c main_arg1 _ = _
  rw [V_main_arg1]
  refine congrArg (rhs m c) ?_
  funext d
  apply Fin.ext
  match d with
  | ⟨0, _⟩ => show win0_1.index t 0 * 2048 + 1 * k.val = b.val; rw [(ix_1 t).1]; omega
  | ⟨1, _⟩ => show win0_1.index t 1 * 2048 + 1 * j.val = a.val; rw [(ix_1 t).2]; omega

/-! ## Point by point -/

/-- One block added. -/
theorem step (c : Dev nD) (t : Fin cfg0.N) (r : Fin 1024) (j : Fin 2048) (a : Fin 2048) (b : Fin 8192) (ha : a.val = 1024 * (t.val / 8) + r.val)
    (hb : b.val = 2048 * (t.val / 2 % 4) + j.val) (acc : S1024x2048.Idx → EReal)
    (h : acc (ix2 r j) = upto (term (lhs m c) (rhs m c) a b) (2048 * (t.val % 2))) :
    k0_pay2 (F := Ideal) acc (iblk m c 0 t) (iblk m c 1 t) (ix2 r j) = upto (term (lhs m c) (rhs m c) a b) (2048 * (t.val % 2) + 2048) := by
  refine (pay_add acc (iblk m c 0 t) (iblk m c 1 t) r j).trans ?_
  rw [h]
  refine upto_add _ _ _ _ (fun k hk => ?_) (by omega)
  rw [blk_0 m c t r k a ⟨_, hk⟩ ha rfl, blk_1 m c t j k b ⟨_, hk⟩ hb rfl]
  rfl

theorem outs_A (c : Dev nD) (t : Fin cfg0.N) (h0 : t.val % 2 = 0) :
    (outsAt0 m c t.val t.isLt).2 = k0_pay2 (F := Ideal) (k0_pay1 (F := Ideal)) (iblk m c 0 t) (iblk m c 1 t) := by
  rw [outsAt0_A m c t h0 (by omega)]
  dsimp only
  rw [scratch_A]

theorem outs_B (c : Dev nD) (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]
  dsimp only
  rw [scratch_B]

theorem outs_last (c : Dev nD) (t : Fin cfg0.N) (h1 : t.val % 2 = 1) : (outsAt0 m c t.val t.isLt).1 = k0_pay3 (F := Ideal) (outsAt0 m c t.val t.isLt).2 := by
  rw [outs_B m c t (by omega), outsAt0_B m c t (by omega) h1]
  dsimp only
  rw [out_B]

/-- The accumulator holds the blocks added so far. -/
theorem after (c : Dev nD) : ∀ (n : ℕ) (hn : n < cfg0.N) (r : Fin 1024) (j : Fin 2048) (a : Fin 2048) (b : Fin 8192), a.val = 1024 * (n / 8) + r.val →
    b.val = 2048 * (n / 2 % 4) + j.val →
    ((outsAt0 m c n hn).2 : S1024x2048.Idx → EReal) (ix2 r j) = upto (term (lhs m c) (rhs m c) a b) (2048 * (n % 2) + 2048)
  | 0, hn, r, j, a, b, ha, hb => by
    have e : (outsAt0 m c 0 hn).2 = _ := outs_A m c ⟨0, hn⟩ rfl
    rw [e]
    exact step m c ⟨0, hn⟩ r j a b ha hb _ ((pay_zero r j).trans (upto_zero _).symm)
  | n + 1, hn, r, j, a, b, ha, hb => by
    by_cases h0 : (n + 1) % 2 = 0
    · have e : (outsAt0 m c (n + 1) hn).2 = _ := outs_A m c ⟨n + 1, hn⟩ h0
      rw [e]
      refine step m c ⟨n + 1, hn⟩ r j a b ha hb _ ((pay_zero r j).trans ?_)
      dsimp only
      rw [h0, Nat.mul_zero, upto_zero]
    · have e : (outsAt0 m c (n + 1) hn).2 = _ := outs_B m c ⟨n + 1, hn⟩ h0
      rw [e]
      refine step m c ⟨n + 1, hn⟩ r j a b ha hb _ ?_
      refine (after c n (Nat.lt_of_succ_lt hn) r j a b (by omega) (by omega)).trans ?_
      dsimp only
      congr 1
      omega

/-- The result cuts the product's columns into four and its rows into two: where an element stands in the product. -/
def row (i : S4x2x1024x2048.Idx) : Fin 2048 :=
  ⟨(i 1).val * 1024 + (i 2).val, by have h1 : (i 1).val < 2 := (i 1).isLt; have h2 : (i 2).val < 1024 := (i 2).isLt; omega⟩
def col (i : S4x2x1024x2048.Idx) : Fin 8192 :=
  ⟨(i 0).val * 2048 + (i 3).val, by have h0 : (i 0).val < 4 := (i 0).isLt; have h3 : (i 3).val < 2048 := (i 3).isLt; omega⟩

/-! ## The result's array -/

theorem ix_2 : ∀ t : Fin cfg0.N, win0_2.index t 0 = t.val / 2 % 4 ∧ win0_2.index t 1 = t.val / 8 ∧ win0_2.index t 2 = 0 ∧ win0_2.index t 3 = 0 :=
  (by decide +kernel : ∀ t : Fin grid0.N, win0_2.index t 0 = t.val / 2 % 4 ∧ win0_2.index t 1 = t.val / 8 ∧ win0_2.index t 2 = 0 ∧ win0_2.index t 3 = 0)

/-- The kernel's result. -/
def result (c : Dev nD) : S4x2x1024x2048.Idx → EReal := fun i : S4x2x1024x2048.Idx => ∑ k, term (lhs m c) (rhs m c) (row i) (col i) k

/-- Where point `t`'s block stands in the result. -/
theorem place (c : Dev nD) (t : Fin cfg0.N) (r : Fin 1024) (j : Fin 2048) : ∃ (a : Fin 2048) (b : Fin 8192), a.val = 1024 * (t.val / 8) + r.val ∧
    b.val = 2048 * (t.val / 2 % 4) + j.val ∧ result m c (((cfg0.win 2).blk t).view.emb (ix4 0 0 r j)) = ∑ k, term (lhs m c) (rhs m c) a b k := by
  have hp := point_lt t
  have hr := r.isLt
  have hj := j.isLt
  refine ⟨_, _, ?_, ?_, rfl⟩
  · show (win0_2.index t 1 * 1 + 1 * 0) * 1024 + (win0_2.index t 2 * 1024 + 1 * r.val) = _
    rw [(ix_2 t).2.1, (ix_2 t).2.2.1]; omega
  · show (win0_2.index t 0 * 1 + 1 * 0) * 2048 + (win0_2.index t 3 * 2048 + 1 * j.val) = _
    rw [(ix_2 t).1, (ix_2 t).2.2.2]; omega

theorem flushed (c : Dev nD) (t : Fin cfg0.N) (hf : (cfg0.win 2).flush t = true) :
    (dats m 0 c).flushed 2 t = ((cfg0.win 2).blk t).view.read (Elt Ideal) (result m c) := by
  have ht : t.val % 2 = 1 := (flush0_2 t).1 hf
  rw [Value.flushed2, outs_last m c t ht]
  funext (y : S1x1x1024x2048.Idx)
  rw [View.read_apply]
  obtain ⟨r, j, rfl⟩ : ∃ (r : Fin 1024) (j : Fin 2048), y = ix4 0 0 r j := by
    refine ⟨y 2, y 3, ?_⟩
    funext d
    match d with
    | ⟨0, _⟩ => exact Subsingleton.elim (α := Fin 1) _ _
    | ⟨1, _⟩ => exact Subsingleton.elim (α := Fin 1) _ _
    | ⟨2, _⟩ => rfl
    | ⟨3, _⟩ => rfl
  obtain ⟨a, b, ha, hb, e⟩ := place m c t r j
  rw [e]
  refine ((pay_out _ r j).trans (after m c t.val t.isLt r j a b ha hb)).trans ?_
  rw [ht]
  exact upto_all _

theorem final (c : Dev nD) : (dats m 0 c).arrAt 2 cfg0.N = result m c :=
  (dats m 0 c).arrAt_eq_of_cover 2 _ (flushed m c) fun i =>
    have h0 : (i 0 : Nat) < 4 := (i 0).isLt
    have h1 : (i 1 : Nat) < 2 := (i 1).isLt
    have h2 : (i 2 : Nat) < 1024 := (i 2).isLt
    have h3 : (i 3 : Nat) < 2048 := (i 3).isLt
    have hN : cfg0.N = 16 := N_0
    have ht : 8 * ((i 1 : Nat)) + 2 * ((i 0 : Nat)) + 1 < cfg0.N := by omega
    ⟨⟨8 * ((i 1 : Nat)) + 2 * ((i 0 : Nat)) + 1, ht⟩, (flush0_2 _).2 (by dsimp only; omega), by
      show i ∈ ((View.whole main_v0).slice (win0_2.rect ⟨8 * ((i 1 : Nat)) + 2 * ((i 0 : Nat)) + 1, ht⟩)).set
      rw [View.set_slice_whole, Rect.mem_set_unit]
      have e := ix_2 ⟨8 * ((i 1 : Nat)) + 2 * ((i 0 : Nat)) + 1, ht⟩
      dsimp only at e
      intro a
      match a with
      | ⟨0, _⟩ => show win0_2.index ⟨8 * ((i 1 : Nat)) + 2 * ((i 0 : Nat)) + 1, ht⟩ 0 * 1 ≤ (i 0 : Nat) ∧ (i 0 : Nat) < win0_2.index ⟨8 * ((i 1 : Nat)) + 2 * ((i 0 : Nat)) + 1, ht⟩ 0 * 1 + 1; rw [e.1]; omega
      | ⟨1, _⟩ => show win0_2.index ⟨8 * ((i 1 : Nat)) + 2 * ((i 0 : Nat)) + 1, ht⟩ 1 * 1 ≤ (i 1 : Nat) ∧ (i 1 : Nat) < win0_2.index ⟨8 * ((i 1 : Nat)) + 2 * ((i 0 : Nat)) + 1, ht⟩ 1 * 1 + 1; rw [e.2.1]; omega
      | ⟨2, _⟩ => show win0_2.index ⟨8 * ((i 1 : Nat)) + 2 * ((i 0 : Nat)) + 1, ht⟩ 2 * 1024 ≤ (i 2 : Nat) ∧ (i 2 : Nat) < win0_2.index ⟨8 * ((i 1 : Nat)) + 2 * ((i 0 : Nat)) + 1, ht⟩ 2 * 1024 + 1024; rw [e.2.2.1]; omega
      | ⟨3, _⟩ => show win0_2.index ⟨8 * ((i 1 : Nat)) + 2 * ((i 0 : Nat)) + 1, ht⟩ 3 * 2048 ≤ (i 3 : Nat) ∧ (i 3 : Nat) < win0_2.index ⟨8 * ((i 1 : Nat)) + 2 * ((i 0 : Nat)) + 1, ht⟩ 3 * 2048 + 2048; rw [e.2.2.2]; omega
      ⟩

end Cert.DwFf1Ideal.Product

namespace Cert.DwFf1RefIdeal.Product

open Idealize.ShloMosaic Idealize.ShloMosaic.Tactic Cert.DwFf1RefIdeal Cert.DwFf1RefIdeal.Gen

/-- The reference's result, element by element. -/
theorem value (x : S4096x2048.Idx → EReal) (w : S4096x8192.Idx → EReal) (p : Fin 4) (q : Fin 2) (r : Fin 1024) (j : Fin 2048) :
    (truncf (F := Ideal) .bf16 (transpose S4x2x1024x2048 [2, 0, 1, 3] (shapeCast _ (transpose S2048x8192 [1, 0] (Host.dotGeneral (F := Ideal) (φ₁ := .f32) (φ₂ := .f32) dot_S4096x8192_S4096x2048_S8192x2048_0_0_1_1_n_n none (extf (F := Ideal) .f32 w bitsLt_bf16_f32) (extf (F := Ideal) .f32 x bitsLt_bf16_f32)) transposes_S8192x2048_S2048x8192_1_0) shapeCasts_S2048x8192_S2x1024x4x2048) transposes_S2x1024x4x2048_S4x2x1024x2048_2_0_1_3) bitsLt_bf16_f32) (ix4 p q r j) = ∑ k, Cert.DwFf1Ideal.Product.term x w (Cert.DwFf1Ideal.Product.row (ix4 p q r j)) (Cert.DwFf1Ideal.Product.col (ix4 p q r j)) k := by
  pointwise []
  unfold Cert.DwFf1Ideal.Product.term
  exact Finset.sum_congr rfl fun k _ => mul_comm _ _

end Cert.DwFf1RefIdeal.Product

namespace Cert.Proof.DwFf1Claims

open Idealize.ShloMosaic Idealize.ShloMosaic.TcCoe Idealize.ShloMosaic.Tactic Idealize.SL.Sem

theorem frame_p : Cert.quiescent_DwFf1 (hDwFf1 := Cert.DwFf1.Gen.facts) := fun m ρ _ => Cert.DwFf1.Gen.frame m ρ
theorem frame_pi : Cert.quiescent_DwFf1Ideal (hDwFf1Ideal := Cert.DwFf1Ideal.Gen.facts) := fun m ρ _ => Cert.DwFf1Ideal.Gen.frame m ρ
theorem frame_ri : Cert.quiescent_DwFf1RefIdeal (hDwFf1RefIdeal := Cert.DwFf1RefIdeal.Gen.facts) := fun m ρ _ =>
  (θ_run Cert.DwFf1RefIdeal.defs _ _).mono (fun r h => ⟨fun c => (h c).2, Idealize.ShloMosaic.sem_eq_zero_of_no_sems (by decide) r.2⟩)
    (Cert.DwFf1RefIdeal.Value.run (F := Ideal) m ρ)
theorem preserves : Cert.preserves_DwFf1_DwFf1Ideal := trivial

theorem algebraic : Cert.algebraic_DwFf1Ideal_DwFf1RefIdeal (hDwFf1Ideal := Cert.DwFf1Ideal.Gen.facts) (hDwFf1RefIdeal := Cert.DwFf1RefIdeal.Gen.facts) := by
  intro m ρ m' ρ' _ hagree
  refine ⟨_, Cert.DwFf1Ideal.Value.run_blocks m ρ, ?_⟩
  refine (θ_run Cert.DwFf1RefIdeal.defs _ _).mono (fun _ h c => ?_) (Cert.DwFf1RefIdeal.Value.run (F := Ideal) m' ρ')
  obtain ⟨e0, e1⟩ := hagree c
  obtain ⟨r0, rest⟩ := h c
  refine ⟨r0.trans ?_, rest⟩
  rw [e0, e1, Cert.DwFf1Ideal.Product.final m c]
  funext y
  obtain ⟨p, q, r, j, rfl⟩ : ∃ (p : Fin 4) (q : Fin 2) (r : Fin 1024) (j : Fin 2048), y = ix4 p q r j := ⟨y 0, y 1, y 2, y 3, eq_ix4 y⟩
  exact Cert.DwFf1RefIdeal.Product.value _ _ p q r j

end Cert.Proof.DwFf1Claims

end
-- ==== Proof.DwInProduct.lean ====
/-
  The gradient of the projection's weight, cut over the devices: a1ᵀ · dproj. The kernel's result is the product of its two arguments' numbers, summed over blocks of 1024; so is the reference's.
-/
module

public import proofs.«01_k».proof.Proof.Products
public import proofs.«01_k».proof.Defs
public import proofs.«01_k».proof.Proof.Gen.DwIn.Frame
public import proofs.«01_k».proof.Proof.Gen.DwInIdeal.Frame
public import proofs.«01_k».proof.Proof.Gen.DwInIdeal.Value
public import proofs.«01_k».proof.Proof.Gen.DwInRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DwInIdeal.Product

open Idealize.ShloMosaic Idealize.ShloMosaic.TcCoe Idealize.ShloMosaic.Tactic Cert.DwInIdeal Cert.DwInIdeal.Gen Cert.Products

/-- The product's term. -/
def term (x : S4096x2048.Idx → EReal) (w : S4096x11264.Idx → EReal) (i : Fin 2048) (j : Fin 11264) (k : Fin 4096) : EReal := x (ix2 k i) * w (ix2 k j)

/-! ## What the body computes of its blocks -/

theorem pay_zero (r : Fin 1024) (j : Fin 2816) : k0_pay1 (F := Ideal) (ix2 r j) = (0 : EReal) := by
  pointwise [k0_pay1]

theorem pay_add (acc : S1024x2816.Idx → EReal) (x : S1024x1024.Idx → EReal) (w : S1024x2816.Idx → EReal) (r : Fin 1024) (j : Fin 2816) :
    k0_pay2 (F := Ideal) acc x w (ix2 r j) = acc (ix2 r j) + ∑ k : Fin 1024, x (ix2 k r) * w (ix2 k j) := by
  pointwise [k0_pay2]

theorem pay_out (acc : S1024x2816.Idx → EReal) (r : Fin 1024) (j : Fin 2816) : k0_pay3 (F := Ideal) acc (ix4 0 0 r j) = acc (ix2 r j) := by
  pointwise [k0_pay3]

theorem scratch_A (c : Dev nD) (i : grid0.Coords) (arg3 : Memref sig .tc .vmem S1024x1024 .bf16) (harg3 : arg3.IsWhole) (arg4 : Memref sig .tc .vmem S1024x2816 .bf16) (harg4 : arg4.IsWhole) (arg5 : Memref sig .tc .vmem S1x1x1024x2816 .bf16) (harg5 : arg5.IsWhole) (arg6 : Memref sig .tc .vmem S1024x2816 .f32) (harg6 : arg6.IsWhole) (hc0 : cond0_0 i) (hc1 : ¬cond0_1 i)
    (x0 : Vec Ideal S1024x1024 .bf16) (x1 : Vec Ideal S1024x2816 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_B (c : Dev nD) (i : grid0.Coords) (arg3 : Memref sig .tc .vmem S1024x1024 .bf16) (harg3 : arg3.IsWhole) (arg4 : Memref sig .tc .vmem S1024x2816 .bf16) (harg4 : arg4.IsWhole) (arg5 : Memref sig .tc .vmem S1x1x1024x2816 .bf16) (harg5 : arg5.IsWhole) (arg6 : Memref sig .tc .vmem S1024x2816 .f32) (harg6 : arg6.IsWhole) (hc0 : ¬cond0_0 i) (hc1 : ¬cond0_1 i)
    (x0 : Vec Ideal S1024x1024 .bf16) (x1 : Vec Ideal S1024x2816 .bf16) (xs0 : Vec Ideal S1024x2816 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_C (c : Dev nD) (i : grid0.Coords) (arg3 : Memref sig .tc .vmem S1024x1024 .bf16) (harg3 : arg3.IsWhole) (arg4 : Memref sig .tc .vmem S1024x2816 .bf16) (harg4 : arg4.IsWhole) (arg5 : Memref sig .tc .vmem S1x1x1024x2816 .bf16) (harg5 : arg5.IsWhole) (arg6 : Memref sig .tc .vmem S1024x2816 .f32) (harg6 : arg6.IsWhole) (hc0 : ¬cond0_0 i) (hc1 : cond0_1 i)
    (x0 : Vec Ideal S1024x1024 .bf16) (x1 : Vec Ideal S1024x2816 .bf16) (xs0 : Vec Ideal S1024x2816 .f32) :
    sout0_C_0 c i arg3 harg3 arg4 harg4 arg5 harg5 arg6 harg6 hc0 hc1 x0 x1 xs0 = k0_pay2 (F := Ideal) xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem out_C (c : Dev nD) (i : grid0.Coords) (arg3 : Memref sig .tc .vmem S1024x1024 .bf16) (harg3 : arg3.IsWhole) (arg4 : Memref sig .tc .vmem S1024x2816 .bf16) (harg4 : arg4.IsWhole) (arg5 : Memref sig .tc .vmem S1x1x1024x2816 .bf16) (harg5 : arg5.IsWhole) (arg6 : Memref sig .tc .vmem S1024x2816 .f32) (harg6 : arg6.IsWhole) (hc0 : ¬cond0_0 i) (hc1 : cond0_1 i)
    (x0 : Vec Ideal S1024x1024 .bf16) (x1 : Vec Ideal S1024x2816 .bf16) (xs0 : Vec Ideal S1024x2816 .f32) :
    out0_C_2 c i arg3 harg3 arg4 harg4 arg5 harg5 arg6 harg6 hc0 hc1 x0 x1 xs0 = k0_pay3 (F := Ideal) (k0_pay2 (F := Ideal) xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

variable (m : (ℓ : Loc nD τ sig) → Buf (Elt Ideal) ℓ)

/-- The two arguments. -/
abbrev lhs (c : Dev nD) : S4096x2048.Idx → EReal := m ((c : Thread nD τ).loc main_arg0)
abbrev rhs (c : Dev nD) : S4096x11264.Idx → EReal := m ((c : Thread nD τ).loc main_arg1)

/-! ## The blocks -/

theorem point_lt (t : Fin cfg0.N) : t.val < 32 := by have := t.isLt; have hN : cfg0.N = 32 := N_0; omega

theorem ix_0 : ∀ t : Fin cfg0.N, win0_0.index t 0 = t.val % 4 ∧ win0_0.index t 1 = t.val / 16 :=
  (by decide +kernel : ∀ t : Fin grid0.N, win0_0.index t 0 = t.val % 4 ∧ win0_0.index t 1 = t.val / 16)
theorem ix_1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)

theorem blk_0 (c : Dev nD) (t : Fin cfg0.N) (r : Fin 1024) (k : Fin 1024) (a : Fin 2048) (b : Fin 4096) (ha : a.val = 1024 * (t.val / 16) + r.val)
    (hb : b.val = 1024 * (t.val % 4) + k.val) : (iblk m c 0 t : S1024x1024.Idx → EReal) (ix2 k r) = lhs m c (ix2 b a) := by
  unfold iblk
  rw [View.read_apply]
  show V m c main_arg0 _ = _
  rw [V_main_arg0]
  refine congrArg (lhs m c) ?_
  funext d
  apply Fin.ext
  match d with
  | ⟨0, _⟩ => show win0_0.index t 0 * 1024 + 1 * k.val = b.val; rw [(ix_0 t).1]; omega
  | ⟨1, _⟩ => show win0_0.index t 1 * 1024 + 1 * r.val = a.val; rw [(ix_0 t).2]; omega

theorem blk_1 (c : Dev nD) (t : Fin cfg0.N) (j : Fin 2816) (k : Fin 1024) (a : Fin 11264) (b : Fin 4096) (ha : a.val = 2816 * (t.val / 4 % 4) + j.val)
    (hb : b.val = 1024 * (t.val % 4) + k.val) : (iblk m c 1 t : S1024x2816.Idx → EReal) (ix2 k j) = rhs m c (ix2 b a) := by
  unfold iblk
  rw [View.read_apply]
  show V m c main_arg1 _ = _
  rw [V_main_arg1]
  refine congrArg (rhs m c) ?_
  funext d
  apply Fin.ext
  match d with
  | ⟨0, _⟩ => show win0_1.index t 0 * 1024 + 1 * k.val = b.val; rw [(ix_1 t).1]; omega
  | ⟨1, _⟩ => show win0_1.index t 1 * 2816 + 1 * j.val = a.val; rw [(ix_1 t).2]; omega

/-! ## Point by point -/

/-- One block added. -/
theorem step (c : Dev nD) (t : Fin cfg0.N) (r : Fin 1024) (j : Fin 2816) (a : Fin 2048) (b : Fin 11264) (ha : a.val = 1024 * (t.val / 16) + r.val)
    (hb : b.val = 2816 * (t.val / 4 % 4) + j.val) (acc : S1024x2816.Idx → EReal)
    (h : acc (ix2 r j) = upto (term (lhs m c) (rhs m c) a b) (1024 * (t.val % 4))) :
    k0_pay2 (F := Ideal) acc (iblk m c 0 t) (iblk m c 1 t) (ix2 r j) = upto (term (lhs m c) (rhs m c) a b) (1024 * (t.val % 4) + 1024) := by
  refine (pay_add acc (iblk m c 0 t) (iblk m c 1 t) r j).trans ?_
  rw [h]
  refine upto_add _ _ _ _ (fun k hk => ?_) (by omega)
  rw [blk_0 m c t r k a ⟨_, hk⟩ ha rfl, blk_1 m c t j k b ⟨_, hk⟩ hb rfl]
  rfl

theorem outs_A (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  rw [scratch_A]

theorem outs_B (c : Dev nD) (t : Fin cfg0.N) (h0 : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [scratch_C]
  · rw [outsAt0_B m c t h0 h1]
    dsimp only
    rw [scratch_B]

theorem outs_last (c : Dev nD) (t : Fin cfg0.N) (h1 : t.val % 4 = 3) : (outsAt0 m c t.val t.isLt).1 = k0_pay3 (F := Ideal) (outsAt0 m c t.val t.isLt).2 := by
  rw [outs_B m c t (by omega), outsAt0_C m c t (by omega) h1]
  dsimp only
  rw [out_C]

/-- The accumulator holds the blocks added so far. -/
theorem after (c : Dev nD) : ∀ (n : ℕ) (hn : n < cfg0.N) (r : Fin 1024) (j : Fin 2816) (a : Fin 2048) (b : Fin 11264), a.val = 1024 * (n / 16) + r.val →
    b.val = 2816 * (n / 4 % 4) + j.val →
    ((outsAt0 m c n hn).2 : S1024x2816.Idx → EReal) (ix2 r j) = upto (term (lhs m c) (rhs m c) a b) (1024 * (n % 4) + 1024)
  | 0, hn, r, j, a, b, ha, hb => by
    have e : (outsAt0 m c 0 hn).2 = _ := outs_A m c ⟨0, hn⟩ rfl
    rw [e]
    exact step m c ⟨0, hn⟩ r j a b ha hb _ ((pay_zero r j).trans (upto_zero _).symm)
  | n + 1, hn, r, j, a, b, ha, hb => by
    by_cases h0 : (n + 1) % 4 = 0
    · have e : (outsAt0 m c (n + 1) hn).2 = _ := outs_A m c ⟨n + 1, hn⟩ h0
      rw [e]
      refine step m c ⟨n + 1, hn⟩ r j a b ha hb _ ((pay_zero r j).trans ?_)
      dsimp only
      rw [h0, Nat.mul_zero, upto_zero]
    · have e : (outsAt0 m c (n + 1) hn).2 = _ := outs_B m c ⟨n + 1, hn⟩ h0
      rw [e]
      refine step m c ⟨n + 1, hn⟩ r j a b ha hb _ ?_
      refine (after c n (Nat.lt_of_succ_lt hn) r j a b (by omega) (by omega)).trans ?_
      dsimp only
      congr 1
      omega

/-- The result cuts the product's columns into four and its rows into two: where an element stands in the product. -/
def row (i : S4x2x1024x2816.Idx) : Fin 2048 :=
  ⟨(i 1).val * 1024 + (i 2).val, by have h1 : (i 1).val < 2 := (i 1).isLt; have h2 : (i 2).val < 1024 := (i 2).isLt; omega⟩
def col (i : S4x2x1024x2816.Idx) : Fin 11264 :=
  ⟨(i 0).val * 2816 + (i 3).val, by have h0 : (i 0).val < 4 := (i 0).isLt; have h3 : (i 3).val < 2816 := (i 3).isLt; omega⟩

/-! ## The result's array -/

theorem ix_2 : ∀ t : Fin cfg0.N, win0_2.index t 0 = t.val / 4 % 4 ∧ win0_2.index t 1 = t.val / 16 ∧ win0_2.index t 2 = 0 ∧ win0_2.index t 3 = 0 :=
  (by decide +kernel : ∀ t : Fin grid0.N, win0_2.index t 0 = t.val / 4 % 4 ∧ win0_2.index t 1 = t.val / 16 ∧ win0_2.index t 2 = 0 ∧ win0_2.index t 3 = 0)

/-- The kernel's result. -/
def result (c : Dev nD) : S4x2x1024x2816.Idx → EReal := fun i : S4x2x1024x2816.Idx => ∑ k, term (lhs m c) (rhs m c) (row i) (col i) k

/-- Where point `t`'s block stands in the result. -/
theorem place (c : Dev nD) (t : Fin cfg0.N) (r : Fin 1024) (j : Fin 2816) : ∃ (a : Fin 2048) (b : Fin 11264), a.val = 1024 * (t.val / 16) + r.val ∧
    b.val = 2816 * (t.val / 4 % 4) + j.val ∧ result m c (((cfg0.win 2).blk t).view.emb (ix4 0 0 r j)) = ∑ k, term (lhs m c) (rhs m c) a b k := by
  have hp := point_lt t
  have hr := r.isLt
  have hj := j.isLt
  refine ⟨_, _, ?_, ?_, rfl⟩
  · show (win0_2.index t 1 * 1 + 1 * 0) * 1024 + (win0_2.index t 2 * 1024 + 1 * r.val) = _
    rw [(ix_2 t).2.1, (ix_2 t).2.2.1]; omega
  · show (win0_2.index t 0 * 1 + 1 * 0) * 2816 + (win0_2.index t 3 * 2816 + 1 * j.val) = _
    rw [(ix_2 t).1, (ix_2 t).2.2.2]; omega

theorem flushed (c : Dev nD) (t : Fin cfg0.N) (hf : (cfg0.win 2).flush t = true) :
    (dats m 0 c).flushed 2 t = ((cfg0.win 2).blk t).view.read (Elt Ideal) (result m c) := by
  have ht : t.val % 4 = 3 := (flush0_2 t).1 hf
  rw [Value.flushed2, outs_last m c t ht]
  funext (y : S1x1x1024x2816.Idx)
  rw [View.read_apply]
  obtain ⟨r, j, rfl⟩ : ∃ (r : Fin 1024) (j : Fin 2816), y = ix4 0 0 r j := by
    refine ⟨y 2, y 3, ?_⟩
    funext d
    match d with
    | ⟨0, _⟩ => exact Subsingleton.elim (α := Fin 1) _ _
    | ⟨1, _⟩ => exact Subsingleton.elim (α := Fin 1) _ _
    | ⟨2, _⟩ => rfl
    | ⟨3, _⟩ => rfl
  obtain ⟨a, b, ha, hb, e⟩ := place m c t r j
  rw [e]
  refine ((pay_out _ r j).trans (after m c t.val t.isLt r j a b ha hb)).trans ?_
  rw [ht]
  exact upto_all _

theorem final (c : Dev nD) : (dats m 0 c).arrAt 2 cfg0.N = result m c :=
  (dats m 0 c).arrAt_eq_of_cover 2 _ (flushed m c) fun i =>
    have h0 : (i 0 : Nat) < 4 := (i 0).isLt
    have h1 : (i 1 : Nat) < 2 := (i 1).isLt
    have h2 : (i 2 : Nat) < 1024 := (i 2).isLt
    have h3 : (i 3 : Nat) < 2816 := (i 3).isLt
    have hN : cfg0.N = 32 := N_0
    have ht : 16 * ((i 1 : Nat)) + 4 * ((i 0 : Nat)) + 3 < cfg0.N := by omega
    ⟨⟨16 * ((i 1 : Nat)) + 4 * ((i 0 : Nat)) + 3, ht⟩, (flush0_2 _).2 (by dsimp only; omega), by
      show i ∈ ((View.whole main_v0).slice (win0_2.rect ⟨16 * ((i 1 : Nat)) + 4 * ((i 0 : Nat)) + 3, ht⟩)).set
      rw [View.set_slice_whole, Rect.mem_set_unit]
      have e := ix_2 ⟨16 * ((i 1 : Nat)) + 4 * ((i 0 : Nat)) + 3, ht⟩
      dsimp only at e
      intro a
      match a with
      | ⟨0, _⟩ => show win0_2.index ⟨16 * ((i 1 : Nat)) + 4 * ((i 0 : Nat)) + 3, ht⟩ 0 * 1 ≤ (i 0 : Nat) ∧ (i 0 : Nat) < win0_2.index ⟨16 * ((i 1 : Nat)) + 4 * ((i 0 : Nat)) + 3, ht⟩ 0 * 1 + 1; rw [e.1]; omega
      | ⟨1, _⟩ => show win0_2.index ⟨16 * ((i 1 : Nat)) + 4 * ((i 0 : Nat)) + 3, ht⟩ 1 * 1 ≤ (i 1 : Nat) ∧ (i 1 : Nat) < win0_2.index ⟨16 * ((i 1 : Nat)) + 4 * ((i 0 : Nat)) + 3, ht⟩ 1 * 1 + 1; rw [e.2.1]; omega
      | ⟨2, _⟩ => show win0_2.index ⟨16 * ((i 1 : Nat)) + 4 * ((i 0 : Nat)) + 3, ht⟩ 2 * 1024 ≤ (i 2 : Nat) ∧ (i 2 : Nat) < win0_2.index ⟨16 * ((i 1 : Nat)) + 4 * ((i 0 : Nat)) + 3, ht⟩ 2 * 1024 + 1024; rw [e.2.2.1]; omega
      | ⟨3, _⟩ => show win0_2.index ⟨16 * ((i 1 : Nat)) + 4 * ((i 0 : Nat)) + 3, ht⟩ 3 * 2816 ≤ (i 3 : Nat) ∧ (i 3 : Nat) < win0_2.index ⟨16 * ((i 1 : Nat)) + 4 * ((i 0 : Nat)) + 3, ht⟩ 3 * 2816 + 2816; rw [e.2.2.2]; omega
      ⟩

end Cert.DwInIdeal.Product

namespace Cert.DwInRefIdeal.Product

open Idealize.ShloMosaic Idealize.ShloMosaic.Tactic Cert.DwInRefIdeal Cert.DwInRefIdeal.Gen

/-- The reference's result, element by element. -/
theorem value (x : S4096x2048.Idx → EReal) (w : S4096x11264.Idx → EReal) (p : Fin 4) (q : Fin 2) (r : Fin 1024) (j : Fin 2816) :
    (truncf (F := Ideal) .bf16 (transpose S4x2x1024x2816 [2, 0, 1, 3] (shapeCast _ (transpose S2048x11264 [1, 0] (Host.dotGeneral (F := Ideal) (φ₁ := .f32) (φ₂ := .f32) dot_S4096x11264_S4096x2048_S11264x2048_0_0_1_1_n_n none (extf (F := Ideal) .f32 w bitsLt_bf16_f32) (extf (F := Ideal) .f32 x bitsLt_bf16_f32)) transposes_S11264x2048_S2048x11264_1_0) shapeCasts_S2048x11264_S2x1024x4x2816) transposes_S2x1024x4x2816_S4x2x1024x2816_2_0_1_3) bitsLt_bf16_f32) (ix4 p q r j) = ∑ k, Cert.DwInIdeal.Product.term x w (Cert.DwInIdeal.Product.row (ix4 p q r j)) (Cert.DwInIdeal.Product.col (ix4 p q r j)) k := by
  pointwise []
  unfold Cert.DwInIdeal.Product.term
  exact Finset.sum_congr rfl fun k _ => mul_comm _ _

end Cert.DwInRefIdeal.Product

namespace Cert.Proof.DwInClaims

open Idealize.ShloMosaic Idealize.ShloMosaic.TcCoe Idealize.ShloMosaic.Tactic Idealize.SL.Sem

theorem frame_p : Cert.quiescent_DwIn (hDwIn := Cert.DwIn.Gen.facts) := fun m ρ _ => Cert.DwIn.Gen.frame m ρ
theorem frame_pi : Cert.quiescent_DwInIdeal (hDwInIdeal := Cert.DwInIdeal.Gen.facts) := fun m ρ _ => Cert.DwInIdeal.Gen.frame m ρ
theorem frame_ri : Cert.quiescent_DwInRefIdeal (hDwInRefIdeal := Cert.DwInRefIdeal.Gen.facts) := fun m ρ _ =>
  (θ_run Cert.DwInRefIdeal.defs _ _).mono (fun r h => ⟨fun c => (h c).2, Idealize.ShloMosaic.sem_eq_zero_of_no_sems (by decide) r.2⟩)
    (Cert.DwInRefIdeal.Value.run (F := Ideal) m ρ)
theorem preserves : Cert.preserves_DwIn_DwInIdeal := trivial

theorem algebraic : Cert.algebraic_DwInIdeal_DwInRefIdeal (hDwInIdeal := Cert.DwInIdeal.Gen.facts) (hDwInRefIdeal := Cert.DwInRefIdeal.Gen.facts) := by
  intro m ρ m' ρ' _ hagree
  refine ⟨_, Cert.DwInIdeal.Value.run_blocks m ρ, ?_⟩
  refine (θ_run Cert.DwInRefIdeal.defs _ _).mono (fun _ h c => ?_) (Cert.DwInRefIdeal.Value.run (F := Ideal) m' ρ')
  obtain ⟨e0, e1⟩ := hagree c
  obtain ⟨r0, rest⟩ := h c
  refine ⟨r0.trans ?_, rest⟩
  rw [e0, e1, Cert.DwInIdeal.Product.final m c]
  funext y
  obtain ⟨p, q, r, j, rfl⟩ : ∃ (p : Fin 4) (q : Fin 2) (r : Fin 1024) (j : Fin 2816), y = ix4 p q r j := ⟨y 0, y 1, y 2, y 3, eq_ix4 y⟩
  exact Cert.DwInRefIdeal.Product.value _ _ p q r j

end Cert.Proof.DwInClaims

end
-- ==== Proof.DaInProduct.lean ====
/-
  The gradient of the projection's input: dproj · w_inᵀ. The kernel's result is the product of its two arguments' numbers, summed over blocks of 2816; so is the reference's.
-/
module

public import proofs.«01_k».proof.Proof.Products
public import proofs.«01_k».proof.Defs
public import proofs.«01_k».proof.Proof.Gen.DaIn.Frame
public import proofs.«01_k».proof.Proof.Gen.DaInIdeal.Frame
public import proofs.«01_k».proof.Proof.Gen.DaInIdeal.Value
public import proofs.«01_k».proof.Proof.Gen.DaInRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DaInIdeal.Product

open Idealize.ShloMosaic Idealize.ShloMosaic.TcCoe Idealize.ShloMosaic.Tactic Cert.DaInIdeal Cert.DaInIdeal.Gen Cert.Products

/-- The product's term. -/
def term (x : S4096x11264.Idx → EReal) (w : S2048x11264.Idx → EReal) (i : Fin 4096) (j : Fin 2048) (k : Fin 11264) : EReal := x (ix2 i k) * w (ix2 j k)

/-! ## What the body computes of its blocks -/

theorem pay_zero (r : Fin 1024) (j : Fin 1024) : k0_pay1 (F := Ideal) (ix2 r j) = (0 : EReal) := by
  pointwise [k0_pay1]

theorem pay_add (acc : S1024x1024.Idx → EReal) (x : S1024x2816.Idx → EReal) (w : S1024x2816.Idx → EReal) (r : Fin 1024) (j : Fin 1024) :
    k0_pay2 (F := Ideal) acc x w (ix2 r j) = acc (ix2 r j) + ∑ k : Fin 2816, x (ix2 r k) * w (ix2 j k) := by
  pointwise [k0_pay2]

theorem scratch_A (c : Dev nD) (i : grid0.Coords) (arg3 : Memref sig .tc .vmem S1024x2816 .bf16) (harg3 : arg3.IsWhole) (arg4 : Memref sig .tc .vmem S1024x2816 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec Ideal S1024x2816 .bf16) (x1 : Vec Ideal S1024x2816 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_B (c : Dev nD) (i : grid0.Coords) (arg3 : Memref sig .tc .vmem S1024x2816 .bf16) (harg3 : arg3.IsWhole) (arg4 : Memref sig .tc .vmem S1024x2816 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec Ideal S1024x2816 .bf16) (x1 : Vec Ideal S1024x2816 .bf16) (xs0 : Vec Ideal S1024x1024 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_C (c : Dev nD) (i : grid0.Coords) (arg3 : Memref sig .tc .vmem S1024x2816 .bf16) (harg3 : arg3.IsWhole) (arg4 : Memref sig .tc .vmem S1024x2816 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x2816 .bf16) (x1 : Vec Ideal S1024x2816 .bf16) (xs0 : Vec Ideal S1024x1024 .f32) :
    sout0_C_0 c i arg3 harg3 arg4 harg4 arg5 harg5 arg6 harg6 hc0 hc1 x0 x1 xs0 = k0_pay2 (F := Ideal) xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem out_C (c : Dev nD) (i : grid0.Coords) (arg3 : Memref sig .tc .vmem S1024x2816 .bf16) (harg3 : arg3.IsWhole) (arg4 : Memref sig .tc .vmem S1024x2816 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x2816 .bf16) (x1 : Vec Ideal S1024x2816 .bf16) (xs0 : Vec Ideal S1024x1024 .f32) :
    out0_C_2 c i arg3 harg3 arg4 harg4 arg5 harg5 arg6 harg6 hc0 hc1 x0 x1 xs0 = k0_pay2 (F := Ideal) xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

variable (m : (ℓ : Loc nD τ sig) → Buf (Elt Ideal) ℓ)

/-- The two arguments. -/
abbrev lhs (c : Dev nD) : S4096x11264.Idx → EReal := m ((c : Thread nD τ).loc main_arg0)
abbrev rhs (c : Dev nD) : S2048x11264.Idx → EReal := m ((c : Thread nD τ).loc main_arg1)

/-! ## The blocks -/

theorem point_lt (t : Fin cfg0.N) : t.val < 32 := by have := t.isLt; have hN : cfg0.N = 32 := N_0; omega

theorem ix_0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem ix_1 : ∀ t : Fin cfg0.N, win0_1.index t 0 = t.val / 4 % 2 ∧ win0_1.index t 1 = t.val % 4 :=
  (by decide +kernel : ∀ t : Fin grid0.N, win0_1.index t 0 = t.val / 4 % 2 ∧ win0_1.index t 1 = t.val % 4)

theorem blk_0 (c : Dev nD) (t : Fin cfg0.N) (r : Fin 1024) (k : Fin 2816) (a : Fin 4096) (b : Fin 11264) (ha : a.val = 1024 * (t.val / 8) + r.val)
    (hb : b.val = 2816 * (t.val % 4) + k.val) : (iblk m c 0 t : S1024x2816.Idx → EReal) (ix2 r k) = lhs m c (ix2 a b) := by
  unfold iblk
  rw [View.read_apply]
  show V m c main_arg0 _ = _
  rw [V_main_arg0]
  refine congrArg (lhs m c) ?_
  funext d
  apply Fin.ext
  match d with
  | ⟨0, _⟩ => show win0_0.index t 0 * 1024 + 1 * r.val = a.val; rw [(ix_0 t).1]; omega
  | ⟨1, _⟩ => show win0_0.index t 1 * 2816 + 1 * k.val = b.val; rw [(ix_0 t).2]; omega

theorem blk_1 (c : Dev nD) (t : Fin cfg0.N) (j : Fin 1024) (k : Fin 2816) (a : Fin 2048) (b : Fin 11264) (ha : a.val = 1024 * (t.val / 4 % 2) + j.val)
    (hb : b.val = 2816 * (t.val % 4) + k.val) : (iblk m c 1 t : S1024x2816.Idx → EReal) (ix2 j k) = rhs m c (ix2 a b) := by
  unfold iblk
  rw [View.read_apply]
  show V m c main_arg1 _ = _
  rw [V_main_arg1]
  refine congrArg (rhs m c) ?_
  funext d
  apply Fin.ext
  match d with
  | ⟨0, _⟩ => show win0_1.index t 0 * 1024 + 1 * j.val = a.val; rw [(ix_1 t).1]; omega
  | ⟨1, _⟩ => show win0_1.index t 1 * 2816 + 1 * k.val = b.val; rw [(ix_1 t).2]; omega

/-! ## Point by point -/

/-- One block added. -/
theorem step (c : Dev nD) (t : Fin cfg0.N) (r : Fin 1024) (j : Fin 1024) (a : Fin 4096) (b : Fin 2048) (ha : a.val = 1024 * (t.val / 8) + r.val)
    (hb : b.val = 1024 * (t.val / 4 % 2) + j.val) (acc : S1024x1024.Idx → EReal)
    (h : acc (ix2 r j) = upto (term (lhs m c) (rhs m c) a b) (2816 * (t.val % 4))) :
    k0_pay2 (F := Ideal) acc (iblk m c 0 t) (iblk m c 1 t) (ix2 r j) = upto (term (lhs m c) (rhs m c) a b) (2816 * (t.val % 4) + 2816) := by
  refine (pay_add acc (iblk m c 0 t) (iblk m c 1 t) r j).trans ?_
  rw [h]
  refine upto_add _ _ _ _ (fun k hk => ?_) (by omega)
  rw [blk_0 m c t r k a ⟨_, hk⟩ ha rfl, blk_1 m c t j k b ⟨_, hk⟩ hb rfl]
  rfl

theorem outs_A (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  rw [scratch_A]

theorem outs_B (c : Dev nD) (t : Fin cfg0.N) (h0 : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [scratch_C]
  · rw [outsAt0_B m c t h0 h1]
    dsimp only
    rw [scratch_B]

theorem outs_last (c : Dev nD) (t : Fin cfg0.N) (h1 : t.val % 4 = 3) : (outsAt0 m c t.val t.isLt).1 = (outsAt0 m c t.val t.isLt).2 := by
  rw [outs_B m c t (by omega), outsAt0_C m c t (by omega) h1]
  dsimp only
  rw [out_C]

/-- The accumulator holds the blocks added so far. -/
theorem after (c : Dev nD) : ∀ (n : ℕ) (hn : n < cfg0.N) (r : Fin 1024) (j : Fin 1024) (a : Fin 4096) (b : Fin 2048), a.val = 1024 * (n / 8) + r.val →
    b.val = 1024 * (n / 4 % 2) + j.val →
    ((outsAt0 m c n hn).2 : S1024x1024.Idx → EReal) (ix2 r j) = upto (term (lhs m c) (rhs m c) a b) (2816 * (n % 4) + 2816)
  | 0, hn, r, j, a, b, ha, hb => by
    have e : (outsAt0 m c 0 hn).2 = _ := outs_A m c ⟨0, hn⟩ rfl
    rw [e]
    exact step m c ⟨0, hn⟩ r j a b ha hb _ ((pay_zero r j).trans (upto_zero _).symm)
  | n + 1, hn, r, j, a, b, ha, hb => by
    by_cases h0 : (n + 1) % 4 = 0
    · have e : (outsAt0 m c (n + 1) hn).2 = _ := outs_A m c ⟨n + 1, hn⟩ h0
      rw [e]
      refine step m c ⟨n + 1, hn⟩ r j a b ha hb _ ((pay_zero r j).trans ?_)
      dsimp only
      rw [h0, Nat.mul_zero, upto_zero]
    · have e : (outsAt0 m c (n + 1) hn).2 = _ := outs_B m c ⟨n + 1, hn⟩ h0
      rw [e]
      refine step m c ⟨n + 1, hn⟩ r j a b ha hb _ ?_
      refine (after c n (Nat.lt_of_succ_lt hn) r j a b (by omega) (by omega)).trans ?_
      dsimp only
      congr 1
      omega

/-! ## The result's array -/

theorem ix_2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- The kernel's result. -/
def result (c : Dev nD) : S4096x2048.Idx → EReal := fun i : S4096x2048.Idx => ∑ k, term (lhs m c) (rhs m c) (i 0) (i 1) k

/-- Where point `t`'s block stands in the result. -/
theorem place (c : Dev nD) (t : Fin cfg0.N) (r : Fin 1024) (j : Fin 1024) : ∃ (a : Fin 4096) (b : Fin 2048), a.val = 1024 * (t.val / 8) + r.val ∧
    b.val = 1024 * (t.val / 4 % 2) + j.val ∧ result m c (((cfg0.win 2).blk t).view.emb (ix2 r j)) = ∑ k, term (lhs m c) (rhs m c) a b k := by
  have hp := point_lt t
  have hr := r.isLt
  have hj := j.isLt
  refine ⟨_, _, ?_, ?_, rfl⟩
  · show win0_2.index t 0 * 1024 + 1 * r.val = _
    rw [(ix_2 t).1]; omega
  · show win0_2.index t 1 * 1024 + 1 * j.val = _
    rw [(ix_2 t).2]; omega

theorem flushed (c : Dev nD) (t : Fin cfg0.N) (hf : (cfg0.win 2).flush t = true) :
    (dats m 0 c).flushed 2 t = ((cfg0.win 2).blk t).view.read (Elt Ideal) (result m c) := by
  have ht : t.val % 4 = 3 := (flush0_2 t).1 hf
  rw [Value.flushed2, outs_last m c t ht]
  funext (y : S1024x1024.Idx)
  rw [View.read_apply]
  obtain ⟨r, j, rfl⟩ : ∃ (r : Fin 1024) (j : Fin 1024), y = ix2 r j := ⟨y 0, y 1, eq_ix2 y⟩
  obtain ⟨a, b, ha, hb, e⟩ := place m c t r j
  rw [e]
  refine (after m c t.val t.isLt r j a b ha hb).trans ?_
  rw [ht]
  exact upto_all _

theorem final (c : Dev nD) : (dats m 0 c).arrAt 2 cfg0.N = result m c :=
  (dats m 0 c).arrAt_eq_of_cover 2 _ (flushed m c) fun i =>
    have h0 : (i 0 : Nat) < 4096 := (i 0).isLt
    have h1 : (i 1 : Nat) < 2048 := (i 1).isLt
    have hN : cfg0.N = 32 := N_0
    have ht : 8 * ((i 0 : Nat) / 1024) + 4 * ((i 1 : Nat) / 1024) + 3 < cfg0.N := by omega
    ⟨⟨8 * ((i 0 : Nat) / 1024) + 4 * ((i 1 : Nat) / 1024) + 3, ht⟩, (flush0_2 _).2 (by dsimp only; omega), by
      show i ∈ ((View.whole main_v0).slice (win0_2.rect ⟨8 * ((i 0 : Nat) / 1024) + 4 * ((i 1 : Nat) / 1024) + 3, ht⟩)).set
      rw [View.set_slice_whole, Rect.mem_set_unit]
      have e := ix_2 ⟨8 * ((i 0 : Nat) / 1024) + 4 * ((i 1 : Nat) / 1024) + 3, ht⟩
      dsimp only at e
      intro a
      match a with
      | ⟨0, _⟩ => show win0_2.index ⟨8 * ((i 0 : Nat) / 1024) + 4 * ((i 1 : Nat) / 1024) + 3, ht⟩ 0 * 1024 ≤ (i 0 : Nat) ∧ (i 0 : Nat) < win0_2.index ⟨8 * ((i 0 : Nat) / 1024) + 4 * ((i 1 : Nat) / 1024) + 3, ht⟩ 0 * 1024 + 1024; rw [e.1]; omega
      | ⟨1, _⟩ => show win0_2.index ⟨8 * ((i 0 : Nat) / 1024) + 4 * ((i 1 : Nat) / 1024) + 3, ht⟩ 1 * 1024 ≤ (i 1 : Nat) ∧ (i 1 : Nat) < win0_2.index ⟨8 * ((i 0 : Nat) / 1024) + 4 * ((i 1 : Nat) / 1024) + 3, ht⟩ 1 * 1024 + 1024; rw [e.2]; omega
      ⟩

end Cert.DaInIdeal.Product

namespace Cert.DaInRefIdeal.Product

open Idealize.ShloMosaic Idealize.ShloMosaic.Tactic Cert.DaInRefIdeal Cert.DaInRefIdeal.Gen

/-- The reference's result, element by element. -/
theorem value (x : S4096x11264.Idx → EReal) (w : S2048x11264.Idx → EReal) (i : Fin 4096) (j : Fin 2048) :
    (Host.dotGeneral (F := Ideal) (φ₁ := .f32) (φ₂ := .f32) dot_S4096x11264_S2048x11264_S4096x2048_1_1_0_0_n_n none (extf (F := Ideal) .f32 x bitsLt_bf16_f32) (extf (F := Ideal) .f32 w bitsLt_bf16_f32)) (ix2 i j) = ∑ k, Cert.DaInIdeal.Product.term x w i j k := by
  pointwise []
  unfold Cert.DaInIdeal.Product.term
  rfl

end Cert.DaInRefIdeal.Product

namespace Cert.Proof.DaInClaims

open Idealize.ShloMosaic Idealize.ShloMosaic.TcCoe Idealize.ShloMosaic.Tactic Idealize.SL.Sem

theorem frame_p : Cert.quiescent_DaIn (hDaIn := Cert.DaIn.Gen.facts) := fun m ρ _ => Cert.DaIn.Gen.frame m ρ
theorem frame_pi : Cert.quiescent_DaInIdeal (hDaInIdeal := Cert.DaInIdeal.Gen.facts) := fun m ρ _ => Cert.DaInIdeal.Gen.frame m ρ
theorem frame_ri : Cert.quiescent_DaInRefIdeal (hDaInRefIdeal := Cert.DaInRefIdeal.Gen.facts) := fun m ρ _ =>
  (θ_run Cert.DaInRefIdeal.defs _ _).mono (fun r h => ⟨fun c => (h c).2, Idealize.ShloMosaic.sem_eq_zero_of_no_sems (by decide) r.2⟩)
    (Cert.DaInRefIdeal.Value.run (F := Ideal) m ρ)
theorem preserves : Cert.preserves_DaIn_DaInIdeal := trivial

theorem algebraic : Cert.algebraic_DaInIdeal_DaInRefIdeal (hDaInIdeal := Cert.DaInIdeal.Gen.facts) (hDaInRefIdeal := Cert.DaInRefIdeal.Gen.facts) := by
  intro m ρ m' ρ' _ hagree
  refine ⟨_, Cert.DaInIdeal.Value.run_blocks m ρ, ?_⟩
  refine (θ_run Cert.DaInRefIdeal.defs _ _).mono (fun _ h c => ?_) (Cert.DaInRefIdeal.Value.run (F := Ideal) m' ρ')
  obtain ⟨e0, e1⟩ := hagree c
  obtain ⟨r0, rest⟩ := h c
  refine ⟨r0.trans ?_, rest⟩
  rw [e0, e1, Cert.DaInIdeal.Product.final m c]
  funext y
  obtain ⟨i, j, rfl⟩ : ∃ (i : Fin 4096) (j : Fin 2048), y = ix2 i j := ⟨y 0, y 1, eq_ix2 y⟩
  exact Cert.DaInRefIdeal.Product.value _ _ i j

end Cert.Proof.DaInClaims

end
-- ==== Proof.DwOProduct.lean ====
/-
  The gradient of the output weight: mergedᵀ · dmo. The kernel's result is the product of its two arguments' numbers, summed over blocks of 2048; so is the reference's.
-/
module

public import proofs.«01_k».proof.Proof.Products
public import proofs.«01_k».proof.Defs
public import proofs.«01_k».proof.Proof.Gen.DwO.Frame
public import proofs.«01_k».proof.Proof.Gen.DwOIdeal.Frame
public import proofs.«01_k».proof.Proof.Gen.DwOIdeal.Value
public import proofs.«01_k».proof.Proof.Gen.DwORefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.DwOIdeal.Product

open Idealize.ShloMosaic Idealize.ShloMosaic.TcCoe Idealize.ShloMosaic.Tactic Cert.DwOIdeal Cert.DwOIdeal.Gen Cert.Products

/-- The product's term. -/
def term (x : S4096x2048.Idx → EReal) (w : S4096x2048.Idx → EReal) (i : Fin 2048) (j : Fin 2048) (k : Fin 4096) : EReal := x (ix2 k i) * w (ix2 k j)

/-! ## What the body computes of its blocks -/

theorem pay_zero (r : Fin 1024) (j : Fin 1024) : k0_pay1 (F := Ideal) (ix2 r j) = (0 : EReal) := by
  pointwise [k0_pay1]

theorem pay_add (acc : S1024x1024.Idx → EReal) (x : S2048x1024.Idx → EReal) (w : S2048x1024.Idx → EReal) (r : Fin 1024) (j : Fin 1024) :
    k0_pay2 (F := Ideal) acc x w (ix2 r j) = acc (ix2 r j) + ∑ k : Fin 2048, x (ix2 k r) * w (ix2 k j) := by
  pointwise [k0_pay2]

theorem pay_out (acc : S1024x1024.Idx → EReal) (r : Fin 1024) (j : Fin 1024) : k0_pay3 (F := Ideal) acc (ix2 r j) = acc (ix2 r j) := by
  pointwise [k0_pay3]

theorem scratch_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec Ideal S2048x1024 .bf16) (x1 : Vec Ideal S2048x1024 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem scratch_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec Ideal S2048x1024 .bf16) (x1 : Vec Ideal S2048x1024 .bf16) (xs0 : Vec Ideal S1024x1024 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

theorem out_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec Ideal S2048x1024 .bf16) (x1 : Vec Ideal S2048x1024 .bf16) (xs0 : Vec Ideal S1024x1024 .f32) :
    out0_B_2 c i arg3 harg3 arg4 harg4 arg5 harg5 arg6 harg6 hc0 hc1 x0 x1 xs0 = k0_pay3 (F := Ideal) (k0_pay2 (F := Ideal) xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  simp (disch := decide) only [↓View.readCov_skip, ↓View.readCov_fill, View.readAt_eq_ld, harg3.read_unread, harg4.read_unread, harg5.read_unread, harg6.read_unread, View.ld_unit_lit, View.readCov_unit_lit, View.canon_cons_unit_lit]

variable (m : (ℓ : Loc nD τ sig) → Buf (Elt Ideal) ℓ)

/-- The two arguments. -/
abbrev lhs (c : Dev nD) : S4096x2048.Idx → EReal := m ((c : Thread nD τ).loc main_arg0)
abbrev rhs (c : Dev nD) : S4096x2048.Idx → EReal := m ((c : Thread nD τ).loc main_arg1)

/-! ## The blocks -/

theorem point_lt (t : Fin cfg0.N) : t.val < 8 := by have := t.isLt; have hN : cfg0.N = 8 := N_0; omega

theorem ix_0 : ∀ t : Fin cfg0.N, win0_0.index t 0 = t.val % 2 ∧ win0_0.index t 1 = t.val / 4 :=
  (by decide +kernel : ∀ t : Fin grid0.N, win0_0.index t 0 = t.val % 2 ∧ win0_0.index t 1 = t.val / 4)
theorem ix_1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)

theorem blk_0 (c : Dev nD) (t : Fin cfg0.N) (r : Fin 1024) (k : Fin 2048) (a : Fin 2048) (b : Fin 4096) (ha : a.val = 1024 * (t.val / 4) + r.val)
    (hb : b.val = 2048 * (t.val % 2) + k.val) : (iblk m c 0 t : S2048x1024.Idx → EReal) (ix2 k r) = lhs m c (ix2 b a) := by
  unfold iblk
  rw [View.read_apply]
  show V m c main_arg0 _ = _
  rw [V_main_arg0]
  refine congrArg (lhs m c) ?_
  funext d
  apply Fin.ext
  match d with
  | ⟨0, _⟩ => show win0_0.index t 0 * 2048 + 1 * k.val = b.val; rw [(ix_0 t).1]; omega
  | ⟨1, _⟩ => show win0_0.index t 1 * 1024 + 1 * r.val = a.val; rw [(ix_0 t).2]; omega

theorem blk_1 (c : Dev nD) (t : Fin cfg0.N) (j : Fin 1024) (k : Fin 2048) (a : Fin 2048) (b : Fin 4096) (ha : a.val = 1024 * (t.val / 2 % 2) + j.val)
    (hb : b.val = 2048 * (t.val % 2) + k.val) : (iblk m c 1 t : S2048x1024.Idx → EReal) (ix2 k j) = rhs m c (ix2 b a) := by
  unfold iblk
  rw [View.read_apply]
  show V m c main_arg1 _ = _
  rw [V_main_arg1]
  refine congrArg (rhs m c) ?_
  funext d
  apply Fin.ext
  match d with
  | ⟨0, _⟩ => show win0_1.index t 0 * 2048 + 1 * k.val = b.val; rw [(ix_1 t).1]; omega
  | ⟨1, _⟩ => show win0_1.index t 1 * 1024 + 1 * j.val = a.val; rw [(ix_1 t).2]; omega

/-! ## Point by point -/

/-- One block added. -/
theorem step (c : Dev nD) (t : Fin cfg0.N) (r : Fin 1024) (j : Fin 1024) (a : Fin 2048) (b : Fin 2048) (ha : a.val = 1024 * (t.val / 4) + r.val)
    (hb : b.val = 1024 * (t.val / 2 % 2) + j.val) (acc : S1024x1024.Idx → EReal)
    (h : acc (ix2 r j) = upto (term (lhs m c) (rhs m c) a b) (2048 * (t.val % 2))) :
    k0_pay2 (F := Ideal) acc (iblk m c 0 t) (iblk m c 1 t) (ix2 r j) = upto (term (lhs m c) (rhs m c) a b) (2048 * (t.val % 2) + 2048) := by
  refine (pay_add acc (iblk m c 0 t) (iblk m c 1 t) r j).trans ?_
  rw [h]
  refine upto_add _ _ _ _ (fun k hk => ?_) (by omega)
  rw [blk_0 m c t r k a ⟨_, hk⟩ ha rfl, blk_1 m c t j k b ⟨_, hk⟩ hb rfl]
  rfl

theorem outs_A (c : Dev nD) (t : Fin cfg0.N) (h0 : t.val % 2 = 0) :
    (outsAt0 m c t.val t.isLt).2 = k0_pay2 (F := Ideal) (k0_pay1 (F := Ideal)) (iblk m c 0 t) (iblk m c 1 t) := by
  rw [outsAt0_A m c t h0 (by omega)]
  dsimp only
  rw [scratch_A]

theorem outs_B (c : Dev nD) (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]
  dsimp only
  rw [scratch_B]

theorem outs_last (c : Dev nD) (t : Fin cfg0.N) (h1 : t.val % 2 = 1) : (outsAt0 m c t.val t.isLt).1 = k0_pay3 (F := Ideal) (outsAt0 m c t.val t.isLt).2 := by
  rw [outs_B m c t (by omega), outsAt0_B m c t (by omega) h1]
  dsimp only
  rw [out_B]

/-- The accumulator holds the blocks added so far. -/
theorem after (c : Dev nD) : ∀ (n : ℕ) (hn : n < cfg0.N) (r : Fin 1024) (j : Fin 1024) (a : Fin 2048) (b : Fin 2048), a.val = 1024 * (n / 4) + r.val →
    b.val = 1024 * (n / 2 % 2) + j.val →
    ((outsAt0 m c n hn).2 : S1024x1024.Idx → EReal) (ix2 r j) = upto (term (lhs m c) (rhs m c) a b) (2048 * (n % 2) + 2048)
  | 0, hn, r, j, a, b, ha, hb => by
    have e : (outsAt0 m c 0 hn).2 = _ := outs_A m c ⟨0, hn⟩ rfl
    rw [e]
    exact step m c ⟨0, hn⟩ r j a b ha hb _ ((pay_zero r j).trans (upto_zero _).symm)
  | n + 1, hn, r, j, a, b, ha, hb => by
    by_cases h0 : (n + 1) % 2 = 0
    · have e : (outsAt0 m c (n + 1) hn).2 = _ := outs_A m c ⟨n + 1, hn⟩ h0
      rw [e]
      refine step m c ⟨n + 1, hn⟩ r j a b ha hb _ ((pay_zero r j).trans ?_)
      dsimp only
      rw [h0, Nat.mul_zero, upto_zero]
    · have e : (outsAt0 m c (n + 1) hn).2 = _ := outs_B m c ⟨n + 1, hn⟩ h0
      rw [e]
      refine step m c ⟨n + 1, hn⟩ r j a b ha hb _ ?_
      refine (after c n (Nat.lt_of_succ_lt hn) r j a b (by omega) (by omega)).trans ?_
      dsimp only
      congr 1
      omega

/-! ## The result's array -/

theorem ix_2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

/-- The kernel's result. -/
def result (c : Dev nD) : S2048x2048.Idx → EReal := fun i : S2048x2048.Idx => ∑ k, term (lhs m c) (rhs m c) (i 0) (i 1) k

/-- Where point `t`'s block stands in the result. -/
theorem place (c : Dev nD) (t : Fin cfg0.N) (r : Fin 1024) (j : Fin 1024) : ∃ (a : Fin 2048) (b : Fin 2048), a.val = 1024 * (t.val / 4) + r.val ∧
    b.val = 1024 * (t.val / 2 % 2) + j.val ∧ result m c (((cfg0.win 2).blk t).view.emb (ix2 r j)) = ∑ k, term (lhs m c) (rhs m c) a b k := by
  have hp := point_lt t
  have hr := r.isLt
  have hj := j.isLt
  refine ⟨_, _, ?_, ?_, rfl⟩
  · show win0_2.index t 0 * 1024 + 1 * r.val = _
    rw [(ix_2 t).1]; omega
  · show win0_2.index t 1 * 1024 + 1 * j.val = _
    rw [(ix_2 t).2]; omega

theorem flushed (c : Dev nD) (t : Fin cfg0.N) (hf : (cfg0.win 2).flush t = true) :
    (dats m 0 c).flushed 2 t = ((cfg0.win 2).blk t).view.read (Elt Ideal) (result m c) := by
  have ht : t.val % 2 = 1 := (flush0_2 t).1 hf
  rw [Value.flushed2, outs_last m c t ht]
  funext (y : S1024x1024.Idx)
  rw [View.read_apply]
  obtain ⟨r, j, rfl⟩ : ∃ (r : Fin 1024) (j : Fin 1024), y = ix2 r j := ⟨y 0, y 1, eq_ix2 y⟩
  obtain ⟨a, b, ha, hb, e⟩ := place m c t r j
  rw [e]
  refine ((pay_out _ r j).trans (after m c t.val t.isLt r j a b ha hb)).trans ?_
  rw [ht]
  exact upto_all _

theorem final (c : Dev nD) : (dats m 0 c).arrAt 2 cfg0.N = result m c :=
  (dats m 0 c).arrAt_eq_of_cover 2 _ (flushed m c) fun i =>
    have h0 : (i 0 : Nat) < 2048 := (i 0).isLt
    have h1 : (i 1 : Nat) < 2048 := (i 1).isLt
    have hN : cfg0.N = 8 := N_0
    have ht : 4 * ((i 0 : Nat) / 1024) + 2 * ((i 1 : Nat) / 1024) + 1 < cfg0.N := by omega
    ⟨⟨4 * ((i 0 : Nat) / 1024) + 2 * ((i 1 : Nat) / 1024) + 1, ht⟩, (flush0_2 _).2 (by dsimp only; omega), by
      show i ∈ ((View.whole main_v0).slice (win0_2.rect ⟨4 * ((i 0 : Nat) / 1024) + 2 * ((i 1 : Nat) / 1024) + 1, ht⟩)).set
      rw [View.set_slice_whole, Rect.mem_set_unit]
      have e := ix_2 ⟨4 * ((i 0 : Nat) / 1024) + 2 * ((i 1 : Nat) / 1024) + 1, ht⟩
      dsimp only at e
      intro a
      match a with
      | ⟨0, _⟩ => show win0_2.index ⟨4 * ((i 0 : Nat) / 1024) + 2 * ((i 1 : Nat) / 1024) + 1, ht⟩ 0 * 1024 ≤ (i 0 : Nat) ∧ (i 0 : Nat) < win0_2.index ⟨4 * ((i 0 : Nat) / 1024) + 2 * ((i 1 : Nat) / 1024) + 1, ht⟩ 0 * 1024 + 1024; rw [e.1]; omega
      | ⟨1, _⟩ => show win0_2.index ⟨4 * ((i 0 : Nat) / 1024) + 2 * ((i 1 : Nat) / 1024) + 1, ht⟩ 1 * 1024 ≤ (i 1 : Nat) ∧ (i 1 : Nat) < win0_2.index ⟨4 * ((i 0 : Nat) / 1024) + 2 * ((i 1 : Nat) / 1024) + 1, ht⟩ 1 * 1024 + 1024; rw [e.2]; omega
      ⟩

end Cert.DwOIdeal.Product

namespace Cert.DwORefIdeal.Product

open Idealize.ShloMosaic Idealize.ShloMosaic.Tactic Cert.DwORefIdeal Cert.DwORefIdeal.Gen

/-- The reference's result, element by element. -/
theorem value (x : S4096x2048.Idx → EReal) (w : S4096x2048.Idx → EReal) (i : Fin 2048) (j : Fin 2048) :
    (truncf (F := Ideal) .bf16 (transpose S2048x2048 [1, 0] (Host.dotGeneral (F := Ideal) (φ₁ := .f32) (φ₂ := .f32) dot_S4096x2048_S4096x2048_S2048x2048_0_0_1_1_n_n none (extf (F := Ideal) .f32 w bitsLt_bf16_f32) (extf (F := Ideal) .f32 x bitsLt_bf16_f32)) transposes_S2048x2048_S2048x2048_1_0) bitsLt_bf16_f32) (ix2 i j) = ∑ k, Cert.DwOIdeal.Product.term x w i j k := by
  pointwise []
  unfold Cert.DwOIdeal.Product.term
  exact Finset.sum_congr rfl fun k _ => mul_comm _ _

end Cert.DwORefIdeal.Product

namespace Cert.Proof.DwOClaims

open Idealize.ShloMosaic Idealize.ShloMosaic.TcCoe Idealize.ShloMosaic.Tactic Idealize.SL.Sem

theorem frame_p : Cert.quiescent_DwO (hDwO := Cert.DwO.Gen.facts) := fun m ρ _ => Cert.DwO.Gen.frame m ρ
theorem frame_pi : Cert.quiescent_DwOIdeal (hDwOIdeal := Cert.DwOIdeal.Gen.facts) := fun m ρ _ => Cert.DwOIdeal.Gen.frame m ρ
theorem frame_ri : Cert.quiescent_DwORefIdeal (hDwORefIdeal := Cert.DwORefIdeal.Gen.facts) := fun m ρ _ =>
  (θ_run Cert.DwORefIdeal.defs _ _).mono (fun r h => ⟨fun c => (h c).2, Idealize.ShloMosaic.sem_eq_zero_of_no_sems (by decide) r.2⟩)
    (Cert.DwORefIdeal.Value.run (F := Ideal) m ρ)
theorem preserves : Cert.preserves_DwO_DwOIdeal := trivial

theorem algebraic : Cert.algebraic_DwOIdeal_DwORefIdeal (hDwOIdeal := Cert.DwOIdeal.Gen.facts) (hDwORefIdeal := Cert.DwORefIdeal.Gen.facts) := by
  intro m ρ m' ρ' _ hagree
  refine ⟨_, Cert.DwOIdeal.Value.run_blocks m ρ, ?_⟩
  refine (θ_run Cert.DwORefIdeal.defs _ _).mono (fun _ h c => ?_) (Cert.DwORefIdeal.Value.run (F := Ideal) m' ρ')
  obtain ⟨e0, e1⟩ := hagree c
  obtain ⟨r0, rest⟩ := h c
  refine ⟨r0.trans ?_, rest⟩
  rw [e0, e1, Cert.DwOIdeal.Product.final m c]
  funext y
  obtain ⟨i, j, rfl⟩ : ∃ (i : Fin 2048) (j : Fin 2048), y = ix2 i j := ⟨y 0, y 1, eq_ix2 y⟩
  exact Cert.DwORefIdeal.Product.value _ _ i j

end Cert.Proof.DwOClaims

end
-- ==== Proof.PrenormProduct.lean ====
/-
  The modulated norm of the mixer's input. The kernel's results are the reference's, element by element.
-/
module

public import proofs.«01_k».proof.Defs
public import proofs.«01_k».proof.Proof.Gen.Prenorm.Frame
public import proofs.«01_k».proof.Proof.Gen.PrenormIdeal.Frame
public import proofs.«01_k».proof.Proof.Gen.PrenormIdeal.Value
public import proofs.«01_k».proof.Proof.Gen.PrenormRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.PrenormIdeal.Product

open Idealize.ShloMosaic Idealize.ShloMosaic.TcCoe Idealize.ShloMosaic.Tactic Cert.PrenormIdeal Cert.PrenormIdeal.Gen

/-- A row divided by the root of the mean of its squares. -/
def norm (u : Fin 2048 → EReal) (j : Fin 2048) : EReal :=
  u j * Ideal.rsqrt (Ideal.div (∑ k, u k * u k) (Ideal.ofBits .f32 0x45000000#32) + Ideal.ofBits .f32 0x358637BD#32)

/-- The norm with its gain, scaled and shifted. -/
def modulated (u g sc sh : Fin 2048 → EReal) (j : Fin 2048) : EReal := norm u j * g j * (1 + sc j) + sh j

/-! ## What the body computes of its blocks -/

theorem pay_4 (x0 : S256x2048.Idx → EReal) (x1 : S1x2048.Idx → EReal) (x2 : S1x2048.Idx → EReal) (x3 : S1x2048.Idx → EReal) (r : Fin 256) (j : Fin 2048) :
    out0_4 (F := Ideal) x0 x1 x2 x3 (ix2 r j) = modulated (fun k => x0 (ix2 r k)) (fun l => x1 (ix2 0 l)) (fun l => x2 (ix2 0 l)) (fun l => x3 (ix2 0 l)) j := by
  unfold out0_4
  simp (disch := decide) only [View.canon_cons_unit_lit, View.ld_unit_lit]
  pointwise [k0_pay1]
  rfl

variable (m : (ℓ : Loc nD τ sig) → Buf (Elt Ideal) ℓ)

/-- The arguments. -/
abbrev arg0 (c : Dev nD) : S4096x2048.Idx → EReal := m ((c : Thread nD τ).loc main_arg0)
abbrev arg1 (c : Dev nD) : S1x2048.Idx → EReal := m ((c : Thread nD τ).loc main_arg1)
abbrev arg2 (c : Dev nD) : S1x2048.Idx → EReal := m ((c : Thread nD τ).loc main_arg2)
abbrev arg3 (c : Dev nD) : S1x2048.Idx → EReal := m ((c : Thread nD τ).loc main_arg3)

/-! ## The blocks -/

theorem point_lt (t : Fin cfg0.N) : t.val < 16 := by have := t.isLt; have hN : cfg0.N = 16 := N_0; omega

theorem ix_0 : ∀ t : Fin cfg0.N, win0_0.index t 0 = t.val ∧ win0_0.index t 1 = 0 :=
  (by decide +kernel : ∀ t : Fin grid0.N, win0_0.index t 0 = t.val ∧ win0_0.index t 1 = 0)

theorem blk_0 (c : Dev nD) (t : Fin cfg0.N) (x : Fin 256) (y : Fin 2048) (a : Fin 4096) (b : Fin 2048)
    (ha : a.val = 256 * (t.val) + x.val) (hb : b.val = 2048 * (0) + y.val) :
    (iblk m c 0 t : S256x2048.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 256 + 1 * x.val = a.val; rw [(ix_0 t).1]; omega
  | ⟨1, _⟩ => show win0_0.index t 1 * 2048 + 1 * y.val = b.val; rw [(ix_0 t).2]; omega

theorem ix_1 : ∀ t : Fin cfg0.N, win0_1.index t 0 = 0 ∧ win0_1.index t 1 = 0 :=
  (by decide +kernel : ∀ t : Fin grid0.N, win0_1.index t 0 = 0 ∧ win0_1.index t 1 = 0)

theorem blk_1 (c : Dev nD) (t : Fin cfg0.N) (x : Fin 1) (y : Fin 2048) (a : Fin 1) (b : Fin 2048)
    (ha : a.val = 1 * (0) + x.val) (hb : b.val = 2048 * (0) + y.val) :
    (iblk m c 1 t : S1x2048.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 1 + 1 * x.val = a.val; rw [(ix_1 t).1]; omega
  | ⟨1, _⟩ => show win0_1.index t 1 * 2048 + 1 * y.val = b.val; rw [(ix_1 t).2]; omega

theorem ix_2 : ∀ t : Fin cfg0.N, win0_2.index t 0 = 0 ∧ win0_2.index t 1 = 0 :=
  (by decide +kernel : ∀ t : Fin grid0.N, win0_2.index t 0 = 0 ∧ win0_2.index t 1 = 0)

theorem blk_2 (c : Dev nD) (t : Fin cfg0.N) (x : Fin 1) (y : Fin 2048) (a : Fin 1) (b : Fin 2048)
    (ha : a.val = 1 * (0) + x.val) (hb : b.val = 2048 * (0) + y.val) :
    (iblk m c 2 t : S1x2048.Idx → EReal) (ix2 x y) = arg2 m c (ix2 a b) := by
  unfold iblk
  rw [View.read_apply]
  show V m c main_arg2 _ = _
  rw [V_main_arg2]
  refine congrArg (arg2 m c) ?_
  funext d
  apply Fin.ext
  match d with
  | ⟨0, _⟩ => show win0_2.index t 0 * 1 + 1 * x.val = a.val; rw [(ix_2 t).1]; omega
  | ⟨1, _⟩ => show win0_2.index t 1 * 2048 + 1 * y.val = b.val; rw [(ix_2 t).2]; omega

theorem ix_3 : ∀ t : Fin cfg0.N, win0_3.index t 0 = 0 ∧ win0_3.index t 1 = 0 :=
  (by decide +kernel : ∀ t : Fin grid0.N, win0_3.index t 0 = 0 ∧ win0_3.index t 1 = 0)

theorem blk_3 (c : Dev nD) (t : Fin cfg0.N) (x : Fin 1) (y : Fin 2048) (a : Fin 1) (b : Fin 2048)
    (ha : a.val = 1 * (0) + x.val) (hb : b.val = 2048 * (0) + y.val) :
    (iblk m c 3 t : S1x2048.Idx → EReal) (ix2 x y) = arg3 m c (ix2 a b) := by
  unfold iblk
  rw [View.read_apply]
  show V m c main_arg3 _ = _
  rw [V_main_arg3]
  refine congrArg (arg3 m c) ?_
  funext d
  apply Fin.ext
  match d with
  | ⟨0, _⟩ => show win0_3.index t 0 * 1 + 1 * x.val = a.val; rw [(ix_3 t).1]; omega
  | ⟨1, _⟩ => show win0_3.index t 1 * 2048 + 1 * y.val = b.val; rw [(ix_3 t).2]; omega

/-! ## The results' arrays -/

theorem ix_4 : ∀ t : Fin cfg0.N, win0_4.index t 0 = t.val ∧ win0_4.index t 1 = 0 :=
  (by decide +kernel : ∀ t : Fin grid0.N, win0_4.index t 0 = t.val ∧ win0_4.index t 1 = 0)

def result_4 (c : Dev nD) : S4096x2048.Idx → EReal := fun i => modulated (fun k => arg0 m c (ix2 (i 0) k)) (fun l => arg1 m c (ix2 0 l)) (fun l => arg2 m c (ix2 0 l)) (fun l => arg3 m c (ix2 0 l)) (i 1)

theorem place_4 (c : Dev nD) (t : Fin cfg0.N) (r : Fin 256) (j : Fin 2048) : ∃ (a : Fin 4096) (b : Fin 2048), a.val = 256 * (t.val) + r.val ∧
    b.val = 2048 * (0) + j.val ∧ result_4 m c (((cfg0.win 4).blk t).view.emb (ix2 r j)) = modulated (fun k => arg0 m c (ix2 a k)) (fun l => arg1 m c (ix2 0 l)) (fun l => arg2 m c (ix2 0 l)) (fun l => arg3 m c (ix2 0 l)) b := by
  have hp := point_lt t
  refine ⟨_, _, ?_, ?_, rfl⟩
  · show win0_4.index t 0 * 256 + 1 * r.val = _
    rw [(ix_4 t).1]; omega
  · show win0_4.index t 1 * 2048 + 1 * j.val = _
    rw [(ix_4 t).2]; omega

theorem flushed_4 (c : Dev nD) (t : Fin cfg0.N) (hf : (cfg0.win 4).flush t = true) :
    (dats m 0 c).flushed 4 t = ((cfg0.win 4).blk t).view.read (Elt Ideal) (result_4 m c) := by
  rw [Value.flushed4]
  funext (y : S256x2048.Idx)
  rw [View.read_apply]
  obtain ⟨r, j, rfl⟩ : ∃ (r : Fin 256) (j : Fin 2048), y = ix2 r j := ⟨y 0, y 1, eq_ix2 y⟩
  obtain ⟨a, b, ha, hb, e⟩ := place_4 m c t r j
  rw [e]
  obtain rfl : b = j := Fin.ext (by omega)
  refine (pay_4 (iblk m c 0 t) (iblk m c 1 t) (iblk m c 2 t) (iblk m c 3 t) r _).trans ?_
  rw [(show (fun k => (iblk m c 0 t : S256x2048.Idx → EReal) (ix2 r k)) = (fun k => arg0 m c (ix2 a k)) from funext fun k => blk_0 m c t r k a k ha (by omega)),
    (show (fun l => (iblk m c 1 t : S1x2048.Idx → EReal) (ix2 0 l)) = (fun l => arg1 m c (ix2 0 l)) from funext fun l => blk_1 m c t 0 l 0 l rfl (by omega)),
    (show (fun l => (iblk m c 2 t : S1x2048.Idx → EReal) (ix2 0 l)) = (fun l => arg2 m c (ix2 0 l)) from funext fun l => blk_2 m c t 0 l 0 l rfl (by omega)),
    (show (fun l => (iblk m c 3 t : S1x2048.Idx → EReal) (ix2 0 l)) = (fun l => arg3 m c (ix2 0 l)) from funext fun l => blk_3 m c t 0 l 0 l rfl (by omega))]
  rfl

theorem final_4 (c : Dev nD) : (dats m 0 c).arrAt 4 cfg0.N = result_4 m c :=
  (dats m 0 c).arrAt_eq_of_cover 4 _ (flushed_4 m c) fun i =>
    have h0 : (i 0 : Nat) < 4096 := (i 0).isLt
    have h1 : (i 1 : Nat) < 2048 := (i 1).isLt
    have hN : cfg0.N = 16 := N_0
    have ht : (i 0 : Nat) / 256 < cfg0.N := by omega
    ⟨⟨(i 0 : Nat) / 256, ht⟩, flush0_4 _, by
      show i ∈ ((View.whole main_v0).slice (win0_4.rect ⟨(i 0 : Nat) / 256, ht⟩)).set
      rw [View.set_slice_whole, Rect.mem_set_unit]
      have e := ix_4 ⟨(i 0 : Nat) / 256, ht⟩
      dsimp only at e
      intro a
      match a with
      | ⟨0, _⟩ => show win0_4.index ⟨(i 0 : Nat) / 256, ht⟩ 0 * 256 ≤ (i 0 : Nat) ∧ (i 0 : Nat) < win0_4.index ⟨(i 0 : Nat) / 256, ht⟩ 0 * 256 + 256; rw [e.1]; omega
      | ⟨1, _⟩ => show win0_4.index ⟨(i 0 : Nat) / 256, ht⟩ 1 * 2048 ≤ (i 1 : Nat) ∧ (i 1 : Nat) < win0_4.index ⟨(i 0 : Nat) / 256, ht⟩ 1 * 2048 + 2048; rw [e.2]; omega
      ⟩

end Cert.PrenormIdeal.Product

namespace Cert.PrenormRefIdeal.Product

open Idealize.ShloMosaic Idealize.ShloMosaic.Tactic Cert.PrenormRefIdeal Cert.PrenormRefIdeal.Gen Cert.PrenormIdeal.Product

/-- The reference's result, element by element. -/
theorem value_4 (x0 : S4096x2048.Idx → EReal) (x1 : S1x2048.Idx → EReal) (x2 : S1x2048.Idx → EReal) (x3 : S1x2048.Idx → EReal) (i : Fin 4096) (j : Fin 2048) :
    (truncf (F := Ideal) .bf16 (addf (mulf (mulf (mulf x0 (broadcastInDim S4096x2048 ![0, 1] bcast_S4096x1_S4096x2048_0_1 (Host.rsqrt (addf (Host.divf (broadcastInDim S4096x1 ![0] bcast_S4096_S4096x1_0 (Host.reduceAdd (mulf x0 x0) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 x1)) (broadcastInDim S4096x2048 ![0, 1] bcast_S1x2048_S4096x2048_0_1 (addf (broadcastInDim S1x2048 ![] bcast_S_S1x2048 (constant (F := Ideal) S_ .f32 0x3F800000#32)) x2))) (broadcastInDim S4096x2048 ![0, 1] bcast_S1x2048_S4096x2048_0_1 x3)) bitsLt_bf16_f32 : S4096x2048.Idx → EReal) (ix2 i j) = modulated (fun k => x0 (ix2 i k)) (fun l => x1 (ix2 0 l)) (fun l => x2 (ix2 0 l)) (fun l => x3 (ix2 0 l)) j := by
  pointwise []
  rfl

end Cert.PrenormRefIdeal.Product

namespace Cert.Proof.PrenormClaims

open Idealize.ShloMosaic Idealize.ShloMosaic.TcCoe Idealize.ShloMosaic.Tactic Idealize.SL.Sem

theorem frame_p : Cert.quiescent_Prenorm (hPrenorm := Cert.Prenorm.Gen.facts) := fun m ρ _ => Cert.Prenorm.Gen.frame m ρ
theorem frame_pi : Cert.quiescent_PrenormIdeal (hPrenormIdeal := Cert.PrenormIdeal.Gen.facts) := fun m ρ _ => Cert.PrenormIdeal.Gen.frame m ρ
theorem frame_ri : Cert.quiescent_PrenormRefIdeal (hPrenormRefIdeal := Cert.PrenormRefIdeal.Gen.facts) := fun m ρ _ =>
  (θ_run Cert.PrenormRefIdeal.defs _ _).mono (fun r h => ⟨fun c => (h c).2, Idealize.ShloMosaic.sem_eq_zero_of_no_sems (by decide) r.2⟩)
    (Cert.PrenormRefIdeal.Value.run (F := Ideal) m ρ)
theorem preserves : Cert.preserves_Prenorm_PrenormIdeal := trivial

theorem algebraic : Cert.algebraic_PrenormIdeal_PrenormRefIdeal (hPrenormIdeal := Cert.PrenormIdeal.Gen.facts) (hPrenormRefIdeal := Cert.PrenormRefIdeal.Gen.facts) := by
  intro m ρ m' ρ' _ hagree
  refine ⟨_, Cert.PrenormIdeal.Value.run_blocks m ρ, ?_⟩
  refine (θ_run Cert.PrenormRefIdeal.defs _ _).mono (fun _ h c => ?_) (Cert.PrenormRefIdeal.Value.run (F := Ideal) m' ρ')
  obtain ⟨e0, e1, e2, e3⟩ := hagree c
  obtain ⟨r0, rest⟩ := h c
  refine ⟨r0.trans ?_, rest⟩
  · rw [e0, e1, e2, e3, Cert.PrenormIdeal.Product.final_4 m c]
    funext y
    obtain ⟨i, j, rfl⟩ : ∃ (i : Fin 4096) (j : Fin 2048), y = ix2 i j := ⟨y 0, y 1, eq_ix2 y⟩
    exact Cert.PrenormRefIdeal.Product.value_4 (Cert.PrenormIdeal.Product.arg0 m c) (Cert.PrenormIdeal.Product.arg1 m c) (Cert.PrenormIdeal.Product.arg2 m c) (Cert.PrenormIdeal.Product.arg3 m c) i j

end Cert.Proof.PrenormClaims

end
-- ==== Proof.ModMatmulProduct.lean ====
/-
  The modulation: silu c · w + b. The kernel's results are the reference's, element by element.
-/
module

public import proofs.«01_k».proof.Defs
public import proofs.«01_k».proof.Proof.Gen.ModMatmul.Frame
public import proofs.«01_k».proof.Proof.Gen.ModMatmulIdeal.Frame
public import proofs.«01_k».proof.Proof.Gen.ModMatmulIdeal.Value
public import proofs.«01_k».proof.Proof.Gen.ModMatmulRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.ModMatmulIdeal.Product

open Idealize.ShloMosaic Idealize.ShloMosaic.TcCoe Idealize.ShloMosaic.Tactic Cert.ModMatmulIdeal Cert.ModMatmulIdeal.Gen

/-- The product's element with its bias; each factor of the row is weighted by its sigmoid. -/
def modulation (u v : Fin 2048 → EReal) (b : EReal) : EReal := (∑ k, u k * Ideal.logistic (u k) * v k) + b

/-! ## What the body computes of its blocks -/

theorem pay_3 (x0 : S8x2048.Idx → EReal) (x1 : S2048x1024.Idx → EReal) (x2 : S1x1024.Idx → EReal) (r : Fin 8) (j : Fin 1024) :
    out0_3 (F := Ideal) x0 x1 x2 (ix2 r j) = modulation (fun k => x0 (ix2 r k)) (fun k => x1 (ix2 k j)) (x2 (ix2 0 j)) := by
  unfold out0_3
  simp (disch := decide) only [View.canon_cons_unit_lit, View.ld_unit_lit]
  pointwise [k0_pay1]
  rfl

variable (m : (ℓ : Loc nD τ sig) → Buf (Elt Ideal) ℓ)

/-- The arguments. -/
abbrev arg0 (c : Dev nD) : S8x2048.Idx → EReal := m ((c : Thread nD τ).loc main_arg0)
abbrev arg1 (c : Dev nD) : S2048x3072.Idx → EReal := m ((c : Thread nD τ).loc main_arg1)
abbrev arg2 (c : Dev nD) : S1x3072.Idx → EReal := m ((c : Thread nD τ).loc main_arg2)

/-! ## The blocks -/

theorem point_lt (t : Fin cfg0.N) : t.val < 3 := by have := t.isLt; have hN : cfg0.N = 3 := N_0; omega

theorem ix_0 : ∀ t : Fin cfg0.N, win0_0.index t 0 = 0 ∧ win0_0.index t 1 = 0 :=
  (by decide +kernel : ∀ t : Fin grid0.N, win0_0.index t 0 = 0 ∧ win0_0.index t 1 = 0)

theorem blk_0 (c : Dev nD) (t : Fin cfg0.N) (x : Fin 8) (y : Fin 2048) (a : Fin 8) (b : Fin 2048)
    (ha : a.val = 8 * (0) + x.val) (hb : b.val = 2048 * (0) + y.val) :
    (iblk m c 0 t : S8x2048.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 8 + 1 * x.val = a.val; rw [(ix_0 t).1]; omega
  | ⟨1, _⟩ => show win0_0.index t 1 * 2048 + 1 * y.val = b.val; rw [(ix_0 t).2]; omega

theorem ix_1 : ∀ t : Fin cfg0.N, win0_1.index t 0 = 0 ∧ win0_1.index t 1 = t.val :=
  (by decide +kernel : ∀ t : Fin grid0.N, win0_1.index t 0 = 0 ∧ win0_1.index t 1 = t.val)

theorem blk_1 (c : Dev nD) (t : Fin cfg0.N) (x : Fin 2048) (y : Fin 1024) (a : Fin 2048) (b : Fin 3072)
    (ha : a.val = 2048 * (0) + x.val) (hb : b.val = 1024 * (t.val) + y.val) :
    (iblk m c 1 t : S2048x1024.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 2048 + 1 * x.val = a.val; rw [(ix_1 t).1]; omega
  | ⟨1, _⟩ => show win0_1.index t 1 * 1024 + 1 * y.val = b.val; rw [(ix_1 t).2]; omega

theorem ix_2 : ∀ t : Fin cfg0.N, win0_2.index t 0 = 0 ∧ win0_2.index t 1 = t.val :=
  (by decide +kernel : ∀ t : Fin grid0.N, win0_2.index t 0 = 0 ∧ win0_2.index t 1 = t.val)

theorem blk_2 (c : Dev nD) (t : Fin cfg0.N) (x : Fin 1) (y : Fin 1024) (a : Fin 1) (b : Fin 3072)
    (ha : a.val = 1 * (0) + x.val) (hb : b.val = 1024 * (t.val) + y.val) :
    (iblk m c 2 t : S1x1024.Idx → EReal) (ix2 x y) = arg2 m c (ix2 a b) := by
  unfold iblk
  rw [View.read_apply]
  show V m c main_arg2 _ = _
  rw [V_main_arg2]
  refine congrArg (arg2 m c) ?_
  funext d
  apply Fin.ext
  match d with
  | ⟨0, _⟩ => show win0_2.index t 0 * 1 + 1 * x.val = a.val; rw [(ix_2 t).1]; omega
  | ⟨1, _⟩ => show win0_2.index t 1 * 1024 + 1 * y.val = b.val; rw [(ix_2 t).2]; omega

/-! ## The results' arrays -/

theorem ix_3 : ∀ t : Fin cfg0.N, win0_3.index t 0 = 0 ∧ win0_3.index t 1 = t.val :=
  (by decide +kernel : ∀ t : Fin grid0.N, win0_3.index t 0 = 0 ∧ win0_3.index t 1 = t.val)

def result_3 (c : Dev nD) : S8x3072.Idx → EReal := fun i => modulation (fun k => arg0 m c (ix2 (i 0) k)) (fun k => arg1 m c (ix2 k (i 1))) (arg2 m c (ix2 0 (i 1)))

theorem place_3 (c : Dev nD) (t : Fin cfg0.N) (r : Fin 8) (j : Fin 1024) : ∃ (a : Fin 8) (b : Fin 3072), a.val = 8 * (0) + r.val ∧
    b.val = 1024 * (t.val) + j.val ∧ result_3 m c (((cfg0.win 3).blk t).view.emb (ix2 r j)) = modulation (fun k => arg0 m c (ix2 a k)) (fun k => arg1 m c (ix2 k b)) (arg2 m c (ix2 0 b)) := by
  have hp := point_lt t
  refine ⟨_, _, ?_, ?_, rfl⟩
  · show win0_3.index t 0 * 8 + 1 * r.val = _
    rw [(ix_3 t).1]; omega
  · show win0_3.index t 1 * 1024 + 1 * j.val = _
    rw [(ix_3 t).2]; omega

theorem flushed_3 (c : Dev nD) (t : Fin cfg0.N) (hf : (cfg0.win 3).flush t = true) :
    (dats m 0 c).flushed 3 t = ((cfg0.win 3).blk t).view.read (Elt Ideal) (result_3 m c) := by
  rw [Value.flushed3]
  funext (y : S8x1024.Idx)
  rw [View.read_apply]
  obtain ⟨r, j, rfl⟩ : ∃ (r : Fin 8) (j : Fin 1024), y = ix2 r j := ⟨y 0, y 1, eq_ix2 y⟩
  obtain ⟨a, b, ha, hb, e⟩ := place_3 m c t r j
  rw [e]
  refine (pay_3 (iblk m c 0 t) (iblk m c 1 t) (iblk m c 2 t) r j).trans ?_
  rw [(show (fun k => (iblk m c 0 t : S8x2048.Idx → EReal) (ix2 r k)) = (fun k => arg0 m c (ix2 a k)) from funext fun k => blk_0 m c t r k a k ha (by omega)),
    (show (fun k => (iblk m c 1 t : S2048x1024.Idx → EReal) (ix2 k j)) = (fun k => arg1 m c (ix2 k b)) from funext fun k => blk_1 m c t k j k b (by omega) hb),
    blk_2 m c t 0 j 0 b rfl hb]
  rfl

theorem final_3 (c : Dev nD) : (dats m 0 c).arrAt 3 cfg0.N = result_3 m c :=
  (dats m 0 c).arrAt_eq_of_cover 3 _ (flushed_3 m c) fun i =>
    have h0 : (i 0 : Nat) < 8 := (i 0).isLt
    have h1 : (i 1 : Nat) < 3072 := (i 1).isLt
    have hN : cfg0.N = 3 := N_0
    have ht : (i 1 : Nat) / 1024 < cfg0.N := by omega
    ⟨⟨(i 1 : Nat) / 1024, ht⟩, flush0_3 _, by
      show i ∈ ((View.whole main_v0).slice (win0_3.rect ⟨(i 1 : Nat) / 1024, ht⟩)).set
      rw [View.set_slice_whole, Rect.mem_set_unit]
      have e := ix_3 ⟨(i 1 : Nat) / 1024, ht⟩
      dsimp only at e
      intro a
      match a with
      | ⟨0, _⟩ => show win0_3.index ⟨(i 1 : Nat) / 1024, ht⟩ 0 * 8 ≤ (i 0 : Nat) ∧ (i 0 : Nat) < win0_3.index ⟨(i 1 : Nat) / 1024, ht⟩ 0 * 8 + 8; rw [e.1]; omega
      | ⟨1, _⟩ => show win0_3.index ⟨(i 1 : Nat) / 1024, ht⟩ 1 * 1024 ≤ (i 1 : Nat) ∧ (i 1 : Nat) < win0_3.index ⟨(i 1 : Nat) / 1024, ht⟩ 1 * 1024 + 1024; rw [e.2]; omega
      ⟩

end Cert.ModMatmulIdeal.Product

namespace Cert.ModMatmulRefIdeal.Product

open Idealize.ShloMosaic Idealize.ShloMosaic.Tactic Cert.ModMatmulRefIdeal Cert.ModMatmulRefIdeal.Gen Cert.ModMatmulIdeal.Product

/-- The reference's result, element by element. -/
theorem value_3 (x0 : S8x2048.Idx → EReal) (x1 : S2048x3072.Idx → EReal) (x2 : S1x3072.Idx → EReal) (i : Fin 8) (j : Fin 3072) :
    (addf (Host.dotGeneral (F := Ideal) (φ₁ := .f32) (φ₂ := .f32) dot_S8x2048_S2048x3072_S8x3072_1_0_0_1_n_n none (mulf x0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf x0))))) x1) (broadcastInDim S8x3072 ![0, 1] bcast_S1x3072_S8x3072_0_1 x2) : S8x3072.Idx → EReal) (ix2 i j) = modulation (fun k => x0 (ix2 i k)) (fun k => x1 (ix2 k j)) (x2 (ix2 0 j)) := by
  pointwise []
  rfl

end Cert.ModMatmulRefIdeal.Product

namespace Cert.Proof.ModMatmulClaims

open Idealize.ShloMosaic Idealize.ShloMosaic.TcCoe Idealize.ShloMosaic.Tactic Idealize.SL.Sem

theorem frame_p : Cert.quiescent_ModMatmul (hModMatmul := Cert.ModMatmul.Gen.facts) := fun m ρ _ => Cert.ModMatmul.Gen.frame m ρ
theorem frame_pi : Cert.quiescent_ModMatmulIdeal (hModMatmulIdeal := Cert.ModMatmulIdeal.Gen.facts) := fun m ρ _ => Cert.ModMatmulIdeal.Gen.frame m ρ
theorem frame_ri : Cert.quiescent_ModMatmulRefIdeal (hModMatmulRefIdeal := Cert.ModMatmulRefIdeal.Gen.facts) := fun m ρ _ =>
  (θ_run Cert.ModMatmulRefIdeal.defs _ _).mono (fun r h => ⟨fun c => (h c).2, Idealize.ShloMosaic.sem_eq_zero_of_no_sems (by decide) r.2⟩)
    (Cert.ModMatmulRefIdeal.Value.run (F := Ideal) m ρ)
theorem preserves : Cert.preserves_ModMatmul_ModMatmulIdeal := trivial

theorem algebraic : Cert.algebraic_ModMatmulIdeal_ModMatmulRefIdeal (hModMatmulIdeal := Cert.ModMatmulIdeal.Gen.facts) (hModMatmulRefIdeal := Cert.ModMatmulRefIdeal.Gen.facts) := by
  intro m ρ m' ρ' _ hagree
  refine ⟨_, Cert.ModMatmulIdeal.Value.run_blocks m ρ, ?_⟩
  refine (θ_run Cert.ModMatmulRefIdeal.defs _ _).mono (fun _ h c => ?_) (Cert.ModMatmulRefIdeal.Value.run (F := Ideal) m' ρ')
  obtain ⟨e0, e1, e2⟩ := hagree c
  obtain ⟨r0, rest⟩ := h c
  refine ⟨r0.trans ?_, rest⟩
  · rw [e0, e1, e2, Cert.ModMatmulIdeal.Product.final_3 m c]
    funext y
    obtain ⟨i, j, rfl⟩ : ∃ (i : Fin 8) (j : Fin 3072), y = ix2 i j := ⟨y 0, y 1, eq_ix2 y⟩
    exact Cert.ModMatmulRefIdeal.Product.value_3 (Cert.ModMatmulIdeal.Product.arg0 m c) (Cert.ModMatmulIdeal.Product.arg1 m c) (Cert.ModMatmulIdeal.Product.arg2 m c) i j

end Cert.Proof.ModMatmulClaims

end
-- ==== Proof.WadaUpdateProduct.lean ====
/-
  The gradient of w_ada from the gathered conditioning and the modulation's gradient, and the optimiser's step on w_ada. The kernel's results are the reference's, element by element.
-/
module

public import proofs.«01_k».proof.Defs
public import proofs.«01_k».proof.Proof.Gen.WadaUpdate.Frame
public import proofs.«01_k».proof.Proof.Gen.WadaUpdateIdeal.Frame
public import proofs.«01_k».proof.Proof.Gen.WadaUpdateIdeal.Value
public import proofs.«01_k».proof.Proof.Gen.WadaUpdateRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.WadaUpdateIdeal.Product

open Idealize.ShloMosaic Idealize.ShloMosaic.TcCoe Idealize.ShloMosaic.Tactic Cert.WadaUpdateIdeal Cert.WadaUpdateIdeal.Gen

/-- The gradient's element: the sum over the eight examples. -/
def grad (u d : Fin 8 → EReal) : EReal := ∑ k, u k * Ideal.logistic (u k) * d k

/-- The optimiser's two averages and its step. -/
def mean (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

def gradStep (u d : Fin 8 → EReal) (w m v : EReal) : EReal := step w (grad u d) m v
def gradMean (u d : Fin 8 → EReal) (m : EReal) : EReal := mean (grad u d) m
def gradSquare (u d : Fin 8 → EReal) (v : EReal) : EReal := square (grad u d) v

/-! ## What the body computes of its blocks -/

theorem pay_5 (x0 : S8x512.Idx → EReal) (x1 : S8x1024.Idx → EReal) (x2 : S512x1024.Idx → EReal) (x3 : S512x1024.Idx → EReal) (x4 : S512x1024.Idx → EReal) (r : Fin 512) (j : Fin 1024) :
    out0_5 (F := Ideal) x0 x1 x2 x3 x4 (ix2 r j) = grad (fun k => x0 (ix2 k r)) (fun k => x1 (ix2 k j)) := by
  unfold out0_5
  simp (disch := decide) only [View.canon_cons_unit_lit, View.ld_unit_lit]
  pointwise [k0_pay1]
  rfl

theorem pay_6 (x0 : S8x512.Idx → EReal) (x1 : S8x1024.Idx → EReal) (x2 : S512x1024.Idx → EReal) (x3 : S512x1024.Idx → EReal) (x4 : S512x1024.Idx → EReal) (r : Fin 512) (j : Fin 1024) :
    out0_6 (F := Ideal) x0 x1 x2 x3 x4 (ix2 r j) = gradStep (fun k => x0 (ix2 k r)) (fun k => x1 (ix2 k j)) (x2 (ix2 r j)) (x3 (ix2 r j)) (x4 (ix2 r j)) := by
  unfold out0_6
  simp (disch := decide) only [View.canon_cons_unit_lit, View.ld_unit_lit]
  pointwise [k0_pay4, k0_pay2, k0_pay3, k0_pay1]
  rfl

theorem pay_7 (x0 : S8x512.Idx → EReal) (x1 : S8x1024.Idx → EReal) (x2 : S512x1024.Idx → EReal) (x3 : S512x1024.Idx → EReal) (x4 : S512x1024.Idx → EReal) (r : Fin 512) (j : Fin 1024) :
    out0_7 (F := Ideal) x0 x1 x2 x3 x4 (ix2 r j) = gradMean (fun k => x0 (ix2 k r)) (fun k => x1 (ix2 k j)) (x3 (ix2 r j)) := by
  unfold out0_7
  simp (disch := decide) only [View.canon_cons_unit_lit, View.ld_unit_lit]
  pointwise [k0_pay2, k0_pay1]
  rfl

theorem pay_8 (x0 : S8x512.Idx → EReal) (x1 : S8x1024.Idx → EReal) (x2 : S512x1024.Idx → EReal) (x3 : S512x1024.Idx → EReal) (x4 : S512x1024.Idx → EReal) (r : Fin 512) (j : Fin 1024) :
    out0_8 (F := Ideal) x0 x1 x2 x3 x4 (ix2 r j) = gradSquare (fun k => x0 (ix2 k r)) (fun k => x1 (ix2 k j)) (x4 (ix2 r j)) := by
  unfold out0_8
  simp (disch := decide) only [View.canon_cons_unit_lit, View.ld_unit_lit]
  pointwise [k0_pay3, k0_pay1]
  rfl

variable (m : (ℓ : Loc nD τ sig) → Buf (Elt Ideal) ℓ)

/-- The arguments. -/
abbrev arg0 (c : Dev nD) : S8x2048.Idx → EReal := m ((c : Thread nD τ).loc main_arg0)
abbrev arg1 (c : Dev nD) : S8x3072.Idx → EReal := m ((c : Thread nD τ).loc main_arg1)
abbrev arg2 (c : Dev nD) : S2048x3072.Idx → EReal := m ((c : Thread nD τ).loc main_arg2)
abbrev arg3 (c : Dev nD) : S2048x3072.Idx → EReal := m ((c : Thread nD τ).loc main_arg3)
abbrev arg4 (c : Dev nD) : S2048x3072.Idx → EReal := m ((c : Thread nD τ).loc main_arg4)

/-! ## The blocks -/

theorem point_lt (t : Fin cfg0.N) : t.val < 12 := by have := t.isLt; have hN : cfg0.N = 12 := N_0; omega

theorem ix_0 : ∀ t : Fin cfg0.N, win0_0.index t 0 = 0 ∧ win0_0.index t 1 = t.val / 3 :=
  (by decide +kernel : ∀ t : Fin grid0.N, win0_0.index t 0 = 0 ∧ win0_0.index t 1 = t.val / 3)

theorem blk_0 (c : Dev nD) (t : Fin cfg0.N) (x : Fin 8) (y : Fin 512) (a : Fin 8) (b : Fin 2048)
    (ha : a.val = 8 * (0) + x.val) (hb : b.val = 512 * (t.val / 3) + y.val) :
    (iblk m c 0 t : S8x512.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 8 + 1 * x.val = a.val; rw [(ix_0 t).1]; omega
  | ⟨1, _⟩ => show win0_0.index t 1 * 512 + 1 * y.val = b.val; rw [(ix_0 t).2]; omega

theorem ix_1 : ∀ t : Fin cfg0.N, win0_1.index t 0 = 0 ∧ win0_1.index t 1 = t.val % 3 :=
  (by decide +kernel : ∀ t : Fin grid0.N, win0_1.index t 0 = 0 ∧ win0_1.index t 1 = t.val % 3)

theorem blk_1 (c : Dev nD) (t : Fin cfg0.N) (x : Fin 8) (y : Fin 1024) (a : Fin 8) (b : Fin 3072)
    (ha : a.val = 8 * (0) + x.val) (hb : b.val = 1024 * (t.val % 3) + y.val) :
    (iblk m c 1 t : S8x1024.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 8 + 1 * x.val = a.val; rw [(ix_1 t).1]; omega
  | ⟨1, _⟩ => show win0_1.index t 1 * 1024 + 1 * y.val = b.val; rw [(ix_1 t).2]; omega

theorem ix_2 : ∀ t : Fin cfg0.N, win0_2.index t 0 = t.val / 3 ∧ win0_2.index t 1 = t.val % 3 :=
  (by decide +kernel : ∀ t : Fin grid0.N, win0_2.index t 0 = t.val / 3 ∧ win0_2.index t 1 = t.val % 3)

theorem blk_2 (c : Dev nD) (t : Fin cfg0.N) (x : Fin 512) (y : Fin 1024) (a : Fin 2048) (b : Fin 3072)
    (ha : a.val = 512 * (t.val / 3) + x.val) (hb : b.val = 1024 * (t.val % 3) + y.val) :
    (iblk m c 2 t : S512x1024.Idx → EReal) (ix2 x y) = arg2 m c (ix2 a b) := by
  unfold iblk
  rw [View.read_apply]
  show V m c main_arg2 _ = _
  rw [V_main_arg2]
  refine congrArg (arg2 m c) ?_
  funext d
  apply Fin.ext
  match d with
  | ⟨0, _⟩ => show win0_2.index t 0 * 512 + 1 * x.val = a.val; rw [(ix_2 t).1]; omega
  | ⟨1, _⟩ => show win0_2.index t 1 * 1024 + 1 * y.val = b.val; rw [(ix_2 t).2]; omega

theorem ix_3 : ∀ t : Fin cfg0.N, win0_3.index t 0 = t.val / 3 ∧ win0_3.index t 1 = t.val % 3 :=
  (by decide +kernel : ∀ t : Fin grid0.N, win0_3.index t 0 = t.val / 3 ∧ win0_3.index t 1 = t.val % 3)

theorem blk_3 (c : Dev nD) (t : Fin cfg0.N) (x : Fin 512) (y : Fin 1024) (a : Fin 2048) (b : Fin 3072)
    (ha : a.val = 512 * (t.val / 3) + x.val) (hb : b.val = 1024 * (t.val % 3) + y.val) :
    (iblk m c 3 t : S512x1024.Idx → EReal) (ix2 x y) = arg3 m c (ix2 a b) := by
  unfold iblk
  rw [View.read_apply]
  show V m c main_arg3 _ = _
  rw [V_main_arg3]
  refine congrArg (arg3 m c) ?_
  funext d
  apply Fin.ext
  match d with
  | ⟨0, _⟩ => show win0_3.index t 0 * 512 + 1 * x.val = a.val; rw [(ix_3 t).1]; omega
  | ⟨1, _⟩ => show win0_3.index t 1 * 1024 + 1 * y.val = b.val; rw [(ix_3 t).2]; omega

theorem ix_4 : ∀ t : Fin cfg0.N, win0_4.index t 0 = t.val / 3 ∧ win0_4.index t 1 = t.val % 3 :=
  (by decide +kernel : ∀ t : Fin grid0.N, win0_4.index t 0 = t.val / 3 ∧ win0_4.index t 1 = t.val % 3)

theorem blk_4 (c : Dev nD) (t : Fin cfg0.N) (x : Fin 512) (y : Fin 1024) (a : Fin 2048) (b : Fin 3072)
    (ha : a.val = 512 * (t.val / 3) + x.val) (hb : b.val = 1024 * (t.val % 3) + y.val) :
    (iblk m c 4 t : S512x1024.Idx → EReal) (ix2 x y) = arg4 m c (ix2 a b) := by
  unfold iblk
  rw [View.read_apply]
  show V m c main_arg4 _ = _
  rw [V_main_arg4]
  refine congrArg (arg4 m c) ?_
  funext d
  apply Fin.ext
  match d with
  | ⟨0, _⟩ => show win0_4.index t 0 * 512 + 1 * x.val = a.val; rw [(ix_4 t).1]; omega
  | ⟨1, _⟩ => show win0_4.index t 1 * 1024 + 1 * y.val = b.val; rw [(ix_4 t).2]; omega

/-! ## The results' arrays -/

theorem ix_5 : ∀ t : Fin cfg0.N, win0_5.index t 0 = t.val / 3 ∧ win0_5.index t 1 = t.val % 3 :=
  (by decide +kernel : ∀ t : Fin grid0.N, win0_5.index t 0 = t.val / 3 ∧ win0_5.index t 1 = t.val % 3)

def result_5 (c : Dev nD) : S2048x3072.Idx → EReal := fun i => grad (fun k => arg0 m c (ix2 k (i 0))) (fun k => arg1 m c (ix2 k (i 1)))

theorem place_5 (c : Dev nD) (t : Fin cfg0.N) (r : Fin 512) (j : Fin 1024) : ∃ (a : Fin 2048) (b : Fin 3072), a.val = 512 * (t.val / 3) + r.val ∧
    b.val = 1024 * (t.val % 3) + j.val ∧ result_5 m c (((cfg0.win 5).blk t).view.emb (ix2 r j)) = grad (fun k => arg0 m c (ix2 k a)) (fun k => arg1 m c (ix2 k b)) := by
  have hp := point_lt t
  refine ⟨_, _, ?_, ?_, rfl⟩
  · show win0_5.index t 0 * 512 + 1 * r.val = _
    rw [(ix_5 t).1]; omega
  · show win0_5.index t 1 * 1024 + 1 * j.val = _
    rw [(ix_5 t).2]; omega

theorem flushed_5 (c : Dev nD) (t : Fin cfg0.N) (hf : (cfg0.win 5).flush t = true) :
    (dats m 0 c).flushed 5 t = ((cfg0.win 5).blk t).view.read (Elt Ideal) (result_5 m c) := by
  rw [Value.flushed5]
  funext (y : S512x1024.Idx)
  rw [View.read_apply]
  obtain ⟨r, j, rfl⟩ : ∃ (r : Fin 512) (j : Fin 1024), y = ix2 r j := ⟨y 0, y 1, eq_ix2 y⟩
  obtain ⟨a, b, ha, hb, e⟩ := place_5 m c t r j
  rw [e]
  refine (pay_5 (iblk m c 0 t) (iblk m c 1 t) (iblk m c 2 t) (iblk m c 3 t) (iblk m c 4 t) r j).trans ?_
  rw [(show (fun k => (iblk m c 0 t : S8x512.Idx → EReal) (ix2 k r)) = (fun k => arg0 m c (ix2 k a)) from funext fun k => blk_0 m c t k r k a (by omega) ha),
    (show (fun k => (iblk m c 1 t : S8x1024.Idx → EReal) (ix2 k j)) = (fun k => arg1 m c (ix2 k b)) from funext fun k => blk_1 m c t k j k b (by omega) hb)]
  rfl

theorem final_5 (c : Dev nD) : (dats m 0 c).arrAt 5 cfg0.N = result_5 m c :=
  (dats m 0 c).arrAt_eq_of_cover 5 _ (flushed_5 m c) fun i =>
    have h0 : (i 0 : Nat) < 2048 := (i 0).isLt
    have h1 : (i 1 : Nat) < 3072 := (i 1).isLt
    have hN : cfg0.N = 12 := N_0
    have ht : 3 * ((i 0 : Nat) / 512) + ((i 1 : Nat) / 1024) < cfg0.N := by omega
    ⟨⟨3 * ((i 0 : Nat) / 512) + ((i 1 : Nat) / 1024), ht⟩, flush0_5 _, by
      show i ∈ ((View.whole main_v0_0).slice (win0_5.rect ⟨3 * ((i 0 : Nat) / 512) + ((i 1 : Nat) / 1024), ht⟩)).set
      rw [View.set_slice_whole, Rect.mem_set_unit]
      have e := ix_5 ⟨3 * ((i 0 : Nat) / 512) + ((i 1 : Nat) / 1024), ht⟩
      dsimp only at e
      intro a
      match a with
      | ⟨0, _⟩ => show win0_5.index ⟨3 * ((i 0 : Nat) / 512) + ((i 1 : Nat) / 1024), ht⟩ 0 * 512 ≤ (i 0 : Nat) ∧ (i 0 : Nat) < win0_5.index ⟨3 * ((i 0 : Nat) / 512) + ((i 1 : Nat) / 1024), ht⟩ 0 * 512 + 512; rw [e.1]; omega
      | ⟨1, _⟩ => show win0_5.index ⟨3 * ((i 0 : Nat) / 512) + ((i 1 : Nat) / 1024), ht⟩ 1 * 1024 ≤ (i 1 : Nat) ∧ (i 1 : Nat) < win0_5.index ⟨3 * ((i 0 : Nat) / 512) + ((i 1 : Nat) / 1024), ht⟩ 1 * 1024 + 1024; rw [e.2]; omega
      ⟩

theorem ix_6 : ∀ t : Fin cfg0.N, win0_6.index t 0 = t.val / 3 ∧ win0_6.index t 1 = t.val % 3 :=
  (by decide +kernel : ∀ t : Fin grid0.N, win0_6.index t 0 = t.val / 3 ∧ win0_6.index t 1 = t.val % 3)

def result_6 (c : Dev nD) : S2048x3072.Idx → EReal := fun i => gradStep (fun k => arg0 m c (ix2 k (i 0))) (fun k => arg1 m c (ix2 k (i 1))) (arg2 m c (ix2 (i 0) (i 1))) (arg3 m c (ix2 (i 0) (i 1))) (arg4 m c (ix2 (i 0) (i 1)))

theorem place_6 (c : Dev nD) (t : Fin cfg0.N) (r : Fin 512) (j : Fin 1024) : ∃ (a : Fin 2048) (b : Fin 3072), a.val = 512 * (t.val / 3) + r.val ∧
    b.val = 1024 * (t.val % 3) + j.val ∧ result_6 m c (((cfg0.win 6).blk t).view.emb (ix2 r j)) = gradStep (fun k => arg0 m c (ix2 k a)) (fun k => arg1 m c (ix2 k b)) (arg2 m c (ix2 a b)) (arg3 m c (ix2 a b)) (arg4 m c (ix2 a b)) := by
  have hp := point_lt t
  refine ⟨_, _, ?_, ?_, rfl⟩
  · show win0_6.index t 0 * 512 + 1 * r.val = _
    rw [(ix_6 t).1]; omega
  · show win0_6.index t 1 * 1024 + 1 * j.val = _
    rw [(ix_6 t).2]; omega

theorem flushed_6 (c : Dev nD) (t : Fin cfg0.N) (hf : (cfg0.win 6).flush t = true) :
    (dats m 0 c).flushed 6 t = ((cfg0.win 6).blk t).view.read (Elt Ideal) (result_6 m c) := by
  rw [Value.flushed6]
  funext (y : S512x1024.Idx)
  rw [View.read_apply]
  obtain ⟨r, j, rfl⟩ : ∃ (r : Fin 512) (j : Fin 1024), y = ix2 r j := ⟨y 0, y 1, eq_ix2 y⟩
  obtain ⟨a, b, ha, hb, e⟩ := place_6 m c t r j
  rw [e]
  refine (pay_6 (iblk m c 0 t) (iblk m c 1 t) (iblk m c 2 t) (iblk m c 3 t) (iblk m c 4 t) r j).trans ?_
  rw [(show (fun k => (iblk m c 0 t : S8x512.Idx → EReal) (ix2 k r)) = (fun k => arg0 m c (ix2 k a)) from funext fun k => blk_0 m c t k r k a (by omega) ha),
    (show (fun k => (iblk m c 1 t : S8x1024.Idx → EReal) (ix2 k j)) = (fun k => arg1 m c (ix2 k b)) from funext fun k => blk_1 m c t k j k b (by omega) hb),
    blk_2 m c t r j a b ha hb,
    blk_3 m c t r j a b ha hb,
    blk_4 m c t r j a b ha hb]
  rfl

theorem final_6 (c : Dev nD) : (dats m 0 c).arrAt 6 cfg0.N = result_6 m c :=
  (dats m 0 c).arrAt_eq_of_cover 6 _ (flushed_6 m c) fun i =>
    have h0 : (i 0 : Nat) < 2048 := (i 0).isLt
    have h1 : (i 1 : Nat) < 3072 := (i 1).isLt
    have hN : cfg0.N = 12 := N_0
    have ht : 3 * ((i 0 : Nat) / 512) + ((i 1 : Nat) / 1024) < cfg0.N := by omega
    ⟨⟨3 * ((i 0 : Nat) / 512) + ((i 1 : Nat) / 1024), ht⟩, flush0_6 _, by
      show i ∈ ((View.whole main_v0_1).slice (win0_6.rect ⟨3 * ((i 0 : Nat) / 512) + ((i 1 : Nat) / 1024), ht⟩)).set
      rw [View.set_slice_whole, Rect.mem_set_unit]
      have e := ix_6 ⟨3 * ((i 0 : Nat) / 512) + ((i 1 : Nat) / 1024), ht⟩
      dsimp only at e
      intro a
      match a with
      | ⟨0, _⟩ => show win0_6.index ⟨3 * ((i 0 : Nat) / 512) + ((i 1 : Nat) / 1024), ht⟩ 0 * 512 ≤ (i 0 : Nat) ∧ (i 0 : Nat) < win0_6.index ⟨3 * ((i 0 : Nat) / 512) + ((i 1 : Nat) / 1024), ht⟩ 0 * 512 + 512; rw [e.1]; omega
      | ⟨1, _⟩ => show win0_6.index ⟨3 * ((i 0 : Nat) / 512) + ((i 1 : Nat) / 1024), ht⟩ 1 * 1024 ≤ (i 1 : Nat) ∧ (i 1 : Nat) < win0_6.index ⟨3 * ((i 0 : Nat) / 512) + ((i 1 : Nat) / 1024), ht⟩ 1 * 1024 + 1024; rw [e.2]; omega
      ⟩

theorem ix_7 : ∀ t : Fin cfg0.N, win0_7.index t 0 = t.val / 3 ∧ win0_7.index t 1 = t.val % 3 :=
  (by decide +kernel : ∀ t : Fin grid0.N, win0_7.index t 0 = t.val / 3 ∧ win0_7.index t 1 = t.val % 3)

def result_7 (c : Dev nD) : S2048x3072.Idx → EReal := fun i => gradMean (fun k => arg0 m c (ix2 k (i 0))) (fun k => arg1 m c (ix2 k (i 1))) (arg3 m c (ix2 (i 0) (i 1)))

theorem place_7 (c : Dev nD) (t : Fin cfg0.N) (r : Fin 512) (j : Fin 1024) : ∃ (a : Fin 2048) (b : Fin 3072), a.val = 512 * (t.val / 3) + r.val ∧
    b.val = 1024 * (t.val % 3) + j.val ∧ result_7 m c (((cfg0.win 7).blk t).view.emb (ix2 r j)) = gradMean (fun k => arg0 m c (ix2 k a)) (fun k => arg1 m c (ix2 k b)) (arg3 m c (ix2 a b)) := by
  have hp := point_lt t
  refine ⟨_, _, ?_, ?_, rfl⟩
  · show win0_7.index t 0 * 512 + 1 * r.val = _
    rw [(ix_7 t).1]; omega
  · show win0_7.index t 1 * 1024 + 1 * j.val = _
    rw [(ix_7 t).2]; omega

theorem flushed_7 (c : Dev nD) (t : Fin cfg0.N) (hf : (cfg0.win 7).flush t = true) :
    (dats m 0 c).flushed 7 t = ((cfg0.win 7).blk t).view.read (Elt Ideal) (result_7 m c) := by
  rw [Value.flushed7]
  funext (y : S512x1024.Idx)
  rw [View.read_apply]
  obtain ⟨r, j, rfl⟩ : ∃ (r : Fin 512) (j : Fin 1024), y = ix2 r j := ⟨y 0, y 1, eq_ix2 y⟩
  obtain ⟨a, b, ha, hb, e⟩ := place_7 m c t r j
  rw [e]
  refine (pay_7 (iblk m c 0 t) (iblk m c 1 t) (iblk m c 2 t) (iblk m c 3 t) (iblk m c 4 t) r j).trans ?_
  rw [(show (fun k => (iblk m c 0 t : S8x512.Idx → EReal) (ix2 k r)) = (fun k => arg0 m c (ix2 k a)) from funext fun k => blk_0 m c t k r k a (by omega) ha),
    (show (fun k => (iblk m c 1 t : S8x1024.Idx → EReal) (ix2 k j)) = (fun k => arg1 m c (ix2 k b)) from funext fun k => blk_1 m c t k j k b (by omega) hb),
    blk_3 m c t r j a b ha hb]
  rfl

theorem final_7 (c : Dev nD) : (dats m 0 c).arrAt 7 cfg0.N = result_7 m c :=
  (dats m 0 c).arrAt_eq_of_cover 7 _ (flushed_7 m c) fun i =>
    have h0 : (i 0 : Nat) < 2048 := (i 0).isLt
    have h1 : (i 1 : Nat) < 3072 := (i 1).isLt
    have hN : cfg0.N = 12 := N_0
    have ht : 3 * ((i 0 : Nat) / 512) + ((i 1 : Nat) / 1024) < cfg0.N := by omega
    ⟨⟨3 * ((i 0 : Nat) / 512) + ((i 1 : Nat) / 1024), ht⟩, flush0_7 _, by
      show i ∈ ((View.whole main_v0_2).slice (win0_7.rect ⟨3 * ((i 0 : Nat) / 512) + ((i 1 : Nat) / 1024), ht⟩)).set
      rw [View.set_slice_whole, Rect.mem_set_unit]
      have e := ix_7 ⟨3 * ((i 0 : Nat) / 512) + ((i 1 : Nat) / 1024), ht⟩
      dsimp only at e
      intro a
      match a with
      | ⟨0, _⟩ => show win0_7.index ⟨3 * ((i 0 : Nat) / 512) + ((i 1 : Nat) / 1024), ht⟩ 0 * 512 ≤ (i 0 : Nat) ∧ (i 0 : Nat) < win0_7.index ⟨3 * ((i 0 : Nat) / 512) + ((i 1 : Nat) / 1024), ht⟩ 0 * 512 + 512; rw [e.1]; omega
      | ⟨1, _⟩ => show win0_7.index ⟨3 * ((i 0 : Nat) / 512) + ((i 1 : Nat) / 1024), ht⟩ 1 * 1024 ≤ (i 1 : Nat) ∧ (i 1 : Nat) < win0_7.index ⟨3 * ((i 0 : Nat) / 512) + ((i 1 : Nat) / 1024), ht⟩ 1 * 1024 + 1024; rw [e.2]; omega
      ⟩

theorem ix_8 : ∀ t : Fin cfg0.N, win0_8.index t 0 = t.val / 3 ∧ win0_8.index t 1 = t.val % 3 :=
  (by decide +kernel : ∀ t : Fin grid0.N, win0_8.index t 0 = t.val / 3 ∧ win0_8.index t 1 = t.val % 3)

def result_8 (c : Dev nD) : S2048x3072.Idx → EReal := fun i => gradSquare (fun k => arg0 m c (ix2 k (i 0))) (fun k => arg1 m c (ix2 k (i 1))) (arg4 m c (ix2 (i 0) (i 1)))

theorem place_8 (c : Dev nD) (t : Fin cfg0.N) (r : Fin 512) (j : Fin 1024) : ∃ (a : Fin 2048) (b : Fin 3072), a.val = 512 * (t.val / 3) + r.val ∧
    b.val = 1024 * (t.val % 3) + j.val ∧ result_8 m c (((cfg0.win 8).blk t).view.emb (ix2 r j)) = gradSquare (fun k => arg0 m c (ix2 k a)) (fun k => arg1 m c (ix2 k b)) (arg4 m c (ix2 a b)) := by
  have hp := point_lt t
  refine ⟨_, _, ?_, ?_, rfl⟩
  · show win0_8.index t 0 * 512 + 1 * r.val = _
    rw [(ix_8 t).1]; omega
  · show win0_8.index t 1 * 1024 + 1 * j.val = _
    rw [(ix_8 t).2]; omega

theorem flushed_8 (c : Dev nD) (t : Fin cfg0.N) (hf : (cfg0.win 8).flush t = true) :
    (dats m 0 c).flushed 8 t = ((cfg0.win 8).blk t).view.read (Elt Ideal) (result_8 m c) := by
  rw [Value.flushed8]
  funext (y : S512x1024.Idx)
  rw [View.read_apply]
  obtain ⟨r, j, rfl⟩ : ∃ (r : Fin 512) (j : Fin 1024), y = ix2 r j := ⟨y 0, y 1, eq_ix2 y⟩
  obtain ⟨a, b, ha, hb, e⟩ := place_8 m c t r j
  rw [e]
  refine (pay_8 (iblk m c 0 t) (iblk m c 1 t) (iblk m c 2 t) (iblk m c 3 t) (iblk m c 4 t) r j).trans ?_
  rw [(show (fun k => (iblk m c 0 t : S8x512.Idx → EReal) (ix2 k r)) = (fun k => arg0 m c (ix2 k a)) from funext fun k => blk_0 m c t k r k a (by omega) ha),
    (show (fun k => (iblk m c 1 t : S8x1024.Idx → EReal) (ix2 k j)) = (fun k => arg1 m c (ix2 k b)) from funext fun k => blk_1 m c t k j k b (by omega) hb),
    blk_4 m c t r j a b ha hb]
  rfl

theorem final_8 (c : Dev nD) : (dats m 0 c).arrAt 8 cfg0.N = result_8 m c :=
  (dats m 0 c).arrAt_eq_of_cover 8 _ (flushed_8 m c) fun i =>
    have h0 : (i 0 : Nat) < 2048 := (i 0).isLt
    have h1 : (i 1 : Nat) < 3072 := (i 1).isLt
    have hN : cfg0.N = 12 := N_0
    have ht : 3 * ((i 0 : Nat) / 512) + ((i 1 : Nat) / 1024) < cfg0.N := by omega
    ⟨⟨3 * ((i 0 : Nat) / 512) + ((i 1 : Nat) / 1024), ht⟩, flush0_8 _, by
      show i ∈ ((View.whole main_v0_3).slice (win0_8.rect ⟨3 * ((i 0 : Nat) / 512) + ((i 1 : Nat) / 1024), ht⟩)).set
      rw [View.set_slice_whole, Rect.mem_set_unit]
      have e := ix_8 ⟨3 * ((i 0 : Nat) / 512) + ((i 1 : Nat) / 1024), ht⟩
      dsimp only at e
      intro a
      match a with
      | ⟨0, _⟩ => show win0_8.index ⟨3 * ((i 0 : Nat) / 512) + ((i 1 : Nat) / 1024), ht⟩ 0 * 512 ≤ (i 0 : Nat) ∧ (i 0 : Nat) < win0_8.index ⟨3 * ((i 0 : Nat) / 512) + ((i 1 : Nat) / 1024), ht⟩ 0 * 512 + 512; rw [e.1]; omega
      | ⟨1, _⟩ => show win0_8.index ⟨3 * ((i 0 : Nat) / 512) + ((i 1 : Nat) / 1024), ht⟩ 1 * 1024 ≤ (i 1 : Nat) ∧ (i 1 : Nat) < win0_8.index ⟨3 * ((i 0 : Nat) / 512) + ((i 1 : Nat) / 1024), ht⟩ 1 * 1024 + 1024; rw [e.2]; omega
      ⟩

end Cert.WadaUpdateIdeal.Product

namespace Cert.WadaUpdateRefIdeal.Product

open Idealize.ShloMosaic Idealize.ShloMosaic.Tactic Cert.WadaUpdateRefIdeal Cert.WadaUpdateRefIdeal.Gen Cert.WadaUpdateIdeal.Product

/-- The reference's result, element by element. -/
theorem value_5 (x0 : S8x2048.Idx → EReal) (x1 : S8x3072.Idx → EReal) (x2 : S2048x3072.Idx → EReal) (x3 : S2048x3072.Idx → EReal) (x4 : S2048x3072.Idx → EReal) (i : Fin 2048) (j : Fin 3072) :
    (transpose S2048x3072 [1, 0] (Host.dotGeneral (F := Ideal) (φ₁ := .f32) (φ₂ := .f32) dot_S8x3072_S8x2048_S3072x2048_0_0_1_1_n_n none x1 (mulf x0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf x0)))))) transposes_S3072x2048_S2048x3072_1_0 : S2048x3072.Idx → EReal) (ix2 i j) = grad (fun k => x0 (ix2 k i)) (fun k => x1 (ix2 k j)) := by
  pointwise []
  exact Finset.sum_congr rfl fun k _ => mul_comm _ _

/-- The reference's result, element by element. -/
theorem value_6 (x0 : S8x2048.Idx → EReal) (x1 : S8x3072.Idx → EReal) (x2 : S2048x3072.Idx → EReal) (x3 : S2048x3072.Idx → EReal) (x4 : S2048x3072.Idx → EReal) (i : Fin 2048) (j : Fin 3072) :
    (mulf (broadcastInDim S2048x3072 ![] bcast_S_S2048x3072 (constant (F := Ideal) S_ .f32 0xBA83126F#32)) (addf (Host.divf (Host.divf (addf (mulf (broadcastInDim S2048x3072 ![] bcast_S_S2048x3072 (constant (F := Ideal) S_ .f32 0x3F666666#32)) x3) (mulf (broadcastInDim S2048x3072 ![] bcast_S_S2048x3072 (constant (F := Ideal) S_ .f32 0x3DCCCCCD#32)) (transpose S2048x3072 [1, 0] (Host.dotGeneral (F := Ideal) (φ₁ := .f32) (φ₂ := .f32) dot_S8x3072_S8x2048_S3072x2048_0_0_1_1_n_n none x1 (mulf x0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf x0)))))) transposes_S3072x2048_S2048x3072_1_0))) (broadcastInDim S2048x3072 ![] bcast_S_S2048x3072 (constant (F := Ideal) S_ .f32 0x3F26BD02#32))) (addf (Host.sqrt (Host.divf (addf (mulf (broadcastInDim S2048x3072 ![] bcast_S_S2048x3072 (constant (F := Ideal) S_ .f32 0x3F7FBE77#32)) x4) (mulf (broadcastInDim S2048x3072 ![] bcast_S_S2048x3072 (constant (F := Ideal) S_ .f32 0x3A83126F#32)) (mulf (transpose S2048x3072 [1, 0] (Host.dotGeneral (F := Ideal) (φ₁ := .f32) (φ₂ := .f32) dot_S8x3072_S8x2048_S3072x2048_0_0_1_1_n_n none x1 (mulf x0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf x0)))))) transposes_S3072x2048_S2048x3072_1_0) (transpose S2048x3072 [1, 0] (Host.dotGeneral (F := Ideal) (φ₁ := .f32) (φ₂ := .f32) dot_S8x3072_S8x2048_S3072x2048_0_0_1_1_n_n none x1 (mulf x0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf x0)))))) transposes_S3072x2048_S2048x3072_1_0)))) (broadcastInDim S2048x3072 ![] bcast_S_S2048x3072 (constant (F := Ideal) S_ .f32 0x3C231ACC#32)))) (broadcastInDim S2048x3072 ![] bcast_S_S2048x3072 (constant (F := Ideal) S_ .f32 0x322BCC77#32)))) (mulf (broadcastInDim S2048x3072 ![] bcast_S_S2048x3072 (constant (F := Ideal) S_ .f32 0x3C23D70A#32)) x2)) : S2048x3072.Idx → EReal) (ix2 i j) = gradStep (fun k => x0 (ix2 k i)) (fun k => x1 (ix2 k j)) (x2 (ix2 i j)) (x3 (ix2 i j)) (x4 (ix2 i j)) := by
  pointwise []
  have e : (∑ k, x1 (ix2 k j) * (x0 (ix2 k i) * Ideal.div 1 (1 + Ideal.exp (-x0 (ix2 k i))))) = grad (fun k => x0 (ix2 k i)) (fun k => x1 (ix2 k j)) :=
    Finset.sum_congr rfl fun k _ => mul_comm _ _
  simp only [e]
  rfl

/-- The reference's result, element by element. -/
theorem value_7 (x0 : S8x2048.Idx → EReal) (x1 : S8x3072.Idx → EReal) (x2 : S2048x3072.Idx → EReal) (x3 : S2048x3072.Idx → EReal) (x4 : S2048x3072.Idx → EReal) (i : Fin 2048) (j : Fin 3072) :
    (addf (mulf (broadcastInDim S2048x3072 ![] bcast_S_S2048x3072 (constant (F := Ideal) S_ .f32 0x3F666666#32)) x3) (mulf (broadcastInDim S2048x3072 ![] bcast_S_S2048x3072 (constant (F := Ideal) S_ .f32 0x3DCCCCCD#32)) (transpose S2048x3072 [1, 0] (Host.dotGeneral (F := Ideal) (φ₁ := .f32) (φ₂ := .f32) dot_S8x3072_S8x2048_S3072x2048_0_0_1_1_n_n none x1 (mulf x0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf x0)))))) transposes_S3072x2048_S2048x3072_1_0)) : S2048x3072.Idx → EReal) (ix2 i j) = gradMean (fun k => x0 (ix2 k i)) (fun k => x1 (ix2 k j)) (x3 (ix2 i j)) := by
  pointwise []
  have e : (∑ k, x1 (ix2 k j) * (x0 (ix2 k i) * Ideal.div 1 (1 + Ideal.exp (-x0 (ix2 k i))))) = grad (fun k => x0 (ix2 k i)) (fun k => x1 (ix2 k j)) :=
    Finset.sum_congr rfl fun k _ => mul_comm _ _
  simp only [e]
  rfl

/-- The reference's result, element by element. -/
theorem value_8 (x0 : S8x2048.Idx → EReal) (x1 : S8x3072.Idx → EReal) (x2 : S2048x3072.Idx → EReal) (x3 : S2048x3072.Idx → EReal) (x4 : S2048x3072.Idx → EReal) (i : Fin 2048) (j : Fin 3072) :
    (addf (mulf (broadcastInDim S2048x3072 ![] bcast_S_S2048x3072 (constant (F := Ideal) S_ .f32 0x3F7FBE77#32)) x4) (mulf (broadcastInDim S2048x3072 ![] bcast_S_S2048x3072 (constant (F := Ideal) S_ .f32 0x3A83126F#32)) (mulf (transpose S2048x3072 [1, 0] (Host.dotGeneral (F := Ideal) (φ₁ := .f32) (φ₂ := .f32) dot_S8x3072_S8x2048_S3072x2048_0_0_1_1_n_n none x1 (mulf x0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf x0)))))) transposes_S3072x2048_S2048x3072_1_0) (transpose S2048x3072 [1, 0] (Host.dotGeneral (F := Ideal) (φ₁ := .f32) (φ₂ := .f32) dot_S8x3072_S8x2048_S3072x2048_0_0_1_1_n_n none x1 (mulf x0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf x0)))))) transposes_S3072x2048_S2048x3072_1_0))) : S2048x3072.Idx → EReal) (ix2 i j) = gradSquare (fun k => x0 (ix2 k i)) (fun k => x1 (ix2 k j)) (x4 (ix2 i j)) := by
  pointwise []
  have e : (∑ k, x1 (ix2 k j) * (x0 (ix2 k i) * Ideal.div 1 (1 + Ideal.exp (-x0 (ix2 k i))))) = grad (fun k => x0 (ix2 k i)) (fun k => x1 (ix2 k j)) :=
    Finset.sum_congr rfl fun k _ => mul_comm _ _
  simp only [e]
  rfl

end Cert.WadaUpdateRefIdeal.Product

namespace Cert.Proof.WadaUpdateClaims

open Idealize.ShloMosaic Idealize.ShloMosaic.TcCoe Idealize.ShloMosaic.Tactic Idealize.SL.Sem

theorem frame_p : Cert.quiescent_WadaUpdate (hWadaUpdate := Cert.WadaUpdate.Gen.facts) := fun m ρ _ => Cert.WadaUpdate.Gen.frame m ρ
theorem frame_pi : Cert.quiescent_WadaUpdateIdeal (hWadaUpdateIdeal := Cert.WadaUpdateIdeal.Gen.facts) := fun m ρ _ => Cert.WadaUpdateIdeal.Gen.frame m ρ
theorem frame_ri : Cert.quiescent_WadaUpdateRefIdeal (hWadaUpdateRefIdeal := Cert.WadaUpdateRefIdeal.Gen.facts) := fun m ρ _ =>
  (θ_run Cert.WadaUpdateRefIdeal.defs _ _).mono (fun r h => ⟨fun c => (h c).2.2.2.2, Idealize.ShloMosaic.sem_eq_zero_of_no_sems (by decide) r.2⟩)
    (Cert.WadaUpdateRefIdeal.Value.run (F := Ideal) m ρ)
theorem preserves : Cert.preserves_WadaUpdate_WadaUpdateIdeal := trivial

theorem algebraic : Cert.algebraic_WadaUpdateIdeal_WadaUpdateRefIdeal (hWadaUpdateIdeal := Cert.WadaUpdateIdeal.Gen.facts) (hWadaUpdateRefIdeal := Cert.WadaUpdateRefIdeal.Gen.facts) := by
  intro m ρ m' ρ' _ hagree
  refine ⟨_, _, _, _, Cert.WadaUpdateIdeal.Value.run_blocks m ρ, ?_⟩
  refine (θ_run Cert.WadaUpdateRefIdeal.defs _ _).mono (fun _ h c => ?_) (Cert.WadaUpdateRefIdeal.Value.run (F := Ideal) m' ρ')
  obtain ⟨e0, e1, e2, e3, e4⟩ := hagree c
  obtain ⟨r0, r1, r2, r3, rest⟩ := h c
  refine ⟨r0.trans ?_, r1.trans ?_, r2.trans ?_, r3.trans ?_, rest⟩
  · rw [e0, e1, Cert.WadaUpdateIdeal.Product.final_5 m c]
    funext y
    obtain ⟨i, j, rfl⟩ : ∃ (i : Fin 2048) (j : Fin 3072), y = ix2 i j := ⟨y 0, y 1, eq_ix2 y⟩
    exact Cert.WadaUpdateRefIdeal.Product.value_5 (Cert.WadaUpdateIdeal.Product.arg0 m c) (Cert.WadaUpdateIdeal.Product.arg1 m c) (Cert.WadaUpdateIdeal.Product.arg2 m c) (Cert.WadaUpdateIdeal.Product.arg3 m c) (Cert.WadaUpdateIdeal.Product.arg4 m c) i j
  · rw [e0, e1, e2, e3, e4, Cert.WadaUpdateIdeal.Product.final_6 m c]
    funext y
    obtain ⟨i, j, rfl⟩ : ∃ (i : Fin 2048) (j : Fin 3072), y = ix2 i j := ⟨y 0, y 1, eq_ix2 y⟩
    exact Cert.WadaUpdateRefIdeal.Product.value_6 (Cert.WadaUpdateIdeal.Product.arg0 m c) (Cert.WadaUpdateIdeal.Product.arg1 m c) (Cert.WadaUpdateIdeal.Product.arg2 m c) (Cert.WadaUpdateIdeal.Product.arg3 m c) (Cert.WadaUpdateIdeal.Product.arg4 m c) i j
  · rw [e0, e1, e3, Cert.WadaUpdateIdeal.Product.final_7 m c]
    funext y
    obtain ⟨i, j, rfl⟩ : ∃ (i : Fin 2048) (j : Fin 3072), y = ix2 i j := ⟨y 0, y 1, eq_ix2 y⟩
    exact Cert.WadaUpdateRefIdeal.Product.value_7 (Cert.WadaUpdateIdeal.Product.arg0 m c) (Cert.WadaUpdateIdeal.Product.arg1 m c) (Cert.WadaUpdateIdeal.Product.arg2 m c) (Cert.WadaUpdateIdeal.Product.arg3 m c) (Cert.WadaUpdateIdeal.Product.arg4 m c) i j
  · rw [e0, e1, e4, Cert.WadaUpdateIdeal.Product.final_8 m c]
    funext y
    obtain ⟨i, j, rfl⟩ : ∃ (i : Fin 2048) (j : Fin 3072), y = ix2 i j := ⟨y 0, y 1, eq_ix2 y⟩
    exact Cert.WadaUpdateRefIdeal.Product.value_8 (Cert.WadaUpdateIdeal.Product.arg0 m c) (Cert.WadaUpdateIdeal.Product.arg1 m c) (Cert.WadaUpdateIdeal.Product.arg2 m c) (Cert.WadaUpdateIdeal.Product.arg3 m c) (Cert.WadaUpdateIdeal.Product.arg4 m c) i j

end Cert.Proof.WadaUpdateClaims

end
-- ==== Proof.AdamSmallProduct.lean ====
/-
  The optimiser's step on the packed small weights. The kernel's results are the reference's, element by element.
-/
module

public import proofs.«01_k».proof.Defs
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.AdamSmallIdeal.Product

open Idealize.ShloMosaic Idealize.ShloMosaic.TcCoe Idealize.ShloMosaic.Tactic Cert.AdamSmallIdeal Cert.AdamSmallIdeal.Gen

/-- The optimiser's two averages and its step. -/
def mean (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

/-! ## What the body computes of its blocks -/

theorem pay_4 (x0 : S1216x128.Idx → EReal) (x1 : S1216x128.Idx → EReal) (x2 : S1216x128.Idx → EReal) (x3 : S1216x128.Idx → EReal) (r : Fin 1216) (j : Fin 128) :
    out0_4 (F := Ideal) x0 x1 x2 x3 (ix2 r j) = step (x0 (ix2 r j)) (x1 (ix2 r j)) (x2 (ix2 r j)) (x3 (ix2 r j)) := by
  unfold out0_4
  simp (disch := decide) only [View.canon_cons_unit_lit, View.ld_unit_lit]
  pointwise [k0_pay3, k0_pay1, k0_pay2]
  rfl

theorem pay_5 (x0 : S1216x128.Idx → EReal) (x1 : S1216x128.Idx → EReal) (x2 : S1216x128.Idx → EReal) (x3 : S1216x128.Idx → EReal) (r : Fin 1216) (j : Fin 128) :
    out0_5 (F := Ideal) x0 x1 x2 x3 (ix2 r j) = mean (x1 (ix2 r j)) (x2 (ix2 r j)) := by
  unfold out0_5
  simp (disch := decide) only [View.canon_cons_unit_lit, View.ld_unit_lit]
  pointwise [k0_pay1]
  rfl

theorem pay_6 (x0 : S1216x128.Idx → EReal) (x1 : S1216x128.Idx → EReal) (x2 : S1216x128.Idx → EReal) (x3 : S1216x128.Idx → EReal) (r : Fin 1216) (j : Fin 128) :
    out0_6 (F := Ideal) x0 x1 x2 x3 (ix2 r j) = square (x1 (ix2 r j)) (x3 (ix2 r j)) := by
  unfold out0_6
  simp (disch := decide) only [View.canon_cons_unit_lit, View.ld_unit_lit]
  pointwise [k0_pay2]
  rfl

variable (m : (ℓ : Loc nD τ sig) → Buf (Elt Ideal) ℓ)

/-- The arguments. -/
abbrev arg0 (c : Dev nD) : S1216x128.Idx → EReal := m ((c : Thread nD τ).loc main_arg0)
abbrev arg1 (c : Dev nD) : S1216x128.Idx → EReal := m ((c : Thread nD τ).loc main_arg1)
abbrev arg2 (c : Dev nD) : S1216x128.Idx → EReal := m ((c : Thread nD τ).loc main_arg2)
abbrev arg3 (c : Dev nD) : S1216x128.Idx → EReal := m ((c : Thread nD τ).loc main_arg3)

/-! ## The blocks -/

theorem point_lt (t : Fin cfg0.N) : t.val < 1 := by have := t.isLt; have hN : cfg0.N = 1 := N_0; omega

theorem ix_0 : ∀ t : Fin cfg0.N, win0_0.index t 0 = 0 ∧ win0_0.index t 1 = 0 :=
  (by decide +kernel : ∀ t : Fin grid0.N, win0_0.index t 0 = 0 ∧ win0_0.index t 1 = 0)

theorem blk_0 (c : Dev nD) (t : Fin cfg0.N) (x : Fin 1216) (y : Fin 128) (a : Fin 1216) (b : Fin 128)
    (ha : a.val = 1216 * (0) + x.val) (hb : b.val = 128 * (0) + y.val) :
    (iblk m c 0 t : S1216x128.Idx → EReal) (ix2 x y) = arg0 m c (ix2 a b) := by
  unfold iblk
  rw [View.read_apply]
  show V m c main_arg0 _ = _
  rw [V_main_arg0]
  refine congrArg (arg0 m c) ?_
  funext d
  apply Fin.ext
  match d with
  | ⟨0, _⟩ => show win0_0.index t 0 * 1216 + 1 * x.val = a.val; rw [(ix_0 t).1]; omega
  | ⟨1, _⟩ => show win0_0.index t 1 * 128 + 1 * y.val = b.val; rw [(ix_0 t).2]; omega

theorem ix_1 : ∀ t : Fin cfg0.N, win0_1.index t 0 = 0 ∧ win0_1.index t 1 = 0 :=
  (by decide +kernel : ∀ t : Fin grid0.N, win0_1.index t 0 = 0 ∧ win0_1.index t 1 = 0)

theorem blk_1 (c : Dev nD) (t : Fin cfg0.N) (x : Fin 1216) (y : Fin 128) (a : Fin 1216) (b : Fin 128)
    (ha : a.val = 1216 * (0) + x.val) (hb : b.val = 128 * (0) + y.val) :
    (iblk m c 1 t : S1216x128.Idx → EReal) (ix2 x y) = arg1 m c (ix2 a b) := by
  unfold iblk
  rw [View.read_apply]
  show V m c main_arg1 _ = _
  rw [V_main_arg1]
  refine congrArg (arg1 m c) ?_
  funext d
  apply Fin.ext
  match d with
  | ⟨0, _⟩ => show win0_1.index t 0 * 1216 + 1 * x.val = a.val; rw [(ix_1 t).1]; omega
  | ⟨1, _⟩ => show win0_1.index t 1 * 128 + 1 * y.val = b.val; rw [(ix_1 t).2]; omega

theorem ix_2 : ∀ t : Fin cfg0.N, win0_2.index t 0 = 0 ∧ win0_2.index t 1 = 0 :=
  (by decide +kernel : ∀ t : Fin grid0.N, win0_2.index t 0 = 0 ∧ win0_2.index t 1 = 0)

theorem blk_2 (c : Dev nD) (t : Fin cfg0.N) (x : Fin 1216) (y : Fin 128) (a : Fin 1216) (b : Fin 128)
    (ha : a.val = 1216 * (0) + x.val) (hb : b.val = 128 * (0) + y.val) :
    (iblk m c 2 t : S1216x128.Idx → EReal) (ix2 x y) = arg2 m c (ix2 a b) := by
  unfold iblk
  rw [View.read_apply]
  show V m c main_arg2 _ = _
  rw [V_main_arg2]
  refine congrArg (arg2 m c) ?_
  funext d
  apply Fin.ext
  match d with
  | ⟨0, _⟩ => show win0_2.index t 0 * 1216 + 1 * x.val = a.val; rw [(ix_2 t).1]; omega
  | ⟨1, _⟩ => show win0_2.index t 1 * 128 + 1 * y.val = b.val; rw [(ix_2 t).2]; omega

theorem ix_3 : ∀ t : Fin cfg0.N, win0_3.index t 0 = 0 ∧ win0_3.index t 1 = 0 :=
  (by decide +kernel : ∀ t : Fin grid0.N, win0_3.index t 0 = 0 ∧ win0_3.index t 1 = 0)

theorem blk_3 (c : Dev nD) (t : Fin cfg0.N) (x : Fin 1216) (y : Fin 128) (a : Fin 1216) (b : Fin 128)
    (ha : a.val = 1216 * (0) + x.val) (hb : b.val = 128 * (0) + y.val) :
    (iblk m c 3 t : S1216x128.Idx → EReal) (ix2 x y) = arg3 m c (ix2 a b) := by
  unfold iblk
  rw [View.read_apply]
  show V m c main_arg3 _ = _
  rw [V_main_arg3]
  refine congrArg (arg3 m c) ?_
  funext d
  apply Fin.ext
  match d with
  | ⟨0, _⟩ => show win0_3.index t 0 * 1216 + 1 * x.val = a.val; rw [(ix_3 t).1]; omega
  | ⟨1, _⟩ => show win0_3.index t 1 * 128 + 1 * y.val = b.val; rw [(ix_3 t).2]; omega

/-! ## The results' arrays -/

theorem ix_4 : ∀ t : Fin cfg0.N, win0_4.index t 0 = 0 ∧ win0_4.index t 1 = 0 :=
  (by decide +kernel : ∀ t : Fin grid0.N, win0_4.index t 0 = 0 ∧ win0_4.index t 1 = 0)

def result_4 (c : Dev nD) : S1216x128.Idx → EReal := fun i => step (arg0 m c (ix2 (i 0) (i 1))) (arg1 m c (ix2 (i 0) (i 1))) (arg2 m c (ix2 (i 0) (i 1))) (arg3 m c (ix2 (i 0) (i 1)))

theorem place_4 (c : Dev nD) (t : Fin cfg0.N) (r : Fin 1216) (j : Fin 128) : ∃ (a : Fin 1216) (b : Fin 128), a.val = 1216 * (0) + r.val ∧
    b.val = 128 * (0) + j.val ∧ result_4 m c (((cfg0.win 4).blk t).view.emb (ix2 r j)) = step (arg0 m c (ix2 a b)) (arg1 m c (ix2 a b)) (arg2 m c (ix2 a b)) (arg3 m c (ix2 a b)) := by
  have hp := point_lt t
  refine ⟨_, _, ?_, ?_, rfl⟩
  · show win0_4.index t 0 * 1216 + 1 * r.val = _
    rw [(ix_4 t).1]; omega
  · show win0_4.index t 1 * 128 + 1 * j.val = _
    rw [(ix_4 t).2]; omega

theorem flushed_4 (c : Dev nD) (t : Fin cfg0.N) (hf : (cfg0.win 4).flush t = true) :
    (dats m 0 c).flushed 4 t = ((cfg0.win 4).blk t).view.read (Elt Ideal) (result_4 m c) := by
  rw [Value.flushed4]
  funext (y : S1216x128.Idx)
  rw [View.read_apply]
  obtain ⟨r, j, rfl⟩ : ∃ (r : Fin 1216) (j : Fin 128), y = ix2 r j := ⟨y 0, y 1, eq_ix2 y⟩
  obtain ⟨a, b, ha, hb, e⟩ := place_4 m c t r j
  rw [e]
  refine (pay_4 (iblk m c 0 t) (iblk m c 1 t) (iblk m c 2 t) (iblk m c 3 t) r j).trans ?_
  rw [blk_0 m c t r j a b ha hb,
    blk_1 m c t r j a b ha hb,
    blk_2 m c t r j a b ha hb,
    blk_3 m c t r j a b ha hb]
  rfl

theorem final_4 (c : Dev nD) : (dats m 0 c).arrAt 4 cfg0.N = result_4 m c :=
  (dats m 0 c).arrAt_eq_of_cover 4 _ (flushed_4 m c) fun i =>
    have h0 : (i 0 : Nat) < 1216 := (i 0).isLt
    have h1 : (i 1 : Nat) < 128 := (i 1).isLt
    have hN : cfg0.N = 1 := N_0
    have ht : (i 0 : Nat) / 1216 < cfg0.N := by omega
    ⟨⟨(i 0 : Nat) / 1216, ht⟩, flush0_4 _, by
      show i ∈ ((View.whole main_v0_0).slice (win0_4.rect ⟨(i 0 : Nat) / 1216, ht⟩)).set
      rw [View.set_slice_whole, Rect.mem_set_unit]
      have e := ix_4 ⟨(i 0 : Nat) / 1216, ht⟩
      dsimp only at e
      intro a
      match a with
      | ⟨0, _⟩ => show win0_4.index ⟨(i 0 : Nat) / 1216, ht⟩ 0 * 1216 ≤ (i 0 : Nat) ∧ (i 0 : Nat) < win0_4.index ⟨(i 0 : Nat) / 1216, ht⟩ 0 * 1216 + 1216; rw [e.1]; omega
      | ⟨1, _⟩ => show win0_4.index ⟨(i 0 : Nat) / 1216, ht⟩ 1 * 128 ≤ (i 1 : Nat) ∧ (i 1 : Nat) < win0_4.index ⟨(i 0 : Nat) / 1216, ht⟩ 1 * 128 + 128; rw [e.2]; omega
      ⟩

theorem ix_5 : ∀ t : Fin cfg0.N, win0_5.index t 0 = 0 ∧ win0_5.index t 1 = 0 :=
  (by decide +kernel : ∀ t : Fin grid0.N, win0_5.index t 0 = 0 ∧ win0_5.index t 1 = 0)

def result_5 (c : Dev nD) : S1216x128.Idx → EReal := fun i => mean (arg1 m c (ix2 (i 0) (i 1))) (arg2 m c (ix2 (i 0) (i 1)))

theorem place_5 (c : Dev nD) (t : Fin cfg0.N) (r : Fin 1216) (j : Fin 128) : ∃ (a : Fin 1216) (b : Fin 128), a.val = 1216 * (0) + r.val ∧
    b.val = 128 * (0) + j.val ∧ result_5 m c (((cfg0.win 5).blk t).view.emb (ix2 r j)) = mean (arg1 m c (ix2 a b)) (arg2 m c (ix2 a b)) := by
  have hp := point_lt t
  refine ⟨_, _, ?_, ?_, rfl⟩
  · show win0_5.index t 0 * 1216 + 1 * r.val = _
    rw [(ix_5 t).1]; omega
  · show win0_5.index t 1 * 128 + 1 * j.val = _
    rw [(ix_5 t).2]; omega

theorem flushed_5 (c : Dev nD) (t : Fin cfg0.N) (hf : (cfg0.win 5).flush t = true) :
    (dats m 0 c).flushed 5 t = ((cfg0.win 5).blk t).view.read (Elt Ideal) (result_5 m c) := by
  rw [Value.flushed5]
  funext (y : S1216x128.Idx)
  rw [View.read_apply]
  obtain ⟨r, j, rfl⟩ : ∃ (r : Fin 1216) (j : Fin 128), y = ix2 r j := ⟨y 0, y 1, eq_ix2 y⟩
  obtain ⟨a, b, ha, hb, e⟩ := place_5 m c t r j
  rw [e]
  refine (pay_5 (iblk m c 0 t) (iblk m c 1 t) (iblk m c 2 t) (iblk m c 3 t) r j).trans ?_
  rw [blk_1 m c t r j a b ha hb,
    blk_2 m c t r j a b ha hb]
  rfl

theorem final_5 (c : Dev nD) : (dats m 0 c).arrAt 5 cfg0.N = result_5 m c :=
  (dats m 0 c).arrAt_eq_of_cover 5 _ (flushed_5 m c) fun i =>
    have h0 : (i 0 : Nat) < 1216 := (i 0).isLt
    have h1 : (i 1 : Nat) < 128 := (i 1).isLt
    have hN : cfg0.N = 1 := N_0
    have ht : (i 0 : Nat) / 1216 < cfg0.N := by omega
    ⟨⟨(i 0 : Nat) / 1216, ht⟩, flush0_5 _, by
      show i ∈ ((View.whole main_v0_1).slice (win0_5.rect ⟨(i 0 : Nat) / 1216, ht⟩)).set
      rw [View.set_slice_whole, Rect.mem_set_unit]
      have e := ix_5 ⟨(i 0 : Nat) / 1216, ht⟩
      dsimp only at e
      intro a
      match a with
      | ⟨0, _⟩ => show win0_5.index ⟨(i 0 : Nat) / 1216, ht⟩ 0 * 1216 ≤ (i 0 : Nat) ∧ (i 0 : Nat) < win0_5.index ⟨(i 0 : Nat) / 1216, ht⟩ 0 * 1216 + 1216; rw [e.1]; omega
      | ⟨1, _⟩ => show win0_5.index ⟨(i 0 : Nat) / 1216, ht⟩ 1 * 128 ≤ (i 1 : Nat) ∧ (i 1 : Nat) < win0_5.index ⟨(i 0 : Nat) / 1216, ht⟩ 1 * 128 + 128; rw [e.2]; omega
      ⟩

theorem ix_6 : ∀ t : Fin cfg0.N, win0_6.index t 0 = 0 ∧ win0_6.index t 1 = 0 :=
  (by decide +kernel : ∀ t : Fin grid0.N, win0_6.index t 0 = 0 ∧ win0_6.index t 1 = 0)

def result_6 (c : Dev nD) : S1216x128.Idx → EReal := fun i => square (arg1 m c (ix2 (i 0) (i 1))) (arg3 m c (ix2 (i 0) (i 1)))

theorem place_6 (c : Dev nD) (t : Fin cfg0.N) (r : Fin 1216) (j : Fin 128) : ∃ (a : Fin 1216) (b : Fin 128), a.val = 1216 * (0) + r.val ∧
    b.val = 128 * (0) + j.val ∧ result_6 m c (((cfg0.win 6).blk t).view.emb (ix2 r j)) = square (arg1 m c (ix2 a b)) (arg3 m c (ix2 a b)) := by
  have hp := point_lt t
  refine ⟨_, _, ?_, ?_, rfl⟩
  · show win0_6.index t 0 * 1216 + 1 * r.val = _
    rw [(ix_6 t).1]; omega
  · show win0_6.index t 1 * 128 + 1 * j.val = _
    rw [(ix_6 t).2]; omega

theorem flushed_6 (c : Dev nD) (t : Fin cfg0.N) (hf : (cfg0.win 6).flush t = true) :
    (dats m 0 c).flushed 6 t = ((cfg0.win 6).blk t).view.read (Elt Ideal) (result_6 m c) := by
  rw [Value.flushed6]
  funext (y : S1216x128.Idx)
  rw [View.read_apply]
  obtain ⟨r, j, rfl⟩ : ∃ (r : Fin 1216) (j : Fin 128), y = ix2 r j := ⟨y 0, y 1, eq_ix2 y⟩
  obtain ⟨a, b, ha, hb, e⟩ := place_6 m c t r j
  rw [e]
  refine (pay_6 (iblk m c 0 t) (iblk m c 1 t) (iblk m c 2 t) (iblk m c 3 t) r j).trans ?_
  rw [blk_1 m c t r j a b ha hb,
    blk_3 m c t r j a b ha hb]
  rfl

theorem final_6 (c : Dev nD) : (dats m 0 c).arrAt 6 cfg0.N = result_6 m c :=
  (dats m 0 c).arrAt_eq_of_cover 6 _ (flushed_6 m c) fun i =>
    have h0 : (i 0 : Nat) < 1216 := (i 0).isLt
    have h1 : (i 1 : Nat) < 128 := (i 1).isLt
    have hN : cfg0.N = 1 := N_0
    have ht : (i 0 : Nat) / 1216 < cfg0.N := by omega
    ⟨⟨(i 0 : Nat) / 1216, ht⟩, flush0_6 _, by
      show i ∈ ((View.whole main_v0_2).slice (win0_6.rect ⟨(i 0 : Nat) / 1216, ht⟩)).set
      rw [View.set_slice_whole, Rect.mem_set_unit]
      have e := ix_6 ⟨(i 0 : Nat) / 1216, ht⟩
      dsimp only at e
      intro a
      match a with
      | ⟨0, _⟩ => show win0_6.index ⟨(i 0 : Nat) / 1216, ht⟩ 0 * 1216 ≤ (i 0 : Nat) ∧ (i 0 : Nat) < win0_6.index ⟨(i 0 : Nat) / 1216, ht⟩ 0 * 1216 + 1216; rw [e.1]; omega
      | ⟨1, _⟩ => show win0_6.index ⟨(i 0 : Nat) / 1216, ht⟩ 1 * 128 ≤ (i 1 : Nat) ∧ (i 1 : Nat) < win0_6.index ⟨(i 0 : Nat) / 1216, ht⟩ 1 * 128 + 128; rw [e.2]; omega
      ⟩

end Cert.AdamSmallIdeal.Product

namespace Cert.AdamSmallRefIdeal.Product

open Idealize.ShloMosaic Idealize.ShloMosaic.Tactic Cert.AdamSmallRefIdeal Cert.AdamSmallRefIdeal.Gen Cert.AdamSmallIdeal.Product

/-- The reference's result, element by element. -/
theorem value_4 (x0 : S1216x128.Idx → EReal) (x1 : S1216x128.Idx → EReal) (x2 : S1216x128.Idx → EReal) (x3 : S1216x128.Idx → EReal) (i : Fin 1216) (j : Fin 128) :
    (mulf (broadcastInDim S1216x128 ![] bcast_S_S1216x128 (constant (F := Ideal) S_ .f32 0xBA83126F#32)) (addf (Host.divf (Host.divf (addf (mulf (broadcastInDim S1216x128 ![] bcast_S_S1216x128 (constant (F := Ideal) S_ .f32 0x3F666666#32)) x2) (mulf (broadcastInDim S1216x128 ![] bcast_S_S1216x128 (constant (F := Ideal) S_ .f32 0x3DCCCCCD#32)) x1)) (broadcastInDim S1216x128 ![] bcast_S_S1216x128 (constant (F := Ideal) S_ .f32 0x3F26BD02#32))) (addf (Host.sqrt (Host.divf (addf (mulf (broadcastInDim S1216x128 ![] bcast_S_S1216x128 (constant (F := Ideal) S_ .f32 0x3F7FBE77#32)) x3) (mulf (broadcastInDim S1216x128 ![] bcast_S_S1216x128 (constant (F := Ideal) S_ .f32 0x3A83126F#32)) (mulf x1 x1))) (broadcastInDim S1216x128 ![] bcast_S_S1216x128 (constant (F := Ideal) S_ .f32 0x3C231ACC#32)))) (broadcastInDim S1216x128 ![] bcast_S_S1216x128 (constant (F := Ideal) S_ .f32 0x322BCC77#32)))) (mulf (broadcastInDim S1216x128 ![] bcast_S_S1216x128 (constant (F := Ideal) S_ .f32 0x3C23D70A#32)) x0)) : S1216x128.Idx → EReal) (ix2 i j) = step (x0 (ix2 i j)) (x1 (ix2 i j)) (x2 (ix2 i j)) (x3 (ix2 i j)) := by
  pointwise []
  rfl

/-- The reference's result, element by element. -/
theorem value_5 (x0 : S1216x128.Idx → EReal) (x1 : S1216x128.Idx → EReal) (x2 : S1216x128.Idx → EReal) (x3 : S1216x128.Idx → EReal) (i : Fin 1216) (j : Fin 128) :
    (addf (mulf (broadcastInDim S1216x128 ![] bcast_S_S1216x128 (constant (F := Ideal) S_ .f32 0x3F666666#32)) x2) (mulf (broadcastInDim S1216x128 ![] bcast_S_S1216x128 (constant (F := Ideal) S_ .f32 0x3DCCCCCD#32)) x1) : S1216x128.Idx → EReal) (ix2 i j) = mean (x1 (ix2 i j)) (x2 (ix2 i j)) := by
  pointwise []
  rfl

/-- The reference's result, element by element. -/
theorem value_6 (x0 : S1216x128.Idx → EReal) (x1 : S1216x128.Idx → EReal) (x2 : S1216x128.Idx → EReal) (x3 : S1216x128.Idx → EReal) (i : Fin 1216) (j : Fin 128) :
    (addf (mulf (broadcastInDim S1216x128 ![] bcast_S_S1216x128 (constant (F := Ideal) S_ .f32 0x3F7FBE77#32)) x3) (mulf (broadcastInDim S1216x128 ![] bcast_S_S1216x128 (constant (F := Ideal) S_ .f32 0x3A83126F#32)) (mulf x1 x1)) : S1216x128.Idx → EReal) (ix2 i j) = square (x1 (ix2 i j)) (x3 (ix2 i j)) := by
  pointwise []
  rfl

end Cert.AdamSmallRefIdeal.Product

namespace Cert.Proof.AdamSmallClaims

open Idealize.ShloMosaic Idealize.ShloMosaic.TcCoe Idealize.ShloMosaic.Tactic Idealize.SL.Sem

theorem frame_p : Cert.quiescent_AdamSmall (hAdamSmall := Cert.AdamSmall.Gen.facts) := fun m ρ _ => Cert.AdamSmall.Gen.frame m ρ
theorem frame_pi : Cert.quiescent_AdamSmallIdeal (hAdamSmallIdeal := Cert.AdamSmallIdeal.Gen.facts) := fun m ρ _ => Cert.AdamSmallIdeal.Gen.frame m ρ
theorem frame_ri : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2, Idealize.ShloMosaic.sem_eq_zero_of_no_sems (by decide) r.2⟩)
    (Cert.AdamSmallRefIdeal.Value.run (F := Ideal) m ρ)
theorem preserves : Cert.preserves_AdamSmall_AdamSmallIdeal := trivial

theorem algebraic : Cert.algebraic_AdamSmallIdeal_AdamSmallRefIdeal (hAdamSmallIdeal := Cert.AdamSmallIdeal.Gen.facts) (hAdamSmallRefIdeal := Cert.AdamSmallRefIdeal.Gen.facts) := by
  intro m ρ m' ρ' _ hagree
  refine ⟨_, _, _, Cert.AdamSmallIdeal.Value.run_blocks m ρ, ?_⟩
  refine (θ_run Cert.AdamSmallRefIdeal.defs _ _).mono (fun _ h c => ?_) (Cert.AdamSmallRefIdeal.Value.run (F := Ideal) m' ρ')
  obtain ⟨e0, e1, e2, e3⟩ := hagree c
  obtain ⟨r0, r1, r2, rest⟩ := h c
  refine ⟨r0.trans ?_, r1.trans ?_, r2.trans ?_, rest⟩
  · rw [e0, e1, e2, e3, Cert.AdamSmallIdeal.Product.final_4 m c]
    funext y
    obtain ⟨i, j, rfl⟩ : ∃ (i : Fin 1216) (j : Fin 128), y = ix2 i j := ⟨y 0, y 1, eq_ix2 y⟩
    exact Cert.AdamSmallRefIdeal.Product.value_4 (Cert.AdamSmallIdeal.Product.arg0 m c) (Cert.AdamSmallIdeal.Product.arg1 m c) (Cert.AdamSmallIdeal.Product.arg2 m c) (Cert.AdamSmallIdeal.Product.arg3 m c) i j
  · rw [e1, e2, Cert.AdamSmallIdeal.Product.final_5 m c]
    funext y
    obtain ⟨i, j, rfl⟩ : ∃ (i : Fin 1216) (j : Fin 128), y = ix2 i j := ⟨y 0, y 1, eq_ix2 y⟩
    exact Cert.AdamSmallRefIdeal.Product.value_5 (Cert.AdamSmallIdeal.Product.arg0 m c) (Cert.AdamSmallIdeal.Product.arg1 m c) (Cert.AdamSmallIdeal.Product.arg2 m c) (Cert.AdamSmallIdeal.Product.arg3 m c) i j
  · rw [e1, e3, Cert.AdamSmallIdeal.Product.final_6 m c]
    funext y
    obtain ⟨i, j, rfl⟩ : ∃ (i : Fin 1216) (j : Fin 128), y = ix2 i j := ⟨y 0, y 1, eq_ix2 y⟩
    exact Cert.AdamSmallRefIdeal.Product.value_6 (Cert.AdamSmallIdeal.Product.arg0 m c) (Cert.AdamSmallIdeal.Product.arg1 m c) (Cert.AdamSmallIdeal.Product.arg2 m c) (Cert.AdamSmallIdeal.Product.arg3 m c) i j

end Cert.Proof.AdamSmallClaims

end
-- ==== Proof.Norms.lean ====
/-
  The norm of a row of 2048 elements in the extended reals, its gradient, and the form in which differentiating the quotient
  writes that gradient. The two agree at every row, the infinite ones included.
-/
module

public import Idealize.ShloMosaic.Lib.Pointwise

@[expose] public section

noncomputable section

namespace Cert.Norms

open Idealize.ShloMosaic

/-! ## The constants -/

theorem width : Ideal.ofBits .f32 0x45000000#32 = ((2048 : ℝ) : EReal) := by
  simp [Ideal.ofBits, Ideal.ieee, -EReal.coe_mul]; norm_num

theorem inv_width : Ideal.ofBits .f32 0x3A000000#32 = ((1 / 2048 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem eps : ∃ e : ℝ, 0 < e ∧ Ideal.ofBits .f32 0x358637BD#32 = (e : EReal) :=
  ⟨8796093 / 2 ^ 43, by norm_num, by simp [Ideal.ofBits, Ideal.ieee, -EReal.coe_mul]; norm_num⟩

/-! ## The norm -/

/-- What the square root is taken of: the mean of the squares and a little more. -/
def var (u : Fin 2048 → EReal) : EReal := Ideal.div (∑ k, u k * u k) (Ideal.ofBits .f32 0x45000000#32) + Ideal.ofBits .f32 0x358637BD#32

/-- A row divided by the root of the mean of its squares. -/
def norm (u : Fin 2048 → EReal) (j : Fin 2048) : EReal := u j * Ideal.rsqrt (var u)

/-- The norm's gradient for the cotangent `e`. -/
def back (u e : Fin 2048 → EReal) (j : Fin 2048) : EReal :=
  Ideal.rsqrt (var u) * (e j - norm u j * Ideal.div (∑ k, e k * norm u k) (Ideal.ofBits .f32 0x45000000#32))

theorem mul_sum_coe {ι : Type*} (s : Finset ι) (f : ι → EReal) {r : ℝ} (h : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast h) (EReal.coe_ne_top r), ih]

theorem coe_rsqrt {x : ℝ} (h : 0 < x) : Ideal.rsqrt (x : EReal) = (((Real.sqrt x)⁻¹ : ℝ) : EReal) := by
  show (if x < 0 then _ else if x = 0 then _ else _) = _
  rw [if_neg (not_lt.mpr h.le), if_neg h.ne']

theorem sq_nonneg (x : EReal) : 0 ≤ x * x := by
  rcases le_total 0 x with h | h
  · exact mul_nonneg h h
  · rw [← neg_mul_neg]
    exact mul_nonneg (by rwa [EReal.neg_nonneg]) (by rwa [EReal.neg_nonneg])

/-- The mean of the squares is infinite, or it is a positive real. -/
theorem var_cases (u : Fin 2048 → EReal) : var u = ⊤ ∨ ∃ v : ℝ, 0 < v ∧ var u = (v : EReal) := by
  have h : 0 ≤ ∑ k, u k * u k := Finset.sum_nonneg fun k _ => sq_nonneg (u k)
  obtain ⟨e, he, hb⟩ := eps
  unfold var
  rw [width, Ideal.div_coe (by norm_num), hb]
  generalize (∑ k, u k * u k) = s at h ⊢
  induction s using EReal.rec with
  | bot => simp at h
  | top =>
    left
    rw [EReal.top_mul_coe_of_pos (by norm_num), EReal.top_add_coe]
  | coe s =>
    right
    have hs : 0 ≤ s := by exact_mod_cast h
    exact ⟨s * (1 / 2048) + e, by positivity, by push_cast; rfl⟩

theorem rsqrt_sq {v : ℝ} (h : 0 < v) : (Real.sqrt v)⁻¹ * (Real.sqrt v)⁻¹ = 1 / v := by
  rw [← mul_inv, Real.mul_self_sqrt h.le, one_div]

theorem mul_add_self (z : EReal) {k : ℝ} (h : k < 0) : z * (k : EReal) + z * (k : EReal) = z * ((2 * k : ℝ) : EReal) := by
  induction z using EReal.rec with
  | bot => rw [EReal.bot_mul_coe_of_neg h, EReal.bot_mul_coe_of_neg (by linarith)]; rfl
  | top => rw [EReal.top_mul_coe_of_neg h, EReal.top_mul_coe_of_neg (by linarith)]; rfl
  | coe z =>
    rw [← EReal.coe_mul, ← EReal.coe_add, ← EReal.coe_mul]
    exact congrArg _ (by ring)

/-- The gradient as it is written when the quotient is differentiated factor by factor: through the row, and twice through its square. -/
theorem back_eq (u e : Fin 2048 → EReal) (j : Fin 2048) :
    e j * Ideal.rsqrt (var u)
      + u j * Ideal.div ((∑ k, u k * e k) * (Ideal.ofBits .f32 0xBF000000#32 * Ideal.div (Ideal.rsqrt (var u)) (var u))) (Ideal.ofBits .f32 0x45000000#32)
      + Ideal.div ((∑ k, u k * e k) * (Ideal.ofBits .f32 0xBF000000#32 * Ideal.div (Ideal.rsqrt (var u)) (var u))) (Ideal.ofBits .f32 0x45000000#32) * u j
      = back u e j := by
  unfold back norm
  rw [width, neg_half]
  simp only [Ideal.div_coe (show (2048 : ℝ) ≠ 0 by norm_num)]
  rcases var_cases u with h | ⟨v, hv, h⟩
  · have hr : Ideal.rsqrt (⊤ : EReal) = 0 := rfl
    have hd : Ideal.div 0 (⊤ : EReal) = 0 := by simp [Ideal.div]
    rw [h, hr, hd]
    simp
  · have hsq := rsqrt_sq hv
    have hr0 : 0 < (Real.sqrt v)⁻¹ := inv_pos.mpr (Real.sqrt_pos.mpr hv)
    rw [h, coe_rsqrt hv]
    generalize (Real.sqrt v)⁻¹ = r at hsq hr0 ⊢
    rw [Ideal.div_coe hv.ne']
    have hs : (∑ k, e k * (u k * (r : EReal))) = (∑ k, u k * e k) * (r : EReal) := by
      rw [mul_sum_coe _ _ hr0.le]
      exact Finset.sum_congr rfl fun k _ => by rw [← mul_assoc, mul_comm (e k)]
    rw [hs, sub_eq_add_neg, EReal.left_distrib_of_nonneg_of_ne_top (by exact_mod_cast hr0.le) (EReal.coe_ne_top r), mul_comm (r : EReal) (e j)]
    generalize (∑ k, u k * e k) = s
    have hk : -(1 / 2) * (r * (1 / v)) * (1 / 2048) < 0 := by
      have : 0 < r * (1 / v) := by positivity
      nlinarith
    have l : u j * (s * (((-(1 / 2) : ℝ) : EReal) * ((r : EReal) * ((1 / v : ℝ) : EReal))) * ((1 / 2048 : ℝ) : EReal))
        = (u j * s) * ((-(1 / 2) * (r * (1 / v)) * (1 / 2048) : ℝ) : EReal) := by
      rw [EReal.coe_mul, EReal.coe_mul (-(1 / 2)), EReal.coe_mul r]
      simp only [mul_assoc]
    rw [mul_comm _ (u j), add_assoc, l, mul_add_self _ hk]
    congr 1
    rw [mul_neg, show ((r : EReal)) * (u j * r * (s * r * ((1 / 2048 : ℝ) : EReal))) = (u j * s) * ((r * r * r * (1 / 2048) : ℝ) : EReal) by
      rw [EReal.coe_mul, EReal.coe_mul, EReal.coe_mul]; ac_rfl, ← mul_neg, ← EReal.coe_neg]
    congr 2
    rw [hsq]; ring

/-- The same as the reference writes it, with a sum over the one gradient of the row's mean square. -/
def written (u e : Fin 2048 → EReal) (j : Fin 2048) : EReal :=
  e j * Ideal.rsqrt (var u)
    + u j * ∑ _ : Fin 1, Ideal.div ((∑ k, u k * e k) * (Ideal.ofBits .f32 0xBF000000#32 * Ideal.div (Ideal.rsqrt (var u)) (var u))) (Ideal.ofBits .f32 0x45000000#32)
    + (∑ _ : Fin 1, Ideal.div ((∑ k, u k * e k) * (Ideal.ofBits .f32 0xBF000000#32 * Ideal.div (Ideal.rsqrt (var u)) (var u))) (Ideal.ofBits .f32 0x45000000#32)) * u j

theorem back_eq_sum (u e : Fin 2048 → EReal) (j : Fin 2048) : written u e j = back u e j := by
  unfold written
  rw [Finset.univ_unique, Finset.sum_singleton]
  exact back_eq u e j

/-- Half of the square's derivative over the row's width. -/
theorem half_two (x : EReal) : Ideal.div (Ideal.ofBits .f32 0x3F000000#32) (Ideal.ofBits .f32 0x45000000#32) * (Ideal.ofBits .f32 0x40000000#32 * x)
    = x * Ideal.ofBits .f32 0x3A000000#32 := by
  rw [width, half, two, inv_width, Ideal.div_coe (show (2048 : ℝ) ≠ 0 by norm_num), ← mul_assoc, ← EReal.coe_mul, ← EReal.coe_mul, mul_comm]
  exact congrArg (fun r : ℝ => x * (r : EReal)) (by norm_num)

end Cert.Norms

end
-- ==== Proof.Rows.lean ====
/-
  Sums over 4096 rows taken 256 at a time: the row of a block, and an accumulator that adds a block's terms at each of 16 points.
-/
module

public import proofs.«01_k».proof.Proof.Products
public import Idealize.ShloMosaic.Lib.Pointwise

@[expose] public section

noncomputable section

namespace Cert.Rows

/-- Row `r` of point `t`'s block in the whole array. -/
def at_ {N : ℕ} (hN : N = 16) (t : Fin N) (r : Fin 256) : Fin 4096 := ⟨256 * t.val + r.val, by have := t.isLt; omega⟩

/-- An accumulator that starts with the first block's terms and adds each later block's holds after point `k` the sum over the rows up to that point. -/
theorem upto_blocks {N : ℕ} (hN : N = 16) (o : ∀ k, k < N → EReal) (f : Fin 4096 → EReal)
    (step : ∀ t : Fin N, o t.val t.isLt = (if t.val % 16 = 0 then 0 else o (t.val - 1) (Nat.lt_of_le_of_lt (Nat.sub_le _ _) t.isLt)) + ∑ r, f (at_ hN t r)) :
    ∀ k (hk : k < N), o k hk = Products.upto f (256 * (k + 1))
  | 0, hk => by
    refine (step ⟨0, hk⟩).trans ?_
    have h : (⟨0, hk⟩ : Fin N).val % 16 = 0 := rfl
    rw [if_pos h, ← Products.upto_zero f]
    exact Products.upto_add f 0 256 _ (fun x h => congrArg f (Fin.ext (by show 256 * 0 + x.val = 0 + x.val; omega))) (by omega)
  | k + 1, hk => by
    refine (step ⟨k + 1, hk⟩).trans ?_
    have h : ¬(⟨k + 1, hk⟩ : Fin N).val % 16 = 0 := by dsimp only; omega
    rw [if_neg h]
    refine (congrArg (· + _) (upto_blocks hN o f step k (Nat.lt_of_succ_lt hk))).trans ?_
    exact Products.upto_add f (256 * (k + 1)) 256 _ (fun x h => rfl) (by omega)

/-- After the last point it is the sum over all rows. -/
theorem sum_blocks {N : ℕ} (hN : N = 16) (o : ∀ k, k < N → EReal) (f : Fin 4096 → EReal)
    (step : ∀ t : Fin N, o t.val t.isLt = (if t.val % 16 = 0 then 0 else o (t.val - 1) (Nat.lt_of_le_of_lt (Nat.sub_le _ _) t.isLt)) + ∑ r, f (at_ hN t r))
    (h : 15 < N) : o 15 h = ∑ a, f a :=
  (upto_blocks hN o f step 15 h).trans (Products.upto_all f)

end Cert.Rows

end
-- ==== Proof.MixNormBwdProduct.lean ====
/-
  The gradient of the modulated norm into the mixer, and the sums for its shift, scale and gain. The kernel's results are the reference's, element by element.
-/
module

public import proofs.«01_k».proof.Defs
public import proofs.«01_k».proof.Proof.Norms
public import proofs.«01_k».proof.Proof.Rows
public import proofs.«01_k».proof.Proof.Gen.MixNormBwd.Frame
public import proofs.«01_k».proof.Proof.Gen.MixNormBwdIdeal.Frame
public import proofs.«01_k».proof.Proof.Gen.MixNormBwdIdeal.Value
public import proofs.«01_k».proof.Proof.Gen.MixNormBwdRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.MixNormBwdIdeal.Product

open Idealize.ShloMosaic Idealize.ShloMosaic.TcCoe Idealize.ShloMosaic.Tactic Cert.MixNormBwdIdeal Cert.MixNormBwdIdeal.Gen Cert.Norms

/-- The norm's cotangent under its gain and scale. -/
def cot (da g sc : Fin 2048 → EReal) (j : Fin 2048) : EReal := da j * g j * (1 + sc j)

/-- The gradient of a row, the residual's added; a row's terms of the three sums. -/
def dx (da h dh g sc : Fin 2048 → EReal) (j : Fin 2048) : EReal := dh j + back h (cot da g sc) j
def dshift (da : Fin 2048 → EReal) (j : Fin 2048) : EReal := da j
def dscale (da h g : Fin 2048 → EReal) (j : Fin 2048) : EReal := da j * (norm h j * g j)
def dgain (da h sc : Fin 2048 → EReal) (j : Fin 2048) : EReal := da j * (1 + sc j) * norm h j

variable (m : (ℓ : Loc nD τ sig) → Buf (Elt Ideal) ℓ)

/-! ## The arguments, whole and in blocks -/

/-- Row `r` of point `t`'s block in the whole array. -/
abbrev at_ (t : Fin cfg0.N) (r : Fin 256) : Fin 4096 := Rows.at_ (show cfg0.N = 16 from N_0) t r

def whole_0 (c : Dev nD) (a : Fin 4096) (k : Fin 2048) : EReal := (m ((c : Thread nD τ).loc main_arg0) : S4096x2048.Idx → EReal) (ix2 a k)
def part_0 (c : Dev nD) (t : Fin cfg0.N) (r : Fin 256) (k : Fin 2048) : EReal := (iblk m c 0 t : S256x2048.Idx → EReal) (ix2 r k)

def whole_1 (c : Dev nD) (a : Fin 4096) (k : Fin 2048) : EReal := (m ((c : Thread nD τ).loc main_arg1) : S4096x2048.Idx → EReal) (ix2 a k)
def part_1 (c : Dev nD) (t : Fin cfg0.N) (r : Fin 256) (k : Fin 2048) : EReal := (iblk m c 1 t : S256x2048.Idx → EReal) (ix2 r k)

def whole_2 (c : Dev nD) (a : Fin 4096) (k : Fin 2048) : EReal := (m ((c : Thread nD τ).loc main_arg2) : S4096x2048.Idx → EReal) (ix2 a k)
def part_2 (c : Dev nD) (t : Fin cfg0.N) (r : Fin 256) (k : Fin 2048) : EReal := (iblk m c 2 t : S256x2048.Idx → EReal) (ix2 r k)

def whole_3 (c : Dev nD) (k : Fin 2048) : EReal := (m ((c : Thread nD τ).loc main_arg3) : S1x2048.Idx → EReal) (ix2 0 k)
def part_3 (c : Dev nD) (t : Fin cfg0.N) (k : Fin 2048) : EReal := (iblk m c 3 t : S1x2048.Idx → EReal) (ix2 0 k)

def whole_4 (c : Dev nD) (k : Fin 2048) : EReal := (m ((c : Thread nD τ).loc main_arg4) : S1x2048.Idx → EReal) (ix2 0 k)
def part_4 (c : Dev nD) (t : Fin cfg0.N) (k : Fin 2048) : EReal := (iblk m c 4 t : S1x2048.Idx → EReal) (ix2 0 k)

theorem ix_0 : ∀ t : Fin cfg0.N, win0_0.index t 0 = t.val ∧ win0_0.index t 1 = 0 :=
  (by decide +kernel : ∀ t : Fin grid0.N, win0_0.index t 0 = t.val ∧ win0_0.index t 1 = 0)

theorem blk_0 (c : Dev nD) (t : Fin cfg0.N) (r : Fin 256) : part_0 m c t r = whole_0 m c (at_ t r) := by
  funext k
  unfold part_0 iblk
  rw [View.read_apply]
  show V m c main_arg0 _ = _
  rw [V_main_arg0]
  refine congrArg (m ((c : Thread nD τ).loc main_arg0) : S4096x2048.Idx → EReal) ?_
  funext d
  apply Fin.ext
  match d with
  | ⟨0, _⟩ => show win0_0.index t 0 * 256 + 1 * r.val = 256 * t.val + r.val; rw [(ix_0 t).1]; omega
  | ⟨1, _⟩ => show win0_0.index t 1 * 2048 + 1 * k.val = k.val; rw [(ix_0 t).2]; omega

theorem ix_1 : ∀ t : Fin cfg0.N, win0_1.index t 0 = t.val ∧ win0_1.index t 1 = 0 :=
  (by decide +kernel : ∀ t : Fin grid0.N, win0_1.index t 0 = t.val ∧ win0_1.index t 1 = 0)

theorem blk_1 (c : Dev nD) (t : Fin cfg0.N) (r : Fin 256) : part_1 m c t r = whole_1 m c (at_ t r) := by
  funext k
  unfold part_1 iblk
  rw [View.read_apply]
  show V m c main_arg1 _ = _
  rw [V_main_arg1]
  refine congrArg (m ((c : Thread nD τ).loc main_arg1) : S4096x2048.Idx → EReal) ?_
  funext d
  apply Fin.ext
  match d with
  | ⟨0, _⟩ => show win0_1.index t 0 * 256 + 1 * r.val = 256 * t.val + r.val; rw [(ix_1 t).1]; omega
  | ⟨1, _⟩ => show win0_1.index t 1 * 2048 + 1 * k.val = k.val; rw [(ix_1 t).2]; omega

theorem ix_2 : ∀ t : Fin cfg0.N, win0_2.index t 0 = t.val ∧ win0_2.index t 1 = 0 :=
  (by decide +kernel : ∀ t : Fin grid0.N, win0_2.index t 0 = t.val ∧ win0_2.index t 1 = 0)

theorem blk_2 (c : Dev nD) (t : Fin cfg0.N) (r : Fin 256) : part_2 m c t r = whole_2 m c (at_ t r) := by
  funext k
  unfold part_2 iblk
  rw [View.read_apply]
  show V m c main_arg2 _ = _
  rw [V_main_arg2]
  refine congrArg (m ((c : Thread nD τ).loc main_arg2) : S4096x2048.Idx → EReal) ?_
  funext d
  apply Fin.ext
  match d with
  | ⟨0, _⟩ => show win0_2.index t 0 * 256 + 1 * r.val = 256 * t.val + r.val; rw [(ix_2 t).1]; omega
  | ⟨1, _⟩ => show win0_2.index t 1 * 2048 + 1 * k.val = k.val; rw [(ix_2 t).2]; omega

theorem ix_3 : ∀ t : Fin cfg0.N, win0_3.index t 0 = 0 ∧ win0_3.index t 1 = 0 :=
  (by decide +kernel : ∀ t : Fin grid0.N, win0_3.index t 0 = 0 ∧ win0_3.index t 1 = 0)

theorem blk_3 (c : Dev nD) (t : Fin cfg0.N) : part_3 m c t = whole_3 m c := by
  funext k
  unfold part_3 iblk
  rw [View.read_apply]
  show V m c main_arg3 _ = _
  rw [V_main_arg3]
  refine congrArg (m ((c : Thread nD τ).loc main_arg3) : S1x2048.Idx → EReal) ?_
  funext d
  apply Fin.ext
  match d with
  | ⟨0, _⟩ => show win0_3.index t 0 * 1 + 1 * 0 = 0; rw [(ix_3 t).1]
  | ⟨1, _⟩ => show win0_3.index t 1 * 2048 + 1 * k.val = k.val; rw [(ix_3 t).2]; omega

theorem ix_4 : ∀ t : Fin cfg0.N, win0_4.index t 0 = 0 ∧ win0_4.index t 1 = 0 :=
  (by decide +kernel : ∀ t : Fin grid0.N, win0_4.index t 0 = 0 ∧ win0_4.index t 1 = 0)

theorem blk_4 (c : Dev nD) (t : Fin cfg0.N) : part_4 m c t = whole_4 m c := by
  funext k
  unfold part_4 iblk
  rw [View.read_apply]
  show V m c main_arg4 _ = _
  rw [V_main_arg4]
  refine congrArg (m ((c : Thread nD τ).loc main_arg4) : S1x2048.Idx → EReal) ?_
  funext d
  apply Fin.ext
  match d with
  | ⟨0, _⟩ => show win0_4.index t 0 * 1 + 1 * 0 = 0; rw [(ix_4 t).1]
  | ⟨1, _⟩ => show win0_4.index t 1 * 2048 + 1 * k.val = k.val; rw [(ix_4 t).2]; omega

/-! ## What the body leaves at each point -/

theorem row_5 (c : Dev nD) (t : Fin cfg0.N) (r : Fin 256) (j : Fin 2048) :
    ((outsAt0 m c t.val t.isLt).1 : S256x2048.Idx → EReal) (ix2 r j) = dx (whole_0 m c (at_ t r)) (whole_1 m c (at_ t r)) (whole_2 m c (at_ t r)) (whole_3 m c) (whole_4 m c) j := by
  simp only [← blk_0 m c t, ← blk_1 m c t, ← blk_2 m c t, ← blk_3 m c t, ← blk_4 m c t]
  by_cases h0 : t.val % 16 = 0
  on_goal 1 => rw [outsAt0_A m c t h0]; dsimp only; unfold out0_A_5; rw [View.read_writes_eq_canon _ _ _ (by intro y; apply cover0_A_5)]; unfold kernelRun0_A
  on_goal 2 => rw [outsAt0_B m c t h0]; dsimp only; unfold out0_B_5; rw [View.read_writes_eq_canon _ _ _ (by intro y; apply cover0_B_5)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_6 t).read_unread, (hs0_7 t).read_unread, (hs0_8 t).read_unread, View.ld_unit_lit, View.readCov_unit_lit, View.canon_cons_unit_lit]
    pointwise [k0_pay1, k0_pay2, k0_pay3, k0_pay4, k0_pay5, k0_pay6, k0_pay7, k0_pay8, k0_pay9]
    rfl

/-- A row's term of the sum. -/
def term_6 (c : Dev nD) (j : Fin 2048) (a : Fin 4096) : EReal := dshift (whole_0 m c a) j

theorem step_6 (c : Dev nD) (t : Fin cfg0.N) (j : Fin 2048) :
    ((outsAt0 m c t.val t.isLt).2.1 : S1x2048.Idx → EReal) (ix2 0 j) = (if t.val % 16 = 0 then 0 else ((outsAt0 m c (t.val - 1) (Nat.lt_of_le_of_lt (Nat.sub_le _ _) t.isLt)).2.1 : S1x2048.Idx → EReal) (ix2 0 j))
      + ∑ r : Fin 256, term_6 m c j (at_ t r) := by
  simp only [term_6, ← blk_0 m c t]
  by_cases h0 : t.val % 16 = 0
  on_goal 1 => rw [if_pos h0, zero_add]; rw [outsAt0_A m c t h0]; dsimp only; unfold out0_A_6; rw [View.read_writes_eq_canon _ _ _ (by intro y; apply cover0_A_6)]; unfold kernelRun0_A
  on_goal 2 => rw [if_neg h0]; rw [outsAt0_B m c t h0]; dsimp only; unfold out0_B_6; rw [View.read_writes_eq_canon _ _ _ (by intro y; apply cover0_B_6)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_6 t).read_unread, (hs0_7 t).read_unread, (hs0_8 t).read_unread, View.ld_unit_lit, View.readCov_unit_lit, View.canon_cons_unit_lit]
    pointwise [k0_pay1, k0_pay2, k0_pay3, k0_pay4, k0_pay5, k0_pay6, k0_pay7, k0_pay8, k0_pay9]
    rfl

/-- A row's term of the sum. -/
def term_7 (c : Dev nD) (j : Fin 2048) (a : Fin 4096) : EReal := dscale (whole_0 m c a) (whole_1 m c a) (whole_3 m c) j

theorem step_7 (c : Dev nD) (t : Fin cfg0.N) (j : Fin 2048) :
    ((outsAt0 m c t.val t.isLt).2.2.1 : S1x2048.Idx → EReal) (ix2 0 j) = (if t.val % 16 = 0 then 0 else ((outsAt0 m c (t.val - 1) (Nat.lt_of_le_of_lt (Nat.sub_le _ _) t.isLt)).2.2.1 : S1x2048.Idx → EReal) (ix2 0 j))
      + ∑ r : Fin 256, term_7 m c j (at_ t r) := by
  simp only [term_7, ← blk_0 m c t, ← blk_1 m c t, ← blk_3 m c t]
  by_cases h0 : t.val % 16 = 0
  on_goal 1 => rw [if_pos h0, zero_add]; rw [outsAt0_A m c t h0]; dsimp only; unfold out0_A_7; rw [View.read_writes_eq_canon _ _ _ (by intro y; apply cover0_A_7)]; unfold kernelRun0_A
  on_goal 2 => rw [if_neg h0]; rw [outsAt0_B m c t h0]; dsimp only; unfold out0_B_7; rw [View.read_writes_eq_canon _ _ _ (by intro y; apply cover0_B_7)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_6 t).read_unread, (hs0_7 t).read_unread, (hs0_8 t).read_unread, View.ld_unit_lit, View.readCov_unit_lit, View.canon_cons_unit_lit]
    pointwise [k0_pay1, k0_pay2, k0_pay3, k0_pay4, k0_pay5, k0_pay6, k0_pay7, k0_pay8, k0_pay9]
    rfl

/-- A row's term of the sum. -/
def term_8 (c : Dev nD) (j : Fin 2048) (a : Fin 4096) : EReal := dgain (whole_0 m c a) (whole_1 m c a) (whole_4 m c) j

theorem step_8 (c : Dev nD) (t : Fin cfg0.N) (j : Fin 2048) :
    ((outsAt0 m c t.val t.isLt).2.2.2 : S1x2048.Idx → EReal) (ix2 0 j) = (if t.val % 16 = 0 then 0 else ((outsAt0 m c (t.val - 1) (Nat.lt_of_le_of_lt (Nat.sub_le _ _) t.isLt)).2.2.2 : S1x2048.Idx → EReal) (ix2 0 j))
      + ∑ r : Fin 256, term_8 m c j (at_ t r) := by
  simp only [term_8, ← blk_0 m c t, ← blk_1 m c t, ← blk_4 m c t]
  by_cases h0 : t.val % 16 = 0
  on_goal 1 => rw [if_pos h0, zero_add]; rw [outsAt0_A m c t h0]; dsimp only; unfold out0_A_8; rw [View.read_writes_eq_canon _ _ _ (by intro y; apply cover0_A_8)]; unfold kernelRun0_A
  on_goal 2 => rw [if_neg h0]; rw [outsAt0_B m c t h0]; dsimp only; unfold out0_B_8; rw [View.read_writes_eq_canon _ _ _ (by intro y; apply cover0_B_8)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_6 t).read_unread, (hs0_7 t).read_unread, (hs0_8 t).read_unread, View.ld_unit_lit, View.readCov_unit_lit, View.canon_cons_unit_lit]
    pointwise [k0_pay1, k0_pay2, k0_pay3, k0_pay4, k0_pay5, k0_pay6, k0_pay7, k0_pay8, k0_pay9]
    rfl

/-! ## The results' arrays -/

/-- The last point. -/
def last : Fin cfg0.N := ⟨15, by rw [show cfg0.N = 16 from N_0]; decide⟩

theorem ix_5 : ∀ t : Fin cfg0.N, win0_5.index t 0 = t.val ∧ win0_5.index t 1 = 0 :=
  (by decide +kernel : ∀ t : Fin grid0.N, win0_5.index t 0 = t.val ∧ win0_5.index t 1 = 0)

def result_5 (c : Dev nD) : S4096x2048.Idx → EReal := fun i => dx (whole_0 m c (i 0)) (whole_1 m c (i 0)) (whole_2 m c (i 0)) (whole_3 m c) (whole_4 m c) (i 1)

theorem flushed_5 (c : Dev nD) (t : Fin cfg0.N) (_ : (cfg0.win 5).flush t = true) :
    (dats m 0 c).flushed 5 t = ((cfg0.win 5).blk t).view.read (Elt Ideal) (result_5 m c) := by
  rw [Value.flushed5]
  funext (y : S256x2048.Idx)
  rw [View.read_apply]
  obtain ⟨r, j, rfl⟩ : ∃ (r : Fin 256) (j : Fin 2048), y = ix2 r j := ⟨y 0, y 1, eq_ix2 y⟩
  have e : ((cfg0.win 5).blk t).view.emb (ix2 r j) = ix2 (at_ t r) j := by
    funext d
    apply Fin.ext
    match d with
    | ⟨0, _⟩ => show win0_5.index t 0 * 256 + 1 * r.val = 256 * t.val + r.val; rw [(ix_5 t).1]; omega
    | ⟨1, _⟩ => show win0_5.index t 1 * 2048 + 1 * j.val = j.val; rw [(ix_5 t).2]; omega
  refine (row_5 m c t r j).trans ?_
  rw [e]
  rfl

theorem final_5 (c : Dev nD) : (dats m 0 c).arrAt 5 cfg0.N = result_5 m c :=
  (dats m 0 c).arrAt_eq_of_cover 5 _ (flushed_5 m c) fun i => by
    have h0 : (i 0 : Nat) < 4096 := (i 0).isLt
    have h1 : (i 1 : Nat) < 2048 := (i 1).isLt
    have hN : cfg0.N = 16 := N_0
    obtain ⟨t, ht⟩ : ∃ t : Fin cfg0.N, t.val = (i 0 : Nat) / 256 := ⟨⟨_, by omega⟩, rfl⟩
    refine ⟨t, flush0_5 _, ?_⟩
    show i ∈ ((View.whole main_v0_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256; rw [(ix_5 t).1]; omega
    | ⟨1, _⟩ => show win0_5.index t 1 * 2048 ≤ (i 1 : Nat) ∧ (i 1 : Nat) < win0_5.index t 1 * 2048 + 2048; rw [(ix_5 t).2]; omega

def result_6 (c : Dev nD) : S1x2048.Idx → EReal := fun i => ∑ a, term_6 m c (i 1) a

theorem hold_6 (c : Dev nD) : ((outsAt0 m c 15 last.isLt).2.1 : S1x2048.Idx → EReal) = result_6 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.1 : S1x2048.Idx → EReal) (ix2 0 j)) (term_6 m c j) (fun t => step_6 m c t j) _

theorem flushed_6 (c : Dev nD) (t : Fin cfg0.N) (hf : (cfg0.win 6).flush t = true) :
    (dats m 0 c).flushed 6 t = ((cfg0.win 6).blk t).view.read (Elt Ideal) (result_6 m c) := by
  have hN : cfg0.N = 16 := N_0
  obtain rfl : t = last := Fin.ext (by have := (flush0_6 t).mp hf; have := t.isLt; show t.val = 15; omega)
  show (cfg0.win 6).cut (grid0.coords last) ((dats m 0 c).after 6 last) = _
  rw [after0_6]
  refine (congrArg ((cfg0.win 6).cut (grid0.coords last)) (hold_6 m c)).trans ?_
  have hz : (fun a => win0_6.index last a * main_v0_1.ty.shape.size a) = fun _ => 0 := funext fun a => by fin_cases a <;> decide
  exact (Memref.read_access_unit_zero (Elt Ideal) main_v0_1 hz (fun a => by rw [congrFun hz a]; simp) _).symm

theorem span_6 : ∀ a, win0_6.index last a * win0_6.size a = 0 ∧ win0_6.xsize (grid0.coords last) a = main_v0_1.ty.shape.size a := by decide +kernel

theorem final_6 (c : Dev nD) : (dats m 0 c).arrAt 6 cfg0.N = result_6 m c :=
  (dats m 0 c).arrAt_eq_of_cover 6 _ (flushed_6 m c) fun i => by
    refine ⟨last, (flush0_6 last).mpr rfl, ?_⟩
    show i ∈ ((View.whole main_v0_1).slice (win0_6.rect last)).set
    rw [View.set_slice_whole, Rect.mem_set_unit]
    intro a
    show win0_6.index last a * win0_6.size a ≤ (i a : Nat) ∧ (i a : Nat) < win0_6.index last a * win0_6.size a + win0_6.xsize (grid0.coords last) a
    rw [(span_6 a).1, (span_6 a).2, Nat.zero_add]
    exact ⟨Nat.zero_le _, (i a).isLt⟩

def result_7 (c : Dev nD) : S1x2048.Idx → EReal := fun i => ∑ a, term_7 m c (i 1) a

theorem hold_7 (c : Dev nD) : ((outsAt0 m c 15 last.isLt).2.2.1 : S1x2048.Idx → EReal) = result_7 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.1 : S1x2048.Idx → EReal) (ix2 0 j)) (term_7 m c j) (fun t => step_7 m c t j) _

theorem flushed_7 (c : Dev nD) (t : Fin cfg0.N) (hf : (cfg0.win 7).flush t = true) :
    (dats m 0 c).flushed 7 t = ((cfg0.win 7).blk t).view.read (Elt Ideal) (result_7 m c) := by
  have hN : cfg0.N = 16 := N_0
  obtain rfl : t = last := Fin.ext (by have := (flush0_7 t).mp hf; have := t.isLt; show t.val = 15; omega)
  show (cfg0.win 7).cut (grid0.coords last) ((dats m 0 c).after 7 last) = _
  rw [after0_7]
  refine (congrArg ((cfg0.win 7).cut (grid0.coords last)) (hold_7 m c)).trans ?_
  have hz : (fun a => win0_7.index last a * main_v0_2.ty.shape.size a) = fun _ => 0 := funext fun a => by fin_cases a <;> decide
  exact (Memref.read_access_unit_zero (Elt Ideal) main_v0_2 hz (fun a => by rw [congrFun hz a]; simp) _).symm

theorem span_7 : ∀ a, win0_7.index last a * win0_7.size a = 0 ∧ win0_7.xsize (grid0.coords last) a = main_v0_2.ty.shape.size a := by decide +kernel

theorem final_7 (c : Dev nD) : (dats m 0 c).arrAt 7 cfg0.N = result_7 m c :=
  (dats m 0 c).arrAt_eq_of_cover 7 _ (flushed_7 m c) fun i => by
    refine ⟨last, (flush0_7 last).mpr rfl, ?_⟩
    show i ∈ ((View.whole main_v0_2).slice (win0_7.rect last)).set
    rw [View.set_slice_whole, Rect.mem_set_unit]
    intro a
    show win0_7.index last a * win0_7.size a ≤ (i a : Nat) ∧ (i a : Nat) < win0_7.index last a * win0_7.size a + win0_7.xsize (grid0.coords last) a
    rw [(span_7 a).1, (span_7 a).2, Nat.zero_add]
    exact ⟨Nat.zero_le _, (i a).isLt⟩

def result_8 (c : Dev nD) : S1x2048.Idx → EReal := fun i => ∑ a, term_8 m c (i 1) a

theorem hold_8 (c : Dev nD) : ((outsAt0 m c 15 last.isLt).2.2.2 : S1x2048.Idx → EReal) = result_8 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.2 : S1x2048.Idx → EReal) (ix2 0 j)) (term_8 m c j) (fun t => step_8 m c t j) _

theorem flushed_8 (c : Dev nD) (t : Fin cfg0.N) (hf : (cfg0.win 8).flush t = true) :
    (dats m 0 c).flushed 8 t = ((cfg0.win 8).blk t).view.read (Elt Ideal) (result_8 m c) := by
  have hN : cfg0.N = 16 := N_0
  obtain rfl : t = last := Fin.ext (by have := (flush0_8 t).mp hf; have := t.isLt; show t.val = 15; omega)
  show (cfg0.win 8).cut (grid0.coords last) ((dats m 0 c).after 8 last) = _
  rw [after0_8]
  refine (congrArg ((cfg0.win 8).cut (grid0.coords last)) (hold_8 m c)).trans ?_
  have hz : (fun a => win0_8.index last a * main_v0_3.ty.shape.size a) = fun _ => 0 := funext fun a => by fin_cases a <;> decide
  exact (Memref.read_access_unit_zero (Elt Ideal) main_v0_3 hz (fun a => by rw [congrFun hz a]; simp) _).symm

theorem span_8 : ∀ a, win0_8.index last a * win0_8.size a = 0 ∧ win0_8.xsize (grid0.coords last) a = main_v0_3.ty.shape.size a := by decide +kernel

theorem final_8 (c : Dev nD) : (dats m 0 c).arrAt 8 cfg0.N = result_8 m c :=
  (dats m 0 c).arrAt_eq_of_cover 8 _ (flushed_8 m c) fun i => by
    refine ⟨last, (flush0_8 last).mpr rfl, ?_⟩
    show i ∈ ((View.whole main_v0_3).slice (win0_8.rect last)).set
    rw [View.set_slice_whole, Rect.mem_set_unit]
    intro a
    show win0_8.index last a * win0_8.size a ≤ (i a : Nat) ∧ (i a : Nat) < win0_8.index last a * win0_8.size a + win0_8.xsize (grid0.coords last) a
    rw [(span_8 a).1, (span_8 a).2, Nat.zero_add]
    exact ⟨Nat.zero_le _, (i a).isLt⟩

end Cert.MixNormBwdIdeal.Product

namespace Cert.MixNormBwdRefIdeal.Product

open Idealize.ShloMosaic Idealize.ShloMosaic.TcCoe Idealize.ShloMosaic.Tactic Cert.MixNormBwdRefIdeal Cert.MixNormBwdRefIdeal.Gen Cert.MixNormBwdIdeal.Product Cert.Norms

variable (m : (ℓ : Loc nD τ sig) → Buf (Elt Ideal) ℓ)

/-! ## The reference's results, element by element -/

def given_0 (c : Dev nD) (a : Fin 4096) (k : Fin 2048) : EReal := (m ((c : Thread nD τ).loc main_arg0) : S4096x2048.Idx → EReal) (ix2 a k)
def given_1 (c : Dev nD) (a : Fin 4096) (k : Fin 2048) : EReal := (m ((c : Thread nD τ).loc main_arg1) : S4096x2048.Idx → EReal) (ix2 a k)
def given_2 (c : Dev nD) (a : Fin 4096) (k : Fin 2048) : EReal := (m ((c : Thread nD τ).loc main_arg2) : S4096x2048.Idx → EReal) (ix2 a k)
def given_3 (c : Dev nD) (k : Fin 2048) : EReal := (m ((c : Thread nD τ).loc main_arg3) : S1x2048.Idx → EReal) (ix2 0 k)
def given_4 (c : Dev nD) (k : Fin 2048) : EReal := (m ((c : Thread nD τ).loc main_arg4) : S1x2048.Idx → EReal) (ix2 0 k)

theorem value_5 (c : Dev nD) (i : Fin 4096) (j : Fin 2048) :
    (Value.res_main_v49 m c : S4096x2048.Idx → EReal) (ix2 i j) = dx (given_0 m c i) (given_1 m c i) (given_2 m c i) (given_3 m c) (given_4 m c) j := by
  unfold Value.res_main_v49
  pointwise []
  exact congrArg (given_2 m c i j + ·) ((back_eq_sum (given_1 m c i) (fun k => given_0 m c i k * (1 + given_4 m c k) * given_3 m c k) j).trans
    (congrArg (back _ · j) (funext fun k => mul_right_comm _ _ _)))

theorem value_6 (c : Dev nD) (i : Fin 1) (j : Fin 2048) :
    (shapeCast _ (Host.reduceAdd (m ((c : Thread nD τ).loc main_arg0)) (constant (F := Ideal) S_ .f32 0x00000000#32) reducesTo_S4096x2048_S2048_d0 h_S_) shapeCasts_S2048_S1x2048 : S1x2048.Idx → EReal) (ix2 i j) = ∑ a, dshift (given_0 m c a) j := by
  pointwise []
  rfl

theorem value_7 (c : Dev nD) (i : Fin 1) (j : Fin 2048) :
    (shapeCast _ (Host.reduceAdd (mulf (mulf (mulf (m ((c : Thread nD τ).loc main_arg1)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg1)) (m ((c : Thread nD τ).loc main_arg1))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (m ((c : Thread nD τ).loc main_arg3)))) (shapeCast _ (m ((c : Thread nD τ).loc main_arg0)) shapeCasts_S4096x2048_S4096x2048)) (constant (F := Ideal) S_ .f32 0x00000000#32) reducesTo_S4096x2048_S2048_d0 h_S_) shapeCasts_S2048_S1x2048 : S1x2048.Idx → EReal) (ix2 i j) = ∑ a, dscale (given_0 m c a) (given_1 m c a) (given_3 m c) j := by
  pointwise []
  exact Finset.sum_congr rfl fun a _ => mul_comm _ _

theorem value_8 (c : Dev nD) (i : Fin 1) (j : Fin 2048) :
    (shapeCast _ (Host.reduceAdd (mulf (mulf (m ((c : Thread nD τ).loc main_arg1)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg1)) (m ((c : Thread nD τ).loc main_arg1))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (mulf (shapeCast _ (m ((c : Thread nD τ).loc main_arg0)) shapeCasts_S4096x2048_S4096x2048) (broadcastInDim S4096x2048 ![0, 1] bcast_S1x2048_S4096x2048_0_1 (addf (broadcastInDim S1x2048 ![] bcast_S_S1x2048 (constant (F := Ideal) S_ .f32 0x3F800000#32)) (m ((c : Thread nD τ).loc main_arg4)))))) (constant (F := Ideal) S_ .f32 0x00000000#32) reducesTo_S4096x2048_S2048_d0 h_S_) shapeCasts_S2048_S1x2048 : S1x2048.Idx → EReal) (ix2 i j) = ∑ a, dgain (given_0 m c a) (given_1 m c a) (given_4 m c) j := by
  pointwise []
  exact Finset.sum_congr rfl fun a _ => mul_comm _ _

end Cert.MixNormBwdRefIdeal.Product

namespace Cert.Proof.MixNormBwdClaims

open Idealize.ShloMosaic Idealize.ShloMosaic.TcCoe Idealize.ShloMosaic.Tactic Idealize.SL.Sem

theorem frame_p : Cert.quiescent_MixNormBwd (hMixNormBwd := Cert.MixNormBwd.Gen.facts) := fun m ρ _ => Cert.MixNormBwd.Gen.frame m ρ
theorem frame_pi : Cert.quiescent_MixNormBwdIdeal (hMixNormBwdIdeal := Cert.MixNormBwdIdeal.Gen.facts) := fun m ρ _ => Cert.MixNormBwdIdeal.Gen.frame m ρ
theorem frame_ri : Cert.quiescent_MixNormBwdRefIdeal (hMixNormBwdRefIdeal := Cert.MixNormBwdRefIdeal.Gen.facts) := fun m ρ _ =>
  (θ_run Cert.MixNormBwdRefIdeal.defs _ _).mono (fun r h => ⟨fun c => (h c).2.2.2.2, Idealize.ShloMosaic.sem_eq_zero_of_no_sems (by decide) r.2⟩)
    (Cert.MixNormBwdRefIdeal.Value.run (F := Ideal) m ρ)
theorem preserves : Cert.preserves_MixNormBwd_MixNormBwdIdeal := trivial

theorem algebraic : Cert.algebraic_MixNormBwdIdeal_MixNormBwdRefIdeal (hMixNormBwdIdeal := Cert.MixNormBwdIdeal.Gen.facts) (hMixNormBwdRefIdeal := Cert.MixNormBwdRefIdeal.Gen.facts) := by
  intro m ρ m' ρ' _ hagree
  refine ⟨_, _, _, _, Cert.MixNormBwdIdeal.Value.run_blocks m ρ, ?_⟩
  refine (θ_run Cert.MixNormBwdRefIdeal.defs _ _).mono (fun _ h c => ?_) (Cert.MixNormBwdRefIdeal.Value.run (F := Ideal) m' ρ')
  obtain ⟨e0, e1, e2, e3, e4⟩ := hagree c
  obtain ⟨r0, r1, r2, r3, rest⟩ := h c
  have h0 : ∀ a, Cert.MixNormBwdRefIdeal.Product.given_0 m' c a = Cert.MixNormBwdIdeal.Product.whole_0 m c a := fun a => funext fun k => by unfold Cert.MixNormBwdRefIdeal.Product.given_0; rw [e0]; rfl
  have h1 : ∀ a, Cert.MixNormBwdRefIdeal.Product.given_1 m' c a = Cert.MixNormBwdIdeal.Product.whole_1 m c a := fun a => funext fun k => by unfold Cert.MixNormBwdRefIdeal.Product.given_1; rw [e1]; rfl
  have h2 : ∀ a, Cert.MixNormBwdRefIdeal.Product.given_2 m' c a = Cert.MixNormBwdIdeal.Product.whole_2 m c a := fun a => funext fun k => by unfold Cert.MixNormBwdRefIdeal.Product.given_2; rw [e2]; rfl
  have h3 : Cert.MixNormBwdRefIdeal.Product.given_3 m' c = Cert.MixNormBwdIdeal.Product.whole_3 m c := funext fun k => by unfold Cert.MixNormBwdRefIdeal.Product.given_3; rw [e3]; rfl
  have h4 : Cert.MixNormBwdRefIdeal.Product.given_4 m' c = Cert.MixNormBwdIdeal.Product.whole_4 m c := funext fun k => by unfold Cert.MixNormBwdRefIdeal.Product.given_4; rw [e4]; rfl
  refine ⟨r0.trans ?_, r1.trans ?_, r2.trans ?_, r3.trans ?_, rest⟩
  · rw [Cert.MixNormBwdIdeal.Product.final_5 m c]
    funext y
    obtain ⟨i, j, rfl⟩ : ∃ (i : Fin 4096) (j : Fin 2048), y = ix2 i j := ⟨y 0, y 1, eq_ix2 y⟩
    refine (Cert.MixNormBwdRefIdeal.Product.value_5 m' c i j).trans ?_
    simp only [h0, h1, h2, h3, h4]
    rfl
  · rw [Cert.MixNormBwdIdeal.Product.final_6 m c]
    funext y
    obtain ⟨i, j, rfl⟩ : ∃ (i : Fin 1) (j : Fin 2048), y = ix2 i j := ⟨y 0, y 1, eq_ix2 y⟩
    refine (Cert.MixNormBwdRefIdeal.Product.value_6 m' c i j).trans ?_
    simp only [h0]
    rfl
  · rw [Cert.MixNormBwdIdeal.Product.final_7 m c]
    funext y
    obtain ⟨i, j, rfl⟩ : ∃ (i : Fin 1) (j : Fin 2048), y = ix2 i j := ⟨y 0, y 1, eq_ix2 y⟩
    refine (Cert.MixNormBwdRefIdeal.Product.value_7 m' c i j).trans ?_
    simp only [h0, h1, h3]
    rfl
  · rw [Cert.MixNormBwdIdeal.Product.final_8 m c]
    funext y
    obtain ⟨i, j, rfl⟩ : ∃ (i : Fin 1) (j : Fin 2048), y = ix2 i j := ⟨y 0, y 1, eq_ix2 y⟩
    refine (Cert.MixNormBwdRefIdeal.Product.value_8 m' c i j).trans ?_
    simp only [h0, h1, h4]
    rfl

end Cert.Proof.MixNormBwdClaims

end
-- ==== Proof.LossBwdProduct.lean ====
/-
  The squared error and its gradients through the gated norm after the feed-forward block. The kernel's results are the reference's, element by element.
-/
module

public import proofs.«01_k».proof.Defs
public import proofs.«01_k».proof.Proof.Norms
public import proofs.«01_k».proof.Proof.Rows
public import proofs.«01_k».proof.Proof.Gen.LossBwd.Frame
public import proofs.«01_k».proof.Proof.Gen.LossBwdIdeal.Frame
public import proofs.«01_k».proof.Proof.Gen.LossBwdIdeal.Value
public import proofs.«01_k».proof.Proof.Gen.LossBwdRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.LossBwdIdeal.Product

open Idealize.ShloMosaic Idealize.ShloMosaic.TcCoe Idealize.ShloMosaic.Tactic Cert.LossBwdIdeal Cert.LossBwdIdeal.Gen Cert.Norms

/-- A row's error. -/
def err (ff h tgt gt g : Fin 2048 → EReal) (j : Fin 2048) : EReal := h j + gt j * (norm ff j * g j) - tgt j

/-- The error's gradient, the gradient of the normed row, and a row's terms of the sums. -/
def dh (ff h tgt gt g : Fin 2048 → EReal) (j : Fin 2048) : EReal := err ff h tgt gt g j * Ideal.ofBits .f32 0x3A000000#32
def dff (ff h tgt gt g : Fin 2048 → EReal) (j : Fin 2048) : EReal := back ff (fun l => dh ff h tgt gt g l * gt l * g l) j
def squares (ff h tgt gt g : Fin 2048 → EReal) : EReal := ∑ j, err ff h tgt gt g j * err ff h tgt gt g j
def dgate (ff h tgt gt g : Fin 2048 → EReal) (j : Fin 2048) : EReal := dh ff h tgt gt g j * (norm ff j * g j)
def dgain (ff h tgt gt g : Fin 2048 → EReal) (j : Fin 2048) : EReal := dh ff h tgt gt g j * gt j * norm ff j

variable (m : (ℓ : Loc nD τ sig) → Buf (Elt Ideal) ℓ)

/-! ## The arguments, whole and in blocks -/

/-- Row `r` of point `t`'s block in the whole array. -/
abbrev at_ (t : Fin cfg0.N) (r : Fin 256) : Fin 4096 := Rows.at_ (show cfg0.N = 16 from N_0) t r

def whole_0 (c : Dev nD) (a : Fin 4096) (k : Fin 2048) : EReal := (m ((c : Thread nD τ).loc main_arg0) : S4096x2048.Idx → EReal) (ix2 a k)
def part_0 (c : Dev nD) (t : Fin cfg0.N) (r : Fin 256) (k : Fin 2048) : EReal := (iblk m c 0 t : S256x2048.Idx → EReal) (ix2 r k)

def whole_1 (c : Dev nD) (a : Fin 4096) (k : Fin 2048) : EReal := (m ((c : Thread nD τ).loc main_arg1) : S4096x2048.Idx → EReal) (ix2 a k)
def part_1 (c : Dev nD) (t : Fin cfg0.N) (r : Fin 256) (k : Fin 2048) : EReal := (iblk m c 1 t : S256x2048.Idx → EReal) (ix2 r k)

def whole_2 (c : Dev nD) (a : Fin 4096) (k : Fin 2048) : EReal := (m ((c : Thread nD τ).loc main_arg2) : S4096x2048.Idx → EReal) (ix2 a k)
def part_2 (c : Dev nD) (t : Fin cfg0.N) (r : Fin 256) (k : Fin 2048) : EReal := (iblk m c 2 t : S256x2048.Idx → EReal) (ix2 r k)

def whole_3 (c : Dev nD) (k : Fin 2048) : EReal := (m ((c : Thread nD τ).loc main_arg3) : S1x2048.Idx → EReal) (ix2 0 k)
def part_3 (c : Dev nD) (t : Fin cfg0.N) (k : Fin 2048) : EReal := (iblk m c 3 t : S1x2048.Idx → EReal) (ix2 0 k)

def whole_4 (c : Dev nD) (k : Fin 2048) : EReal := (m ((c : Thread nD τ).loc main_arg4) : S1x2048.Idx → EReal) (ix2 0 k)
def part_4 (c : Dev nD) (t : Fin cfg0.N) (k : Fin 2048) : EReal := (iblk m c 4 t : S1x2048.Idx → EReal) (ix2 0 k)

theorem ix_0 : ∀ t : Fin cfg0.N, win0_0.index t 0 = t.val ∧ win0_0.index t 1 = 0 :=
  (by decide +kernel : ∀ t : Fin grid0.N, win0_0.index t 0 = t.val ∧ win0_0.index t 1 = 0)

theorem blk_0 (c : Dev nD) (t : Fin cfg0.N) (r : Fin 256) : part_0 m c t r = whole_0 m c (at_ t r) := by
  funext k
  unfold part_0 iblk
  rw [View.read_apply]
  show V m c main_arg0 _ = _
  rw [V_main_arg0]
  refine congrArg (m ((c : Thread nD τ).loc main_arg0) : S4096x2048.Idx → EReal) ?_
  funext d
  apply Fin.ext
  match d with
  | ⟨0, _⟩ => show win0_0.index t 0 * 256 + 1 * r.val = 256 * t.val + r.val; rw [(ix_0 t).1]; omega
  | ⟨1, _⟩ => show win0_0.index t 1 * 2048 + 1 * k.val = k.val; rw [(ix_0 t).2]; omega

theorem ix_1 : ∀ t : Fin cfg0.N, win0_1.index t 0 = t.val ∧ win0_1.index t 1 = 0 :=
  (by decide +kernel : ∀ t : Fin grid0.N, win0_1.index t 0 = t.val ∧ win0_1.index t 1 = 0)

theorem blk_1 (c : Dev nD) (t : Fin cfg0.N) (r : Fin 256) : part_1 m c t r = whole_1 m c (at_ t r) := by
  funext k
  unfold part_1 iblk
  rw [View.read_apply]
  show V m c main_arg1 _ = _
  rw [V_main_arg1]
  refine congrArg (m ((c : Thread nD τ).loc main_arg1) : S4096x2048.Idx → EReal) ?_
  funext d
  apply Fin.ext
  match d with
  | ⟨0, _⟩ => show win0_1.index t 0 * 256 + 1 * r.val = 256 * t.val + r.val; rw [(ix_1 t).1]; omega
  | ⟨1, _⟩ => show win0_1.index t 1 * 2048 + 1 * k.val = k.val; rw [(ix_1 t).2]; omega

theorem ix_2 : ∀ t : Fin cfg0.N, win0_2.index t 0 = t.val ∧ win0_2.index t 1 = 0 :=
  (by decide +kernel : ∀ t : Fin grid0.N, win0_2.index t 0 = t.val ∧ win0_2.index t 1 = 0)

theorem blk_2 (c : Dev nD) (t : Fin cfg0.N) (r : Fin 256) : part_2 m c t r = whole_2 m c (at_ t r) := by
  funext k
  unfold part_2 iblk
  rw [View.read_apply]
  show V m c main_arg2 _ = _
  rw [V_main_arg2]
  refine congrArg (m ((c : Thread nD τ).loc main_arg2) : S4096x2048.Idx → EReal) ?_
  funext d
  apply Fin.ext
  match d with
  | ⟨0, _⟩ => show win0_2.index t 0 * 256 + 1 * r.val = 256 * t.val + r.val; rw [(ix_2 t).1]; omega
  | ⟨1, _⟩ => show win0_2.index t 1 * 2048 + 1 * k.val = k.val; rw [(ix_2 t).2]; omega

theorem ix_3 : ∀ t : Fin cfg0.N, win0_3.index t 0 = 0 ∧ win0_3.index t 1 = 0 :=
  (by decide +kernel : ∀ t : Fin grid0.N, win0_3.index t 0 = 0 ∧ win0_3.index t 1 = 0)

theorem blk_3 (c : Dev nD) (t : Fin cfg0.N) : part_3 m c t = whole_3 m c := by
  funext k
  unfold part_3 iblk
  rw [View.read_apply]
  show V m c main_arg3 _ = _
  rw [V_main_arg3]
  refine congrArg (m ((c : Thread nD τ).loc main_arg3) : S1x2048.Idx → EReal) ?_
  funext d
  apply Fin.ext
  match d with
  | ⟨0, _⟩ => show win0_3.index t 0 * 1 + 1 * 0 = 0; rw [(ix_3 t).1]
  | ⟨1, _⟩ => show win0_3.index t 1 * 2048 + 1 * k.val = k.val; rw [(ix_3 t).2]; omega

theorem ix_4 : ∀ t : Fin cfg0.N, win0_4.index t 0 = 0 ∧ win0_4.index t 1 = 0 :=
  (by decide +kernel : ∀ t : Fin grid0.N, win0_4.index t 0 = 0 ∧ win0_4.index t 1 = 0)

theorem blk_4 (c : Dev nD) (t : Fin cfg0.N) : part_4 m c t = whole_4 m c := by
  funext k
  unfold part_4 iblk
  rw [View.read_apply]
  show V m c main_arg4 _ = _
  rw [V_main_arg4]
  refine congrArg (m ((c : Thread nD τ).loc main_arg4) : S1x2048.Idx → EReal) ?_
  funext d
  apply Fin.ext
  match d with
  | ⟨0, _⟩ => show win0_4.index t 0 * 1 + 1 * 0 = 0; rw [(ix_4 t).1]
  | ⟨1, _⟩ => show win0_4.index t 1 * 2048 + 1 * k.val = k.val; rw [(ix_4 t).2]; omega

/-! ## What the body leaves at each point -/

theorem row_5 (c : Dev nD) (t : Fin cfg0.N) (r : Fin 256) (j : Fin 2048) :
    ((outsAt0 m c t.val t.isLt).1 : S256x2048.Idx → EReal) (ix2 r j) = dh (whole_0 m c (at_ t r)) (whole_1 m c (at_ t r)) (whole_2 m c (at_ t r)) (whole_3 m c) (whole_4 m c) j := by
  simp only [← blk_0 m c t, ← blk_1 m c t, ← blk_2 m c t, ← blk_3 m c t, ← blk_4 m c t]
  by_cases h0 : t.val % 16 = 0
  on_goal 1 => rw [outsAt0_A m c t h0]; dsimp only; unfold out0_A_5; rw [View.read_writes_eq_canon _ _ _ (by intro y; apply cover0_A_5)]; unfold kernelRun0_A
  on_goal 2 => rw [outsAt0_B m c t h0]; dsimp only; unfold out0_B_5; rw [View.read_writes_eq_canon _ _ _ (by intro y; apply cover0_B_5)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_7 t).read_unread, (hs0_8 t).read_unread, (hs0_9 t).read_unread, View.ld_unit_lit, View.readCov_unit_lit, View.canon_cons_unit_lit]
    pointwise [k0_pay1, k0_pay10, k0_pay11, k0_pay12, k0_pay13, k0_pay2, k0_pay3, k0_pay4, k0_pay5, k0_pay6, k0_pay7, k0_pay8, k0_pay9]
    rfl

theorem row_6 (c : Dev nD) (t : Fin cfg0.N) (r : Fin 256) (j : Fin 2048) :
    ((outsAt0 m c t.val t.isLt).2.1 : S256x2048.Idx → EReal) (ix2 r j) = dff (whole_0 m c (at_ t r)) (whole_1 m c (at_ t r)) (whole_2 m c (at_ t r)) (whole_3 m c) (whole_4 m c) j := by
  simp only [← blk_0 m c t, ← blk_1 m c t, ← blk_2 m c t, ← blk_3 m c t, ← blk_4 m c t]
  by_cases h0 : t.val % 16 = 0
  on_goal 1 => rw [outsAt0_A m c t h0]; dsimp only; unfold out0_A_6; rw [View.read_writes_eq_canon _ _ _ (by intro y; apply cover0_A_6)]; unfold kernelRun0_A
  on_goal 2 => rw [outsAt0_B m c t h0]; dsimp only; unfold out0_B_6; rw [View.read_writes_eq_canon _ _ _ (by intro y; apply cover0_B_6)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_7 t).read_unread, (hs0_8 t).read_unread, (hs0_9 t).read_unread, View.ld_unit_lit, View.readCov_unit_lit, View.canon_cons_unit_lit]
    pointwise [k0_pay1, k0_pay10, k0_pay11, k0_pay12, k0_pay13, k0_pay2, k0_pay3, k0_pay4, k0_pay5, k0_pay6, k0_pay7, k0_pay8, k0_pay9]
    rfl

/-- A row's term of the sum. -/
def term_7 (c : Dev nD) (a : Fin 4096) : EReal := squares (whole_0 m c a) (whole_1 m c a) (whole_2 m c a) (whole_3 m c) (whole_4 m c)

theorem step_7 (c : Dev nD) (t : Fin cfg0.N) (p : Fin 8) (q : Fin 128) :
    ((outsAt0 m c t.val t.isLt).2.2.1 : S8x128.Idx → EReal) (ix2 p q) = (if t.val % 16 = 0 then 0 else ((outsAt0 m c (t.val - 1) (Nat.lt_of_le_of_lt (Nat.sub_le _ _) t.isLt)).2.2.1 : S8x128.Idx → EReal) (ix2 p q))
      + ∑ r : Fin 256, term_7 m c (at_ t r) := by
  simp only [term_7, ← blk_0 m c t, ← blk_1 m c t, ← blk_2 m c t, ← blk_3 m c t, ← blk_4 m c t]
  by_cases h0 : t.val % 16 = 0
  on_goal 1 => rw [if_pos h0, zero_add]; rw [outsAt0_A m c t h0]; dsimp only; unfold out0_A_7; rw [View.read_writes_eq_canon _ _ _ (by intro y; apply cover0_A_7)]; unfold kernelRun0_A
  on_goal 2 => rw [if_neg h0]; rw [outsAt0_B m c t h0]; dsimp only; unfold out0_B_7; rw [View.read_writes_eq_canon _ _ _ (by intro y; apply cover0_B_7)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_7 t).read_unread, (hs0_8 t).read_unread, (hs0_9 t).read_unread, View.ld_unit_lit, View.readCov_unit_lit, View.canon_cons_unit_lit]
    pointwise [k0_pay1, k0_pay10, k0_pay11, k0_pay12, k0_pay13, k0_pay2, k0_pay3, k0_pay4, k0_pay5, k0_pay6, k0_pay7, k0_pay8, k0_pay9]
    rfl

/-- A row's term of the sum. -/
def term_8 (c : Dev nD) (j : Fin 2048) (a : Fin 4096) : EReal := dgate (whole_0 m c a) (whole_1 m c a) (whole_2 m c a) (whole_3 m c) (whole_4 m c) j

theorem step_8 (c : Dev nD) (t : Fin cfg0.N) (j : Fin 2048) :
    ((outsAt0 m c t.val t.isLt).2.2.2.1 : S1x2048.Idx → EReal) (ix2 0 j) = (if t.val % 16 = 0 then 0 else ((outsAt0 m c (t.val - 1) (Nat.lt_of_le_of_lt (Nat.sub_le _ _) t.isLt)).2.2.2.1 : S1x2048.Idx → EReal) (ix2 0 j))
      + ∑ r : Fin 256, term_8 m c j (at_ t r) := by
  simp only [term_8, ← blk_0 m c t, ← blk_1 m c t, ← blk_2 m c t, ← blk_3 m c t, ← blk_4 m c t]
  by_cases h0 : t.val % 16 = 0
  on_goal 1 => rw [if_pos h0, zero_add]; rw [outsAt0_A m c t h0]; dsimp only; unfold out0_A_8; rw [View.read_writes_eq_canon _ _ _ (by intro y; apply cover0_A_8)]; unfold kernelRun0_A
  on_goal 2 => rw [if_neg h0]; rw [outsAt0_B m c t h0]; dsimp only; unfold out0_B_8; rw [View.read_writes_eq_canon _ _ _ (by intro y; apply cover0_B_8)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_7 t).read_unread, (hs0_8 t).read_unread, (hs0_9 t).read_unread, View.ld_unit_lit, View.readCov_unit_lit, View.canon_cons_unit_lit]
    pointwise [k0_pay1, k0_pay10, k0_pay11, k0_pay12, k0_pay13, k0_pay2, k0_pay3, k0_pay4, k0_pay5, k0_pay6, k0_pay7, k0_pay8, k0_pay9]
    rfl

/-- A row's term of the sum. -/
def term_9 (c : Dev nD) (j : Fin 2048) (a : Fin 4096) : EReal := dgain (whole_0 m c a) (whole_1 m c a) (whole_2 m c a) (whole_3 m c) (whole_4 m c) j

theorem step_9 (c : Dev nD) (t : Fin cfg0.N) (j : Fin 2048) :
    ((outsAt0 m c t.val t.isLt).2.2.2.2 : S1x2048.Idx → EReal) (ix2 0 j) = (if t.val % 16 = 0 then 0 else ((outsAt0 m c (t.val - 1) (Nat.lt_of_le_of_lt (Nat.sub_le _ _) t.isLt)).2.2.2.2 : S1x2048.Idx → EReal) (ix2 0 j))
      + ∑ r : Fin 256, term_9 m c j (at_ t r) := by
  simp only [term_9, ← blk_0 m c t, ← blk_1 m c t, ← blk_2 m c t, ← blk_3 m c t, ← blk_4 m c t]
  by_cases h0 : t.val % 16 = 0
  on_goal 1 => rw [if_pos h0, zero_add]; rw [outsAt0_A m c t h0]; dsimp only; unfold out0_A_9; rw [View.read_writes_eq_canon _ _ _ (by intro y; apply cover0_A_9)]; unfold kernelRun0_A
  on_goal 2 => rw [if_neg h0]; rw [outsAt0_B m c t h0]; dsimp only; unfold out0_B_9; rw [View.read_writes_eq_canon _ _ _ (by intro y; apply cover0_B_9)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_7 t).read_unread, (hs0_8 t).read_unread, (hs0_9 t).read_unread, View.ld_unit_lit, View.readCov_unit_lit, View.canon_cons_unit_lit]
    pointwise [k0_pay1, k0_pay10, k0_pay11, k0_pay12, k0_pay13, k0_pay2, k0_pay3, k0_pay4, k0_pay5, k0_pay6, k0_pay7, k0_pay8, k0_pay9]
    rfl

/-! ## The results' arrays -/

/-- The last point. -/
def last : Fin cfg0.N := ⟨15, by rw [show cfg0.N = 16 from N_0]; decide⟩

theorem ix_5 : ∀ t : Fin cfg0.N, win0_5.index t 0 = t.val ∧ win0_5.index t 1 = 0 :=
  (by decide +kernel : ∀ t : Fin grid0.N, win0_5.index t 0 = t.val ∧ win0_5.index t 1 = 0)

def result_5 (c : Dev nD) : S4096x2048.Idx → EReal := fun i => dh (whole_0 m c (i 0)) (whole_1 m c (i 0)) (whole_2 m c (i 0)) (whole_3 m c) (whole_4 m c) (i 1)

theorem flushed_5 (c : Dev nD) (t : Fin cfg0.N) (_ : (cfg0.win 5).flush t = true) :
    (dats m 0 c).flushed 5 t = ((cfg0.win 5).blk t).view.read (Elt Ideal) (result_5 m c) := by
  rw [Value.flushed5]
  funext (y : S256x2048.Idx)
  rw [View.read_apply]
  obtain ⟨r, j, rfl⟩ : ∃ (r : Fin 256) (j : Fin 2048), y = ix2 r j := ⟨y 0, y 1, eq_ix2 y⟩
  have e : ((cfg0.win 5).blk t).view.emb (ix2 r j) = ix2 (at_ t r) j := by
    funext d
    apply Fin.ext
    match d with
    | ⟨0, _⟩ => show win0_5.index t 0 * 256 + 1 * r.val = 256 * t.val + r.val; rw [(ix_5 t).1]; omega
    | ⟨1, _⟩ => show win0_5.index t 1 * 2048 + 1 * j.val = j.val; rw [(ix_5 t).2]; omega
  refine (row_5 m c t r j).trans ?_
  rw [e]
  rfl

theorem final_5 (c : Dev nD) : (dats m 0 c).arrAt 5 cfg0.N = result_5 m c :=
  (dats m 0 c).arrAt_eq_of_cover 5 _ (flushed_5 m c) fun i => by
    have h0 : (i 0 : Nat) < 4096 := (i 0).isLt
    have h1 : (i 1 : Nat) < 2048 := (i 1).isLt
    have hN : cfg0.N = 16 := N_0
    obtain ⟨t, ht⟩ : ∃ t : Fin cfg0.N, t.val = (i 0 : Nat) / 256 := ⟨⟨_, by omega⟩, rfl⟩
    refine ⟨t, flush0_5 _, ?_⟩
    show i ∈ ((View.whole main_v0_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256; rw [(ix_5 t).1]; omega
    | ⟨1, _⟩ => show win0_5.index t 1 * 2048 ≤ (i 1 : Nat) ∧ (i 1 : Nat) < win0_5.index t 1 * 2048 + 2048; rw [(ix_5 t).2]; omega

theorem ix_6 : ∀ t : Fin cfg0.N, win0_6.index t 0 = t.val ∧ win0_6.index t 1 = 0 :=
  (by decide +kernel : ∀ t : Fin grid0.N, win0_6.index t 0 = t.val ∧ win0_6.index t 1 = 0)

def result_6 (c : Dev nD) : S4096x2048.Idx → EReal := fun i => dff (whole_0 m c (i 0)) (whole_1 m c (i 0)) (whole_2 m c (i 0)) (whole_3 m c) (whole_4 m c) (i 1)

theorem flushed_6 (c : Dev nD) (t : Fin cfg0.N) (_ : (cfg0.win 6).flush t = true) :
    (dats m 0 c).flushed 6 t = ((cfg0.win 6).blk t).view.read (Elt Ideal) (result_6 m c) := by
  rw [Value.flushed6]
  funext (y : S256x2048.Idx)
  rw [View.read_apply]
  obtain ⟨r, j, rfl⟩ : ∃ (r : Fin 256) (j : Fin 2048), y = ix2 r j := ⟨y 0, y 1, eq_ix2 y⟩
  have e : ((cfg0.win 6).blk t).view.emb (ix2 r j) = ix2 (at_ t r) j := by
    funext d
    apply Fin.ext
    match d with
    | ⟨0, _⟩ => show win0_6.index t 0 * 256 + 1 * r.val = 256 * t.val + r.val; rw [(ix_6 t).1]; omega
    | ⟨1, _⟩ => show win0_6.index t 1 * 2048 + 1 * j.val = j.val; rw [(ix_6 t).2]; omega
  refine (row_6 m c t r j).trans ?_
  rw [e]
  rfl

theorem final_6 (c : Dev nD) : (dats m 0 c).arrAt 6 cfg0.N = result_6 m c :=
  (dats m 0 c).arrAt_eq_of_cover 6 _ (flushed_6 m c) fun i => by
    have h0 : (i 0 : Nat) < 4096 := (i 0).isLt
    have h1 : (i 1 : Nat) < 2048 := (i 1).isLt
    have hN : cfg0.N = 16 := N_0
    obtain ⟨t, ht⟩ : ∃ t : Fin cfg0.N, t.val = (i 0 : Nat) / 256 := ⟨⟨_, by omega⟩, rfl⟩
    refine ⟨t, flush0_6 _, ?_⟩
    show i ∈ ((View.whole main_v0_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256; rw [(ix_6 t).1]; omega
    | ⟨1, _⟩ => show win0_6.index t 1 * 2048 ≤ (i 1 : Nat) ∧ (i 1 : Nat) < win0_6.index t 1 * 2048 + 2048; rw [(ix_6 t).2]; omega

def result_7 (c : Dev nD) : S8x128.Idx → EReal := fun i => ∑ a, term_7 m c a

theorem hold_7 (c : Dev nD) : ((outsAt0 m c 15 last.isLt).2.2.1 : S8x128.Idx → EReal) = result_7 m c := by
  funext i
  obtain ⟨p, j, rfl⟩ : ∃ (p : Fin 8) (j : Fin 128), i = ix2 p j := ⟨i 0, i 1, eq_ix2 i⟩
  have hN : cfg0.N = 16 := N_0
  exact Rows.sum_blocks hN (fun k hk => ((outsAt0 m c k hk).2.2.1 : S8x128.Idx → EReal) (ix2 p j)) (term_7 m c) (fun t => step_7 m c t p j) _

theorem flushed_7 (c : Dev nD) (t : Fin cfg0.N) (hf : (cfg0.win 7).flush t = true) :
    (dats m 0 c).flushed 7 t = ((cfg0.win 7).blk t).view.read (Elt Ideal) (result_7 m c) := by
  have hN : cfg0.N = 16 := N_0
  obtain rfl : t = last := Fin.ext (by have := (flush0_7 t).mp hf; have := t.isLt; show t.val = 15; omega)
  show (cfg0.win 7).cut (grid0.coords last) ((dats m 0 c).after 7 last) = _
  rw [after0_7]
  refine (congrArg ((cfg0.win 7).cut (grid0.coords last)) (hold_7 m c)).trans ?_
  have hz : (fun a => win0_7.index last a * main_v0_2.ty.shape.size a) = fun _ => 0 := funext fun a => by fin_cases a <;> decide
  exact (Memref.read_access_unit_zero (Elt Ideal) main_v0_2 hz (fun a => by rw [congrFun hz a]; simp) _).symm

theorem span_7 : ∀ a, win0_7.index last a * win0_7.size a = 0 ∧ win0_7.xsize (grid0.coords last) a = main_v0_2.ty.shape.size a := by decide +kernel

theorem final_7 (c : Dev nD) : (dats m 0 c).arrAt 7 cfg0.N = result_7 m c :=
  (dats m 0 c).arrAt_eq_of_cover 7 _ (flushed_7 m c) fun i => by
    refine ⟨last, (flush0_7 last).mpr rfl, ?_⟩
    show i ∈ ((View.whole main_v0_2).slice (win0_7.rect last)).set
    rw [View.set_slice_whole, Rect.mem_set_unit]
    intro a
    show win0_7.index last a * win0_7.size a ≤ (i a : Nat) ∧ (i a : Nat) < win0_7.index last a * win0_7.size a + win0_7.xsize (grid0.coords last) a
    rw [(span_7 a).1, (span_7 a).2, Nat.zero_add]
    exact ⟨Nat.zero_le _, (i a).isLt⟩

def result_8 (c : Dev nD) : S1x2048.Idx → EReal := fun i => ∑ a, term_8 m c (i 1) a

theorem hold_8 (c : Dev nD) : ((outsAt0 m c 15 last.isLt).2.2.2.1 : S1x2048.Idx → EReal) = result_8 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.2.1 : S1x2048.Idx → EReal) (ix2 0 j)) (term_8 m c j) (fun t => step_8 m c t j) _

theorem flushed_8 (c : Dev nD) (t : Fin cfg0.N) (hf : (cfg0.win 8).flush t = true) :
    (dats m 0 c).flushed 8 t = ((cfg0.win 8).blk t).view.read (Elt Ideal) (result_8 m c) := by
  have hN : cfg0.N = 16 := N_0
  obtain rfl : t = last := Fin.ext (by have := (flush0_8 t).mp hf; have := t.isLt; show t.val = 15; omega)
  show (cfg0.win 8).cut (grid0.coords last) ((dats m 0 c).after 8 last) = _
  rw [after0_8]
  refine (congrArg ((cfg0.win 8).cut (grid0.coords last)) (hold_8 m c)).trans ?_
  have hz : (fun a => win0_8.index last a * main_v0_3.ty.shape.size a) = fun _ => 0 := funext fun a => by fin_cases a <;> decide
  exact (Memref.read_access_unit_zero (Elt Ideal) main_v0_3 hz (fun a => by rw [congrFun hz a]; simp) _).symm

theorem span_8 : ∀ a, win0_8.index last a * win0_8.size a = 0 ∧ win0_8.xsize (grid0.coords last) a = main_v0_3.ty.shape.size a := by decide +kernel

theorem final_8 (c : Dev nD) : (dats m 0 c).arrAt 8 cfg0.N = result_8 m c :=
  (dats m 0 c).arrAt_eq_of_cover 8 _ (flushed_8 m c) fun i => by
    refine ⟨last, (flush0_8 last).mpr rfl, ?_⟩
    show i ∈ ((View.whole main_v0_3).slice (win0_8.rect last)).set
    rw [View.set_slice_whole, Rect.mem_set_unit]
    intro a
    show win0_8.index last a * win0_8.size a ≤ (i a : Nat) ∧ (i a : Nat) < win0_8.index last a * win0_8.size a + win0_8.xsize (grid0.coords last) a
    rw [(span_8 a).1, (span_8 a).2, Nat.zero_add]
    exact ⟨Nat.zero_le _, (i a).isLt⟩

def result_9 (c : Dev nD) : S1x2048.Idx → EReal := fun i => ∑ a, term_9 m c (i 1) a

theorem hold_9 (c : Dev nD) : ((outsAt0 m c 15 last.isLt).2.2.2.2 : S1x2048.Idx → EReal) = result_9 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.2.2 : S1x2048.Idx → EReal) (ix2 0 j)) (term_9 m c j) (fun t => step_9 m c t j) _

theorem flushed_9 (c : Dev nD) (t : Fin cfg0.N) (hf : (cfg0.win 9).flush t = true) :
    (dats m 0 c).flushed 9 t = ((cfg0.win 9).blk t).view.read (Elt Ideal) (result_9 m c) := by
  have hN : cfg0.N = 16 := N_0
  obtain rfl : t = last := Fin.ext (by have := (flush0_9 t).mp hf; have := t.isLt; show t.val = 15; omega)
  show (cfg0.win 9).cut (grid0.coords last) ((dats m 0 c).after 9 last) = _
  rw [after0_9]
  refine (congrArg ((cfg0.win 9).cut (grid0.coords last)) (hold_9 m c)).trans ?_
  have hz : (fun a => win0_9.index last a * main_v0_4.ty.shape.size a) = fun _ => 0 := funext fun a => by fin_cases a <;> decide
  exact (Memref.read_access_unit_zero (Elt Ideal) main_v0_4 hz (fun a => by rw [congrFun hz a]; simp) _).symm

theorem span_9 : ∀ a, win0_9.index last a * win0_9.size a = 0 ∧ win0_9.xsize (grid0.coords last) a = main_v0_4.ty.shape.size a := by decide +kernel

theorem final_9 (c : Dev nD) : (dats m 0 c).arrAt 9 cfg0.N = result_9 m c :=
  (dats m 0 c).arrAt_eq_of_cover 9 _ (flushed_9 m c) fun i => by
    refine ⟨last, (flush0_9 last).mpr rfl, ?_⟩
    show i ∈ ((View.whole main_v0_4).slice (win0_9.rect last)).set
    rw [View.set_slice_whole, Rect.mem_set_unit]
    intro a
    show win0_9.index last a * win0_9.size a ≤ (i a : Nat) ∧ (i a : Nat) < win0_9.index last a * win0_9.size a + win0_9.xsize (grid0.coords last) a
    rw [(span_9 a).1, (span_9 a).2, Nat.zero_add]
    exact ⟨Nat.zero_le _, (i a).isLt⟩

end Cert.LossBwdIdeal.Product

namespace Cert.LossBwdRefIdeal.Product

open Idealize.ShloMosaic Idealize.ShloMosaic.TcCoe Idealize.ShloMosaic.Tactic Cert.LossBwdRefIdeal Cert.LossBwdRefIdeal.Gen Cert.LossBwdIdeal.Product Cert.Norms

variable (m : (ℓ : Loc nD τ sig) → Buf (Elt Ideal) ℓ)

/-! ## The reference's results, element by element -/

def given_0 (c : Dev nD) (a : Fin 4096) (k : Fin 2048) : EReal := (m ((c : Thread nD τ).loc main_arg0) : S4096x2048.Idx → EReal) (ix2 a k)
def given_1 (c : Dev nD) (a : Fin 4096) (k : Fin 2048) : EReal := (m ((c : Thread nD τ).loc main_arg1) : S4096x2048.Idx → EReal) (ix2 a k)
def given_2 (c : Dev nD) (a : Fin 4096) (k : Fin 2048) : EReal := (m ((c : Thread nD τ).loc main_arg2) : S4096x2048.Idx → EReal) (ix2 a k)
def given_3 (c : Dev nD) (k : Fin 2048) : EReal := (m ((c : Thread nD τ).loc main_arg3) : S1x2048.Idx → EReal) (ix2 0 k)
def given_4 (c : Dev nD) (k : Fin 2048) : EReal := (m ((c : Thread nD τ).loc main_arg4) : S1x2048.Idx → EReal) (ix2 0 k)

theorem value_5 (c : Dev nD) (i : Fin 4096) (j : Fin 2048) :
    (mulf (broadcastInDim S4096x2048 ![0] bcast_S4096_S4096x2048_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x45000000#32)))) (mulf (broadcastInDim S4096x2048 ![] bcast_S_S4096x2048 (constant (F := Ideal) S_ .f32 0x40000000#32)) (subf (addf (m ((c : Thread nD τ).loc main_arg1)) (mulf (broadcastInDim S4096x2048 ![0, 1] bcast_S1x2048_S4096x2048_0_1 (m ((c : Thread nD τ).loc main_arg3))) (mulf (mulf (m ((c : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg0)) (m ((c : Thread nD τ).loc main_arg0))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (m ((c : Thread nD τ).loc main_arg4)))))) (m ((c : Thread nD τ).loc main_arg2)))) : S4096x2048.Idx → EReal) (ix2 i j) = dh (given_0 m c i) (given_1 m c i) (given_2 m c i) (given_3 m c) (given_4 m c) j := by
  pointwise []
  exact half_two _

theorem value_6 (c : Dev nD) (i : Fin 4096) (j : Fin 2048) :
    (Value.res_main_v75 m c : S4096x2048.Idx → EReal) (ix2 i j) = dff (given_0 m c i) (given_1 m c i) (given_2 m c i) (given_3 m c) (given_4 m c) j := by
  unfold Value.res_main_v75
  pointwise []
  simp only [half_two]
  exact (back_eq_sum (given_0 m c i) (fun k => given_3 m c k * dh (given_0 m c i) (given_1 m c i) (given_2 m c i) (given_3 m c) (given_4 m c) k * given_4 m c k) j).trans (congrArg (back _ · j) (funext fun k => congrArg (· * given_4 m c k) (mul_comm _ _)))

theorem value_7 (c : Dev nD) (i : Fin 8) (j : Fin 128) :
    (broadcastInDim S8x128 ![] bcast_S_S8x128 (Host.reduceAdd (mulf (subf (addf (m ((c : Thread nD τ).loc main_arg1)) (mulf (broadcastInDim S4096x2048 ![0, 1] bcast_S1x2048_S4096x2048_0_1 (m ((c : Thread nD τ).loc main_arg3))) (mulf (mulf (m ((c : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg0)) (m ((c : Thread nD τ).loc main_arg0))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (m ((c : Thread nD τ).loc main_arg4)))))) (m ((c : Thread nD τ).loc main_arg2))) (subf (addf (m ((c : Thread nD τ).loc main_arg1)) (mulf (broadcastInDim S4096x2048 ![0, 1] bcast_S1x2048_S4096x2048_0_1 (m ((c : Thread nD τ).loc main_arg3))) (mulf (mulf (m ((c : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg0)) (m ((c : Thread nD τ).loc main_arg0))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (m ((c : Thread nD τ).loc main_arg4)))))) (m ((c : Thread nD τ).loc main_arg2)))) (constant (F := Ideal) S_ .f32 0x00000000#32) reducesTo_S4096x2048_S_d0_1 h_S_) : S8x128.Idx → EReal) (ix2 i j) = ∑ a, squares (given_0 m c a) (given_1 m c a) (given_2 m c a) (given_3 m c) (given_4 m c) := by
  pointwise []
  rfl

theorem value_8 (c : Dev nD) (i : Fin 1) (j : Fin 2048) :
    (shapeCast _ (Host.reduceAdd (mulf (mulf (broadcastInDim S4096x2048 ![0] bcast_S4096_S4096x2048_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x45000000#32)))) (mulf (broadcastInDim S4096x2048 ![] bcast_S_S4096x2048 (constant (F := Ideal) S_ .f32 0x40000000#32)) (subf (addf (m ((c : Thread nD τ).loc main_arg1)) (mulf (broadcastInDim S4096x2048 ![0, 1] bcast_S1x2048_S4096x2048_0_1 (m ((c : Thread nD τ).loc main_arg3))) (mulf (mulf (m ((c : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg0)) (m ((c : Thread nD τ).loc main_arg0))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (m ((c : Thread nD τ).loc main_arg4)))))) (m ((c : Thread nD τ).loc main_arg2))))) (mulf (mulf (m ((c : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg0)) (m ((c : Thread nD τ).loc main_arg0))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (m ((c : Thread nD τ).loc main_arg4))))) (constant (F := Ideal) S_ .f32 0x00000000#32) reducesTo_S4096x2048_S2048_d0 h_S_) shapeCasts_S2048_S1x2048 : S1x2048.Idx → EReal) (ix2 i j) = ∑ a, dgate (given_0 m c a) (given_1 m c a) (given_2 m c a) (given_3 m c) (given_4 m c) j := by
  pointwise []
  simp only [half_two]
  rfl

theorem value_9 (c : Dev nD) (i : Fin 1) (j : Fin 2048) :
    (shapeCast _ (Host.reduceAdd (mulf (mulf (m ((c : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg0)) (m ((c : Thread nD τ).loc main_arg0))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (mulf (broadcastInDim S4096x2048 ![0, 1] bcast_S1x2048_S4096x2048_0_1 (m ((c : Thread nD τ).loc main_arg3))) (mulf (broadcastInDim S4096x2048 ![0] bcast_S4096_S4096x2048_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x45000000#32)))) (mulf (broadcastInDim S4096x2048 ![] bcast_S_S4096x2048 (constant (F := Ideal) S_ .f32 0x40000000#32)) (subf (addf (m ((c : Thread nD τ).loc main_arg1)) (mulf (broadcastInDim S4096x2048 ![0, 1] bcast_S1x2048_S4096x2048_0_1 (m ((c : Thread nD τ).loc main_arg3))) (mulf (mulf (m ((c : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg0)) (m ((c : Thread nD τ).loc main_arg0))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (m ((c : Thread nD τ).loc main_arg4)))))) (m ((c : Thread nD τ).loc main_arg2))))))) (constant (F := Ideal) S_ .f32 0x00000000#32) reducesTo_S4096x2048_S2048_d0 h_S_) shapeCasts_S2048_S1x2048 : S1x2048.Idx → EReal) (ix2 i j) = ∑ a, dgain (given_0 m c a) (given_1 m c a) (given_2 m c a) (given_3 m c) (given_4 m c) j := by
  pointwise []
  simp only [half_two]
  exact Finset.sum_congr rfl fun a _ => (mul_comm _ _).trans (congrArg (· * _) (mul_comm _ _))

end Cert.LossBwdRefIdeal.Product

namespace Cert.Proof.LossBwdClaims

open Idealize.ShloMosaic Idealize.ShloMosaic.TcCoe Idealize.ShloMosaic.Tactic Idealize.SL.Sem

theorem frame_p : Cert.quiescent_LossBwd (hLossBwd := Cert.LossBwd.Gen.facts) := fun m ρ _ => Cert.LossBwd.Gen.frame m ρ
theorem frame_pi : Cert.quiescent_LossBwdIdeal (hLossBwdIdeal := Cert.LossBwdIdeal.Gen.facts) := fun m ρ _ => Cert.LossBwdIdeal.Gen.frame m ρ
theorem frame_ri : Cert.quiescent_LossBwdRefIdeal (hLossBwdRefIdeal := Cert.LossBwdRefIdeal.Gen.facts) := fun m ρ _ =>
  (θ_run Cert.LossBwdRefIdeal.defs _ _).mono (fun r h => ⟨fun c => (h c).2.2.2.2.2, Idealize.ShloMosaic.sem_eq_zero_of_no_sems (by decide) r.2⟩)
    (Cert.LossBwdRefIdeal.Value.run (F := Ideal) m ρ)
theorem preserves : Cert.preserves_LossBwd_LossBwdIdeal := trivial

theorem algebraic : Cert.algebraic_LossBwdIdeal_LossBwdRefIdeal (hLossBwdIdeal := Cert.LossBwdIdeal.Gen.facts) (hLossBwdRefIdeal := Cert.LossBwdRefIdeal.Gen.facts) := by
  intro m ρ m' ρ' _ hagree
  refine ⟨_, _, _, _, _, Cert.LossBwdIdeal.Value.run_blocks m ρ, ?_⟩
  refine (θ_run Cert.LossBwdRefIdeal.defs _ _).mono (fun _ h c => ?_) (Cert.LossBwdRefIdeal.Value.run (F := Ideal) m' ρ')
  obtain ⟨e0, e1, e2, e3, e4⟩ := hagree c
  obtain ⟨r0, r1, r2, r3, r4, rest⟩ := h c
  have h0 : ∀ a, Cert.LossBwdRefIdeal.Product.given_0 m' c a = Cert.LossBwdIdeal.Product.whole_0 m c a := fun a => funext fun k => by unfold Cert.LossBwdRefIdeal.Product.given_0; rw [e0]; rfl
  have h1 : ∀ a, Cert.LossBwdRefIdeal.Product.given_1 m' c a = Cert.LossBwdIdeal.Product.whole_1 m c a := fun a => funext fun k => by unfold Cert.LossBwdRefIdeal.Product.given_1; rw [e1]; rfl
  have h2 : ∀ a, Cert.LossBwdRefIdeal.Product.given_2 m' c a = Cert.LossBwdIdeal.Product.whole_2 m c a := fun a => funext fun k => by unfold Cert.LossBwdRefIdeal.Product.given_2; rw [e2]; rfl
  have h3 : Cert.LossBwdRefIdeal.Product.given_3 m' c = Cert.LossBwdIdeal.Product.whole_3 m c := funext fun k => by unfold Cert.LossBwdRefIdeal.Product.given_3; rw [e3]; rfl
  have h4 : Cert.LossBwdRefIdeal.Product.given_4 m' c = Cert.LossBwdIdeal.Product.whole_4 m c := funext fun k => by unfold Cert.LossBwdRefIdeal.Product.given_4; rw [e4]; rfl
  refine ⟨r0.trans ?_, r1.trans ?_, r2.trans ?_, r3.trans ?_, r4.trans ?_, rest⟩
  · rw [Cert.LossBwdIdeal.Product.final_5 m c]
    funext y
    obtain ⟨i, j, rfl⟩ : ∃ (i : Fin 4096) (j : Fin 2048), y = ix2 i j := ⟨y 0, y 1, eq_ix2 y⟩
    refine (Cert.LossBwdRefIdeal.Product.value_5 m' c i j).trans ?_
    simp only [h0, h1, h2, h3, h4]
    rfl
  · rw [Cert.LossBwdIdeal.Product.final_6 m c]
    funext y
    obtain ⟨i, j, rfl⟩ : ∃ (i : Fin 4096) (j : Fin 2048), y = ix2 i j := ⟨y 0, y 1, eq_ix2 y⟩
    refine (Cert.LossBwdRefIdeal.Product.value_6 m' c i j).trans ?_
    simp only [h0, h1, h2, h3, h4]
    rfl
  · rw [Cert.LossBwdIdeal.Product.final_7 m c]
    funext y
    obtain ⟨i, j, rfl⟩ : ∃ (i : Fin 8) (j : Fin 128), y = ix2 i j := ⟨y 0, y 1, eq_ix2 y⟩
    refine (Cert.LossBwdRefIdeal.Product.value_7 m' c i j).trans ?_
    simp only [h0, h1, h2, h3, h4]
    rfl
  · rw [Cert.LossBwdIdeal.Product.final_8 m c]
    funext y
    obtain ⟨i, j, rfl⟩ : ∃ (i : Fin 1) (j : Fin 2048), y = ix2 i j := ⟨y 0, y 1, eq_ix2 y⟩
    refine (Cert.LossBwdRefIdeal.Product.value_8 m' c i j).trans ?_
    simp only [h0, h1, h2, h3, h4]
    rfl
  · rw [Cert.LossBwdIdeal.Product.final_9 m c]
    funext y
    obtain ⟨i, j, rfl⟩ : ∃ (i : Fin 1) (j : Fin 2048), y = ix2 i j := ⟨y 0, y 1, eq_ix2 y⟩
    refine (Cert.LossBwdRefIdeal.Product.value_9 m' c i j).trans ?_
    simp only [h0, h1, h2, h3, h4]
    rfl

end Cert.Proof.LossBwdClaims

end
-- ==== Proof.FfnNormBwdProduct.lean ====
/-
  The gradients of the modulated norm into the feed-forward block and of the gated norm after the mixer, and the sums for their gains, scale, shift and gate. The kernel's results are the reference's, element by element.
-/
module

public import proofs.«01_k».proof.Defs
public import proofs.«01_k».proof.Proof.Norms
public import proofs.«01_k».proof.Proof.Rows
public import proofs.«01_k».proof.Proof.Gen.FfnNormBwd.Frame
public import proofs.«01_k».proof.Proof.Gen.FfnNormBwdIdeal.Frame
public import proofs.«01_k».proof.Proof.Gen.FfnNormBwdIdeal.Value
public import proofs.«01_k».proof.Proof.Gen.FfnNormBwdRefIdeal.Run
public import Idealize.ShloMosaic.Lib.Pipeline.ReadBack
public import Idealize.ShloMosaic.Lib.Pointwise
public import Idealize.ShloMosaic.Lib.StableHlo.ReadAt
public import Idealize.ShloMosaic.Lib.Quiescent

@[expose] public section

set_option maxRecDepth 16384

noncomputable section

namespace Cert.FfnNormBwdIdeal.Product

open Idealize.ShloMosaic Idealize.ShloMosaic.TcCoe Idealize.ShloMosaic.Tactic Cert.FfnNormBwdIdeal Cert.FfnNormBwdIdeal.Gen Cert.Norms

/-- The norm's cotangent under its gain and scale. -/
def cot (da g sc : Fin 2048 → EReal) (j : Fin 2048) : EReal := da j * g j * (1 + sc j)

/-- The gradient of a row, the residual's added; a row's terms of the three sums. -/
def dx (dy da h g sc : Fin 2048 → EReal) (j : Fin 2048) : EReal := dy j + back h (cot da g sc) j
def dshift (da : Fin 2048 → EReal) (j : Fin 2048) : EReal := da j
def dscale (da h g : Fin 2048 → EReal) (j : Fin 2048) : EReal := da j * (norm h j * g j)
def dgain (da h sc : Fin 2048 → EReal) (j : Fin 2048) : EReal := da j * (1 + sc j) * norm h j

/-- The same of the gated norm, whose cotangent is the row above. -/
def dmo (dy da h mo g sc gt gp : Fin 2048 → EReal) (j : Fin 2048) : EReal := back mo (fun l => dx dy da h g sc l * gt l * gp l) j
def dgate (dy da h mo g sc gp : Fin 2048 → EReal) (j : Fin 2048) : EReal := dx dy da h g sc j * (norm mo j * gp j)
def dgainPost (dy da h mo g sc gt : Fin 2048 → EReal) (j : Fin 2048) : EReal := dx dy da h g sc j * gt j * norm mo j

variable (m : (ℓ : Loc nD τ sig) → Buf (Elt Ideal) ℓ)

/-! ## The arguments, whole and in blocks -/

/-- Row `r` of point `t`'s block in the whole array. -/
abbrev at_ (t : Fin cfg0.N) (r : Fin 256) : Fin 4096 := Rows.at_ (show cfg0.N = 16 from N_0) t r

def whole_0 (c : Dev nD) (a : Fin 4096) (k : Fin 2048) : EReal := (m ((c : Thread nD τ).loc main_arg0) : S4096x2048.Idx → EReal) (ix2 a k)
def part_0 (c : Dev nD) (t : Fin cfg0.N) (r : Fin 256) (k : Fin 2048) : EReal := (iblk m c 0 t : S256x2048.Idx → EReal) (ix2 r k)

def whole_1 (c : Dev nD) (a : Fin 4096) (k : Fin 2048) : EReal := (m ((c : Thread nD τ).loc main_arg1) : S4096x2048.Idx → EReal) (ix2 a k)
def part_1 (c : Dev nD) (t : Fin cfg0.N) (r : Fin 256) (k : Fin 2048) : EReal := (iblk m c 1 t : S256x2048.Idx → EReal) (ix2 r k)

def whole_2 (c : Dev nD) (a : Fin 4096) (k : Fin 2048) : EReal := (m ((c : Thread nD τ).loc main_arg2) : S4096x2048.Idx → EReal) (ix2 a k)
def part_2 (c : Dev nD) (t : Fin cfg0.N) (r : Fin 256) (k : Fin 2048) : EReal := (iblk m c 2 t : S256x2048.Idx → EReal) (ix2 r k)

def whole_3 (c : Dev nD) (a : Fin 4096) (k : Fin 2048) : EReal := (m ((c : Thread nD τ).loc main_arg3) : S4096x2048.Idx → EReal) (ix2 a k)
def part_3 (c : Dev nD) (t : Fin cfg0.N) (r : Fin 256) (k : Fin 2048) : EReal := (iblk m c 3 t : S256x2048.Idx → EReal) (ix2 r k)

def whole_4 (c : Dev nD) (k : Fin 2048) : EReal := (m ((c : Thread nD τ).loc main_arg4) : S1x2048.Idx → EReal) (ix2 0 k)
def part_4 (c : Dev nD) (t : Fin cfg0.N) (k : Fin 2048) : EReal := (iblk m c 4 t : S1x2048.Idx → EReal) (ix2 0 k)

def whole_5 (c : Dev nD) (k : Fin 2048) : EReal := (m ((c : Thread nD τ).loc main_arg5) : S1x2048.Idx → EReal) (ix2 0 k)
def part_5 (c : Dev nD) (t : Fin cfg0.N) (k : Fin 2048) : EReal := (iblk m c 5 t : S1x2048.Idx → EReal) (ix2 0 k)

def whole_6 (c : Dev nD) (k : Fin 2048) : EReal := (m ((c : Thread nD τ).loc main_arg6) : S1x2048.Idx → EReal) (ix2 0 k)
def part_6 (c : Dev nD) (t : Fin cfg0.N) (k : Fin 2048) : EReal := (iblk m c 6 t : S1x2048.Idx → EReal) (ix2 0 k)

def whole_7 (c : Dev nD) (k : Fin 2048) : EReal := (m ((c : Thread nD τ).loc main_arg7) : S1x2048.Idx → EReal) (ix2 0 k)
def part_7 (c : Dev nD) (t : Fin cfg0.N) (k : Fin 2048) : EReal := (iblk m c 7 t : S1x2048.Idx → EReal) (ix2 0 k)

theorem ix_0 : ∀ t : Fin cfg0.N, win0_0.index t 0 = t.val ∧ win0_0.index t 1 = 0 :=
  (by decide +kernel : ∀ t : Fin grid0.N, win0_0.index t 0 = t.val ∧ win0_0.index t 1 = 0)

theorem blk_0 (c : Dev nD) (t : Fin cfg0.N) (r : Fin 256) : part_0 m c t r = whole_0 m c (at_ t r) := by
  funext k
  unfold part_0 iblk
  rw [View.read_apply]
  show V m c main_arg0 _ = _
  rw [V_main_arg0]
  refine congrArg (m ((c : Thread nD τ).loc main_arg0) : S4096x2048.Idx → EReal) ?_
  funext d
  apply Fin.ext
  match d with
  | ⟨0, _⟩ => show win0_0.index t 0 * 256 + 1 * r.val = 256 * t.val + r.val; rw [(ix_0 t).1]; omega
  | ⟨1, _⟩ => show win0_0.index t 1 * 2048 + 1 * k.val = k.val; rw [(ix_0 t).2]; omega

theorem ix_1 : ∀ t : Fin cfg0.N, win0_1.index t 0 = t.val ∧ win0_1.index t 1 = 0 :=
  (by decide +kernel : ∀ t : Fin grid0.N, win0_1.index t 0 = t.val ∧ win0_1.index t 1 = 0)

theorem blk_1 (c : Dev nD) (t : Fin cfg0.N) (r : Fin 256) : part_1 m c t r = whole_1 m c (at_ t r) := by
  funext k
  unfold part_1 iblk
  rw [View.read_apply]
  show V m c main_arg1 _ = _
  rw [V_main_arg1]
  refine congrArg (m ((c : Thread nD τ).loc main_arg1) : S4096x2048.Idx → EReal) ?_
  funext d
  apply Fin.ext
  match d with
  | ⟨0, _⟩ => show win0_1.index t 0 * 256 + 1 * r.val = 256 * t.val + r.val; rw [(ix_1 t).1]; omega
  | ⟨1, _⟩ => show win0_1.index t 1 * 2048 + 1 * k.val = k.val; rw [(ix_1 t).2]; omega

theorem ix_2 : ∀ t : Fin cfg0.N, win0_2.index t 0 = t.val ∧ win0_2.index t 1 = 0 :=
  (by decide +kernel : ∀ t : Fin grid0.N, win0_2.index t 0 = t.val ∧ win0_2.index t 1 = 0)

theorem blk_2 (c : Dev nD) (t : Fin cfg0.N) (r : Fin 256) : part_2 m c t r = whole_2 m c (at_ t r) := by
  funext k
  unfold part_2 iblk
  rw [View.read_apply]
  show V m c main_arg2 _ = _
  rw [V_main_arg2]
  refine congrArg (m ((c : Thread nD τ).loc main_arg2) : S4096x2048.Idx → EReal) ?_
  funext d
  apply Fin.ext
  match d with
  | ⟨0, _⟩ => show win0_2.index t 0 * 256 + 1 * r.val = 256 * t.val + r.val; rw [(ix_2 t).1]; omega
  | ⟨1, _⟩ => show win0_2.index t 1 * 2048 + 1 * k.val = k.val; rw [(ix_2 t).2]; omega

theorem ix_3 : ∀ t : Fin cfg0.N, win0_3.index t 0 = t.val ∧ win0_3.index t 1 = 0 :=
  (by decide +kernel : ∀ t : Fin grid0.N, win0_3.index t 0 = t.val ∧ win0_3.index t 1 = 0)

theorem blk_3 (c : Dev nD) (t : Fin cfg0.N) (r : Fin 256) : part_3 m c t r = whole_3 m c (at_ t r) := by
  funext k
  unfold part_3 iblk
  rw [View.read_apply]
  show V m c main_arg3 _ = _
  rw [V_main_arg3]
  refine congrArg (m ((c : Thread nD τ).loc main_arg3) : S4096x2048.Idx → EReal) ?_
  funext d
  apply Fin.ext
  match d with
  | ⟨0, _⟩ => show win0_3.index t 0 * 256 + 1 * r.val = 256 * t.val + r.val; rw [(ix_3 t).1]; omega
  | ⟨1, _⟩ => show win0_3.index t 1 * 2048 + 1 * k.val = k.val; rw [(ix_3 t).2]; omega

theorem ix_4 : ∀ t : Fin cfg0.N, win0_4.index t 0 = 0 ∧ win0_4.index t 1 = 0 :=
  (by decide +kernel : ∀ t : Fin grid0.N, win0_4.index t 0 = 0 ∧ win0_4.index t 1 = 0)

theorem blk_4 (c : Dev nD) (t : Fin cfg0.N) : part_4 m c t = whole_4 m c := by
  funext k
  unfold part_4 iblk
  rw [View.read_apply]
  show V m c main_arg4 _ = _
  rw [V_main_arg4]
  refine congrArg (m ((c : Thread nD τ).loc main_arg4) : S1x2048.Idx → EReal) ?_
  funext d
  apply Fin.ext
  match d with
  | ⟨0, _⟩ => show win0_4.index t 0 * 1 + 1 * 0 = 0; rw [(ix_4 t).1]
  | ⟨1, _⟩ => show win0_4.index t 1 * 2048 + 1 * k.val = k.val; rw [(ix_4 t).2]; omega

theorem ix_5 : ∀ t : Fin cfg0.N, win0_5.index t 0 = 0 ∧ win0_5.index t 1 = 0 :=
  (by decide +kernel : ∀ t : Fin grid0.N, win0_5.index t 0 = 0 ∧ win0_5.index t 1 = 0)

theorem blk_5 (c : Dev nD) (t : Fin cfg0.N) : part_5 m c t = whole_5 m c := by
  funext k
  unfold part_5 iblk
  rw [View.read_apply]
  show V m c main_arg5 _ = _
  rw [V_main_arg5]
  refine congrArg (m ((c : Thread nD τ).loc main_arg5) : S1x2048.Idx → EReal) ?_
  funext d
  apply Fin.ext
  match d with
  | ⟨0, _⟩ => show win0_5.index t 0 * 1 + 1 * 0 = 0; rw [(ix_5 t).1]
  | ⟨1, _⟩ => show win0_5.index t 1 * 2048 + 1 * k.val = k.val; rw [(ix_5 t).2]; omega

theorem ix_6 : ∀ t : Fin cfg0.N, win0_6.index t 0 = 0 ∧ win0_6.index t 1 = 0 :=
  (by decide +kernel : ∀ t : Fin grid0.N, win0_6.index t 0 = 0 ∧ win0_6.index t 1 = 0)

theorem blk_6 (c : Dev nD) (t : Fin cfg0.N) : part_6 m c t = whole_6 m c := by
  funext k
  unfold part_6 iblk
  rw [View.read_apply]
  show V m c main_arg6 _ = _
  rw [V_main_arg6]
  refine congrArg (m ((c : Thread nD τ).loc main_arg6) : S1x2048.Idx → EReal) ?_
  funext d
  apply Fin.ext
  match d with
  | ⟨0, _⟩ => show win0_6.index t 0 * 1 + 1 * 0 = 0; rw [(ix_6 t).1]
  | ⟨1, _⟩ => show win0_6.index t 1 * 2048 + 1 * k.val = k.val; rw [(ix_6 t).2]; omega

theorem ix_7 : ∀ t : Fin cfg0.N, win0_7.index t 0 = 0 ∧ win0_7.index t 1 = 0 :=
  (by decide +kernel : ∀ t : Fin grid0.N, win0_7.index t 0 = 0 ∧ win0_7.index t 1 = 0)

theorem blk_7 (c : Dev nD) (t : Fin cfg0.N) : part_7 m c t = whole_7 m c := by
  funext k
  unfold part_7 iblk
  rw [View.read_apply]
  show V m c main_arg7 _ = _
  rw [V_main_arg7]
  refine congrArg (m ((c : Thread nD τ).loc main_arg7) : S1x2048.Idx → EReal) ?_
  funext d
  apply Fin.ext
  match d with
  | ⟨0, _⟩ => show win0_7.index t 0 * 1 + 1 * 0 = 0; rw [(ix_7 t).1]
  | ⟨1, _⟩ => show win0_7.index t 1 * 2048 + 1 * k.val = k.val; rw [(ix_7 t).2]; omega

/-! ## What the body leaves at each point -/

theorem row_8 (c : Dev nD) (t : Fin cfg0.N) (r : Fin 256) (j : Fin 2048) :
    ((outsAt0 m c t.val t.isLt).1 : S256x2048.Idx → EReal) (ix2 r j) = dx (whole_0 m c (at_ t r)) (whole_1 m c (at_ t r)) (whole_2 m c (at_ t r)) (whole_4 m c) (whole_5 m c) j := by
  simp only [← blk_0 m c t, ← blk_1 m c t, ← blk_2 m c t, ← blk_4 m c t, ← blk_5 m c t]
  by_cases h0 : t.val % 16 = 0
  on_goal 1 => rw [outsAt0_A m c t h0]; dsimp only; unfold out0_A_8; rw [View.read_writes_eq_canon _ _ _ (by intro y; apply cover0_A_8)]; unfold kernelRun0_A
  on_goal 2 => rw [outsAt0_B m c t h0]; dsimp only; unfold out0_B_8; rw [View.read_writes_eq_canon _ _ _ (by intro y; apply cover0_B_8)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, (hs0_11 t).read_unread, (hs0_12 t).read_unread, (hs0_13 t).read_unread, (hs0_14 t).read_unread, View.ld_unit_lit, View.readCov_unit_lit, View.canon_cons_unit_lit]
    pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
    rfl

theorem row_9 (c : Dev nD) (t : Fin cfg0.N) (r : Fin 256) (j : Fin 2048) :
    ((outsAt0 m c t.val t.isLt).2.1 : S256x2048.Idx → EReal) (ix2 r j) = dmo (whole_0 m c (at_ t r)) (whole_1 m c (at_ t r)) (whole_2 m c (at_ t r)) (whole_3 m c (at_ t r)) (whole_4 m c) (whole_5 m c) (whole_6 m c) (whole_7 m c) j := by
  simp only [← blk_0 m c t, ← blk_1 m c t, ← blk_2 m c t, ← blk_3 m c t, ← blk_4 m c t, ← blk_5 m c t, ← blk_6 m c t, ← blk_7 m c t]
  by_cases h0 : t.val % 16 = 0
  on_goal 1 => rw [outsAt0_A m c t h0]; dsimp only; unfold out0_A_9; rw [View.read_writes_eq_canon _ _ _ (by intro y; apply cover0_A_9)]; unfold kernelRun0_A
  on_goal 2 => rw [outsAt0_B m c t h0]; dsimp only; unfold out0_B_9; rw [View.read_writes_eq_canon _ _ _ (by intro y; apply cover0_B_9)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, (hs0_11 t).read_unread, (hs0_12 t).read_unread, (hs0_13 t).read_unread, (hs0_14 t).read_unread, View.ld_unit_lit, View.readCov_unit_lit, View.canon_cons_unit_lit]
    pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
    rfl

/-- A row's term of the sum. -/
def term_10 (c : Dev nD) (j : Fin 2048) (a : Fin 4096) : EReal := dshift (whole_1 m c a) j

theorem step_10 (c : Dev nD) (t : Fin cfg0.N) (j : Fin 2048) :
    ((outsAt0 m c t.val t.isLt).2.2.1 : S1x2048.Idx → EReal) (ix2 0 j) = (if t.val % 16 = 0 then 0 else ((outsAt0 m c (t.val - 1) (Nat.lt_of_le_of_lt (Nat.sub_le _ _) t.isLt)).2.2.1 : S1x2048.Idx → EReal) (ix2 0 j))
      + ∑ r : Fin 256, term_10 m c j (at_ t r) := by
  simp only [term_10, ← blk_1 m c t]
  by_cases h0 : t.val % 16 = 0
  on_goal 1 => rw [if_pos h0, zero_add]; rw [outsAt0_A m c t h0]; dsimp only; unfold out0_A_10; rw [View.read_writes_eq_canon _ _ _ (by intro y; apply cover0_A_10)]; unfold kernelRun0_A
  on_goal 2 => rw [if_neg h0]; rw [outsAt0_B m c t h0]; dsimp only; unfold out0_B_10; rw [View.read_writes_eq_canon _ _ _ (by intro y; apply cover0_B_10)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, (hs0_11 t).read_unread, (hs0_12 t).read_unread, (hs0_13 t).read_unread, (hs0_14 t).read_unread, View.ld_unit_lit, View.readCov_unit_lit, View.canon_cons_unit_lit]
    pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
    rfl

/-- A row's term of the sum. -/
def term_11 (c : Dev nD) (j : Fin 2048) (a : Fin 4096) : EReal := dscale (whole_1 m c a) (whole_2 m c a) (whole_4 m c) j

theorem step_11 (c : Dev nD) (t : Fin cfg0.N) (j : Fin 2048) :
    ((outsAt0 m c t.val t.isLt).2.2.2.1 : S1x2048.Idx → EReal) (ix2 0 j) = (if t.val % 16 = 0 then 0 else ((outsAt0 m c (t.val - 1) (Nat.lt_of_le_of_lt (Nat.sub_le _ _) t.isLt)).2.2.2.1 : S1x2048.Idx → EReal) (ix2 0 j))
      + ∑ r : Fin 256, term_11 m c j (at_ t r) := by
  simp only [term_11, ← blk_1 m c t, ← blk_2 m c t, ← blk_4 m c t]
  by_cases h0 : t.val % 16 = 0
  on_goal 1 => rw [if_pos h0, zero_add]; rw [outsAt0_A m c t h0]; dsimp only; unfold out0_A_11; rw [View.read_writes_eq_canon _ _ _ (by intro y; apply cover0_A_11)]; unfold kernelRun0_A
  on_goal 2 => rw [if_neg h0]; rw [outsAt0_B m c t h0]; dsimp only; unfold out0_B_11; rw [View.read_writes_eq_canon _ _ _ (by intro y; apply cover0_B_11)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, (hs0_11 t).read_unread, (hs0_12 t).read_unread, (hs0_13 t).read_unread, (hs0_14 t).read_unread, View.ld_unit_lit, View.readCov_unit_lit, View.canon_cons_unit_lit]
    pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
    rfl

/-- A row's term of the sum. -/
def term_12 (c : Dev nD) (j : Fin 2048) (a : Fin 4096) : EReal := dgain (whole_1 m c a) (whole_2 m c a) (whole_5 m c) j

theorem step_12 (c : Dev nD) (t : Fin cfg0.N) (j : Fin 2048) :
    ((outsAt0 m c t.val t.isLt).2.2.2.2.1 : S1x2048.Idx → EReal) (ix2 0 j) = (if t.val % 16 = 0 then 0 else ((outsAt0 m c (t.val - 1) (Nat.lt_of_le_of_lt (Nat.sub_le _ _) t.isLt)).2.2.2.2.1 : S1x2048.Idx → EReal) (ix2 0 j))
      + ∑ r : Fin 256, term_12 m c j (at_ t r) := by
  simp only [term_12, ← blk_1 m c t, ← blk_2 m c t, ← blk_5 m c t]
  by_cases h0 : t.val % 16 = 0
  on_goal 1 => rw [if_pos h0, zero_add]; rw [outsAt0_A m c t h0]; dsimp only; unfold out0_A_12; rw [View.read_writes_eq_canon _ _ _ (by intro y; apply cover0_A_12)]; unfold kernelRun0_A
  on_goal 2 => rw [if_neg h0]; rw [outsAt0_B m c t h0]; dsimp only; unfold out0_B_12; rw [View.read_writes_eq_canon _ _ _ (by intro y; apply cover0_B_12)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, (hs0_11 t).read_unread, (hs0_12 t).read_unread, (hs0_13 t).read_unread, (hs0_14 t).read_unread, View.ld_unit_lit, View.readCov_unit_lit, View.canon_cons_unit_lit]
    pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
    rfl

/-- A row's term of the sum. -/
def term_13 (c : Dev nD) (j : Fin 2048) (a : Fin 4096) : EReal := dgate (whole_0 m c a) (whole_1 m c a) (whole_2 m c a) (whole_3 m c a) (whole_4 m c) (whole_5 m c) (whole_7 m c) j

theorem step_13 (c : Dev nD) (t : Fin cfg0.N) (j : Fin 2048) :
    ((outsAt0 m c t.val t.isLt).2.2.2.2.2.1 : S1x2048.Idx → EReal) (ix2 0 j) = (if t.val % 16 = 0 then 0 else ((outsAt0 m c (t.val - 1) (Nat.lt_of_le_of_lt (Nat.sub_le _ _) t.isLt)).2.2.2.2.2.1 : S1x2048.Idx → EReal) (ix2 0 j))
      + ∑ r : Fin 256, term_13 m c j (at_ t r) := by
  simp only [term_13, ← blk_0 m c t, ← blk_1 m c t, ← blk_2 m c t, ← blk_3 m c t, ← blk_4 m c t, ← blk_5 m c t, ← blk_7 m c t]
  by_cases h0 : t.val % 16 = 0
  on_goal 1 => rw [if_pos h0, zero_add]; rw [outsAt0_A m c t h0]; dsimp only; unfold out0_A_13; rw [View.read_writes_eq_canon _ _ _ (by intro y; apply cover0_A_13)]; unfold kernelRun0_A
  on_goal 2 => rw [if_neg h0]; rw [outsAt0_B m c t h0]; dsimp only; unfold out0_B_13; rw [View.read_writes_eq_canon _ _ _ (by intro y; apply cover0_B_13)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, (hs0_11 t).read_unread, (hs0_12 t).read_unread, (hs0_13 t).read_unread, (hs0_14 t).read_unread, View.ld_unit_lit, View.readCov_unit_lit, View.canon_cons_unit_lit]
    pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
    rfl

/-- A row's term of the sum. -/
def term_14 (c : Dev nD) (j : Fin 2048) (a : Fin 4096) : EReal := dgainPost (whole_0 m c a) (whole_1 m c a) (whole_2 m c a) (whole_3 m c a) (whole_4 m c) (whole_5 m c) (whole_6 m c) j

theorem step_14 (c : Dev nD) (t : Fin cfg0.N) (j : Fin 2048) :
    ((outsAt0 m c t.val t.isLt).2.2.2.2.2.2 : S1x2048.Idx → EReal) (ix2 0 j) = (if t.val % 16 = 0 then 0 else ((outsAt0 m c (t.val - 1) (Nat.lt_of_le_of_lt (Nat.sub_le _ _) t.isLt)).2.2.2.2.2.2 : S1x2048.Idx → EReal) (ix2 0 j))
      + ∑ r : Fin 256, term_14 m c j (at_ t r) := by
  simp only [term_14, ← blk_0 m c t, ← blk_1 m c t, ← blk_2 m c t, ← blk_3 m c t, ← blk_4 m c t, ← blk_5 m c t, ← blk_6 m c t]
  by_cases h0 : t.val % 16 = 0
  on_goal 1 => rw [if_pos h0, zero_add]; rw [outsAt0_A m c t h0]; dsimp only; unfold out0_A_14; rw [View.read_writes_eq_canon _ _ _ (by intro y; apply cover0_A_14)]; unfold kernelRun0_A
  on_goal 2 => rw [if_neg h0]; rw [outsAt0_B m c t h0]; dsimp only; unfold out0_B_14; rw [View.read_writes_eq_canon _ _ _ (by intro y; apply cover0_B_14)]; unfold kernelRun0_B
  all_goals
    dsimp only
    sl_unfold_words
    simp (disch := decide) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, (hs0_11 t).read_unread, (hs0_12 t).read_unread, (hs0_13 t).read_unread, (hs0_14 t).read_unread, View.ld_unit_lit, View.readCov_unit_lit, View.canon_cons_unit_lit]
    pointwise [k0_pay1, k0_pay10, k0_pay11, k0_pay12, k0_pay13, k0_pay14, k0_pay15, k0_pay16, k0_pay17, k0_pay18, k0_pay2, k0_pay3, k0_pay4, k0_pay5, k0_pay6, k0_pay7, k0_pay8, k0_pay9]
    rfl

/-! ## The results' arrays -/

/-- The last point. -/
def last : Fin cfg0.N := ⟨15, by rw [show cfg0.N = 16 from N_0]; decide⟩

theorem ix_8 : ∀ t : Fin cfg0.N, win0_8.index t 0 = t.val ∧ win0_8.index t 1 = 0 :=
  (by decide +kernel : ∀ t : Fin grid0.N, win0_8.index t 0 = t.val ∧ win0_8.index t 1 = 0)

def result_8 (c : Dev nD) : S4096x2048.Idx → EReal := fun i => dx (whole_0 m c (i 0)) (whole_1 m c (i 0)) (whole_2 m c (i 0)) (whole_4 m c) (whole_5 m c) (i 1)

theorem flushed_8 (c : Dev nD) (t : Fin cfg0.N) (_ : (cfg0.win 8).flush t = true) :
    (dats m 0 c).flushed 8 t = ((cfg0.win 8).blk t).view.read (Elt Ideal) (result_8 m c) := by
  rw [Value.flushed8]
  funext (y : S256x2048.Idx)
  rw [View.read_apply]
  obtain ⟨r, j, rfl⟩ : ∃ (r : Fin 256) (j : Fin 2048), y = ix2 r j := ⟨y 0, y 1, eq_ix2 y⟩
  have e : ((cfg0.win 8).blk t).view.emb (ix2 r j) = ix2 (at_ t r) j := by
    funext d
    apply Fin.ext
    match d with
    | ⟨0, _⟩ => show win0_8.index t 0 * 256 + 1 * r.val = 256 * t.val + r.val; rw [(ix_8 t).1]; omega
    | ⟨1, _⟩ => show win0_8.index t 1 * 2048 + 1 * j.val = j.val; rw [(ix_8 t).2]; omega
  refine (row_8 m c t r j).trans ?_
  rw [e]
  rfl

theorem final_8 (c : Dev nD) : (dats m 0 c).arrAt 8 cfg0.N = result_8 m c :=
  (dats m 0 c).arrAt_eq_of_cover 8 _ (flushed_8 m c) fun i => by
    have h0 : (i 0 : Nat) < 4096 := (i 0).isLt
    have h1 : (i 1 : Nat) < 2048 := (i 1).isLt
    have hN : cfg0.N = 16 := N_0
    obtain ⟨t, ht⟩ : ∃ t : Fin cfg0.N, t.val = (i 0 : Nat) / 256 := ⟨⟨_, by omega⟩, rfl⟩
    refine ⟨t, flush0_8 _, ?_⟩
    show i ∈ ((View.whole main_v0_0).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + 256; rw [(ix_8 t).1]; omega
    | ⟨1, _⟩ => show win0_8.index t 1 * 2048 ≤ (i 1 : Nat) ∧ (i 1 : Nat) < win0_8.index t 1 * 2048 + 2048; rw [(ix_8 t).2]; omega

theorem ix_9 : ∀ t : Fin cfg0.N, win0_9.index t 0 = t.val ∧ win0_9.index t 1 = 0 :=
  (by decide +kernel : ∀ t : Fin grid0.N, win0_9.index t 0 = t.val ∧ win0_9.index t 1 = 0)

def result_9 (c : Dev nD) : S4096x2048.Idx → EReal := fun i => dmo (whole_0 m c (i 0)) (whole_1 m c (i 0)) (whole_2 m c (i 0)) (whole_3 m c (i 0)) (whole_4 m c) (whole_5 m c) (whole_6 m c) (whole_7 m c) (i 1)

theorem flushed_9 (c : Dev nD) (t : Fin cfg0.N) (_ : (cfg0.win 9).flush t = true) :
    (dats m 0 c).flushed 9 t = ((cfg0.win 9).blk t).view.read (Elt Ideal) (result_9 m c) := by
  rw [Value.flushed9]
  funext (y : S256x2048.Idx)
  rw [View.read_apply]
  obtain ⟨r, j, rfl⟩ : ∃ (r : Fin 256) (j : Fin 2048), y = ix2 r j := ⟨y 0, y 1, eq_ix2 y⟩
  have e : ((cfg0.win 9).blk t).view.emb (ix2 r j) = ix2 (at_ t r) j := by
    funext d
    apply Fin.ext
    match d with
    | ⟨0, _⟩ => show win0_9.index t 0 * 256 + 1 * r.val = 256 * t.val + r.val; rw [(ix_9 t).1]; omega
    | ⟨1, _⟩ => show win0_9.index t 1 * 2048 + 1 * j.val = j.val; rw [(ix_9 t).2]; omega
  refine (row_9 m c t r j).trans ?_
  rw [e]
  rfl

theorem final_9 (c : Dev nD) : (dats m 0 c).arrAt 9 cfg0.N = result_9 m c :=
  (dats m 0 c).arrAt_eq_of_cover 9 _ (flushed_9 m c) fun i => by
    have h0 : (i 0 : Nat) < 4096 := (i 0).isLt
    have h1 : (i 1 : Nat) < 2048 := (i 1).isLt
    have hN : cfg0.N = 16 := N_0
    obtain ⟨t, ht⟩ : ∃ t : Fin cfg0.N, t.val = (i 0 : Nat) / 256 := ⟨⟨_, by omega⟩, rfl⟩
    refine ⟨t, flush0_9 _, ?_⟩
    show i ∈ ((View.whole main_v0_1).slice (win0_9.rect t)).set
    rw [View.set_slice_whole, Rect.mem_set_unit]
    intro a
    match a with
    | ⟨0, _⟩ => show win0_9.index t 0 * 256 ≤ (i 0 : Nat) ∧ (i 0 : Nat) < win0_9.index t 0 * 256 + 256; rw [(ix_9 t).1]; omega
    | ⟨1, _⟩ => show win0_9.index t 1 * 2048 ≤ (i 1 : Nat) ∧ (i 1 : Nat) < win0_9.index t 1 * 2048 + 2048; rw [(ix_9 t).2]; omega

def result_10 (c : Dev nD) : S1x2048.Idx → EReal := fun i => ∑ a, term_10 m c (i 1) a

theorem hold_10 (c : Dev nD) : ((outsAt0 m c 15 last.isLt).2.2.1 : S1x2048.Idx → EReal) = result_10 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.1 : S1x2048.Idx → EReal) (ix2 0 j)) (term_10 m c j) (fun t => step_10 m c t j) _

theorem flushed_10 (c : Dev nD) (t : Fin cfg0.N) (hf : (cfg0.win 10).flush t = true) :
    (dats m 0 c).flushed 10 t = ((cfg0.win 10).blk t).view.read (Elt Ideal) (result_10 m c) := by
  have hN : cfg0.N = 16 := N_0
  obtain rfl : t = last := Fin.ext (by have := (flush0_10 t).mp hf; have := t.isLt; show t.val = 15; omega)
  show (cfg0.win 10).cut (grid0.coords last) ((dats m 0 c).after 10 last) = _
  rw [after0_10]
  refine (congrArg ((cfg0.win 10).cut (grid0.coords last)) (hold_10 m c)).trans ?_
  have hz : (fun a => win0_10.index last a * main_v0_2.ty.shape.size a) = fun _ => 0 := funext fun a => by fin_cases a <;> decide
  exact (Memref.read_access_unit_zero (Elt Ideal) main_v0_2 hz (fun a => by rw [congrFun hz a]; simp) _).symm

theorem span_10 : ∀ a, win0_10.index last a * win0_10.size a = 0 ∧ win0_10.xsize (grid0.coords last) a = main_v0_2.ty.shape.size a := by decide +kernel

theorem final_10 (c : Dev nD) : (dats m 0 c).arrAt 10 cfg0.N = result_10 m c :=
  (dats m 0 c).arrAt_eq_of_cover 10 _ (flushed_10 m c) fun i => by
    refine ⟨last, (flush0_10 last).mpr rfl, ?_⟩
    show i ∈ ((View.whole main_v0_2).slice (win0_10.rect last)).set
    rw [View.set_slice_whole, Rect.mem_set_unit]
    intro a
    show win0_10.index last a * win0_10.size a ≤ (i a : Nat) ∧ (i a : Nat) < win0_10.index last a * win0_10.size a + win0_10.xsize (grid0.coords last) a
    rw [(span_10 a).1, (span_10 a).2, Nat.zero_add]
    exact ⟨Nat.zero_le _, (i a).isLt⟩

def result_11 (c : Dev nD) : S1x2048.Idx → EReal := fun i => ∑ a, term_11 m c (i 1) a

theorem hold_11 (c : Dev nD) : ((outsAt0 m c 15 last.isLt).2.2.2.1 : S1x2048.Idx → EReal) = result_11 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.2.1 : S1x2048.Idx → EReal) (ix2 0 j)) (term_11 m c j) (fun t => step_11 m c t j) _

theorem flushed_11 (c : Dev nD) (t : Fin cfg0.N) (hf : (cfg0.win 11).flush t = true) :
    (dats m 0 c).flushed 11 t = ((cfg0.win 11).blk t).view.read (Elt Ideal) (result_11 m c) := by
  have hN : cfg0.N = 16 := N_0
  obtain rfl : t = last := Fin.ext (by have := (flush0_11 t).mp hf; have := t.isLt; show t.val = 15; omega)
  show (cfg0.win 11).cut (grid0.coords last) ((dats m 0 c).after 11 last) = _
  rw [after0_11]
  refine (congrArg ((cfg0.win 11).cut (grid0.coords last)) (hold_11 m c)).trans ?_
  have hz : (fun a => win0_11.index last a * main_v0_3.ty.shape.size a) = fun _ => 0 := funext fun a => by fin_cases a <;> decide
  exact (Memref.read_access_unit_zero (Elt Ideal) main_v0_3 hz (fun a => by rw [congrFun hz a]; simp) _).symm

theorem span_11 : ∀ a, win0_11.index last a * win0_11.size a = 0 ∧ win0_11.xsize (grid0.coords last) a = main_v0_3.ty.shape.size a := by decide +kernel

theorem final_11 (c : Dev nD) : (dats m 0 c).arrAt 11 cfg0.N = result_11 m c :=
  (dats m 0 c).arrAt_eq_of_cover 11 _ (flushed_11 m c) fun i => by
    refine ⟨last, (flush0_11 last).mpr rfl, ?_⟩
    show i ∈ ((View.whole main_v0_3).slice (win0_11.rect last)).set
    rw [View.set_slice_whole, Rect.mem_set_unit]
    intro a
    show win0_11.index last a * win0_11.size a ≤ (i a : Nat) ∧ (i a : Nat) < win0_11.index last a * win0_11.size a + win0_11.xsize (grid0.coords last) a
    rw [(span_11 a).1, (span_11 a).2, Nat.zero_add]
    exact ⟨Nat.zero_le _, (i a).isLt⟩

def result_12 (c : Dev nD) : S1x2048.Idx → EReal := fun i => ∑ a, term_12 m c (i 1) a

theorem hold_12 (c : Dev nD) : ((outsAt0 m c 15 last.isLt).2.2.2.2.1 : S1x2048.Idx → EReal) = result_12 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.2.2.1 : S1x2048.Idx → EReal) (ix2 0 j)) (term_12 m c j) (fun t => step_12 m c t j) _

theorem flushed_12 (c : Dev nD) (t : Fin cfg0.N) (hf : (cfg0.win 12).flush t = true) :
    (dats m 0 c).flushed 12 t = ((cfg0.win 12).blk t).view.read (Elt Ideal) (result_12 m c) := by
  have hN : cfg0.N = 16 := N_0
  obtain rfl : t = last := Fin.ext (by have := (flush0_12 t).mp hf; have := t.isLt; show t.val = 15; omega)
  show (cfg0.win 12).cut (grid0.coords last) ((dats m 0 c).after 12 last) = _
  rw [after0_12]
  refine (congrArg ((cfg0.win 12).cut (grid0.coords last)) (hold_12 m c)).trans ?_
  have hz : (fun a => win0_12.index last a * main_v0_4.ty.shape.size a) = fun _ => 0 := funext fun a => by fin_cases a <;> decide
  exact (Memref.read_access_unit_zero (Elt Ideal) main_v0_4 hz (fun a => by rw [congrFun hz a]; simp) _).symm

theorem span_12 : ∀ a, win0_12.index last a * win0_12.size a = 0 ∧ win0_12.xsize (grid0.coords last) a = main_v0_4.ty.shape.size a := by decide +kernel

theorem final_12 (c : Dev nD) : (dats m 0 c).arrAt 12 cfg0.N = result_12 m c :=
  (dats m 0 c).arrAt_eq_of_cover 12 _ (flushed_12 m c) fun i => by
    refine ⟨last, (flush0_12 last).mpr rfl, ?_⟩
    show i ∈ ((View.whole main_v0_4).slice (win0_12.rect last)).set
    rw [View.set_slice_whole, Rect.mem_set_unit]
    intro a
    show win0_12.index last a * win0_12.size a ≤ (i a : Nat) ∧ (i a : Nat) < win0_12.index last a * win0_12.size a + win0_12.xsize (grid0.coords last) a
    rw [(span_12 a).1, (span_12 a).2, Nat.zero_add]
    exact ⟨Nat.zero_le _, (i a).isLt⟩

def result_13 (c : Dev nD) : S1x2048.Idx → EReal := fun i => ∑ a, term_13 m c (i 1) a

theorem hold_13 (c : Dev nD) : ((outsAt0 m c 15 last.isLt).2.2.2.2.2.1 : S1x2048.Idx → EReal) = result_13 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.2.2.2.1 : S1x2048.Idx → EReal) (ix2 0 j)) (term_13 m c j) (fun t => step_13 m c t j) _

theorem flushed_13 (c : Dev nD) (t : Fin cfg0.N) (hf : (cfg0.win 13).flush t = true) :
    (dats m 0 c).flushed 13 t = ((cfg0.win 13).blk t).view.read (Elt Ideal) (result_13 m c) := by
  have hN : cfg0.N = 16 := N_0
  obtain rfl : t = last := Fin.ext (by have := (flush0_13 t).mp hf; have := t.isLt; show t.val = 15; omega)
  show (cfg0.win 13).cut (grid0.coords last) ((dats m 0 c).after 13 last) = _
  rw [after0_13]
  refine (congrArg ((cfg0.win 13).cut (grid0.coords last)) (hold_13 m c)).trans ?_
  have hz : (fun a => win0_13.index last a * main_v0_5.ty.shape.size a) = fun _ => 0 := funext fun a => by fin_cases a <;> decide
  exact (Memref.read_access_unit_zero (Elt Ideal) main_v0_5 hz (fun a => by rw [congrFun hz a]; simp) _).symm

theorem span_13 : ∀ a, win0_13.index last a * win0_13.size a = 0 ∧ win0_13.xsize (grid0.coords last) a = main_v0_5.ty.shape.size a := by decide +kernel

theorem final_13 (c : Dev nD) : (dats m 0 c).arrAt 13 cfg0.N = result_13 m c :=
  (dats m 0 c).arrAt_eq_of_cover 13 _ (flushed_13 m c) fun i => by
    refine ⟨last, (flush0_13 last).mpr rfl, ?_⟩
    show i ∈ ((View.whole main_v0_5).slice (win0_13.rect last)).set
    rw [View.set_slice_whole, Rect.mem_set_unit]
    intro a
    show win0_13.index last a * win0_13.size a ≤ (i a : Nat) ∧ (i a : Nat) < win0_13.index last a * win0_13.size a + win0_13.xsize (grid0.coords last) a
    rw [(span_13 a).1, (span_13 a).2, Nat.zero_add]
    exact ⟨Nat.zero_le _, (i a).isLt⟩

def result_14 (c : Dev nD) : S1x2048.Idx → EReal := fun i => ∑ a, term_14 m c (i 1) a

theorem hold_14 (c : Dev nD) : ((outsAt0 m c 15 last.isLt).2.2.2.2.2.2 : S1x2048.Idx → EReal) = result_14 m c := by
  funext i
  obtain ⟨p, j, rfl⟩ : ∃ (p : Fin 1) (j : Fin 2048), i = ix2 p j := ⟨i 0, i 1, eq_ix2 i⟩
  obtain rfl : p = 0 := Subsingleton.elim _ _
  have hN : cfg0.N = 16 := N_0
  exact Rows.sum_blocks hN (fun k hk => ((outsAt0 m c k hk).2.2.2.2.2.2 : S1x2048.Idx → EReal) (ix2 0 j)) (term_14 m c j) (fun t => step_14 m c t j) _

theorem flushed_14 (c : Dev nD) (t : Fin cfg0.N) (hf : (cfg0.win 14).flush t = true) :
    (dats m 0 c).flushed 14 t = ((cfg0.win 14).blk t).view.read (Elt Ideal) (result_14 m c) := by
  have hN : cfg0.N = 16 := N_0
  obtain rfl : t = last := Fin.ext (by have := (flush0_14 t).mp hf; have := t.isLt; show t.val = 15; omega)
  show (cfg0.win 14).cut (grid0.coords last) ((dats m 0 c).after 14 last) = _
  rw [after0_14]
  refine (congrArg ((cfg0.win 14).cut (grid0.coords last)) (hold_14 m c)).trans ?_
  have hz : (fun a => win0_14.index last a * main_v0_6.ty.shape.size a) = fun _ => 0 := funext fun a => by fin_cases a <;> decide
  exact (Memref.read_access_unit_zero (Elt Ideal) main_v0_6 hz (fun a => by rw [congrFun hz a]; simp) _).symm

theorem span_14 : ∀ a, win0_14.index last a * win0_14.size a = 0 ∧ win0_14.xsize (grid0.coords last) a = main_v0_6.ty.shape.size a := by decide +kernel

theorem final_14 (c : Dev nD) : (dats m 0 c).arrAt 14 cfg0.N = result_14 m c :=
  (dats m 0 c).arrAt_eq_of_cover 14 _ (flushed_14 m c) fun i => by
    refine ⟨last, (flush0_14 last).mpr rfl, ?_⟩
    show i ∈ ((View.whole main_v0_6).slice (win0_14.rect last)).set
    rw [View.set_slice_whole, Rect.mem_set_unit]
    intro a
    show win0_14.index last a * win0_14.size a ≤ (i a : Nat) ∧ (i a : Nat) < win0_14.index last a * win0_14.size a + win0_14.xsize (grid0.coords last) a
    rw [(span_14 a).1, (span_14 a).2, Nat.zero_add]
    exact ⟨Nat.zero_le _, (i a).isLt⟩

end Cert.FfnNormBwdIdeal.Product

namespace Cert.FfnNormBwdRefIdeal.Product

open Idealize.ShloMosaic Idealize.ShloMosaic.TcCoe Idealize.ShloMosaic.Tactic Cert.FfnNormBwdRefIdeal Cert.FfnNormBwdRefIdeal.Gen Cert.FfnNormBwdIdeal.Product Cert.Norms

variable (m : (ℓ : Loc nD τ sig) → Buf (Elt Ideal) ℓ)

/-! ## The reference's results, element by element -/

def given_0 (c : Dev nD) (a : Fin 4096) (k : Fin 2048) : EReal := (m ((c : Thread nD τ).loc main_arg0) : S4096x2048.Idx → EReal) (ix2 a k)
def given_1 (c : Dev nD) (a : Fin 4096) (k : Fin 2048) : EReal := (m ((c : Thread nD τ).loc main_arg1) : S4096x2048.Idx → EReal) (ix2 a k)
def given_2 (c : Dev nD) (a : Fin 4096) (k : Fin 2048) : EReal := (m ((c : Thread nD τ).loc main_arg2) : S4096x2048.Idx → EReal) (ix2 a k)
def given_3 (c : Dev nD) (a : Fin 4096) (k : Fin 2048) : EReal := (m ((c : Thread nD τ).loc main_arg3) : S4096x2048.Idx → EReal) (ix2 a k)
def given_4 (c : Dev nD) (k : Fin 2048) : EReal := (m ((c : Thread nD τ).loc main_arg4) : S1x2048.Idx → EReal) (ix2 0 k)
def given_5 (c : Dev nD) (k : Fin 2048) : EReal := (m ((c : Thread nD τ).loc main_arg5) : S1x2048.Idx → EReal) (ix2 0 k)
def given_6 (c : Dev nD) (k : Fin 2048) : EReal := (m ((c : Thread nD τ).loc main_arg6) : S1x2048.Idx → EReal) (ix2 0 k)
def given_7 (c : Dev nD) (k : Fin 2048) : EReal := (m ((c : Thread nD τ).loc main_arg7) : S1x2048.Idx → EReal) (ix2 0 k)

/-- The first result as the reference writes it. -/
theorem written_dx (c : Dev nD) (i : Fin 4096) (j : Fin 2048) : given_0 m c i j + written (given_2 m c i) (fun k => given_1 m c i k * (1 + given_5 m c k) * given_4 m c k) j = dx (given_0 m c i) (given_1 m c i) (given_2 m c i) (given_4 m c) (given_5 m c) j :=
  congrArg (given_0 m c i j + ·) ((back_eq_sum (given_2 m c i) (fun k => given_1 m c i k * (1 + given_5 m c k) * given_4 m c k) j).trans (congrArg (back _ · j) (funext fun k => mul_right_comm _ _ _)))

theorem value_8 (c : Dev nD) (i : Fin 4096) (j : Fin 2048) :
    (Value.res_main_v49 m c : S4096x2048.Idx → EReal) (ix2 i j) = dx (given_0 m c i) (given_1 m c i) (given_2 m c i) (given_4 m c) (given_5 m c) j := by
  unfold Value.res_main_v49
  pointwise []
  exact written_dx m c i j

theorem value_9 (c : Dev nD) (i : Fin 4096) (j : Fin 2048) :
    (Value.res_main_v91 m c : S4096x2048.Idx → EReal) (ix2 i j) = dmo (given_0 m c i) (given_1 m c i) (given_2 m c i) (given_3 m c i) (given_4 m c) (given_5 m c) (given_6 m c) (given_7 m c) j := by
  unfold Value.res_main_v91
  pointwise []
  exact (back_eq_sum (given_3 m c i) (fun k => given_6 m c k * (given_0 m c i k + written (given_2 m c i) (fun k => given_1 m c i k * (1 + given_5 m c k) * given_4 m c k) k) * given_7 m c k) j).trans
    (congrArg (back _ · j) (funext fun k => congrArg (· * given_7 m c k) ((mul_comm _ _).trans (congrArg (· * given_6 m c k) (written_dx m c i k)))))

theorem value_10 (c : Dev nD) (i : Fin 1) (j : Fin 2048) :
    (shapeCast _ (Host.reduceAdd (m ((c : Thread nD τ).loc main_arg1)) (constant (F := Ideal) S_ .f32 0x00000000#32) reducesTo_S4096x2048_S2048_d0 h_S_) shapeCasts_S2048_S1x2048 : S1x2048.Idx → EReal) (ix2 i j) = ∑ a, dshift (given_1 m c a) j := by
  pointwise []
  rfl

theorem value_11 (c : Dev nD) (i : Fin 1) (j : Fin 2048) :
    (shapeCast _ (Host.reduceAdd (mulf (mulf (mulf (m ((c : Thread nD τ).loc main_arg2)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg2)) (m ((c : Thread nD τ).loc main_arg2))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (m ((c : Thread nD τ).loc main_arg4)))) (shapeCast _ (m ((c : Thread nD τ).loc main_arg1)) shapeCasts_S4096x2048_S4096x2048)) (constant (F := Ideal) S_ .f32 0x00000000#32) reducesTo_S4096x2048_S2048_d0 h_S_) shapeCasts_S2048_S1x2048 : S1x2048.Idx → EReal) (ix2 i j) = ∑ a, dscale (given_1 m c a) (given_2 m c a) (given_4 m c) j := by
  pointwise []
  exact Finset.sum_congr rfl fun a _ => mul_comm _ _

theorem value_12 (c : Dev nD) (i : Fin 1) (j : Fin 2048) :
    (shapeCast _ (Host.reduceAdd (mulf (mulf (m ((c : Thread nD τ).loc main_arg2)) (broadcastInDim S4096x2048 ![0, 1] bcast_S4096x1_S4096x2048_0_1 (Host.rsqrt (addf (Host.divf (broadcastInDim S4096x1 ![0] bcast_S4096_S4096x1_0 (Host.reduceAdd (mulf (m ((c : Thread nD τ).loc main_arg2)) (m ((c : Thread nD τ).loc main_arg2))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (mulf (shapeCast _ (m ((c : Thread nD τ).loc main_arg1)) shapeCasts_S4096x2048_S4096x2048) (broadcastInDim S4096x2048 ![0, 1] bcast_S1x2048_S4096x2048_0_1 (addf (broadcastInDim S1x2048 ![] bcast_S_S1x2048 (constant (F := Ideal) S_ .f32 0x3F800000#32)) (m ((c : Thread nD τ).loc main_arg5)))))) (constant (F := Ideal) S_ .f32 0x00000000#32) reducesTo_S4096x2048_S2048_d0 h_S_) shapeCasts_S2048_S1x2048 : S1x2048.Idx → EReal) (ix2 i j) = ∑ a, dgain (given_1 m c a) (given_2 m c a) (given_5 m c) j := by
  pointwise []
  exact Finset.sum_congr rfl fun a _ => mul_comm _ _

theorem value_13 (c : Dev nD) (i : Fin 1) (j : Fin 2048) :
    (Value.res_main_v71 m c : S1x2048.Idx → EReal) (ix2 i j) = ∑ a, dgate (given_0 m c a) (given_1 m c a) (given_2 m c a) (given_3 m c a) (given_4 m c) (given_5 m c) (given_7 m c) j := by
  unfold Value.res_main_v71
  pointwise []
  exact Finset.sum_congr (M := EReal) rfl fun a _ => congrArg (· * (norm (given_3 m c a) j * given_7 m c j)) (written_dx m c a j)

theorem value_14 (c : Dev nD) (i : Fin 1) (j : Fin 2048) :
    (Value.res_main_v74 m c : S1x2048.Idx → EReal) (ix2 i j) = ∑ a, dgainPost (given_0 m c a) (given_1 m c a) (given_2 m c a) (given_3 m c a) (given_4 m c) (given_5 m c) (given_6 m c) j := by
  unfold Value.res_main_v74
  pointwise []
  exact Finset.sum_congr (M := EReal) rfl fun a _ => (mul_comm _ _).trans (congrArg (· * norm (given_3 m c a) j) ((mul_comm _ _).trans (congrArg (· * given_6 m c j) (written_dx m c a j))))

end Cert.FfnNormBwdRefIdeal.Product

namespace Cert.Proof.FfnNormBwdClaims

open Idealize.ShloMosaic Idealize.ShloMosaic.TcCoe Idealize.ShloMosaic.Tactic Idealize.SL.Sem

theorem frame_p : Cert.quiescent_FfnNormBwd (hFfnNormBwd := Cert.FfnNormBwd.Gen.facts) := fun m ρ _ => Cert.FfnNormBwd.Gen.frame m ρ
theorem frame_pi : Cert.quiescent_FfnNormBwdIdeal (hFfnNormBwdIdeal := Cert.FfnNormBwdIdeal.Gen.facts) := fun m ρ _ => Cert.FfnNormBwdIdeal.Gen.frame m ρ
theorem frame_ri : Cert.quiescent_FfnNormBwdRefIdeal (hFfnNormBwdRefIdeal := Cert.FfnNormBwdRefIdeal.Gen.facts) := fun m ρ _ =>
  (θ_run Cert.FfnNormBwdRefIdeal.defs _ _).mono (fun r h => ⟨fun c => (h c).2.2.2.2.2.2.2, Idealize.ShloMosaic.sem_eq_zero_of_no_sems (by decide) r.2⟩)
    (Cert.FfnNormBwdRefIdeal.Value.run (F := Ideal) m ρ)
theorem preserves : Cert.preserves_FfnNormBwd_FfnNormBwdIdeal := trivial

theorem algebraic : Cert.algebraic_FfnNormBwdIdeal_FfnNormBwdRefIdeal (hFfnNormBwdIdeal := Cert.FfnNormBwdIdeal.Gen.facts) (hFfnNormBwdRefIdeal := Cert.FfnNormBwdRefIdeal.Gen.facts) := by
  intro m ρ m' ρ' _ hagree
  refine ⟨_, _, _, _, _, _, _, Cert.FfnNormBwdIdeal.Value.run_blocks m ρ, ?_⟩
  refine (θ_run Cert.FfnNormBwdRefIdeal.defs _ _).mono (fun _ h c => ?_) (Cert.FfnNormBwdRefIdeal.Value.run (F := Ideal) m' ρ')
  obtain ⟨e0, e1, e2, e3, e4, e5, e6, e7⟩ := hagree c
  obtain ⟨r0, r1, r2, r3, r4, r5, r6, rest⟩ := h c
  have h0 : ∀ a, Cert.FfnNormBwdRefIdeal.Product.given_0 m' c a = Cert.FfnNormBwdIdeal.Product.whole_0 m c a := fun a => funext fun k => by unfold Cert.FfnNormBwdRefIdeal.Product.given_0; rw [e0]; rfl
  have h1 : ∀ a, Cert.FfnNormBwdRefIdeal.Product.given_1 m' c a = Cert.FfnNormBwdIdeal.Product.whole_1 m c a := fun a => funext fun k => by unfold Cert.FfnNormBwdRefIdeal.Product.given_1; rw [e1]; rfl
  have h2 : ∀ a, Cert.FfnNormBwdRefIdeal.Product.given_2 m' c a = Cert.FfnNormBwdIdeal.Product.whole_2 m c a := fun a => funext fun k => by unfold Cert.FfnNormBwdRefIdeal.Product.given_2; rw [e2]; rfl
  have h3 : ∀ a, Cert.FfnNormBwdRefIdeal.Product.given_3 m' c a = Cert.FfnNormBwdIdeal.Product.whole_3 m c a := fun a => funext fun k => by unfold Cert.FfnNormBwdRefIdeal.Product.given_3; rw [e3]; rfl
  have h4 : Cert.FfnNormBwdRefIdeal.Product.given_4 m' c = Cert.FfnNormBwdIdeal.Product.whole_4 m c := funext fun k => by unfold Cert.FfnNormBwdRefIdeal.Product.given_4; rw [e4]; rfl
  have h5 : Cert.FfnNormBwdRefIdeal.Product.given_5 m' c = Cert.FfnNormBwdIdeal.Product.whole_5 m c := funext fun k => by unfold Cert.FfnNormBwdRefIdeal.Product.given_5; rw [e5]; rfl
  have h6 : Cert.FfnNormBwdRefIdeal.Product.given_6 m' c = Cert.FfnNormBwdIdeal.Product.whole_6 m c := funext fun k => by unfold Cert.FfnNormBwdRefIdeal.Product.given_6; rw [e6]; rfl
  have h7 : Cert.FfnNormBwdRefIdeal.Product.given_7 m' c = Cert.FfnNormBwdIdeal.Product.whole_7 m c := funext fun k => by unfold Cert.FfnNormBwdRefIdeal.Product.given_7; rw [e7]; rfl
  refine ⟨r0.trans ?_, r1.trans ?_, r2.trans ?_, r3.trans ?_, r4.trans ?_, r5.trans ?_, r6.trans ?_, rest⟩
  · rw [Cert.FfnNormBwdIdeal.Product.final_8 m c]
    funext y
    obtain ⟨i, j, rfl⟩ : ∃ (i : Fin 4096) (j : Fin 2048), y = ix2 i j := ⟨y 0, y 1, eq_ix2 y⟩
    refine (Cert.FfnNormBwdRefIdeal.Product.value_8 m' c i j).trans ?_
    simp only [h0, h1, h2, h4, h5]
    rfl
  · rw [Cert.FfnNormBwdIdeal.Product.final_9 m c]
    funext y
    obtain ⟨i, j, rfl⟩ : ∃ (i : Fin 4096) (j : Fin 2048), y = ix2 i j := ⟨y 0, y 1, eq_ix2 y⟩
    refine (Cert.FfnNormBwdRefIdeal.Product.value_9 m' c i j).trans ?_
    simp only [h0, h1, h2, h3, h4, h5, h6, h7]
    rfl
  · rw [Cert.FfnNormBwdIdeal.Product.final_10 m c]
    funext y
    obtain ⟨i, j, rfl⟩ : ∃ (i : Fin 1) (j : Fin 2048), y = ix2 i j := ⟨y 0, y 1, eq_ix2 y⟩
    refine (Cert.FfnNormBwdRefIdeal.Product.value_10 m' c i j).trans ?_
    simp only [h1]
    rfl
  · rw [Cert.FfnNormBwdIdeal.Product.final_11 m c]
    funext y
    obtain ⟨i, j, rfl⟩ : ∃ (i : Fin 1) (j : Fin 2048), y = ix2 i j := ⟨y 0, y 1, eq_ix2 y⟩
    refine (Cert.FfnNormBwdRefIdeal.Product.value_11 m' c i j).trans ?_
    simp only [h1, h2, h4]
    rfl
  · rw [Cert.FfnNormBwdIdeal.Product.final_12 m c]
    funext y
    obtain ⟨i, j, rfl⟩ : ∃ (i : Fin 1) (j : Fin 2048), y = ix2 i j := ⟨y 0, y 1, eq_ix2 y⟩
    refine (Cert.FfnNormBwdRefIdeal.Product.value_12 m' c i j).trans ?_
    simp only [h1, h2, h5]
    rfl
  · rw [Cert.FfnNormBwdIdeal.Product.final_13 m c]
    funext y
    obtain ⟨i, j, rfl⟩ : ∃ (i : Fin 1) (j : Fin 2048), y = ix2 i j := ⟨y 0, y 1, eq_ix2 y⟩
    refine (Cert.FfnNormBwdRefIdeal.Product.value_13 m' c i j).trans ?_
    simp only [h0, h1, h2, h3, h4, h5, h7]
    rfl
  · rw [Cert.FfnNormBwdIdeal.Product.final_14 m c]
    funext y
    obtain ⟨i, j, rfl⟩ : ∃ (i : Fin 1) (j : Fin 2048), y = ix2 i j := ⟨y 0, y 1, eq_ix2 y⟩
    refine (Cert.FfnNormBwdRefIdeal.Product.value_14 m' c i j).trans ?_
    simp only [h0, h1, h2, h3, h4, h5, h6]
    rfl

end Cert.Proof.FfnNormBwdClaims

end
-- ==== Proof.lean ====
module

public import proofs.«01_k».proof.Defs
public import proofs.«01_k».proof.Proof.SguClaims
public import proofs.«01_k».proof.Proof.Gen.Kernel
public import proofs.«01_k».proof.Proof.Gen.KernelIdeal
public import proofs.«01_k».proof.Proof.Gen.ReferenceIdeal
public import proofs.«01_k».proof.Proof.DwFf2Product
public import proofs.«01_k».proof.Proof.Ff1Product
public import proofs.«01_k».proof.Proof.Ff2BwdProduct
public import proofs.«01_k».proof.Proof.MergeProduct
public import proofs.«01_k».proof.Proof.OutProjProduct
public import proofs.«01_k».proof.Proof.OutProjBwdProduct
public import proofs.«01_k».proof.Proof.DSguProduct
public import proofs.«01_k».proof.Proof.DwBProduct
public import proofs.«01_k».proof.Proof.DyaPreProduct
public import proofs.«01_k».proof.Proof.DwAProduct
public import proofs.«01_k».proof.Proof.Ff2Product
public import proofs.«01_k».proof.Proof.DaFf1Product
public import proofs.«01_k».proof.Proof.DwFf1Product
public import proofs.«01_k».proof.Proof.DwInProduct
public import proofs.«01_k».proof.Proof.DaInProduct
public import proofs.«01_k».proof.Proof.DwOProduct
public import proofs.«01_k».proof.Proof.PrenormProduct
public import proofs.«01_k».proof.Proof.ModMatmulProduct
public import proofs.«01_k».proof.Proof.WadaUpdateProduct
public import proofs.«01_k».proof.Proof.AdamSmallProduct
public import proofs.«01_k».proof.Proof.MixNormBwdProduct
public import proofs.«01_k».proof.Proof.LossBwdProduct
public import proofs.«01_k».proof.Proof.FfnNormBwdProduct
public import proofs.«01_k».proof.Proof.Gen.DwFf2
public import proofs.«01_k».proof.Proof.Gen.DwFf2Ideal
public import proofs.«01_k».proof.Proof.Gen.DwFf2RefIdeal
public import proofs.«01_k».proof.Proof.Gen.Ff1
public import proofs.«01_k».proof.Proof.Gen.Ff1Ideal
public import proofs.«01_k».proof.Proof.Gen.Ff1RefIdeal
public import proofs.«01_k».proof.Proof.Gen.Ff2Bwd
public import proofs.«01_k».proof.Proof.Gen.Ff2BwdIdeal
public import proofs.«01_k».proof.Proof.Gen.Ff2BwdRefIdeal
public import proofs.«01_k».proof.Proof.Gen.Merge
public import proofs.«01_k».proof.Proof.Gen.MergeIdeal
public import proofs.«01_k».proof.Proof.Gen.MergeRefIdeal
public import proofs.«01_k».proof.Proof.Gen.OutProj
public import proofs.«01_k».proof.Proof.Gen.OutProjIdeal
public import proofs.«01_k».proof.Proof.Gen.OutProjRefIdeal
public import proofs.«01_k».proof.Proof.Gen.OutProjBwd
public import proofs.«01_k».proof.Proof.Gen.OutProjBwdIdeal
public import proofs.«01_k».proof.Proof.Gen.OutProjBwdRefIdeal
public import proofs.«01_k».proof.Proof.Gen.DSgu
public import proofs.«01_k».proof.Proof.Gen.DSguIdeal
public import proofs.«01_k».proof.Proof.Gen.DSguRefIdeal
public import proofs.«01_k».proof.Proof.Gen.DwB
public import proofs.«01_k».proof.Proof.Gen.DwBIdeal
public import proofs.«01_k».proof.Proof.Gen.DwBRefIdeal
public import proofs.«01_k».proof.Proof.Gen.DyaPre
public import proofs.«01_k».proof.Proof.Gen.DyaPreIdeal
public import proofs.«01_k».proof.Proof.Gen.DyaPreRefIdeal
public import proofs.«01_k».proof.Proof.Gen.DwA
public import proofs.«01_k».proof.Proof.Gen.DwAIdeal
public import proofs.«01_k».proof.Proof.Gen.DwARefIdeal
public import proofs.«01_k».proof.Proof.Gen.Ff2
public import proofs.«01_k».proof.Proof.Gen.Ff2Ideal
public import proofs.«01_k».proof.Proof.Gen.Ff2RefIdeal
public import proofs.«01_k».proof.Proof.Gen.DaFf1
public import proofs.«01_k».proof.Proof.Gen.DaFf1Ideal
public import proofs.«01_k».proof.Proof.Gen.DaFf1RefIdeal
public import proofs.«01_k».proof.Proof.Gen.DwFf1
public import proofs.«01_k».proof.Proof.Gen.DwFf1Ideal
public import proofs.«01_k».proof.Proof.Gen.DwFf1RefIdeal
public import proofs.«01_k».proof.Proof.Gen.DwIn
public import proofs.«01_k».proof.Proof.Gen.DwInIdeal
public import proofs.«01_k».proof.Proof.Gen.DwInRefIdeal
public import proofs.«01_k».proof.Proof.Gen.DaIn
public import proofs.«01_k».proof.Proof.Gen.DaInIdeal
public import proofs.«01_k».proof.Proof.Gen.DaInRefIdeal
public import proofs.«01_k».proof.Proof.Gen.DwO
public import proofs.«01_k».proof.Proof.Gen.DwOIdeal
public import proofs.«01_k».proof.Proof.Gen.DwORefIdeal
public import proofs.«01_k».proof.Proof.Gen.Prenorm
public import proofs.«01_k».proof.Proof.Gen.PrenormIdeal
public import proofs.«01_k».proof.Proof.Gen.PrenormRefIdeal
public import proofs.«01_k».proof.Proof.Gen.ModMatmul
public import proofs.«01_k».proof.Proof.Gen.ModMatmulIdeal
public import proofs.«01_k».proof.Proof.Gen.ModMatmulRefIdeal
public import proofs.«01_k».proof.Proof.Gen.WadaUpdate
public import proofs.«01_k».proof.Proof.Gen.WadaUpdateIdeal
public import proofs.«01_k».proof.Proof.Gen.WadaUpdateRefIdeal
public import proofs.«01_k».proof.Proof.Gen.AdamSmall
public import proofs.«01_k».proof.Proof.Gen.AdamSmallIdeal
public import proofs.«01_k».proof.Proof.Gen.AdamSmallRefIdeal
public import proofs.«01_k».proof.Proof.Gen.MixNormBwd
public import proofs.«01_k».proof.Proof.Gen.MixNormBwdIdeal
public import proofs.«01_k».proof.Proof.Gen.MixNormBwdRefIdeal
public import proofs.«01_k».proof.Proof.Gen.LossBwd
public import proofs.«01_k».proof.Proof.Gen.LossBwdIdeal
public import proofs.«01_k».proof.Proof.Gen.LossBwdRefIdeal
public import proofs.«01_k».proof.Proof.Gen.FfnNormBwd
public import proofs.«01_k».proof.Proof.Gen.FfnNormBwdIdeal
public import proofs.«01_k».proof.Proof.Gen.FfnNormBwdRefIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.DwFf2.Gen.facts, Cert.DwFf2Ideal.Gen.facts, Cert.DwFf2RefIdeal.Gen.facts,
    Cert.Ff1.Gen.facts, Cert.Ff1Ideal.Gen.facts, Cert.Ff1RefIdeal.Gen.facts,
    Cert.Ff2Bwd.Gen.facts, Cert.Ff2BwdIdeal.Gen.facts, Cert.Ff2BwdRefIdeal.Gen.facts,
    Cert.Merge.Gen.facts, Cert.MergeIdeal.Gen.facts, Cert.MergeRefIdeal.Gen.facts,
    Cert.OutProj.Gen.facts, Cert.OutProjIdeal.Gen.facts, Cert.OutProjRefIdeal.Gen.facts,
    Cert.OutProjBwd.Gen.facts, Cert.OutProjBwdIdeal.Gen.facts, Cert.OutProjBwdRefIdeal.Gen.facts,
    Cert.DSgu.Gen.facts, Cert.DSguIdeal.Gen.facts, Cert.DSguRefIdeal.Gen.facts,
    Cert.DwB.Gen.facts, Cert.DwBIdeal.Gen.facts, Cert.DwBRefIdeal.Gen.facts,
    Cert.DyaPre.Gen.facts, Cert.DyaPreIdeal.Gen.facts, Cert.DyaPreRefIdeal.Gen.facts,
    Cert.DwA.Gen.facts, Cert.DwAIdeal.Gen.facts, Cert.DwARefIdeal.Gen.facts,
    Cert.Ff2.Gen.facts, Cert.Ff2Ideal.Gen.facts, Cert.Ff2RefIdeal.Gen.facts,
    Cert.DaFf1.Gen.facts, Cert.DaFf1Ideal.Gen.facts, Cert.DaFf1RefIdeal.Gen.facts,
    Cert.DwFf1.Gen.facts, Cert.DwFf1Ideal.Gen.facts, Cert.DwFf1RefIdeal.Gen.facts,
    Cert.DwIn.Gen.facts, Cert.DwInIdeal.Gen.facts, Cert.DwInRefIdeal.Gen.facts,
    Cert.DaIn.Gen.facts, Cert.DaInIdeal.Gen.facts, Cert.DaInRefIdeal.Gen.facts,
    Cert.DwO.Gen.facts, Cert.DwOIdeal.Gen.facts, Cert.DwORefIdeal.Gen.facts,
    Cert.Prenorm.Gen.facts, Cert.PrenormIdeal.Gen.facts, Cert.PrenormRefIdeal.Gen.facts,
    Cert.ModMatmul.Gen.facts, Cert.ModMatmulIdeal.Gen.facts, Cert.ModMatmulRefIdeal.Gen.facts,
    Cert.WadaUpdate.Gen.facts, Cert.WadaUpdateIdeal.Gen.facts, Cert.WadaUpdateRefIdeal.Gen.facts,
    Cert.AdamSmall.Gen.facts, Cert.AdamSmallIdeal.Gen.facts, Cert.AdamSmallRefIdeal.Gen.facts,
    Cert.MixNormBwd.Gen.facts, Cert.MixNormBwdIdeal.Gen.facts, Cert.MixNormBwdRefIdeal.Gen.facts,
    Cert.LossBwd.Gen.facts, Cert.LossBwdIdeal.Gen.facts, Cert.LossBwdRefIdeal.Gen.facts,
    Cert.FfnNormBwd.Gen.facts, Cert.FfnNormBwdIdeal.Gen.facts, Cert.FfnNormBwdRefIdeal.Gen.facts,
    SguClaims.preFacts,
    SguClaims.frame_p, SguClaims.frame_pi, SguClaims.frame_pi_finite, SguClaims.frame_ri, SguClaims.frame_ri_finite,
    DwFf2Claims.frame_p, DwFf2Claims.frame_pi, DwFf2Claims.frame_ri,
    Ff1Claims.frame_p, Ff1Claims.frame_pi, Ff1Claims.frame_ri,
    Ff2BwdClaims.frame_p, Ff2BwdClaims.frame_pi, Ff2BwdClaims.frame_ri,
    MergeClaims.frame_p, MergeClaims.frame_pi, MergeClaims.frame_ri,
    OutProjClaims.frame_p, OutProjClaims.frame_pi, OutProjClaims.frame_ri,
    OutProjBwdClaims.frame_p, OutProjBwdClaims.frame_pi, OutProjBwdClaims.frame_ri,
    DSguClaims.frame_p, DSguClaims.frame_pi, DSguClaims.frame_ri,
    DwBClaims.frame_p, DwBClaims.frame_pi, DwBClaims.frame_ri,
    DyaPreClaims.frame_p, DyaPreClaims.frame_pi, DyaPreClaims.frame_ri,
    DwAClaims.frame_p, DwAClaims.frame_pi, DwAClaims.frame_ri,
    Ff2Claims.frame_p, Ff2Claims.frame_pi, Ff2Claims.frame_ri,
    DaFf1Claims.frame_p, DaFf1Claims.frame_pi, DaFf1Claims.frame_ri,
    DwFf1Claims.frame_p, DwFf1Claims.frame_pi, DwFf1Claims.frame_ri,
    DwInClaims.frame_p, DwInClaims.frame_pi, DwInClaims.frame_ri,
    DaInClaims.frame_p, DaInClaims.frame_pi, DaInClaims.frame_ri,
    DwOClaims.frame_p, DwOClaims.frame_pi, DwOClaims.frame_ri,
    PrenormClaims.frame_p, PrenormClaims.frame_pi, PrenormClaims.frame_ri,
    ModMatmulClaims.frame_p, ModMatmulClaims.frame_pi, ModMatmulClaims.frame_ri,
    WadaUpdateClaims.frame_p, WadaUpdateClaims.frame_pi, WadaUpdateClaims.frame_ri,
    AdamSmallClaims.frame_p, AdamSmallClaims.frame_pi, AdamSmallClaims.frame_ri,
    MixNormBwdClaims.frame_p, MixNormBwdClaims.frame_pi, MixNormBwdClaims.frame_ri,
    LossBwdClaims.frame_p, LossBwdClaims.frame_pi, LossBwdClaims.frame_ri,
    FfnNormBwdClaims.frame_p, FfnNormBwdClaims.frame_pi, FfnNormBwdClaims.frame_ri,
    SguClaims.preserves, SguClaims.algebraic,
    DwFf2Claims.preserves, DwFf2Claims.algebraic,
    Ff1Claims.preserves, Ff1Claims.algebraic,
    Ff2BwdClaims.preserves, Ff2BwdClaims.algebraic,
    MergeClaims.preserves, MergeClaims.algebraic,
    OutProjClaims.preserves, OutProjClaims.algebraic,
    OutProjBwdClaims.preserves, OutProjBwdClaims.algebraic,
    DSguClaims.preserves, DSguClaims.algebraic,
    DwBClaims.preserves, DwBClaims.algebraic,
    DyaPreClaims.preserves, DyaPreClaims.algebraic,
    DwAClaims.preserves, DwAClaims.algebraic,
    Ff2Claims.preserves, Ff2Claims.algebraic,
    DaFf1Claims.preserves, DaFf1Claims.algebraic,
    DwFf1Claims.preserves, DwFf1Claims.algebraic,
    DwInClaims.preserves, DwInClaims.algebraic,
    DaInClaims.preserves, DaInClaims.algebraic,
    DwOClaims.preserves, DwOClaims.algebraic,
    PrenormClaims.preserves, PrenormClaims.algebraic,
    ModMatmulClaims.preserves, ModMatmulClaims.algebraic,
    WadaUpdateClaims.preserves, WadaUpdateClaims.algebraic,
    AdamSmallClaims.preserves, AdamSmallClaims.algebraic,
    MixNormBwdClaims.preserves, MixNormBwdClaims.algebraic,
    LossBwdClaims.preserves, LossBwdClaims.algebraic,
    FfnNormBwdClaims.preserves, FfnNormBwdClaims.algebraic⟩

end Cert.Proof

end
